-- ==== Defs.lean ====
def Pre_Kernel [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_range [hPre_idx_in_range : Cert.Pre_idx_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_range [hReferenceIdeal : Cert.ReferenceIdeal.Facts] [hPre_idx_in_range : Cert.Pre_idx_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_idx_in_range : Cert.Pre_idx_in_range.Facts),
    quiescent_Kernel (hKernel := hKernel) (hPre_idx_in_range := hPre_idx_in_range)
    ∧ quiescent_KernelIdeal (hKernelIdeal := hKernelIdeal) (hPre_idx_in_range := hPre_idx_in_range)
    ∧ quiescent_ReferenceIdeal (hReferenceIdeal := hReferenceIdeal)
    ∧ quiescent_ReferenceIdeal_pre_idx_in_range (hReferenceIdeal := hReferenceIdeal) (hPre_idx_in_range := hPre_idx_in_range)
    ∧ preserves_Kernel_KernelIdeal
    ∧ algebraic_KernelIdeal_ReferenceIdeal (hKernelIdeal := hKernelIdeal) (hReferenceIdeal := hReferenceIdeal) (hPre_idx_in_range := hPre_idx_in_range)
-- ==== Pre_idx_in_range.lean ====
abbrev S32x256x300x25 : Shape := ⟨4, ![32, 256, 300, 25]⟩
abbrev S256x25 : Shape := ⟨2, ![256, 25]⟩
abbrev S_ : Shape := ⟨0, ![]⟩

class Facts : Prop where
  bcast_S_S256x25 : S_.BroadcastsInDim S256x25 (![] : Fin 0 → Fin S256x25.rank)
  reducesTo_S256x25_S_d0_1 : S256x25.ReducesTo [0, 1] S_
  h_S_ : 0 < S_.numel

variable [Facts]

def fn {F : FTy → Type} [FloatOps F] (main_arg0 : FVec F S32x256x300x25 .f32) (main_arg1 : IVec S256x25 32) : IVec S_ 1 :=
  let main_c : IVec S_ 32 := constantI S_ 32 0#32
  let main_v0 : IVec S256x25 32 := broadcastInDim S256x25 ![] bcast_S_S256x25 main_c
  let main_v1 : IVec S256x25 1 := cmpi .sge main_arg1 main_v0
  let main_c_0 : IVec S_ 32 := constantI S_ 32 25#32
  let main_v2 : IVec S256x25 32 := broadcastInDim S256x25 ![] bcast_S_S256x25 main_c_0
  let main_v3 : IVec S256x25 1 := cmpi .slt main_arg1 main_v2
  let main_v4 : IVec S256x25 1 := andi main_v1 main_v3
  let main_c_1 : IVec S_ 1 := constantI S_ 1 1#1
  let main_v5 : IVec S_ 1 := (fun x v => Host.reduce IntOp.andi x v reducesTo_S256x25_S_d0_1 h_S_) main_v4 main_c_1
  main_v5
-- ==== Kernel.lean ====
abbrev S32x256x300x25 : Shape := ⟨4, ![32, 256, 300, 25]⟩
abbrev S256x25 : Shape := ⟨2, ![256, 25]⟩
abbrev S300x25x32x256 : Shape := ⟨4, ![300, 25, 32, 256]⟩
abbrev S7500x32x256 : Shape := ⟨3, ![7500, 32, 256]⟩
abbrev S6400 : Shape := ⟨1, ![6400]⟩
abbrev S3200 : Shape := ⟨1, ![3200]⟩
abbrev S2x25x8x128 : Shape := ⟨4, ![2, 25, 8, 128]⟩
abbrev S_ : Shape := ⟨0, ![]⟩
abbrev S16 : Shape := ⟨1, ![16]⟩
abbrev S1x25x8x128 : Shape := ⟨4, ![1, 25, 8, 128]⟩
abbrev S25x8x128 : Shape := ⟨3, ![25, 8, 128]⟩
abbrev S12x8x128 : Shape := ⟨3, ![12, 8, 128]⟩
abbrev S13x8x128 : Shape := ⟨3, ![13, 8, 128]⟩
abbrev S1x1x16 : Shape := ⟨3, ![1, 1, 16]⟩

abbrev nBuf : Table → Nat
  | .hbm => 8
  | .local .scVector .vmem => 4
  | _ => 0

abbrev bufTy : (tb : Table) → Fin (nBuf tb) → BufTy
  | .hbm, ⟨0, _⟩ => ⟨S32x256x300x25, .f32⟩
  | .hbm, ⟨1, _⟩ => ⟨S256x25, .i32⟩
  | .hbm, ⟨2, _⟩ => ⟨S300x25x32x256, .f32⟩
  | .hbm, ⟨3, _⟩ => ⟨S7500x32x256, .f32⟩
  | .hbm, ⟨4, _⟩ => ⟨S6400, .i32⟩
  | .hbm, ⟨5, _⟩ => ⟨S7500x32x256, .f32⟩
  | .hbm, ⟨6, _⟩ => ⟨S300x25x32x256, .f32⟩
  | .hbm, ⟨7, _⟩ => ⟨S32x256x300x25, .f32⟩
  | .local .scVector .vmem, ⟨0, _⟩ => ⟨S3200, .i32⟩
  | .local .scVector .vmem, ⟨1, _⟩ => ⟨S3200, .i32⟩
  | .local .scVector .vmem, ⟨2, _⟩ => ⟨S2x25x8x128, .f32⟩
  | .local .scVector .vmem, ⟨3, _⟩ => ⟨S2x25x8x128, .f32⟩
  | _, _ => ⟨S32x256x300x25, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v1_scv : Ref sig .scVector := ⟨.hbm, 3, rfl⟩
abbrev main_v2_scv : Ref sig .scVector := ⟨.hbm, 4, rfl⟩
abbrev main_v3_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 32 := Scalar.andi v1 c1_i32
  let c128_i32 : BitVec 32 := 128#32
  let v9 : BitVec 32 := Scalar.muli v2 c128_i32
  let c25_i32_2 : BitVec 32 := 25#32
  let v10 : BitVec 32 := Scalar.muli v9 c25_i32_2
  ![v10.toNat]
@[reducible] def k0_t1_loop : Scf.Loop 32 :=
  let c0_i32 : BitVec 32 := 0#32
  let c8_i32 : BitVec 32 := 8#32
  let v11 : BitVec 32 := Scalar.addi c0_i32 c8_i32
  let c1_i32_3 : BitVec 32 := 1#32
  ⟨c0_i32, v11, c1_i32_3⟩

def k0_chk1 (v94 : IVec S16 32) : Prop :=
  (∀ a x, ((![v94] : Fin 1 → IVec S16 32) a x).toNat < S3200.size a)
theorem k0_idx1_inb : ∀ (v94 : IVec S16 32) (k0_hw1 : k0_chk1 v94), ∀ a x, ((![v94] : Fin 1 → IVec S16 32) a x).toNat < S3200.size a := fun v94 k0_hw1 => k0_hw1
def k0_off2 (k0_t1 : Fin k0_t1_loop.trips) : Fin 1 → Nat :=
  let c0_i32_160 : BitVec 32 := 0#32
  let c0_i32_158 : BitVec 32 := 0#32
  let c0_i32 : BitVec 32 := 0#32
  let c1_i32_3 : BitVec 32 := 1#32
  let arg13 : BitVec 32 := Scf.iv c0_i32 c1_i32_3 k0_t1
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c0_i32_160 v89
  let v97 : Index := Scalar.indexCast v96
  ![v97.toNat]
@[reducible] def k0_t2_loop : Scf.Loop 32 :=
  let c0_i32_5 : BitVec 32 := 0#32
  let c8_i32_6 : BitVec 32 := 8#32
  let v12 : BitVec 32 := Scalar.addi c0_i32_5 c8_i32_6
  let c1_i32_7 : BitVec 32 := 1#32
  ⟨c0_i32_5, v12, c1_i32_7⟩

def k0_chk2 (v94 : IVec S16 32) : Prop :=
  (∀ a x, ((![v94] : Fin 1 → IVec S16 32) a x).toNat < S3200.size a)
theorem k0_idx2_inb : ∀ (v94 : IVec S16 32) (k0_hw2 : k0_chk2 v94), ∀ a x, ((![v94] : Fin 1 → IVec S16 32) a x).toNat < S3200.size a := fun v94 k0_hw2 => k0_hw2
def k0_off3 (k0_t2 : Fin k0_t2_loop.trips) : Fin 1 → Nat :=
  let c128_i32_160 : BitVec 32 := 128#32
  let c0_i32_158 : BitVec 32 := 0#32
  let c0_i32_5 : BitVec 32 := 0#32
  let c1_i32_7 : BitVec 32 := 1#32
  let arg13 : BitVec 32 := Scf.iv c0_i32_5 c1_i32_7 k0_t2
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c128_i32_160 v89
  let v97 : Index := Scalar.indexCast v96
  ![v97.toNat]
@[reducible] def k0_t3_loop : Scf.Loop 32 :=
  let c0_i32_9 : BitVec 32 := 0#32
  let c8_i32_10 : BitVec 32 := 8#32
  let v13 : BitVec 32 := Scalar.addi c0_i32_9 c8_i32_10
  let c1_i32_11 : BitVec 32 := 1#32
  ⟨c0_i32_9, v13, c1_i32_11⟩

def k0_chk3 (v94 : IVec S16 32) : Prop :=
  (∀ a x, ((![v94] : Fin 1 → IVec S16 32) a x).toNat < S3200.size a)
theorem k0_idx3_inb : ∀ (v94 : IVec S16 32) (k0_hw3 : k0_chk3 v94), ∀ a x, ((![v94] : Fin 1 → IVec S16 32) a x).toNat < S3200.size a := fun v94 k0_hw3 => k0_hw3
def k0_off4 (k0_t3 : Fin k0_t3_loop.trips) : Fin 1 → Nat :=
  let c256_i32_160 : BitVec 32 := 256#32
  let c0_i32_158 : BitVec 32 := 0#32
  let c0_i32_9 : BitVec 32 := 0#32
  let c1_i32_11 : BitVec 32 := 1#32
  let arg13 : BitVec 32 := Scf.iv c0_i32_9 c1_i32_11 k0_t3
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c256_i32_160 v89
  let v97 : Index := Scalar.indexCast v96
  ![v97.toNat]
@[reducible] def k0_t4_loop : Scf.Loop 32 :=
  let c0_i32_13 : BitVec 32 := 0#32
  let c8_i32_14 : BitVec 32 := 8#32
  let v14 : BitVec 32 := Scalar.addi c0_i32_13 c8_i32_14
  let c1_i32_15 : BitVec 32 := 1#32
  ⟨c0_i32_13, v14, c1_i32_15⟩

def k0_chk4 (v94 : IVec S16 32) : Prop :=
  (∀ a x, ((![v94] : Fin 1 → IVec S16 32) a x).toNat < S3200.size a)
theorem k0_idx4_inb : ∀ (v94 : IVec S16 32) (k0_hw4 : k0_chk4 v94), ∀ a x, ((![v94] : Fin 1 → IVec S16 32) a x).toNat < S3200.size a := fun v94 k0_hw4 => k0_hw4
def k0_off5 (k0_t4 : Fin k0_t4_loop.trips) : Fin 1 → Nat :=
  let c384_i32_160 : BitVec 32 := 384#32
  let c0_i32_158 : BitVec 32 := 0#32
  let c0_i32_13 : BitVec 32 := 0#32
  let c1_i32_15 : BitVec 32 := 1#32
  let arg13 : BitVec 32 := Scf.iv c0_i32_13 c1_i32_15 k0_t4
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c384_i32_160 v89
  let v97 : Index := Scalar.indexCast v96
  ![v97.toNat]
@[reducible] def k0_t5_loop : Scf.Loop 32 :=
  let c0_i32_17 : BitVec 32 := 0#32
  let c8_i32_18 : BitVec 32 := 8#32
  let v15 : BitVec 32 := Scalar.addi c0_i32_17 c8_i32_18
  let c1_i32_19 : BitVec 32 := 1#32
  ⟨c0_i32_17, v15, c1_i32_19⟩

def k0_chk5 (v94 : IVec S16 32) : Prop :=
  (∀ a x, ((![v94] : Fin 1 → IVec S16 32) a x).toNat < S3200.size a)
theorem k0_idx5_inb : ∀ (v94 : IVec S16 32) (k0_hw5 : k0_chk5 v94), ∀ a x, ((![v94] : Fin 1 → IVec S16 32) a x).toNat < S3200.size a := fun v94 k0_hw5 => k0_hw5
def k0_off6 (k0_t5 : Fin k0_t5_loop.trips) : Fin 1 → Nat :=
  let c512_i32_159 : BitVec 32 := 512#32
  let c0_i32_158 : BitVec 32 := 0#32
  let c0_i32_17 : BitVec 32 := 0#32
  let c1_i32_19 : BitVec 32 := 1#32
  let arg13 : BitVec 32 := Scf.iv c0_i32_17 c1_i32_19 k0_t5
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c512_i32_159 v89
  let v97 : Index := Scalar.indexCast v96
  ![v97.toNat]
@[reducible] def k0_t6_loop : Scf.Loop 32 :=
  let c0_i32_21 : BitVec 32 := 0#32
  let c8_i32_22 : BitVec 32 := 8#32
  let v16 : BitVec 32 := Scalar.addi c0_i32_21 c8_i32_22
  let c1_i32_23 : BitVec 32 := 1#32
  ⟨c0_i32_21, v16, c1_i32_23⟩

def k0_chk6 (v94 : IVec S16 32) : Prop :=
  (∀ a x, ((![v94] : Fin 1 → IVec S16 32) a x).toNat < S3200.size a)
theorem k0_idx6_inb : ∀ (v94 : IVec S16 32) (k0_hw6 : k0_chk6 v94), ∀ a x, ((![v94] : Fin 1 → IVec S16 32) a x).toNat < S3200.size a := fun v94 k0_hw6 => k0_hw6
def k0_off7 (k0_t6 : Fin k0_t6_loop.trips) : Fin 1 → Nat :=
  let c640_i32_159 : BitVec 32 := 640#32
  let c0_i32_158 : BitVec 32 := 0#32
  let c0_i32_21 : BitVec 32 := 0#32
  let c1_i32_23 : BitVec 32 := 1#32
  let arg13 : BitVec 32 := Scf.iv c0_i32_21 c1_i32_23 k0_t6
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c640_i32_159 v89
  let v97 : Index := Scalar.indexCast v96
  ![v97.toNat]
@[reducible] def k0_t7_loop : Scf.Loop 32 :=
  let c0_i32_25 : BitVec 32 := 0#32
  let c8_i32_26 : BitVec 32 := 8#32
  let v17 : BitVec 32 := Scalar.addi c0_i32_25 c8_i32_26
  let c1_i32_27 : BitVec 32 := 1#32
  ⟨c0_i32_25, v17, c1_i32_27⟩

def k0_chk7 (v94 : IVec S16 32) : Prop :=
  (∀ a x, ((![v94] : Fin 1 → IVec S16 32) a x).toNat < S3200.size a)
theorem k0_idx7_inb : ∀ (v94 : IVec S16 32) (k0_hw7 : k0_chk7 v94), ∀ a x, ((![v94] : Fin 1 → IVec S16 32) a x).toNat < S3200.size a := fun v94 k0_hw7 => k0_hw7
def k0_off8 (k0_t7 : Fin k0_t7_loop.trips) : Fin 1 → Nat :=
  let c768_i32_159 : BitVec 32 := 768#32
  let c0_i32_158 : BitVec 32 := 0#32
  let c0_i32_25 : BitVec 32 := 0#32
  let c1_i32_27 : BitVec 32 := 1#32
  let arg13 : BitVec 32 := Scf.iv c0_i32_25 c1_i32_27 k0_t7
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c768_i32_159 v89
  let v97 : Index := Scalar.indexCast v96
  ![v97.toNat]
@[reducible] def k0_t8_loop : Scf.Loop 32 :=
  let c0_i32_29 : BitVec 32 := 0#32
  let c8_i32_30 : BitVec 32 := 8#32
  let v18 : BitVec 32 := Scalar.addi c0_i32_29 c8_i32_30
  let c1_i32_31 : BitVec 32 := 1#32
  ⟨c0_i32_29, v18, c1_i32_31⟩

def k0_chk8 (v94 : IVec S16 32) : Prop :=
  (∀ a x, ((![v94] : Fin 1 → IVec S16 32) a x).toNat < S3200.size a)
theorem k0_idx8_inb : ∀ (v94 : IVec S16 32) (k0_hw8 : k0_chk8 v94), ∀ a x, ((![v94] : Fin 1 → IVec S16 32) a x).toNat < S3200.size a := fun v94 k0_hw8 => k0_hw8
def k0_off9 (k0_t8 : Fin k0_t8_loop.trips) : Fin 1 → Nat :=
  let c896_i32_159 : BitVec 32 := 896#32
  let c0_i32_158 : BitVec 32 := 0#32
  let c0_i32_29 : BitVec 32 := 0#32
  let c1_i32_31 : BitVec 32 := 1#32
  let arg13 : BitVec 32 := Scf.iv c0_i32_29 c1_i32_31 k0_t8
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c896_i32_159 v89
  let v97 : Index := Scalar.indexCast v96
  ![v97.toNat]
@[reducible] def k0_t9_loop : Scf.Loop 32 :=
  let c0_i32_33 : BitVec 32 := 0#32
  let c8_i32_34 : BitVec 32 := 8#32
  let v19 : BitVec 32 := Scalar.addi c0_i32_33 c8_i32_34
  let c1_i32_35 : BitVec 32 := 1#32
  ⟨c0_i32_33, v19, c1_i32_35⟩

def k0_chk9 (v94 : IVec S16 32) : Prop :=
  (∀ a x, ((![v94] : Fin 1 → IVec S16 32) a x).toNat < S3200.size a)
theorem k0_idx9_inb : ∀ (v94 : IVec S16 32) (k0_hw9 : k0_chk9 v94), ∀ a x, ((![v94] : Fin 1 → IVec S16 32) a x).toNat < S3200.size a := fun v94 k0_hw9 => k0_hw9
def k0_off10 (k0_t9 : Fin k0_t9_loop.trips) : Fin 1 → Nat :=
  let c1024_i32_160 : BitVec 32 := 1024#32
  let c0_i32_158 : BitVec 32 := 0#32
  let c0_i32_33 : BitVec 32 := 0#32
  let c1_i32_35 : BitVec 32 := 1#32
  let arg13 : BitVec 32 := Scf.iv c0_i32_33 c1_i32_35 k0_t9
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c1024_i32_160 v89
  let v97 : Index := Scalar.indexCast v96
  ![v97.toNat]
@[reducible] def k0_t10_loop : Scf.Loop 32 :=
  let c0_i32_37 : BitVec 32 := 0#32
  let c8_i32_38 : BitVec 32 := 8#32
  let v20 : BitVec 32 := Scalar.addi c0_i32_37 c8_i32_38
  let c1_i32_39 : BitVec 32 := 1#32
  ⟨c0_i32_37, v20, c1_i32_39⟩

def k0_chk10 (v94 : IVec S16 32) : Prop :=
  (∀ a x, ((![v94] : Fin 1 → IVec S16 32) a x).toNat < S3200.size a)
theorem k0_idx10_inb : ∀ (v94 : IVec S16 32) (k0_hw10 : k0_chk10 v94), ∀ a x, ((![v94] : Fin 1 → IVec S16 32) a x).toNat < S3200.size a := fun v94 k0_hw10 => k0_hw10
def k0_off11 (k0_t10 : Fin k0_t10_loop.trips) : Fin 1 → Nat :=
  let c1152_i32 : BitVec 32 := 1152#32
  let c0_i32_158 : BitVec 32 := 0#32
  let c0_i32_37 : BitVec 32 := 0#32
  let c1_i32_39 : BitVec 32 := 1#32
  let arg13 : BitVec 32 := Scf.iv c0_i32_37 c1_i32_39 k0_t10
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c1152_i32 v89
  let v97 : Index := Scalar.indexCast v96
  ![v97.toNat]
@[reducible] def k0_t11_loop : Scf.Loop 32 :=
  let c0_i32_41 : BitVec 32 := 0#32
  let c8_i32_42 : BitVec 32 := 8#32
  let v21 : BitVec 32 := Scalar.addi c0_i32_41 c8_i32_42
  let c1_i32_43 : BitVec 32 := 1#32
  ⟨c0_i32_41, v21, c1_i32_43⟩

def k0_chk11 (v94 : IVec S16 32) : Prop :=
  (∀ a x, ((![v94] : Fin 1 → IVec S16 32) a x).toNat < S3200.size a)
theorem k0_idx11_inb : ∀ (v94 : IVec S16 32) (k0_hw11 : k0_chk11 v94), ∀ a x, ((![v94] : Fin 1 → IVec S16 32) a x).toNat < S3200.size a := fun v94 k0_hw11 => k0_hw11
def k0_off12 (k0_t11 : Fin k0_t11_loop.trips) : Fin 1 → Nat :=
  let c1280_i32 : BitVec 32 := 1280#32
  let c0_i32_158 : BitVec 32 := 0#32
  let c0_i32_41 : BitVec 32 := 0#32
  let c1_i32_43 : BitVec 32 := 1#32
  let arg13 : BitVec 32 := Scf.iv c0_i32_41 c1_i32_43 k0_t11
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c1280_i32 v89
  let v97 : Index := Scalar.indexCast v96
  ![v97.toNat]
@[reducible] def k0_t12_loop : Scf.Loop 32 :=
  let c0_i32_45 : BitVec 32 := 0#32
  let c8_i32_46 : BitVec 32 := 8#32
  let v22 : BitVec 32 := Scalar.addi c0_i32_45 c8_i32_46
  let c1_i32_47 : BitVec 32 := 1#32
  ⟨c0_i32_45, v22, c1_i32_47⟩

def k0_chk12 (v94 : IVec S16 32) : Prop :=
  (∀ a x, ((![v94] : Fin 1 → IVec S16 32) a x).toNat < S3200.size a)
theorem k0_idx12_inb : ∀ (v94 : IVec S16 32) (k0_hw12 : k0_chk12 v94), ∀ a x, ((![v94] : Fin 1 → IVec S16 32) a x).toNat < S3200.size a := fun v94 k0_hw12 => k0_hw12
def k0_off13 (k0_t12 : Fin k0_t12_loop.trips) : Fin 1 → Nat :=
  let c1408_i32 : BitVec 32 := 1408#32
  let c0_i32_158 : BitVec 32 := 0#32
  let c0_i32_45 : BitVec 32 := 0#32
  let c1_i32_47 : BitVec 32 := 1#32
  let arg13 : BitVec 32 := Scf.iv c0_i32_45 c1_i32_47 k0_t12
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c1408_i32 v89
  let v97 : Index := Scalar.indexCast v96
  ![v97.toNat]
@[reducible] def k0_t13_loop : Scf.Loop 32 :=
  let c0_i32_49 : BitVec 32 := 0#32
  let c8_i32_50 : BitVec 32 := 8#32
  let v23 : BitVec 32 := Scalar.addi c0_i32_49 c8_i32_50
  let c1_i32_51 : BitVec 32 := 1#32
  ⟨c0_i32_49, v23, c1_i32_51⟩

def k0_chk13 (v94 : IVec S16 32) : Prop :=
  (∀ a x, ((![v94] : Fin 1 → IVec S16 32) a x).toNat < S3200.size a)
theorem k0_idx13_inb : ∀ (v94 : IVec S16 32) (k0_hw13 : k0_chk13 v94), ∀ a x, ((![v94] : Fin 1 → IVec S16 32) a x).toNat < S3200.size a := fun v94 k0_hw13 => k0_hw13
def k0_off14 (k0_t13 : Fin k0_t13_loop.trips) : Fin 1 → Nat :=
  let c1536_i32 : BitVec 32 := 1536#32
  let c0_i32_158 : BitVec 32 := 0#32
  let c0_i32_49 : BitVec 32 := 0#32
  let c1_i32_51 : BitVec 32 := 1#32
  let arg13 : BitVec 32 := Scf.iv c0_i32_49 c1_i32_51 k0_t13
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c1536_i32 v89
  let v97 : Index := Scalar.indexCast v96
  ![v97.toNat]
@[reducible] def k0_t14_loop : Scf.Loop 32 :=
  let c0_i32_53 : BitVec 32 := 0#32
  let c8_i32_54 : BitVec 32 := 8#32
  let v24 : BitVec 32 := Scalar.addi c0_i32_53 c8_i32_54
  let c1_i32_55 : BitVec 32 := 1#32
  ⟨c0_i32_53, v24, c1_i32_55⟩

def k0_chk14 (v94 : IVec S16 32) : Prop :=
  (∀ a x, ((![v94] : Fin 1 → IVec S16 32) a x).toNat < S3200.size a)
theorem k0_idx14_inb : ∀ (v94 : IVec S16 32) (k0_hw14 : k0_chk14 v94), ∀ a x, ((![v94] : Fin 1 → IVec S16 32) a x).toNat < S3200.size a := fun v94 k0_hw14 => k0_hw14
def k0_off15 (k0_t14 : Fin k0_t14_loop.trips) : Fin 1 → Nat :=
  let c1664_i32 : BitVec 32 := 1664#32
  let c0_i32_158 : BitVec 32 := 0#32
  let c0_i32_53 : BitVec 32 := 0#32
  let c1_i32_55 : BitVec 32 := 1#32
  let arg13 : BitVec 32 := Scf.iv c0_i32_53 c1_i32_55 k0_t14
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c1664_i32 v89
  let v97 : Index := Scalar.indexCast v96
  ![v97.toNat]
@[reducible] def k0_t15_loop : Scf.Loop 32 :=
  let c0_i32_57 : BitVec 32 := 0#32
  let c8_i32_58 : BitVec 32 := 8#32
  let v25 : BitVec 32 := Scalar.addi c0_i32_57 c8_i32_58
  let c1_i32_59 : BitVec 32 := 1#32
  ⟨c0_i32_57, v25, c1_i32_59⟩

def k0_chk15 (v94 : IVec S16 32) : Prop :=
  (∀ a x, ((![v94] : Fin 1 → IVec S16 32) a x).toNat < S3200.size a)
theorem k0_idx15_inb : ∀ (v94 : IVec S16 32) (k0_hw15 : k0_chk15 v94), ∀ a x, ((![v94] : Fin 1 → IVec S16 32) a x).toNat < S3200.size a := fun v94 k0_hw15 => k0_hw15
def k0_off16 (k0_t15 : Fin k0_t15_loop.trips) : Fin 1 → Nat :=
  let c1792_i32 : BitVec 32 := 1792#32
  let c0_i32_158 : BitVec 32 := 0#32
  let c0_i32_57 : BitVec 32 := 0#32
  let c1_i32_59 : BitVec 32 := 1#32
  let arg13 : BitVec 32 := Scf.iv c0_i32_57 c1_i32_59 k0_t15
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c1792_i32 v89
  let v97 : Index := Scalar.indexCast v96
  ![v97.toNat]
@[reducible] def k0_t16_loop : Scf.Loop 32 :=
  let c0_i32_61 : BitVec 32 := 0#32
  let c8_i32_62 : BitVec 32 := 8#32
  let v26 : BitVec 32 := Scalar.addi c0_i32_61 c8_i32_62
  let c1_i32_63 : BitVec 32 := 1#32
  ⟨c0_i32_61, v26, c1_i32_63⟩

def k0_chk16 (v94 : IVec S16 32) : Prop :=
  (∀ a x, ((![v94] : Fin 1 → IVec S16 32) a x).toNat < S3200.size a)
theorem k0_idx16_inb : ∀ (v94 : IVec S16 32) (k0_hw16 : k0_chk16 v94), ∀ a x, ((![v94] : Fin 1 → IVec S16 32) a x).toNat < S3200.size a := fun v94 k0_hw16 => k0_hw16
def k0_off17 (k0_t16 : Fin k0_t16_loop.trips) : Fin 1 → Nat :=
  let c1920_i32 : BitVec 32 := 1920#32
  let c0_i32_158 : BitVec 32 := 0#32
  let c0_i32_61 : BitVec 32 := 0#32
  let c1_i32_63 : BitVec 32 := 1#32
  let arg13 : BitVec 32 := Scf.iv c0_i32_61 c1_i32_63 k0_t16
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c1920_i32 v89
  let v97 : Index := Scalar.indexCast v96
  ![v97.toNat]
@[reducible] def k0_t17_loop : Scf.Loop 32 :=
  let c0_i32_65 : BitVec 32 := 0#32
  let c8_i32_66 : BitVec 32 := 8#32
  let v27 : BitVec 32 := Scalar.addi c0_i32_65 c8_i32_66
  let c1_i32_67 : BitVec 32 := 1#32
  ⟨c0_i32_65, v27, c1_i32_67⟩

def k0_chk17 (v94 : IVec S16 32) : Prop :=
  (∀ a x, ((![v94] : Fin 1 → IVec S16 32) a x).toNat < S3200.size a)
theorem k0_idx17_inb : ∀ (v94 : IVec S16 32) (k0_hw17 : k0_chk17 v94), ∀ a x, ((![v94] : Fin 1 → IVec S16 32) a x).toNat < S3200.size a := fun v94 k0_hw17 => k0_hw17
def k0_off18 (k0_t17 : Fin k0_t17_loop.trips) : Fin 1 → Nat :=
  let c2048_i32 : BitVec 32 := 2048#32
  let c0_i32_158 : BitVec 32 := 0#32
  let c0_i32_65 : BitVec 32 := 0#32
  let c1_i32_67 : BitVec 32 := 1#32
  let arg13 : BitVec 32 := Scf.iv c0_i32_65 c1_i32_67 k0_t17
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c2048_i32 v89
  let v97 : Index := Scalar.indexCast v96
  ![v97.toNat]
@[reducible] def k0_t18_loop : Scf.Loop 32 :=
  let c0_i32_69 : BitVec 32 := 0#32
  let c8_i32_70 : BitVec 32 := 8#32
  let v28 : BitVec 32 := Scalar.addi c0_i32_69 c8_i32_70
  let c1_i32_71 : BitVec 32 := 1#32
  ⟨c0_i32_69, v28, c1_i32_71⟩

def k0_chk18 (v94 : IVec S16 32) : Prop :=
  (∀ a x, ((![v94] : Fin 1 → IVec S16 32) a x).toNat < S3200.size a)
theorem k0_idx18_inb : ∀ (v94 : IVec S16 32) (k0_hw18 : k0_chk18 v94), ∀ a x, ((![v94] : Fin 1 → IVec S16 32) a x).toNat < S3200.size a := fun v94 k0_hw18 => k0_hw18
def k0_off19 (k0_t18 : Fin k0_t18_loop.trips) : Fin 1 → Nat :=
  let c2176_i32 : BitVec 32 := 2176#32
  let c0_i32_158 : BitVec 32 := 0#32
  let c0_i32_69 : BitVec 32 := 0#32
  let c1_i32_71 : BitVec 32 := 1#32
  let arg13 : BitVec 32 := Scf.iv c0_i32_69 c1_i32_71 k0_t18
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c2176_i32 v89
  let v97 : Index := Scalar.indexCast v96
  ![v97.toNat]
@[reducible] def k0_t19_loop : Scf.Loop 32 :=
  let c0_i32_73 : BitVec 32 := 0#32
  let c8_i32_74 : BitVec 32 := 8#32
  let v29 : BitVec 32 := Scalar.addi c0_i32_73 c8_i32_74
  let c1_i32_75 : BitVec 32 := 1#32
  ⟨c0_i32_73, v29, c1_i32_75⟩

def k0_chk19 (v94 : IVec S16 32) : Prop :=
  (∀ a x, ((![v94] : Fin 1 → IVec S16 32) a x).toNat < S3200.size a)
theorem k0_idx19_inb : ∀ (v94 : IVec S16 32) (k0_hw19 : k0_chk19 v94), ∀ a x, ((![v94] : Fin 1 → IVec S16 32) a x).toNat < S3200.size a := fun v94 k0_hw19 => k0_hw19
def k0_off20 (k0_t19 : Fin k0_t19_loop.trips) : Fin 1 → Nat :=
  let c2304_i32 : BitVec 32 := 2304#32
  let c0_i32_158 : BitVec 32 := 0#32
  let c0_i32_73 : BitVec 32 := 0#32
  let c1_i32_75 : BitVec 32 := 1#32
  let arg13 : BitVec 32 := Scf.iv c0_i32_73 c1_i32_75 k0_t19
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c2304_i32 v89
  let v97 : Index := Scalar.indexCast v96
  ![v97.toNat]
@[reducible] def k0_t20_loop : Scf.Loop 32 :=
  let c0_i32_77 : BitVec 32 := 0#32
  let c8_i32_78 : BitVec 32 := 8#32
  let v30 : BitVec 32 := Scalar.addi c0_i32_77 c8_i32_78
  let c1_i32_79 : BitVec 32 := 1#32
  ⟨c0_i32_77, v30, c1_i32_79⟩

def k0_chk20 (v94 : IVec S16 32) : Prop :=
  (∀ a x, ((![v94] : Fin 1 → IVec S16 32) a x).toNat < S3200.size a)
theorem k0_idx20_inb : ∀ (v94 : IVec S16 32) (k0_hw20 : k0_chk20 v94), ∀ a x, ((![v94] : Fin 1 → IVec S16 32) a x).toNat < S3200.size a := fun v94 k0_hw20 => k0_hw20
def k0_off21 (k0_t20 : Fin k0_t20_loop.trips) : Fin 1 → Nat :=
  let c2432_i32 : BitVec 32 := 2432#32
  let c0_i32_158 : BitVec 32 := 0#32
  let c0_i32_77 : BitVec 32 := 0#32
  let c1_i32_79 : BitVec 32 := 1#32
  let arg13 : BitVec 32 := Scf.iv c0_i32_77 c1_i32_79 k0_t20
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c2432_i32 v89
  let v97 : Index := Scalar.indexCast v96
  ![v97.toNat]
@[reducible] def k0_t21_loop : Scf.Loop 32 :=
  let c0_i32_81 : BitVec 32 := 0#32
  let c8_i32_82 : BitVec 32 := 8#32
  let v31 : BitVec 32 := Scalar.addi c0_i32_81 c8_i32_82
  let c1_i32_83 : BitVec 32 := 1#32
  ⟨c0_i32_81, v31, c1_i32_83⟩

def k0_chk21 (v94 : IVec S16 32) : Prop :=
  (∀ a x, ((![v94] : Fin 1 → IVec S16 32) a x).toNat < S3200.size a)
theorem k0_idx21_inb : ∀ (v94 : IVec S16 32) (k0_hw21 : k0_chk21 v94), ∀ a x, ((![v94] : Fin 1 → IVec S16 32) a x).toNat < S3200.size a := fun v94 k0_hw21 => k0_hw21
def k0_off22 (k0_t21 : Fin k0_t21_loop.trips) : Fin 1 → Nat :=
  let c2560_i32 : BitVec 32 := 2560#32
  let c0_i32_158 : BitVec 32 := 0#32
  let c0_i32_81 : BitVec 32 := 0#32
  let c1_i32_83 : BitVec 32 := 1#32
  let arg13 : BitVec 32 := Scf.iv c0_i32_81 c1_i32_83 k0_t21
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c2560_i32 v89
  let v97 : Index := Scalar.indexCast v96
  ![v97.toNat]
@[reducible] def k0_t22_loop : Scf.Loop 32 :=
  let c0_i32_85 : BitVec 32 := 0#32
  let c8_i32_86 : BitVec 32 := 8#32
  let v32 : BitVec 32 := Scalar.addi c0_i32_85 c8_i32_86
  let c1_i32_87 : BitVec 32 := 1#32
  ⟨c0_i32_85, v32, c1_i32_87⟩

def k0_chk22 (v94 : IVec S16 32) : Prop :=
  (∀ a x, ((![v94] : Fin 1 → IVec S16 32) a x).toNat < S3200.size a)
theorem k0_idx22_inb : ∀ (v94 : IVec S16 32) (k0_hw22 : k0_chk22 v94), ∀ a x, ((![v94] : Fin 1 → IVec S16 32) a x).toNat < S3200.size a := fun v94 k0_hw22 => k0_hw22
def k0_off23 (k0_t22 : Fin k0_t22_loop.trips) : Fin 1 → Nat :=
  let c2688_i32 : BitVec 32 := 2688#32
  let c0_i32_158 : BitVec 32 := 0#32
  let c0_i32_85 : BitVec 32 := 0#32
  let c1_i32_87 : BitVec 32 := 1#32
  let arg13 : BitVec 32 := Scf.iv c0_i32_85 c1_i32_87 k0_t22
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c2688_i32 v89
  let v97 : Index := Scalar.indexCast v96
  ![v97.toNat]
@[reducible] def k0_t23_loop : Scf.Loop 32 :=
  let c0_i32_89 : BitVec 32 := 0#32
  let c8_i32_90 : BitVec 32 := 8#32
  let v33 : BitVec 32 := Scalar.addi c0_i32_89 c8_i32_90
  let c1_i32_91 : BitVec 32 := 1#32
  ⟨c0_i32_89, v33, c1_i32_91⟩

def k0_chk23 (v94 : IVec S16 32) : Prop :=
  (∀ a x, ((![v94] : Fin 1 → IVec S16 32) a x).toNat < S3200.size a)
theorem k0_idx23_inb : ∀ (v94 : IVec S16 32) (k0_hw23 : k0_chk23 v94), ∀ a x, ((![v94] : Fin 1 → IVec S16 32) a x).toNat < S3200.size a := fun v94 k0_hw23 => k0_hw23
def k0_off24 (k0_t23 : Fin k0_t23_loop.trips) : Fin 1 → Nat :=
  let c2816_i32 : BitVec 32 := 2816#32
  let c0_i32_158 : BitVec 32 := 0#32
  let c0_i32_89 : BitVec 32 := 0#32
  let c1_i32_91 : BitVec 32 := 1#32
  let arg13 : BitVec 32 := Scf.iv c0_i32_89 c1_i32_91 k0_t23
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c2816_i32 v89
  let v97 : Index := Scalar.indexCast v96
  ![v97.toNat]
@[reducible] def k0_t24_loop : Scf.Loop 32 :=
  let c0_i32_93 : BitVec 32 := 0#32
  let c8_i32_94 : BitVec 32 := 8#32
  let v34 : BitVec 32 := Scalar.addi c0_i32_93 c8_i32_94
  let c1_i32_95 : BitVec 32 := 1#32
  ⟨c0_i32_93, v34, c1_i32_95⟩

def k0_chk24 (v94 : IVec S16 32) : Prop :=
  (∀ a x, ((![v94] : Fin 1 → IVec S16 32) a x).toNat < S3200.size a)
theorem k0_idx24_inb : ∀ (v94 : IVec S16 32) (k0_hw24 : k0_chk24 v94), ∀ a x, ((![v94] : Fin 1 → IVec S16 32) a x).toNat < S3200.size a := fun v94 k0_hw24 => k0_hw24
def k0_off25 (k0_t24 : Fin k0_t24_loop.trips) : Fin 1 → Nat :=
  let c2944_i32 : BitVec 32 := 2944#32
  let c0_i32_158 : BitVec 32 := 0#32
  let c0_i32_93 : BitVec 32 := 0#32
  let c1_i32_95 : BitVec 32 := 1#32
  let arg13 : BitVec 32 := Scf.iv c0_i32_93 c1_i32_95 k0_t24
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c2944_i32 v89
  let v97 : Index := Scalar.indexCast v96
  ![v97.toNat]
@[reducible] def k0_t25_loop : Scf.Loop 32 :=
  let c0_i32_97 : BitVec 32 := 0#32
  let c8_i32_98 : BitVec 32 := 8#32
  let v35 : BitVec 32 := Scalar.addi c0_i32_97 c8_i32_98
  let c1_i32_99 : BitVec 32 := 1#32
  ⟨c0_i32_97, v35, c1_i32_99⟩

def k0_chk25 (v94 : IVec S16 32) : Prop :=
  (∀ a x, ((![v94] : Fin 1 → IVec S16 32) a x).toNat < S3200.size a)
theorem k0_idx25_inb : ∀ (v94 : IVec S16 32) (k0_hw25 : k0_chk25 v94), ∀ a x, ((![v94] : Fin 1 → IVec S16 32) a x).toNat < S3200.size a := fun v94 k0_hw25 => k0_hw25
def k0_off26 (k0_t25 : Fin k0_t25_loop.trips) : Fin 1 → Nat :=
  let c3072_i32 : BitVec 32 := 3072#32
  let c0_i32_158 : BitVec 32 := 0#32
  let c0_i32_97 : BitVec 32 := 0#32
  let c1_i32_99 : BitVec 32 := 1#32
  let arg13 : BitVec 32 := Scf.iv c0_i32_97 c1_i32_99 k0_t25
  let c1_i32_157 : BitVec 32 := 1#32
  let v87 : BitVec 32 := Scalar.muli arg13 c1_i32_157
  let v88 : BitVec 32 := Scalar.addi c0_i32_158 v87
  let c16_i32 : BitVec 32 := 16#32
  let v89 : BitVec 32 := Scalar.muli v88 c16_i32
  let v96 : BitVec 32 := Scalar.addi c3072_i32 v89
  let v97 : Index := Scalar.indexCast v96
  ![v97.toNat]
def k0_off27 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1 : BitVec 32 := 3#32
  let v5 : BitVec 32 := Scalar.shrsi v1 c3_i32_1
  let c0_i32_103 : BitVec 32 := 0#32
  let v44 : BitVec 32 := Scalar.addi v5 c0_i32_103
  let c25_i32_106 : BitVec 32 := 25#32
  let v47 : BitVec 32 := Scalar.muli v44 c25_i32_106
  let c1_i32_0 : BitVec 32 := 1#32
  let v3 : BitVec 32 := Scalar.shrsi v1 c1_i32_0
  let c3_i32 : BitVec 32 := 3#32
  let v4 : BitVec 32 := Scalar.andi v3 c3_i32
  let c8_i32_104 : BitVec 32 := 8#32
  let v45 : BitVec 32 := Scalar.muli v4 c8_i32_104
  let c1_i32 : BitVec 32 := 1#32
  let v2 : BitVec 32 := Scalar.andi v1 c1_i32
  let c128_i32_105 : BitVec 32 := 128#32
  let v46 : BitVec 32 := Scalar.muli v2 c128_i32_105
  ![v47.toNat, v45.toNat, v46.toNat]
def k0_off28 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1 : BitVec 32 := 3#32
  let v5 : BitVec 32 := Scalar.shrsi v1 c3_i32_1
  let c0_i32_103 : BitVec 32 := 0#32
  let v44 : BitVec 32 := Scalar.addi v5 c0_i32_103
  let c25_i32_120 : BitVec 32 := 25#32
  let v56 : BitVec 32 := Scalar.muli v44 c25_i32_120
  let c12_i32 : BitVec 32 := 12#32
  let v57 : BitVec 32 := Scalar.addi v56 c12_i32
  let c1_i32_0 : BitVec 32 := 1#32
  let v3 : BitVec 32 := Scalar.shrsi v1 c1_i32_0
  let c3_i32 : BitVec 32 := 3#32
  let v4 : BitVec 32 := Scalar.andi v3 c3_i32
  let c8_i32_104 : BitVec 32 := 8#32
  let v45 : BitVec 32 := Scalar.muli v4 c8_i32_104
  let c1_i32 : BitVec 32 := 1#32
  let v2 : BitVec 32 := Scalar.andi v1 c1_i32
  let c128_i32_105 : BitVec 32 := 128#32
  let v46 : BitVec 32 := Scalar.muli v2 c128_i32_105
  ![v57.toNat, v45.toNat, v46.toNat]
@[reducible] def k0_t26_loop : Scf.Loop 32 :=
  let c0_i32_134 : BitVec 32 := 0#32
  let c38_i32 : BitVec 32 := 38#32
  let v66 : BitVec 32 := Scalar.addi c0_i32_134 c38_i32
  let c1_i32_135 : BitVec 32 := 1#32
  ⟨c0_i32_134, v66, c1_i32_135⟩
def k0_cond1 (k0_t26 : Fin k0_t26_loop.trips) : BitVec 1 :=
  let c0_i32_158 : BitVec 32 := 0#32
  let c0_i32_134 : BitVec 32 := 0#32
  let c1_i32_135 : BitVec 32 := 1#32
  let arg13 : BitVec 32 := Scf.iv c0_i32_134 c1_i32_135 k0_t26
  let c2_i32_157 : BitVec 32 := 2#32
  let v87 : BitVec 32 := Scalar.muli arg13 c2_i32_157
  let v88 : BitVec 32 := Scalar.addi c0_i32_158 v87
  let c1_i32_159 : BitVec 32 := 1#32
  let v89 : BitVec 32 := Scalar.addi v88 c1_i32_159
  let c75_i32 : BitVec 32 := 75#32
  let v90 : BitVec 1 := Scalar.cmpi .slt v89 c75_i32
  let v91 : BitVec 32 := Scalar.extui v90
  let c0_i32_160 : BitVec 32 := 0#32
  let v92 : BitVec 1 := Scalar.cmpi .ne v91 c0_i32_160
  v92

def k0_off29 (i : grid0.Coords) (k0_t26 : Fin k0_t26_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1 : BitVec 32 := 3#32
  let v5 : BitVec 32 := Scalar.shrsi v1 c3_i32_1
  let c0_i32_158 : BitVec 32 := 0#32
  let c0_i32_134 : BitVec 32 := 0#32
  let c1_i32_135 : BitVec 32 := 1#32
  let arg13 : BitVec 32 := Scf.iv c0_i32_134 c1_i32_135 k0_t26
  let c2_i32_157 : BitVec 32 := 2#32
  let v87 : BitVec 32 := Scalar.muli arg13 c2_i32_157
  let v88 : BitVec 32 := Scalar.addi c0_i32_158 v87
  let c1_i32_337 : BitVec 32 := 1#32
  let v147 : BitVec 32 := Scalar.addi v88 c1_i32_337
  let c4_i32_338 : BitVec 32 := 4#32
  let v148 : BitVec 32 := Scalar.muli v147 c4_i32_338
  let v149 : BitVec 32 := Scalar.addi v5 v148
  let c25_i32_341 : BitVec 32 := 25#32
  let v152 : BitVec 32 := Scalar.muli v149 c25_i32_341
  let c1_i32_0 : BitVec 32 := 1#32
  let v3 : BitVec 32 := Scalar.shrsi v1 c1_i32_0
  let c3_i32 : BitVec 32 := 3#32
  let v4 : BitVec 32 := Scalar.andi v3 c3_i32
  let c8_i32_339 : BitVec 32 := 8#32
  let v150 : BitVec 32 := Scalar.muli v4 c8_i32_339
  let c1_i32 : BitVec 32 := 1#32
  let v2 : BitVec 32 := Scalar.andi v1 c1_i32
  let c128_i32_340 : BitVec 32 := 128#32
  let v151 : BitVec 32 := Scalar.muli v2 c128_i32_340
  ![v152.toNat, v150.toNat, v151.toNat]
def k0_off30 (i : grid0.Coords) (k0_t26 : Fin k0_t26_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1 : BitVec 32 := 3#32
  let v5 : BitVec 32 := Scalar.shrsi v1 c3_i32_1
  let c0_i32_158 : BitVec 32 := 0#32
  let c0_i32_134 : BitVec 32 := 0#32
  let c1_i32_135 : BitVec 32 := 1#32
  let arg13 : BitVec 32 := Scf.iv c0_i32_134 c1_i32_135 k0_t26
  let c2_i32_157 : BitVec 32 := 2#32
  let v87 : BitVec 32 := Scalar.muli arg13 c2_i32_157
  let v88 : BitVec 32 := Scalar.addi c0_i32_158 v87
  let c1_i32_337 : BitVec 32 := 1#32
  let v147 : BitVec 32 := Scalar.addi v88 c1_i32_337
  let c4_i32_338 : BitVec 32 := 4#32
  let v148 : BitVec 32 := Scalar.muli v147 c4_i32_338
  let v149 : BitVec 32 := Scalar.addi v5 v148
  let c25_i32_355 : BitVec 32 := 25#32
  let v161 : BitVec 32 := Scalar.muli v149 c25_i32_355
  let c12_i32_356 : BitVec 32 := 12#32
  let v162 : BitVec 32 := Scalar.addi v161 c12_i32_356
  let c1_i32_0 : BitVec 32 := 1#32
  let v3 : BitVec 32 := Scalar.shrsi v1 c1_i32_0
  let c3_i32 : BitVec 32 := 3#32
  let v4 : BitVec 32 := Scalar.andi v3 c3_i32
  let c8_i32_339 : BitVec 32 := 8#32
  let v150 : BitVec 32 := Scalar.muli v4 c8_i32_339
  let c1_i32 : BitVec 32 := 1#32
  let v2 : BitVec 32 := Scalar.andi v1 c1_i32
  let c128_i32_340 : BitVec 32 := 128#32
  let v151 : BitVec 32 := Scalar.muli v2 c128_i32_340
  ![v162.toNat, v150.toNat, v151.toNat]
def k0_off31 (i : grid0.Coords) (k0_t26 : Fin k0_t26_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1 : BitVec 32 := 3#32
  let v5 : BitVec 32 := Scalar.shrsi v1 c3_i32_1
  let c0_i32_158 : BitVec 32 := 0#32
  let c0_i32_134 : BitVec 32 := 0#32
  let c1_i32_135 : BitVec 32 := 1#32
  let arg13 : BitVec 32 := Scf.iv c0_i32_134 c1_i32_135 k0_t26
  let c2_i32_157 : BitVec 32 := 2#32
  let v87 : BitVec 32 := Scalar.muli arg13 c2_i32_157
  let v88 : BitVec 32 := Scalar.addi c0_i32_158 v87
  let c4_i32 : BitVec 32 := 4#32
  let v93 : BitVec 32 := Scalar.muli v88 c4_i32
  let v94 : BitVec 32 := Scalar.addi v5 v93
  let c25_i32_161 : BitVec 32 := 25#32
  let v95 : BitVec 32 := Scalar.muli v94 c25_i32_161
  let c1_i32_0 : BitVec 32 := 1#32
  let v3 : BitVec 32 := Scalar.shrsi v1 c1_i32_0
  let c3_i32 : BitVec 32 := 3#32
  let v4 : BitVec 32 := Scalar.andi v3 c3_i32
  let c8_i32_162 : BitVec 32 := 8#32
  let v96 : BitVec 32 := Scalar.muli v4 c8_i32_162
  let c1_i32 : BitVec 32 := 1#32
  let v2 : BitVec 32 := Scalar.andi v1 c1_i32
  let c128_i32_163 : BitVec 32 := 128#32
  let v97 : BitVec 32 := Scalar.muli v2 c128_i32_163
  ![v95.toNat, v96.toNat, v97.toNat]
def k0_cond2 (k0_t26 : Fin k0_t26_loop.trips) : BitVec 1 :=
  let c0_i32_158 : BitVec 32 := 0#32
  let c0_i32_134 : BitVec 32 := 0#32
  let c1_i32_135 : BitVec 32 := 1#32
  let arg13 : BitVec 32 := Scf.iv c0_i32_134 c1_i32_135 k0_t26
  let c2_i32_157 : BitVec 32 := 2#32
  let v87 : BitVec 32 := Scalar.muli arg13 c2_i32_157
  let v88 : BitVec 32 := Scalar.addi c0_i32_158 v87
  let c2_i32_171 : BitVec 32 := 2#32
  let v104 : BitVec 1 := Scalar.cmpi .sge v88 c2_i32_171
  let v105 : BitVec 32 := Scalar.extui v104
  let c0_i32_172 : BitVec 32 := 0#32
  let v106 : BitVec 1 := Scalar.cmpi .ne v105 c0_i32_172
  v106

def k0_off32 (i : grid0.Coords) (k0_t26 : Fin k0_t26_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1 : BitVec 32 := 3#32
  let v5 : BitVec 32 := Scalar.shrsi v1 c3_i32_1
  let c0_i32_158 : BitVec 32 := 0#32
  let c0_i32_134 : BitVec 32 := 0#32
  let c1_i32_135 : BitVec 32 := 1#32
  let arg13 : BitVec 32 := Scf.iv c0_i32_134 c1_i32_135 k0_t26
  let c2_i32_157 : BitVec 32 := 2#32
  let v87 : BitVec 32 := Scalar.muli arg13 c2_i32_157
  let v88 : BitVec 32 := Scalar.addi c0_i32_158 v87
  let c2_i32_337 : BitVec 32 := 2#32
  let v147 : BitVec 32 := Scalar.subi v88 c2_i32_337
  let c4_i32_338 : BitVec 32 := 4#32
  let v148 : BitVec 32 := Scalar.muli v147 c4_i32_338
  let v149 : BitVec 32 := Scalar.addi v5 v148
  let c25_i32_339 : BitVec 32 := 25#32
  let v150 : BitVec 32 := Scalar.muli v149 c25_i32_339
  let c1_i32_0 : BitVec 32 := 1#32
  let v3 : BitVec 32 := Scalar.shrsi v1 c1_i32_0
  let c3_i32 : BitVec 32 := 3#32
  let v4 : BitVec 32 := Scalar.andi v3 c3_i32
  let c8_i32_340 : BitVec 32 := 8#32
  let v151 : BitVec 32 := Scalar.muli v4 c8_i32_340
  let c1_i32 : BitVec 32 := 1#32
  let v2 : BitVec 32 := Scalar.andi v1 c1_i32
  let c128_i32_341 : BitVec 32 := 128#32
  let v152 : BitVec 32 := Scalar.muli v2 c128_i32_341
  ![v150.toNat, v151.toNat, v152.toNat]
@[reducible] def k0_t27_loop : Scf.Loop 32 :=
  let c0_i32_175 : BitVec 32 := 0#32
  let c8_i32_176 : BitVec 32 := 8#32
  let v107 : BitVec 32 := Scalar.addi c0_i32_175 c8_i32_176
  let c1_i32_177 : BitVec 32 := 1#32
  ⟨c0_i32_175, v107, c1_i32_177⟩
def k0_off33 (k0_t27 : Fin k0_t27_loop.trips) : Fin 1 → Nat :=
  let c0_i32_339 : BitVec 32 := 0#32
  let c0_i32_338 : BitVec 32 := 0#32
  let c0_i32_175 : BitVec 32 := 0#32
  let c1_i32_177 : BitVec 32 := 1#32
  let arg14 : BitVec 32 := Scf.iv c0_i32_175 c1_i32_177 k0_t27
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c0_i32_339 v149
  let v153 : Index := Scalar.indexCast v152
  ![v153.toNat]

def k0_chk26 (v151 : IVec S16 32) (v154 : IVec S16 32) (v155 : IVec S16 32) : Prop :=
  (∀ a x, ((![v154, v155, v151] : Fin 3 → IVec S16 32) a x).toNat < S25x8x128.size a)
theorem k0_idx26_inb : ∀ (v151 : IVec S16 32) (v154 : IVec S16 32) (v155 : IVec S16 32) (k0_hw26 : k0_chk26 v151 v154 v155), ∀ a x, ((![v154, v155, v151] : Fin 3 → IVec S16 32) a x).toNat < S25x8x128.size a := fun v151 v154 v155 k0_hw26 => k0_hw26

def k0_chk27 (v151 : IVec S16 32) (v154 : IVec S16 32) (v159 : IVec S16 32) : Prop :=
  (∀ a x, ((![v154, v159, v151] : Fin 3 → IVec S16 32) a x).toNat < S25x8x128.size a)
theorem k0_idx27_inb : ∀ (v151 : IVec S16 32) (v154 : IVec S16 32) (v159 : IVec S16 32) (k0_hw27 : k0_chk27 v151 v154 v159), ∀ a x, ((![v154, v159, v151] : Fin 3 → IVec S16 32) a x).toNat < S25x8x128.size a := fun v151 v154 v159 k0_hw27 => k0_hw27

def k0_chk28 (v151 : IVec S16 32) (v154 : IVec S16 32) (v163 : IVec S16 32) : Prop :=
  (∀ a x, ((![v154, v163, v151] : Fin 3 → IVec S16 32) a x).toNat < S25x8x128.size a)
theorem k0_idx28_inb : ∀ (v151 : IVec S16 32) (v154 : IVec S16 32) (v163 : IVec S16 32) (k0_hw28 : k0_chk28 v151 v154 v163), ∀ a x, ((![v154, v163, v151] : Fin 3 → IVec S16 32) a x).toNat < S25x8x128.size a := fun v151 v154 v163 k0_hw28 => k0_hw28

def k0_chk29 (v151 : IVec S16 32) (v154 : IVec S16 32) (v167 : IVec S16 32) : Prop :=
  (∀ a x, ((![v154, v167, v151] : Fin 3 → IVec S16 32) a x).toNat < S25x8x128.size a)
theorem k0_idx29_inb : ∀ (v151 : IVec S16 32) (v154 : IVec S16 32) (v167 : IVec S16 32) (k0_hw29 : k0_chk29 v151 v154 v167), ∀ a x, ((![v154, v167, v151] : Fin 3 → IVec S16 32) a x).toNat < S25x8x128.size a := fun v151 v154 v167 k0_hw29 => k0_hw29

def k0_chk30 (v151 : IVec S16 32) (v154 : IVec S16 32) (v171 : IVec S16 32) : Prop :=
  (∀ a x, ((![v154, v171, v151] : Fin 3 → IVec S16 32) a x).toNat < S25x8x128.size a)
theorem k0_idx30_inb : ∀ (v151 : IVec S16 32) (v154 : IVec S16 32) (v171 : IVec S16 32) (k0_hw30 : k0_chk30 v151 v154 v171), ∀ a x, ((![v154, v171, v151] : Fin 3 → IVec S16 32) a x).toNat < S25x8x128.size a := fun v151 v154 v171 k0_hw30 => k0_hw30

def k0_chk31 (v151 : IVec S16 32) (v154 : IVec S16 32) (v175 : IVec S16 32) : Prop :=
  (∀ a x, ((![v154, v175, v151] : Fin 3 → IVec S16 32) a x).toNat < S25x8x128.size a)
theorem k0_idx31_inb : ∀ (v151 : IVec S16 32) (v154 : IVec S16 32) (v175 : IVec S16 32) (k0_hw31 : k0_chk31 v151 v154 v175), ∀ a x, ((![v154, v175, v151] : Fin 3 → IVec S16 32) a x).toNat < S25x8x128.size a := fun v151 v154 v175 k0_hw31 => k0_hw31

def k0_chk32 (v151 : IVec S16 32) (v154 : IVec S16 32) (v179 : IVec S16 32) : Prop :=
  (∀ a x, ((![v154, v179, v151] : Fin 3 → IVec S16 32) a x).toNat < S25x8x128.size a)
theorem k0_idx32_inb : ∀ (v151 : IVec S16 32) (v154 : IVec S16 32) (v179 : IVec S16 32) (k0_hw32 : k0_chk32 v151 v154 v179), ∀ a x, ((![v154, v179, v151] : Fin 3 → IVec S16 32) a x).toNat < S25x8x128.size a := fun v151 v154 v179 k0_hw32 => k0_hw32

def k0_chk33 (v151 : IVec S16 32) (v154 : IVec S16 32) (v183 : IVec S16 32) : Prop :=
  (∀ a x, ((![v154, v183, v151] : Fin 3 → IVec S16 32) a x).toNat < S25x8x128.size a)
theorem k0_idx33_inb : ∀ (v151 : IVec S16 32) (v154 : IVec S16 32) (v183 : IVec S16 32) (k0_hw33 : k0_chk33 v151 v154 v183), ∀ a x, ((![v154, v183, v151] : Fin 3 → IVec S16 32) a x).toNat < S25x8x128.size a := fun v151 v154 v183 k0_hw33 => k0_hw33
def k0_off34 (k0_t27 : Fin k0_t27_loop.trips) : Fin 3 → Nat :=
  let c0_i32_369 : BitVec 32 := 0#32
  let v189 : Index := Scalar.indexCast c0_i32_369
  let c0_i32_370 : BitVec 32 := 0#32
  let v190 : Index := Scalar.indexCast c0_i32_370
  let c0_i32_338 : BitVec 32 := 0#32
  let c0_i32_175 : BitVec 32 := 0#32
  let c1_i32_177 : BitVec 32 := 1#32
  let arg14 : BitVec 32 := Scf.iv c0_i32_175 c1_i32_177 k0_t27
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![0, 0, v191.toNat]
def k0_off35 (k0_t27 : Fin k0_t27_loop.trips) : Fin 3 → Nat :=
  let c0_i32_374 : BitVec 32 := 0#32
  let v195 : Index := Scalar.indexCast c0_i32_374
  let c1_i32_375 : BitVec 32 := 1#32
  let v196 : Index := Scalar.indexCast c1_i32_375
  let c0_i32_338 : BitVec 32 := 0#32
  let c0_i32_175 : BitVec 32 := 0#32
  let c1_i32_177 : BitVec 32 := 1#32
  let arg14 : BitVec 32 := Scf.iv c0_i32_175 c1_i32_177 k0_t27
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![0, 1, v197.toNat]
def k0_off36 (k0_t27 : Fin k0_t27_loop.trips) : Fin 3 → Nat :=
  let c0_i32_379 : BitVec 32 := 0#32
  let v201 : Index := Scalar.indexCast c0_i32_379
  let c2_i32_380 : BitVec 32 := 2#32
  let v202 : Index := Scalar.indexCast c2_i32_380
  let c0_i32_338 : BitVec 32 := 0#32
  let c0_i32_175 : BitVec 32 := 0#32
  let c1_i32_177 : BitVec 32 := 1#32
  let arg14 : BitVec 32 := Scf.iv c0_i32_175 c1_i32_177 k0_t27
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![0, 2, v203.toNat]
def k0_off37 (k0_t27 : Fin k0_t27_loop.trips) : Fin 3 → Nat :=
  let c0_i32_384 : BitVec 32 := 0#32
  let v207 : Index := Scalar.indexCast c0_i32_384
  let c3_i32_385 : BitVec 32 := 3#32
  let v208 : Index := Scalar.indexCast c3_i32_385
  let c0_i32_338 : BitVec 32 := 0#32
  let c0_i32_175 : BitVec 32 := 0#32
  let c1_i32_177 : BitVec 32 := 1#32
  let arg14 : BitVec 32 := Scf.iv c0_i32_175 c1_i32_177 k0_t27
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![0, 3, v209.toNat]
def k0_off38 (k0_t27 : Fin k0_t27_loop.trips) : Fin 3 → Nat :=
  let c0_i32_389 : BitVec 32 := 0#32
  let v213 : Index := Scalar.indexCast c0_i32_389
  let c4_i32_390 : BitVec 32 := 4#32
  let v214 : Index := Scalar.indexCast c4_i32_390
  let c0_i32_338 : BitVec 32 := 0#32
  let c0_i32_175 : BitVec 32 := 0#32
  let c1_i32_177 : BitVec 32 := 1#32
  let arg14 : BitVec 32 := Scf.iv c0_i32_175 c1_i32_177 k0_t27
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![0, 4, v215.toNat]
def k0_off39 (k0_t27 : Fin k0_t27_loop.trips) : Fin 3 → Nat :=
  let c0_i32_394 : BitVec 32 := 0#32
  let v219 : Index := Scalar.indexCast c0_i32_394
  let c5_i32_395 : BitVec 32 := 5#32
  let v220 : Index := Scalar.indexCast c5_i32_395
  let c0_i32_338 : BitVec 32 := 0#32
  let c0_i32_175 : BitVec 32 := 0#32
  let c1_i32_177 : BitVec 32 := 1#32
  let arg14 : BitVec 32 := Scf.iv c0_i32_175 c1_i32_177 k0_t27
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![0, 5, v221.toNat]
def k0_off40 (k0_t27 : Fin k0_t27_loop.trips) : Fin 3 → Nat :=
  let c0_i32_399 : BitVec 32 := 0#32
  let v225 : Index := Scalar.indexCast c0_i32_399
  let c6_i32_400 : BitVec 32 := 6#32
  let v226 : Index := Scalar.indexCast c6_i32_400
  let c0_i32_338 : BitVec 32 := 0#32
  let c0_i32_175 : BitVec 32 := 0#32
  let c1_i32_177 : BitVec 32 := 1#32
  let arg14 : BitVec 32 := Scf.iv c0_i32_175 c1_i32_177 k0_t27
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![0, 6, v227.toNat]
def k0_off41 (k0_t27 : Fin k0_t27_loop.trips) : Fin 3 → Nat :=
  let c0_i32_404 : BitVec 32 := 0#32
  let v231 : Index := Scalar.indexCast c0_i32_404
  let c7_i32_405 : BitVec 32 := 7#32
  let v232 : Index := Scalar.indexCast c7_i32_405
  let c0_i32_338 : BitVec 32 := 0#32
  let c0_i32_175 : BitVec 32 := 0#32
  let c1_i32_177 : BitVec 32 := 1#32
  let arg14 : BitVec 32 := Scf.iv c0_i32_175 c1_i32_177 k0_t27
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![0, 7, v233.toNat]
@[reducible] def k0_t28_loop : Scf.Loop 32 :=
  let c0_i32_181 : BitVec 32 := 0#32
  let c8_i32_182 : BitVec 32 := 8#32
  let v108 : BitVec 32 := Scalar.addi c0_i32_181 c8_i32_182
  let c1_i32_183 : BitVec 32 := 1#32
  ⟨c0_i32_181, v108, c1_i32_183⟩
def k0_off42 (k0_t28 : Fin k0_t28_loop.trips) : Fin 1 → Nat :=
  let c128_i32_339 : BitVec 32 := 128#32
  let c0_i32_338 : BitVec 32 := 0#32
  let c0_i32_181 : BitVec 32 := 0#32
  let c1_i32_183 : BitVec 32 := 1#32
  let arg14 : BitVec 32 := Scf.iv c0_i32_181 c1_i32_183 k0_t28
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c128_i32_339 v149
  let v153 : Index := Scalar.indexCast v152
  ![v153.toNat]

def k0_chk34 (v151 : IVec S16 32) (v154 : IVec S16 32) (v155 : IVec S16 32) : Prop :=
  (∀ a x, ((![v154, v155, v151] : Fin 3 → IVec S16 32) a x).toNat < S25x8x128.size a)
theorem k0_idx34_inb : ∀ (v151 : IVec S16 32) (v154 : IVec S16 32) (v155 : IVec S16 32) (k0_hw34 : k0_chk34 v151 v154 v155), ∀ a x, ((![v154, v155, v151] : Fin 3 → IVec S16 32) a x).toNat < S25x8x128.size a := fun v151 v154 v155 k0_hw34 => k0_hw34

def k0_chk35 (v151 : IVec S16 32) (v154 : IVec S16 32) (v159 : IVec S16 32) : Prop :=
  (∀ a x, ((![v154, v159, v151] : Fin 3 → IVec S16 32) a x).toNat < S25x8x128.size a)
theorem k0_idx35_inb : ∀ (v151 : IVec S16 32) (v154 : IVec S16 32) (v159 : IVec S16 32) (k0_hw35 : k0_chk35 v151 v154 v159), ∀ a x, ((![v154, v159, v151] : Fin 3 → IVec S16 32) a x).toNat < S25x8x128.size a := fun v151 v154 v159 k0_hw35 => k0_hw35

def k0_chk36 (v151 : IVec S16 32) (v154 : IVec S16 32) (v163 : IVec S16 32) : Prop :=
  (∀ a x, ((![v154, v163, v151] : Fin 3 → IVec S16 32) a x).toNat < S25x8x128.size a)
theorem k0_idx36_inb : ∀ (v151 : IVec S16 32) (v154 : IVec S16 32) (v163 : IVec S16 32) (k0_hw36 : k0_chk36 v151 v154 v163), ∀ a x, ((![v154, v163, v151] : Fin 3 → IVec S16 32) a x).toNat < S25x8x128.size a := fun v151 v154 v163 k0_hw36 => k0_hw36

def k0_chk37 (v151 : IVec S16 32) (v154 : IVec S16 32) (v167 : IVec S16 32) : Prop :=
  (∀ a x, ((![v154, v167, v151] : Fin 3 → IVec S16 32) a x).toNat < S25x8x128.size a)
theorem k0_idx37_inb : ∀ (v151 : IVec S16 32) (v154 : IVec S16 32) (v167 : IVec S16 32) (k0_hw37 : k0_chk37 v151 v154 v167), ∀ a x, ((![v154, v167, v151] : Fin 3 → IVec S16 32) a x).toNat < S25x8x128.size a := fun v151 v154 v167 k0_hw37 => k0_hw37

def k0_chk38 (v151 : IVec S16 32) (v154 : IVec S16 32) (v171 : IVec S16 32) : Prop :=
  (∀ a x, ((![v154, v171, v151] : Fin 3 → IVec S16 32) a x).toNat < S25x8x128.size a)
theorem k0_idx38_inb : ∀ (v151 : IVec S16 32) (v154 : IVec S16 32) (v171 : IVec S16 32) (k0_hw38 : k0_chk38 v151 v154 v171), ∀ a x, ((![v154, v171, v151] : Fin 3 → IVec S16 32) a x).toNat < S25x8x128.size a := fun v151 v154 v171 k0_hw38 => k0_hw38

def k0_chk39 (v151 : IVec S16 32) (v154 : IVec S16 32) (v175 : IVec S16 32) : Prop :=
  (∀ a x, ((![v154, v175, v151] : Fin 3 → IVec S16 32) a x).toNat < S25x8x128.size a)
theorem k0_idx39_inb : ∀ (v151 : IVec S16 32) (v154 : IVec S16 32) (v175 : IVec S16 32) (k0_hw39 : k0_chk39 v151 v154 v175), ∀ a x, ((![v154, v175, v151] : Fin 3 → IVec S16 32) a x).toNat < S25x8x128.size a := fun v151 v154 v175 k0_hw39 => k0_hw39

def k0_chk40 (v151 : IVec S16 32) (v154 : IVec S16 32) (v179 : IVec S16 32) : Prop :=
  (∀ a x, ((![v154, v179, v151] : Fin 3 → IVec S16 32) a x).toNat < S25x8x128.size a)
theorem k0_idx40_inb : ∀ (v151 : IVec S16 32) (v154 : IVec S16 32) (v179 : IVec S16 32) (k0_hw40 : k0_chk40 v151 v154 v179), ∀ a x, ((![v154, v179, v151] : Fin 3 → IVec S16 32) a x).toNat < S25x8x128.size a := fun v151 v154 v179 k0_hw40 => k0_hw40

def k0_chk41 (v151 : IVec S16 32) (v154 : IVec S16 32) (v183 : IVec S16 32) : Prop :=
  (∀ a x, ((![v154, v183, v151] : Fin 3 → IVec S16 32) a x).toNat < S25x8x128.size a)
theorem k0_idx41_inb : ∀ (v151 : IVec S16 32) (v154 : IVec S16 32) (v183 : IVec S16 32) (k0_hw41 : k0_chk41 v151 v154 v183), ∀ a x, ((![v154, v183, v151] : Fin 3 → IVec S16 32) a x).toNat < S25x8x128.size a := fun v151 v154 v183 k0_hw41 => k0_hw41
def k0_off43 (k0_t28 : Fin k0_t28_loop.trips) : Fin 3 → Nat :=
  let c1_i32_369 : BitVec 32 := 1#32
  let v189 : Index := Scalar.indexCast c1_i32_369
  let c0_i32_370 : BitVec 32 := 0#32
  let v190 : Index := Scalar.indexCast c0_i32_370
  let c0_i32_338 : BitVec 32 := 0#32
  let c0_i32_181 : BitVec 32 := 0#32
  let c1_i32_183 : BitVec 32 := 1#32
  let arg14 : BitVec 32 := Scf.iv c0_i32_181 c1_i32_183 k0_t28
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![1, 0, v191.toNat]
def k0_off44 (k0_t28 : Fin k0_t28_loop.trips) : Fin 3 → Nat :=
  let c1_i32_374 : BitVec 32 := 1#32
  let v195 : Index := Scalar.indexCast c1_i32_374
  let c1_i32_375 : BitVec 32 := 1#32
  let v196 : Index := Scalar.indexCast c1_i32_375
  let c0_i32_338 : BitVec 32 := 0#32
  let c0_i32_181 : BitVec 32 := 0#32
  let c1_i32_183 : BitVec 32 := 1#32
  let arg14 : BitVec 32 := Scf.iv c0_i32_181 c1_i32_183 k0_t28
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![1, 1, v197.toNat]
def k0_off45 (k0_t28 : Fin k0_t28_loop.trips) : Fin 3 → Nat :=
  let c1_i32_379 : BitVec 32 := 1#32
  let v201 : Index := Scalar.indexCast c1_i32_379
  let c2_i32_380 : BitVec 32 := 2#32
  let v202 : Index := Scalar.indexCast c2_i32_380
  let c0_i32_338 : BitVec 32 := 0#32
  let c0_i32_181 : BitVec 32 := 0#32
  let c1_i32_183 : BitVec 32 := 1#32
  let arg14 : BitVec 32 := Scf.iv c0_i32_181 c1_i32_183 k0_t28
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![1, 2, v203.toNat]
def k0_off46 (k0_t28 : Fin k0_t28_loop.trips) : Fin 3 → Nat :=
  let c1_i32_384 : BitVec 32 := 1#32
  let v207 : Index := Scalar.indexCast c1_i32_384
  let c3_i32_385 : BitVec 32 := 3#32
  let v208 : Index := Scalar.indexCast c3_i32_385
  let c0_i32_338 : BitVec 32 := 0#32
  let c0_i32_181 : BitVec 32 := 0#32
  let c1_i32_183 : BitVec 32 := 1#32
  let arg14 : BitVec 32 := Scf.iv c0_i32_181 c1_i32_183 k0_t28
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![1, 3, v209.toNat]
def k0_off47 (k0_t28 : Fin k0_t28_loop.trips) : Fin 3 → Nat :=
  let c1_i32_389 : BitVec 32 := 1#32
  let v213 : Index := Scalar.indexCast c1_i32_389
  let c4_i32_390 : BitVec 32 := 4#32
  let v214 : Index := Scalar.indexCast c4_i32_390
  let c0_i32_338 : BitVec 32 := 0#32
  let c0_i32_181 : BitVec 32 := 0#32
  let c1_i32_183 : BitVec 32 := 1#32
  let arg14 : BitVec 32 := Scf.iv c0_i32_181 c1_i32_183 k0_t28
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![1, 4, v215.toNat]
def k0_off48 (k0_t28 : Fin k0_t28_loop.trips) : Fin 3 → Nat :=
  let c1_i32_394 : BitVec 32 := 1#32
  let v219 : Index := Scalar.indexCast c1_i32_394
  let c5_i32_395 : BitVec 32 := 5#32
  let v220 : Index := Scalar.indexCast c5_i32_395
  let c0_i32_338 : BitVec 32 := 0#32
  let c0_i32_181 : BitVec 32 := 0#32
  let c1_i32_183 : BitVec 32 := 1#32
  let arg14 : BitVec 32 := Scf.iv c0_i32_181 c1_i32_183 k0_t28
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![1, 5, v221.toNat]
def k0_off49 (k0_t28 : Fin k0_t28_loop.trips) : Fin 3 → Nat :=
  let c1_i32_399 : BitVec 32 := 1#32
  let v225 : Index := Scalar.indexCast c1_i32_399
  let c6_i32_400 : BitVec 32 := 6#32
  let v226 : Index := Scalar.indexCast c6_i32_400
  let c0_i32_338 : BitVec 32 := 0#32
  let c0_i32_181 : BitVec 32 := 0#32
  let c1_i32_183 : BitVec 32 := 1#32
  let arg14 : BitVec 32 := Scf.iv c0_i32_181 c1_i32_183 k0_t28
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![1, 6, v227.toNat]
def k0_off50 (k0_t28 : Fin k0_t28_loop.trips) : Fin 3 → Nat :=
  let c1_i32_404 : BitVec 32 := 1#32
  let v231 : Index := Scalar.indexCast c1_i32_404
  let c7_i32_405 : BitVec 32 := 7#32
  let v232 : Index := Scalar.indexCast c7_i32_405
  let c0_i32_338 : BitVec 32 := 0#32
  let c0_i32_181 : BitVec 32 := 0#32
  let c1_i32_183 : BitVec 32 := 1#32
  let arg14 : BitVec 32 := Scf.iv c0_i32_181 c1_i32_183 k0_t28
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![1, 7, v233.toNat]
@[reducible] def k0_t29_loop : Scf.Loop 32 :=
  let c0_i32_187 : BitVec 32 := 0#32
  let c8_i32_188 : BitVec 32 := 8#32
  let v109 : BitVec 32 := Scalar.addi c0_i32_187 c8_i32_188
  let c1_i32_189 : BitVec 32 := 1#32
  ⟨c0_i32_187, v109, c1_i32_189⟩
def k0_off51 (k0_t29 : Fin k0_t29_loop.trips) : Fin 1 → Nat :=
  let c256_i32_339 : BitVec 32 := 256#32
  let c0_i32_338 : BitVec 32 := 0#32
  let c0_i32_187 : BitVec 32 := 0#32
  let c1_i32_189 : BitVec 32 := 1#32
  let arg14 : BitVec 32 := Scf.iv c0_i32_187 c1_i32_189 k0_t29
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c256_i32_339 v149
  let v153 : Index := Scalar.indexCast v152
  ![v153.toNat]

def k0_chk42 (v151 : IVec S16 32) (v154 : IVec S16 32) (v155 : IVec S16 32) : Prop :=
  (∀ a x, ((![v154, v155, v151] : Fin 3 → IVec S16 32) a x).toNat < S25x8x128.size a)
theorem k0_idx42_inb : ∀ (v151 : IVec S16 32) (v154 : IVec S16 32) (v155 : IVec S16 32) (k0_hw42 : k0_chk42 v151 v154 v155), ∀ a x, ((![v154, v155, v151] : Fin 3 → IVec S16 32) a x).toNat < S25x8x128.size a := fun v151 v154 v155 k0_hw42 => k0_hw42

def k0_chk43 (v151 : IVec S16 32) (v154 : IVec S16 32) (v159 : IVec S16 32) : Prop :=
  (∀ a x, ((![v154, v159, v151] : Fin 3 → IVec S16 32) a x).toNat < S25x8x128.size a)
theorem k0_idx43_inb : ∀ (v151 : IVec S16 32) (v154 : IVec S16 32) (v159 : IVec S16 32) (k0_hw43 : k0_chk43 v151 v154 v159), ∀ a x, ((![v154, v159, v151] : Fin 3 → IVec S16 32) a x).toNat < S25x8x128.size a := fun v151 v154 v159 k0_hw43 => k0_hw43

def k0_chk44 (v151 : IVec S16 32) (v154 : IVec S16 32) (v163 : IVec S16 32) : Prop :=
  (∀ a x, ((![v154, v163, v151] : Fin 3 → IVec S16 32) a x).toNat < S25x8x128.size a)
theorem k0_idx44_inb : ∀ (v151 : IVec S16 32) (v154 : IVec S16 32) (v163 : IVec S16 32) (k0_hw44 : k0_chk44 v151 v154 v163), ∀ a x, ((![v154, v163, v151] : Fin 3 → IVec S16 32) a x).toNat < S25x8x128.size a := fun v151 v154 v163 k0_hw44 => k0_hw44

def k0_chk45 (v151 : IVec S16 32) (v154 : IVec S16 32) (v167 : IVec S16 32) : Prop :=
  (∀ a x, ((![v154, v167, v151] : Fin 3 → IVec S16 32) a x).toNat < S25x8x128.size a)
theorem k0_idx45_inb : ∀ (v151 : IVec S16 32) (v154 : IVec S16 32) (v167 : IVec S16 32) (k0_hw45 : k0_chk45 v151 v154 v167), ∀ a x, ((![v154, v167, v151] : Fin 3 → IVec S16 32) a x).toNat < S25x8x128.size a := fun v151 v154 v167 k0_hw45 => k0_hw45

def k0_chk46 (v151 : IVec S16 32) (v154 : IVec S16 32) (v171 : IVec S16 32) : Prop :=
  (∀ a x, ((![v154, v171, v151] : Fin 3 → IVec S16 32) a x).toNat < S25x8x128.size a)
theorem k0_idx46_inb : ∀ (v151 : IVec S16 32) (v154 : IVec S16 32) (v171 : IVec S16 32) (k0_hw46 : k0_chk46 v151 v154 v171), ∀ a x, ((![v154, v171, v151] : Fin 3 → IVec S16 32) a x).toNat < S25x8x128.size a := fun v151 v154 v171 k0_hw46 => k0_hw46

def k0_chk47 (v151 : IVec S16 32) (v154 : IVec S16 32) (v175 : IVec S16 32) : Prop :=
  (∀ a x, ((![v154, v175, v151] : Fin 3 → IVec S16 32) a x).toNat < S25x8x128.size a)
theorem k0_idx47_inb : ∀ (v151 : IVec S16 32) (v154 : IVec S16 32) (v175 : IVec S16 32) (k0_hw47 : k0_chk47 v151 v154 v175), ∀ a x, ((![v154, v175, v151] : Fin 3 → IVec S16 32) a x).toNat < S25x8x128.size a := fun v151 v154 v175 k0_hw47 => k0_hw47

def k0_chk48 (v151 : IVec S16 32) (v154 : IVec S16 32) (v179 : IVec S16 32) : Prop :=
  (∀ a x, ((![v154, v179, v151] : Fin 3 → IVec S16 32) a x).toNat < S25x8x128.size a)
theorem k0_idx48_inb : ∀ (v151 : IVec S16 32) (v154 : IVec S16 32) (v179 : IVec S16 32) (k0_hw48 : k0_chk48 v151 v154 v179), ∀ a x, ((![v154, v179, v151] : Fin 3 → IVec S16 32) a x).toNat < S25x8x128.size a := fun v151 v154 v179 k0_hw48 => k0_hw48

def k0_chk49 (v151 : IVec S16 32) (v154 : IVec S16 32) (v183 : IVec S16 32) : Prop :=
  (∀ a x, ((![v154, v183, v151] : Fin 3 → IVec S16 32) a x).toNat < S25x8x128.size a)
theorem k0_idx49_inb : ∀ (v151 : IVec S16 32) (v154 : IVec S16 32) (v183 : IVec S16 32) (k0_hw49 : k0_chk49 v151 v154 v183), ∀ a x, ((![v154, v183, v151] : Fin 3 → IVec S16 32) a x).toNat < S25x8x128.size a := fun v151 v154 v183 k0_hw49 => k0_hw49
def k0_off52 (k0_t29 : Fin k0_t29_loop.trips) : Fin 3 → Nat :=
  let c2_i32_369 : BitVec 32 := 2#32
  let v189 : Index := Scalar.indexCast c2_i32_369
  let c0_i32_370 : BitVec 32 := 0#32
  let v190 : Index := Scalar.indexCast c0_i32_370
  let c0_i32_338 : BitVec 32 := 0#32
  let c0_i32_187 : BitVec 32 := 0#32
  let c1_i32_189 : BitVec 32 := 1#32
  let arg14 : BitVec 32 := Scf.iv c0_i32_187 c1_i32_189 k0_t29
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![2, 0, v191.toNat]
def k0_off53 (k0_t29 : Fin k0_t29_loop.trips) : Fin 3 → Nat :=
  let c2_i32_374 : BitVec 32 := 2#32
  let v195 : Index := Scalar.indexCast c2_i32_374
  let c1_i32_375 : BitVec 32 := 1#32
  let v196 : Index := Scalar.indexCast c1_i32_375
  let c0_i32_338 : BitVec 32 := 0#32
  let c0_i32_187 : BitVec 32 := 0#32
  let c1_i32_189 : BitVec 32 := 1#32
  let arg14 : BitVec 32 := Scf.iv c0_i32_187 c1_i32_189 k0_t29
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![2, 1, v197.toNat]
def k0_off54 (k0_t29 : Fin k0_t29_loop.trips) : Fin 3 → Nat :=
  let c2_i32_379 : BitVec 32 := 2#32
  let v201 : Index := Scalar.indexCast c2_i32_379
  let c2_i32_380 : BitVec 32 := 2#32
  let v202 : Index := Scalar.indexCast c2_i32_380
  let c0_i32_338 : BitVec 32 := 0#32
  let c0_i32_187 : BitVec 32 := 0#32
  let c1_i32_189 : BitVec 32 := 1#32
  let arg14 : BitVec 32 := Scf.iv c0_i32_187 c1_i32_189 k0_t29
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![2, 2, v203.toNat]
def k0_off55 (k0_t29 : Fin k0_t29_loop.trips) : Fin 3 → Nat :=
  let c2_i32_384 : BitVec 32 := 2#32
  let v207 : Index := Scalar.indexCast c2_i32_384
  let c3_i32_385 : BitVec 32 := 3#32
  let v208 : Index := Scalar.indexCast c3_i32_385
  let c0_i32_338 : BitVec 32 := 0#32
  let c0_i32_187 : BitVec 32 := 0#32
  let c1_i32_189 : BitVec 32 := 1#32
  let arg14 : BitVec 32 := Scf.iv c0_i32_187 c1_i32_189 k0_t29
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![2, 3, v209.toNat]
def k0_off56 (k0_t29 : Fin k0_t29_loop.trips) : Fin 3 → Nat :=
  let c2_i32_389 : BitVec 32 := 2#32
  let v213 : Index := Scalar.indexCast c2_i32_389
  let c4_i32_390 : BitVec 32 := 4#32
  let v214 : Index := Scalar.indexCast c4_i32_390
  let c0_i32_338 : BitVec 32 := 0#32
  let c0_i32_187 : BitVec 32 := 0#32
  let c1_i32_189 : BitVec 32 := 1#32
  let arg14 : BitVec 32 := Scf.iv c0_i32_187 c1_i32_189 k0_t29
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![2, 4, v215.toNat]
def k0_off57 (k0_t29 : Fin k0_t29_loop.trips) : Fin 3 → Nat :=
  let c2_i32_394 : BitVec 32 := 2#32
  let v219 : Index := Scalar.indexCast c2_i32_394
  let c5_i32_395 : BitVec 32 := 5#32
  let v220 : Index := Scalar.indexCast c5_i32_395
  let c0_i32_338 : BitVec 32 := 0#32
  let c0_i32_187 : BitVec 32 := 0#32
  let c1_i32_189 : BitVec 32 := 1#32
  let arg14 : BitVec 32 := Scf.iv c0_i32_187 c1_i32_189 k0_t29
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![2, 5, v221.toNat]
def k0_off58 (k0_t29 : Fin k0_t29_loop.trips) : Fin 3 → Nat :=
  let c2_i32_399 : BitVec 32 := 2#32
  let v225 : Index := Scalar.indexCast c2_i32_399
  let c6_i32_400 : BitVec 32 := 6#32
  let v226 : Index := Scalar.indexCast c6_i32_400
  let c0_i32_338 : BitVec 32 := 0#32
  let c0_i32_187 : BitVec 32 := 0#32
  let c1_i32_189 : BitVec 32 := 1#32
  let arg14 : BitVec 32 := Scf.iv c0_i32_187 c1_i32_189 k0_t29
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![2, 6, v227.toNat]
def k0_off59 (k0_t29 : Fin k0_t29_loop.trips) : Fin 3 → Nat :=
  let c2_i32_404 : BitVec 32 := 2#32
  let v231 : Index := Scalar.indexCast c2_i32_404
  let c7_i32_405 : BitVec 32 := 7#32
  let v232 : Index := Scalar.indexCast c7_i32_405
  let c0_i32_338 : BitVec 32 := 0#32
  let c0_i32_187 : BitVec 32 := 0#32
  let c1_i32_189 : BitVec 32 := 1#32
  let arg14 : BitVec 32 := Scf.iv c0_i32_187 c1_i32_189 k0_t29
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![2, 7, v233.toNat]
@[reducible] def k0_t30_loop : Scf.Loop 32 :=
  let c0_i32_193 : BitVec 32 := 0#32
  let c8_i32_194 : BitVec 32 := 8#32
  let v110 : BitVec 32 := Scalar.addi c0_i32_193 c8_i32_194
  let c1_i32_195 : BitVec 32 := 1#32
  ⟨c0_i32_193, v110, c1_i32_195⟩
def k0_off60 (k0_t30 : Fin k0_t30_loop.trips) : Fin 1 → Nat :=
  let c384_i32_339 : BitVec 32 := 384#32
  let c0_i32_338 : BitVec 32 := 0#32
  let c0_i32_193 : BitVec 32 := 0#32
  let c1_i32_195 : BitVec 32 := 1#32
  let arg14 : BitVec 32 := Scf.iv c0_i32_193 c1_i32_195 k0_t30
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c384_i32_339 v149
  let v153 : Index := Scalar.indexCast v152
  ![v153.toNat]

def k0_chk50 (v151 : IVec S16 32) (v154 : IVec S16 32) (v155 : IVec S16 32) : Prop :=
  (∀ a x, ((![v154, v155, v151] : Fin 3 → IVec S16 32) a x).toNat < S25x8x128.size a)
theorem k0_idx50_inb : ∀ (v151 : IVec S16 32) (v154 : IVec S16 32) (v155 : IVec S16 32) (k0_hw50 : k0_chk50 v151 v154 v155), ∀ a x, ((![v154, v155, v151] : Fin 3 → IVec S16 32) a x).toNat < S25x8x128.size a := fun v151 v154 v155 k0_hw50 => k0_hw50

def k0_chk51 (v151 : IVec S16 32) (v154 : IVec S16 32) (v159 : IVec S16 32) : Prop :=
  (∀ a x, ((![v154, v159, v151] : Fin 3 → IVec S16 32) a x).toNat < S25x8x128.size a)
theorem k0_idx51_inb : ∀ (v151 : IVec S16 32) (v154 : IVec S16 32) (v159 : IVec S16 32) (k0_hw51 : k0_chk51 v151 v154 v159), ∀ a x, ((![v154, v159, v151] : Fin 3 → IVec S16 32) a x).toNat < S25x8x128.size a := fun v151 v154 v159 k0_hw51 => k0_hw51

def k0_chk52 (v151 : IVec S16 32) (v154 : IVec S16 32) (v163 : IVec S16 32) : Prop :=
  (∀ a x, ((![v154, v163, v151] : Fin 3 → IVec S16 32) a x).toNat < S25x8x128.size a)
theorem k0_idx52_inb : ∀ (v151 : IVec S16 32) (v154 : IVec S16 32) (v163 : IVec S16 32) (k0_hw52 : k0_chk52 v151 v154 v163), ∀ a x, ((![v154, v163, v151] : Fin 3 → IVec S16 32) a x).toNat < S25x8x128.size a := fun v151 v154 v163 k0_hw52 => k0_hw52

def k0_chk53 (v151 : IVec S16 32) (v154 : IVec S16 32) (v167 : IVec S16 32) : Prop :=
  (∀ a x, ((![v154, v167, v151] : Fin 3 → IVec S16 32) a x).toNat < S25x8x128.size a)
theorem k0_idx53_inb : ∀ (v151 : IVec S16 32) (v154 : IVec S16 32) (v167 : IVec S16 32) (k0_hw53 : k0_chk53 v151 v154 v167), ∀ a x, ((![v154, v167, v151] : Fin 3 → IVec S16 32) a x).toNat < S25x8x128.size a := fun v151 v154 v167 k0_hw53 => k0_hw53

def k0_chk54 (v151 : IVec S16 32) (v154 : IVec S16 32) (v171 : IVec S16 32) : Prop :=
  (∀ a x, ((![v154, v171, v151] : Fin 3 → IVec S16 32) a x).toNat < S25x8x128.size a)
theorem k0_idx54_inb : ∀ (v151 : IVec S16 32) (v154 : IVec S16 32) (v171 : IVec S16 32) (k0_hw54 : k0_chk54 v151 v154 v171), ∀ a x, ((![v154, v171, v151] : Fin 3 → IVec S16 32) a x).toNat < S25x8x128.size a := fun v151 v154 v171 k0_hw54 => k0_hw54

def k0_chk55 (v151 : IVec S16 32) (v154 : IVec S16 32) (v175 : IVec S16 32) : Prop :=
  (∀ a x, ((![v154, v175, v151] : Fin 3 → IVec S16 32) a x).toNat < S25x8x128.size a)
theorem k0_idx55_inb : ∀ (v151 : IVec S16 32) (v154 : IVec S16 32) (v175 : IVec S16 32) (k0_hw55 : k0_chk55 v151 v154 v175), ∀ a x, ((![v154, v175, v151] : Fin 3 → IVec S16 32) a x).toNat < S25x8x128.size a := fun v151 v154 v175 k0_hw55 => k0_hw55

def k0_chk56 (v151 : IVec S16 32) (v154 : IVec S16 32) (v179 : IVec S16 32) : Prop :=
  (∀ a x, ((![v154, v179, v151] : Fin 3 → IVec S16 32) a x).toNat < S25x8x128.size a)
theorem k0_idx56_inb : ∀ (v151 : IVec S16 32) (v154 : IVec S16 32) (v179 : IVec S16 32) (k0_hw56 : k0_chk56 v151 v154 v179), ∀ a x, ((![v154, v179, v151] : Fin 3 → IVec S16 32) a x).toNat < S25x8x128.size a := fun v151 v154 v179 k0_hw56 => k0_hw56

def k0_chk57 (v151 : IVec S16 32) (v154 : IVec S16 32) (v183 : IVec S16 32) : Prop :=
  (∀ a x, ((![v154, v183, v151] : Fin 3 → IVec S16 32) a x).toNat < S25x8x128.size a)
theorem k0_idx57_inb : ∀ (v151 : IVec S16 32) (v154 : IVec S16 32) (v183 : IVec S16 32) (k0_hw57 : k0_chk57 v151 v154 v183), ∀ a x, ((![v154, v183, v151] : Fin 3 → IVec S16 32) a x).toNat < S25x8x128.size a := fun v151 v154 v183 k0_hw57 => k0_hw57
def k0_off61 (k0_t30 : Fin k0_t30_loop.trips) : Fin 3 → Nat :=
  let c3_i32_369 : BitVec 32 := 3#32
  let v189 : Index := Scalar.indexCast c3_i32_369
  let c0_i32_370 : BitVec 32 := 0#32
  let v190 : Index := Scalar.indexCast c0_i32_370
  let c0_i32_338 : BitVec 32 := 0#32
  let c0_i32_193 : BitVec 32 := 0#32
  let c1_i32_195 : BitVec 32 := 1#32
  let arg14 : BitVec 32 := Scf.iv c0_i32_193 c1_i32_195 k0_t30
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![3, 0, v191.toNat]
def k0_off62 (k0_t30 : Fin k0_t30_loop.trips) : Fin 3 → Nat :=
  let c3_i32_374 : BitVec 32 := 3#32
  let v195 : Index := Scalar.indexCast c3_i32_374
  let c1_i32_375 : BitVec 32 := 1#32
  let v196 : Index := Scalar.indexCast c1_i32_375
  let c0_i32_338 : BitVec 32 := 0#32
  let c0_i32_193 : BitVec 32 := 0#32
  let c1_i32_195 : BitVec 32 := 1#32
  let arg14 : BitVec 32 := Scf.iv c0_i32_193 c1_i32_195 k0_t30
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![3, 1, v197.toNat]
def k0_off63 (k0_t30 : Fin k0_t30_loop.trips) : Fin 3 → Nat :=
  let c3_i32_379 : BitVec 32 := 3#32
  let v201 : Index := Scalar.indexCast c3_i32_379
  let c2_i32_380 : BitVec 32 := 2#32
  let v202 : Index := Scalar.indexCast c2_i32_380
  let c0_i32_338 : BitVec 32 := 0#32
  let c0_i32_193 : BitVec 32 := 0#32
  let c1_i32_195 : BitVec 32 := 1#32
  let arg14 : BitVec 32 := Scf.iv c0_i32_193 c1_i32_195 k0_t30
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![3, 2, v203.toNat]
def k0_off64 (k0_t30 : Fin k0_t30_loop.trips) : Fin 3 → Nat :=
  let c3_i32_384 : BitVec 32 := 3#32
  let v207 : Index := Scalar.indexCast c3_i32_384
  let c3_i32_385 : BitVec 32 := 3#32
  let v208 : Index := Scalar.indexCast c3_i32_385
  let c0_i32_338 : BitVec 32 := 0#32
  let c0_i32_193 : BitVec 32 := 0#32
  let c1_i32_195 : BitVec 32 := 1#32
  let arg14 : BitVec 32 := Scf.iv c0_i32_193 c1_i32_195 k0_t30
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![3, 3, v209.toNat]
def k0_off65 (k0_t30 : Fin k0_t30_loop.trips) : Fin 3 → Nat :=
  let c3_i32_389 : BitVec 32 := 3#32
  let v213 : Index := Scalar.indexCast c3_i32_389
  let c4_i32_390 : BitVec 32 := 4#32
  let v214 : Index := Scalar.indexCast c4_i32_390
  let c0_i32_338 : BitVec 32 := 0#32
  let c0_i32_193 : BitVec 32 := 0#32
  let c1_i32_195 : BitVec 32 := 1#32
  let arg14 : BitVec 32 := Scf.iv c0_i32_193 c1_i32_195 k0_t30
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![3, 4, v215.toNat]
def k0_off66 (k0_t30 : Fin k0_t30_loop.trips) : Fin 3 → Nat :=
  let c3_i32_394 : BitVec 32 := 3#32
  let v219 : Index := Scalar.indexCast c3_i32_394
  let c5_i32_395 : BitVec 32 := 5#32
  let v220 : Index := Scalar.indexCast c5_i32_395
  let c0_i32_338 : BitVec 32 := 0#32
  let c0_i32_193 : BitVec 32 := 0#32
  let c1_i32_195 : BitVec 32 := 1#32
  let arg14 : BitVec 32 := Scf.iv c0_i32_193 c1_i32_195 k0_t30
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![3, 5, v221.toNat]
def k0_off67 (k0_t30 : Fin k0_t30_loop.trips) : Fin 3 → Nat :=
  let c3_i32_399 : BitVec 32 := 3#32
  let v225 : Index := Scalar.indexCast c3_i32_399
  let c6_i32_400 : BitVec 32 := 6#32
  let v226 : Index := Scalar.indexCast c6_i32_400
  let c0_i32_338 : BitVec 32 := 0#32
  let c0_i32_193 : BitVec 32 := 0#32
  let c1_i32_195 : BitVec 32 := 1#32
  let arg14 : BitVec 32 := Scf.iv c0_i32_193 c1_i32_195 k0_t30
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![3, 6, v227.toNat]
def k0_off68 (k0_t30 : Fin k0_t30_loop.trips) : Fin 3 → Nat :=
  let c3_i32_404 : BitVec 32 := 3#32
  let v231 : Index := Scalar.indexCast c3_i32_404
  let c7_i32_405 : BitVec 32 := 7#32
  let v232 : Index := Scalar.indexCast c7_i32_405
  let c0_i32_338 : BitVec 32 := 0#32
  let c0_i32_193 : BitVec 32 := 0#32
  let c1_i32_195 : BitVec 32 := 1#32
  let arg14 : BitVec 32 := Scf.iv c0_i32_193 c1_i32_195 k0_t30
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![3, 7, v233.toNat]
@[reducible] def k0_t31_loop : Scf.Loop 32 :=
  let c0_i32_199 : BitVec 32 := 0#32
  let c8_i32_200 : BitVec 32 := 8#32
  let v111 : BitVec 32 := Scalar.addi c0_i32_199 c8_i32_200
  let c1_i32_201 : BitVec 32 := 1#32
  ⟨c0_i32_199, v111, c1_i32_201⟩
def k0_off69 (k0_t31 : Fin k0_t31_loop.trips) : Fin 1 → Nat :=
  let c512_i32_339 : BitVec 32 := 512#32
  let c0_i32_338 : BitVec 32 := 0#32
  let c0_i32_199 : BitVec 32 := 0#32
  let c1_i32_201 : BitVec 32 := 1#32
  let arg14 : BitVec 32 := Scf.iv c0_i32_199 c1_i32_201 k0_t31
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c512_i32_339 v149
  let v153 : Index := Scalar.indexCast v152
  ![v153.toNat]

def k0_chk58 (v151 : IVec S16 32) (v154 : IVec S16 32) (v155 : IVec S16 32) : Prop :=
  (∀ a x, ((![v154, v155, v151] : Fin 3 → IVec S16 32) a x).toNat < S25x8x128.size a)
theorem k0_idx58_inb : ∀ (v151 : IVec S16 32) (v154 : IVec S16 32) (v155 : IVec S16 32) (k0_hw58 : k0_chk58 v151 v154 v155), ∀ a x, ((![v154, v155, v151] : Fin 3 → IVec S16 32) a x).toNat < S25x8x128.size a := fun v151 v154 v155 k0_hw58 => k0_hw58

def k0_chk59 (v151 : IVec S16 32) (v154 : IVec S16 32) (v159 : IVec S16 32) : Prop :=
  (∀ a x, ((![v154, v159, v151] : Fin 3 → IVec S16 32) a x).toNat < S25x8x128.size a)
theorem k0_idx59_inb : ∀ (v151 : IVec S16 32) (v154 : IVec S16 32) (v159 : IVec S16 32) (k0_hw59 : k0_chk59 v151 v154 v159), ∀ a x, ((![v154, v159, v151] : Fin 3 → IVec S16 32) a x).toNat < S25x8x128.size a := fun v151 v154 v159 k0_hw59 => k0_hw59

def k0_chk60 (v151 : IVec S16 32) (v154 : IVec S16 32) (v163 : IVec S16 32) : Prop :=
  (∀ a x, ((![v154, v163, v151] : Fin 3 → IVec S16 32) a x).toNat < S25x8x128.size a)
theorem k0_idx60_inb : ∀ (v151 : IVec S16 32) (v154 : IVec S16 32) (v163 : IVec S16 32) (k0_hw60 : k0_chk60 v151 v154 v163), ∀ a x, ((![v154, v163, v151] : Fin 3 → IVec S16 32) a x).toNat < S25x8x128.size a := fun v151 v154 v163 k0_hw60 => k0_hw60

def k0_chk61 (v151 : IVec S16 32) (v154 : IVec S16 32) (v167 : IVec S16 32) : Prop :=
  (∀ a x, ((![v154, v167, v151] : Fin 3 → IVec S16 32) a x).toNat < S25x8x128.size a)
theorem k0_idx61_inb : ∀ (v151 : IVec S16 32) (v154 : IVec S16 32) (v167 : IVec S16 32) (k0_hw61 : k0_chk61 v151 v154 v167), ∀ a x, ((![v154, v167, v151] : Fin 3 → IVec S16 32) a x).toNat < S25x8x128.size a := fun v151 v154 v167 k0_hw61 => k0_hw61

def k0_chk62 (v151 : IVec S16 32) (v154 : IVec S16 32) (v171 : IVec S16 32) : Prop :=
  (∀ a x, ((![v154, v171, v151] : Fin 3 → IVec S16 32) a x).toNat < S25x8x128.size a)
theorem k0_idx62_inb : ∀ (v151 : IVec S16 32) (v154 : IVec S16 32) (v171 : IVec S16 32) (k0_hw62 : k0_chk62 v151 v154 v171), ∀ a x, ((![v154, v171, v151] : Fin 3 → IVec S16 32) a x).toNat < S25x8x128.size a := fun v151 v154 v171 k0_hw62 => k0_hw62

def k0_chk63 (v151 : IVec S16 32) (v154 : IVec S16 32) (v175 : IVec S16 32) : Prop :=
  (∀ a x, ((![v154, v175, v151] : Fin 3 → IVec S16 32) a x).toNat < S25x8x128.size a)
theorem k0_idx63_inb : ∀ (v151 : IVec S16 32) (v154 : IVec S16 32) (v175 : IVec S16 32) (k0_hw63 : k0_chk63 v151 v154 v175), ∀ a x, ((![v154, v175, v151] : Fin 3 → IVec S16 32) a x).toNat < S25x8x128.size a := fun v151 v154 v175 k0_hw63 => k0_hw63

def k0_chk64 (v151 : IVec S16 32) (v154 : IVec S16 32) (v179 : IVec S16 32) : Prop :=
  (∀ a x, ((![v154, v179, v151] : Fin 3 → IVec S16 32) a x).toNat < S25x8x128.size a)
theorem k0_idx64_inb : ∀ (v151 : IVec S16 32) (v154 : IVec S16 32) (v179 : IVec S16 32) (k0_hw64 : k0_chk64 v151 v154 v179), ∀ a x, ((![v154, v179, v151] : Fin 3 → IVec S16 32) a x).toNat < S25x8x128.size a := fun v151 v154 v179 k0_hw64 => k0_hw64

def k0_chk65 (v151 : IVec S16 32) (v154 : IVec S16 32) (v183 : IVec S16 32) : Prop :=
  (∀ a x, ((![v154, v183, v151] : Fin 3 → IVec S16 32) a x).toNat < S25x8x128.size a)
theorem k0_idx65_inb : ∀ (v151 : IVec S16 32) (v154 : IVec S16 32) (v183 : IVec S16 32) (k0_hw65 : k0_chk65 v151 v154 v183), ∀ a x, ((![v154, v183, v151] : Fin 3 → IVec S16 32) a x).toNat < S25x8x128.size a := fun v151 v154 v183 k0_hw65 => k0_hw65
def k0_off70 (k0_t31 : Fin k0_t31_loop.trips) : Fin 3 → Nat :=
  let c4_i32_369 : BitVec 32 := 4#32
  let v189 : Index := Scalar.indexCast c4_i32_369
  let c0_i32_370 : BitVec 32 := 0#32
  let v190 : Index := Scalar.indexCast c0_i32_370
  let c0_i32_338 : BitVec 32 := 0#32
  let c0_i32_199 : BitVec 32 := 0#32
  let c1_i32_201 : BitVec 32 := 1#32
  let arg14 : BitVec 32 := Scf.iv c0_i32_199 c1_i32_201 k0_t31
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![4, 0, v191.toNat]
def k0_off71 (k0_t31 : Fin k0_t31_loop.trips) : Fin 3 → Nat :=
  let c4_i32_374 : BitVec 32 := 4#32
  let v195 : Index := Scalar.indexCast c4_i32_374
  let c1_i32_375 : BitVec 32 := 1#32
  let v196 : Index := Scalar.indexCast c1_i32_375
  let c0_i32_338 : BitVec 32 := 0#32
  let c0_i32_199 : BitVec 32 := 0#32
  let c1_i32_201 : BitVec 32 := 1#32
  let arg14 : BitVec 32 := Scf.iv c0_i32_199 c1_i32_201 k0_t31
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![4, 1, v197.toNat]
def k0_off72 (k0_t31 : Fin k0_t31_loop.trips) : Fin 3 → Nat :=
  let c4_i32_379 : BitVec 32 := 4#32
  let v201 : Index := Scalar.indexCast c4_i32_379
  let c2_i32_380 : BitVec 32 := 2#32
  let v202 : Index := Scalar.indexCast c2_i32_380
  let c0_i32_338 : BitVec 32 := 0#32
  let c0_i32_199 : BitVec 32 := 0#32
  let c1_i32_201 : BitVec 32 := 1#32
  let arg14 : BitVec 32 := Scf.iv c0_i32_199 c1_i32_201 k0_t31
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![4, 2, v203.toNat]
def k0_off73 (k0_t31 : Fin k0_t31_loop.trips) : Fin 3 → Nat :=
  let c4_i32_384 : BitVec 32 := 4#32
  let v207 : Index := Scalar.indexCast c4_i32_384
  let c3_i32_385 : BitVec 32 := 3#32
  let v208 : Index := Scalar.indexCast c3_i32_385
  let c0_i32_338 : BitVec 32 := 0#32
  let c0_i32_199 : BitVec 32 := 0#32
  let c1_i32_201 : BitVec 32 := 1#32
  let arg14 : BitVec 32 := Scf.iv c0_i32_199 c1_i32_201 k0_t31
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![4, 3, v209.toNat]
def k0_off74 (k0_t31 : Fin k0_t31_loop.trips) : Fin 3 → Nat :=
  let c4_i32_389 : BitVec 32 := 4#32
  let v213 : Index := Scalar.indexCast c4_i32_389
  let c4_i32_390 : BitVec 32 := 4#32
  let v214 : Index := Scalar.indexCast c4_i32_390
  let c0_i32_338 : BitVec 32 := 0#32
  let c0_i32_199 : BitVec 32 := 0#32
  let c1_i32_201 : BitVec 32 := 1#32
  let arg14 : BitVec 32 := Scf.iv c0_i32_199 c1_i32_201 k0_t31
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![4, 4, v215.toNat]
def k0_off75 (k0_t31 : Fin k0_t31_loop.trips) : Fin 3 → Nat :=
  let c4_i32_394 : BitVec 32 := 4#32
  let v219 : Index := Scalar.indexCast c4_i32_394
  let c5_i32_395 : BitVec 32 := 5#32
  let v220 : Index := Scalar.indexCast c5_i32_395
  let c0_i32_338 : BitVec 32 := 0#32
  let c0_i32_199 : BitVec 32 := 0#32
  let c1_i32_201 : BitVec 32 := 1#32
  let arg14 : BitVec 32 := Scf.iv c0_i32_199 c1_i32_201 k0_t31
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![4, 5, v221.toNat]
def k0_off76 (k0_t31 : Fin k0_t31_loop.trips) : Fin 3 → Nat :=
  let c4_i32_399 : BitVec 32 := 4#32
  let v225 : Index := Scalar.indexCast c4_i32_399
  let c6_i32_400 : BitVec 32 := 6#32
  let v226 : Index := Scalar.indexCast c6_i32_400
  let c0_i32_338 : BitVec 32 := 0#32
  let c0_i32_199 : BitVec 32 := 0#32
  let c1_i32_201 : BitVec 32 := 1#32
  let arg14 : BitVec 32 := Scf.iv c0_i32_199 c1_i32_201 k0_t31
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![4, 6, v227.toNat]
def k0_off77 (k0_t31 : Fin k0_t31_loop.trips) : Fin 3 → Nat :=
  let c4_i32_404 : BitVec 32 := 4#32
  let v231 : Index := Scalar.indexCast c4_i32_404
  let c7_i32_405 : BitVec 32 := 7#32
  let v232 : Index := Scalar.indexCast c7_i32_405
  let c0_i32_338 : BitVec 32 := 0#32
  let c0_i32_199 : BitVec 32 := 0#32
  let c1_i32_201 : BitVec 32 := 1#32
  let arg14 : BitVec 32 := Scf.iv c0_i32_199 c1_i32_201 k0_t31
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![4, 7, v233.toNat]
@[reducible] def k0_t32_loop : Scf.Loop 32 :=
  let c0_i32_205 : BitVec 32 := 0#32
  let c8_i32_206 : BitVec 32 := 8#32
  let v112 : BitVec 32 := Scalar.addi c0_i32_205 c8_i32_206
  let c1_i32_207 : BitVec 32 := 1#32
  ⟨c0_i32_205, v112, c1_i32_207⟩
def k0_off78 (k0_t32 : Fin k0_t32_loop.trips) : Fin 1 → Nat :=
  let c640_i32_339 : BitVec 32 := 640#32
  let c0_i32_338 : BitVec 32 := 0#32
  let c0_i32_205 : BitVec 32 := 0#32
  let c1_i32_207 : BitVec 32 := 1#32
  let arg14 : BitVec 32 := Scf.iv c0_i32_205 c1_i32_207 k0_t32
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c640_i32_339 v149
  let v153 : Index := Scalar.indexCast v152
  ![v153.toNat]

def k0_chk66 (v151 : IVec S16 32) (v154 : IVec S16 32) (v155 : IVec S16 32) : Prop :=
  (∀ a x, ((![v154, v155, v151] : Fin 3 → IVec S16 32) a x).toNat < S25x8x128.size a)
theorem k0_idx66_inb : ∀ (v151 : IVec S16 32) (v154 : IVec S16 32) (v155 : IVec S16 32) (k0_hw66 : k0_chk66 v151 v154 v155), ∀ a x, ((![v154, v155, v151] : Fin 3 → IVec S16 32) a x).toNat < S25x8x128.size a := fun v151 v154 v155 k0_hw66 => k0_hw66

def k0_chk67 (v151 : IVec S16 32) (v154 : IVec S16 32) (v159 : IVec S16 32) : Prop :=
  (∀ a x, ((![v154, v159, v151] : Fin 3 → IVec S16 32) a x).toNat < S25x8x128.size a)
theorem k0_idx67_inb : ∀ (v151 : IVec S16 32) (v154 : IVec S16 32) (v159 : IVec S16 32) (k0_hw67 : k0_chk67 v151 v154 v159), ∀ a x, ((![v154, v159, v151] : Fin 3 → IVec S16 32) a x).toNat < S25x8x128.size a := fun v151 v154 v159 k0_hw67 => k0_hw67

def k0_chk68 (v151 : IVec S16 32) (v154 : IVec S16 32) (v163 : IVec S16 32) : Prop :=
  (∀ a x, ((![v154, v163, v151] : Fin 3 → IVec S16 32) a x).toNat < S25x8x128.size a)
theorem k0_idx68_inb : ∀ (v151 : IVec S16 32) (v154 : IVec S16 32) (v163 : IVec S16 32) (k0_hw68 : k0_chk68 v151 v154 v163), ∀ a x, ((![v154, v163, v151] : Fin 3 → IVec S16 32) a x).toNat < S25x8x128.size a := fun v151 v154 v163 k0_hw68 => k0_hw68

def k0_chk69 (v151 : IVec S16 32) (v154 : IVec S16 32) (v167 : IVec S16 32) : Prop :=
  (∀ a x, ((![v154, v167, v151] : Fin 3 → IVec S16 32) a x).toNat < S25x8x128.size a)
theorem k0_idx69_inb : ∀ (v151 : IVec S16 32) (v154 : IVec S16 32) (v167 : IVec S16 32) (k0_hw69 : k0_chk69 v151 v154 v167), ∀ a x, ((![v154, v167, v151] : Fin 3 → IVec S16 32) a x).toNat < S25x8x128.size a := fun v151 v154 v167 k0_hw69 => k0_hw69

def k0_chk70 (v151 : IVec S16 32) (v154 : IVec S16 32) (v171 : IVec S16 32) : Prop :=
  (∀ a x, ((![v154, v171, v151] : Fin 3 → IVec S16 32) a x).toNat < S25x8x128.size a)
theorem k0_idx70_inb : ∀ (v151 : IVec S16 32) (v154 : IVec S16 32) (v171 : IVec S16 32) (k0_hw70 : k0_chk70 v151 v154 v171), ∀ a x, ((![v154, v171, v151] : Fin 3 → IVec S16 32) a x).toNat < S25x8x128.size a := fun v151 v154 v171 k0_hw70 => k0_hw70

def k0_chk71 (v151 : IVec S16 32) (v154 : IVec S16 32) (v175 : IVec S16 32) : Prop :=
  (∀ a x, ((![v154, v175, v151] : Fin 3 → IVec S16 32) a x).toNat < S25x8x128.size a)
theorem k0_idx71_inb : ∀ (v151 : IVec S16 32) (v154 : IVec S16 32) (v175 : IVec S16 32) (k0_hw71 : k0_chk71 v151 v154 v175), ∀ a x, ((![v154, v175, v151] : Fin 3 → IVec S16 32) a x).toNat < S25x8x128.size a := fun v151 v154 v175 k0_hw71 => k0_hw71

def k0_chk72 (v151 : IVec S16 32) (v154 : IVec S16 32) (v179 : IVec S16 32) : Prop :=
  (∀ a x, ((![v154, v179, v151] : Fin 3 → IVec S16 32) a x).toNat < S25x8x128.size a)
theorem k0_idx72_inb : ∀ (v151 : IVec S16 32) (v154 : IVec S16 32) (v179 : IVec S16 32) (k0_hw72 : k0_chk72 v151 v154 v179), ∀ a x, ((![v154, v179, v151] : Fin 3 → IVec S16 32) a x).toNat < S25x8x128.size a := fun v151 v154 v179 k0_hw72 => k0_hw72

def k0_chk73 (v151 : IVec S16 32) (v154 : IVec S16 32) (v183 : IVec S16 32) : Prop :=
  (∀ a x, ((![v154, v183, v151] : Fin 3 → IVec S16 32) a x).toNat < S25x8x128.size a)
theorem k0_idx73_inb : ∀ (v151 : IVec S16 32) (v154 : IVec S16 32) (v183 : IVec S16 32) (k0_hw73 : k0_chk73 v151 v154 v183), ∀ a x, ((![v154, v183, v151] : Fin 3 → IVec S16 32) a x).toNat < S25x8x128.size a := fun v151 v154 v183 k0_hw73 => k0_hw73
def k0_off79 (k0_t32 : Fin k0_t32_loop.trips) : Fin 3 → Nat :=
  let c5_i32_369 : BitVec 32 := 5#32
  let v189 : Index := Scalar.indexCast c5_i32_369
  let c0_i32_370 : BitVec 32 := 0#32
  let v190 : Index := Scalar.indexCast c0_i32_370
  let c0_i32_338 : BitVec 32 := 0#32
  let c0_i32_205 : BitVec 32 := 0#32
  let c1_i32_207 : BitVec 32 := 1#32
  let arg14 : BitVec 32 := Scf.iv c0_i32_205 c1_i32_207 k0_t32
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![5, 0, v191.toNat]
def k0_off80 (k0_t32 : Fin k0_t32_loop.trips) : Fin 3 → Nat :=
  let c5_i32_374 : BitVec 32 := 5#32
  let v195 : Index := Scalar.indexCast c5_i32_374
  let c1_i32_375 : BitVec 32 := 1#32
  let v196 : Index := Scalar.indexCast c1_i32_375
  let c0_i32_338 : BitVec 32 := 0#32
  let c0_i32_205 : BitVec 32 := 0#32
  let c1_i32_207 : BitVec 32 := 1#32
  let arg14 : BitVec 32 := Scf.iv c0_i32_205 c1_i32_207 k0_t32
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![5, 1, v197.toNat]
def k0_off81 (k0_t32 : Fin k0_t32_loop.trips) : Fin 3 → Nat :=
  let c5_i32_379 : BitVec 32 := 5#32
  let v201 : Index := Scalar.indexCast c5_i32_379
  let c2_i32_380 : BitVec 32 := 2#32
  let v202 : Index := Scalar.indexCast c2_i32_380
  let c0_i32_338 : BitVec 32 := 0#32
  let c0_i32_205 : BitVec 32 := 0#32
  let c1_i32_207 : BitVec 32 := 1#32
  let arg14 : BitVec 32 := Scf.iv c0_i32_205 c1_i32_207 k0_t32
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![5, 2, v203.toNat]
def k0_off82 (k0_t32 : Fin k0_t32_loop.trips) : Fin 3 → Nat :=
  let c5_i32_384 : BitVec 32 := 5#32
  let v207 : Index := Scalar.indexCast c5_i32_384
  let c3_i32_385 : BitVec 32 := 3#32
  let v208 : Index := Scalar.indexCast c3_i32_385
  let c0_i32_338 : BitVec 32 := 0#32
  let c0_i32_205 : BitVec 32 := 0#32
  let c1_i32_207 : BitVec 32 := 1#32
  let arg14 : BitVec 32 := Scf.iv c0_i32_205 c1_i32_207 k0_t32
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![5, 3, v209.toNat]
def k0_off83 (k0_t32 : Fin k0_t32_loop.trips) : Fin 3 → Nat :=
  let c5_i32_389 : BitVec 32 := 5#32
  let v213 : Index := Scalar.indexCast c5_i32_389
  let c4_i32_390 : BitVec 32 := 4#32
  let v214 : Index := Scalar.indexCast c4_i32_390
  let c0_i32_338 : BitVec 32 := 0#32
  let c0_i32_205 : BitVec 32 := 0#32
  let c1_i32_207 : BitVec 32 := 1#32
  let arg14 : BitVec 32 := Scf.iv c0_i32_205 c1_i32_207 k0_t32
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![5, 4, v215.toNat]
def k0_off84 (k0_t32 : Fin k0_t32_loop.trips) : Fin 3 → Nat :=
  let c5_i32_394 : BitVec 32 := 5#32
  let v219 : Index := Scalar.indexCast c5_i32_394
  let c5_i32_395 : BitVec 32 := 5#32
  let v220 : Index := Scalar.indexCast c5_i32_395
  let c0_i32_338 : BitVec 32 := 0#32
  let c0_i32_205 : BitVec 32 := 0#32
  let c1_i32_207 : BitVec 32 := 1#32
  let arg14 : BitVec 32 := Scf.iv c0_i32_205 c1_i32_207 k0_t32
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![5, 5, v221.toNat]
def k0_off85 (k0_t32 : Fin k0_t32_loop.trips) : Fin 3 → Nat :=
  let c5_i32_399 : BitVec 32 := 5#32
  let v225 : Index := Scalar.indexCast c5_i32_399
  let c6_i32_400 : BitVec 32 := 6#32
  let v226 : Index := Scalar.indexCast c6_i32_400
  let c0_i32_338 : BitVec 32 := 0#32
  let c0_i32_205 : BitVec 32 := 0#32
  let c1_i32_207 : BitVec 32 := 1#32
  let arg14 : BitVec 32 := Scf.iv c0_i32_205 c1_i32_207 k0_t32
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![5, 6, v227.toNat]
def k0_off86 (k0_t32 : Fin k0_t32_loop.trips) : Fin 3 → Nat :=
  let c5_i32_404 : BitVec 32 := 5#32
  let v231 : Index := Scalar.indexCast c5_i32_404
  let c7_i32_405 : BitVec 32 := 7#32
  let v232 : Index := Scalar.indexCast c7_i32_405
  let c0_i32_338 : BitVec 32 := 0#32
  let c0_i32_205 : BitVec 32 := 0#32
  let c1_i32_207 : BitVec 32 := 1#32
  let arg14 : BitVec 32 := Scf.iv c0_i32_205 c1_i32_207 k0_t32
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![5, 7, v233.toNat]
@[reducible] def k0_t33_loop : Scf.Loop 32 :=
  let c0_i32_211 : BitVec 32 := 0#32
  let c8_i32_212 : BitVec 32 := 8#32
  let v113 : BitVec 32 := Scalar.addi c0_i32_211 c8_i32_212
  let c1_i32_213 : BitVec 32 := 1#32
  ⟨c0_i32_211, v113, c1_i32_213⟩
def k0_off87 (k0_t33 : Fin k0_t33_loop.trips) : Fin 1 → Nat :=
  let c768_i32_339 : BitVec 32 := 768#32
  let c0_i32_338 : BitVec 32 := 0#32
  let c0_i32_211 : BitVec 32 := 0#32
  let c1_i32_213 : BitVec 32 := 1#32
  let arg14 : BitVec 32 := Scf.iv c0_i32_211 c1_i32_213 k0_t33
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c768_i32_339 v149
  let v153 : Index := Scalar.indexCast v152
  ![v153.toNat]

def k0_chk74 (v151 : IVec S16 32) (v154 : IVec S16 32) (v155 : IVec S16 32) : Prop :=
  (∀ a x, ((![v154, v155, v151] : Fin 3 → IVec S16 32) a x).toNat < S25x8x128.size a)
theorem k0_idx74_inb : ∀ (v151 : IVec S16 32) (v154 : IVec S16 32) (v155 : IVec S16 32) (k0_hw74 : k0_chk74 v151 v154 v155), ∀ a x, ((![v154, v155, v151] : Fin 3 → IVec S16 32) a x).toNat < S25x8x128.size a := fun v151 v154 v155 k0_hw74 => k0_hw74

def k0_chk75 (v151 : IVec S16 32) (v154 : IVec S16 32) (v159 : IVec S16 32) : Prop :=
  (∀ a x, ((![v154, v159, v151] : Fin 3 → IVec S16 32) a x).toNat < S25x8x128.size a)
theorem k0_idx75_inb : ∀ (v151 : IVec S16 32) (v154 : IVec S16 32) (v159 : IVec S16 32) (k0_hw75 : k0_chk75 v151 v154 v159), ∀ a x, ((![v154, v159, v151] : Fin 3 → IVec S16 32) a x).toNat < S25x8x128.size a := fun v151 v154 v159 k0_hw75 => k0_hw75

def k0_chk76 (v151 : IVec S16 32) (v154 : IVec S16 32) (v163 : IVec S16 32) : Prop :=
  (∀ a x, ((![v154, v163, v151] : Fin 3 → IVec S16 32) a x).toNat < S25x8x128.size a)
theorem k0_idx76_inb : ∀ (v151 : IVec S16 32) (v154 : IVec S16 32) (v163 : IVec S16 32) (k0_hw76 : k0_chk76 v151 v154 v163), ∀ a x, ((![v154, v163, v151] : Fin 3 → IVec S16 32) a x).toNat < S25x8x128.size a := fun v151 v154 v163 k0_hw76 => k0_hw76

def k0_chk77 (v151 : IVec S16 32) (v154 : IVec S16 32) (v167 : IVec S16 32) : Prop :=
  (∀ a x, ((![v154, v167, v151] : Fin 3 → IVec S16 32) a x).toNat < S25x8x128.size a)
theorem k0_idx77_inb : ∀ (v151 : IVec S16 32) (v154 : IVec S16 32) (v167 : IVec S16 32) (k0_hw77 : k0_chk77 v151 v154 v167), ∀ a x, ((![v154, v167, v151] : Fin 3 → IVec S16 32) a x).toNat < S25x8x128.size a := fun v151 v154 v167 k0_hw77 => k0_hw77

def k0_chk78 (v151 : IVec S16 32) (v154 : IVec S16 32) (v171 : IVec S16 32) : Prop :=
  (∀ a x, ((![v154, v171, v151] : Fin 3 → IVec S16 32) a x).toNat < S25x8x128.size a)
theorem k0_idx78_inb : ∀ (v151 : IVec S16 32) (v154 : IVec S16 32) (v171 : IVec S16 32) (k0_hw78 : k0_chk78 v151 v154 v171), ∀ a x, ((![v154, v171, v151] : Fin 3 → IVec S16 32) a x).toNat < S25x8x128.size a := fun v151 v154 v171 k0_hw78 => k0_hw78

def k0_chk79 (v151 : IVec S16 32) (v154 : IVec S16 32) (v175 : IVec S16 32) : Prop :=
  (∀ a x, ((![v154, v175, v151] : Fin 3 → IVec S16 32) a x).toNat < S25x8x128.size a)
theorem k0_idx79_inb : ∀ (v151 : IVec S16 32) (v154 : IVec S16 32) (v175 : IVec S16 32) (k0_hw79 : k0_chk79 v151 v154 v175), ∀ a x, ((![v154, v175, v151] : Fin 3 → IVec S16 32) a x).toNat < S25x8x128.size a := fun v151 v154 v175 k0_hw79 => k0_hw79

def k0_chk80 (v151 : IVec S16 32) (v154 : IVec S16 32) (v179 : IVec S16 32) : Prop :=
  (∀ a x, ((![v154, v179, v151] : Fin 3 → IVec S16 32) a x).toNat < S25x8x128.size a)
theorem k0_idx80_inb : ∀ (v151 : IVec S16 32) (v154 : IVec S16 32) (v179 : IVec S16 32) (k0_hw80 : k0_chk80 v151 v154 v179), ∀ a x, ((![v154, v179, v151] : Fin 3 → IVec S16 32) a x).toNat < S25x8x128.size a := fun v151 v154 v179 k0_hw80 => k0_hw80

def k0_chk81 (v151 : IVec S16 32) (v154 : IVec S16 32) (v183 : IVec S16 32) : Prop :=
  (∀ a x, ((![v154, v183, v151] : Fin 3 → IVec S16 32) a x).toNat < S25x8x128.size a)
theorem k0_idx81_inb : ∀ (v151 : IVec S16 32) (v154 : IVec S16 32) (v183 : IVec S16 32) (k0_hw81 : k0_chk81 v151 v154 v183), ∀ a x, ((![v154, v183, v151] : Fin 3 → IVec S16 32) a x).toNat < S25x8x128.size a := fun v151 v154 v183 k0_hw81 => k0_hw81
def k0_off88 (k0_t33 : Fin k0_t33_loop.trips) : Fin 3 → Nat :=
  let c6_i32_369 : BitVec 32 := 6#32
  let v189 : Index := Scalar.indexCast c6_i32_369
  let c0_i32_370 : BitVec 32 := 0#32
  let v190 : Index := Scalar.indexCast c0_i32_370
  let c0_i32_338 : BitVec 32 := 0#32
  let c0_i32_211 : BitVec 32 := 0#32
  let c1_i32_213 : BitVec 32 := 1#32
  let arg14 : BitVec 32 := Scf.iv c0_i32_211 c1_i32_213 k0_t33
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![6, 0, v191.toNat]
def k0_off89 (k0_t33 : Fin k0_t33_loop.trips) : Fin 3 → Nat :=
  let c6_i32_374 : BitVec 32 := 6#32
  let v195 : Index := Scalar.indexCast c6_i32_374
  let c1_i32_375 : BitVec 32 := 1#32
  let v196 : Index := Scalar.indexCast c1_i32_375
  let c0_i32_338 : BitVec 32 := 0#32
  let c0_i32_211 : BitVec 32 := 0#32
  let c1_i32_213 : BitVec 32 := 1#32
  let arg14 : BitVec 32 := Scf.iv c0_i32_211 c1_i32_213 k0_t33
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![6, 1, v197.toNat]
def k0_off90 (k0_t33 : Fin k0_t33_loop.trips) : Fin 3 → Nat :=
  let c6_i32_379 : BitVec 32 := 6#32
  let v201 : Index := Scalar.indexCast c6_i32_379
  let c2_i32_380 : BitVec 32 := 2#32
  let v202 : Index := Scalar.indexCast c2_i32_380
  let c0_i32_338 : BitVec 32 := 0#32
  let c0_i32_211 : BitVec 32 := 0#32
  let c1_i32_213 : BitVec 32 := 1#32
  let arg14 : BitVec 32 := Scf.iv c0_i32_211 c1_i32_213 k0_t33
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![6, 2, v203.toNat]
def k0_off91 (k0_t33 : Fin k0_t33_loop.trips) : Fin 3 → Nat :=
  let c6_i32_384 : BitVec 32 := 6#32
  let v207 : Index := Scalar.indexCast c6_i32_384
  let c3_i32_385 : BitVec 32 := 3#32
  let v208 : Index := Scalar.indexCast c3_i32_385
  let c0_i32_338 : BitVec 32 := 0#32
  let c0_i32_211 : BitVec 32 := 0#32
  let c1_i32_213 : BitVec 32 := 1#32
  let arg14 : BitVec 32 := Scf.iv c0_i32_211 c1_i32_213 k0_t33
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![6, 3, v209.toNat]
def k0_off92 (k0_t33 : Fin k0_t33_loop.trips) : Fin 3 → Nat :=
  let c6_i32_389 : BitVec 32 := 6#32
  let v213 : Index := Scalar.indexCast c6_i32_389
  let c4_i32_390 : BitVec 32 := 4#32
  let v214 : Index := Scalar.indexCast c4_i32_390
  let c0_i32_338 : BitVec 32 := 0#32
  let c0_i32_211 : BitVec 32 := 0#32
  let c1_i32_213 : BitVec 32 := 1#32
  let arg14 : BitVec 32 := Scf.iv c0_i32_211 c1_i32_213 k0_t33
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![6, 4, v215.toNat]
def k0_off93 (k0_t33 : Fin k0_t33_loop.trips) : Fin 3 → Nat :=
  let c6_i32_394 : BitVec 32 := 6#32
  let v219 : Index := Scalar.indexCast c6_i32_394
  let c5_i32_395 : BitVec 32 := 5#32
  let v220 : Index := Scalar.indexCast c5_i32_395
  let c0_i32_338 : BitVec 32 := 0#32
  let c0_i32_211 : BitVec 32 := 0#32
  let c1_i32_213 : BitVec 32 := 1#32
  let arg14 : BitVec 32 := Scf.iv c0_i32_211 c1_i32_213 k0_t33
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![6, 5, v221.toNat]
def k0_off94 (k0_t33 : Fin k0_t33_loop.trips) : Fin 3 → Nat :=
  let c6_i32_399 : BitVec 32 := 6#32
  let v225 : Index := Scalar.indexCast c6_i32_399
  let c6_i32_400 : BitVec 32 := 6#32
  let v226 : Index := Scalar.indexCast c6_i32_400
  let c0_i32_338 : BitVec 32 := 0#32
  let c0_i32_211 : BitVec 32 := 0#32
  let c1_i32_213 : BitVec 32 := 1#32
  let arg14 : BitVec 32 := Scf.iv c0_i32_211 c1_i32_213 k0_t33
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![6, 6, v227.toNat]
def k0_off95 (k0_t33 : Fin k0_t33_loop.trips) : Fin 3 → Nat :=
  let c6_i32_404 : BitVec 32 := 6#32
  let v231 : Index := Scalar.indexCast c6_i32_404
  let c7_i32_405 : BitVec 32 := 7#32
  let v232 : Index := Scalar.indexCast c7_i32_405
  let c0_i32_338 : BitVec 32 := 0#32
  let c0_i32_211 : BitVec 32 := 0#32
  let c1_i32_213 : BitVec 32 := 1#32
  let arg14 : BitVec 32 := Scf.iv c0_i32_211 c1_i32_213 k0_t33
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![6, 7, v233.toNat]
@[reducible] def k0_t34_loop : Scf.Loop 32 :=
  let c0_i32_217 : BitVec 32 := 0#32
  let c8_i32_218 : BitVec 32 := 8#32
  let v114 : BitVec 32 := Scalar.addi c0_i32_217 c8_i32_218
  let c1_i32_219 : BitVec 32 := 1#32
  ⟨c0_i32_217, v114, c1_i32_219⟩
def k0_off96 (k0_t34 : Fin k0_t34_loop.trips) : Fin 1 → Nat :=
  let c896_i32_339 : BitVec 32 := 896#32
  let c0_i32_338 : BitVec 32 := 0#32
  let c0_i32_217 : BitVec 32 := 0#32
  let c1_i32_219 : BitVec 32 := 1#32
  let arg14 : BitVec 32 := Scf.iv c0_i32_217 c1_i32_219 k0_t34
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c896_i32_339 v149
  let v153 : Index := Scalar.indexCast v152
  ![v153.toNat]

def k0_chk82 (v151 : IVec S16 32) (v154 : IVec S16 32) (v155 : IVec S16 32) : Prop :=
  (∀ a x, ((![v154, v155, v151] : Fin 3 → IVec S16 32) a x).toNat < S25x8x128.size a)
theorem k0_idx82_inb : ∀ (v151 : IVec S16 32) (v154 : IVec S16 32) (v155 : IVec S16 32) (k0_hw82 : k0_chk82 v151 v154 v155), ∀ a x, ((![v154, v155, v151] : Fin 3 → IVec S16 32) a x).toNat < S25x8x128.size a := fun v151 v154 v155 k0_hw82 => k0_hw82

def k0_chk83 (v151 : IVec S16 32) (v154 : IVec S16 32) (v159 : IVec S16 32) : Prop :=
  (∀ a x, ((![v154, v159, v151] : Fin 3 → IVec S16 32) a x).toNat < S25x8x128.size a)
theorem k0_idx83_inb : ∀ (v151 : IVec S16 32) (v154 : IVec S16 32) (v159 : IVec S16 32) (k0_hw83 : k0_chk83 v151 v154 v159), ∀ a x, ((![v154, v159, v151] : Fin 3 → IVec S16 32) a x).toNat < S25x8x128.size a := fun v151 v154 v159 k0_hw83 => k0_hw83

def k0_chk84 (v151 : IVec S16 32) (v154 : IVec S16 32) (v163 : IVec S16 32) : Prop :=
  (∀ a x, ((![v154, v163, v151] : Fin 3 → IVec S16 32) a x).toNat < S25x8x128.size a)
theorem k0_idx84_inb : ∀ (v151 : IVec S16 32) (v154 : IVec S16 32) (v163 : IVec S16 32) (k0_hw84 : k0_chk84 v151 v154 v163), ∀ a x, ((![v154, v163, v151] : Fin 3 → IVec S16 32) a x).toNat < S25x8x128.size a := fun v151 v154 v163 k0_hw84 => k0_hw84

def k0_chk85 (v151 : IVec S16 32) (v154 : IVec S16 32) (v167 : IVec S16 32) : Prop :=
  (∀ a x, ((![v154, v167, v151] : Fin 3 → IVec S16 32) a x).toNat < S25x8x128.size a)
theorem k0_idx85_inb : ∀ (v151 : IVec S16 32) (v154 : IVec S16 32) (v167 : IVec S16 32) (k0_hw85 : k0_chk85 v151 v154 v167), ∀ a x, ((![v154, v167, v151] : Fin 3 → IVec S16 32) a x).toNat < S25x8x128.size a := fun v151 v154 v167 k0_hw85 => k0_hw85

def k0_chk86 (v151 : IVec S16 32) (v154 : IVec S16 32) (v171 : IVec S16 32) : Prop :=
  (∀ a x, ((![v154, v171, v151] : Fin 3 → IVec S16 32) a x).toNat < S25x8x128.size a)
theorem k0_idx86_inb : ∀ (v151 : IVec S16 32) (v154 : IVec S16 32) (v171 : IVec S16 32) (k0_hw86 : k0_chk86 v151 v154 v171), ∀ a x, ((![v154, v171, v151] : Fin 3 → IVec S16 32) a x).toNat < S25x8x128.size a := fun v151 v154 v171 k0_hw86 => k0_hw86

def k0_chk87 (v151 : IVec S16 32) (v154 : IVec S16 32) (v175 : IVec S16 32) : Prop :=
  (∀ a x, ((![v154, v175, v151] : Fin 3 → IVec S16 32) a x).toNat < S25x8x128.size a)
theorem k0_idx87_inb : ∀ (v151 : IVec S16 32) (v154 : IVec S16 32) (v175 : IVec S16 32) (k0_hw87 : k0_chk87 v151 v154 v175), ∀ a x, ((![v154, v175, v151] : Fin 3 → IVec S16 32) a x).toNat < S25x8x128.size a := fun v151 v154 v175 k0_hw87 => k0_hw87

def k0_chk88 (v151 : IVec S16 32) (v154 : IVec S16 32) (v179 : IVec S16 32) : Prop :=
  (∀ a x, ((![v154, v179, v151] : Fin 3 → IVec S16 32) a x).toNat < S25x8x128.size a)
theorem k0_idx88_inb : ∀ (v151 : IVec S16 32) (v154 : IVec S16 32) (v179 : IVec S16 32) (k0_hw88 : k0_chk88 v151 v154 v179), ∀ a x, ((![v154, v179, v151] : Fin 3 → IVec S16 32) a x).toNat < S25x8x128.size a := fun v151 v154 v179 k0_hw88 => k0_hw88

def k0_chk89 (v151 : IVec S16 32) (v154 : IVec S16 32) (v183 : IVec S16 32) : Prop :=
  (∀ a x, ((![v154, v183, v151] : Fin 3 → IVec S16 32) a x).toNat < S25x8x128.size a)
theorem k0_idx89_inb : ∀ (v151 : IVec S16 32) (v154 : IVec S16 32) (v183 : IVec S16 32) (k0_hw89 : k0_chk89 v151 v154 v183), ∀ a x, ((![v154, v183, v151] : Fin 3 → IVec S16 32) a x).toNat < S25x8x128.size a := fun v151 v154 v183 k0_hw89 => k0_hw89
def k0_off97 (k0_t34 : Fin k0_t34_loop.trips) : Fin 3 → Nat :=
  let c7_i32_369 : BitVec 32 := 7#32
  let v189 : Index := Scalar.indexCast c7_i32_369
  let c0_i32_370 : BitVec 32 := 0#32
  let v190 : Index := Scalar.indexCast c0_i32_370
  let c0_i32_338 : BitVec 32 := 0#32
  let c0_i32_217 : BitVec 32 := 0#32
  let c1_i32_219 : BitVec 32 := 1#32
  let arg14 : BitVec 32 := Scf.iv c0_i32_217 c1_i32_219 k0_t34
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![7, 0, v191.toNat]
def k0_off98 (k0_t34 : Fin k0_t34_loop.trips) : Fin 3 → Nat :=
  let c7_i32_374 : BitVec 32 := 7#32
  let v195 : Index := Scalar.indexCast c7_i32_374
  let c1_i32_375 : BitVec 32 := 1#32
  let v196 : Index := Scalar.indexCast c1_i32_375
  let c0_i32_338 : BitVec 32 := 0#32
  let c0_i32_217 : BitVec 32 := 0#32
  let c1_i32_219 : BitVec 32 := 1#32
  let arg14 : BitVec 32 := Scf.iv c0_i32_217 c1_i32_219 k0_t34
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![7, 1, v197.toNat]
def k0_off99 (k0_t34 : Fin k0_t34_loop.trips) : Fin 3 → Nat :=
  let c7_i32_379 : BitVec 32 := 7#32
  let v201 : Index := Scalar.indexCast c7_i32_379
  let c2_i32_380 : BitVec 32 := 2#32
  let v202 : Index := Scalar.indexCast c2_i32_380
  let c0_i32_338 : BitVec 32 := 0#32
  let c0_i32_217 : BitVec 32 := 0#32
  let c1_i32_219 : BitVec 32 := 1#32
  let arg14 : BitVec 32 := Scf.iv c0_i32_217 c1_i32_219 k0_t34
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![7, 2, v203.toNat]
def k0_off100 (k0_t34 : Fin k0_t34_loop.trips) : Fin 3 → Nat :=
  let c7_i32_384 : BitVec 32 := 7#32
  let v207 : Index := Scalar.indexCast c7_i32_384
  let c3_i32_385 : BitVec 32 := 3#32
  let v208 : Index := Scalar.indexCast c3_i32_385
  let c0_i32_338 : BitVec 32 := 0#32
  let c0_i32_217 : BitVec 32 := 0#32
  let c1_i32_219 : BitVec 32 := 1#32
  let arg14 : BitVec 32 := Scf.iv c0_i32_217 c1_i32_219 k0_t34
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![7, 3, v209.toNat]
def k0_off101 (k0_t34 : Fin k0_t34_loop.trips) : Fin 3 → Nat :=
  let c7_i32_389 : BitVec 32 := 7#32
  let v213 : Index := Scalar.indexCast c7_i32_389
  let c4_i32_390 : BitVec 32 := 4#32
  let v214 : Index := Scalar.indexCast c4_i32_390
  let c0_i32_338 : BitVec 32 := 0#32
  let c0_i32_217 : BitVec 32 := 0#32
  let c1_i32_219 : BitVec 32 := 1#32
  let arg14 : BitVec 32 := Scf.iv c0_i32_217 c1_i32_219 k0_t34
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![7, 4, v215.toNat]
def k0_off102 (k0_t34 : Fin k0_t34_loop.trips) : Fin 3 → Nat :=
  let c7_i32_394 : BitVec 32 := 7#32
  let v219 : Index := Scalar.indexCast c7_i32_394
  let c5_i32_395 : BitVec 32 := 5#32
  let v220 : Index := Scalar.indexCast c5_i32_395
  let c0_i32_338 : BitVec 32 := 0#32
  let c0_i32_217 : BitVec 32 := 0#32
  let c1_i32_219 : BitVec 32 := 1#32
  let arg14 : BitVec 32 := Scf.iv c0_i32_217 c1_i32_219 k0_t34
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![7, 5, v221.toNat]
def k0_off103 (k0_t34 : Fin k0_t34_loop.trips) : Fin 3 → Nat :=
  let c7_i32_399 : BitVec 32 := 7#32
  let v225 : Index := Scalar.indexCast c7_i32_399
  let c6_i32_400 : BitVec 32 := 6#32
  let v226 : Index := Scalar.indexCast c6_i32_400
  let c0_i32_338 : BitVec 32 := 0#32
  let c0_i32_217 : BitVec 32 := 0#32
  let c1_i32_219 : BitVec 32 := 1#32
  let arg14 : BitVec 32 := Scf.iv c0_i32_217 c1_i32_219 k0_t34
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![7, 6, v227.toNat]
def k0_off104 (k0_t34 : Fin k0_t34_loop.trips) : Fin 3 → Nat :=
  let c7_i32_404 : BitVec 32 := 7#32
  let v231 : Index := Scalar.indexCast c7_i32_404
  let c7_i32_405 : BitVec 32 := 7#32
  let v232 : Index := Scalar.indexCast c7_i32_405
  let c0_i32_338 : BitVec 32 := 0#32
  let c0_i32_217 : BitVec 32 := 0#32
  let c1_i32_219 : BitVec 32 := 1#32
  let arg14 : BitVec 32 := Scf.iv c0_i32_217 c1_i32_219 k0_t34
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![7, 7, v233.toNat]
@[reducible] def k0_t35_loop : Scf.Loop 32 :=
  let c0_i32_223 : BitVec 32 := 0#32
  let c8_i32_224 : BitVec 32 := 8#32
  let v115 : BitVec 32 := Scalar.addi c0_i32_223 c8_i32_224
  let c1_i32_225 : BitVec 32 := 1#32
  ⟨c0_i32_223, v115, c1_i32_225⟩
def k0_off105 (k0_t35 : Fin k0_t35_loop.trips) : Fin 1 → Nat :=
  let c1024_i32_339 : BitVec 32 := 1024#32
  let c0_i32_338 : BitVec 32 := 0#32
  let c0_i32_223 : BitVec 32 := 0#32
  let c1_i32_225 : BitVec 32 := 1#32
  let arg14 : BitVec 32 := Scf.iv c0_i32_223 c1_i32_225 k0_t35
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c1024_i32_339 v149
  let v153 : Index := Scalar.indexCast v152
  ![v153.toNat]

def k0_chk90 (v151 : IVec S16 32) (v154 : IVec S16 32) (v155 : IVec S16 32) : Prop :=
  (∀ a x, ((![v154, v155, v151] : Fin 3 → IVec S16 32) a x).toNat < S25x8x128.size a)
theorem k0_idx90_inb : ∀ (v151 : IVec S16 32) (v154 : IVec S16 32) (v155 : IVec S16 32) (k0_hw90 : k0_chk90 v151 v154 v155), ∀ a x, ((![v154, v155, v151] : Fin 3 → IVec S16 32) a x).toNat < S25x8x128.size a := fun v151 v154 v155 k0_hw90 => k0_hw90

def k0_chk91 (v151 : IVec S16 32) (v154 : IVec S16 32) (v159 : IVec S16 32) : Prop :=
  (∀ a x, ((![v154, v159, v151] : Fin 3 → IVec S16 32) a x).toNat < S25x8x128.size a)
theorem k0_idx91_inb : ∀ (v151 : IVec S16 32) (v154 : IVec S16 32) (v159 : IVec S16 32) (k0_hw91 : k0_chk91 v151 v154 v159), ∀ a x, ((![v154, v159, v151] : Fin 3 → IVec S16 32) a x).toNat < S25x8x128.size a := fun v151 v154 v159 k0_hw91 => k0_hw91

def k0_chk92 (v151 : IVec S16 32) (v154 : IVec S16 32) (v163 : IVec S16 32) : Prop :=
  (∀ a x, ((![v154, v163, v151] : Fin 3 → IVec S16 32) a x).toNat < S25x8x128.size a)
theorem k0_idx92_inb : ∀ (v151 : IVec S16 32) (v154 : IVec S16 32) (v163 : IVec S16 32) (k0_hw92 : k0_chk92 v151 v154 v163), ∀ a x, ((![v154, v163, v151] : Fin 3 → IVec S16 32) a x).toNat < S25x8x128.size a := fun v151 v154 v163 k0_hw92 => k0_hw92

def k0_chk93 (v151 : IVec S16 32) (v154 : IVec S16 32) (v167 : IVec S16 32) : Prop :=
  (∀ a x, ((![v154, v167, v151] : Fin 3 → IVec S16 32) a x).toNat < S25x8x128.size a)
theorem k0_idx93_inb : ∀ (v151 : IVec S16 32) (v154 : IVec S16 32) (v167 : IVec S16 32) (k0_hw93 : k0_chk93 v151 v154 v167), ∀ a x, ((![v154, v167, v151] : Fin 3 → IVec S16 32) a x).toNat < S25x8x128.size a := fun v151 v154 v167 k0_hw93 => k0_hw93

def k0_chk94 (v151 : IVec S16 32) (v154 : IVec S16 32) (v171 : IVec S16 32) : Prop :=
  (∀ a x, ((![v154, v171, v151] : Fin 3 → IVec S16 32) a x).toNat < S25x8x128.size a)
theorem k0_idx94_inb : ∀ (v151 : IVec S16 32) (v154 : IVec S16 32) (v171 : IVec S16 32) (k0_hw94 : k0_chk94 v151 v154 v171), ∀ a x, ((![v154, v171, v151] : Fin 3 → IVec S16 32) a x).toNat < S25x8x128.size a := fun v151 v154 v171 k0_hw94 => k0_hw94

def k0_chk95 (v151 : IVec S16 32) (v154 : IVec S16 32) (v175 : IVec S16 32) : Prop :=
  (∀ a x, ((![v154, v175, v151] : Fin 3 → IVec S16 32) a x).toNat < S25x8x128.size a)
theorem k0_idx95_inb : ∀ (v151 : IVec S16 32) (v154 : IVec S16 32) (v175 : IVec S16 32) (k0_hw95 : k0_chk95 v151 v154 v175), ∀ a x, ((![v154, v175, v151] : Fin 3 → IVec S16 32) a x).toNat < S25x8x128.size a := fun v151 v154 v175 k0_hw95 => k0_hw95

def k0_chk96 (v151 : IVec S16 32) (v154 : IVec S16 32) (v179 : IVec S16 32) : Prop :=
  (∀ a x, ((![v154, v179, v151] : Fin 3 → IVec S16 32) a x).toNat < S25x8x128.size a)
theorem k0_idx96_inb : ∀ (v151 : IVec S16 32) (v154 : IVec S16 32) (v179 : IVec S16 32) (k0_hw96 : k0_chk96 v151 v154 v179), ∀ a x, ((![v154, v179, v151] : Fin 3 → IVec S16 32) a x).toNat < S25x8x128.size a := fun v151 v154 v179 k0_hw96 => k0_hw96

def k0_chk97 (v151 : IVec S16 32) (v154 : IVec S16 32) (v183 : IVec S16 32) : Prop :=
  (∀ a x, ((![v154, v183, v151] : Fin 3 → IVec S16 32) a x).toNat < S25x8x128.size a)
theorem k0_idx97_inb : ∀ (v151 : IVec S16 32) (v154 : IVec S16 32) (v183 : IVec S16 32) (k0_hw97 : k0_chk97 v151 v154 v183), ∀ a x, ((![v154, v183, v151] : Fin 3 → IVec S16 32) a x).toNat < S25x8x128.size a := fun v151 v154 v183 k0_hw97 => k0_hw97
def k0_off106 (k0_t35 : Fin k0_t35_loop.trips) : Fin 3 → Nat :=
  let c8_i32_369 : BitVec 32 := 8#32
  let v189 : Index := Scalar.indexCast c8_i32_369
  let c0_i32_370 : BitVec 32 := 0#32
  let v190 : Index := Scalar.indexCast c0_i32_370
  let c0_i32_338 : BitVec 32 := 0#32
  let c0_i32_223 : BitVec 32 := 0#32
  let c1_i32_225 : BitVec 32 := 1#32
  let arg14 : BitVec 32 := Scf.iv c0_i32_223 c1_i32_225 k0_t35
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![8, 0, v191.toNat]
def k0_off107 (k0_t35 : Fin k0_t35_loop.trips) : Fin 3 → Nat :=
  let c8_i32_374 : BitVec 32 := 8#32
  let v195 : Index := Scalar.indexCast c8_i32_374
  let c1_i32_375 : BitVec 32 := 1#32
  let v196 : Index := Scalar.indexCast c1_i32_375
  let c0_i32_338 : BitVec 32 := 0#32
  let c0_i32_223 : BitVec 32 := 0#32
  let c1_i32_225 : BitVec 32 := 1#32
  let arg14 : BitVec 32 := Scf.iv c0_i32_223 c1_i32_225 k0_t35
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![8, 1, v197.toNat]
def k0_off108 (k0_t35 : Fin k0_t35_loop.trips) : Fin 3 → Nat :=
  let c8_i32_379 : BitVec 32 := 8#32
  let v201 : Index := Scalar.indexCast c8_i32_379
  let c2_i32_380 : BitVec 32 := 2#32
  let v202 : Index := Scalar.indexCast c2_i32_380
  let c0_i32_338 : BitVec 32 := 0#32
  let c0_i32_223 : BitVec 32 := 0#32
  let c1_i32_225 : BitVec 32 := 1#32
  let arg14 : BitVec 32 := Scf.iv c0_i32_223 c1_i32_225 k0_t35
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![8, 2, v203.toNat]
def k0_off109 (k0_t35 : Fin k0_t35_loop.trips) : Fin 3 → Nat :=
  let c8_i32_384 : BitVec 32 := 8#32
  let v207 : Index := Scalar.indexCast c8_i32_384
  let c3_i32_385 : BitVec 32 := 3#32
  let v208 : Index := Scalar.indexCast c3_i32_385
  let c0_i32_338 : BitVec 32 := 0#32
  let c0_i32_223 : BitVec 32 := 0#32
  let c1_i32_225 : BitVec 32 := 1#32
  let arg14 : BitVec 32 := Scf.iv c0_i32_223 c1_i32_225 k0_t35
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![8, 3, v209.toNat]
def k0_off110 (k0_t35 : Fin k0_t35_loop.trips) : Fin 3 → Nat :=
  let c8_i32_389 : BitVec 32 := 8#32
  let v213 : Index := Scalar.indexCast c8_i32_389
  let c4_i32_390 : BitVec 32 := 4#32
  let v214 : Index := Scalar.indexCast c4_i32_390
  let c0_i32_338 : BitVec 32 := 0#32
  let c0_i32_223 : BitVec 32 := 0#32
  let c1_i32_225 : BitVec 32 := 1#32
  let arg14 : BitVec 32 := Scf.iv c0_i32_223 c1_i32_225 k0_t35
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![8, 4, v215.toNat]
def k0_off111 (k0_t35 : Fin k0_t35_loop.trips) : Fin 3 → Nat :=
  let c8_i32_394 : BitVec 32 := 8#32
  let v219 : Index := Scalar.indexCast c8_i32_394
  let c5_i32_395 : BitVec 32 := 5#32
  let v220 : Index := Scalar.indexCast c5_i32_395
  let c0_i32_338 : BitVec 32 := 0#32
  let c0_i32_223 : BitVec 32 := 0#32
  let c1_i32_225 : BitVec 32 := 1#32
  let arg14 : BitVec 32 := Scf.iv c0_i32_223 c1_i32_225 k0_t35
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![8, 5, v221.toNat]
def k0_off112 (k0_t35 : Fin k0_t35_loop.trips) : Fin 3 → Nat :=
  let c8_i32_399 : BitVec 32 := 8#32
  let v225 : Index := Scalar.indexCast c8_i32_399
  let c6_i32_400 : BitVec 32 := 6#32
  let v226 : Index := Scalar.indexCast c6_i32_400
  let c0_i32_338 : BitVec 32 := 0#32
  let c0_i32_223 : BitVec 32 := 0#32
  let c1_i32_225 : BitVec 32 := 1#32
  let arg14 : BitVec 32 := Scf.iv c0_i32_223 c1_i32_225 k0_t35
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![8, 6, v227.toNat]
def k0_off113 (k0_t35 : Fin k0_t35_loop.trips) : Fin 3 → Nat :=
  let c8_i32_404 : BitVec 32 := 8#32
  let v231 : Index := Scalar.indexCast c8_i32_404
  let c7_i32_405 : BitVec 32 := 7#32
  let v232 : Index := Scalar.indexCast c7_i32_405
  let c0_i32_338 : BitVec 32 := 0#32
  let c0_i32_223 : BitVec 32 := 0#32
  let c1_i32_225 : BitVec 32 := 1#32
  let arg14 : BitVec 32 := Scf.iv c0_i32_223 c1_i32_225 k0_t35
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![8, 7, v233.toNat]
@[reducible] def k0_t36_loop : Scf.Loop 32 :=
  let c0_i32_229 : BitVec 32 := 0#32
  let c8_i32_230 : BitVec 32 := 8#32
  let v116 : BitVec 32 := Scalar.addi c0_i32_229 c8_i32_230
  let c1_i32_231 : BitVec 32 := 1#32
  ⟨c0_i32_229, v116, c1_i32_231⟩
def k0_off114 (k0_t36 : Fin k0_t36_loop.trips) : Fin 1 → Nat :=
  let c1152_i32 : BitVec 32 := 1152#32
  let c0_i32_338 : BitVec 32 := 0#32
  let c0_i32_229 : BitVec 32 := 0#32
  let c1_i32_231 : BitVec 32 := 1#32
  let arg14 : BitVec 32 := Scf.iv c0_i32_229 c1_i32_231 k0_t36
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c1152_i32 v149
  let v153 : Index := Scalar.indexCast v152
  ![v153.toNat]

def k0_chk98 (v151 : IVec S16 32) (v154 : IVec S16 32) (v155 : IVec S16 32) : Prop :=
  (∀ a x, ((![v154, v155, v151] : Fin 3 → IVec S16 32) a x).toNat < S25x8x128.size a)
theorem k0_idx98_inb : ∀ (v151 : IVec S16 32) (v154 : IVec S16 32) (v155 : IVec S16 32) (k0_hw98 : k0_chk98 v151 v154 v155), ∀ a x, ((![v154, v155, v151] : Fin 3 → IVec S16 32) a x).toNat < S25x8x128.size a := fun v151 v154 v155 k0_hw98 => k0_hw98

def k0_chk99 (v151 : IVec S16 32) (v154 : IVec S16 32) (v159 : IVec S16 32) : Prop :=
  (∀ a x, ((![v154, v159, v151] : Fin 3 → IVec S16 32) a x).toNat < S25x8x128.size a)
theorem k0_idx99_inb : ∀ (v151 : IVec S16 32) (v154 : IVec S16 32) (v159 : IVec S16 32) (k0_hw99 : k0_chk99 v151 v154 v159), ∀ a x, ((![v154, v159, v151] : Fin 3 → IVec S16 32) a x).toNat < S25x8x128.size a := fun v151 v154 v159 k0_hw99 => k0_hw99

def k0_chk100 (v151 : IVec S16 32) (v154 : IVec S16 32) (v163 : IVec S16 32) : Prop :=
  (∀ a x, ((![v154, v163, v151] : Fin 3 → IVec S16 32) a x).toNat < S25x8x128.size a)
theorem k0_idx100_inb : ∀ (v151 : IVec S16 32) (v154 : IVec S16 32) (v163 : IVec S16 32) (k0_hw100 : k0_chk100 v151 v154 v163), ∀ a x, ((![v154, v163, v151] : Fin 3 → IVec S16 32) a x).toNat < S25x8x128.size a := fun v151 v154 v163 k0_hw100 => k0_hw100

def k0_chk101 (v151 : IVec S16 32) (v154 : IVec S16 32) (v167 : IVec S16 32) : Prop :=
  (∀ a x, ((![v154, v167, v151] : Fin 3 → IVec S16 32) a x).toNat < S25x8x128.size a)
theorem k0_idx101_inb : ∀ (v151 : IVec S16 32) (v154 : IVec S16 32) (v167 : IVec S16 32) (k0_hw101 : k0_chk101 v151 v154 v167), ∀ a x, ((![v154, v167, v151] : Fin 3 → IVec S16 32) a x).toNat < S25x8x128.size a := fun v151 v154 v167 k0_hw101 => k0_hw101

def k0_chk102 (v151 : IVec S16 32) (v154 : IVec S16 32) (v171 : IVec S16 32) : Prop :=
  (∀ a x, ((![v154, v171, v151] : Fin 3 → IVec S16 32) a x).toNat < S25x8x128.size a)
theorem k0_idx102_inb : ∀ (v151 : IVec S16 32) (v154 : IVec S16 32) (v171 : IVec S16 32) (k0_hw102 : k0_chk102 v151 v154 v171), ∀ a x, ((![v154, v171, v151] : Fin 3 → IVec S16 32) a x).toNat < S25x8x128.size a := fun v151 v154 v171 k0_hw102 => k0_hw102

def k0_chk103 (v151 : IVec S16 32) (v154 : IVec S16 32) (v175 : IVec S16 32) : Prop :=
  (∀ a x, ((![v154, v175, v151] : Fin 3 → IVec S16 32) a x).toNat < S25x8x128.size a)
theorem k0_idx103_inb : ∀ (v151 : IVec S16 32) (v154 : IVec S16 32) (v175 : IVec S16 32) (k0_hw103 : k0_chk103 v151 v154 v175), ∀ a x, ((![v154, v175, v151] : Fin 3 → IVec S16 32) a x).toNat < S25x8x128.size a := fun v151 v154 v175 k0_hw103 => k0_hw103

def k0_chk104 (v151 : IVec S16 32) (v154 : IVec S16 32) (v179 : IVec S16 32) : Prop :=
  (∀ a x, ((![v154, v179, v151] : Fin 3 → IVec S16 32) a x).toNat < S25x8x128.size a)
theorem k0_idx104_inb : ∀ (v151 : IVec S16 32) (v154 : IVec S16 32) (v179 : IVec S16 32) (k0_hw104 : k0_chk104 v151 v154 v179), ∀ a x, ((![v154, v179, v151] : Fin 3 → IVec S16 32) a x).toNat < S25x8x128.size a := fun v151 v154 v179 k0_hw104 => k0_hw104

def k0_chk105 (v151 : IVec S16 32) (v154 : IVec S16 32) (v183 : IVec S16 32) : Prop :=
  (∀ a x, ((![v154, v183, v151] : Fin 3 → IVec S16 32) a x).toNat < S25x8x128.size a)
theorem k0_idx105_inb : ∀ (v151 : IVec S16 32) (v154 : IVec S16 32) (v183 : IVec S16 32) (k0_hw105 : k0_chk105 v151 v154 v183), ∀ a x, ((![v154, v183, v151] : Fin 3 → IVec S16 32) a x).toNat < S25x8x128.size a := fun v151 v154 v183 k0_hw105 => k0_hw105
def k0_off115 (k0_t36 : Fin k0_t36_loop.trips) : Fin 3 → Nat :=
  let c9_i32 : BitVec 32 := 9#32
  let v189 : Index := Scalar.indexCast c9_i32
  let c0_i32_368 : BitVec 32 := 0#32
  let v190 : Index := Scalar.indexCast c0_i32_368
  let c0_i32_338 : BitVec 32 := 0#32
  let c0_i32_229 : BitVec 32 := 0#32
  let c1_i32_231 : BitVec 32 := 1#32
  let arg14 : BitVec 32 := Scf.iv c0_i32_229 c1_i32_231 k0_t36
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![9, 0, v191.toNat]
def k0_off116 (k0_t36 : Fin k0_t36_loop.trips) : Fin 3 → Nat :=
  let c9_i32_372 : BitVec 32 := 9#32
  let v195 : Index := Scalar.indexCast c9_i32_372
  let c1_i32_373 : BitVec 32 := 1#32
  let v196 : Index := Scalar.indexCast c1_i32_373
  let c0_i32_338 : BitVec 32 := 0#32
  let c0_i32_229 : BitVec 32 := 0#32
  let c1_i32_231 : BitVec 32 := 1#32
  let arg14 : BitVec 32 := Scf.iv c0_i32_229 c1_i32_231 k0_t36
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![9, 1, v197.toNat]
def k0_off117 (k0_t36 : Fin k0_t36_loop.trips) : Fin 3 → Nat :=
  let c9_i32_377 : BitVec 32 := 9#32
  let v201 : Index := Scalar.indexCast c9_i32_377
  let c2_i32_378 : BitVec 32 := 2#32
  let v202 : Index := Scalar.indexCast c2_i32_378
  let c0_i32_338 : BitVec 32 := 0#32
  let c0_i32_229 : BitVec 32 := 0#32
  let c1_i32_231 : BitVec 32 := 1#32
  let arg14 : BitVec 32 := Scf.iv c0_i32_229 c1_i32_231 k0_t36
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![9, 2, v203.toNat]
def k0_off118 (k0_t36 : Fin k0_t36_loop.trips) : Fin 3 → Nat :=
  let c9_i32_382 : BitVec 32 := 9#32
  let v207 : Index := Scalar.indexCast c9_i32_382
  let c3_i32_383 : BitVec 32 := 3#32
  let v208 : Index := Scalar.indexCast c3_i32_383
  let c0_i32_338 : BitVec 32 := 0#32
  let c0_i32_229 : BitVec 32 := 0#32
  let c1_i32_231 : BitVec 32 := 1#32
  let arg14 : BitVec 32 := Scf.iv c0_i32_229 c1_i32_231 k0_t36
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![9, 3, v209.toNat]
def k0_off119 (k0_t36 : Fin k0_t36_loop.trips) : Fin 3 → Nat :=
  let c9_i32_387 : BitVec 32 := 9#32
  let v213 : Index := Scalar.indexCast c9_i32_387
  let c4_i32_388 : BitVec 32 := 4#32
  let v214 : Index := Scalar.indexCast c4_i32_388
  let c0_i32_338 : BitVec 32 := 0#32
  let c0_i32_229 : BitVec 32 := 0#32
  let c1_i32_231 : BitVec 32 := 1#32
  let arg14 : BitVec 32 := Scf.iv c0_i32_229 c1_i32_231 k0_t36
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![9, 4, v215.toNat]
def k0_off120 (k0_t36 : Fin k0_t36_loop.trips) : Fin 3 → Nat :=
  let c9_i32_392 : BitVec 32 := 9#32
  let v219 : Index := Scalar.indexCast c9_i32_392
  let c5_i32_393 : BitVec 32 := 5#32
  let v220 : Index := Scalar.indexCast c5_i32_393
  let c0_i32_338 : BitVec 32 := 0#32
  let c0_i32_229 : BitVec 32 := 0#32
  let c1_i32_231 : BitVec 32 := 1#32
  let arg14 : BitVec 32 := Scf.iv c0_i32_229 c1_i32_231 k0_t36
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![9, 5, v221.toNat]
def k0_off121 (k0_t36 : Fin k0_t36_loop.trips) : Fin 3 → Nat :=
  let c9_i32_397 : BitVec 32 := 9#32
  let v225 : Index := Scalar.indexCast c9_i32_397
  let c6_i32_398 : BitVec 32 := 6#32
  let v226 : Index := Scalar.indexCast c6_i32_398
  let c0_i32_338 : BitVec 32 := 0#32
  let c0_i32_229 : BitVec 32 := 0#32
  let c1_i32_231 : BitVec 32 := 1#32
  let arg14 : BitVec 32 := Scf.iv c0_i32_229 c1_i32_231 k0_t36
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![9, 6, v227.toNat]
def k0_off122 (k0_t36 : Fin k0_t36_loop.trips) : Fin 3 → Nat :=
  let c9_i32_402 : BitVec 32 := 9#32
  let v231 : Index := Scalar.indexCast c9_i32_402
  let c7_i32_403 : BitVec 32 := 7#32
  let v232 : Index := Scalar.indexCast c7_i32_403
  let c0_i32_338 : BitVec 32 := 0#32
  let c0_i32_229 : BitVec 32 := 0#32
  let c1_i32_231 : BitVec 32 := 1#32
  let arg14 : BitVec 32 := Scf.iv c0_i32_229 c1_i32_231 k0_t36
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![9, 7, v233.toNat]
@[reducible] def k0_t37_loop : Scf.Loop 32 :=
  let c0_i32_235 : BitVec 32 := 0#32
  let c8_i32_236 : BitVec 32 := 8#32
  let v117 : BitVec 32 := Scalar.addi c0_i32_235 c8_i32_236
  let c1_i32_237 : BitVec 32 := 1#32
  ⟨c0_i32_235, v117, c1_i32_237⟩
def k0_off123 (k0_t37 : Fin k0_t37_loop.trips) : Fin 1 → Nat :=
  let c1280_i32 : BitVec 32 := 1280#32
  let c0_i32_338 : BitVec 32 := 0#32
  let c0_i32_235 : BitVec 32 := 0#32
  let c1_i32_237 : BitVec 32 := 1#32
  let arg14 : BitVec 32 := Scf.iv c0_i32_235 c1_i32_237 k0_t37
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c1280_i32 v149
  let v153 : Index := Scalar.indexCast v152
  ![v153.toNat]

def k0_chk106 (v151 : IVec S16 32) (v154 : IVec S16 32) (v155 : IVec S16 32) : Prop :=
  (∀ a x, ((![v154, v155, v151] : Fin 3 → IVec S16 32) a x).toNat < S25x8x128.size a)
theorem k0_idx106_inb : ∀ (v151 : IVec S16 32) (v154 : IVec S16 32) (v155 : IVec S16 32) (k0_hw106 : k0_chk106 v151 v154 v155), ∀ a x, ((![v154, v155, v151] : Fin 3 → IVec S16 32) a x).toNat < S25x8x128.size a := fun v151 v154 v155 k0_hw106 => k0_hw106

def k0_chk107 (v151 : IVec S16 32) (v154 : IVec S16 32) (v159 : IVec S16 32) : Prop :=
  (∀ a x, ((![v154, v159, v151] : Fin 3 → IVec S16 32) a x).toNat < S25x8x128.size a)
theorem k0_idx107_inb : ∀ (v151 : IVec S16 32) (v154 : IVec S16 32) (v159 : IVec S16 32) (k0_hw107 : k0_chk107 v151 v154 v159), ∀ a x, ((![v154, v159, v151] : Fin 3 → IVec S16 32) a x).toNat < S25x8x128.size a := fun v151 v154 v159 k0_hw107 => k0_hw107

def k0_chk108 (v151 : IVec S16 32) (v154 : IVec S16 32) (v163 : IVec S16 32) : Prop :=
  (∀ a x, ((![v154, v163, v151] : Fin 3 → IVec S16 32) a x).toNat < S25x8x128.size a)
theorem k0_idx108_inb : ∀ (v151 : IVec S16 32) (v154 : IVec S16 32) (v163 : IVec S16 32) (k0_hw108 : k0_chk108 v151 v154 v163), ∀ a x, ((![v154, v163, v151] : Fin 3 → IVec S16 32) a x).toNat < S25x8x128.size a := fun v151 v154 v163 k0_hw108 => k0_hw108

def k0_chk109 (v151 : IVec S16 32) (v154 : IVec S16 32) (v167 : IVec S16 32) : Prop :=
  (∀ a x, ((![v154, v167, v151] : Fin 3 → IVec S16 32) a x).toNat < S25x8x128.size a)
theorem k0_idx109_inb : ∀ (v151 : IVec S16 32) (v154 : IVec S16 32) (v167 : IVec S16 32) (k0_hw109 : k0_chk109 v151 v154 v167), ∀ a x, ((![v154, v167, v151] : Fin 3 → IVec S16 32) a x).toNat < S25x8x128.size a := fun v151 v154 v167 k0_hw109 => k0_hw109

def k0_chk110 (v151 : IVec S16 32) (v154 : IVec S16 32) (v171 : IVec S16 32) : Prop :=
  (∀ a x, ((![v154, v171, v151] : Fin 3 → IVec S16 32) a x).toNat < S25x8x128.size a)
theorem k0_idx110_inb : ∀ (v151 : IVec S16 32) (v154 : IVec S16 32) (v171 : IVec S16 32) (k0_hw110 : k0_chk110 v151 v154 v171), ∀ a x, ((![v154, v171, v151] : Fin 3 → IVec S16 32) a x).toNat < S25x8x128.size a := fun v151 v154 v171 k0_hw110 => k0_hw110

def k0_chk111 (v151 : IVec S16 32) (v154 : IVec S16 32) (v175 : IVec S16 32) : Prop :=
  (∀ a x, ((![v154, v175, v151] : Fin 3 → IVec S16 32) a x).toNat < S25x8x128.size a)
theorem k0_idx111_inb : ∀ (v151 : IVec S16 32) (v154 : IVec S16 32) (v175 : IVec S16 32) (k0_hw111 : k0_chk111 v151 v154 v175), ∀ a x, ((![v154, v175, v151] : Fin 3 → IVec S16 32) a x).toNat < S25x8x128.size a := fun v151 v154 v175 k0_hw111 => k0_hw111

def k0_chk112 (v151 : IVec S16 32) (v154 : IVec S16 32) (v179 : IVec S16 32) : Prop :=
  (∀ a x, ((![v154, v179, v151] : Fin 3 → IVec S16 32) a x).toNat < S25x8x128.size a)
theorem k0_idx112_inb : ∀ (v151 : IVec S16 32) (v154 : IVec S16 32) (v179 : IVec S16 32) (k0_hw112 : k0_chk112 v151 v154 v179), ∀ a x, ((![v154, v179, v151] : Fin 3 → IVec S16 32) a x).toNat < S25x8x128.size a := fun v151 v154 v179 k0_hw112 => k0_hw112

def k0_chk113 (v151 : IVec S16 32) (v154 : IVec S16 32) (v183 : IVec S16 32) : Prop :=
  (∀ a x, ((![v154, v183, v151] : Fin 3 → IVec S16 32) a x).toNat < S25x8x128.size a)
theorem k0_idx113_inb : ∀ (v151 : IVec S16 32) (v154 : IVec S16 32) (v183 : IVec S16 32) (k0_hw113 : k0_chk113 v151 v154 v183), ∀ a x, ((![v154, v183, v151] : Fin 3 → IVec S16 32) a x).toNat < S25x8x128.size a := fun v151 v154 v183 k0_hw113 => k0_hw113
def k0_off124 (k0_t37 : Fin k0_t37_loop.trips) : Fin 3 → Nat :=
  let c10_i32 : BitVec 32 := 10#32
  let v189 : Index := Scalar.indexCast c10_i32
  let c0_i32_368 : BitVec 32 := 0#32
  let v190 : Index := Scalar.indexCast c0_i32_368
  let c0_i32_338 : BitVec 32 := 0#32
  let c0_i32_235 : BitVec 32 := 0#32
  let c1_i32_237 : BitVec 32 := 1#32
  let arg14 : BitVec 32 := Scf.iv c0_i32_235 c1_i32_237 k0_t37
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![10, 0, v191.toNat]
def k0_off125 (k0_t37 : Fin k0_t37_loop.trips) : Fin 3 → Nat :=
  let c10_i32_372 : BitVec 32 := 10#32
  let v195 : Index := Scalar.indexCast c10_i32_372
  let c1_i32_373 : BitVec 32 := 1#32
  let v196 : Index := Scalar.indexCast c1_i32_373
  let c0_i32_338 : BitVec 32 := 0#32
  let c0_i32_235 : BitVec 32 := 0#32
  let c1_i32_237 : BitVec 32 := 1#32
  let arg14 : BitVec 32 := Scf.iv c0_i32_235 c1_i32_237 k0_t37
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![10, 1, v197.toNat]
def k0_off126 (k0_t37 : Fin k0_t37_loop.trips) : Fin 3 → Nat :=
  let c10_i32_377 : BitVec 32 := 10#32
  let v201 : Index := Scalar.indexCast c10_i32_377
  let c2_i32_378 : BitVec 32 := 2#32
  let v202 : Index := Scalar.indexCast c2_i32_378
  let c0_i32_338 : BitVec 32 := 0#32
  let c0_i32_235 : BitVec 32 := 0#32
  let c1_i32_237 : BitVec 32 := 1#32
  let arg14 : BitVec 32 := Scf.iv c0_i32_235 c1_i32_237 k0_t37
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![10, 2, v203.toNat]
def k0_off127 (k0_t37 : Fin k0_t37_loop.trips) : Fin 3 → Nat :=
  let c10_i32_382 : BitVec 32 := 10#32
  let v207 : Index := Scalar.indexCast c10_i32_382
  let c3_i32_383 : BitVec 32 := 3#32
  let v208 : Index := Scalar.indexCast c3_i32_383
  let c0_i32_338 : BitVec 32 := 0#32
  let c0_i32_235 : BitVec 32 := 0#32
  let c1_i32_237 : BitVec 32 := 1#32
  let arg14 : BitVec 32 := Scf.iv c0_i32_235 c1_i32_237 k0_t37
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![10, 3, v209.toNat]
def k0_off128 (k0_t37 : Fin k0_t37_loop.trips) : Fin 3 → Nat :=
  let c10_i32_387 : BitVec 32 := 10#32
  let v213 : Index := Scalar.indexCast c10_i32_387
  let c4_i32_388 : BitVec 32 := 4#32
  let v214 : Index := Scalar.indexCast c4_i32_388
  let c0_i32_338 : BitVec 32 := 0#32
  let c0_i32_235 : BitVec 32 := 0#32
  let c1_i32_237 : BitVec 32 := 1#32
  let arg14 : BitVec 32 := Scf.iv c0_i32_235 c1_i32_237 k0_t37
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![10, 4, v215.toNat]
def k0_off129 (k0_t37 : Fin k0_t37_loop.trips) : Fin 3 → Nat :=
  let c10_i32_392 : BitVec 32 := 10#32
  let v219 : Index := Scalar.indexCast c10_i32_392
  let c5_i32_393 : BitVec 32 := 5#32
  let v220 : Index := Scalar.indexCast c5_i32_393
  let c0_i32_338 : BitVec 32 := 0#32
  let c0_i32_235 : BitVec 32 := 0#32
  let c1_i32_237 : BitVec 32 := 1#32
  let arg14 : BitVec 32 := Scf.iv c0_i32_235 c1_i32_237 k0_t37
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![10, 5, v221.toNat]
def k0_off130 (k0_t37 : Fin k0_t37_loop.trips) : Fin 3 → Nat :=
  let c10_i32_397 : BitVec 32 := 10#32
  let v225 : Index := Scalar.indexCast c10_i32_397
  let c6_i32_398 : BitVec 32 := 6#32
  let v226 : Index := Scalar.indexCast c6_i32_398
  let c0_i32_338 : BitVec 32 := 0#32
  let c0_i32_235 : BitVec 32 := 0#32
  let c1_i32_237 : BitVec 32 := 1#32
  let arg14 : BitVec 32 := Scf.iv c0_i32_235 c1_i32_237 k0_t37
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![10, 6, v227.toNat]
def k0_off131 (k0_t37 : Fin k0_t37_loop.trips) : Fin 3 → Nat :=
  let c10_i32_402 : BitVec 32 := 10#32
  let v231 : Index := Scalar.indexCast c10_i32_402
  let c7_i32_403 : BitVec 32 := 7#32
  let v232 : Index := Scalar.indexCast c7_i32_403
  let c0_i32_338 : BitVec 32 := 0#32
  let c0_i32_235 : BitVec 32 := 0#32
  let c1_i32_237 : BitVec 32 := 1#32
  let arg14 : BitVec 32 := Scf.iv c0_i32_235 c1_i32_237 k0_t37
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![10, 7, v233.toNat]
@[reducible] def k0_t38_loop : Scf.Loop 32 :=
  let c0_i32_241 : BitVec 32 := 0#32
  let c8_i32_242 : BitVec 32 := 8#32
  let v118 : BitVec 32 := Scalar.addi c0_i32_241 c8_i32_242
  let c1_i32_243 : BitVec 32 := 1#32
  ⟨c0_i32_241, v118, c1_i32_243⟩
def k0_off132 (k0_t38 : Fin k0_t38_loop.trips) : Fin 1 → Nat :=
  let c1408_i32 : BitVec 32 := 1408#32
  let c0_i32_338 : BitVec 32 := 0#32
  let c0_i32_241 : BitVec 32 := 0#32
  let c1_i32_243 : BitVec 32 := 1#32
  let arg14 : BitVec 32 := Scf.iv c0_i32_241 c1_i32_243 k0_t38
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c1408_i32 v149
  let v153 : Index := Scalar.indexCast v152
  ![v153.toNat]

def k0_chk114 (v151 : IVec S16 32) (v154 : IVec S16 32) (v155 : IVec S16 32) : Prop :=
  (∀ a x, ((![v154, v155, v151] : Fin 3 → IVec S16 32) a x).toNat < S25x8x128.size a)
theorem k0_idx114_inb : ∀ (v151 : IVec S16 32) (v154 : IVec S16 32) (v155 : IVec S16 32) (k0_hw114 : k0_chk114 v151 v154 v155), ∀ a x, ((![v154, v155, v151] : Fin 3 → IVec S16 32) a x).toNat < S25x8x128.size a := fun v151 v154 v155 k0_hw114 => k0_hw114

def k0_chk115 (v151 : IVec S16 32) (v154 : IVec S16 32) (v159 : IVec S16 32) : Prop :=
  (∀ a x, ((![v154, v159, v151] : Fin 3 → IVec S16 32) a x).toNat < S25x8x128.size a)
theorem k0_idx115_inb : ∀ (v151 : IVec S16 32) (v154 : IVec S16 32) (v159 : IVec S16 32) (k0_hw115 : k0_chk115 v151 v154 v159), ∀ a x, ((![v154, v159, v151] : Fin 3 → IVec S16 32) a x).toNat < S25x8x128.size a := fun v151 v154 v159 k0_hw115 => k0_hw115

def k0_chk116 (v151 : IVec S16 32) (v154 : IVec S16 32) (v163 : IVec S16 32) : Prop :=
  (∀ a x, ((![v154, v163, v151] : Fin 3 → IVec S16 32) a x).toNat < S25x8x128.size a)
theorem k0_idx116_inb : ∀ (v151 : IVec S16 32) (v154 : IVec S16 32) (v163 : IVec S16 32) (k0_hw116 : k0_chk116 v151 v154 v163), ∀ a x, ((![v154, v163, v151] : Fin 3 → IVec S16 32) a x).toNat < S25x8x128.size a := fun v151 v154 v163 k0_hw116 => k0_hw116

def k0_chk117 (v151 : IVec S16 32) (v154 : IVec S16 32) (v167 : IVec S16 32) : Prop :=
  (∀ a x, ((![v154, v167, v151] : Fin 3 → IVec S16 32) a x).toNat < S25x8x128.size a)
theorem k0_idx117_inb : ∀ (v151 : IVec S16 32) (v154 : IVec S16 32) (v167 : IVec S16 32) (k0_hw117 : k0_chk117 v151 v154 v167), ∀ a x, ((![v154, v167, v151] : Fin 3 → IVec S16 32) a x).toNat < S25x8x128.size a := fun v151 v154 v167 k0_hw117 => k0_hw117

def k0_chk118 (v151 : IVec S16 32) (v154 : IVec S16 32) (v171 : IVec S16 32) : Prop :=
  (∀ a x, ((![v154, v171, v151] : Fin 3 → IVec S16 32) a x).toNat < S25x8x128.size a)
theorem k0_idx118_inb : ∀ (v151 : IVec S16 32) (v154 : IVec S16 32) (v171 : IVec S16 32) (k0_hw118 : k0_chk118 v151 v154 v171), ∀ a x, ((![v154, v171, v151] : Fin 3 → IVec S16 32) a x).toNat < S25x8x128.size a := fun v151 v154 v171 k0_hw118 => k0_hw118

def k0_chk119 (v151 : IVec S16 32) (v154 : IVec S16 32) (v175 : IVec S16 32) : Prop :=
  (∀ a x, ((![v154, v175, v151] : Fin 3 → IVec S16 32) a x).toNat < S25x8x128.size a)
theorem k0_idx119_inb : ∀ (v151 : IVec S16 32) (v154 : IVec S16 32) (v175 : IVec S16 32) (k0_hw119 : k0_chk119 v151 v154 v175), ∀ a x, ((![v154, v175, v151] : Fin 3 → IVec S16 32) a x).toNat < S25x8x128.size a := fun v151 v154 v175 k0_hw119 => k0_hw119

def k0_chk120 (v151 : IVec S16 32) (v154 : IVec S16 32) (v179 : IVec S16 32) : Prop :=
  (∀ a x, ((![v154, v179, v151] : Fin 3 → IVec S16 32) a x).toNat < S25x8x128.size a)
theorem k0_idx120_inb : ∀ (v151 : IVec S16 32) (v154 : IVec S16 32) (v179 : IVec S16 32) (k0_hw120 : k0_chk120 v151 v154 v179), ∀ a x, ((![v154, v179, v151] : Fin 3 → IVec S16 32) a x).toNat < S25x8x128.size a := fun v151 v154 v179 k0_hw120 => k0_hw120

def k0_chk121 (v151 : IVec S16 32) (v154 : IVec S16 32) (v183 : IVec S16 32) : Prop :=
  (∀ a x, ((![v154, v183, v151] : Fin 3 → IVec S16 32) a x).toNat < S25x8x128.size a)
theorem k0_idx121_inb : ∀ (v151 : IVec S16 32) (v154 : IVec S16 32) (v183 : IVec S16 32) (k0_hw121 : k0_chk121 v151 v154 v183), ∀ a x, ((![v154, v183, v151] : Fin 3 → IVec S16 32) a x).toNat < S25x8x128.size a := fun v151 v154 v183 k0_hw121 => k0_hw121
def k0_off133 (k0_t38 : Fin k0_t38_loop.trips) : Fin 3 → Nat :=
  let c11_i32 : BitVec 32 := 11#32
  let v189 : Index := Scalar.indexCast c11_i32
  let c0_i32_368 : BitVec 32 := 0#32
  let v190 : Index := Scalar.indexCast c0_i32_368
  let c0_i32_338 : BitVec 32 := 0#32
  let c0_i32_241 : BitVec 32 := 0#32
  let c1_i32_243 : BitVec 32 := 1#32
  let arg14 : BitVec 32 := Scf.iv c0_i32_241 c1_i32_243 k0_t38
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![11, 0, v191.toNat]
def k0_off134 (k0_t38 : Fin k0_t38_loop.trips) : Fin 3 → Nat :=
  let c11_i32_372 : BitVec 32 := 11#32
  let v195 : Index := Scalar.indexCast c11_i32_372
  let c1_i32_373 : BitVec 32 := 1#32
  let v196 : Index := Scalar.indexCast c1_i32_373
  let c0_i32_338 : BitVec 32 := 0#32
  let c0_i32_241 : BitVec 32 := 0#32
  let c1_i32_243 : BitVec 32 := 1#32
  let arg14 : BitVec 32 := Scf.iv c0_i32_241 c1_i32_243 k0_t38
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![11, 1, v197.toNat]
def k0_off135 (k0_t38 : Fin k0_t38_loop.trips) : Fin 3 → Nat :=
  let c11_i32_377 : BitVec 32 := 11#32
  let v201 : Index := Scalar.indexCast c11_i32_377
  let c2_i32_378 : BitVec 32 := 2#32
  let v202 : Index := Scalar.indexCast c2_i32_378
  let c0_i32_338 : BitVec 32 := 0#32
  let c0_i32_241 : BitVec 32 := 0#32
  let c1_i32_243 : BitVec 32 := 1#32
  let arg14 : BitVec 32 := Scf.iv c0_i32_241 c1_i32_243 k0_t38
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![11, 2, v203.toNat]
def k0_off136 (k0_t38 : Fin k0_t38_loop.trips) : Fin 3 → Nat :=
  let c11_i32_382 : BitVec 32 := 11#32
  let v207 : Index := Scalar.indexCast c11_i32_382
  let c3_i32_383 : BitVec 32 := 3#32
  let v208 : Index := Scalar.indexCast c3_i32_383
  let c0_i32_338 : BitVec 32 := 0#32
  let c0_i32_241 : BitVec 32 := 0#32
  let c1_i32_243 : BitVec 32 := 1#32
  let arg14 : BitVec 32 := Scf.iv c0_i32_241 c1_i32_243 k0_t38
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![11, 3, v209.toNat]
def k0_off137 (k0_t38 : Fin k0_t38_loop.trips) : Fin 3 → Nat :=
  let c11_i32_387 : BitVec 32 := 11#32
  let v213 : Index := Scalar.indexCast c11_i32_387
  let c4_i32_388 : BitVec 32 := 4#32
  let v214 : Index := Scalar.indexCast c4_i32_388
  let c0_i32_338 : BitVec 32 := 0#32
  let c0_i32_241 : BitVec 32 := 0#32
  let c1_i32_243 : BitVec 32 := 1#32
  let arg14 : BitVec 32 := Scf.iv c0_i32_241 c1_i32_243 k0_t38
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![11, 4, v215.toNat]
def k0_off138 (k0_t38 : Fin k0_t38_loop.trips) : Fin 3 → Nat :=
  let c11_i32_392 : BitVec 32 := 11#32
  let v219 : Index := Scalar.indexCast c11_i32_392
  let c5_i32_393 : BitVec 32 := 5#32
  let v220 : Index := Scalar.indexCast c5_i32_393
  let c0_i32_338 : BitVec 32 := 0#32
  let c0_i32_241 : BitVec 32 := 0#32
  let c1_i32_243 : BitVec 32 := 1#32
  let arg14 : BitVec 32 := Scf.iv c0_i32_241 c1_i32_243 k0_t38
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![11, 5, v221.toNat]
def k0_off139 (k0_t38 : Fin k0_t38_loop.trips) : Fin 3 → Nat :=
  let c11_i32_397 : BitVec 32 := 11#32
  let v225 : Index := Scalar.indexCast c11_i32_397
  let c6_i32_398 : BitVec 32 := 6#32
  let v226 : Index := Scalar.indexCast c6_i32_398
  let c0_i32_338 : BitVec 32 := 0#32
  let c0_i32_241 : BitVec 32 := 0#32
  let c1_i32_243 : BitVec 32 := 1#32
  let arg14 : BitVec 32 := Scf.iv c0_i32_241 c1_i32_243 k0_t38
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![11, 6, v227.toNat]
def k0_off140 (k0_t38 : Fin k0_t38_loop.trips) : Fin 3 → Nat :=
  let c11_i32_402 : BitVec 32 := 11#32
  let v231 : Index := Scalar.indexCast c11_i32_402
  let c7_i32_403 : BitVec 32 := 7#32
  let v232 : Index := Scalar.indexCast c7_i32_403
  let c0_i32_338 : BitVec 32 := 0#32
  let c0_i32_241 : BitVec 32 := 0#32
  let c1_i32_243 : BitVec 32 := 1#32
  let arg14 : BitVec 32 := Scf.iv c0_i32_241 c1_i32_243 k0_t38
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![11, 7, v233.toNat]
@[reducible] def k0_t39_loop : Scf.Loop 32 :=
  let c0_i32_247 : BitVec 32 := 0#32
  let c8_i32_248 : BitVec 32 := 8#32
  let v119 : BitVec 32 := Scalar.addi c0_i32_247 c8_i32_248
  let c1_i32_249 : BitVec 32 := 1#32
  ⟨c0_i32_247, v119, c1_i32_249⟩
def k0_off141 (k0_t39 : Fin k0_t39_loop.trips) : Fin 1 → Nat :=
  let c1536_i32 : BitVec 32 := 1536#32
  let c0_i32_338 : BitVec 32 := 0#32
  let c0_i32_247 : BitVec 32 := 0#32
  let c1_i32_249 : BitVec 32 := 1#32
  let arg14 : BitVec 32 := Scf.iv c0_i32_247 c1_i32_249 k0_t39
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c1536_i32 v149
  let v153 : Index := Scalar.indexCast v152
  ![v153.toNat]

def k0_chk122 (v151 : IVec S16 32) (v154 : IVec S16 32) (v155 : IVec S16 32) : Prop :=
  (∀ a x, ((![v154, v155, v151] : Fin 3 → IVec S16 32) a x).toNat < S25x8x128.size a)
theorem k0_idx122_inb : ∀ (v151 : IVec S16 32) (v154 : IVec S16 32) (v155 : IVec S16 32) (k0_hw122 : k0_chk122 v151 v154 v155), ∀ a x, ((![v154, v155, v151] : Fin 3 → IVec S16 32) a x).toNat < S25x8x128.size a := fun v151 v154 v155 k0_hw122 => k0_hw122

def k0_chk123 (v151 : IVec S16 32) (v154 : IVec S16 32) (v159 : IVec S16 32) : Prop :=
  (∀ a x, ((![v154, v159, v151] : Fin 3 → IVec S16 32) a x).toNat < S25x8x128.size a)
theorem k0_idx123_inb : ∀ (v151 : IVec S16 32) (v154 : IVec S16 32) (v159 : IVec S16 32) (k0_hw123 : k0_chk123 v151 v154 v159), ∀ a x, ((![v154, v159, v151] : Fin 3 → IVec S16 32) a x).toNat < S25x8x128.size a := fun v151 v154 v159 k0_hw123 => k0_hw123

def k0_chk124 (v151 : IVec S16 32) (v154 : IVec S16 32) (v163 : IVec S16 32) : Prop :=
  (∀ a x, ((![v154, v163, v151] : Fin 3 → IVec S16 32) a x).toNat < S25x8x128.size a)
theorem k0_idx124_inb : ∀ (v151 : IVec S16 32) (v154 : IVec S16 32) (v163 : IVec S16 32) (k0_hw124 : k0_chk124 v151 v154 v163), ∀ a x, ((![v154, v163, v151] : Fin 3 → IVec S16 32) a x).toNat < S25x8x128.size a := fun v151 v154 v163 k0_hw124 => k0_hw124

def k0_chk125 (v151 : IVec S16 32) (v154 : IVec S16 32) (v167 : IVec S16 32) : Prop :=
  (∀ a x, ((![v154, v167, v151] : Fin 3 → IVec S16 32) a x).toNat < S25x8x128.size a)
theorem k0_idx125_inb : ∀ (v151 : IVec S16 32) (v154 : IVec S16 32) (v167 : IVec S16 32) (k0_hw125 : k0_chk125 v151 v154 v167), ∀ a x, ((![v154, v167, v151] : Fin 3 → IVec S16 32) a x).toNat < S25x8x128.size a := fun v151 v154 v167 k0_hw125 => k0_hw125

def k0_chk126 (v151 : IVec S16 32) (v154 : IVec S16 32) (v171 : IVec S16 32) : Prop :=
  (∀ a x, ((![v154, v171, v151] : Fin 3 → IVec S16 32) a x).toNat < S25x8x128.size a)
theorem k0_idx126_inb : ∀ (v151 : IVec S16 32) (v154 : IVec S16 32) (v171 : IVec S16 32) (k0_hw126 : k0_chk126 v151 v154 v171), ∀ a x, ((![v154, v171, v151] : Fin 3 → IVec S16 32) a x).toNat < S25x8x128.size a := fun v151 v154 v171 k0_hw126 => k0_hw126

def k0_chk127 (v151 : IVec S16 32) (v154 : IVec S16 32) (v175 : IVec S16 32) : Prop :=
  (∀ a x, ((![v154, v175, v151] : Fin 3 → IVec S16 32) a x).toNat < S25x8x128.size a)
theorem k0_idx127_inb : ∀ (v151 : IVec S16 32) (v154 : IVec S16 32) (v175 : IVec S16 32) (k0_hw127 : k0_chk127 v151 v154 v175), ∀ a x, ((![v154, v175, v151] : Fin 3 → IVec S16 32) a x).toNat < S25x8x128.size a := fun v151 v154 v175 k0_hw127 => k0_hw127

def k0_chk128 (v151 : IVec S16 32) (v154 : IVec S16 32) (v179 : IVec S16 32) : Prop :=
  (∀ a x, ((![v154, v179, v151] : Fin 3 → IVec S16 32) a x).toNat < S25x8x128.size a)
theorem k0_idx128_inb : ∀ (v151 : IVec S16 32) (v154 : IVec S16 32) (v179 : IVec S16 32) (k0_hw128 : k0_chk128 v151 v154 v179), ∀ a x, ((![v154, v179, v151] : Fin 3 → IVec S16 32) a x).toNat < S25x8x128.size a := fun v151 v154 v179 k0_hw128 => k0_hw128

def k0_chk129 (v151 : IVec S16 32) (v154 : IVec S16 32) (v183 : IVec S16 32) : Prop :=
  (∀ a x, ((![v154, v183, v151] : Fin 3 → IVec S16 32) a x).toNat < S25x8x128.size a)
theorem k0_idx129_inb : ∀ (v151 : IVec S16 32) (v154 : IVec S16 32) (v183 : IVec S16 32) (k0_hw129 : k0_chk129 v151 v154 v183), ∀ a x, ((![v154, v183, v151] : Fin 3 → IVec S16 32) a x).toNat < S25x8x128.size a := fun v151 v154 v183 k0_hw129 => k0_hw129
def k0_off142 (k0_t39 : Fin k0_t39_loop.trips) : Fin 3 → Nat :=
  let c12_i32_368 : BitVec 32 := 12#32
  let v189 : Index := Scalar.indexCast c12_i32_368
  let c0_i32_369 : BitVec 32 := 0#32
  let v190 : Index := Scalar.indexCast c0_i32_369
  let c0_i32_338 : BitVec 32 := 0#32
  let c0_i32_247 : BitVec 32 := 0#32
  let c1_i32_249 : BitVec 32 := 1#32
  let arg14 : BitVec 32 := Scf.iv c0_i32_247 c1_i32_249 k0_t39
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![12, 0, v191.toNat]
def k0_off143 (k0_t39 : Fin k0_t39_loop.trips) : Fin 3 → Nat :=
  let c12_i32_373 : BitVec 32 := 12#32
  let v195 : Index := Scalar.indexCast c12_i32_373
  let c1_i32_374 : BitVec 32 := 1#32
  let v196 : Index := Scalar.indexCast c1_i32_374
  let c0_i32_338 : BitVec 32 := 0#32
  let c0_i32_247 : BitVec 32 := 0#32
  let c1_i32_249 : BitVec 32 := 1#32
  let arg14 : BitVec 32 := Scf.iv c0_i32_247 c1_i32_249 k0_t39
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![12, 1, v197.toNat]
def k0_off144 (k0_t39 : Fin k0_t39_loop.trips) : Fin 3 → Nat :=
  let c12_i32_378 : BitVec 32 := 12#32
  let v201 : Index := Scalar.indexCast c12_i32_378
  let c2_i32_379 : BitVec 32 := 2#32
  let v202 : Index := Scalar.indexCast c2_i32_379
  let c0_i32_338 : BitVec 32 := 0#32
  let c0_i32_247 : BitVec 32 := 0#32
  let c1_i32_249 : BitVec 32 := 1#32
  let arg14 : BitVec 32 := Scf.iv c0_i32_247 c1_i32_249 k0_t39
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![12, 2, v203.toNat]
def k0_off145 (k0_t39 : Fin k0_t39_loop.trips) : Fin 3 → Nat :=
  let c12_i32_383 : BitVec 32 := 12#32
  let v207 : Index := Scalar.indexCast c12_i32_383
  let c3_i32_384 : BitVec 32 := 3#32
  let v208 : Index := Scalar.indexCast c3_i32_384
  let c0_i32_338 : BitVec 32 := 0#32
  let c0_i32_247 : BitVec 32 := 0#32
  let c1_i32_249 : BitVec 32 := 1#32
  let arg14 : BitVec 32 := Scf.iv c0_i32_247 c1_i32_249 k0_t39
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![12, 3, v209.toNat]
def k0_off146 (k0_t39 : Fin k0_t39_loop.trips) : Fin 3 → Nat :=
  let c12_i32_388 : BitVec 32 := 12#32
  let v213 : Index := Scalar.indexCast c12_i32_388
  let c4_i32_389 : BitVec 32 := 4#32
  let v214 : Index := Scalar.indexCast c4_i32_389
  let c0_i32_338 : BitVec 32 := 0#32
  let c0_i32_247 : BitVec 32 := 0#32
  let c1_i32_249 : BitVec 32 := 1#32
  let arg14 : BitVec 32 := Scf.iv c0_i32_247 c1_i32_249 k0_t39
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![12, 4, v215.toNat]
def k0_off147 (k0_t39 : Fin k0_t39_loop.trips) : Fin 3 → Nat :=
  let c12_i32_393 : BitVec 32 := 12#32
  let v219 : Index := Scalar.indexCast c12_i32_393
  let c5_i32_394 : BitVec 32 := 5#32
  let v220 : Index := Scalar.indexCast c5_i32_394
  let c0_i32_338 : BitVec 32 := 0#32
  let c0_i32_247 : BitVec 32 := 0#32
  let c1_i32_249 : BitVec 32 := 1#32
  let arg14 : BitVec 32 := Scf.iv c0_i32_247 c1_i32_249 k0_t39
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![12, 5, v221.toNat]
def k0_off148 (k0_t39 : Fin k0_t39_loop.trips) : Fin 3 → Nat :=
  let c12_i32_398 : BitVec 32 := 12#32
  let v225 : Index := Scalar.indexCast c12_i32_398
  let c6_i32_399 : BitVec 32 := 6#32
  let v226 : Index := Scalar.indexCast c6_i32_399
  let c0_i32_338 : BitVec 32 := 0#32
  let c0_i32_247 : BitVec 32 := 0#32
  let c1_i32_249 : BitVec 32 := 1#32
  let arg14 : BitVec 32 := Scf.iv c0_i32_247 c1_i32_249 k0_t39
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![12, 6, v227.toNat]
def k0_off149 (k0_t39 : Fin k0_t39_loop.trips) : Fin 3 → Nat :=
  let c12_i32_403 : BitVec 32 := 12#32
  let v231 : Index := Scalar.indexCast c12_i32_403
  let c7_i32_404 : BitVec 32 := 7#32
  let v232 : Index := Scalar.indexCast c7_i32_404
  let c0_i32_338 : BitVec 32 := 0#32
  let c0_i32_247 : BitVec 32 := 0#32
  let c1_i32_249 : BitVec 32 := 1#32
  let arg14 : BitVec 32 := Scf.iv c0_i32_247 c1_i32_249 k0_t39
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![12, 7, v233.toNat]
@[reducible] def k0_t40_loop : Scf.Loop 32 :=
  let c0_i32_253 : BitVec 32 := 0#32
  let c8_i32_254 : BitVec 32 := 8#32
  let v120 : BitVec 32 := Scalar.addi c0_i32_253 c8_i32_254
  let c1_i32_255 : BitVec 32 := 1#32
  ⟨c0_i32_253, v120, c1_i32_255⟩
def k0_off150 (k0_t40 : Fin k0_t40_loop.trips) : Fin 1 → Nat :=
  let c1664_i32 : BitVec 32 := 1664#32
  let c0_i32_338 : BitVec 32 := 0#32
  let c0_i32_253 : BitVec 32 := 0#32
  let c1_i32_255 : BitVec 32 := 1#32
  let arg14 : BitVec 32 := Scf.iv c0_i32_253 c1_i32_255 k0_t40
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c1664_i32 v149
  let v153 : Index := Scalar.indexCast v152
  ![v153.toNat]

def k0_chk130 (v151 : IVec S16 32) (v154 : IVec S16 32) (v155 : IVec S16 32) : Prop :=
  (∀ a x, ((![v154, v155, v151] : Fin 3 → IVec S16 32) a x).toNat < S25x8x128.size a)
theorem k0_idx130_inb : ∀ (v151 : IVec S16 32) (v154 : IVec S16 32) (v155 : IVec S16 32) (k0_hw130 : k0_chk130 v151 v154 v155), ∀ a x, ((![v154, v155, v151] : Fin 3 → IVec S16 32) a x).toNat < S25x8x128.size a := fun v151 v154 v155 k0_hw130 => k0_hw130

def k0_chk131 (v151 : IVec S16 32) (v154 : IVec S16 32) (v159 : IVec S16 32) : Prop :=
  (∀ a x, ((![v154, v159, v151] : Fin 3 → IVec S16 32) a x).toNat < S25x8x128.size a)
theorem k0_idx131_inb : ∀ (v151 : IVec S16 32) (v154 : IVec S16 32) (v159 : IVec S16 32) (k0_hw131 : k0_chk131 v151 v154 v159), ∀ a x, ((![v154, v159, v151] : Fin 3 → IVec S16 32) a x).toNat < S25x8x128.size a := fun v151 v154 v159 k0_hw131 => k0_hw131

def k0_chk132 (v151 : IVec S16 32) (v154 : IVec S16 32) (v163 : IVec S16 32) : Prop :=
  (∀ a x, ((![v154, v163, v151] : Fin 3 → IVec S16 32) a x).toNat < S25x8x128.size a)
theorem k0_idx132_inb : ∀ (v151 : IVec S16 32) (v154 : IVec S16 32) (v163 : IVec S16 32) (k0_hw132 : k0_chk132 v151 v154 v163), ∀ a x, ((![v154, v163, v151] : Fin 3 → IVec S16 32) a x).toNat < S25x8x128.size a := fun v151 v154 v163 k0_hw132 => k0_hw132

def k0_chk133 (v151 : IVec S16 32) (v154 : IVec S16 32) (v167 : IVec S16 32) : Prop :=
  (∀ a x, ((![v154, v167, v151] : Fin 3 → IVec S16 32) a x).toNat < S25x8x128.size a)
theorem k0_idx133_inb : ∀ (v151 : IVec S16 32) (v154 : IVec S16 32) (v167 : IVec S16 32) (k0_hw133 : k0_chk133 v151 v154 v167), ∀ a x, ((![v154, v167, v151] : Fin 3 → IVec S16 32) a x).toNat < S25x8x128.size a := fun v151 v154 v167 k0_hw133 => k0_hw133

def k0_chk134 (v151 : IVec S16 32) (v154 : IVec S16 32) (v171 : IVec S16 32) : Prop :=
  (∀ a x, ((![v154, v171, v151] : Fin 3 → IVec S16 32) a x).toNat < S25x8x128.size a)
theorem k0_idx134_inb : ∀ (v151 : IVec S16 32) (v154 : IVec S16 32) (v171 : IVec S16 32) (k0_hw134 : k0_chk134 v151 v154 v171), ∀ a x, ((![v154, v171, v151] : Fin 3 → IVec S16 32) a x).toNat < S25x8x128.size a := fun v151 v154 v171 k0_hw134 => k0_hw134

def k0_chk135 (v151 : IVec S16 32) (v154 : IVec S16 32) (v175 : IVec S16 32) : Prop :=
  (∀ a x, ((![v154, v175, v151] : Fin 3 → IVec S16 32) a x).toNat < S25x8x128.size a)
theorem k0_idx135_inb : ∀ (v151 : IVec S16 32) (v154 : IVec S16 32) (v175 : IVec S16 32) (k0_hw135 : k0_chk135 v151 v154 v175), ∀ a x, ((![v154, v175, v151] : Fin 3 → IVec S16 32) a x).toNat < S25x8x128.size a := fun v151 v154 v175 k0_hw135 => k0_hw135

def k0_chk136 (v151 : IVec S16 32) (v154 : IVec S16 32) (v179 : IVec S16 32) : Prop :=
  (∀ a x, ((![v154, v179, v151] : Fin 3 → IVec S16 32) a x).toNat < S25x8x128.size a)
theorem k0_idx136_inb : ∀ (v151 : IVec S16 32) (v154 : IVec S16 32) (v179 : IVec S16 32) (k0_hw136 : k0_chk136 v151 v154 v179), ∀ a x, ((![v154, v179, v151] : Fin 3 → IVec S16 32) a x).toNat < S25x8x128.size a := fun v151 v154 v179 k0_hw136 => k0_hw136

def k0_chk137 (v151 : IVec S16 32) (v154 : IVec S16 32) (v183 : IVec S16 32) : Prop :=
  (∀ a x, ((![v154, v183, v151] : Fin 3 → IVec S16 32) a x).toNat < S25x8x128.size a)
theorem k0_idx137_inb : ∀ (v151 : IVec S16 32) (v154 : IVec S16 32) (v183 : IVec S16 32) (k0_hw137 : k0_chk137 v151 v154 v183), ∀ a x, ((![v154, v183, v151] : Fin 3 → IVec S16 32) a x).toNat < S25x8x128.size a := fun v151 v154 v183 k0_hw137 => k0_hw137
def k0_off151 (k0_t40 : Fin k0_t40_loop.trips) : Fin 3 → Nat :=
  let c13_i32 : BitVec 32 := 13#32
  let v189 : Index := Scalar.indexCast c13_i32
  let c0_i32_368 : BitVec 32 := 0#32
  let v190 : Index := Scalar.indexCast c0_i32_368
  let c0_i32_338 : BitVec 32 := 0#32
  let c0_i32_253 : BitVec 32 := 0#32
  let c1_i32_255 : BitVec 32 := 1#32
  let arg14 : BitVec 32 := Scf.iv c0_i32_253 c1_i32_255 k0_t40
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![13, 0, v191.toNat]
def k0_off152 (k0_t40 : Fin k0_t40_loop.trips) : Fin 3 → Nat :=
  let c13_i32_372 : BitVec 32 := 13#32
  let v195 : Index := Scalar.indexCast c13_i32_372
  let c1_i32_373 : BitVec 32 := 1#32
  let v196 : Index := Scalar.indexCast c1_i32_373
  let c0_i32_338 : BitVec 32 := 0#32
  let c0_i32_253 : BitVec 32 := 0#32
  let c1_i32_255 : BitVec 32 := 1#32
  let arg14 : BitVec 32 := Scf.iv c0_i32_253 c1_i32_255 k0_t40
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![13, 1, v197.toNat]
def k0_off153 (k0_t40 : Fin k0_t40_loop.trips) : Fin 3 → Nat :=
  let c13_i32_377 : BitVec 32 := 13#32
  let v201 : Index := Scalar.indexCast c13_i32_377
  let c2_i32_378 : BitVec 32 := 2#32
  let v202 : Index := Scalar.indexCast c2_i32_378
  let c0_i32_338 : BitVec 32 := 0#32
  let c0_i32_253 : BitVec 32 := 0#32
  let c1_i32_255 : BitVec 32 := 1#32
  let arg14 : BitVec 32 := Scf.iv c0_i32_253 c1_i32_255 k0_t40
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![13, 2, v203.toNat]
def k0_off154 (k0_t40 : Fin k0_t40_loop.trips) : Fin 3 → Nat :=
  let c13_i32_382 : BitVec 32 := 13#32
  let v207 : Index := Scalar.indexCast c13_i32_382
  let c3_i32_383 : BitVec 32 := 3#32
  let v208 : Index := Scalar.indexCast c3_i32_383
  let c0_i32_338 : BitVec 32 := 0#32
  let c0_i32_253 : BitVec 32 := 0#32
  let c1_i32_255 : BitVec 32 := 1#32
  let arg14 : BitVec 32 := Scf.iv c0_i32_253 c1_i32_255 k0_t40
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![13, 3, v209.toNat]
def k0_off155 (k0_t40 : Fin k0_t40_loop.trips) : Fin 3 → Nat :=
  let c13_i32_387 : BitVec 32 := 13#32
  let v213 : Index := Scalar.indexCast c13_i32_387
  let c4_i32_388 : BitVec 32 := 4#32
  let v214 : Index := Scalar.indexCast c4_i32_388
  let c0_i32_338 : BitVec 32 := 0#32
  let c0_i32_253 : BitVec 32 := 0#32
  let c1_i32_255 : BitVec 32 := 1#32
  let arg14 : BitVec 32 := Scf.iv c0_i32_253 c1_i32_255 k0_t40
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![13, 4, v215.toNat]
def k0_off156 (k0_t40 : Fin k0_t40_loop.trips) : Fin 3 → Nat :=
  let c13_i32_392 : BitVec 32 := 13#32
  let v219 : Index := Scalar.indexCast c13_i32_392
  let c5_i32_393 : BitVec 32 := 5#32
  let v220 : Index := Scalar.indexCast c5_i32_393
  let c0_i32_338 : BitVec 32 := 0#32
  let c0_i32_253 : BitVec 32 := 0#32
  let c1_i32_255 : BitVec 32 := 1#32
  let arg14 : BitVec 32 := Scf.iv c0_i32_253 c1_i32_255 k0_t40
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![13, 5, v221.toNat]
def k0_off157 (k0_t40 : Fin k0_t40_loop.trips) : Fin 3 → Nat :=
  let c13_i32_397 : BitVec 32 := 13#32
  let v225 : Index := Scalar.indexCast c13_i32_397
  let c6_i32_398 : BitVec 32 := 6#32
  let v226 : Index := Scalar.indexCast c6_i32_398
  let c0_i32_338 : BitVec 32 := 0#32
  let c0_i32_253 : BitVec 32 := 0#32
  let c1_i32_255 : BitVec 32 := 1#32
  let arg14 : BitVec 32 := Scf.iv c0_i32_253 c1_i32_255 k0_t40
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![13, 6, v227.toNat]
def k0_off158 (k0_t40 : Fin k0_t40_loop.trips) : Fin 3 → Nat :=
  let c13_i32_402 : BitVec 32 := 13#32
  let v231 : Index := Scalar.indexCast c13_i32_402
  let c7_i32_403 : BitVec 32 := 7#32
  let v232 : Index := Scalar.indexCast c7_i32_403
  let c0_i32_338 : BitVec 32 := 0#32
  let c0_i32_253 : BitVec 32 := 0#32
  let c1_i32_255 : BitVec 32 := 1#32
  let arg14 : BitVec 32 := Scf.iv c0_i32_253 c1_i32_255 k0_t40
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![13, 7, v233.toNat]
@[reducible] def k0_t41_loop : Scf.Loop 32 :=
  let c0_i32_259 : BitVec 32 := 0#32
  let c8_i32_260 : BitVec 32 := 8#32
  let v121 : BitVec 32 := Scalar.addi c0_i32_259 c8_i32_260
  let c1_i32_261 : BitVec 32 := 1#32
  ⟨c0_i32_259, v121, c1_i32_261⟩
def k0_off159 (k0_t41 : Fin k0_t41_loop.trips) : Fin 1 → Nat :=
  let c1792_i32 : BitVec 32 := 1792#32
  let c0_i32_338 : BitVec 32 := 0#32
  let c0_i32_259 : BitVec 32 := 0#32
  let c1_i32_261 : BitVec 32 := 1#32
  let arg14 : BitVec 32 := Scf.iv c0_i32_259 c1_i32_261 k0_t41
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c1792_i32 v149
  let v153 : Index := Scalar.indexCast v152
  ![v153.toNat]

def k0_chk138 (v151 : IVec S16 32) (v154 : IVec S16 32) (v155 : IVec S16 32) : Prop :=
  (∀ a x, ((![v154, v155, v151] : Fin 3 → IVec S16 32) a x).toNat < S25x8x128.size a)
theorem k0_idx138_inb : ∀ (v151 : IVec S16 32) (v154 : IVec S16 32) (v155 : IVec S16 32) (k0_hw138 : k0_chk138 v151 v154 v155), ∀ a x, ((![v154, v155, v151] : Fin 3 → IVec S16 32) a x).toNat < S25x8x128.size a := fun v151 v154 v155 k0_hw138 => k0_hw138

def k0_chk139 (v151 : IVec S16 32) (v154 : IVec S16 32) (v159 : IVec S16 32) : Prop :=
  (∀ a x, ((![v154, v159, v151] : Fin 3 → IVec S16 32) a x).toNat < S25x8x128.size a)
theorem k0_idx139_inb : ∀ (v151 : IVec S16 32) (v154 : IVec S16 32) (v159 : IVec S16 32) (k0_hw139 : k0_chk139 v151 v154 v159), ∀ a x, ((![v154, v159, v151] : Fin 3 → IVec S16 32) a x).toNat < S25x8x128.size a := fun v151 v154 v159 k0_hw139 => k0_hw139

def k0_chk140 (v151 : IVec S16 32) (v154 : IVec S16 32) (v163 : IVec S16 32) : Prop :=
  (∀ a x, ((![v154, v163, v151] : Fin 3 → IVec S16 32) a x).toNat < S25x8x128.size a)
theorem k0_idx140_inb : ∀ (v151 : IVec S16 32) (v154 : IVec S16 32) (v163 : IVec S16 32) (k0_hw140 : k0_chk140 v151 v154 v163), ∀ a x, ((![v154, v163, v151] : Fin 3 → IVec S16 32) a x).toNat < S25x8x128.size a := fun v151 v154 v163 k0_hw140 => k0_hw140

def k0_chk141 (v151 : IVec S16 32) (v154 : IVec S16 32) (v167 : IVec S16 32) : Prop :=
  (∀ a x, ((![v154, v167, v151] : Fin 3 → IVec S16 32) a x).toNat < S25x8x128.size a)
theorem k0_idx141_inb : ∀ (v151 : IVec S16 32) (v154 : IVec S16 32) (v167 : IVec S16 32) (k0_hw141 : k0_chk141 v151 v154 v167), ∀ a x, ((![v154, v167, v151] : Fin 3 → IVec S16 32) a x).toNat < S25x8x128.size a := fun v151 v154 v167 k0_hw141 => k0_hw141

def k0_chk142 (v151 : IVec S16 32) (v154 : IVec S16 32) (v171 : IVec S16 32) : Prop :=
  (∀ a x, ((![v154, v171, v151] : Fin 3 → IVec S16 32) a x).toNat < S25x8x128.size a)
theorem k0_idx142_inb : ∀ (v151 : IVec S16 32) (v154 : IVec S16 32) (v171 : IVec S16 32) (k0_hw142 : k0_chk142 v151 v154 v171), ∀ a x, ((![v154, v171, v151] : Fin 3 → IVec S16 32) a x).toNat < S25x8x128.size a := fun v151 v154 v171 k0_hw142 => k0_hw142

def k0_chk143 (v151 : IVec S16 32) (v154 : IVec S16 32) (v175 : IVec S16 32) : Prop :=
  (∀ a x, ((![v154, v175, v151] : Fin 3 → IVec S16 32) a x).toNat < S25x8x128.size a)
theorem k0_idx143_inb : ∀ (v151 : IVec S16 32) (v154 : IVec S16 32) (v175 : IVec S16 32) (k0_hw143 : k0_chk143 v151 v154 v175), ∀ a x, ((![v154, v175, v151] : Fin 3 → IVec S16 32) a x).toNat < S25x8x128.size a := fun v151 v154 v175 k0_hw143 => k0_hw143

def k0_chk144 (v151 : IVec S16 32) (v154 : IVec S16 32) (v179 : IVec S16 32) : Prop :=
  (∀ a x, ((![v154, v179, v151] : Fin 3 → IVec S16 32) a x).toNat < S25x8x128.size a)
theorem k0_idx144_inb : ∀ (v151 : IVec S16 32) (v154 : IVec S16 32) (v179 : IVec S16 32) (k0_hw144 : k0_chk144 v151 v154 v179), ∀ a x, ((![v154, v179, v151] : Fin 3 → IVec S16 32) a x).toNat < S25x8x128.size a := fun v151 v154 v179 k0_hw144 => k0_hw144

def k0_chk145 (v151 : IVec S16 32) (v154 : IVec S16 32) (v183 : IVec S16 32) : Prop :=
  (∀ a x, ((![v154, v183, v151] : Fin 3 → IVec S16 32) a x).toNat < S25x8x128.size a)
theorem k0_idx145_inb : ∀ (v151 : IVec S16 32) (v154 : IVec S16 32) (v183 : IVec S16 32) (k0_hw145 : k0_chk145 v151 v154 v183), ∀ a x, ((![v154, v183, v151] : Fin 3 → IVec S16 32) a x).toNat < S25x8x128.size a := fun v151 v154 v183 k0_hw145 => k0_hw145
def k0_off160 (k0_t41 : Fin k0_t41_loop.trips) : Fin 3 → Nat :=
  let c14_i32 : BitVec 32 := 14#32
  let v189 : Index := Scalar.indexCast c14_i32
  let c0_i32_368 : BitVec 32 := 0#32
  let v190 : Index := Scalar.indexCast c0_i32_368
  let c0_i32_338 : BitVec 32 := 0#32
  let c0_i32_259 : BitVec 32 := 0#32
  let c1_i32_261 : BitVec 32 := 1#32
  let arg14 : BitVec 32 := Scf.iv c0_i32_259 c1_i32_261 k0_t41
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![14, 0, v191.toNat]
def k0_off161 (k0_t41 : Fin k0_t41_loop.trips) : Fin 3 → Nat :=
  let c14_i32_372 : BitVec 32 := 14#32
  let v195 : Index := Scalar.indexCast c14_i32_372
  let c1_i32_373 : BitVec 32 := 1#32
  let v196 : Index := Scalar.indexCast c1_i32_373
  let c0_i32_338 : BitVec 32 := 0#32
  let c0_i32_259 : BitVec 32 := 0#32
  let c1_i32_261 : BitVec 32 := 1#32
  let arg14 : BitVec 32 := Scf.iv c0_i32_259 c1_i32_261 k0_t41
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![14, 1, v197.toNat]
def k0_off162 (k0_t41 : Fin k0_t41_loop.trips) : Fin 3 → Nat :=
  let c14_i32_377 : BitVec 32 := 14#32
  let v201 : Index := Scalar.indexCast c14_i32_377
  let c2_i32_378 : BitVec 32 := 2#32
  let v202 : Index := Scalar.indexCast c2_i32_378
  let c0_i32_338 : BitVec 32 := 0#32
  let c0_i32_259 : BitVec 32 := 0#32
  let c1_i32_261 : BitVec 32 := 1#32
  let arg14 : BitVec 32 := Scf.iv c0_i32_259 c1_i32_261 k0_t41
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![14, 2, v203.toNat]
def k0_off163 (k0_t41 : Fin k0_t41_loop.trips) : Fin 3 → Nat :=
  let c14_i32_382 : BitVec 32 := 14#32
  let v207 : Index := Scalar.indexCast c14_i32_382
  let c3_i32_383 : BitVec 32 := 3#32
  let v208 : Index := Scalar.indexCast c3_i32_383
  let c0_i32_338 : BitVec 32 := 0#32
  let c0_i32_259 : BitVec 32 := 0#32
  let c1_i32_261 : BitVec 32 := 1#32
  let arg14 : BitVec 32 := Scf.iv c0_i32_259 c1_i32_261 k0_t41
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![14, 3, v209.toNat]
def k0_off164 (k0_t41 : Fin k0_t41_loop.trips) : Fin 3 → Nat :=
  let c14_i32_387 : BitVec 32 := 14#32
  let v213 : Index := Scalar.indexCast c14_i32_387
  let c4_i32_388 : BitVec 32 := 4#32
  let v214 : Index := Scalar.indexCast c4_i32_388
  let c0_i32_338 : BitVec 32 := 0#32
  let c0_i32_259 : BitVec 32 := 0#32
  let c1_i32_261 : BitVec 32 := 1#32
  let arg14 : BitVec 32 := Scf.iv c0_i32_259 c1_i32_261 k0_t41
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![14, 4, v215.toNat]
def k0_off165 (k0_t41 : Fin k0_t41_loop.trips) : Fin 3 → Nat :=
  let c14_i32_392 : BitVec 32 := 14#32
  let v219 : Index := Scalar.indexCast c14_i32_392
  let c5_i32_393 : BitVec 32 := 5#32
  let v220 : Index := Scalar.indexCast c5_i32_393
  let c0_i32_338 : BitVec 32 := 0#32
  let c0_i32_259 : BitVec 32 := 0#32
  let c1_i32_261 : BitVec 32 := 1#32
  let arg14 : BitVec 32 := Scf.iv c0_i32_259 c1_i32_261 k0_t41
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![14, 5, v221.toNat]
def k0_off166 (k0_t41 : Fin k0_t41_loop.trips) : Fin 3 → Nat :=
  let c14_i32_397 : BitVec 32 := 14#32
  let v225 : Index := Scalar.indexCast c14_i32_397
  let c6_i32_398 : BitVec 32 := 6#32
  let v226 : Index := Scalar.indexCast c6_i32_398
  let c0_i32_338 : BitVec 32 := 0#32
  let c0_i32_259 : BitVec 32 := 0#32
  let c1_i32_261 : BitVec 32 := 1#32
  let arg14 : BitVec 32 := Scf.iv c0_i32_259 c1_i32_261 k0_t41
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![14, 6, v227.toNat]
def k0_off167 (k0_t41 : Fin k0_t41_loop.trips) : Fin 3 → Nat :=
  let c14_i32_402 : BitVec 32 := 14#32
  let v231 : Index := Scalar.indexCast c14_i32_402
  let c7_i32_403 : BitVec 32 := 7#32
  let v232 : Index := Scalar.indexCast c7_i32_403
  let c0_i32_338 : BitVec 32 := 0#32
  let c0_i32_259 : BitVec 32 := 0#32
  let c1_i32_261 : BitVec 32 := 1#32
  let arg14 : BitVec 32 := Scf.iv c0_i32_259 c1_i32_261 k0_t41
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![14, 7, v233.toNat]
@[reducible] def k0_t42_loop : Scf.Loop 32 :=
  let c0_i32_265 : BitVec 32 := 0#32
  let c8_i32_266 : BitVec 32 := 8#32
  let v122 : BitVec 32 := Scalar.addi c0_i32_265 c8_i32_266
  let c1_i32_267 : BitVec 32 := 1#32
  ⟨c0_i32_265, v122, c1_i32_267⟩
def k0_off168 (k0_t42 : Fin k0_t42_loop.trips) : Fin 1 → Nat :=
  let c1920_i32 : BitVec 32 := 1920#32
  let c0_i32_338 : BitVec 32 := 0#32
  let c0_i32_265 : BitVec 32 := 0#32
  let c1_i32_267 : BitVec 32 := 1#32
  let arg14 : BitVec 32 := Scf.iv c0_i32_265 c1_i32_267 k0_t42
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c1920_i32 v149
  let v153 : Index := Scalar.indexCast v152
  ![v153.toNat]

def k0_chk146 (v151 : IVec S16 32) (v154 : IVec S16 32) (v155 : IVec S16 32) : Prop :=
  (∀ a x, ((![v154, v155, v151] : Fin 3 → IVec S16 32) a x).toNat < S25x8x128.size a)
theorem k0_idx146_inb : ∀ (v151 : IVec S16 32) (v154 : IVec S16 32) (v155 : IVec S16 32) (k0_hw146 : k0_chk146 v151 v154 v155), ∀ a x, ((![v154, v155, v151] : Fin 3 → IVec S16 32) a x).toNat < S25x8x128.size a := fun v151 v154 v155 k0_hw146 => k0_hw146

def k0_chk147 (v151 : IVec S16 32) (v154 : IVec S16 32) (v159 : IVec S16 32) : Prop :=
  (∀ a x, ((![v154, v159, v151] : Fin 3 → IVec S16 32) a x).toNat < S25x8x128.size a)
theorem k0_idx147_inb : ∀ (v151 : IVec S16 32) (v154 : IVec S16 32) (v159 : IVec S16 32) (k0_hw147 : k0_chk147 v151 v154 v159), ∀ a x, ((![v154, v159, v151] : Fin 3 → IVec S16 32) a x).toNat < S25x8x128.size a := fun v151 v154 v159 k0_hw147 => k0_hw147

def k0_chk148 (v151 : IVec S16 32) (v154 : IVec S16 32) (v163 : IVec S16 32) : Prop :=
  (∀ a x, ((![v154, v163, v151] : Fin 3 → IVec S16 32) a x).toNat < S25x8x128.size a)
theorem k0_idx148_inb : ∀ (v151 : IVec S16 32) (v154 : IVec S16 32) (v163 : IVec S16 32) (k0_hw148 : k0_chk148 v151 v154 v163), ∀ a x, ((![v154, v163, v151] : Fin 3 → IVec S16 32) a x).toNat < S25x8x128.size a := fun v151 v154 v163 k0_hw148 => k0_hw148

def k0_chk149 (v151 : IVec S16 32) (v154 : IVec S16 32) (v167 : IVec S16 32) : Prop :=
  (∀ a x, ((![v154, v167, v151] : Fin 3 → IVec S16 32) a x).toNat < S25x8x128.size a)
theorem k0_idx149_inb : ∀ (v151 : IVec S16 32) (v154 : IVec S16 32) (v167 : IVec S16 32) (k0_hw149 : k0_chk149 v151 v154 v167), ∀ a x, ((![v154, v167, v151] : Fin 3 → IVec S16 32) a x).toNat < S25x8x128.size a := fun v151 v154 v167 k0_hw149 => k0_hw149

def k0_chk150 (v151 : IVec S16 32) (v154 : IVec S16 32) (v171 : IVec S16 32) : Prop :=
  (∀ a x, ((![v154, v171, v151] : Fin 3 → IVec S16 32) a x).toNat < S25x8x128.size a)
theorem k0_idx150_inb : ∀ (v151 : IVec S16 32) (v154 : IVec S16 32) (v171 : IVec S16 32) (k0_hw150 : k0_chk150 v151 v154 v171), ∀ a x, ((![v154, v171, v151] : Fin 3 → IVec S16 32) a x).toNat < S25x8x128.size a := fun v151 v154 v171 k0_hw150 => k0_hw150

def k0_chk151 (v151 : IVec S16 32) (v154 : IVec S16 32) (v175 : IVec S16 32) : Prop :=
  (∀ a x, ((![v154, v175, v151] : Fin 3 → IVec S16 32) a x).toNat < S25x8x128.size a)
theorem k0_idx151_inb : ∀ (v151 : IVec S16 32) (v154 : IVec S16 32) (v175 : IVec S16 32) (k0_hw151 : k0_chk151 v151 v154 v175), ∀ a x, ((![v154, v175, v151] : Fin 3 → IVec S16 32) a x).toNat < S25x8x128.size a := fun v151 v154 v175 k0_hw151 => k0_hw151

def k0_chk152 (v151 : IVec S16 32) (v154 : IVec S16 32) (v179 : IVec S16 32) : Prop :=
  (∀ a x, ((![v154, v179, v151] : Fin 3 → IVec S16 32) a x).toNat < S25x8x128.size a)
theorem k0_idx152_inb : ∀ (v151 : IVec S16 32) (v154 : IVec S16 32) (v179 : IVec S16 32) (k0_hw152 : k0_chk152 v151 v154 v179), ∀ a x, ((![v154, v179, v151] : Fin 3 → IVec S16 32) a x).toNat < S25x8x128.size a := fun v151 v154 v179 k0_hw152 => k0_hw152

def k0_chk153 (v151 : IVec S16 32) (v154 : IVec S16 32) (v183 : IVec S16 32) : Prop :=
  (∀ a x, ((![v154, v183, v151] : Fin 3 → IVec S16 32) a x).toNat < S25x8x128.size a)
theorem k0_idx153_inb : ∀ (v151 : IVec S16 32) (v154 : IVec S16 32) (v183 : IVec S16 32) (k0_hw153 : k0_chk153 v151 v154 v183), ∀ a x, ((![v154, v183, v151] : Fin 3 → IVec S16 32) a x).toNat < S25x8x128.size a := fun v151 v154 v183 k0_hw153 => k0_hw153
def k0_off169 (k0_t42 : Fin k0_t42_loop.trips) : Fin 3 → Nat :=
  let c15_i32 : BitVec 32 := 15#32
  let v189 : Index := Scalar.indexCast c15_i32
  let c0_i32_368 : BitVec 32 := 0#32
  let v190 : Index := Scalar.indexCast c0_i32_368
  let c0_i32_338 : BitVec 32 := 0#32
  let c0_i32_265 : BitVec 32 := 0#32
  let c1_i32_267 : BitVec 32 := 1#32
  let arg14 : BitVec 32 := Scf.iv c0_i32_265 c1_i32_267 k0_t42
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![15, 0, v191.toNat]
def k0_off170 (k0_t42 : Fin k0_t42_loop.trips) : Fin 3 → Nat :=
  let c15_i32_372 : BitVec 32 := 15#32
  let v195 : Index := Scalar.indexCast c15_i32_372
  let c1_i32_373 : BitVec 32 := 1#32
  let v196 : Index := Scalar.indexCast c1_i32_373
  let c0_i32_338 : BitVec 32 := 0#32
  let c0_i32_265 : BitVec 32 := 0#32
  let c1_i32_267 : BitVec 32 := 1#32
  let arg14 : BitVec 32 := Scf.iv c0_i32_265 c1_i32_267 k0_t42
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![15, 1, v197.toNat]
def k0_off171 (k0_t42 : Fin k0_t42_loop.trips) : Fin 3 → Nat :=
  let c15_i32_377 : BitVec 32 := 15#32
  let v201 : Index := Scalar.indexCast c15_i32_377
  let c2_i32_378 : BitVec 32 := 2#32
  let v202 : Index := Scalar.indexCast c2_i32_378
  let c0_i32_338 : BitVec 32 := 0#32
  let c0_i32_265 : BitVec 32 := 0#32
  let c1_i32_267 : BitVec 32 := 1#32
  let arg14 : BitVec 32 := Scf.iv c0_i32_265 c1_i32_267 k0_t42
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![15, 2, v203.toNat]
def k0_off172 (k0_t42 : Fin k0_t42_loop.trips) : Fin 3 → Nat :=
  let c15_i32_382 : BitVec 32 := 15#32
  let v207 : Index := Scalar.indexCast c15_i32_382
  let c3_i32_383 : BitVec 32 := 3#32
  let v208 : Index := Scalar.indexCast c3_i32_383
  let c0_i32_338 : BitVec 32 := 0#32
  let c0_i32_265 : BitVec 32 := 0#32
  let c1_i32_267 : BitVec 32 := 1#32
  let arg14 : BitVec 32 := Scf.iv c0_i32_265 c1_i32_267 k0_t42
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![15, 3, v209.toNat]
def k0_off173 (k0_t42 : Fin k0_t42_loop.trips) : Fin 3 → Nat :=
  let c15_i32_387 : BitVec 32 := 15#32
  let v213 : Index := Scalar.indexCast c15_i32_387
  let c4_i32_388 : BitVec 32 := 4#32
  let v214 : Index := Scalar.indexCast c4_i32_388
  let c0_i32_338 : BitVec 32 := 0#32
  let c0_i32_265 : BitVec 32 := 0#32
  let c1_i32_267 : BitVec 32 := 1#32
  let arg14 : BitVec 32 := Scf.iv c0_i32_265 c1_i32_267 k0_t42
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![15, 4, v215.toNat]
def k0_off174 (k0_t42 : Fin k0_t42_loop.trips) : Fin 3 → Nat :=
  let c15_i32_392 : BitVec 32 := 15#32
  let v219 : Index := Scalar.indexCast c15_i32_392
  let c5_i32_393 : BitVec 32 := 5#32
  let v220 : Index := Scalar.indexCast c5_i32_393
  let c0_i32_338 : BitVec 32 := 0#32
  let c0_i32_265 : BitVec 32 := 0#32
  let c1_i32_267 : BitVec 32 := 1#32
  let arg14 : BitVec 32 := Scf.iv c0_i32_265 c1_i32_267 k0_t42
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![15, 5, v221.toNat]
def k0_off175 (k0_t42 : Fin k0_t42_loop.trips) : Fin 3 → Nat :=
  let c15_i32_397 : BitVec 32 := 15#32
  let v225 : Index := Scalar.indexCast c15_i32_397
  let c6_i32_398 : BitVec 32 := 6#32
  let v226 : Index := Scalar.indexCast c6_i32_398
  let c0_i32_338 : BitVec 32 := 0#32
  let c0_i32_265 : BitVec 32 := 0#32
  let c1_i32_267 : BitVec 32 := 1#32
  let arg14 : BitVec 32 := Scf.iv c0_i32_265 c1_i32_267 k0_t42
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![15, 6, v227.toNat]
def k0_off176 (k0_t42 : Fin k0_t42_loop.trips) : Fin 3 → Nat :=
  let c15_i32_402 : BitVec 32 := 15#32
  let v231 : Index := Scalar.indexCast c15_i32_402
  let c7_i32_403 : BitVec 32 := 7#32
  let v232 : Index := Scalar.indexCast c7_i32_403
  let c0_i32_338 : BitVec 32 := 0#32
  let c0_i32_265 : BitVec 32 := 0#32
  let c1_i32_267 : BitVec 32 := 1#32
  let arg14 : BitVec 32 := Scf.iv c0_i32_265 c1_i32_267 k0_t42
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![15, 7, v233.toNat]
@[reducible] def k0_t43_loop : Scf.Loop 32 :=
  let c0_i32_271 : BitVec 32 := 0#32
  let c8_i32_272 : BitVec 32 := 8#32
  let v123 : BitVec 32 := Scalar.addi c0_i32_271 c8_i32_272
  let c1_i32_273 : BitVec 32 := 1#32
  ⟨c0_i32_271, v123, c1_i32_273⟩
def k0_off177 (k0_t43 : Fin k0_t43_loop.trips) : Fin 1 → Nat :=
  let c2048_i32 : BitVec 32 := 2048#32
  let c0_i32_338 : BitVec 32 := 0#32
  let c0_i32_271 : BitVec 32 := 0#32
  let c1_i32_273 : BitVec 32 := 1#32
  let arg14 : BitVec 32 := Scf.iv c0_i32_271 c1_i32_273 k0_t43
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c2048_i32 v149
  let v153 : Index := Scalar.indexCast v152
  ![v153.toNat]

def k0_chk154 (v151 : IVec S16 32) (v154 : IVec S16 32) (v155 : IVec S16 32) : Prop :=
  (∀ a x, ((![v154, v155, v151] : Fin 3 → IVec S16 32) a x).toNat < S25x8x128.size a)
theorem k0_idx154_inb : ∀ (v151 : IVec S16 32) (v154 : IVec S16 32) (v155 : IVec S16 32) (k0_hw154 : k0_chk154 v151 v154 v155), ∀ a x, ((![v154, v155, v151] : Fin 3 → IVec S16 32) a x).toNat < S25x8x128.size a := fun v151 v154 v155 k0_hw154 => k0_hw154

def k0_chk155 (v151 : IVec S16 32) (v154 : IVec S16 32) (v159 : IVec S16 32) : Prop :=
  (∀ a x, ((![v154, v159, v151] : Fin 3 → IVec S16 32) a x).toNat < S25x8x128.size a)
theorem k0_idx155_inb : ∀ (v151 : IVec S16 32) (v154 : IVec S16 32) (v159 : IVec S16 32) (k0_hw155 : k0_chk155 v151 v154 v159), ∀ a x, ((![v154, v159, v151] : Fin 3 → IVec S16 32) a x).toNat < S25x8x128.size a := fun v151 v154 v159 k0_hw155 => k0_hw155

def k0_chk156 (v151 : IVec S16 32) (v154 : IVec S16 32) (v163 : IVec S16 32) : Prop :=
  (∀ a x, ((![v154, v163, v151] : Fin 3 → IVec S16 32) a x).toNat < S25x8x128.size a)
theorem k0_idx156_inb : ∀ (v151 : IVec S16 32) (v154 : IVec S16 32) (v163 : IVec S16 32) (k0_hw156 : k0_chk156 v151 v154 v163), ∀ a x, ((![v154, v163, v151] : Fin 3 → IVec S16 32) a x).toNat < S25x8x128.size a := fun v151 v154 v163 k0_hw156 => k0_hw156

def k0_chk157 (v151 : IVec S16 32) (v154 : IVec S16 32) (v167 : IVec S16 32) : Prop :=
  (∀ a x, ((![v154, v167, v151] : Fin 3 → IVec S16 32) a x).toNat < S25x8x128.size a)
theorem k0_idx157_inb : ∀ (v151 : IVec S16 32) (v154 : IVec S16 32) (v167 : IVec S16 32) (k0_hw157 : k0_chk157 v151 v154 v167), ∀ a x, ((![v154, v167, v151] : Fin 3 → IVec S16 32) a x).toNat < S25x8x128.size a := fun v151 v154 v167 k0_hw157 => k0_hw157

def k0_chk158 (v151 : IVec S16 32) (v154 : IVec S16 32) (v171 : IVec S16 32) : Prop :=
  (∀ a x, ((![v154, v171, v151] : Fin 3 → IVec S16 32) a x).toNat < S25x8x128.size a)
theorem k0_idx158_inb : ∀ (v151 : IVec S16 32) (v154 : IVec S16 32) (v171 : IVec S16 32) (k0_hw158 : k0_chk158 v151 v154 v171), ∀ a x, ((![v154, v171, v151] : Fin 3 → IVec S16 32) a x).toNat < S25x8x128.size a := fun v151 v154 v171 k0_hw158 => k0_hw158

def k0_chk159 (v151 : IVec S16 32) (v154 : IVec S16 32) (v175 : IVec S16 32) : Prop :=
  (∀ a x, ((![v154, v175, v151] : Fin 3 → IVec S16 32) a x).toNat < S25x8x128.size a)
theorem k0_idx159_inb : ∀ (v151 : IVec S16 32) (v154 : IVec S16 32) (v175 : IVec S16 32) (k0_hw159 : k0_chk159 v151 v154 v175), ∀ a x, ((![v154, v175, v151] : Fin 3 → IVec S16 32) a x).toNat < S25x8x128.size a := fun v151 v154 v175 k0_hw159 => k0_hw159

def k0_chk160 (v151 : IVec S16 32) (v154 : IVec S16 32) (v179 : IVec S16 32) : Prop :=
  (∀ a x, ((![v154, v179, v151] : Fin 3 → IVec S16 32) a x).toNat < S25x8x128.size a)
theorem k0_idx160_inb : ∀ (v151 : IVec S16 32) (v154 : IVec S16 32) (v179 : IVec S16 32) (k0_hw160 : k0_chk160 v151 v154 v179), ∀ a x, ((![v154, v179, v151] : Fin 3 → IVec S16 32) a x).toNat < S25x8x128.size a := fun v151 v154 v179 k0_hw160 => k0_hw160

def k0_chk161 (v151 : IVec S16 32) (v154 : IVec S16 32) (v183 : IVec S16 32) : Prop :=
  (∀ a x, ((![v154, v183, v151] : Fin 3 → IVec S16 32) a x).toNat < S25x8x128.size a)
theorem k0_idx161_inb : ∀ (v151 : IVec S16 32) (v154 : IVec S16 32) (v183 : IVec S16 32) (k0_hw161 : k0_chk161 v151 v154 v183), ∀ a x, ((![v154, v183, v151] : Fin 3 → IVec S16 32) a x).toNat < S25x8x128.size a := fun v151 v154 v183 k0_hw161 => k0_hw161
def k0_off178 (k0_t43 : Fin k0_t43_loop.trips) : Fin 3 → Nat :=
  let c16_i32_368 : BitVec 32 := 16#32
  let v189 : Index := Scalar.indexCast c16_i32_368
  let c0_i32_369 : BitVec 32 := 0#32
  let v190 : Index := Scalar.indexCast c0_i32_369
  let c0_i32_338 : BitVec 32 := 0#32
  let c0_i32_271 : BitVec 32 := 0#32
  let c1_i32_273 : BitVec 32 := 1#32
  let arg14 : BitVec 32 := Scf.iv c0_i32_271 c1_i32_273 k0_t43
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![16, 0, v191.toNat]
def k0_off179 (k0_t43 : Fin k0_t43_loop.trips) : Fin 3 → Nat :=
  let c16_i32_373 : BitVec 32 := 16#32
  let v195 : Index := Scalar.indexCast c16_i32_373
  let c1_i32_374 : BitVec 32 := 1#32
  let v196 : Index := Scalar.indexCast c1_i32_374
  let c0_i32_338 : BitVec 32 := 0#32
  let c0_i32_271 : BitVec 32 := 0#32
  let c1_i32_273 : BitVec 32 := 1#32
  let arg14 : BitVec 32 := Scf.iv c0_i32_271 c1_i32_273 k0_t43
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![16, 1, v197.toNat]
def k0_off180 (k0_t43 : Fin k0_t43_loop.trips) : Fin 3 → Nat :=
  let c16_i32_378 : BitVec 32 := 16#32
  let v201 : Index := Scalar.indexCast c16_i32_378
  let c2_i32_379 : BitVec 32 := 2#32
  let v202 : Index := Scalar.indexCast c2_i32_379
  let c0_i32_338 : BitVec 32 := 0#32
  let c0_i32_271 : BitVec 32 := 0#32
  let c1_i32_273 : BitVec 32 := 1#32
  let arg14 : BitVec 32 := Scf.iv c0_i32_271 c1_i32_273 k0_t43
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![16, 2, v203.toNat]
def k0_off181 (k0_t43 : Fin k0_t43_loop.trips) : Fin 3 → Nat :=
  let c16_i32_383 : BitVec 32 := 16#32
  let v207 : Index := Scalar.indexCast c16_i32_383
  let c3_i32_384 : BitVec 32 := 3#32
  let v208 : Index := Scalar.indexCast c3_i32_384
  let c0_i32_338 : BitVec 32 := 0#32
  let c0_i32_271 : BitVec 32 := 0#32
  let c1_i32_273 : BitVec 32 := 1#32
  let arg14 : BitVec 32 := Scf.iv c0_i32_271 c1_i32_273 k0_t43
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![16, 3, v209.toNat]
def k0_off182 (k0_t43 : Fin k0_t43_loop.trips) : Fin 3 → Nat :=
  let c16_i32_388 : BitVec 32 := 16#32
  let v213 : Index := Scalar.indexCast c16_i32_388
  let c4_i32_389 : BitVec 32 := 4#32
  let v214 : Index := Scalar.indexCast c4_i32_389
  let c0_i32_338 : BitVec 32 := 0#32
  let c0_i32_271 : BitVec 32 := 0#32
  let c1_i32_273 : BitVec 32 := 1#32
  let arg14 : BitVec 32 := Scf.iv c0_i32_271 c1_i32_273 k0_t43
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![16, 4, v215.toNat]
def k0_off183 (k0_t43 : Fin k0_t43_loop.trips) : Fin 3 → Nat :=
  let c16_i32_393 : BitVec 32 := 16#32
  let v219 : Index := Scalar.indexCast c16_i32_393
  let c5_i32_394 : BitVec 32 := 5#32
  let v220 : Index := Scalar.indexCast c5_i32_394
  let c0_i32_338 : BitVec 32 := 0#32
  let c0_i32_271 : BitVec 32 := 0#32
  let c1_i32_273 : BitVec 32 := 1#32
  let arg14 : BitVec 32 := Scf.iv c0_i32_271 c1_i32_273 k0_t43
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![16, 5, v221.toNat]
def k0_off184 (k0_t43 : Fin k0_t43_loop.trips) : Fin 3 → Nat :=
  let c16_i32_398 : BitVec 32 := 16#32
  let v225 : Index := Scalar.indexCast c16_i32_398
  let c6_i32_399 : BitVec 32 := 6#32
  let v226 : Index := Scalar.indexCast c6_i32_399
  let c0_i32_338 : BitVec 32 := 0#32
  let c0_i32_271 : BitVec 32 := 0#32
  let c1_i32_273 : BitVec 32 := 1#32
  let arg14 : BitVec 32 := Scf.iv c0_i32_271 c1_i32_273 k0_t43
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![16, 6, v227.toNat]
def k0_off185 (k0_t43 : Fin k0_t43_loop.trips) : Fin 3 → Nat :=
  let c16_i32_403 : BitVec 32 := 16#32
  let v231 : Index := Scalar.indexCast c16_i32_403
  let c7_i32_404 : BitVec 32 := 7#32
  let v232 : Index := Scalar.indexCast c7_i32_404
  let c0_i32_338 : BitVec 32 := 0#32
  let c0_i32_271 : BitVec 32 := 0#32
  let c1_i32_273 : BitVec 32 := 1#32
  let arg14 : BitVec 32 := Scf.iv c0_i32_271 c1_i32_273 k0_t43
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![16, 7, v233.toNat]
@[reducible] def k0_t44_loop : Scf.Loop 32 :=
  let c0_i32_277 : BitVec 32 := 0#32
  let c8_i32_278 : BitVec 32 := 8#32
  let v124 : BitVec 32 := Scalar.addi c0_i32_277 c8_i32_278
  let c1_i32_279 : BitVec 32 := 1#32
  ⟨c0_i32_277, v124, c1_i32_279⟩
def k0_off186 (k0_t44 : Fin k0_t44_loop.trips) : Fin 1 → Nat :=
  let c2176_i32 : BitVec 32 := 2176#32
  let c0_i32_338 : BitVec 32 := 0#32
  let c0_i32_277 : BitVec 32 := 0#32
  let c1_i32_279 : BitVec 32 := 1#32
  let arg14 : BitVec 32 := Scf.iv c0_i32_277 c1_i32_279 k0_t44
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c2176_i32 v149
  let v153 : Index := Scalar.indexCast v152
  ![v153.toNat]

def k0_chk162 (v151 : IVec S16 32) (v154 : IVec S16 32) (v155 : IVec S16 32) : Prop :=
  (∀ a x, ((![v154, v155, v151] : Fin 3 → IVec S16 32) a x).toNat < S25x8x128.size a)
theorem k0_idx162_inb : ∀ (v151 : IVec S16 32) (v154 : IVec S16 32) (v155 : IVec S16 32) (k0_hw162 : k0_chk162 v151 v154 v155), ∀ a x, ((![v154, v155, v151] : Fin 3 → IVec S16 32) a x).toNat < S25x8x128.size a := fun v151 v154 v155 k0_hw162 => k0_hw162

def k0_chk163 (v151 : IVec S16 32) (v154 : IVec S16 32) (v159 : IVec S16 32) : Prop :=
  (∀ a x, ((![v154, v159, v151] : Fin 3 → IVec S16 32) a x).toNat < S25x8x128.size a)
theorem k0_idx163_inb : ∀ (v151 : IVec S16 32) (v154 : IVec S16 32) (v159 : IVec S16 32) (k0_hw163 : k0_chk163 v151 v154 v159), ∀ a x, ((![v154, v159, v151] : Fin 3 → IVec S16 32) a x).toNat < S25x8x128.size a := fun v151 v154 v159 k0_hw163 => k0_hw163

def k0_chk164 (v151 : IVec S16 32) (v154 : IVec S16 32) (v163 : IVec S16 32) : Prop :=
  (∀ a x, ((![v154, v163, v151] : Fin 3 → IVec S16 32) a x).toNat < S25x8x128.size a)
theorem k0_idx164_inb : ∀ (v151 : IVec S16 32) (v154 : IVec S16 32) (v163 : IVec S16 32) (k0_hw164 : k0_chk164 v151 v154 v163), ∀ a x, ((![v154, v163, v151] : Fin 3 → IVec S16 32) a x).toNat < S25x8x128.size a := fun v151 v154 v163 k0_hw164 => k0_hw164

def k0_chk165 (v151 : IVec S16 32) (v154 : IVec S16 32) (v167 : IVec S16 32) : Prop :=
  (∀ a x, ((![v154, v167, v151] : Fin 3 → IVec S16 32) a x).toNat < S25x8x128.size a)
theorem k0_idx165_inb : ∀ (v151 : IVec S16 32) (v154 : IVec S16 32) (v167 : IVec S16 32) (k0_hw165 : k0_chk165 v151 v154 v167), ∀ a x, ((![v154, v167, v151] : Fin 3 → IVec S16 32) a x).toNat < S25x8x128.size a := fun v151 v154 v167 k0_hw165 => k0_hw165

def k0_chk166 (v151 : IVec S16 32) (v154 : IVec S16 32) (v171 : IVec S16 32) : Prop :=
  (∀ a x, ((![v154, v171, v151] : Fin 3 → IVec S16 32) a x).toNat < S25x8x128.size a)
theorem k0_idx166_inb : ∀ (v151 : IVec S16 32) (v154 : IVec S16 32) (v171 : IVec S16 32) (k0_hw166 : k0_chk166 v151 v154 v171), ∀ a x, ((![v154, v171, v151] : Fin 3 → IVec S16 32) a x).toNat < S25x8x128.size a := fun v151 v154 v171 k0_hw166 => k0_hw166

def k0_chk167 (v151 : IVec S16 32) (v154 : IVec S16 32) (v175 : IVec S16 32) : Prop :=
  (∀ a x, ((![v154, v175, v151] : Fin 3 → IVec S16 32) a x).toNat < S25x8x128.size a)
theorem k0_idx167_inb : ∀ (v151 : IVec S16 32) (v154 : IVec S16 32) (v175 : IVec S16 32) (k0_hw167 : k0_chk167 v151 v154 v175), ∀ a x, ((![v154, v175, v151] : Fin 3 → IVec S16 32) a x).toNat < S25x8x128.size a := fun v151 v154 v175 k0_hw167 => k0_hw167

def k0_chk168 (v151 : IVec S16 32) (v154 : IVec S16 32) (v179 : IVec S16 32) : Prop :=
  (∀ a x, ((![v154, v179, v151] : Fin 3 → IVec S16 32) a x).toNat < S25x8x128.size a)
theorem k0_idx168_inb : ∀ (v151 : IVec S16 32) (v154 : IVec S16 32) (v179 : IVec S16 32) (k0_hw168 : k0_chk168 v151 v154 v179), ∀ a x, ((![v154, v179, v151] : Fin 3 → IVec S16 32) a x).toNat < S25x8x128.size a := fun v151 v154 v179 k0_hw168 => k0_hw168

def k0_chk169 (v151 : IVec S16 32) (v154 : IVec S16 32) (v183 : IVec S16 32) : Prop :=
  (∀ a x, ((![v154, v183, v151] : Fin 3 → IVec S16 32) a x).toNat < S25x8x128.size a)
theorem k0_idx169_inb : ∀ (v151 : IVec S16 32) (v154 : IVec S16 32) (v183 : IVec S16 32) (k0_hw169 : k0_chk169 v151 v154 v183), ∀ a x, ((![v154, v183, v151] : Fin 3 → IVec S16 32) a x).toNat < S25x8x128.size a := fun v151 v154 v183 k0_hw169 => k0_hw169
def k0_off187 (k0_t44 : Fin k0_t44_loop.trips) : Fin 3 → Nat :=
  let c17_i32 : BitVec 32 := 17#32
  let v189 : Index := Scalar.indexCast c17_i32
  let c0_i32_368 : BitVec 32 := 0#32
  let v190 : Index := Scalar.indexCast c0_i32_368
  let c0_i32_338 : BitVec 32 := 0#32
  let c0_i32_277 : BitVec 32 := 0#32
  let c1_i32_279 : BitVec 32 := 1#32
  let arg14 : BitVec 32 := Scf.iv c0_i32_277 c1_i32_279 k0_t44
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![17, 0, v191.toNat]
def k0_off188 (k0_t44 : Fin k0_t44_loop.trips) : Fin 3 → Nat :=
  let c17_i32_372 : BitVec 32 := 17#32
  let v195 : Index := Scalar.indexCast c17_i32_372
  let c1_i32_373 : BitVec 32 := 1#32
  let v196 : Index := Scalar.indexCast c1_i32_373
  let c0_i32_338 : BitVec 32 := 0#32
  let c0_i32_277 : BitVec 32 := 0#32
  let c1_i32_279 : BitVec 32 := 1#32
  let arg14 : BitVec 32 := Scf.iv c0_i32_277 c1_i32_279 k0_t44
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![17, 1, v197.toNat]
def k0_off189 (k0_t44 : Fin k0_t44_loop.trips) : Fin 3 → Nat :=
  let c17_i32_377 : BitVec 32 := 17#32
  let v201 : Index := Scalar.indexCast c17_i32_377
  let c2_i32_378 : BitVec 32 := 2#32
  let v202 : Index := Scalar.indexCast c2_i32_378
  let c0_i32_338 : BitVec 32 := 0#32
  let c0_i32_277 : BitVec 32 := 0#32
  let c1_i32_279 : BitVec 32 := 1#32
  let arg14 : BitVec 32 := Scf.iv c0_i32_277 c1_i32_279 k0_t44
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![17, 2, v203.toNat]
def k0_off190 (k0_t44 : Fin k0_t44_loop.trips) : Fin 3 → Nat :=
  let c17_i32_382 : BitVec 32 := 17#32
  let v207 : Index := Scalar.indexCast c17_i32_382
  let c3_i32_383 : BitVec 32 := 3#32
  let v208 : Index := Scalar.indexCast c3_i32_383
  let c0_i32_338 : BitVec 32 := 0#32
  let c0_i32_277 : BitVec 32 := 0#32
  let c1_i32_279 : BitVec 32 := 1#32
  let arg14 : BitVec 32 := Scf.iv c0_i32_277 c1_i32_279 k0_t44
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![17, 3, v209.toNat]
def k0_off191 (k0_t44 : Fin k0_t44_loop.trips) : Fin 3 → Nat :=
  let c17_i32_387 : BitVec 32 := 17#32
  let v213 : Index := Scalar.indexCast c17_i32_387
  let c4_i32_388 : BitVec 32 := 4#32
  let v214 : Index := Scalar.indexCast c4_i32_388
  let c0_i32_338 : BitVec 32 := 0#32
  let c0_i32_277 : BitVec 32 := 0#32
  let c1_i32_279 : BitVec 32 := 1#32
  let arg14 : BitVec 32 := Scf.iv c0_i32_277 c1_i32_279 k0_t44
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![17, 4, v215.toNat]
def k0_off192 (k0_t44 : Fin k0_t44_loop.trips) : Fin 3 → Nat :=
  let c17_i32_392 : BitVec 32 := 17#32
  let v219 : Index := Scalar.indexCast c17_i32_392
  let c5_i32_393 : BitVec 32 := 5#32
  let v220 : Index := Scalar.indexCast c5_i32_393
  let c0_i32_338 : BitVec 32 := 0#32
  let c0_i32_277 : BitVec 32 := 0#32
  let c1_i32_279 : BitVec 32 := 1#32
  let arg14 : BitVec 32 := Scf.iv c0_i32_277 c1_i32_279 k0_t44
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![17, 5, v221.toNat]
def k0_off193 (k0_t44 : Fin k0_t44_loop.trips) : Fin 3 → Nat :=
  let c17_i32_397 : BitVec 32 := 17#32
  let v225 : Index := Scalar.indexCast c17_i32_397
  let c6_i32_398 : BitVec 32 := 6#32
  let v226 : Index := Scalar.indexCast c6_i32_398
  let c0_i32_338 : BitVec 32 := 0#32
  let c0_i32_277 : BitVec 32 := 0#32
  let c1_i32_279 : BitVec 32 := 1#32
  let arg14 : BitVec 32 := Scf.iv c0_i32_277 c1_i32_279 k0_t44
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![17, 6, v227.toNat]
def k0_off194 (k0_t44 : Fin k0_t44_loop.trips) : Fin 3 → Nat :=
  let c17_i32_402 : BitVec 32 := 17#32
  let v231 : Index := Scalar.indexCast c17_i32_402
  let c7_i32_403 : BitVec 32 := 7#32
  let v232 : Index := Scalar.indexCast c7_i32_403
  let c0_i32_338 : BitVec 32 := 0#32
  let c0_i32_277 : BitVec 32 := 0#32
  let c1_i32_279 : BitVec 32 := 1#32
  let arg14 : BitVec 32 := Scf.iv c0_i32_277 c1_i32_279 k0_t44
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![17, 7, v233.toNat]
@[reducible] def k0_t45_loop : Scf.Loop 32 :=
  let c0_i32_283 : BitVec 32 := 0#32
  let c8_i32_284 : BitVec 32 := 8#32
  let v125 : BitVec 32 := Scalar.addi c0_i32_283 c8_i32_284
  let c1_i32_285 : BitVec 32 := 1#32
  ⟨c0_i32_283, v125, c1_i32_285⟩
def k0_off195 (k0_t45 : Fin k0_t45_loop.trips) : Fin 1 → Nat :=
  let c2304_i32 : BitVec 32 := 2304#32
  let c0_i32_338 : BitVec 32 := 0#32
  let c0_i32_283 : BitVec 32 := 0#32
  let c1_i32_285 : BitVec 32 := 1#32
  let arg14 : BitVec 32 := Scf.iv c0_i32_283 c1_i32_285 k0_t45
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c2304_i32 v149
  let v153 : Index := Scalar.indexCast v152
  ![v153.toNat]

def k0_chk170 (v151 : IVec S16 32) (v154 : IVec S16 32) (v155 : IVec S16 32) : Prop :=
  (∀ a x, ((![v154, v155, v151] : Fin 3 → IVec S16 32) a x).toNat < S25x8x128.size a)
theorem k0_idx170_inb : ∀ (v151 : IVec S16 32) (v154 : IVec S16 32) (v155 : IVec S16 32) (k0_hw170 : k0_chk170 v151 v154 v155), ∀ a x, ((![v154, v155, v151] : Fin 3 → IVec S16 32) a x).toNat < S25x8x128.size a := fun v151 v154 v155 k0_hw170 => k0_hw170

def k0_chk171 (v151 : IVec S16 32) (v154 : IVec S16 32) (v159 : IVec S16 32) : Prop :=
  (∀ a x, ((![v154, v159, v151] : Fin 3 → IVec S16 32) a x).toNat < S25x8x128.size a)
theorem k0_idx171_inb : ∀ (v151 : IVec S16 32) (v154 : IVec S16 32) (v159 : IVec S16 32) (k0_hw171 : k0_chk171 v151 v154 v159), ∀ a x, ((![v154, v159, v151] : Fin 3 → IVec S16 32) a x).toNat < S25x8x128.size a := fun v151 v154 v159 k0_hw171 => k0_hw171

def k0_chk172 (v151 : IVec S16 32) (v154 : IVec S16 32) (v163 : IVec S16 32) : Prop :=
  (∀ a x, ((![v154, v163, v151] : Fin 3 → IVec S16 32) a x).toNat < S25x8x128.size a)
theorem k0_idx172_inb : ∀ (v151 : IVec S16 32) (v154 : IVec S16 32) (v163 : IVec S16 32) (k0_hw172 : k0_chk172 v151 v154 v163), ∀ a x, ((![v154, v163, v151] : Fin 3 → IVec S16 32) a x).toNat < S25x8x128.size a := fun v151 v154 v163 k0_hw172 => k0_hw172

def k0_chk173 (v151 : IVec S16 32) (v154 : IVec S16 32) (v167 : IVec S16 32) : Prop :=
  (∀ a x, ((![v154, v167, v151] : Fin 3 → IVec S16 32) a x).toNat < S25x8x128.size a)
theorem k0_idx173_inb : ∀ (v151 : IVec S16 32) (v154 : IVec S16 32) (v167 : IVec S16 32) (k0_hw173 : k0_chk173 v151 v154 v167), ∀ a x, ((![v154, v167, v151] : Fin 3 → IVec S16 32) a x).toNat < S25x8x128.size a := fun v151 v154 v167 k0_hw173 => k0_hw173

def k0_chk174 (v151 : IVec S16 32) (v154 : IVec S16 32) (v171 : IVec S16 32) : Prop :=
  (∀ a x, ((![v154, v171, v151] : Fin 3 → IVec S16 32) a x).toNat < S25x8x128.size a)
theorem k0_idx174_inb : ∀ (v151 : IVec S16 32) (v154 : IVec S16 32) (v171 : IVec S16 32) (k0_hw174 : k0_chk174 v151 v154 v171), ∀ a x, ((![v154, v171, v151] : Fin 3 → IVec S16 32) a x).toNat < S25x8x128.size a := fun v151 v154 v171 k0_hw174 => k0_hw174

def k0_chk175 (v151 : IVec S16 32) (v154 : IVec S16 32) (v175 : IVec S16 32) : Prop :=
  (∀ a x, ((![v154, v175, v151] : Fin 3 → IVec S16 32) a x).toNat < S25x8x128.size a)
theorem k0_idx175_inb : ∀ (v151 : IVec S16 32) (v154 : IVec S16 32) (v175 : IVec S16 32) (k0_hw175 : k0_chk175 v151 v154 v175), ∀ a x, ((![v154, v175, v151] : Fin 3 → IVec S16 32) a x).toNat < S25x8x128.size a := fun v151 v154 v175 k0_hw175 => k0_hw175

def k0_chk176 (v151 : IVec S16 32) (v154 : IVec S16 32) (v179 : IVec S16 32) : Prop :=
  (∀ a x, ((![v154, v179, v151] : Fin 3 → IVec S16 32) a x).toNat < S25x8x128.size a)
theorem k0_idx176_inb : ∀ (v151 : IVec S16 32) (v154 : IVec S16 32) (v179 : IVec S16 32) (k0_hw176 : k0_chk176 v151 v154 v179), ∀ a x, ((![v154, v179, v151] : Fin 3 → IVec S16 32) a x).toNat < S25x8x128.size a := fun v151 v154 v179 k0_hw176 => k0_hw176

def k0_chk177 (v151 : IVec S16 32) (v154 : IVec S16 32) (v183 : IVec S16 32) : Prop :=
  (∀ a x, ((![v154, v183, v151] : Fin 3 → IVec S16 32) a x).toNat < S25x8x128.size a)
theorem k0_idx177_inb : ∀ (v151 : IVec S16 32) (v154 : IVec S16 32) (v183 : IVec S16 32) (k0_hw177 : k0_chk177 v151 v154 v183), ∀ a x, ((![v154, v183, v151] : Fin 3 → IVec S16 32) a x).toNat < S25x8x128.size a := fun v151 v154 v183 k0_hw177 => k0_hw177
def k0_off196 (k0_t45 : Fin k0_t45_loop.trips) : Fin 3 → Nat :=
  let c18_i32 : BitVec 32 := 18#32
  let v189 : Index := Scalar.indexCast c18_i32
  let c0_i32_368 : BitVec 32 := 0#32
  let v190 : Index := Scalar.indexCast c0_i32_368
  let c0_i32_338 : BitVec 32 := 0#32
  let c0_i32_283 : BitVec 32 := 0#32
  let c1_i32_285 : BitVec 32 := 1#32
  let arg14 : BitVec 32 := Scf.iv c0_i32_283 c1_i32_285 k0_t45
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![18, 0, v191.toNat]
def k0_off197 (k0_t45 : Fin k0_t45_loop.trips) : Fin 3 → Nat :=
  let c18_i32_372 : BitVec 32 := 18#32
  let v195 : Index := Scalar.indexCast c18_i32_372
  let c1_i32_373 : BitVec 32 := 1#32
  let v196 : Index := Scalar.indexCast c1_i32_373
  let c0_i32_338 : BitVec 32 := 0#32
  let c0_i32_283 : BitVec 32 := 0#32
  let c1_i32_285 : BitVec 32 := 1#32
  let arg14 : BitVec 32 := Scf.iv c0_i32_283 c1_i32_285 k0_t45
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![18, 1, v197.toNat]
def k0_off198 (k0_t45 : Fin k0_t45_loop.trips) : Fin 3 → Nat :=
  let c18_i32_377 : BitVec 32 := 18#32
  let v201 : Index := Scalar.indexCast c18_i32_377
  let c2_i32_378 : BitVec 32 := 2#32
  let v202 : Index := Scalar.indexCast c2_i32_378
  let c0_i32_338 : BitVec 32 := 0#32
  let c0_i32_283 : BitVec 32 := 0#32
  let c1_i32_285 : BitVec 32 := 1#32
  let arg14 : BitVec 32 := Scf.iv c0_i32_283 c1_i32_285 k0_t45
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![18, 2, v203.toNat]
def k0_off199 (k0_t45 : Fin k0_t45_loop.trips) : Fin 3 → Nat :=
  let c18_i32_382 : BitVec 32 := 18#32
  let v207 : Index := Scalar.indexCast c18_i32_382
  let c3_i32_383 : BitVec 32 := 3#32
  let v208 : Index := Scalar.indexCast c3_i32_383
  let c0_i32_338 : BitVec 32 := 0#32
  let c0_i32_283 : BitVec 32 := 0#32
  let c1_i32_285 : BitVec 32 := 1#32
  let arg14 : BitVec 32 := Scf.iv c0_i32_283 c1_i32_285 k0_t45
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![18, 3, v209.toNat]
def k0_off200 (k0_t45 : Fin k0_t45_loop.trips) : Fin 3 → Nat :=
  let c18_i32_387 : BitVec 32 := 18#32
  let v213 : Index := Scalar.indexCast c18_i32_387
  let c4_i32_388 : BitVec 32 := 4#32
  let v214 : Index := Scalar.indexCast c4_i32_388
  let c0_i32_338 : BitVec 32 := 0#32
  let c0_i32_283 : BitVec 32 := 0#32
  let c1_i32_285 : BitVec 32 := 1#32
  let arg14 : BitVec 32 := Scf.iv c0_i32_283 c1_i32_285 k0_t45
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![18, 4, v215.toNat]
def k0_off201 (k0_t45 : Fin k0_t45_loop.trips) : Fin 3 → Nat :=
  let c18_i32_392 : BitVec 32 := 18#32
  let v219 : Index := Scalar.indexCast c18_i32_392
  let c5_i32_393 : BitVec 32 := 5#32
  let v220 : Index := Scalar.indexCast c5_i32_393
  let c0_i32_338 : BitVec 32 := 0#32
  let c0_i32_283 : BitVec 32 := 0#32
  let c1_i32_285 : BitVec 32 := 1#32
  let arg14 : BitVec 32 := Scf.iv c0_i32_283 c1_i32_285 k0_t45
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![18, 5, v221.toNat]
def k0_off202 (k0_t45 : Fin k0_t45_loop.trips) : Fin 3 → Nat :=
  let c18_i32_397 : BitVec 32 := 18#32
  let v225 : Index := Scalar.indexCast c18_i32_397
  let c6_i32_398 : BitVec 32 := 6#32
  let v226 : Index := Scalar.indexCast c6_i32_398
  let c0_i32_338 : BitVec 32 := 0#32
  let c0_i32_283 : BitVec 32 := 0#32
  let c1_i32_285 : BitVec 32 := 1#32
  let arg14 : BitVec 32 := Scf.iv c0_i32_283 c1_i32_285 k0_t45
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![18, 6, v227.toNat]
def k0_off203 (k0_t45 : Fin k0_t45_loop.trips) : Fin 3 → Nat :=
  let c18_i32_402 : BitVec 32 := 18#32
  let v231 : Index := Scalar.indexCast c18_i32_402
  let c7_i32_403 : BitVec 32 := 7#32
  let v232 : Index := Scalar.indexCast c7_i32_403
  let c0_i32_338 : BitVec 32 := 0#32
  let c0_i32_283 : BitVec 32 := 0#32
  let c1_i32_285 : BitVec 32 := 1#32
  let arg14 : BitVec 32 := Scf.iv c0_i32_283 c1_i32_285 k0_t45
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![18, 7, v233.toNat]
@[reducible] def k0_t46_loop : Scf.Loop 32 :=
  let c0_i32_289 : BitVec 32 := 0#32
  let c8_i32_290 : BitVec 32 := 8#32
  let v126 : BitVec 32 := Scalar.addi c0_i32_289 c8_i32_290
  let c1_i32_291 : BitVec 32 := 1#32
  ⟨c0_i32_289, v126, c1_i32_291⟩
def k0_off204 (k0_t46 : Fin k0_t46_loop.trips) : Fin 1 → Nat :=
  let c2432_i32 : BitVec 32 := 2432#32
  let c0_i32_338 : BitVec 32 := 0#32
  let c0_i32_289 : BitVec 32 := 0#32
  let c1_i32_291 : BitVec 32 := 1#32
  let arg14 : BitVec 32 := Scf.iv c0_i32_289 c1_i32_291 k0_t46
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c2432_i32 v149
  let v153 : Index := Scalar.indexCast v152
  ![v153.toNat]

def k0_chk178 (v151 : IVec S16 32) (v154 : IVec S16 32) (v155 : IVec S16 32) : Prop :=
  (∀ a x, ((![v154, v155, v151] : Fin 3 → IVec S16 32) a x).toNat < S25x8x128.size a)
theorem k0_idx178_inb : ∀ (v151 : IVec S16 32) (v154 : IVec S16 32) (v155 : IVec S16 32) (k0_hw178 : k0_chk178 v151 v154 v155), ∀ a x, ((![v154, v155, v151] : Fin 3 → IVec S16 32) a x).toNat < S25x8x128.size a := fun v151 v154 v155 k0_hw178 => k0_hw178

def k0_chk179 (v151 : IVec S16 32) (v154 : IVec S16 32) (v159 : IVec S16 32) : Prop :=
  (∀ a x, ((![v154, v159, v151] : Fin 3 → IVec S16 32) a x).toNat < S25x8x128.size a)
theorem k0_idx179_inb : ∀ (v151 : IVec S16 32) (v154 : IVec S16 32) (v159 : IVec S16 32) (k0_hw179 : k0_chk179 v151 v154 v159), ∀ a x, ((![v154, v159, v151] : Fin 3 → IVec S16 32) a x).toNat < S25x8x128.size a := fun v151 v154 v159 k0_hw179 => k0_hw179

def k0_chk180 (v151 : IVec S16 32) (v154 : IVec S16 32) (v163 : IVec S16 32) : Prop :=
  (∀ a x, ((![v154, v163, v151] : Fin 3 → IVec S16 32) a x).toNat < S25x8x128.size a)
theorem k0_idx180_inb : ∀ (v151 : IVec S16 32) (v154 : IVec S16 32) (v163 : IVec S16 32) (k0_hw180 : k0_chk180 v151 v154 v163), ∀ a x, ((![v154, v163, v151] : Fin 3 → IVec S16 32) a x).toNat < S25x8x128.size a := fun v151 v154 v163 k0_hw180 => k0_hw180

def k0_chk181 (v151 : IVec S16 32) (v154 : IVec S16 32) (v167 : IVec S16 32) : Prop :=
  (∀ a x, ((![v154, v167, v151] : Fin 3 → IVec S16 32) a x).toNat < S25x8x128.size a)
theorem k0_idx181_inb : ∀ (v151 : IVec S16 32) (v154 : IVec S16 32) (v167 : IVec S16 32) (k0_hw181 : k0_chk181 v151 v154 v167), ∀ a x, ((![v154, v167, v151] : Fin 3 → IVec S16 32) a x).toNat < S25x8x128.size a := fun v151 v154 v167 k0_hw181 => k0_hw181

def k0_chk182 (v151 : IVec S16 32) (v154 : IVec S16 32) (v171 : IVec S16 32) : Prop :=
  (∀ a x, ((![v154, v171, v151] : Fin 3 → IVec S16 32) a x).toNat < S25x8x128.size a)
theorem k0_idx182_inb : ∀ (v151 : IVec S16 32) (v154 : IVec S16 32) (v171 : IVec S16 32) (k0_hw182 : k0_chk182 v151 v154 v171), ∀ a x, ((![v154, v171, v151] : Fin 3 → IVec S16 32) a x).toNat < S25x8x128.size a := fun v151 v154 v171 k0_hw182 => k0_hw182

def k0_chk183 (v151 : IVec S16 32) (v154 : IVec S16 32) (v175 : IVec S16 32) : Prop :=
  (∀ a x, ((![v154, v175, v151] : Fin 3 → IVec S16 32) a x).toNat < S25x8x128.size a)
theorem k0_idx183_inb : ∀ (v151 : IVec S16 32) (v154 : IVec S16 32) (v175 : IVec S16 32) (k0_hw183 : k0_chk183 v151 v154 v175), ∀ a x, ((![v154, v175, v151] : Fin 3 → IVec S16 32) a x).toNat < S25x8x128.size a := fun v151 v154 v175 k0_hw183 => k0_hw183

def k0_chk184 (v151 : IVec S16 32) (v154 : IVec S16 32) (v179 : IVec S16 32) : Prop :=
  (∀ a x, ((![v154, v179, v151] : Fin 3 → IVec S16 32) a x).toNat < S25x8x128.size a)
theorem k0_idx184_inb : ∀ (v151 : IVec S16 32) (v154 : IVec S16 32) (v179 : IVec S16 32) (k0_hw184 : k0_chk184 v151 v154 v179), ∀ a x, ((![v154, v179, v151] : Fin 3 → IVec S16 32) a x).toNat < S25x8x128.size a := fun v151 v154 v179 k0_hw184 => k0_hw184

def k0_chk185 (v151 : IVec S16 32) (v154 : IVec S16 32) (v183 : IVec S16 32) : Prop :=
  (∀ a x, ((![v154, v183, v151] : Fin 3 → IVec S16 32) a x).toNat < S25x8x128.size a)
theorem k0_idx185_inb : ∀ (v151 : IVec S16 32) (v154 : IVec S16 32) (v183 : IVec S16 32) (k0_hw185 : k0_chk185 v151 v154 v183), ∀ a x, ((![v154, v183, v151] : Fin 3 → IVec S16 32) a x).toNat < S25x8x128.size a := fun v151 v154 v183 k0_hw185 => k0_hw185
def k0_off205 (k0_t46 : Fin k0_t46_loop.trips) : Fin 3 → Nat :=
  let c19_i32 : BitVec 32 := 19#32
  let v189 : Index := Scalar.indexCast c19_i32
  let c0_i32_368 : BitVec 32 := 0#32
  let v190 : Index := Scalar.indexCast c0_i32_368
  let c0_i32_338 : BitVec 32 := 0#32
  let c0_i32_289 : BitVec 32 := 0#32
  let c1_i32_291 : BitVec 32 := 1#32
  let arg14 : BitVec 32 := Scf.iv c0_i32_289 c1_i32_291 k0_t46
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![19, 0, v191.toNat]
def k0_off206 (k0_t46 : Fin k0_t46_loop.trips) : Fin 3 → Nat :=
  let c19_i32_372 : BitVec 32 := 19#32
  let v195 : Index := Scalar.indexCast c19_i32_372
  let c1_i32_373 : BitVec 32 := 1#32
  let v196 : Index := Scalar.indexCast c1_i32_373
  let c0_i32_338 : BitVec 32 := 0#32
  let c0_i32_289 : BitVec 32 := 0#32
  let c1_i32_291 : BitVec 32 := 1#32
  let arg14 : BitVec 32 := Scf.iv c0_i32_289 c1_i32_291 k0_t46
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![19, 1, v197.toNat]
def k0_off207 (k0_t46 : Fin k0_t46_loop.trips) : Fin 3 → Nat :=
  let c19_i32_377 : BitVec 32 := 19#32
  let v201 : Index := Scalar.indexCast c19_i32_377
  let c2_i32_378 : BitVec 32 := 2#32
  let v202 : Index := Scalar.indexCast c2_i32_378
  let c0_i32_338 : BitVec 32 := 0#32
  let c0_i32_289 : BitVec 32 := 0#32
  let c1_i32_291 : BitVec 32 := 1#32
  let arg14 : BitVec 32 := Scf.iv c0_i32_289 c1_i32_291 k0_t46
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![19, 2, v203.toNat]
def k0_off208 (k0_t46 : Fin k0_t46_loop.trips) : Fin 3 → Nat :=
  let c19_i32_382 : BitVec 32 := 19#32
  let v207 : Index := Scalar.indexCast c19_i32_382
  let c3_i32_383 : BitVec 32 := 3#32
  let v208 : Index := Scalar.indexCast c3_i32_383
  let c0_i32_338 : BitVec 32 := 0#32
  let c0_i32_289 : BitVec 32 := 0#32
  let c1_i32_291 : BitVec 32 := 1#32
  let arg14 : BitVec 32 := Scf.iv c0_i32_289 c1_i32_291 k0_t46
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![19, 3, v209.toNat]
def k0_off209 (k0_t46 : Fin k0_t46_loop.trips) : Fin 3 → Nat :=
  let c19_i32_387 : BitVec 32 := 19#32
  let v213 : Index := Scalar.indexCast c19_i32_387
  let c4_i32_388 : BitVec 32 := 4#32
  let v214 : Index := Scalar.indexCast c4_i32_388
  let c0_i32_338 : BitVec 32 := 0#32
  let c0_i32_289 : BitVec 32 := 0#32
  let c1_i32_291 : BitVec 32 := 1#32
  let arg14 : BitVec 32 := Scf.iv c0_i32_289 c1_i32_291 k0_t46
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![19, 4, v215.toNat]
def k0_off210 (k0_t46 : Fin k0_t46_loop.trips) : Fin 3 → Nat :=
  let c19_i32_392 : BitVec 32 := 19#32
  let v219 : Index := Scalar.indexCast c19_i32_392
  let c5_i32_393 : BitVec 32 := 5#32
  let v220 : Index := Scalar.indexCast c5_i32_393
  let c0_i32_338 : BitVec 32 := 0#32
  let c0_i32_289 : BitVec 32 := 0#32
  let c1_i32_291 : BitVec 32 := 1#32
  let arg14 : BitVec 32 := Scf.iv c0_i32_289 c1_i32_291 k0_t46
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![19, 5, v221.toNat]
def k0_off211 (k0_t46 : Fin k0_t46_loop.trips) : Fin 3 → Nat :=
  let c19_i32_397 : BitVec 32 := 19#32
  let v225 : Index := Scalar.indexCast c19_i32_397
  let c6_i32_398 : BitVec 32 := 6#32
  let v226 : Index := Scalar.indexCast c6_i32_398
  let c0_i32_338 : BitVec 32 := 0#32
  let c0_i32_289 : BitVec 32 := 0#32
  let c1_i32_291 : BitVec 32 := 1#32
  let arg14 : BitVec 32 := Scf.iv c0_i32_289 c1_i32_291 k0_t46
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![19, 6, v227.toNat]
def k0_off212 (k0_t46 : Fin k0_t46_loop.trips) : Fin 3 → Nat :=
  let c19_i32_402 : BitVec 32 := 19#32
  let v231 : Index := Scalar.indexCast c19_i32_402
  let c7_i32_403 : BitVec 32 := 7#32
  let v232 : Index := Scalar.indexCast c7_i32_403
  let c0_i32_338 : BitVec 32 := 0#32
  let c0_i32_289 : BitVec 32 := 0#32
  let c1_i32_291 : BitVec 32 := 1#32
  let arg14 : BitVec 32 := Scf.iv c0_i32_289 c1_i32_291 k0_t46
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![19, 7, v233.toNat]
@[reducible] def k0_t47_loop : Scf.Loop 32 :=
  let c0_i32_295 : BitVec 32 := 0#32
  let c8_i32_296 : BitVec 32 := 8#32
  let v127 : BitVec 32 := Scalar.addi c0_i32_295 c8_i32_296
  let c1_i32_297 : BitVec 32 := 1#32
  ⟨c0_i32_295, v127, c1_i32_297⟩
def k0_off213 (k0_t47 : Fin k0_t47_loop.trips) : Fin 1 → Nat :=
  let c2560_i32 : BitVec 32 := 2560#32
  let c0_i32_338 : BitVec 32 := 0#32
  let c0_i32_295 : BitVec 32 := 0#32
  let c1_i32_297 : BitVec 32 := 1#32
  let arg14 : BitVec 32 := Scf.iv c0_i32_295 c1_i32_297 k0_t47
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c2560_i32 v149
  let v153 : Index := Scalar.indexCast v152
  ![v153.toNat]

def k0_chk186 (v151 : IVec S16 32) (v154 : IVec S16 32) (v155 : IVec S16 32) : Prop :=
  (∀ a x, ((![v154, v155, v151] : Fin 3 → IVec S16 32) a x).toNat < S25x8x128.size a)
theorem k0_idx186_inb : ∀ (v151 : IVec S16 32) (v154 : IVec S16 32) (v155 : IVec S16 32) (k0_hw186 : k0_chk186 v151 v154 v155), ∀ a x, ((![v154, v155, v151] : Fin 3 → IVec S16 32) a x).toNat < S25x8x128.size a := fun v151 v154 v155 k0_hw186 => k0_hw186

def k0_chk187 (v151 : IVec S16 32) (v154 : IVec S16 32) (v159 : IVec S16 32) : Prop :=
  (∀ a x, ((![v154, v159, v151] : Fin 3 → IVec S16 32) a x).toNat < S25x8x128.size a)
theorem k0_idx187_inb : ∀ (v151 : IVec S16 32) (v154 : IVec S16 32) (v159 : IVec S16 32) (k0_hw187 : k0_chk187 v151 v154 v159), ∀ a x, ((![v154, v159, v151] : Fin 3 → IVec S16 32) a x).toNat < S25x8x128.size a := fun v151 v154 v159 k0_hw187 => k0_hw187

def k0_chk188 (v151 : IVec S16 32) (v154 : IVec S16 32) (v163 : IVec S16 32) : Prop :=
  (∀ a x, ((![v154, v163, v151] : Fin 3 → IVec S16 32) a x).toNat < S25x8x128.size a)
theorem k0_idx188_inb : ∀ (v151 : IVec S16 32) (v154 : IVec S16 32) (v163 : IVec S16 32) (k0_hw188 : k0_chk188 v151 v154 v163), ∀ a x, ((![v154, v163, v151] : Fin 3 → IVec S16 32) a x).toNat < S25x8x128.size a := fun v151 v154 v163 k0_hw188 => k0_hw188

def k0_chk189 (v151 : IVec S16 32) (v154 : IVec S16 32) (v167 : IVec S16 32) : Prop :=
  (∀ a x, ((![v154, v167, v151] : Fin 3 → IVec S16 32) a x).toNat < S25x8x128.size a)
theorem k0_idx189_inb : ∀ (v151 : IVec S16 32) (v154 : IVec S16 32) (v167 : IVec S16 32) (k0_hw189 : k0_chk189 v151 v154 v167), ∀ a x, ((![v154, v167, v151] : Fin 3 → IVec S16 32) a x).toNat < S25x8x128.size a := fun v151 v154 v167 k0_hw189 => k0_hw189

def k0_chk190 (v151 : IVec S16 32) (v154 : IVec S16 32) (v171 : IVec S16 32) : Prop :=
  (∀ a x, ((![v154, v171, v151] : Fin 3 → IVec S16 32) a x).toNat < S25x8x128.size a)
theorem k0_idx190_inb : ∀ (v151 : IVec S16 32) (v154 : IVec S16 32) (v171 : IVec S16 32) (k0_hw190 : k0_chk190 v151 v154 v171), ∀ a x, ((![v154, v171, v151] : Fin 3 → IVec S16 32) a x).toNat < S25x8x128.size a := fun v151 v154 v171 k0_hw190 => k0_hw190

def k0_chk191 (v151 : IVec S16 32) (v154 : IVec S16 32) (v175 : IVec S16 32) : Prop :=
  (∀ a x, ((![v154, v175, v151] : Fin 3 → IVec S16 32) a x).toNat < S25x8x128.size a)
theorem k0_idx191_inb : ∀ (v151 : IVec S16 32) (v154 : IVec S16 32) (v175 : IVec S16 32) (k0_hw191 : k0_chk191 v151 v154 v175), ∀ a x, ((![v154, v175, v151] : Fin 3 → IVec S16 32) a x).toNat < S25x8x128.size a := fun v151 v154 v175 k0_hw191 => k0_hw191

def k0_chk192 (v151 : IVec S16 32) (v154 : IVec S16 32) (v179 : IVec S16 32) : Prop :=
  (∀ a x, ((![v154, v179, v151] : Fin 3 → IVec S16 32) a x).toNat < S25x8x128.size a)
theorem k0_idx192_inb : ∀ (v151 : IVec S16 32) (v154 : IVec S16 32) (v179 : IVec S16 32) (k0_hw192 : k0_chk192 v151 v154 v179), ∀ a x, ((![v154, v179, v151] : Fin 3 → IVec S16 32) a x).toNat < S25x8x128.size a := fun v151 v154 v179 k0_hw192 => k0_hw192

def k0_chk193 (v151 : IVec S16 32) (v154 : IVec S16 32) (v183 : IVec S16 32) : Prop :=
  (∀ a x, ((![v154, v183, v151] : Fin 3 → IVec S16 32) a x).toNat < S25x8x128.size a)
theorem k0_idx193_inb : ∀ (v151 : IVec S16 32) (v154 : IVec S16 32) (v183 : IVec S16 32) (k0_hw193 : k0_chk193 v151 v154 v183), ∀ a x, ((![v154, v183, v151] : Fin 3 → IVec S16 32) a x).toNat < S25x8x128.size a := fun v151 v154 v183 k0_hw193 => k0_hw193
def k0_off214 (k0_t47 : Fin k0_t47_loop.trips) : Fin 3 → Nat :=
  let c20_i32 : BitVec 32 := 20#32
  let v189 : Index := Scalar.indexCast c20_i32
  let c0_i32_368 : BitVec 32 := 0#32
  let v190 : Index := Scalar.indexCast c0_i32_368
  let c0_i32_338 : BitVec 32 := 0#32
  let c0_i32_295 : BitVec 32 := 0#32
  let c1_i32_297 : BitVec 32 := 1#32
  let arg14 : BitVec 32 := Scf.iv c0_i32_295 c1_i32_297 k0_t47
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![20, 0, v191.toNat]
def k0_off215 (k0_t47 : Fin k0_t47_loop.trips) : Fin 3 → Nat :=
  let c20_i32_372 : BitVec 32 := 20#32
  let v195 : Index := Scalar.indexCast c20_i32_372
  let c1_i32_373 : BitVec 32 := 1#32
  let v196 : Index := Scalar.indexCast c1_i32_373
  let c0_i32_338 : BitVec 32 := 0#32
  let c0_i32_295 : BitVec 32 := 0#32
  let c1_i32_297 : BitVec 32 := 1#32
  let arg14 : BitVec 32 := Scf.iv c0_i32_295 c1_i32_297 k0_t47
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![20, 1, v197.toNat]
def k0_off216 (k0_t47 : Fin k0_t47_loop.trips) : Fin 3 → Nat :=
  let c20_i32_377 : BitVec 32 := 20#32
  let v201 : Index := Scalar.indexCast c20_i32_377
  let c2_i32_378 : BitVec 32 := 2#32
  let v202 : Index := Scalar.indexCast c2_i32_378
  let c0_i32_338 : BitVec 32 := 0#32
  let c0_i32_295 : BitVec 32 := 0#32
  let c1_i32_297 : BitVec 32 := 1#32
  let arg14 : BitVec 32 := Scf.iv c0_i32_295 c1_i32_297 k0_t47
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![20, 2, v203.toNat]
def k0_off217 (k0_t47 : Fin k0_t47_loop.trips) : Fin 3 → Nat :=
  let c20_i32_382 : BitVec 32 := 20#32
  let v207 : Index := Scalar.indexCast c20_i32_382
  let c3_i32_383 : BitVec 32 := 3#32
  let v208 : Index := Scalar.indexCast c3_i32_383
  let c0_i32_338 : BitVec 32 := 0#32
  let c0_i32_295 : BitVec 32 := 0#32
  let c1_i32_297 : BitVec 32 := 1#32
  let arg14 : BitVec 32 := Scf.iv c0_i32_295 c1_i32_297 k0_t47
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![20, 3, v209.toNat]
def k0_off218 (k0_t47 : Fin k0_t47_loop.trips) : Fin 3 → Nat :=
  let c20_i32_387 : BitVec 32 := 20#32
  let v213 : Index := Scalar.indexCast c20_i32_387
  let c4_i32_388 : BitVec 32 := 4#32
  let v214 : Index := Scalar.indexCast c4_i32_388
  let c0_i32_338 : BitVec 32 := 0#32
  let c0_i32_295 : BitVec 32 := 0#32
  let c1_i32_297 : BitVec 32 := 1#32
  let arg14 : BitVec 32 := Scf.iv c0_i32_295 c1_i32_297 k0_t47
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![20, 4, v215.toNat]
def k0_off219 (k0_t47 : Fin k0_t47_loop.trips) : Fin 3 → Nat :=
  let c20_i32_392 : BitVec 32 := 20#32
  let v219 : Index := Scalar.indexCast c20_i32_392
  let c5_i32_393 : BitVec 32 := 5#32
  let v220 : Index := Scalar.indexCast c5_i32_393
  let c0_i32_338 : BitVec 32 := 0#32
  let c0_i32_295 : BitVec 32 := 0#32
  let c1_i32_297 : BitVec 32 := 1#32
  let arg14 : BitVec 32 := Scf.iv c0_i32_295 c1_i32_297 k0_t47
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![20, 5, v221.toNat]
def k0_off220 (k0_t47 : Fin k0_t47_loop.trips) : Fin 3 → Nat :=
  let c20_i32_397 : BitVec 32 := 20#32
  let v225 : Index := Scalar.indexCast c20_i32_397
  let c6_i32_398 : BitVec 32 := 6#32
  let v226 : Index := Scalar.indexCast c6_i32_398
  let c0_i32_338 : BitVec 32 := 0#32
  let c0_i32_295 : BitVec 32 := 0#32
  let c1_i32_297 : BitVec 32 := 1#32
  let arg14 : BitVec 32 := Scf.iv c0_i32_295 c1_i32_297 k0_t47
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![20, 6, v227.toNat]
def k0_off221 (k0_t47 : Fin k0_t47_loop.trips) : Fin 3 → Nat :=
  let c20_i32_402 : BitVec 32 := 20#32
  let v231 : Index := Scalar.indexCast c20_i32_402
  let c7_i32_403 : BitVec 32 := 7#32
  let v232 : Index := Scalar.indexCast c7_i32_403
  let c0_i32_338 : BitVec 32 := 0#32
  let c0_i32_295 : BitVec 32 := 0#32
  let c1_i32_297 : BitVec 32 := 1#32
  let arg14 : BitVec 32 := Scf.iv c0_i32_295 c1_i32_297 k0_t47
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![20, 7, v233.toNat]
@[reducible] def k0_t48_loop : Scf.Loop 32 :=
  let c0_i32_301 : BitVec 32 := 0#32
  let c8_i32_302 : BitVec 32 := 8#32
  let v128 : BitVec 32 := Scalar.addi c0_i32_301 c8_i32_302
  let c1_i32_303 : BitVec 32 := 1#32
  ⟨c0_i32_301, v128, c1_i32_303⟩
def k0_off222 (k0_t48 : Fin k0_t48_loop.trips) : Fin 1 → Nat :=
  let c2688_i32 : BitVec 32 := 2688#32
  let c0_i32_338 : BitVec 32 := 0#32
  let c0_i32_301 : BitVec 32 := 0#32
  let c1_i32_303 : BitVec 32 := 1#32
  let arg14 : BitVec 32 := Scf.iv c0_i32_301 c1_i32_303 k0_t48
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c2688_i32 v149
  let v153 : Index := Scalar.indexCast v152
  ![v153.toNat]

def k0_chk194 (v151 : IVec S16 32) (v154 : IVec S16 32) (v155 : IVec S16 32) : Prop :=
  (∀ a x, ((![v154, v155, v151] : Fin 3 → IVec S16 32) a x).toNat < S25x8x128.size a)
theorem k0_idx194_inb : ∀ (v151 : IVec S16 32) (v154 : IVec S16 32) (v155 : IVec S16 32) (k0_hw194 : k0_chk194 v151 v154 v155), ∀ a x, ((![v154, v155, v151] : Fin 3 → IVec S16 32) a x).toNat < S25x8x128.size a := fun v151 v154 v155 k0_hw194 => k0_hw194

def k0_chk195 (v151 : IVec S16 32) (v154 : IVec S16 32) (v159 : IVec S16 32) : Prop :=
  (∀ a x, ((![v154, v159, v151] : Fin 3 → IVec S16 32) a x).toNat < S25x8x128.size a)
theorem k0_idx195_inb : ∀ (v151 : IVec S16 32) (v154 : IVec S16 32) (v159 : IVec S16 32) (k0_hw195 : k0_chk195 v151 v154 v159), ∀ a x, ((![v154, v159, v151] : Fin 3 → IVec S16 32) a x).toNat < S25x8x128.size a := fun v151 v154 v159 k0_hw195 => k0_hw195

def k0_chk196 (v151 : IVec S16 32) (v154 : IVec S16 32) (v163 : IVec S16 32) : Prop :=
  (∀ a x, ((![v154, v163, v151] : Fin 3 → IVec S16 32) a x).toNat < S25x8x128.size a)
theorem k0_idx196_inb : ∀ (v151 : IVec S16 32) (v154 : IVec S16 32) (v163 : IVec S16 32) (k0_hw196 : k0_chk196 v151 v154 v163), ∀ a x, ((![v154, v163, v151] : Fin 3 → IVec S16 32) a x).toNat < S25x8x128.size a := fun v151 v154 v163 k0_hw196 => k0_hw196

def k0_chk197 (v151 : IVec S16 32) (v154 : IVec S16 32) (v167 : IVec S16 32) : Prop :=
  (∀ a x, ((![v154, v167, v151] : Fin 3 → IVec S16 32) a x).toNat < S25x8x128.size a)
theorem k0_idx197_inb : ∀ (v151 : IVec S16 32) (v154 : IVec S16 32) (v167 : IVec S16 32) (k0_hw197 : k0_chk197 v151 v154 v167), ∀ a x, ((![v154, v167, v151] : Fin 3 → IVec S16 32) a x).toNat < S25x8x128.size a := fun v151 v154 v167 k0_hw197 => k0_hw197

def k0_chk198 (v151 : IVec S16 32) (v154 : IVec S16 32) (v171 : IVec S16 32) : Prop :=
  (∀ a x, ((![v154, v171, v151] : Fin 3 → IVec S16 32) a x).toNat < S25x8x128.size a)
theorem k0_idx198_inb : ∀ (v151 : IVec S16 32) (v154 : IVec S16 32) (v171 : IVec S16 32) (k0_hw198 : k0_chk198 v151 v154 v171), ∀ a x, ((![v154, v171, v151] : Fin 3 → IVec S16 32) a x).toNat < S25x8x128.size a := fun v151 v154 v171 k0_hw198 => k0_hw198

def k0_chk199 (v151 : IVec S16 32) (v154 : IVec S16 32) (v175 : IVec S16 32) : Prop :=
  (∀ a x, ((![v154, v175, v151] : Fin 3 → IVec S16 32) a x).toNat < S25x8x128.size a)
theorem k0_idx199_inb : ∀ (v151 : IVec S16 32) (v154 : IVec S16 32) (v175 : IVec S16 32) (k0_hw199 : k0_chk199 v151 v154 v175), ∀ a x, ((![v154, v175, v151] : Fin 3 → IVec S16 32) a x).toNat < S25x8x128.size a := fun v151 v154 v175 k0_hw199 => k0_hw199

def k0_chk200 (v151 : IVec S16 32) (v154 : IVec S16 32) (v179 : IVec S16 32) : Prop :=
  (∀ a x, ((![v154, v179, v151] : Fin 3 → IVec S16 32) a x).toNat < S25x8x128.size a)
theorem k0_idx200_inb : ∀ (v151 : IVec S16 32) (v154 : IVec S16 32) (v179 : IVec S16 32) (k0_hw200 : k0_chk200 v151 v154 v179), ∀ a x, ((![v154, v179, v151] : Fin 3 → IVec S16 32) a x).toNat < S25x8x128.size a := fun v151 v154 v179 k0_hw200 => k0_hw200

def k0_chk201 (v151 : IVec S16 32) (v154 : IVec S16 32) (v183 : IVec S16 32) : Prop :=
  (∀ a x, ((![v154, v183, v151] : Fin 3 → IVec S16 32) a x).toNat < S25x8x128.size a)
theorem k0_idx201_inb : ∀ (v151 : IVec S16 32) (v154 : IVec S16 32) (v183 : IVec S16 32) (k0_hw201 : k0_chk201 v151 v154 v183), ∀ a x, ((![v154, v183, v151] : Fin 3 → IVec S16 32) a x).toNat < S25x8x128.size a := fun v151 v154 v183 k0_hw201 => k0_hw201
def k0_off223 (k0_t48 : Fin k0_t48_loop.trips) : Fin 3 → Nat :=
  let c21_i32 : BitVec 32 := 21#32
  let v189 : Index := Scalar.indexCast c21_i32
  let c0_i32_368 : BitVec 32 := 0#32
  let v190 : Index := Scalar.indexCast c0_i32_368
  let c0_i32_338 : BitVec 32 := 0#32
  let c0_i32_301 : BitVec 32 := 0#32
  let c1_i32_303 : BitVec 32 := 1#32
  let arg14 : BitVec 32 := Scf.iv c0_i32_301 c1_i32_303 k0_t48
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![21, 0, v191.toNat]
def k0_off224 (k0_t48 : Fin k0_t48_loop.trips) : Fin 3 → Nat :=
  let c21_i32_372 : BitVec 32 := 21#32
  let v195 : Index := Scalar.indexCast c21_i32_372
  let c1_i32_373 : BitVec 32 := 1#32
  let v196 : Index := Scalar.indexCast c1_i32_373
  let c0_i32_338 : BitVec 32 := 0#32
  let c0_i32_301 : BitVec 32 := 0#32
  let c1_i32_303 : BitVec 32 := 1#32
  let arg14 : BitVec 32 := Scf.iv c0_i32_301 c1_i32_303 k0_t48
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![21, 1, v197.toNat]
def k0_off225 (k0_t48 : Fin k0_t48_loop.trips) : Fin 3 → Nat :=
  let c21_i32_377 : BitVec 32 := 21#32
  let v201 : Index := Scalar.indexCast c21_i32_377
  let c2_i32_378 : BitVec 32 := 2#32
  let v202 : Index := Scalar.indexCast c2_i32_378
  let c0_i32_338 : BitVec 32 := 0#32
  let c0_i32_301 : BitVec 32 := 0#32
  let c1_i32_303 : BitVec 32 := 1#32
  let arg14 : BitVec 32 := Scf.iv c0_i32_301 c1_i32_303 k0_t48
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![21, 2, v203.toNat]
def k0_off226 (k0_t48 : Fin k0_t48_loop.trips) : Fin 3 → Nat :=
  let c21_i32_382 : BitVec 32 := 21#32
  let v207 : Index := Scalar.indexCast c21_i32_382
  let c3_i32_383 : BitVec 32 := 3#32
  let v208 : Index := Scalar.indexCast c3_i32_383
  let c0_i32_338 : BitVec 32 := 0#32
  let c0_i32_301 : BitVec 32 := 0#32
  let c1_i32_303 : BitVec 32 := 1#32
  let arg14 : BitVec 32 := Scf.iv c0_i32_301 c1_i32_303 k0_t48
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![21, 3, v209.toNat]
def k0_off227 (k0_t48 : Fin k0_t48_loop.trips) : Fin 3 → Nat :=
  let c21_i32_387 : BitVec 32 := 21#32
  let v213 : Index := Scalar.indexCast c21_i32_387
  let c4_i32_388 : BitVec 32 := 4#32
  let v214 : Index := Scalar.indexCast c4_i32_388
  let c0_i32_338 : BitVec 32 := 0#32
  let c0_i32_301 : BitVec 32 := 0#32
  let c1_i32_303 : BitVec 32 := 1#32
  let arg14 : BitVec 32 := Scf.iv c0_i32_301 c1_i32_303 k0_t48
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![21, 4, v215.toNat]
def k0_off228 (k0_t48 : Fin k0_t48_loop.trips) : Fin 3 → Nat :=
  let c21_i32_392 : BitVec 32 := 21#32
  let v219 : Index := Scalar.indexCast c21_i32_392
  let c5_i32_393 : BitVec 32 := 5#32
  let v220 : Index := Scalar.indexCast c5_i32_393
  let c0_i32_338 : BitVec 32 := 0#32
  let c0_i32_301 : BitVec 32 := 0#32
  let c1_i32_303 : BitVec 32 := 1#32
  let arg14 : BitVec 32 := Scf.iv c0_i32_301 c1_i32_303 k0_t48
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![21, 5, v221.toNat]
def k0_off229 (k0_t48 : Fin k0_t48_loop.trips) : Fin 3 → Nat :=
  let c21_i32_397 : BitVec 32 := 21#32
  let v225 : Index := Scalar.indexCast c21_i32_397
  let c6_i32_398 : BitVec 32 := 6#32
  let v226 : Index := Scalar.indexCast c6_i32_398
  let c0_i32_338 : BitVec 32 := 0#32
  let c0_i32_301 : BitVec 32 := 0#32
  let c1_i32_303 : BitVec 32 := 1#32
  let arg14 : BitVec 32 := Scf.iv c0_i32_301 c1_i32_303 k0_t48
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![21, 6, v227.toNat]
def k0_off230 (k0_t48 : Fin k0_t48_loop.trips) : Fin 3 → Nat :=
  let c21_i32_402 : BitVec 32 := 21#32
  let v231 : Index := Scalar.indexCast c21_i32_402
  let c7_i32_403 : BitVec 32 := 7#32
  let v232 : Index := Scalar.indexCast c7_i32_403
  let c0_i32_338 : BitVec 32 := 0#32
  let c0_i32_301 : BitVec 32 := 0#32
  let c1_i32_303 : BitVec 32 := 1#32
  let arg14 : BitVec 32 := Scf.iv c0_i32_301 c1_i32_303 k0_t48
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![21, 7, v233.toNat]
@[reducible] def k0_t49_loop : Scf.Loop 32 :=
  let c0_i32_307 : BitVec 32 := 0#32
  let c8_i32_308 : BitVec 32 := 8#32
  let v129 : BitVec 32 := Scalar.addi c0_i32_307 c8_i32_308
  let c1_i32_309 : BitVec 32 := 1#32
  ⟨c0_i32_307, v129, c1_i32_309⟩
def k0_off231 (k0_t49 : Fin k0_t49_loop.trips) : Fin 1 → Nat :=
  let c2816_i32 : BitVec 32 := 2816#32
  let c0_i32_338 : BitVec 32 := 0#32
  let c0_i32_307 : BitVec 32 := 0#32
  let c1_i32_309 : BitVec 32 := 1#32
  let arg14 : BitVec 32 := Scf.iv c0_i32_307 c1_i32_309 k0_t49
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c2816_i32 v149
  let v153 : Index := Scalar.indexCast v152
  ![v153.toNat]

def k0_chk202 (v151 : IVec S16 32) (v154 : IVec S16 32) (v155 : IVec S16 32) : Prop :=
  (∀ a x, ((![v154, v155, v151] : Fin 3 → IVec S16 32) a x).toNat < S25x8x128.size a)
theorem k0_idx202_inb : ∀ (v151 : IVec S16 32) (v154 : IVec S16 32) (v155 : IVec S16 32) (k0_hw202 : k0_chk202 v151 v154 v155), ∀ a x, ((![v154, v155, v151] : Fin 3 → IVec S16 32) a x).toNat < S25x8x128.size a := fun v151 v154 v155 k0_hw202 => k0_hw202

def k0_chk203 (v151 : IVec S16 32) (v154 : IVec S16 32) (v159 : IVec S16 32) : Prop :=
  (∀ a x, ((![v154, v159, v151] : Fin 3 → IVec S16 32) a x).toNat < S25x8x128.size a)
theorem k0_idx203_inb : ∀ (v151 : IVec S16 32) (v154 : IVec S16 32) (v159 : IVec S16 32) (k0_hw203 : k0_chk203 v151 v154 v159), ∀ a x, ((![v154, v159, v151] : Fin 3 → IVec S16 32) a x).toNat < S25x8x128.size a := fun v151 v154 v159 k0_hw203 => k0_hw203

def k0_chk204 (v151 : IVec S16 32) (v154 : IVec S16 32) (v163 : IVec S16 32) : Prop :=
  (∀ a x, ((![v154, v163, v151] : Fin 3 → IVec S16 32) a x).toNat < S25x8x128.size a)
theorem k0_idx204_inb : ∀ (v151 : IVec S16 32) (v154 : IVec S16 32) (v163 : IVec S16 32) (k0_hw204 : k0_chk204 v151 v154 v163), ∀ a x, ((![v154, v163, v151] : Fin 3 → IVec S16 32) a x).toNat < S25x8x128.size a := fun v151 v154 v163 k0_hw204 => k0_hw204

def k0_chk205 (v151 : IVec S16 32) (v154 : IVec S16 32) (v167 : IVec S16 32) : Prop :=
  (∀ a x, ((![v154, v167, v151] : Fin 3 → IVec S16 32) a x).toNat < S25x8x128.size a)
theorem k0_idx205_inb : ∀ (v151 : IVec S16 32) (v154 : IVec S16 32) (v167 : IVec S16 32) (k0_hw205 : k0_chk205 v151 v154 v167), ∀ a x, ((![v154, v167, v151] : Fin 3 → IVec S16 32) a x).toNat < S25x8x128.size a := fun v151 v154 v167 k0_hw205 => k0_hw205

def k0_chk206 (v151 : IVec S16 32) (v154 : IVec S16 32) (v171 : IVec S16 32) : Prop :=
  (∀ a x, ((![v154, v171, v151] : Fin 3 → IVec S16 32) a x).toNat < S25x8x128.size a)
theorem k0_idx206_inb : ∀ (v151 : IVec S16 32) (v154 : IVec S16 32) (v171 : IVec S16 32) (k0_hw206 : k0_chk206 v151 v154 v171), ∀ a x, ((![v154, v171, v151] : Fin 3 → IVec S16 32) a x).toNat < S25x8x128.size a := fun v151 v154 v171 k0_hw206 => k0_hw206

def k0_chk207 (v151 : IVec S16 32) (v154 : IVec S16 32) (v175 : IVec S16 32) : Prop :=
  (∀ a x, ((![v154, v175, v151] : Fin 3 → IVec S16 32) a x).toNat < S25x8x128.size a)
theorem k0_idx207_inb : ∀ (v151 : IVec S16 32) (v154 : IVec S16 32) (v175 : IVec S16 32) (k0_hw207 : k0_chk207 v151 v154 v175), ∀ a x, ((![v154, v175, v151] : Fin 3 → IVec S16 32) a x).toNat < S25x8x128.size a := fun v151 v154 v175 k0_hw207 => k0_hw207

def k0_chk208 (v151 : IVec S16 32) (v154 : IVec S16 32) (v179 : IVec S16 32) : Prop :=
  (∀ a x, ((![v154, v179, v151] : Fin 3 → IVec S16 32) a x).toNat < S25x8x128.size a)
theorem k0_idx208_inb : ∀ (v151 : IVec S16 32) (v154 : IVec S16 32) (v179 : IVec S16 32) (k0_hw208 : k0_chk208 v151 v154 v179), ∀ a x, ((![v154, v179, v151] : Fin 3 → IVec S16 32) a x).toNat < S25x8x128.size a := fun v151 v154 v179 k0_hw208 => k0_hw208

def k0_chk209 (v151 : IVec S16 32) (v154 : IVec S16 32) (v183 : IVec S16 32) : Prop :=
  (∀ a x, ((![v154, v183, v151] : Fin 3 → IVec S16 32) a x).toNat < S25x8x128.size a)
theorem k0_idx209_inb : ∀ (v151 : IVec S16 32) (v154 : IVec S16 32) (v183 : IVec S16 32) (k0_hw209 : k0_chk209 v151 v154 v183), ∀ a x, ((![v154, v183, v151] : Fin 3 → IVec S16 32) a x).toNat < S25x8x128.size a := fun v151 v154 v183 k0_hw209 => k0_hw209
def k0_off232 (k0_t49 : Fin k0_t49_loop.trips) : Fin 3 → Nat :=
  let c22_i32 : BitVec 32 := 22#32
  let v189 : Index := Scalar.indexCast c22_i32
  let c0_i32_368 : BitVec 32 := 0#32
  let v190 : Index := Scalar.indexCast c0_i32_368
  let c0_i32_338 : BitVec 32 := 0#32
  let c0_i32_307 : BitVec 32 := 0#32
  let c1_i32_309 : BitVec 32 := 1#32
  let arg14 : BitVec 32 := Scf.iv c0_i32_307 c1_i32_309 k0_t49
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![22, 0, v191.toNat]
def k0_off233 (k0_t49 : Fin k0_t49_loop.trips) : Fin 3 → Nat :=
  let c22_i32_372 : BitVec 32 := 22#32
  let v195 : Index := Scalar.indexCast c22_i32_372
  let c1_i32_373 : BitVec 32 := 1#32
  let v196 : Index := Scalar.indexCast c1_i32_373
  let c0_i32_338 : BitVec 32 := 0#32
  let c0_i32_307 : BitVec 32 := 0#32
  let c1_i32_309 : BitVec 32 := 1#32
  let arg14 : BitVec 32 := Scf.iv c0_i32_307 c1_i32_309 k0_t49
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![22, 1, v197.toNat]
def k0_off234 (k0_t49 : Fin k0_t49_loop.trips) : Fin 3 → Nat :=
  let c22_i32_377 : BitVec 32 := 22#32
  let v201 : Index := Scalar.indexCast c22_i32_377
  let c2_i32_378 : BitVec 32 := 2#32
  let v202 : Index := Scalar.indexCast c2_i32_378
  let c0_i32_338 : BitVec 32 := 0#32
  let c0_i32_307 : BitVec 32 := 0#32
  let c1_i32_309 : BitVec 32 := 1#32
  let arg14 : BitVec 32 := Scf.iv c0_i32_307 c1_i32_309 k0_t49
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![22, 2, v203.toNat]
def k0_off235 (k0_t49 : Fin k0_t49_loop.trips) : Fin 3 → Nat :=
  let c22_i32_382 : BitVec 32 := 22#32
  let v207 : Index := Scalar.indexCast c22_i32_382
  let c3_i32_383 : BitVec 32 := 3#32
  let v208 : Index := Scalar.indexCast c3_i32_383
  let c0_i32_338 : BitVec 32 := 0#32
  let c0_i32_307 : BitVec 32 := 0#32
  let c1_i32_309 : BitVec 32 := 1#32
  let arg14 : BitVec 32 := Scf.iv c0_i32_307 c1_i32_309 k0_t49
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![22, 3, v209.toNat]
def k0_off236 (k0_t49 : Fin k0_t49_loop.trips) : Fin 3 → Nat :=
  let c22_i32_387 : BitVec 32 := 22#32
  let v213 : Index := Scalar.indexCast c22_i32_387
  let c4_i32_388 : BitVec 32 := 4#32
  let v214 : Index := Scalar.indexCast c4_i32_388
  let c0_i32_338 : BitVec 32 := 0#32
  let c0_i32_307 : BitVec 32 := 0#32
  let c1_i32_309 : BitVec 32 := 1#32
  let arg14 : BitVec 32 := Scf.iv c0_i32_307 c1_i32_309 k0_t49
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![22, 4, v215.toNat]
def k0_off237 (k0_t49 : Fin k0_t49_loop.trips) : Fin 3 → Nat :=
  let c22_i32_392 : BitVec 32 := 22#32
  let v219 : Index := Scalar.indexCast c22_i32_392
  let c5_i32_393 : BitVec 32 := 5#32
  let v220 : Index := Scalar.indexCast c5_i32_393
  let c0_i32_338 : BitVec 32 := 0#32
  let c0_i32_307 : BitVec 32 := 0#32
  let c1_i32_309 : BitVec 32 := 1#32
  let arg14 : BitVec 32 := Scf.iv c0_i32_307 c1_i32_309 k0_t49
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![22, 5, v221.toNat]
def k0_off238 (k0_t49 : Fin k0_t49_loop.trips) : Fin 3 → Nat :=
  let c22_i32_397 : BitVec 32 := 22#32
  let v225 : Index := Scalar.indexCast c22_i32_397
  let c6_i32_398 : BitVec 32 := 6#32
  let v226 : Index := Scalar.indexCast c6_i32_398
  let c0_i32_338 : BitVec 32 := 0#32
  let c0_i32_307 : BitVec 32 := 0#32
  let c1_i32_309 : BitVec 32 := 1#32
  let arg14 : BitVec 32 := Scf.iv c0_i32_307 c1_i32_309 k0_t49
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![22, 6, v227.toNat]
def k0_off239 (k0_t49 : Fin k0_t49_loop.trips) : Fin 3 → Nat :=
  let c22_i32_402 : BitVec 32 := 22#32
  let v231 : Index := Scalar.indexCast c22_i32_402
  let c7_i32_403 : BitVec 32 := 7#32
  let v232 : Index := Scalar.indexCast c7_i32_403
  let c0_i32_338 : BitVec 32 := 0#32
  let c0_i32_307 : BitVec 32 := 0#32
  let c1_i32_309 : BitVec 32 := 1#32
  let arg14 : BitVec 32 := Scf.iv c0_i32_307 c1_i32_309 k0_t49
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![22, 7, v233.toNat]
@[reducible] def k0_t50_loop : Scf.Loop 32 :=
  let c0_i32_313 : BitVec 32 := 0#32
  let c8_i32_314 : BitVec 32 := 8#32
  let v130 : BitVec 32 := Scalar.addi c0_i32_313 c8_i32_314
  let c1_i32_315 : BitVec 32 := 1#32
  ⟨c0_i32_313, v130, c1_i32_315⟩
def k0_off240 (k0_t50 : Fin k0_t50_loop.trips) : Fin 1 → Nat :=
  let c2944_i32 : BitVec 32 := 2944#32
  let c0_i32_338 : BitVec 32 := 0#32
  let c0_i32_313 : BitVec 32 := 0#32
  let c1_i32_315 : BitVec 32 := 1#32
  let arg14 : BitVec 32 := Scf.iv c0_i32_313 c1_i32_315 k0_t50
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c2944_i32 v149
  let v153 : Index := Scalar.indexCast v152
  ![v153.toNat]

def k0_chk210 (v151 : IVec S16 32) (v154 : IVec S16 32) (v155 : IVec S16 32) : Prop :=
  (∀ a x, ((![v154, v155, v151] : Fin 3 → IVec S16 32) a x).toNat < S25x8x128.size a)
theorem k0_idx210_inb : ∀ (v151 : IVec S16 32) (v154 : IVec S16 32) (v155 : IVec S16 32) (k0_hw210 : k0_chk210 v151 v154 v155), ∀ a x, ((![v154, v155, v151] : Fin 3 → IVec S16 32) a x).toNat < S25x8x128.size a := fun v151 v154 v155 k0_hw210 => k0_hw210

def k0_chk211 (v151 : IVec S16 32) (v154 : IVec S16 32) (v159 : IVec S16 32) : Prop :=
  (∀ a x, ((![v154, v159, v151] : Fin 3 → IVec S16 32) a x).toNat < S25x8x128.size a)
theorem k0_idx211_inb : ∀ (v151 : IVec S16 32) (v154 : IVec S16 32) (v159 : IVec S16 32) (k0_hw211 : k0_chk211 v151 v154 v159), ∀ a x, ((![v154, v159, v151] : Fin 3 → IVec S16 32) a x).toNat < S25x8x128.size a := fun v151 v154 v159 k0_hw211 => k0_hw211

def k0_chk212 (v151 : IVec S16 32) (v154 : IVec S16 32) (v163 : IVec S16 32) : Prop :=
  (∀ a x, ((![v154, v163, v151] : Fin 3 → IVec S16 32) a x).toNat < S25x8x128.size a)
theorem k0_idx212_inb : ∀ (v151 : IVec S16 32) (v154 : IVec S16 32) (v163 : IVec S16 32) (k0_hw212 : k0_chk212 v151 v154 v163), ∀ a x, ((![v154, v163, v151] : Fin 3 → IVec S16 32) a x).toNat < S25x8x128.size a := fun v151 v154 v163 k0_hw212 => k0_hw212

def k0_chk213 (v151 : IVec S16 32) (v154 : IVec S16 32) (v167 : IVec S16 32) : Prop :=
  (∀ a x, ((![v154, v167, v151] : Fin 3 → IVec S16 32) a x).toNat < S25x8x128.size a)
theorem k0_idx213_inb : ∀ (v151 : IVec S16 32) (v154 : IVec S16 32) (v167 : IVec S16 32) (k0_hw213 : k0_chk213 v151 v154 v167), ∀ a x, ((![v154, v167, v151] : Fin 3 → IVec S16 32) a x).toNat < S25x8x128.size a := fun v151 v154 v167 k0_hw213 => k0_hw213

def k0_chk214 (v151 : IVec S16 32) (v154 : IVec S16 32) (v171 : IVec S16 32) : Prop :=
  (∀ a x, ((![v154, v171, v151] : Fin 3 → IVec S16 32) a x).toNat < S25x8x128.size a)
theorem k0_idx214_inb : ∀ (v151 : IVec S16 32) (v154 : IVec S16 32) (v171 : IVec S16 32) (k0_hw214 : k0_chk214 v151 v154 v171), ∀ a x, ((![v154, v171, v151] : Fin 3 → IVec S16 32) a x).toNat < S25x8x128.size a := fun v151 v154 v171 k0_hw214 => k0_hw214

def k0_chk215 (v151 : IVec S16 32) (v154 : IVec S16 32) (v175 : IVec S16 32) : Prop :=
  (∀ a x, ((![v154, v175, v151] : Fin 3 → IVec S16 32) a x).toNat < S25x8x128.size a)
theorem k0_idx215_inb : ∀ (v151 : IVec S16 32) (v154 : IVec S16 32) (v175 : IVec S16 32) (k0_hw215 : k0_chk215 v151 v154 v175), ∀ a x, ((![v154, v175, v151] : Fin 3 → IVec S16 32) a x).toNat < S25x8x128.size a := fun v151 v154 v175 k0_hw215 => k0_hw215

def k0_chk216 (v151 : IVec S16 32) (v154 : IVec S16 32) (v179 : IVec S16 32) : Prop :=
  (∀ a x, ((![v154, v179, v151] : Fin 3 → IVec S16 32) a x).toNat < S25x8x128.size a)
theorem k0_idx216_inb : ∀ (v151 : IVec S16 32) (v154 : IVec S16 32) (v179 : IVec S16 32) (k0_hw216 : k0_chk216 v151 v154 v179), ∀ a x, ((![v154, v179, v151] : Fin 3 → IVec S16 32) a x).toNat < S25x8x128.size a := fun v151 v154 v179 k0_hw216 => k0_hw216

def k0_chk217 (v151 : IVec S16 32) (v154 : IVec S16 32) (v183 : IVec S16 32) : Prop :=
  (∀ a x, ((![v154, v183, v151] : Fin 3 → IVec S16 32) a x).toNat < S25x8x128.size a)
theorem k0_idx217_inb : ∀ (v151 : IVec S16 32) (v154 : IVec S16 32) (v183 : IVec S16 32) (k0_hw217 : k0_chk217 v151 v154 v183), ∀ a x, ((![v154, v183, v151] : Fin 3 → IVec S16 32) a x).toNat < S25x8x128.size a := fun v151 v154 v183 k0_hw217 => k0_hw217
def k0_off241 (k0_t50 : Fin k0_t50_loop.trips) : Fin 3 → Nat :=
  let c23_i32 : BitVec 32 := 23#32
  let v189 : Index := Scalar.indexCast c23_i32
  let c0_i32_368 : BitVec 32 := 0#32
  let v190 : Index := Scalar.indexCast c0_i32_368
  let c0_i32_338 : BitVec 32 := 0#32
  let c0_i32_313 : BitVec 32 := 0#32
  let c1_i32_315 : BitVec 32 := 1#32
  let arg14 : BitVec 32 := Scf.iv c0_i32_313 c1_i32_315 k0_t50
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![23, 0, v191.toNat]
def k0_off242 (k0_t50 : Fin k0_t50_loop.trips) : Fin 3 → Nat :=
  let c23_i32_372 : BitVec 32 := 23#32
  let v195 : Index := Scalar.indexCast c23_i32_372
  let c1_i32_373 : BitVec 32 := 1#32
  let v196 : Index := Scalar.indexCast c1_i32_373
  let c0_i32_338 : BitVec 32 := 0#32
  let c0_i32_313 : BitVec 32 := 0#32
  let c1_i32_315 : BitVec 32 := 1#32
  let arg14 : BitVec 32 := Scf.iv c0_i32_313 c1_i32_315 k0_t50
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![23, 1, v197.toNat]
def k0_off243 (k0_t50 : Fin k0_t50_loop.trips) : Fin 3 → Nat :=
  let c23_i32_377 : BitVec 32 := 23#32
  let v201 : Index := Scalar.indexCast c23_i32_377
  let c2_i32_378 : BitVec 32 := 2#32
  let v202 : Index := Scalar.indexCast c2_i32_378
  let c0_i32_338 : BitVec 32 := 0#32
  let c0_i32_313 : BitVec 32 := 0#32
  let c1_i32_315 : BitVec 32 := 1#32
  let arg14 : BitVec 32 := Scf.iv c0_i32_313 c1_i32_315 k0_t50
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![23, 2, v203.toNat]
def k0_off244 (k0_t50 : Fin k0_t50_loop.trips) : Fin 3 → Nat :=
  let c23_i32_382 : BitVec 32 := 23#32
  let v207 : Index := Scalar.indexCast c23_i32_382
  let c3_i32_383 : BitVec 32 := 3#32
  let v208 : Index := Scalar.indexCast c3_i32_383
  let c0_i32_338 : BitVec 32 := 0#32
  let c0_i32_313 : BitVec 32 := 0#32
  let c1_i32_315 : BitVec 32 := 1#32
  let arg14 : BitVec 32 := Scf.iv c0_i32_313 c1_i32_315 k0_t50
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![23, 3, v209.toNat]
def k0_off245 (k0_t50 : Fin k0_t50_loop.trips) : Fin 3 → Nat :=
  let c23_i32_387 : BitVec 32 := 23#32
  let v213 : Index := Scalar.indexCast c23_i32_387
  let c4_i32_388 : BitVec 32 := 4#32
  let v214 : Index := Scalar.indexCast c4_i32_388
  let c0_i32_338 : BitVec 32 := 0#32
  let c0_i32_313 : BitVec 32 := 0#32
  let c1_i32_315 : BitVec 32 := 1#32
  let arg14 : BitVec 32 := Scf.iv c0_i32_313 c1_i32_315 k0_t50
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![23, 4, v215.toNat]
def k0_off246 (k0_t50 : Fin k0_t50_loop.trips) : Fin 3 → Nat :=
  let c23_i32_392 : BitVec 32 := 23#32
  let v219 : Index := Scalar.indexCast c23_i32_392
  let c5_i32_393 : BitVec 32 := 5#32
  let v220 : Index := Scalar.indexCast c5_i32_393
  let c0_i32_338 : BitVec 32 := 0#32
  let c0_i32_313 : BitVec 32 := 0#32
  let c1_i32_315 : BitVec 32 := 1#32
  let arg14 : BitVec 32 := Scf.iv c0_i32_313 c1_i32_315 k0_t50
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![23, 5, v221.toNat]
def k0_off247 (k0_t50 : Fin k0_t50_loop.trips) : Fin 3 → Nat :=
  let c23_i32_397 : BitVec 32 := 23#32
  let v225 : Index := Scalar.indexCast c23_i32_397
  let c6_i32_398 : BitVec 32 := 6#32
  let v226 : Index := Scalar.indexCast c6_i32_398
  let c0_i32_338 : BitVec 32 := 0#32
  let c0_i32_313 : BitVec 32 := 0#32
  let c1_i32_315 : BitVec 32 := 1#32
  let arg14 : BitVec 32 := Scf.iv c0_i32_313 c1_i32_315 k0_t50
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![23, 6, v227.toNat]
def k0_off248 (k0_t50 : Fin k0_t50_loop.trips) : Fin 3 → Nat :=
  let c23_i32_402 : BitVec 32 := 23#32
  let v231 : Index := Scalar.indexCast c23_i32_402
  let c7_i32_403 : BitVec 32 := 7#32
  let v232 : Index := Scalar.indexCast c7_i32_403
  let c0_i32_338 : BitVec 32 := 0#32
  let c0_i32_313 : BitVec 32 := 0#32
  let c1_i32_315 : BitVec 32 := 1#32
  let arg14 : BitVec 32 := Scf.iv c0_i32_313 c1_i32_315 k0_t50
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![23, 7, v233.toNat]
@[reducible] def k0_t51_loop : Scf.Loop 32 :=
  let c0_i32_319 : BitVec 32 := 0#32
  let c8_i32_320 : BitVec 32 := 8#32
  let v131 : BitVec 32 := Scalar.addi c0_i32_319 c8_i32_320
  let c1_i32_321 : BitVec 32 := 1#32
  ⟨c0_i32_319, v131, c1_i32_321⟩
def k0_off249 (k0_t51 : Fin k0_t51_loop.trips) : Fin 1 → Nat :=
  let c3072_i32 : BitVec 32 := 3072#32
  let c0_i32_338 : BitVec 32 := 0#32
  let c0_i32_319 : BitVec 32 := 0#32
  let c1_i32_321 : BitVec 32 := 1#32
  let arg14 : BitVec 32 := Scf.iv c0_i32_319 c1_i32_321 k0_t51
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v152 : BitVec 32 := Scalar.addi c3072_i32 v149
  let v153 : Index := Scalar.indexCast v152
  ![v153.toNat]

def k0_chk218 (v151 : IVec S16 32) (v154 : IVec S16 32) (v155 : IVec S16 32) : Prop :=
  (∀ a x, ((![v154, v155, v151] : Fin 3 → IVec S16 32) a x).toNat < S25x8x128.size a)
theorem k0_idx218_inb : ∀ (v151 : IVec S16 32) (v154 : IVec S16 32) (v155 : IVec S16 32) (k0_hw218 : k0_chk218 v151 v154 v155), ∀ a x, ((![v154, v155, v151] : Fin 3 → IVec S16 32) a x).toNat < S25x8x128.size a := fun v151 v154 v155 k0_hw218 => k0_hw218

def k0_chk219 (v151 : IVec S16 32) (v154 : IVec S16 32) (v159 : IVec S16 32) : Prop :=
  (∀ a x, ((![v154, v159, v151] : Fin 3 → IVec S16 32) a x).toNat < S25x8x128.size a)
theorem k0_idx219_inb : ∀ (v151 : IVec S16 32) (v154 : IVec S16 32) (v159 : IVec S16 32) (k0_hw219 : k0_chk219 v151 v154 v159), ∀ a x, ((![v154, v159, v151] : Fin 3 → IVec S16 32) a x).toNat < S25x8x128.size a := fun v151 v154 v159 k0_hw219 => k0_hw219

def k0_chk220 (v151 : IVec S16 32) (v154 : IVec S16 32) (v163 : IVec S16 32) : Prop :=
  (∀ a x, ((![v154, v163, v151] : Fin 3 → IVec S16 32) a x).toNat < S25x8x128.size a)
theorem k0_idx220_inb : ∀ (v151 : IVec S16 32) (v154 : IVec S16 32) (v163 : IVec S16 32) (k0_hw220 : k0_chk220 v151 v154 v163), ∀ a x, ((![v154, v163, v151] : Fin 3 → IVec S16 32) a x).toNat < S25x8x128.size a := fun v151 v154 v163 k0_hw220 => k0_hw220

def k0_chk221 (v151 : IVec S16 32) (v154 : IVec S16 32) (v167 : IVec S16 32) : Prop :=
  (∀ a x, ((![v154, v167, v151] : Fin 3 → IVec S16 32) a x).toNat < S25x8x128.size a)
theorem k0_idx221_inb : ∀ (v151 : IVec S16 32) (v154 : IVec S16 32) (v167 : IVec S16 32) (k0_hw221 : k0_chk221 v151 v154 v167), ∀ a x, ((![v154, v167, v151] : Fin 3 → IVec S16 32) a x).toNat < S25x8x128.size a := fun v151 v154 v167 k0_hw221 => k0_hw221

def k0_chk222 (v151 : IVec S16 32) (v154 : IVec S16 32) (v171 : IVec S16 32) : Prop :=
  (∀ a x, ((![v154, v171, v151] : Fin 3 → IVec S16 32) a x).toNat < S25x8x128.size a)
theorem k0_idx222_inb : ∀ (v151 : IVec S16 32) (v154 : IVec S16 32) (v171 : IVec S16 32) (k0_hw222 : k0_chk222 v151 v154 v171), ∀ a x, ((![v154, v171, v151] : Fin 3 → IVec S16 32) a x).toNat < S25x8x128.size a := fun v151 v154 v171 k0_hw222 => k0_hw222

def k0_chk223 (v151 : IVec S16 32) (v154 : IVec S16 32) (v175 : IVec S16 32) : Prop :=
  (∀ a x, ((![v154, v175, v151] : Fin 3 → IVec S16 32) a x).toNat < S25x8x128.size a)
theorem k0_idx223_inb : ∀ (v151 : IVec S16 32) (v154 : IVec S16 32) (v175 : IVec S16 32) (k0_hw223 : k0_chk223 v151 v154 v175), ∀ a x, ((![v154, v175, v151] : Fin 3 → IVec S16 32) a x).toNat < S25x8x128.size a := fun v151 v154 v175 k0_hw223 => k0_hw223

def k0_chk224 (v151 : IVec S16 32) (v154 : IVec S16 32) (v179 : IVec S16 32) : Prop :=
  (∀ a x, ((![v154, v179, v151] : Fin 3 → IVec S16 32) a x).toNat < S25x8x128.size a)
theorem k0_idx224_inb : ∀ (v151 : IVec S16 32) (v154 : IVec S16 32) (v179 : IVec S16 32) (k0_hw224 : k0_chk224 v151 v154 v179), ∀ a x, ((![v154, v179, v151] : Fin 3 → IVec S16 32) a x).toNat < S25x8x128.size a := fun v151 v154 v179 k0_hw224 => k0_hw224

def k0_chk225 (v151 : IVec S16 32) (v154 : IVec S16 32) (v183 : IVec S16 32) : Prop :=
  (∀ a x, ((![v154, v183, v151] : Fin 3 → IVec S16 32) a x).toNat < S25x8x128.size a)
theorem k0_idx225_inb : ∀ (v151 : IVec S16 32) (v154 : IVec S16 32) (v183 : IVec S16 32) (k0_hw225 : k0_chk225 v151 v154 v183), ∀ a x, ((![v154, v183, v151] : Fin 3 → IVec S16 32) a x).toNat < S25x8x128.size a := fun v151 v154 v183 k0_hw225 => k0_hw225
def k0_off250 (k0_t51 : Fin k0_t51_loop.trips) : Fin 3 → Nat :=
  let c24_i32 : BitVec 32 := 24#32
  let v189 : Index := Scalar.indexCast c24_i32
  let c0_i32_368 : BitVec 32 := 0#32
  let v190 : Index := Scalar.indexCast c0_i32_368
  let c0_i32_338 : BitVec 32 := 0#32
  let c0_i32_319 : BitVec 32 := 0#32
  let c1_i32_321 : BitVec 32 := 1#32
  let arg14 : BitVec 32 := Scf.iv c0_i32_319 c1_i32_321 k0_t51
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v191 : Index := Scalar.indexCast v149
  ![24, 0, v191.toNat]
def k0_off251 (k0_t51 : Fin k0_t51_loop.trips) : Fin 3 → Nat :=
  let c24_i32_372 : BitVec 32 := 24#32
  let v195 : Index := Scalar.indexCast c24_i32_372
  let c1_i32_373 : BitVec 32 := 1#32
  let v196 : Index := Scalar.indexCast c1_i32_373
  let c0_i32_338 : BitVec 32 := 0#32
  let c0_i32_319 : BitVec 32 := 0#32
  let c1_i32_321 : BitVec 32 := 1#32
  let arg14 : BitVec 32 := Scf.iv c0_i32_319 c1_i32_321 k0_t51
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v197 : Index := Scalar.indexCast v149
  ![24, 1, v197.toNat]
def k0_off252 (k0_t51 : Fin k0_t51_loop.trips) : Fin 3 → Nat :=
  let c24_i32_377 : BitVec 32 := 24#32
  let v201 : Index := Scalar.indexCast c24_i32_377
  let c2_i32_378 : BitVec 32 := 2#32
  let v202 : Index := Scalar.indexCast c2_i32_378
  let c0_i32_338 : BitVec 32 := 0#32
  let c0_i32_319 : BitVec 32 := 0#32
  let c1_i32_321 : BitVec 32 := 1#32
  let arg14 : BitVec 32 := Scf.iv c0_i32_319 c1_i32_321 k0_t51
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v203 : Index := Scalar.indexCast v149
  ![24, 2, v203.toNat]
def k0_off253 (k0_t51 : Fin k0_t51_loop.trips) : Fin 3 → Nat :=
  let c24_i32_382 : BitVec 32 := 24#32
  let v207 : Index := Scalar.indexCast c24_i32_382
  let c3_i32_383 : BitVec 32 := 3#32
  let v208 : Index := Scalar.indexCast c3_i32_383
  let c0_i32_338 : BitVec 32 := 0#32
  let c0_i32_319 : BitVec 32 := 0#32
  let c1_i32_321 : BitVec 32 := 1#32
  let arg14 : BitVec 32 := Scf.iv c0_i32_319 c1_i32_321 k0_t51
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v209 : Index := Scalar.indexCast v149
  ![24, 3, v209.toNat]
def k0_off254 (k0_t51 : Fin k0_t51_loop.trips) : Fin 3 → Nat :=
  let c24_i32_387 : BitVec 32 := 24#32
  let v213 : Index := Scalar.indexCast c24_i32_387
  let c4_i32_388 : BitVec 32 := 4#32
  let v214 : Index := Scalar.indexCast c4_i32_388
  let c0_i32_338 : BitVec 32 := 0#32
  let c0_i32_319 : BitVec 32 := 0#32
  let c1_i32_321 : BitVec 32 := 1#32
  let arg14 : BitVec 32 := Scf.iv c0_i32_319 c1_i32_321 k0_t51
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v215 : Index := Scalar.indexCast v149
  ![24, 4, v215.toNat]
def k0_off255 (k0_t51 : Fin k0_t51_loop.trips) : Fin 3 → Nat :=
  let c24_i32_392 : BitVec 32 := 24#32
  let v219 : Index := Scalar.indexCast c24_i32_392
  let c5_i32_393 : BitVec 32 := 5#32
  let v220 : Index := Scalar.indexCast c5_i32_393
  let c0_i32_338 : BitVec 32 := 0#32
  let c0_i32_319 : BitVec 32 := 0#32
  let c1_i32_321 : BitVec 32 := 1#32
  let arg14 : BitVec 32 := Scf.iv c0_i32_319 c1_i32_321 k0_t51
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v221 : Index := Scalar.indexCast v149
  ![24, 5, v221.toNat]
def k0_off256 (k0_t51 : Fin k0_t51_loop.trips) : Fin 3 → Nat :=
  let c24_i32_397 : BitVec 32 := 24#32
  let v225 : Index := Scalar.indexCast c24_i32_397
  let c6_i32_398 : BitVec 32 := 6#32
  let v226 : Index := Scalar.indexCast c6_i32_398
  let c0_i32_338 : BitVec 32 := 0#32
  let c0_i32_319 : BitVec 32 := 0#32
  let c1_i32_321 : BitVec 32 := 1#32
  let arg14 : BitVec 32 := Scf.iv c0_i32_319 c1_i32_321 k0_t51
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v227 : Index := Scalar.indexCast v149
  ![24, 6, v227.toNat]
def k0_off257 (k0_t51 : Fin k0_t51_loop.trips) : Fin 3 → Nat :=
  let c24_i32_402 : BitVec 32 := 24#32
  let v231 : Index := Scalar.indexCast c24_i32_402
  let c7_i32_403 : BitVec 32 := 7#32
  let v232 : Index := Scalar.indexCast c7_i32_403
  let c0_i32_338 : BitVec 32 := 0#32
  let c0_i32_319 : BitVec 32 := 0#32
  let c1_i32_321 : BitVec 32 := 1#32
  let arg14 : BitVec 32 := Scf.iv c0_i32_319 c1_i32_321 k0_t51
  let c1_i32_337 : BitVec 32 := 1#32
  let v147 : BitVec 32 := Scalar.muli arg14 c1_i32_337
  let v148 : BitVec 32 := Scalar.addi c0_i32_338 v147
  let c16_i32 : BitVec 32 := 16#32
  let v149 : BitVec 32 := Scalar.muli v148 c16_i32
  let v233 : Index := Scalar.indexCast v149
  ![24, 7, v233.toNat]
def k0_cond3 (k0_t26 : Fin k0_t26_loop.trips) : BitVec 1 :=
  let c0_i32_158 : BitVec 32 := 0#32
  let c0_i32_134 : BitVec 32 := 0#32
  let c1_i32_135 : BitVec 32 := 1#32
  let arg13 : BitVec 32 := Scf.iv c0_i32_134 c1_i32_135 k0_t26
  let c2_i32_157 : BitVec 32 := 2#32
  let v87 : BitVec 32 := Scalar.muli arg13 c2_i32_157
  let v88 : BitVec 32 := Scalar.addi c0_i32_158 v87
  let c1_i32_334 : BitVec 32 := 1#32
  let v143 : BitVec 32 := Scalar.addi v88 c1_i32_334
  let c75_i32_335 : BitVec 32 := 75#32
  let v144 : BitVec 1 := Scalar.cmpi .slt v143 c75_i32_335
  let v145 : BitVec 32 := Scalar.extui v144
  let c0_i32_336 : BitVec 32 := 0#32
  let v146 : BitVec 1 := Scalar.cmpi .ne v145 c0_i32_336
  v146

def k0_cond4 (k0_t26 : Fin k0_t26_loop.trips) : BitVec 1 :=
  let c0_i32_158 : BitVec 32 := 0#32
  let c0_i32_134 : BitVec 32 := 0#32
  let c1_i32_135 : BitVec 32 := 1#32
  let arg13 : BitVec 32 := Scf.iv c0_i32_134 c1_i32_135 k0_t26
  let c2_i32_157 : BitVec 32 := 2#32
  let v87 : BitVec 32 := Scalar.muli arg13 c2_i32_157
  let v88 : BitVec 32 := Scalar.addi c0_i32_158 v87
  let c2_i32_337 : BitVec 32 := 2#32
  let v147 : BitVec 32 := Scalar.addi v88 c2_i32_337
  let c75_i32_338 : BitVec 32 := 75#32
  let v148 : BitVec 1 := Scalar.cmpi .slt v147 c75_i32_338
  let v149 : BitVec 32 := Scalar.extui v148
  let c0_i32_339 : BitVec 32 := 0#32
  let v150 : BitVec 1 := Scalar.cmpi .ne v149 c0_i32_339
  v150

def k0_off258 (i : grid0.Coords) (k0_t26 : Fin k0_t26_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1 : BitVec 32 := 3#32
  let v5 : BitVec 32 := Scalar.shrsi v1 c3_i32_1
  let c0_i32_158 : BitVec 32 := 0#32
  let c0_i32_134 : BitVec 32 := 0#32
  let c1_i32_135 : BitVec 32 := 1#32
  let arg13 : BitVec 32 := Scf.iv c0_i32_134 c1_i32_135 k0_t26
  let c2_i32_157 : BitVec 32 := 2#32
  let v87 : BitVec 32 := Scalar.muli arg13 c2_i32_157
  let v88 : BitVec 32 := Scalar.addi c0_i32_158 v87
  let c2_i32_516 : BitVec 32 := 2#32
  let v203 : BitVec 32 := Scalar.addi v88 c2_i32_516
  let c4_i32_517 : BitVec 32 := 4#32
  let v204 : BitVec 32 := Scalar.muli v203 c4_i32_517
  let v205 : BitVec 32 := Scalar.addi v5 v204
  let c25_i32_520 : BitVec 32 := 25#32
  let v208 : BitVec 32 := Scalar.muli v205 c25_i32_520
  let c1_i32_0 : BitVec 32 := 1#32
  let v3 : BitVec 32 := Scalar.shrsi v1 c1_i32_0
  let c3_i32 : BitVec 32 := 3#32
  let v4 : BitVec 32 := Scalar.andi v3 c3_i32
  let c8_i32_518 : BitVec 32 := 8#32
  let v206 : BitVec 32 := Scalar.muli v4 c8_i32_518
  let c1_i32 : BitVec 32 := 1#32
  let v2 : BitVec 32 := Scalar.andi v1 c1_i32
  let c128_i32_519 : BitVec 32 := 128#32
  let v207 : BitVec 32 := Scalar.muli v2 c128_i32_519
  ![v208.toNat, v206.toNat, v207.toNat]
def k0_off259 (i : grid0.Coords) (k0_t26 : Fin k0_t26_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1 : BitVec 32 := 3#32
  let v5 : BitVec 32 := Scalar.shrsi v1 c3_i32_1
  let c0_i32_158 : BitVec 32 := 0#32
  let c0_i32_134 : BitVec 32 := 0#32
  let c1_i32_135 : BitVec 32 := 1#32
  let arg13 : BitVec 32 := Scf.iv c0_i32_134 c1_i32_135 k0_t26
  let c2_i32_157 : BitVec 32 := 2#32
  let v87 : BitVec 32 := Scalar.muli arg13 c2_i32_157
  let v88 : BitVec 32 := Scalar.addi c0_i32_158 v87
  let c2_i32_516 : BitVec 32 := 2#32
  let v203 : BitVec 32 := Scalar.addi v88 c2_i32_516
  let c4_i32_517 : BitVec 32 := 4#32
  let v204 : BitVec 32 := Scalar.muli v203 c4_i32_517
  let v205 : BitVec 32 := Scalar.addi v5 v204
  let c25_i32_534 : BitVec 32 := 25#32
  let v217 : BitVec 32 := Scalar.muli v205 c25_i32_534
  let c12_i32_535 : BitVec 32 := 12#32
  let v218 : BitVec 32 := Scalar.addi v217 c12_i32_535
  let c1_i32_0 : BitVec 32 := 1#32
  let v3 : BitVec 32 := Scalar.shrsi v1 c1_i32_0
  let c3_i32 : BitVec 32 := 3#32
  let v4 : BitVec 32 := Scalar.andi v3 c3_i32
  let c8_i32_518 : BitVec 32 := 8#32
  let v206 : BitVec 32 := Scalar.muli v4 c8_i32_518
  let c1_i32 : BitVec 32 := 1#32
  let v2 : BitVec 32 := Scalar.andi v1 c1_i32
  let c128_i32_519 : BitVec 32 := 128#32
  let v207 : BitVec 32 := Scalar.muli v2 c128_i32_519
  ![v218.toNat, v206.toNat, v207.toNat]
def k0_off260 (i : grid0.Coords) (k0_t26 : Fin k0_t26_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1 : BitVec 32 := 3#32
  let v5 : BitVec 32 := Scalar.shrsi v1 c3_i32_1
  let c0_i32_158 : BitVec 32 := 0#32
  let c0_i32_134 : BitVec 32 := 0#32
  let c1_i32_135 : BitVec 32 := 1#32
  let arg13 : BitVec 32 := Scf.iv c0_i32_134 c1_i32_135 k0_t26
  let c2_i32_157 : BitVec 32 := 2#32
  let v87 : BitVec 32 := Scalar.muli arg13 c2_i32_157
  let v88 : BitVec 32 := Scalar.addi c0_i32_158 v87
  let c1_i32_340 : BitVec 32 := 1#32
  let v151 : BitVec 32 := Scalar.addi v88 c1_i32_340
  let c4_i32_341 : BitVec 32 := 4#32
  let v152 : BitVec 32 := Scalar.muli v151 c4_i32_341
  let v153 : BitVec 32 := Scalar.addi v5 v152
  let c25_i32_342 : BitVec 32 := 25#32
  let v154 : BitVec 32 := Scalar.muli v153 c25_i32_342
  let c1_i32_0 : BitVec 32 := 1#32
  let v3 : BitVec 32 := Scalar.shrsi v1 c1_i32_0
  let c3_i32 : BitVec 32 := 3#32
  let v4 : BitVec 32 := Scalar.andi v3 c3_i32
  let c8_i32_343 : BitVec 32 := 8#32
  let v155 : BitVec 32 := Scalar.muli v4 c8_i32_343
  let c1_i32 : BitVec 32 := 1#32
  let v2 : BitVec 32 := Scalar.andi v1 c1_i32
  let c128_i32_344 : BitVec 32 := 128#32
  let v156 : BitVec 32 := Scalar.muli v2 c128_i32_344
  ![v154.toNat, v155.toNat, v156.toNat]
def k0_cond5 (k0_t26 : Fin k0_t26_loop.trips) : BitVec 1 :=
  let c0_i32_158 : BitVec 32 := 0#32
  let c0_i32_134 : BitVec 32 := 0#32
  let c1_i32_135 : BitVec 32 := 1#32
  let arg13 : BitVec 32 := Scf.iv c0_i32_134 c1_i32_135 k0_t26
  let c2_i32_157 : BitVec 32 := 2#32
  let v87 : BitVec 32 := Scalar.muli arg13 c2_i32_157
  let v88 : BitVec 32 := Scalar.addi c0_i32_158 v87
  let c1_i32_352 : BitVec 32 := 1#32
  let v163 : BitVec 1 := Scalar.cmpi .sge v88 c1_i32_352
  let v164 : BitVec 32 := Scalar.extui v163
  let c0_i32_353 : BitVec 32 := 0#32
  let v165 : BitVec 1 := Scalar.cmpi .ne v164 c0_i32_353
  v165

def k0_off261 (i : grid0.Coords) (k0_t26 : Fin k0_t26_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1 : BitVec 32 := 3#32
  let v5 : BitVec 32 := Scalar.shrsi v1 c3_i32_1
  let c0_i32_158 : BitVec 32 := 0#32
  let c0_i32_134 : BitVec 32 := 0#32
  let c1_i32_135 : BitVec 32 := 1#32
  let arg13 : BitVec 32 := Scf.iv c0_i32_134 c1_i32_135 k0_t26
  let c2_i32_157 : BitVec 32 := 2#32
  let v87 : BitVec 32 := Scalar.muli arg13 c2_i32_157
  let v88 : BitVec 32 := Scalar.addi c0_i32_158 v87
  let c1_i32_516 : BitVec 32 := 1#32
  let v203 : BitVec 32 := Scalar.subi v88 c1_i32_516
  let c4_i32_517 : BitVec 32 := 4#32
  let v204 : BitVec 32 := Scalar.muli v203 c4_i32_517
  let v205 : BitVec 32 := Scalar.addi v5 v204
  let c25_i32_518 : BitVec 32 := 25#32
  let v206 : BitVec 32 := Scalar.muli v205 c25_i32_518
  let c1_i32_0 : BitVec 32 := 1#32
  let v3 : BitVec 32 := Scalar.shrsi v1 c1_i32_0
  let c3_i32 : BitVec 32 := 3#32
  let v4 : BitVec 32 := Scalar.andi v3 c3_i32
  let c8_i32_519 : BitVec 32 := 8#32
  let v207 : BitVec 32 := Scalar.muli v4 c8_i32_519
  let c1_i32 : BitVec 32 := 1#32
  let v2 : BitVec 32 := Scalar.andi v1 c1_i32
  let c128_i32_520 : BitVec 32 := 128#32
  let v208 : BitVec 32 := Scalar.muli v2 c128_i32_520
  ![v206.toNat, v207.toNat, v208.toNat]
@[reducible] def k0_t52_loop : Scf.Loop 32 :=
  let c0_i32_356 : BitVec 32 := 0#32
  let c8_i32_357 : BitVec 32 := 8#32
  let v166 : BitVec 32 := Scalar.addi c0_i32_356 c8_i32_357
  let c1_i32_358 : BitVec 32 := 1#32
  ⟨c0_i32_356, v166, c1_i32_358⟩
def k0_off262 (k0_t52 : Fin k0_t52_loop.trips) : Fin 1 → Nat :=
  let c0_i32_518 : BitVec 32 := 0#32
  let c0_i32_517 : BitVec 32 := 0#32
  let c0_i32_356 : BitVec 32 := 0#32
  let c1_i32_358 : BitVec 32 := 1#32
  let arg14 : BitVec 32 := Scf.iv c0_i32_356 c1_i32_358 k0_t52
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c0_i32_518 v205
  let v209 : Index := Scalar.indexCast v208
  ![v209.toNat]

def k0_chk226 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx226_inb : ∀ (k0_t26 : Fin k0_t26_loop.trips) (v207 : IVec S16 32) (v210 : IVec S16 32) (v211 : IVec S16 32) (k0_hw226 : k0_chk226 k0_t26 v207 v210 v211), ∀ (k0_h3 : k0_cond3 k0_t26 = 1#1), ∀ a x, ((![v210, v211, v207] : Fin 3 → IVec S16 32) a x).toNat < S25x8x128.size a := fun k0_t26 v207 v210 v211 k0_hw226 k0_h3 => k0_hw226 k0_h3

def k0_chk227 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx227_inb : ∀ (k0_t26 : Fin k0_t26_loop.trips) (v207 : IVec S16 32) (v210 : IVec S16 32) (v215 : IVec S16 32) (k0_hw227 : k0_chk227 k0_t26 v207 v210 v215), ∀ (k0_h3 : k0_cond3 k0_t26 = 1#1), ∀ a x, ((![v210, v215, v207] : Fin 3 → IVec S16 32) a x).toNat < S25x8x128.size a := fun k0_t26 v207 v210 v215 k0_hw227 k0_h3 => k0_hw227 k0_h3

def k0_chk228 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx228_inb : ∀ (k0_t26 : Fin k0_t26_loop.trips) (v207 : IVec S16 32) (v210 : IVec S16 32) (v219 : IVec S16 32) (k0_hw228 : k0_chk228 k0_t26 v207 v210 v219), ∀ (k0_h3 : k0_cond3 k0_t26 = 1#1), ∀ a x, ((![v210, v219, v207] : Fin 3 → IVec S16 32) a x).toNat < S25x8x128.size a := fun k0_t26 v207 v210 v219 k0_hw228 k0_h3 => k0_hw228 k0_h3

def k0_chk229 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx229_inb : ∀ (k0_t26 : Fin k0_t26_loop.trips) (v207 : IVec S16 32) (v210 : IVec S16 32) (v223 : IVec S16 32) (k0_hw229 : k0_chk229 k0_t26 v207 v210 v223), ∀ (k0_h3 : k0_cond3 k0_t26 = 1#1), ∀ a x, ((![v210, v223, v207] : Fin 3 → IVec S16 32) a x).toNat < S25x8x128.size a := fun k0_t26 v207 v210 v223 k0_hw229 k0_h3 => k0_hw229 k0_h3

def k0_chk230 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx230_inb : ∀ (k0_t26 : Fin k0_t26_loop.trips) (v207 : IVec S16 32) (v210 : IVec S16 32) (v227 : IVec S16 32) (k0_hw230 : k0_chk230 k0_t26 v207 v210 v227), ∀ (k0_h3 : k0_cond3 k0_t26 = 1#1), ∀ a x, ((![v210, v227, v207] : Fin 3 → IVec S16 32) a x).toNat < S25x8x128.size a := fun k0_t26 v207 v210 v227 k0_hw230 k0_h3 => k0_hw230 k0_h3

def k0_chk231 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx231_inb : ∀ (k0_t26 : Fin k0_t26_loop.trips) (v207 : IVec S16 32) (v210 : IVec S16 32) (v231 : IVec S16 32) (k0_hw231 : k0_chk231 k0_t26 v207 v210 v231), ∀ (k0_h3 : k0_cond3 k0_t26 = 1#1), ∀ a x, ((![v210, v231, v207] : Fin 3 → IVec S16 32) a x).toNat < S25x8x128.size a := fun k0_t26 v207 v210 v231 k0_hw231 k0_h3 => k0_hw231 k0_h3

def k0_chk232 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx232_inb : ∀ (k0_t26 : Fin k0_t26_loop.trips) (v207 : IVec S16 32) (v210 : IVec S16 32) (v235 : IVec S16 32) (k0_hw232 : k0_chk232 k0_t26 v207 v210 v235), ∀ (k0_h3 : k0_cond3 k0_t26 = 1#1), ∀ a x, ((![v210, v235, v207] : Fin 3 → IVec S16 32) a x).toNat < S25x8x128.size a := fun k0_t26 v207 v210 v235 k0_hw232 k0_h3 => k0_hw232 k0_h3

def k0_chk233 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx233_inb : ∀ (k0_t26 : Fin k0_t26_loop.trips) (v207 : IVec S16 32) (v210 : IVec S16 32) (v239 : IVec S16 32) (k0_hw233 : k0_chk233 k0_t26 v207 v210 v239), ∀ (k0_h3 : k0_cond3 k0_t26 = 1#1), ∀ a x, ((![v210, v239, v207] : Fin 3 → IVec S16 32) a x).toNat < S25x8x128.size a := fun k0_t26 v207 v210 v239 k0_hw233 k0_h3 => k0_hw233 k0_h3
def k0_off263 (k0_t52 : Fin k0_t52_loop.trips) : Fin 3 → Nat :=
  let c0_i32_548 : BitVec 32 := 0#32
  let v245 : Index := Scalar.indexCast c0_i32_548
  let c0_i32_549 : BitVec 32 := 0#32
  let v246 : Index := Scalar.indexCast c0_i32_549
  let c0_i32_517 : BitVec 32 := 0#32
  let c0_i32_356 : BitVec 32 := 0#32
  let c1_i32_358 : BitVec 32 := 1#32
  let arg14 : BitVec 32 := Scf.iv c0_i32_356 c1_i32_358 k0_t52
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![0, 0, v247.toNat]
def k0_off264 (k0_t52 : Fin k0_t52_loop.trips) : Fin 3 → Nat :=
  let c0_i32_553 : BitVec 32 := 0#32
  let v251 : Index := Scalar.indexCast c0_i32_553
  let c1_i32_554 : BitVec 32 := 1#32
  let v252 : Index := Scalar.indexCast c1_i32_554
  let c0_i32_517 : BitVec 32 := 0#32
  let c0_i32_356 : BitVec 32 := 0#32
  let c1_i32_358 : BitVec 32 := 1#32
  let arg14 : BitVec 32 := Scf.iv c0_i32_356 c1_i32_358 k0_t52
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![0, 1, v253.toNat]
def k0_off265 (k0_t52 : Fin k0_t52_loop.trips) : Fin 3 → Nat :=
  let c0_i32_558 : BitVec 32 := 0#32
  let v257 : Index := Scalar.indexCast c0_i32_558
  let c2_i32_559 : BitVec 32 := 2#32
  let v258 : Index := Scalar.indexCast c2_i32_559
  let c0_i32_517 : BitVec 32 := 0#32
  let c0_i32_356 : BitVec 32 := 0#32
  let c1_i32_358 : BitVec 32 := 1#32
  let arg14 : BitVec 32 := Scf.iv c0_i32_356 c1_i32_358 k0_t52
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![0, 2, v259.toNat]
def k0_off266 (k0_t52 : Fin k0_t52_loop.trips) : Fin 3 → Nat :=
  let c0_i32_563 : BitVec 32 := 0#32
  let v263 : Index := Scalar.indexCast c0_i32_563
  let c3_i32_564 : BitVec 32 := 3#32
  let v264 : Index := Scalar.indexCast c3_i32_564
  let c0_i32_517 : BitVec 32 := 0#32
  let c0_i32_356 : BitVec 32 := 0#32
  let c1_i32_358 : BitVec 32 := 1#32
  let arg14 : BitVec 32 := Scf.iv c0_i32_356 c1_i32_358 k0_t52
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![0, 3, v265.toNat]
def k0_off267 (k0_t52 : Fin k0_t52_loop.trips) : Fin 3 → Nat :=
  let c0_i32_568 : BitVec 32 := 0#32
  let v269 : Index := Scalar.indexCast c0_i32_568
  let c4_i32_569 : BitVec 32 := 4#32
  let v270 : Index := Scalar.indexCast c4_i32_569
  let c0_i32_517 : BitVec 32 := 0#32
  let c0_i32_356 : BitVec 32 := 0#32
  let c1_i32_358 : BitVec 32 := 1#32
  let arg14 : BitVec 32 := Scf.iv c0_i32_356 c1_i32_358 k0_t52
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![0, 4, v271.toNat]
def k0_off268 (k0_t52 : Fin k0_t52_loop.trips) : Fin 3 → Nat :=
  let c0_i32_573 : BitVec 32 := 0#32
  let v275 : Index := Scalar.indexCast c0_i32_573
  let c5_i32_574 : BitVec 32 := 5#32
  let v276 : Index := Scalar.indexCast c5_i32_574
  let c0_i32_517 : BitVec 32 := 0#32
  let c0_i32_356 : BitVec 32 := 0#32
  let c1_i32_358 : BitVec 32 := 1#32
  let arg14 : BitVec 32 := Scf.iv c0_i32_356 c1_i32_358 k0_t52
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![0, 5, v277.toNat]
def k0_off269 (k0_t52 : Fin k0_t52_loop.trips) : Fin 3 → Nat :=
  let c0_i32_578 : BitVec 32 := 0#32
  let v281 : Index := Scalar.indexCast c0_i32_578
  let c6_i32_579 : BitVec 32 := 6#32
  let v282 : Index := Scalar.indexCast c6_i32_579
  let c0_i32_517 : BitVec 32 := 0#32
  let c0_i32_356 : BitVec 32 := 0#32
  let c1_i32_358 : BitVec 32 := 1#32
  let arg14 : BitVec 32 := Scf.iv c0_i32_356 c1_i32_358 k0_t52
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![0, 6, v283.toNat]
def k0_off270 (k0_t52 : Fin k0_t52_loop.trips) : Fin 3 → Nat :=
  let c0_i32_583 : BitVec 32 := 0#32
  let v287 : Index := Scalar.indexCast c0_i32_583
  let c7_i32_584 : BitVec 32 := 7#32
  let v288 : Index := Scalar.indexCast c7_i32_584
  let c0_i32_517 : BitVec 32 := 0#32
  let c0_i32_356 : BitVec 32 := 0#32
  let c1_i32_358 : BitVec 32 := 1#32
  let arg14 : BitVec 32 := Scf.iv c0_i32_356 c1_i32_358 k0_t52
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![0, 7, v289.toNat]
@[reducible] def k0_t53_loop : Scf.Loop 32 :=
  let c0_i32_362 : BitVec 32 := 0#32
  let c8_i32_363 : BitVec 32 := 8#32
  let v167 : BitVec 32 := Scalar.addi c0_i32_362 c8_i32_363
  let c1_i32_364 : BitVec 32 := 1#32
  ⟨c0_i32_362, v167, c1_i32_364⟩
def k0_off271 (k0_t53 : Fin k0_t53_loop.trips) : Fin 1 → Nat :=
  let c128_i32_518 : BitVec 32 := 128#32
  let c0_i32_517 : BitVec 32 := 0#32
  let c0_i32_362 : BitVec 32 := 0#32
  let c1_i32_364 : BitVec 32 := 1#32
  let arg14 : BitVec 32 := Scf.iv c0_i32_362 c1_i32_364 k0_t53
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c128_i32_518 v205
  let v209 : Index := Scalar.indexCast v208
  ![v209.toNat]

def k0_chk234 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx234_inb : ∀ (k0_t26 : Fin k0_t26_loop.trips) (v207 : IVec S16 32) (v210 : IVec S16 32) (v211 : IVec S16 32) (k0_hw234 : k0_chk234 k0_t26 v207 v210 v211), ∀ (k0_h3 : k0_cond3 k0_t26 = 1#1), ∀ a x, ((![v210, v211, v207] : Fin 3 → IVec S16 32) a x).toNat < S25x8x128.size a := fun k0_t26 v207 v210 v211 k0_hw234 k0_h3 => k0_hw234 k0_h3

def k0_chk235 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx235_inb : ∀ (k0_t26 : Fin k0_t26_loop.trips) (v207 : IVec S16 32) (v210 : IVec S16 32) (v215 : IVec S16 32) (k0_hw235 : k0_chk235 k0_t26 v207 v210 v215), ∀ (k0_h3 : k0_cond3 k0_t26 = 1#1), ∀ a x, ((![v210, v215, v207] : Fin 3 → IVec S16 32) a x).toNat < S25x8x128.size a := fun k0_t26 v207 v210 v215 k0_hw235 k0_h3 => k0_hw235 k0_h3

def k0_chk236 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx236_inb : ∀ (k0_t26 : Fin k0_t26_loop.trips) (v207 : IVec S16 32) (v210 : IVec S16 32) (v219 : IVec S16 32) (k0_hw236 : k0_chk236 k0_t26 v207 v210 v219), ∀ (k0_h3 : k0_cond3 k0_t26 = 1#1), ∀ a x, ((![v210, v219, v207] : Fin 3 → IVec S16 32) a x).toNat < S25x8x128.size a := fun k0_t26 v207 v210 v219 k0_hw236 k0_h3 => k0_hw236 k0_h3

def k0_chk237 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx237_inb : ∀ (k0_t26 : Fin k0_t26_loop.trips) (v207 : IVec S16 32) (v210 : IVec S16 32) (v223 : IVec S16 32) (k0_hw237 : k0_chk237 k0_t26 v207 v210 v223), ∀ (k0_h3 : k0_cond3 k0_t26 = 1#1), ∀ a x, ((![v210, v223, v207] : Fin 3 → IVec S16 32) a x).toNat < S25x8x128.size a := fun k0_t26 v207 v210 v223 k0_hw237 k0_h3 => k0_hw237 k0_h3

def k0_chk238 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx238_inb : ∀ (k0_t26 : Fin k0_t26_loop.trips) (v207 : IVec S16 32) (v210 : IVec S16 32) (v227 : IVec S16 32) (k0_hw238 : k0_chk238 k0_t26 v207 v210 v227), ∀ (k0_h3 : k0_cond3 k0_t26 = 1#1), ∀ a x, ((![v210, v227, v207] : Fin 3 → IVec S16 32) a x).toNat < S25x8x128.size a := fun k0_t26 v207 v210 v227 k0_hw238 k0_h3 => k0_hw238 k0_h3

def k0_chk239 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx239_inb : ∀ (k0_t26 : Fin k0_t26_loop.trips) (v207 : IVec S16 32) (v210 : IVec S16 32) (v231 : IVec S16 32) (k0_hw239 : k0_chk239 k0_t26 v207 v210 v231), ∀ (k0_h3 : k0_cond3 k0_t26 = 1#1), ∀ a x, ((![v210, v231, v207] : Fin 3 → IVec S16 32) a x).toNat < S25x8x128.size a := fun k0_t26 v207 v210 v231 k0_hw239 k0_h3 => k0_hw239 k0_h3

def k0_chk240 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx240_inb : ∀ (k0_t26 : Fin k0_t26_loop.trips) (v207 : IVec S16 32) (v210 : IVec S16 32) (v235 : IVec S16 32) (k0_hw240 : k0_chk240 k0_t26 v207 v210 v235), ∀ (k0_h3 : k0_cond3 k0_t26 = 1#1), ∀ a x, ((![v210, v235, v207] : Fin 3 → IVec S16 32) a x).toNat < S25x8x128.size a := fun k0_t26 v207 v210 v235 k0_hw240 k0_h3 => k0_hw240 k0_h3

def k0_chk241 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx241_inb : ∀ (k0_t26 : Fin k0_t26_loop.trips) (v207 : IVec S16 32) (v210 : IVec S16 32) (v239 : IVec S16 32) (k0_hw241 : k0_chk241 k0_t26 v207 v210 v239), ∀ (k0_h3 : k0_cond3 k0_t26 = 1#1), ∀ a x, ((![v210, v239, v207] : Fin 3 → IVec S16 32) a x).toNat < S25x8x128.size a := fun k0_t26 v207 v210 v239 k0_hw241 k0_h3 => k0_hw241 k0_h3
def k0_off272 (k0_t53 : Fin k0_t53_loop.trips) : Fin 3 → Nat :=
  let c1_i32_548 : BitVec 32 := 1#32
  let v245 : Index := Scalar.indexCast c1_i32_548
  let c0_i32_549 : BitVec 32 := 0#32
  let v246 : Index := Scalar.indexCast c0_i32_549
  let c0_i32_517 : BitVec 32 := 0#32
  let c0_i32_362 : BitVec 32 := 0#32
  let c1_i32_364 : BitVec 32 := 1#32
  let arg14 : BitVec 32 := Scf.iv c0_i32_362 c1_i32_364 k0_t53
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![1, 0, v247.toNat]
def k0_off273 (k0_t53 : Fin k0_t53_loop.trips) : Fin 3 → Nat :=
  let c1_i32_553 : BitVec 32 := 1#32
  let v251 : Index := Scalar.indexCast c1_i32_553
  let c1_i32_554 : BitVec 32 := 1#32
  let v252 : Index := Scalar.indexCast c1_i32_554
  let c0_i32_517 : BitVec 32 := 0#32
  let c0_i32_362 : BitVec 32 := 0#32
  let c1_i32_364 : BitVec 32 := 1#32
  let arg14 : BitVec 32 := Scf.iv c0_i32_362 c1_i32_364 k0_t53
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![1, 1, v253.toNat]
def k0_off274 (k0_t53 : Fin k0_t53_loop.trips) : Fin 3 → Nat :=
  let c1_i32_558 : BitVec 32 := 1#32
  let v257 : Index := Scalar.indexCast c1_i32_558
  let c2_i32_559 : BitVec 32 := 2#32
  let v258 : Index := Scalar.indexCast c2_i32_559
  let c0_i32_517 : BitVec 32 := 0#32
  let c0_i32_362 : BitVec 32 := 0#32
  let c1_i32_364 : BitVec 32 := 1#32
  let arg14 : BitVec 32 := Scf.iv c0_i32_362 c1_i32_364 k0_t53
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![1, 2, v259.toNat]
def k0_off275 (k0_t53 : Fin k0_t53_loop.trips) : Fin 3 → Nat :=
  let c1_i32_563 : BitVec 32 := 1#32
  let v263 : Index := Scalar.indexCast c1_i32_563
  let c3_i32_564 : BitVec 32 := 3#32
  let v264 : Index := Scalar.indexCast c3_i32_564
  let c0_i32_517 : BitVec 32 := 0#32
  let c0_i32_362 : BitVec 32 := 0#32
  let c1_i32_364 : BitVec 32 := 1#32
  let arg14 : BitVec 32 := Scf.iv c0_i32_362 c1_i32_364 k0_t53
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![1, 3, v265.toNat]
def k0_off276 (k0_t53 : Fin k0_t53_loop.trips) : Fin 3 → Nat :=
  let c1_i32_568 : BitVec 32 := 1#32
  let v269 : Index := Scalar.indexCast c1_i32_568
  let c4_i32_569 : BitVec 32 := 4#32
  let v270 : Index := Scalar.indexCast c4_i32_569
  let c0_i32_517 : BitVec 32 := 0#32
  let c0_i32_362 : BitVec 32 := 0#32
  let c1_i32_364 : BitVec 32 := 1#32
  let arg14 : BitVec 32 := Scf.iv c0_i32_362 c1_i32_364 k0_t53
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![1, 4, v271.toNat]
def k0_off277 (k0_t53 : Fin k0_t53_loop.trips) : Fin 3 → Nat :=
  let c1_i32_573 : BitVec 32 := 1#32
  let v275 : Index := Scalar.indexCast c1_i32_573
  let c5_i32_574 : BitVec 32 := 5#32
  let v276 : Index := Scalar.indexCast c5_i32_574
  let c0_i32_517 : BitVec 32 := 0#32
  let c0_i32_362 : BitVec 32 := 0#32
  let c1_i32_364 : BitVec 32 := 1#32
  let arg14 : BitVec 32 := Scf.iv c0_i32_362 c1_i32_364 k0_t53
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![1, 5, v277.toNat]
def k0_off278 (k0_t53 : Fin k0_t53_loop.trips) : Fin 3 → Nat :=
  let c1_i32_578 : BitVec 32 := 1#32
  let v281 : Index := Scalar.indexCast c1_i32_578
  let c6_i32_579 : BitVec 32 := 6#32
  let v282 : Index := Scalar.indexCast c6_i32_579
  let c0_i32_517 : BitVec 32 := 0#32
  let c0_i32_362 : BitVec 32 := 0#32
  let c1_i32_364 : BitVec 32 := 1#32
  let arg14 : BitVec 32 := Scf.iv c0_i32_362 c1_i32_364 k0_t53
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![1, 6, v283.toNat]
def k0_off279 (k0_t53 : Fin k0_t53_loop.trips) : Fin 3 → Nat :=
  let c1_i32_583 : BitVec 32 := 1#32
  let v287 : Index := Scalar.indexCast c1_i32_583
  let c7_i32_584 : BitVec 32 := 7#32
  let v288 : Index := Scalar.indexCast c7_i32_584
  let c0_i32_517 : BitVec 32 := 0#32
  let c0_i32_362 : BitVec 32 := 0#32
  let c1_i32_364 : BitVec 32 := 1#32
  let arg14 : BitVec 32 := Scf.iv c0_i32_362 c1_i32_364 k0_t53
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![1, 7, v289.toNat]
@[reducible] def k0_t54_loop : Scf.Loop 32 :=
  let c0_i32_368 : BitVec 32 := 0#32
  let c8_i32_369 : BitVec 32 := 8#32
  let v168 : BitVec 32 := Scalar.addi c0_i32_368 c8_i32_369
  let c1_i32_370 : BitVec 32 := 1#32
  ⟨c0_i32_368, v168, c1_i32_370⟩
def k0_off280 (k0_t54 : Fin k0_t54_loop.trips) : Fin 1 → Nat :=
  let c256_i32_518 : BitVec 32 := 256#32
  let c0_i32_517 : BitVec 32 := 0#32
  let c0_i32_368 : BitVec 32 := 0#32
  let c1_i32_370 : BitVec 32 := 1#32
  let arg14 : BitVec 32 := Scf.iv c0_i32_368 c1_i32_370 k0_t54
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c256_i32_518 v205
  let v209 : Index := Scalar.indexCast v208
  ![v209.toNat]

def k0_chk242 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx242_inb : ∀ (k0_t26 : Fin k0_t26_loop.trips) (v207 : IVec S16 32) (v210 : IVec S16 32) (v211 : IVec S16 32) (k0_hw242 : k0_chk242 k0_t26 v207 v210 v211), ∀ (k0_h3 : k0_cond3 k0_t26 = 1#1), ∀ a x, ((![v210, v211, v207] : Fin 3 → IVec S16 32) a x).toNat < S25x8x128.size a := fun k0_t26 v207 v210 v211 k0_hw242 k0_h3 => k0_hw242 k0_h3

def k0_chk243 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx243_inb : ∀ (k0_t26 : Fin k0_t26_loop.trips) (v207 : IVec S16 32) (v210 : IVec S16 32) (v215 : IVec S16 32) (k0_hw243 : k0_chk243 k0_t26 v207 v210 v215), ∀ (k0_h3 : k0_cond3 k0_t26 = 1#1), ∀ a x, ((![v210, v215, v207] : Fin 3 → IVec S16 32) a x).toNat < S25x8x128.size a := fun k0_t26 v207 v210 v215 k0_hw243 k0_h3 => k0_hw243 k0_h3

def k0_chk244 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx244_inb : ∀ (k0_t26 : Fin k0_t26_loop.trips) (v207 : IVec S16 32) (v210 : IVec S16 32) (v219 : IVec S16 32) (k0_hw244 : k0_chk244 k0_t26 v207 v210 v219), ∀ (k0_h3 : k0_cond3 k0_t26 = 1#1), ∀ a x, ((![v210, v219, v207] : Fin 3 → IVec S16 32) a x).toNat < S25x8x128.size a := fun k0_t26 v207 v210 v219 k0_hw244 k0_h3 => k0_hw244 k0_h3

def k0_chk245 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx245_inb : ∀ (k0_t26 : Fin k0_t26_loop.trips) (v207 : IVec S16 32) (v210 : IVec S16 32) (v223 : IVec S16 32) (k0_hw245 : k0_chk245 k0_t26 v207 v210 v223), ∀ (k0_h3 : k0_cond3 k0_t26 = 1#1), ∀ a x, ((![v210, v223, v207] : Fin 3 → IVec S16 32) a x).toNat < S25x8x128.size a := fun k0_t26 v207 v210 v223 k0_hw245 k0_h3 => k0_hw245 k0_h3

def k0_chk246 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx246_inb : ∀ (k0_t26 : Fin k0_t26_loop.trips) (v207 : IVec S16 32) (v210 : IVec S16 32) (v227 : IVec S16 32) (k0_hw246 : k0_chk246 k0_t26 v207 v210 v227), ∀ (k0_h3 : k0_cond3 k0_t26 = 1#1), ∀ a x, ((![v210, v227, v207] : Fin 3 → IVec S16 32) a x).toNat < S25x8x128.size a := fun k0_t26 v207 v210 v227 k0_hw246 k0_h3 => k0_hw246 k0_h3

def k0_chk247 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx247_inb : ∀ (k0_t26 : Fin k0_t26_loop.trips) (v207 : IVec S16 32) (v210 : IVec S16 32) (v231 : IVec S16 32) (k0_hw247 : k0_chk247 k0_t26 v207 v210 v231), ∀ (k0_h3 : k0_cond3 k0_t26 = 1#1), ∀ a x, ((![v210, v231, v207] : Fin 3 → IVec S16 32) a x).toNat < S25x8x128.size a := fun k0_t26 v207 v210 v231 k0_hw247 k0_h3 => k0_hw247 k0_h3

def k0_chk248 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx248_inb : ∀ (k0_t26 : Fin k0_t26_loop.trips) (v207 : IVec S16 32) (v210 : IVec S16 32) (v235 : IVec S16 32) (k0_hw248 : k0_chk248 k0_t26 v207 v210 v235), ∀ (k0_h3 : k0_cond3 k0_t26 = 1#1), ∀ a x, ((![v210, v235, v207] : Fin 3 → IVec S16 32) a x).toNat < S25x8x128.size a := fun k0_t26 v207 v210 v235 k0_hw248 k0_h3 => k0_hw248 k0_h3

def k0_chk249 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx249_inb : ∀ (k0_t26 : Fin k0_t26_loop.trips) (v207 : IVec S16 32) (v210 : IVec S16 32) (v239 : IVec S16 32) (k0_hw249 : k0_chk249 k0_t26 v207 v210 v239), ∀ (k0_h3 : k0_cond3 k0_t26 = 1#1), ∀ a x, ((![v210, v239, v207] : Fin 3 → IVec S16 32) a x).toNat < S25x8x128.size a := fun k0_t26 v207 v210 v239 k0_hw249 k0_h3 => k0_hw249 k0_h3
def k0_off281 (k0_t54 : Fin k0_t54_loop.trips) : Fin 3 → Nat :=
  let c2_i32_548 : BitVec 32 := 2#32
  let v245 : Index := Scalar.indexCast c2_i32_548
  let c0_i32_549 : BitVec 32 := 0#32
  let v246 : Index := Scalar.indexCast c0_i32_549
  let c0_i32_517 : BitVec 32 := 0#32
  let c0_i32_368 : BitVec 32 := 0#32
  let c1_i32_370 : BitVec 32 := 1#32
  let arg14 : BitVec 32 := Scf.iv c0_i32_368 c1_i32_370 k0_t54
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![2, 0, v247.toNat]
def k0_off282 (k0_t54 : Fin k0_t54_loop.trips) : Fin 3 → Nat :=
  let c2_i32_553 : BitVec 32 := 2#32
  let v251 : Index := Scalar.indexCast c2_i32_553
  let c1_i32_554 : BitVec 32 := 1#32
  let v252 : Index := Scalar.indexCast c1_i32_554
  let c0_i32_517 : BitVec 32 := 0#32
  let c0_i32_368 : BitVec 32 := 0#32
  let c1_i32_370 : BitVec 32 := 1#32
  let arg14 : BitVec 32 := Scf.iv c0_i32_368 c1_i32_370 k0_t54
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![2, 1, v253.toNat]
def k0_off283 (k0_t54 : Fin k0_t54_loop.trips) : Fin 3 → Nat :=
  let c2_i32_558 : BitVec 32 := 2#32
  let v257 : Index := Scalar.indexCast c2_i32_558
  let c2_i32_559 : BitVec 32 := 2#32
  let v258 : Index := Scalar.indexCast c2_i32_559
  let c0_i32_517 : BitVec 32 := 0#32
  let c0_i32_368 : BitVec 32 := 0#32
  let c1_i32_370 : BitVec 32 := 1#32
  let arg14 : BitVec 32 := Scf.iv c0_i32_368 c1_i32_370 k0_t54
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![2, 2, v259.toNat]
def k0_off284 (k0_t54 : Fin k0_t54_loop.trips) : Fin 3 → Nat :=
  let c2_i32_563 : BitVec 32 := 2#32
  let v263 : Index := Scalar.indexCast c2_i32_563
  let c3_i32_564 : BitVec 32 := 3#32
  let v264 : Index := Scalar.indexCast c3_i32_564
  let c0_i32_517 : BitVec 32 := 0#32
  let c0_i32_368 : BitVec 32 := 0#32
  let c1_i32_370 : BitVec 32 := 1#32
  let arg14 : BitVec 32 := Scf.iv c0_i32_368 c1_i32_370 k0_t54
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![2, 3, v265.toNat]
def k0_off285 (k0_t54 : Fin k0_t54_loop.trips) : Fin 3 → Nat :=
  let c2_i32_568 : BitVec 32 := 2#32
  let v269 : Index := Scalar.indexCast c2_i32_568
  let c4_i32_569 : BitVec 32 := 4#32
  let v270 : Index := Scalar.indexCast c4_i32_569
  let c0_i32_517 : BitVec 32 := 0#32
  let c0_i32_368 : BitVec 32 := 0#32
  let c1_i32_370 : BitVec 32 := 1#32
  let arg14 : BitVec 32 := Scf.iv c0_i32_368 c1_i32_370 k0_t54
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![2, 4, v271.toNat]
def k0_off286 (k0_t54 : Fin k0_t54_loop.trips) : Fin 3 → Nat :=
  let c2_i32_573 : BitVec 32 := 2#32
  let v275 : Index := Scalar.indexCast c2_i32_573
  let c5_i32_574 : BitVec 32 := 5#32
  let v276 : Index := Scalar.indexCast c5_i32_574
  let c0_i32_517 : BitVec 32 := 0#32
  let c0_i32_368 : BitVec 32 := 0#32
  let c1_i32_370 : BitVec 32 := 1#32
  let arg14 : BitVec 32 := Scf.iv c0_i32_368 c1_i32_370 k0_t54
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![2, 5, v277.toNat]
def k0_off287 (k0_t54 : Fin k0_t54_loop.trips) : Fin 3 → Nat :=
  let c2_i32_578 : BitVec 32 := 2#32
  let v281 : Index := Scalar.indexCast c2_i32_578
  let c6_i32_579 : BitVec 32 := 6#32
  let v282 : Index := Scalar.indexCast c6_i32_579
  let c0_i32_517 : BitVec 32 := 0#32
  let c0_i32_368 : BitVec 32 := 0#32
  let c1_i32_370 : BitVec 32 := 1#32
  let arg14 : BitVec 32 := Scf.iv c0_i32_368 c1_i32_370 k0_t54
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![2, 6, v283.toNat]
def k0_off288 (k0_t54 : Fin k0_t54_loop.trips) : Fin 3 → Nat :=
  let c2_i32_583 : BitVec 32 := 2#32
  let v287 : Index := Scalar.indexCast c2_i32_583
  let c7_i32_584 : BitVec 32 := 7#32
  let v288 : Index := Scalar.indexCast c7_i32_584
  let c0_i32_517 : BitVec 32 := 0#32
  let c0_i32_368 : BitVec 32 := 0#32
  let c1_i32_370 : BitVec 32 := 1#32
  let arg14 : BitVec 32 := Scf.iv c0_i32_368 c1_i32_370 k0_t54
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![2, 7, v289.toNat]
@[reducible] def k0_t55_loop : Scf.Loop 32 :=
  let c0_i32_374 : BitVec 32 := 0#32
  let c8_i32_375 : BitVec 32 := 8#32
  let v169 : BitVec 32 := Scalar.addi c0_i32_374 c8_i32_375
  let c1_i32_376 : BitVec 32 := 1#32
  ⟨c0_i32_374, v169, c1_i32_376⟩
def k0_off289 (k0_t55 : Fin k0_t55_loop.trips) : Fin 1 → Nat :=
  let c384_i32_518 : BitVec 32 := 384#32
  let c0_i32_517 : BitVec 32 := 0#32
  let c0_i32_374 : BitVec 32 := 0#32
  let c1_i32_376 : BitVec 32 := 1#32
  let arg14 : BitVec 32 := Scf.iv c0_i32_374 c1_i32_376 k0_t55
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c384_i32_518 v205
  let v209 : Index := Scalar.indexCast v208
  ![v209.toNat]

def k0_chk250 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx250_inb : ∀ (k0_t26 : Fin k0_t26_loop.trips) (v207 : IVec S16 32) (v210 : IVec S16 32) (v211 : IVec S16 32) (k0_hw250 : k0_chk250 k0_t26 v207 v210 v211), ∀ (k0_h3 : k0_cond3 k0_t26 = 1#1), ∀ a x, ((![v210, v211, v207] : Fin 3 → IVec S16 32) a x).toNat < S25x8x128.size a := fun k0_t26 v207 v210 v211 k0_hw250 k0_h3 => k0_hw250 k0_h3

def k0_chk251 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx251_inb : ∀ (k0_t26 : Fin k0_t26_loop.trips) (v207 : IVec S16 32) (v210 : IVec S16 32) (v215 : IVec S16 32) (k0_hw251 : k0_chk251 k0_t26 v207 v210 v215), ∀ (k0_h3 : k0_cond3 k0_t26 = 1#1), ∀ a x, ((![v210, v215, v207] : Fin 3 → IVec S16 32) a x).toNat < S25x8x128.size a := fun k0_t26 v207 v210 v215 k0_hw251 k0_h3 => k0_hw251 k0_h3

def k0_chk252 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx252_inb : ∀ (k0_t26 : Fin k0_t26_loop.trips) (v207 : IVec S16 32) (v210 : IVec S16 32) (v219 : IVec S16 32) (k0_hw252 : k0_chk252 k0_t26 v207 v210 v219), ∀ (k0_h3 : k0_cond3 k0_t26 = 1#1), ∀ a x, ((![v210, v219, v207] : Fin 3 → IVec S16 32) a x).toNat < S25x8x128.size a := fun k0_t26 v207 v210 v219 k0_hw252 k0_h3 => k0_hw252 k0_h3

def k0_chk253 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx253_inb : ∀ (k0_t26 : Fin k0_t26_loop.trips) (v207 : IVec S16 32) (v210 : IVec S16 32) (v223 : IVec S16 32) (k0_hw253 : k0_chk253 k0_t26 v207 v210 v223), ∀ (k0_h3 : k0_cond3 k0_t26 = 1#1), ∀ a x, ((![v210, v223, v207] : Fin 3 → IVec S16 32) a x).toNat < S25x8x128.size a := fun k0_t26 v207 v210 v223 k0_hw253 k0_h3 => k0_hw253 k0_h3

def k0_chk254 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx254_inb : ∀ (k0_t26 : Fin k0_t26_loop.trips) (v207 : IVec S16 32) (v210 : IVec S16 32) (v227 : IVec S16 32) (k0_hw254 : k0_chk254 k0_t26 v207 v210 v227), ∀ (k0_h3 : k0_cond3 k0_t26 = 1#1), ∀ a x, ((![v210, v227, v207] : Fin 3 → IVec S16 32) a x).toNat < S25x8x128.size a := fun k0_t26 v207 v210 v227 k0_hw254 k0_h3 => k0_hw254 k0_h3

def k0_chk255 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx255_inb : ∀ (k0_t26 : Fin k0_t26_loop.trips) (v207 : IVec S16 32) (v210 : IVec S16 32) (v231 : IVec S16 32) (k0_hw255 : k0_chk255 k0_t26 v207 v210 v231), ∀ (k0_h3 : k0_cond3 k0_t26 = 1#1), ∀ a x, ((![v210, v231, v207] : Fin 3 → IVec S16 32) a x).toNat < S25x8x128.size a := fun k0_t26 v207 v210 v231 k0_hw255 k0_h3 => k0_hw255 k0_h3

def k0_chk256 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx256_inb : ∀ (k0_t26 : Fin k0_t26_loop.trips) (v207 : IVec S16 32) (v210 : IVec S16 32) (v235 : IVec S16 32) (k0_hw256 : k0_chk256 k0_t26 v207 v210 v235), ∀ (k0_h3 : k0_cond3 k0_t26 = 1#1), ∀ a x, ((![v210, v235, v207] : Fin 3 → IVec S16 32) a x).toNat < S25x8x128.size a := fun k0_t26 v207 v210 v235 k0_hw256 k0_h3 => k0_hw256 k0_h3

def k0_chk257 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx257_inb : ∀ (k0_t26 : Fin k0_t26_loop.trips) (v207 : IVec S16 32) (v210 : IVec S16 32) (v239 : IVec S16 32) (k0_hw257 : k0_chk257 k0_t26 v207 v210 v239), ∀ (k0_h3 : k0_cond3 k0_t26 = 1#1), ∀ a x, ((![v210, v239, v207] : Fin 3 → IVec S16 32) a x).toNat < S25x8x128.size a := fun k0_t26 v207 v210 v239 k0_hw257 k0_h3 => k0_hw257 k0_h3
def k0_off290 (k0_t55 : Fin k0_t55_loop.trips) : Fin 3 → Nat :=
  let c3_i32_548 : BitVec 32 := 3#32
  let v245 : Index := Scalar.indexCast c3_i32_548
  let c0_i32_549 : BitVec 32 := 0#32
  let v246 : Index := Scalar.indexCast c0_i32_549
  let c0_i32_517 : BitVec 32 := 0#32
  let c0_i32_374 : BitVec 32 := 0#32
  let c1_i32_376 : BitVec 32 := 1#32
  let arg14 : BitVec 32 := Scf.iv c0_i32_374 c1_i32_376 k0_t55
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![3, 0, v247.toNat]
def k0_off291 (k0_t55 : Fin k0_t55_loop.trips) : Fin 3 → Nat :=
  let c3_i32_553 : BitVec 32 := 3#32
  let v251 : Index := Scalar.indexCast c3_i32_553
  let c1_i32_554 : BitVec 32 := 1#32
  let v252 : Index := Scalar.indexCast c1_i32_554
  let c0_i32_517 : BitVec 32 := 0#32
  let c0_i32_374 : BitVec 32 := 0#32
  let c1_i32_376 : BitVec 32 := 1#32
  let arg14 : BitVec 32 := Scf.iv c0_i32_374 c1_i32_376 k0_t55
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![3, 1, v253.toNat]
def k0_off292 (k0_t55 : Fin k0_t55_loop.trips) : Fin 3 → Nat :=
  let c3_i32_558 : BitVec 32 := 3#32
  let v257 : Index := Scalar.indexCast c3_i32_558
  let c2_i32_559 : BitVec 32 := 2#32
  let v258 : Index := Scalar.indexCast c2_i32_559
  let c0_i32_517 : BitVec 32 := 0#32
  let c0_i32_374 : BitVec 32 := 0#32
  let c1_i32_376 : BitVec 32 := 1#32
  let arg14 : BitVec 32 := Scf.iv c0_i32_374 c1_i32_376 k0_t55
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![3, 2, v259.toNat]
def k0_off293 (k0_t55 : Fin k0_t55_loop.trips) : Fin 3 → Nat :=
  let c3_i32_563 : BitVec 32 := 3#32
  let v263 : Index := Scalar.indexCast c3_i32_563
  let c3_i32_564 : BitVec 32 := 3#32
  let v264 : Index := Scalar.indexCast c3_i32_564
  let c0_i32_517 : BitVec 32 := 0#32
  let c0_i32_374 : BitVec 32 := 0#32
  let c1_i32_376 : BitVec 32 := 1#32
  let arg14 : BitVec 32 := Scf.iv c0_i32_374 c1_i32_376 k0_t55
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![3, 3, v265.toNat]
def k0_off294 (k0_t55 : Fin k0_t55_loop.trips) : Fin 3 → Nat :=
  let c3_i32_568 : BitVec 32 := 3#32
  let v269 : Index := Scalar.indexCast c3_i32_568
  let c4_i32_569 : BitVec 32 := 4#32
  let v270 : Index := Scalar.indexCast c4_i32_569
  let c0_i32_517 : BitVec 32 := 0#32
  let c0_i32_374 : BitVec 32 := 0#32
  let c1_i32_376 : BitVec 32 := 1#32
  let arg14 : BitVec 32 := Scf.iv c0_i32_374 c1_i32_376 k0_t55
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![3, 4, v271.toNat]
def k0_off295 (k0_t55 : Fin k0_t55_loop.trips) : Fin 3 → Nat :=
  let c3_i32_573 : BitVec 32 := 3#32
  let v275 : Index := Scalar.indexCast c3_i32_573
  let c5_i32_574 : BitVec 32 := 5#32
  let v276 : Index := Scalar.indexCast c5_i32_574
  let c0_i32_517 : BitVec 32 := 0#32
  let c0_i32_374 : BitVec 32 := 0#32
  let c1_i32_376 : BitVec 32 := 1#32
  let arg14 : BitVec 32 := Scf.iv c0_i32_374 c1_i32_376 k0_t55
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![3, 5, v277.toNat]
def k0_off296 (k0_t55 : Fin k0_t55_loop.trips) : Fin 3 → Nat :=
  let c3_i32_578 : BitVec 32 := 3#32
  let v281 : Index := Scalar.indexCast c3_i32_578
  let c6_i32_579 : BitVec 32 := 6#32
  let v282 : Index := Scalar.indexCast c6_i32_579
  let c0_i32_517 : BitVec 32 := 0#32
  let c0_i32_374 : BitVec 32 := 0#32
  let c1_i32_376 : BitVec 32 := 1#32
  let arg14 : BitVec 32 := Scf.iv c0_i32_374 c1_i32_376 k0_t55
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![3, 6, v283.toNat]
def k0_off297 (k0_t55 : Fin k0_t55_loop.trips) : Fin 3 → Nat :=
  let c3_i32_583 : BitVec 32 := 3#32
  let v287 : Index := Scalar.indexCast c3_i32_583
  let c7_i32_584 : BitVec 32 := 7#32
  let v288 : Index := Scalar.indexCast c7_i32_584
  let c0_i32_517 : BitVec 32 := 0#32
  let c0_i32_374 : BitVec 32 := 0#32
  let c1_i32_376 : BitVec 32 := 1#32
  let arg14 : BitVec 32 := Scf.iv c0_i32_374 c1_i32_376 k0_t55
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![3, 7, v289.toNat]
@[reducible] def k0_t56_loop : Scf.Loop 32 :=
  let c0_i32_380 : BitVec 32 := 0#32
  let c8_i32_381 : BitVec 32 := 8#32
  let v170 : BitVec 32 := Scalar.addi c0_i32_380 c8_i32_381
  let c1_i32_382 : BitVec 32 := 1#32
  ⟨c0_i32_380, v170, c1_i32_382⟩
def k0_off298 (k0_t56 : Fin k0_t56_loop.trips) : Fin 1 → Nat :=
  let c512_i32_518 : BitVec 32 := 512#32
  let c0_i32_517 : BitVec 32 := 0#32
  let c0_i32_380 : BitVec 32 := 0#32
  let c1_i32_382 : BitVec 32 := 1#32
  let arg14 : BitVec 32 := Scf.iv c0_i32_380 c1_i32_382 k0_t56
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c512_i32_518 v205
  let v209 : Index := Scalar.indexCast v208
  ![v209.toNat]

def k0_chk258 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx258_inb : ∀ (k0_t26 : Fin k0_t26_loop.trips) (v207 : IVec S16 32) (v210 : IVec S16 32) (v211 : IVec S16 32) (k0_hw258 : k0_chk258 k0_t26 v207 v210 v211), ∀ (k0_h3 : k0_cond3 k0_t26 = 1#1), ∀ a x, ((![v210, v211, v207] : Fin 3 → IVec S16 32) a x).toNat < S25x8x128.size a := fun k0_t26 v207 v210 v211 k0_hw258 k0_h3 => k0_hw258 k0_h3

def k0_chk259 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx259_inb : ∀ (k0_t26 : Fin k0_t26_loop.trips) (v207 : IVec S16 32) (v210 : IVec S16 32) (v215 : IVec S16 32) (k0_hw259 : k0_chk259 k0_t26 v207 v210 v215), ∀ (k0_h3 : k0_cond3 k0_t26 = 1#1), ∀ a x, ((![v210, v215, v207] : Fin 3 → IVec S16 32) a x).toNat < S25x8x128.size a := fun k0_t26 v207 v210 v215 k0_hw259 k0_h3 => k0_hw259 k0_h3

def k0_chk260 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx260_inb : ∀ (k0_t26 : Fin k0_t26_loop.trips) (v207 : IVec S16 32) (v210 : IVec S16 32) (v219 : IVec S16 32) (k0_hw260 : k0_chk260 k0_t26 v207 v210 v219), ∀ (k0_h3 : k0_cond3 k0_t26 = 1#1), ∀ a x, ((![v210, v219, v207] : Fin 3 → IVec S16 32) a x).toNat < S25x8x128.size a := fun k0_t26 v207 v210 v219 k0_hw260 k0_h3 => k0_hw260 k0_h3

def k0_chk261 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx261_inb : ∀ (k0_t26 : Fin k0_t26_loop.trips) (v207 : IVec S16 32) (v210 : IVec S16 32) (v223 : IVec S16 32) (k0_hw261 : k0_chk261 k0_t26 v207 v210 v223), ∀ (k0_h3 : k0_cond3 k0_t26 = 1#1), ∀ a x, ((![v210, v223, v207] : Fin 3 → IVec S16 32) a x).toNat < S25x8x128.size a := fun k0_t26 v207 v210 v223 k0_hw261 k0_h3 => k0_hw261 k0_h3

def k0_chk262 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx262_inb : ∀ (k0_t26 : Fin k0_t26_loop.trips) (v207 : IVec S16 32) (v210 : IVec S16 32) (v227 : IVec S16 32) (k0_hw262 : k0_chk262 k0_t26 v207 v210 v227), ∀ (k0_h3 : k0_cond3 k0_t26 = 1#1), ∀ a x, ((![v210, v227, v207] : Fin 3 → IVec S16 32) a x).toNat < S25x8x128.size a := fun k0_t26 v207 v210 v227 k0_hw262 k0_h3 => k0_hw262 k0_h3

def k0_chk263 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx263_inb : ∀ (k0_t26 : Fin k0_t26_loop.trips) (v207 : IVec S16 32) (v210 : IVec S16 32) (v231 : IVec S16 32) (k0_hw263 : k0_chk263 k0_t26 v207 v210 v231), ∀ (k0_h3 : k0_cond3 k0_t26 = 1#1), ∀ a x, ((![v210, v231, v207] : Fin 3 → IVec S16 32) a x).toNat < S25x8x128.size a := fun k0_t26 v207 v210 v231 k0_hw263 k0_h3 => k0_hw263 k0_h3

def k0_chk264 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx264_inb : ∀ (k0_t26 : Fin k0_t26_loop.trips) (v207 : IVec S16 32) (v210 : IVec S16 32) (v235 : IVec S16 32) (k0_hw264 : k0_chk264 k0_t26 v207 v210 v235), ∀ (k0_h3 : k0_cond3 k0_t26 = 1#1), ∀ a x, ((![v210, v235, v207] : Fin 3 → IVec S16 32) a x).toNat < S25x8x128.size a := fun k0_t26 v207 v210 v235 k0_hw264 k0_h3 => k0_hw264 k0_h3

def k0_chk265 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx265_inb : ∀ (k0_t26 : Fin k0_t26_loop.trips) (v207 : IVec S16 32) (v210 : IVec S16 32) (v239 : IVec S16 32) (k0_hw265 : k0_chk265 k0_t26 v207 v210 v239), ∀ (k0_h3 : k0_cond3 k0_t26 = 1#1), ∀ a x, ((![v210, v239, v207] : Fin 3 → IVec S16 32) a x).toNat < S25x8x128.size a := fun k0_t26 v207 v210 v239 k0_hw265 k0_h3 => k0_hw265 k0_h3
def k0_off299 (k0_t56 : Fin k0_t56_loop.trips) : Fin 3 → Nat :=
  let c4_i32_548 : BitVec 32 := 4#32
  let v245 : Index := Scalar.indexCast c4_i32_548
  let c0_i32_549 : BitVec 32 := 0#32
  let v246 : Index := Scalar.indexCast c0_i32_549
  let c0_i32_517 : BitVec 32 := 0#32
  let c0_i32_380 : BitVec 32 := 0#32
  let c1_i32_382 : BitVec 32 := 1#32
  let arg14 : BitVec 32 := Scf.iv c0_i32_380 c1_i32_382 k0_t56
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![4, 0, v247.toNat]
def k0_off300 (k0_t56 : Fin k0_t56_loop.trips) : Fin 3 → Nat :=
  let c4_i32_553 : BitVec 32 := 4#32
  let v251 : Index := Scalar.indexCast c4_i32_553
  let c1_i32_554 : BitVec 32 := 1#32
  let v252 : Index := Scalar.indexCast c1_i32_554
  let c0_i32_517 : BitVec 32 := 0#32
  let c0_i32_380 : BitVec 32 := 0#32
  let c1_i32_382 : BitVec 32 := 1#32
  let arg14 : BitVec 32 := Scf.iv c0_i32_380 c1_i32_382 k0_t56
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![4, 1, v253.toNat]
def k0_off301 (k0_t56 : Fin k0_t56_loop.trips) : Fin 3 → Nat :=
  let c4_i32_558 : BitVec 32 := 4#32
  let v257 : Index := Scalar.indexCast c4_i32_558
  let c2_i32_559 : BitVec 32 := 2#32
  let v258 : Index := Scalar.indexCast c2_i32_559
  let c0_i32_517 : BitVec 32 := 0#32
  let c0_i32_380 : BitVec 32 := 0#32
  let c1_i32_382 : BitVec 32 := 1#32
  let arg14 : BitVec 32 := Scf.iv c0_i32_380 c1_i32_382 k0_t56
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![4, 2, v259.toNat]
def k0_off302 (k0_t56 : Fin k0_t56_loop.trips) : Fin 3 → Nat :=
  let c4_i32_563 : BitVec 32 := 4#32
  let v263 : Index := Scalar.indexCast c4_i32_563
  let c3_i32_564 : BitVec 32 := 3#32
  let v264 : Index := Scalar.indexCast c3_i32_564
  let c0_i32_517 : BitVec 32 := 0#32
  let c0_i32_380 : BitVec 32 := 0#32
  let c1_i32_382 : BitVec 32 := 1#32
  let arg14 : BitVec 32 := Scf.iv c0_i32_380 c1_i32_382 k0_t56
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![4, 3, v265.toNat]
def k0_off303 (k0_t56 : Fin k0_t56_loop.trips) : Fin 3 → Nat :=
  let c4_i32_568 : BitVec 32 := 4#32
  let v269 : Index := Scalar.indexCast c4_i32_568
  let c4_i32_569 : BitVec 32 := 4#32
  let v270 : Index := Scalar.indexCast c4_i32_569
  let c0_i32_517 : BitVec 32 := 0#32
  let c0_i32_380 : BitVec 32 := 0#32
  let c1_i32_382 : BitVec 32 := 1#32
  let arg14 : BitVec 32 := Scf.iv c0_i32_380 c1_i32_382 k0_t56
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![4, 4, v271.toNat]
def k0_off304 (k0_t56 : Fin k0_t56_loop.trips) : Fin 3 → Nat :=
  let c4_i32_573 : BitVec 32 := 4#32
  let v275 : Index := Scalar.indexCast c4_i32_573
  let c5_i32_574 : BitVec 32 := 5#32
  let v276 : Index := Scalar.indexCast c5_i32_574
  let c0_i32_517 : BitVec 32 := 0#32
  let c0_i32_380 : BitVec 32 := 0#32
  let c1_i32_382 : BitVec 32 := 1#32
  let arg14 : BitVec 32 := Scf.iv c0_i32_380 c1_i32_382 k0_t56
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![4, 5, v277.toNat]
def k0_off305 (k0_t56 : Fin k0_t56_loop.trips) : Fin 3 → Nat :=
  let c4_i32_578 : BitVec 32 := 4#32
  let v281 : Index := Scalar.indexCast c4_i32_578
  let c6_i32_579 : BitVec 32 := 6#32
  let v282 : Index := Scalar.indexCast c6_i32_579
  let c0_i32_517 : BitVec 32 := 0#32
  let c0_i32_380 : BitVec 32 := 0#32
  let c1_i32_382 : BitVec 32 := 1#32
  let arg14 : BitVec 32 := Scf.iv c0_i32_380 c1_i32_382 k0_t56
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![4, 6, v283.toNat]
def k0_off306 (k0_t56 : Fin k0_t56_loop.trips) : Fin 3 → Nat :=
  let c4_i32_583 : BitVec 32 := 4#32
  let v287 : Index := Scalar.indexCast c4_i32_583
  let c7_i32_584 : BitVec 32 := 7#32
  let v288 : Index := Scalar.indexCast c7_i32_584
  let c0_i32_517 : BitVec 32 := 0#32
  let c0_i32_380 : BitVec 32 := 0#32
  let c1_i32_382 : BitVec 32 := 1#32
  let arg14 : BitVec 32 := Scf.iv c0_i32_380 c1_i32_382 k0_t56
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![4, 7, v289.toNat]
@[reducible] def k0_t57_loop : Scf.Loop 32 :=
  let c0_i32_386 : BitVec 32 := 0#32
  let c8_i32_387 : BitVec 32 := 8#32
  let v171 : BitVec 32 := Scalar.addi c0_i32_386 c8_i32_387
  let c1_i32_388 : BitVec 32 := 1#32
  ⟨c0_i32_386, v171, c1_i32_388⟩
def k0_off307 (k0_t57 : Fin k0_t57_loop.trips) : Fin 1 → Nat :=
  let c640_i32_518 : BitVec 32 := 640#32
  let c0_i32_517 : BitVec 32 := 0#32
  let c0_i32_386 : BitVec 32 := 0#32
  let c1_i32_388 : BitVec 32 := 1#32
  let arg14 : BitVec 32 := Scf.iv c0_i32_386 c1_i32_388 k0_t57
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c640_i32_518 v205
  let v209 : Index := Scalar.indexCast v208
  ![v209.toNat]

def k0_chk266 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx266_inb : ∀ (k0_t26 : Fin k0_t26_loop.trips) (v207 : IVec S16 32) (v210 : IVec S16 32) (v211 : IVec S16 32) (k0_hw266 : k0_chk266 k0_t26 v207 v210 v211), ∀ (k0_h3 : k0_cond3 k0_t26 = 1#1), ∀ a x, ((![v210, v211, v207] : Fin 3 → IVec S16 32) a x).toNat < S25x8x128.size a := fun k0_t26 v207 v210 v211 k0_hw266 k0_h3 => k0_hw266 k0_h3

def k0_chk267 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx267_inb : ∀ (k0_t26 : Fin k0_t26_loop.trips) (v207 : IVec S16 32) (v210 : IVec S16 32) (v215 : IVec S16 32) (k0_hw267 : k0_chk267 k0_t26 v207 v210 v215), ∀ (k0_h3 : k0_cond3 k0_t26 = 1#1), ∀ a x, ((![v210, v215, v207] : Fin 3 → IVec S16 32) a x).toNat < S25x8x128.size a := fun k0_t26 v207 v210 v215 k0_hw267 k0_h3 => k0_hw267 k0_h3

def k0_chk268 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx268_inb : ∀ (k0_t26 : Fin k0_t26_loop.trips) (v207 : IVec S16 32) (v210 : IVec S16 32) (v219 : IVec S16 32) (k0_hw268 : k0_chk268 k0_t26 v207 v210 v219), ∀ (k0_h3 : k0_cond3 k0_t26 = 1#1), ∀ a x, ((![v210, v219, v207] : Fin 3 → IVec S16 32) a x).toNat < S25x8x128.size a := fun k0_t26 v207 v210 v219 k0_hw268 k0_h3 => k0_hw268 k0_h3

def k0_chk269 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx269_inb : ∀ (k0_t26 : Fin k0_t26_loop.trips) (v207 : IVec S16 32) (v210 : IVec S16 32) (v223 : IVec S16 32) (k0_hw269 : k0_chk269 k0_t26 v207 v210 v223), ∀ (k0_h3 : k0_cond3 k0_t26 = 1#1), ∀ a x, ((![v210, v223, v207] : Fin 3 → IVec S16 32) a x).toNat < S25x8x128.size a := fun k0_t26 v207 v210 v223 k0_hw269 k0_h3 => k0_hw269 k0_h3

def k0_chk270 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx270_inb : ∀ (k0_t26 : Fin k0_t26_loop.trips) (v207 : IVec S16 32) (v210 : IVec S16 32) (v227 : IVec S16 32) (k0_hw270 : k0_chk270 k0_t26 v207 v210 v227), ∀ (k0_h3 : k0_cond3 k0_t26 = 1#1), ∀ a x, ((![v210, v227, v207] : Fin 3 → IVec S16 32) a x).toNat < S25x8x128.size a := fun k0_t26 v207 v210 v227 k0_hw270 k0_h3 => k0_hw270 k0_h3

def k0_chk271 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx271_inb : ∀ (k0_t26 : Fin k0_t26_loop.trips) (v207 : IVec S16 32) (v210 : IVec S16 32) (v231 : IVec S16 32) (k0_hw271 : k0_chk271 k0_t26 v207 v210 v231), ∀ (k0_h3 : k0_cond3 k0_t26 = 1#1), ∀ a x, ((![v210, v231, v207] : Fin 3 → IVec S16 32) a x).toNat < S25x8x128.size a := fun k0_t26 v207 v210 v231 k0_hw271 k0_h3 => k0_hw271 k0_h3

def k0_chk272 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx272_inb : ∀ (k0_t26 : Fin k0_t26_loop.trips) (v207 : IVec S16 32) (v210 : IVec S16 32) (v235 : IVec S16 32) (k0_hw272 : k0_chk272 k0_t26 v207 v210 v235), ∀ (k0_h3 : k0_cond3 k0_t26 = 1#1), ∀ a x, ((![v210, v235, v207] : Fin 3 → IVec S16 32) a x).toNat < S25x8x128.size a := fun k0_t26 v207 v210 v235 k0_hw272 k0_h3 => k0_hw272 k0_h3

def k0_chk273 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx273_inb : ∀ (k0_t26 : Fin k0_t26_loop.trips) (v207 : IVec S16 32) (v210 : IVec S16 32) (v239 : IVec S16 32) (k0_hw273 : k0_chk273 k0_t26 v207 v210 v239), ∀ (k0_h3 : k0_cond3 k0_t26 = 1#1), ∀ a x, ((![v210, v239, v207] : Fin 3 → IVec S16 32) a x).toNat < S25x8x128.size a := fun k0_t26 v207 v210 v239 k0_hw273 k0_h3 => k0_hw273 k0_h3
def k0_off308 (k0_t57 : Fin k0_t57_loop.trips) : Fin 3 → Nat :=
  let c5_i32_548 : BitVec 32 := 5#32
  let v245 : Index := Scalar.indexCast c5_i32_548
  let c0_i32_549 : BitVec 32 := 0#32
  let v246 : Index := Scalar.indexCast c0_i32_549
  let c0_i32_517 : BitVec 32 := 0#32
  let c0_i32_386 : BitVec 32 := 0#32
  let c1_i32_388 : BitVec 32 := 1#32
  let arg14 : BitVec 32 := Scf.iv c0_i32_386 c1_i32_388 k0_t57
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![5, 0, v247.toNat]
def k0_off309 (k0_t57 : Fin k0_t57_loop.trips) : Fin 3 → Nat :=
  let c5_i32_553 : BitVec 32 := 5#32
  let v251 : Index := Scalar.indexCast c5_i32_553
  let c1_i32_554 : BitVec 32 := 1#32
  let v252 : Index := Scalar.indexCast c1_i32_554
  let c0_i32_517 : BitVec 32 := 0#32
  let c0_i32_386 : BitVec 32 := 0#32
  let c1_i32_388 : BitVec 32 := 1#32
  let arg14 : BitVec 32 := Scf.iv c0_i32_386 c1_i32_388 k0_t57
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![5, 1, v253.toNat]
def k0_off310 (k0_t57 : Fin k0_t57_loop.trips) : Fin 3 → Nat :=
  let c5_i32_558 : BitVec 32 := 5#32
  let v257 : Index := Scalar.indexCast c5_i32_558
  let c2_i32_559 : BitVec 32 := 2#32
  let v258 : Index := Scalar.indexCast c2_i32_559
  let c0_i32_517 : BitVec 32 := 0#32
  let c0_i32_386 : BitVec 32 := 0#32
  let c1_i32_388 : BitVec 32 := 1#32
  let arg14 : BitVec 32 := Scf.iv c0_i32_386 c1_i32_388 k0_t57
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![5, 2, v259.toNat]
def k0_off311 (k0_t57 : Fin k0_t57_loop.trips) : Fin 3 → Nat :=
  let c5_i32_563 : BitVec 32 := 5#32
  let v263 : Index := Scalar.indexCast c5_i32_563
  let c3_i32_564 : BitVec 32 := 3#32
  let v264 : Index := Scalar.indexCast c3_i32_564
  let c0_i32_517 : BitVec 32 := 0#32
  let c0_i32_386 : BitVec 32 := 0#32
  let c1_i32_388 : BitVec 32 := 1#32
  let arg14 : BitVec 32 := Scf.iv c0_i32_386 c1_i32_388 k0_t57
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![5, 3, v265.toNat]
def k0_off312 (k0_t57 : Fin k0_t57_loop.trips) : Fin 3 → Nat :=
  let c5_i32_568 : BitVec 32 := 5#32
  let v269 : Index := Scalar.indexCast c5_i32_568
  let c4_i32_569 : BitVec 32 := 4#32
  let v270 : Index := Scalar.indexCast c4_i32_569
  let c0_i32_517 : BitVec 32 := 0#32
  let c0_i32_386 : BitVec 32 := 0#32
  let c1_i32_388 : BitVec 32 := 1#32
  let arg14 : BitVec 32 := Scf.iv c0_i32_386 c1_i32_388 k0_t57
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![5, 4, v271.toNat]
def k0_off313 (k0_t57 : Fin k0_t57_loop.trips) : Fin 3 → Nat :=
  let c5_i32_573 : BitVec 32 := 5#32
  let v275 : Index := Scalar.indexCast c5_i32_573
  let c5_i32_574 : BitVec 32 := 5#32
  let v276 : Index := Scalar.indexCast c5_i32_574
  let c0_i32_517 : BitVec 32 := 0#32
  let c0_i32_386 : BitVec 32 := 0#32
  let c1_i32_388 : BitVec 32 := 1#32
  let arg14 : BitVec 32 := Scf.iv c0_i32_386 c1_i32_388 k0_t57
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![5, 5, v277.toNat]
def k0_off314 (k0_t57 : Fin k0_t57_loop.trips) : Fin 3 → Nat :=
  let c5_i32_578 : BitVec 32 := 5#32
  let v281 : Index := Scalar.indexCast c5_i32_578
  let c6_i32_579 : BitVec 32 := 6#32
  let v282 : Index := Scalar.indexCast c6_i32_579
  let c0_i32_517 : BitVec 32 := 0#32
  let c0_i32_386 : BitVec 32 := 0#32
  let c1_i32_388 : BitVec 32 := 1#32
  let arg14 : BitVec 32 := Scf.iv c0_i32_386 c1_i32_388 k0_t57
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![5, 6, v283.toNat]
def k0_off315 (k0_t57 : Fin k0_t57_loop.trips) : Fin 3 → Nat :=
  let c5_i32_583 : BitVec 32 := 5#32
  let v287 : Index := Scalar.indexCast c5_i32_583
  let c7_i32_584 : BitVec 32 := 7#32
  let v288 : Index := Scalar.indexCast c7_i32_584
  let c0_i32_517 : BitVec 32 := 0#32
  let c0_i32_386 : BitVec 32 := 0#32
  let c1_i32_388 : BitVec 32 := 1#32
  let arg14 : BitVec 32 := Scf.iv c0_i32_386 c1_i32_388 k0_t57
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![5, 7, v289.toNat]
@[reducible] def k0_t58_loop : Scf.Loop 32 :=
  let c0_i32_392 : BitVec 32 := 0#32
  let c8_i32_393 : BitVec 32 := 8#32
  let v172 : BitVec 32 := Scalar.addi c0_i32_392 c8_i32_393
  let c1_i32_394 : BitVec 32 := 1#32
  ⟨c0_i32_392, v172, c1_i32_394⟩
def k0_off316 (k0_t58 : Fin k0_t58_loop.trips) : Fin 1 → Nat :=
  let c768_i32_518 : BitVec 32 := 768#32
  let c0_i32_517 : BitVec 32 := 0#32
  let c0_i32_392 : BitVec 32 := 0#32
  let c1_i32_394 : BitVec 32 := 1#32
  let arg14 : BitVec 32 := Scf.iv c0_i32_392 c1_i32_394 k0_t58
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c768_i32_518 v205
  let v209 : Index := Scalar.indexCast v208
  ![v209.toNat]

def k0_chk274 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx274_inb : ∀ (k0_t26 : Fin k0_t26_loop.trips) (v207 : IVec S16 32) (v210 : IVec S16 32) (v211 : IVec S16 32) (k0_hw274 : k0_chk274 k0_t26 v207 v210 v211), ∀ (k0_h3 : k0_cond3 k0_t26 = 1#1), ∀ a x, ((![v210, v211, v207] : Fin 3 → IVec S16 32) a x).toNat < S25x8x128.size a := fun k0_t26 v207 v210 v211 k0_hw274 k0_h3 => k0_hw274 k0_h3

def k0_chk275 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx275_inb : ∀ (k0_t26 : Fin k0_t26_loop.trips) (v207 : IVec S16 32) (v210 : IVec S16 32) (v215 : IVec S16 32) (k0_hw275 : k0_chk275 k0_t26 v207 v210 v215), ∀ (k0_h3 : k0_cond3 k0_t26 = 1#1), ∀ a x, ((![v210, v215, v207] : Fin 3 → IVec S16 32) a x).toNat < S25x8x128.size a := fun k0_t26 v207 v210 v215 k0_hw275 k0_h3 => k0_hw275 k0_h3

def k0_chk276 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx276_inb : ∀ (k0_t26 : Fin k0_t26_loop.trips) (v207 : IVec S16 32) (v210 : IVec S16 32) (v219 : IVec S16 32) (k0_hw276 : k0_chk276 k0_t26 v207 v210 v219), ∀ (k0_h3 : k0_cond3 k0_t26 = 1#1), ∀ a x, ((![v210, v219, v207] : Fin 3 → IVec S16 32) a x).toNat < S25x8x128.size a := fun k0_t26 v207 v210 v219 k0_hw276 k0_h3 => k0_hw276 k0_h3

def k0_chk277 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx277_inb : ∀ (k0_t26 : Fin k0_t26_loop.trips) (v207 : IVec S16 32) (v210 : IVec S16 32) (v223 : IVec S16 32) (k0_hw277 : k0_chk277 k0_t26 v207 v210 v223), ∀ (k0_h3 : k0_cond3 k0_t26 = 1#1), ∀ a x, ((![v210, v223, v207] : Fin 3 → IVec S16 32) a x).toNat < S25x8x128.size a := fun k0_t26 v207 v210 v223 k0_hw277 k0_h3 => k0_hw277 k0_h3

def k0_chk278 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx278_inb : ∀ (k0_t26 : Fin k0_t26_loop.trips) (v207 : IVec S16 32) (v210 : IVec S16 32) (v227 : IVec S16 32) (k0_hw278 : k0_chk278 k0_t26 v207 v210 v227), ∀ (k0_h3 : k0_cond3 k0_t26 = 1#1), ∀ a x, ((![v210, v227, v207] : Fin 3 → IVec S16 32) a x).toNat < S25x8x128.size a := fun k0_t26 v207 v210 v227 k0_hw278 k0_h3 => k0_hw278 k0_h3

def k0_chk279 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx279_inb : ∀ (k0_t26 : Fin k0_t26_loop.trips) (v207 : IVec S16 32) (v210 : IVec S16 32) (v231 : IVec S16 32) (k0_hw279 : k0_chk279 k0_t26 v207 v210 v231), ∀ (k0_h3 : k0_cond3 k0_t26 = 1#1), ∀ a x, ((![v210, v231, v207] : Fin 3 → IVec S16 32) a x).toNat < S25x8x128.size a := fun k0_t26 v207 v210 v231 k0_hw279 k0_h3 => k0_hw279 k0_h3

def k0_chk280 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx280_inb : ∀ (k0_t26 : Fin k0_t26_loop.trips) (v207 : IVec S16 32) (v210 : IVec S16 32) (v235 : IVec S16 32) (k0_hw280 : k0_chk280 k0_t26 v207 v210 v235), ∀ (k0_h3 : k0_cond3 k0_t26 = 1#1), ∀ a x, ((![v210, v235, v207] : Fin 3 → IVec S16 32) a x).toNat < S25x8x128.size a := fun k0_t26 v207 v210 v235 k0_hw280 k0_h3 => k0_hw280 k0_h3

def k0_chk281 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx281_inb : ∀ (k0_t26 : Fin k0_t26_loop.trips) (v207 : IVec S16 32) (v210 : IVec S16 32) (v239 : IVec S16 32) (k0_hw281 : k0_chk281 k0_t26 v207 v210 v239), ∀ (k0_h3 : k0_cond3 k0_t26 = 1#1), ∀ a x, ((![v210, v239, v207] : Fin 3 → IVec S16 32) a x).toNat < S25x8x128.size a := fun k0_t26 v207 v210 v239 k0_hw281 k0_h3 => k0_hw281 k0_h3
def k0_off317 (k0_t58 : Fin k0_t58_loop.trips) : Fin 3 → Nat :=
  let c6_i32_548 : BitVec 32 := 6#32
  let v245 : Index := Scalar.indexCast c6_i32_548
  let c0_i32_549 : BitVec 32 := 0#32
  let v246 : Index := Scalar.indexCast c0_i32_549
  let c0_i32_517 : BitVec 32 := 0#32
  let c0_i32_392 : BitVec 32 := 0#32
  let c1_i32_394 : BitVec 32 := 1#32
  let arg14 : BitVec 32 := Scf.iv c0_i32_392 c1_i32_394 k0_t58
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![6, 0, v247.toNat]
def k0_off318 (k0_t58 : Fin k0_t58_loop.trips) : Fin 3 → Nat :=
  let c6_i32_553 : BitVec 32 := 6#32
  let v251 : Index := Scalar.indexCast c6_i32_553
  let c1_i32_554 : BitVec 32 := 1#32
  let v252 : Index := Scalar.indexCast c1_i32_554
  let c0_i32_517 : BitVec 32 := 0#32
  let c0_i32_392 : BitVec 32 := 0#32
  let c1_i32_394 : BitVec 32 := 1#32
  let arg14 : BitVec 32 := Scf.iv c0_i32_392 c1_i32_394 k0_t58
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![6, 1, v253.toNat]
def k0_off319 (k0_t58 : Fin k0_t58_loop.trips) : Fin 3 → Nat :=
  let c6_i32_558 : BitVec 32 := 6#32
  let v257 : Index := Scalar.indexCast c6_i32_558
  let c2_i32_559 : BitVec 32 := 2#32
  let v258 : Index := Scalar.indexCast c2_i32_559
  let c0_i32_517 : BitVec 32 := 0#32
  let c0_i32_392 : BitVec 32 := 0#32
  let c1_i32_394 : BitVec 32 := 1#32
  let arg14 : BitVec 32 := Scf.iv c0_i32_392 c1_i32_394 k0_t58
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![6, 2, v259.toNat]
def k0_off320 (k0_t58 : Fin k0_t58_loop.trips) : Fin 3 → Nat :=
  let c6_i32_563 : BitVec 32 := 6#32
  let v263 : Index := Scalar.indexCast c6_i32_563
  let c3_i32_564 : BitVec 32 := 3#32
  let v264 : Index := Scalar.indexCast c3_i32_564
  let c0_i32_517 : BitVec 32 := 0#32
  let c0_i32_392 : BitVec 32 := 0#32
  let c1_i32_394 : BitVec 32 := 1#32
  let arg14 : BitVec 32 := Scf.iv c0_i32_392 c1_i32_394 k0_t58
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![6, 3, v265.toNat]
def k0_off321 (k0_t58 : Fin k0_t58_loop.trips) : Fin 3 → Nat :=
  let c6_i32_568 : BitVec 32 := 6#32
  let v269 : Index := Scalar.indexCast c6_i32_568
  let c4_i32_569 : BitVec 32 := 4#32
  let v270 : Index := Scalar.indexCast c4_i32_569
  let c0_i32_517 : BitVec 32 := 0#32
  let c0_i32_392 : BitVec 32 := 0#32
  let c1_i32_394 : BitVec 32 := 1#32
  let arg14 : BitVec 32 := Scf.iv c0_i32_392 c1_i32_394 k0_t58
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![6, 4, v271.toNat]
def k0_off322 (k0_t58 : Fin k0_t58_loop.trips) : Fin 3 → Nat :=
  let c6_i32_573 : BitVec 32 := 6#32
  let v275 : Index := Scalar.indexCast c6_i32_573
  let c5_i32_574 : BitVec 32 := 5#32
  let v276 : Index := Scalar.indexCast c5_i32_574
  let c0_i32_517 : BitVec 32 := 0#32
  let c0_i32_392 : BitVec 32 := 0#32
  let c1_i32_394 : BitVec 32 := 1#32
  let arg14 : BitVec 32 := Scf.iv c0_i32_392 c1_i32_394 k0_t58
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![6, 5, v277.toNat]
def k0_off323 (k0_t58 : Fin k0_t58_loop.trips) : Fin 3 → Nat :=
  let c6_i32_578 : BitVec 32 := 6#32
  let v281 : Index := Scalar.indexCast c6_i32_578
  let c6_i32_579 : BitVec 32 := 6#32
  let v282 : Index := Scalar.indexCast c6_i32_579
  let c0_i32_517 : BitVec 32 := 0#32
  let c0_i32_392 : BitVec 32 := 0#32
  let c1_i32_394 : BitVec 32 := 1#32
  let arg14 : BitVec 32 := Scf.iv c0_i32_392 c1_i32_394 k0_t58
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![6, 6, v283.toNat]
def k0_off324 (k0_t58 : Fin k0_t58_loop.trips) : Fin 3 → Nat :=
  let c6_i32_583 : BitVec 32 := 6#32
  let v287 : Index := Scalar.indexCast c6_i32_583
  let c7_i32_584 : BitVec 32 := 7#32
  let v288 : Index := Scalar.indexCast c7_i32_584
  let c0_i32_517 : BitVec 32 := 0#32
  let c0_i32_392 : BitVec 32 := 0#32
  let c1_i32_394 : BitVec 32 := 1#32
  let arg14 : BitVec 32 := Scf.iv c0_i32_392 c1_i32_394 k0_t58
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![6, 7, v289.toNat]
@[reducible] def k0_t59_loop : Scf.Loop 32 :=
  let c0_i32_398 : BitVec 32 := 0#32
  let c8_i32_399 : BitVec 32 := 8#32
  let v173 : BitVec 32 := Scalar.addi c0_i32_398 c8_i32_399
  let c1_i32_400 : BitVec 32 := 1#32
  ⟨c0_i32_398, v173, c1_i32_400⟩
def k0_off325 (k0_t59 : Fin k0_t59_loop.trips) : Fin 1 → Nat :=
  let c896_i32_518 : BitVec 32 := 896#32
  let c0_i32_517 : BitVec 32 := 0#32
  let c0_i32_398 : BitVec 32 := 0#32
  let c1_i32_400 : BitVec 32 := 1#32
  let arg14 : BitVec 32 := Scf.iv c0_i32_398 c1_i32_400 k0_t59
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c896_i32_518 v205
  let v209 : Index := Scalar.indexCast v208
  ![v209.toNat]

def k0_chk282 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx282_inb : ∀ (k0_t26 : Fin k0_t26_loop.trips) (v207 : IVec S16 32) (v210 : IVec S16 32) (v211 : IVec S16 32) (k0_hw282 : k0_chk282 k0_t26 v207 v210 v211), ∀ (k0_h3 : k0_cond3 k0_t26 = 1#1), ∀ a x, ((![v210, v211, v207] : Fin 3 → IVec S16 32) a x).toNat < S25x8x128.size a := fun k0_t26 v207 v210 v211 k0_hw282 k0_h3 => k0_hw282 k0_h3

def k0_chk283 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx283_inb : ∀ (k0_t26 : Fin k0_t26_loop.trips) (v207 : IVec S16 32) (v210 : IVec S16 32) (v215 : IVec S16 32) (k0_hw283 : k0_chk283 k0_t26 v207 v210 v215), ∀ (k0_h3 : k0_cond3 k0_t26 = 1#1), ∀ a x, ((![v210, v215, v207] : Fin 3 → IVec S16 32) a x).toNat < S25x8x128.size a := fun k0_t26 v207 v210 v215 k0_hw283 k0_h3 => k0_hw283 k0_h3

def k0_chk284 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx284_inb : ∀ (k0_t26 : Fin k0_t26_loop.trips) (v207 : IVec S16 32) (v210 : IVec S16 32) (v219 : IVec S16 32) (k0_hw284 : k0_chk284 k0_t26 v207 v210 v219), ∀ (k0_h3 : k0_cond3 k0_t26 = 1#1), ∀ a x, ((![v210, v219, v207] : Fin 3 → IVec S16 32) a x).toNat < S25x8x128.size a := fun k0_t26 v207 v210 v219 k0_hw284 k0_h3 => k0_hw284 k0_h3

def k0_chk285 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx285_inb : ∀ (k0_t26 : Fin k0_t26_loop.trips) (v207 : IVec S16 32) (v210 : IVec S16 32) (v223 : IVec S16 32) (k0_hw285 : k0_chk285 k0_t26 v207 v210 v223), ∀ (k0_h3 : k0_cond3 k0_t26 = 1#1), ∀ a x, ((![v210, v223, v207] : Fin 3 → IVec S16 32) a x).toNat < S25x8x128.size a := fun k0_t26 v207 v210 v223 k0_hw285 k0_h3 => k0_hw285 k0_h3

def k0_chk286 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx286_inb : ∀ (k0_t26 : Fin k0_t26_loop.trips) (v207 : IVec S16 32) (v210 : IVec S16 32) (v227 : IVec S16 32) (k0_hw286 : k0_chk286 k0_t26 v207 v210 v227), ∀ (k0_h3 : k0_cond3 k0_t26 = 1#1), ∀ a x, ((![v210, v227, v207] : Fin 3 → IVec S16 32) a x).toNat < S25x8x128.size a := fun k0_t26 v207 v210 v227 k0_hw286 k0_h3 => k0_hw286 k0_h3

def k0_chk287 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx287_inb : ∀ (k0_t26 : Fin k0_t26_loop.trips) (v207 : IVec S16 32) (v210 : IVec S16 32) (v231 : IVec S16 32) (k0_hw287 : k0_chk287 k0_t26 v207 v210 v231), ∀ (k0_h3 : k0_cond3 k0_t26 = 1#1), ∀ a x, ((![v210, v231, v207] : Fin 3 → IVec S16 32) a x).toNat < S25x8x128.size a := fun k0_t26 v207 v210 v231 k0_hw287 k0_h3 => k0_hw287 k0_h3

def k0_chk288 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx288_inb : ∀ (k0_t26 : Fin k0_t26_loop.trips) (v207 : IVec S16 32) (v210 : IVec S16 32) (v235 : IVec S16 32) (k0_hw288 : k0_chk288 k0_t26 v207 v210 v235), ∀ (k0_h3 : k0_cond3 k0_t26 = 1#1), ∀ a x, ((![v210, v235, v207] : Fin 3 → IVec S16 32) a x).toNat < S25x8x128.size a := fun k0_t26 v207 v210 v235 k0_hw288 k0_h3 => k0_hw288 k0_h3

def k0_chk289 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx289_inb : ∀ (k0_t26 : Fin k0_t26_loop.trips) (v207 : IVec S16 32) (v210 : IVec S16 32) (v239 : IVec S16 32) (k0_hw289 : k0_chk289 k0_t26 v207 v210 v239), ∀ (k0_h3 : k0_cond3 k0_t26 = 1#1), ∀ a x, ((![v210, v239, v207] : Fin 3 → IVec S16 32) a x).toNat < S25x8x128.size a := fun k0_t26 v207 v210 v239 k0_hw289 k0_h3 => k0_hw289 k0_h3
def k0_off326 (k0_t59 : Fin k0_t59_loop.trips) : Fin 3 → Nat :=
  let c7_i32_548 : BitVec 32 := 7#32
  let v245 : Index := Scalar.indexCast c7_i32_548
  let c0_i32_549 : BitVec 32 := 0#32
  let v246 : Index := Scalar.indexCast c0_i32_549
  let c0_i32_517 : BitVec 32 := 0#32
  let c0_i32_398 : BitVec 32 := 0#32
  let c1_i32_400 : BitVec 32 := 1#32
  let arg14 : BitVec 32 := Scf.iv c0_i32_398 c1_i32_400 k0_t59
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![7, 0, v247.toNat]
def k0_off327 (k0_t59 : Fin k0_t59_loop.trips) : Fin 3 → Nat :=
  let c7_i32_553 : BitVec 32 := 7#32
  let v251 : Index := Scalar.indexCast c7_i32_553
  let c1_i32_554 : BitVec 32 := 1#32
  let v252 : Index := Scalar.indexCast c1_i32_554
  let c0_i32_517 : BitVec 32 := 0#32
  let c0_i32_398 : BitVec 32 := 0#32
  let c1_i32_400 : BitVec 32 := 1#32
  let arg14 : BitVec 32 := Scf.iv c0_i32_398 c1_i32_400 k0_t59
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![7, 1, v253.toNat]
def k0_off328 (k0_t59 : Fin k0_t59_loop.trips) : Fin 3 → Nat :=
  let c7_i32_558 : BitVec 32 := 7#32
  let v257 : Index := Scalar.indexCast c7_i32_558
  let c2_i32_559 : BitVec 32 := 2#32
  let v258 : Index := Scalar.indexCast c2_i32_559
  let c0_i32_517 : BitVec 32 := 0#32
  let c0_i32_398 : BitVec 32 := 0#32
  let c1_i32_400 : BitVec 32 := 1#32
  let arg14 : BitVec 32 := Scf.iv c0_i32_398 c1_i32_400 k0_t59
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![7, 2, v259.toNat]
def k0_off329 (k0_t59 : Fin k0_t59_loop.trips) : Fin 3 → Nat :=
  let c7_i32_563 : BitVec 32 := 7#32
  let v263 : Index := Scalar.indexCast c7_i32_563
  let c3_i32_564 : BitVec 32 := 3#32
  let v264 : Index := Scalar.indexCast c3_i32_564
  let c0_i32_517 : BitVec 32 := 0#32
  let c0_i32_398 : BitVec 32 := 0#32
  let c1_i32_400 : BitVec 32 := 1#32
  let arg14 : BitVec 32 := Scf.iv c0_i32_398 c1_i32_400 k0_t59
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![7, 3, v265.toNat]
def k0_off330 (k0_t59 : Fin k0_t59_loop.trips) : Fin 3 → Nat :=
  let c7_i32_568 : BitVec 32 := 7#32
  let v269 : Index := Scalar.indexCast c7_i32_568
  let c4_i32_569 : BitVec 32 := 4#32
  let v270 : Index := Scalar.indexCast c4_i32_569
  let c0_i32_517 : BitVec 32 := 0#32
  let c0_i32_398 : BitVec 32 := 0#32
  let c1_i32_400 : BitVec 32 := 1#32
  let arg14 : BitVec 32 := Scf.iv c0_i32_398 c1_i32_400 k0_t59
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![7, 4, v271.toNat]
def k0_off331 (k0_t59 : Fin k0_t59_loop.trips) : Fin 3 → Nat :=
  let c7_i32_573 : BitVec 32 := 7#32
  let v275 : Index := Scalar.indexCast c7_i32_573
  let c5_i32_574 : BitVec 32 := 5#32
  let v276 : Index := Scalar.indexCast c5_i32_574
  let c0_i32_517 : BitVec 32 := 0#32
  let c0_i32_398 : BitVec 32 := 0#32
  let c1_i32_400 : BitVec 32 := 1#32
  let arg14 : BitVec 32 := Scf.iv c0_i32_398 c1_i32_400 k0_t59
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![7, 5, v277.toNat]
def k0_off332 (k0_t59 : Fin k0_t59_loop.trips) : Fin 3 → Nat :=
  let c7_i32_578 : BitVec 32 := 7#32
  let v281 : Index := Scalar.indexCast c7_i32_578
  let c6_i32_579 : BitVec 32 := 6#32
  let v282 : Index := Scalar.indexCast c6_i32_579
  let c0_i32_517 : BitVec 32 := 0#32
  let c0_i32_398 : BitVec 32 := 0#32
  let c1_i32_400 : BitVec 32 := 1#32
  let arg14 : BitVec 32 := Scf.iv c0_i32_398 c1_i32_400 k0_t59
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![7, 6, v283.toNat]
def k0_off333 (k0_t59 : Fin k0_t59_loop.trips) : Fin 3 → Nat :=
  let c7_i32_583 : BitVec 32 := 7#32
  let v287 : Index := Scalar.indexCast c7_i32_583
  let c7_i32_584 : BitVec 32 := 7#32
  let v288 : Index := Scalar.indexCast c7_i32_584
  let c0_i32_517 : BitVec 32 := 0#32
  let c0_i32_398 : BitVec 32 := 0#32
  let c1_i32_400 : BitVec 32 := 1#32
  let arg14 : BitVec 32 := Scf.iv c0_i32_398 c1_i32_400 k0_t59
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![7, 7, v289.toNat]
@[reducible] def k0_t60_loop : Scf.Loop 32 :=
  let c0_i32_404 : BitVec 32 := 0#32
  let c8_i32_405 : BitVec 32 := 8#32
  let v174 : BitVec 32 := Scalar.addi c0_i32_404 c8_i32_405
  let c1_i32_406 : BitVec 32 := 1#32
  ⟨c0_i32_404, v174, c1_i32_406⟩
def k0_off334 (k0_t60 : Fin k0_t60_loop.trips) : Fin 1 → Nat :=
  let c1024_i32_518 : BitVec 32 := 1024#32
  let c0_i32_517 : BitVec 32 := 0#32
  let c0_i32_404 : BitVec 32 := 0#32
  let c1_i32_406 : BitVec 32 := 1#32
  let arg14 : BitVec 32 := Scf.iv c0_i32_404 c1_i32_406 k0_t60
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c1024_i32_518 v205
  let v209 : Index := Scalar.indexCast v208
  ![v209.toNat]

def k0_chk290 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx290_inb : ∀ (k0_t26 : Fin k0_t26_loop.trips) (v207 : IVec S16 32) (v210 : IVec S16 32) (v211 : IVec S16 32) (k0_hw290 : k0_chk290 k0_t26 v207 v210 v211), ∀ (k0_h3 : k0_cond3 k0_t26 = 1#1), ∀ a x, ((![v210, v211, v207] : Fin 3 → IVec S16 32) a x).toNat < S25x8x128.size a := fun k0_t26 v207 v210 v211 k0_hw290 k0_h3 => k0_hw290 k0_h3

def k0_chk291 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx291_inb : ∀ (k0_t26 : Fin k0_t26_loop.trips) (v207 : IVec S16 32) (v210 : IVec S16 32) (v215 : IVec S16 32) (k0_hw291 : k0_chk291 k0_t26 v207 v210 v215), ∀ (k0_h3 : k0_cond3 k0_t26 = 1#1), ∀ a x, ((![v210, v215, v207] : Fin 3 → IVec S16 32) a x).toNat < S25x8x128.size a := fun k0_t26 v207 v210 v215 k0_hw291 k0_h3 => k0_hw291 k0_h3

def k0_chk292 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx292_inb : ∀ (k0_t26 : Fin k0_t26_loop.trips) (v207 : IVec S16 32) (v210 : IVec S16 32) (v219 : IVec S16 32) (k0_hw292 : k0_chk292 k0_t26 v207 v210 v219), ∀ (k0_h3 : k0_cond3 k0_t26 = 1#1), ∀ a x, ((![v210, v219, v207] : Fin 3 → IVec S16 32) a x).toNat < S25x8x128.size a := fun k0_t26 v207 v210 v219 k0_hw292 k0_h3 => k0_hw292 k0_h3

def k0_chk293 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx293_inb : ∀ (k0_t26 : Fin k0_t26_loop.trips) (v207 : IVec S16 32) (v210 : IVec S16 32) (v223 : IVec S16 32) (k0_hw293 : k0_chk293 k0_t26 v207 v210 v223), ∀ (k0_h3 : k0_cond3 k0_t26 = 1#1), ∀ a x, ((![v210, v223, v207] : Fin 3 → IVec S16 32) a x).toNat < S25x8x128.size a := fun k0_t26 v207 v210 v223 k0_hw293 k0_h3 => k0_hw293 k0_h3

def k0_chk294 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx294_inb : ∀ (k0_t26 : Fin k0_t26_loop.trips) (v207 : IVec S16 32) (v210 : IVec S16 32) (v227 : IVec S16 32) (k0_hw294 : k0_chk294 k0_t26 v207 v210 v227), ∀ (k0_h3 : k0_cond3 k0_t26 = 1#1), ∀ a x, ((![v210, v227, v207] : Fin 3 → IVec S16 32) a x).toNat < S25x8x128.size a := fun k0_t26 v207 v210 v227 k0_hw294 k0_h3 => k0_hw294 k0_h3

def k0_chk295 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx295_inb : ∀ (k0_t26 : Fin k0_t26_loop.trips) (v207 : IVec S16 32) (v210 : IVec S16 32) (v231 : IVec S16 32) (k0_hw295 : k0_chk295 k0_t26 v207 v210 v231), ∀ (k0_h3 : k0_cond3 k0_t26 = 1#1), ∀ a x, ((![v210, v231, v207] : Fin 3 → IVec S16 32) a x).toNat < S25x8x128.size a := fun k0_t26 v207 v210 v231 k0_hw295 k0_h3 => k0_hw295 k0_h3

def k0_chk296 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx296_inb : ∀ (k0_t26 : Fin k0_t26_loop.trips) (v207 : IVec S16 32) (v210 : IVec S16 32) (v235 : IVec S16 32) (k0_hw296 : k0_chk296 k0_t26 v207 v210 v235), ∀ (k0_h3 : k0_cond3 k0_t26 = 1#1), ∀ a x, ((![v210, v235, v207] : Fin 3 → IVec S16 32) a x).toNat < S25x8x128.size a := fun k0_t26 v207 v210 v235 k0_hw296 k0_h3 => k0_hw296 k0_h3

def k0_chk297 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx297_inb : ∀ (k0_t26 : Fin k0_t26_loop.trips) (v207 : IVec S16 32) (v210 : IVec S16 32) (v239 : IVec S16 32) (k0_hw297 : k0_chk297 k0_t26 v207 v210 v239), ∀ (k0_h3 : k0_cond3 k0_t26 = 1#1), ∀ a x, ((![v210, v239, v207] : Fin 3 → IVec S16 32) a x).toNat < S25x8x128.size a := fun k0_t26 v207 v210 v239 k0_hw297 k0_h3 => k0_hw297 k0_h3
def k0_off335 (k0_t60 : Fin k0_t60_loop.trips) : Fin 3 → Nat :=
  let c8_i32_548 : BitVec 32 := 8#32
  let v245 : Index := Scalar.indexCast c8_i32_548
  let c0_i32_549 : BitVec 32 := 0#32
  let v246 : Index := Scalar.indexCast c0_i32_549
  let c0_i32_517 : BitVec 32 := 0#32
  let c0_i32_404 : BitVec 32 := 0#32
  let c1_i32_406 : BitVec 32 := 1#32
  let arg14 : BitVec 32 := Scf.iv c0_i32_404 c1_i32_406 k0_t60
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![8, 0, v247.toNat]
def k0_off336 (k0_t60 : Fin k0_t60_loop.trips) : Fin 3 → Nat :=
  let c8_i32_553 : BitVec 32 := 8#32
  let v251 : Index := Scalar.indexCast c8_i32_553
  let c1_i32_554 : BitVec 32 := 1#32
  let v252 : Index := Scalar.indexCast c1_i32_554
  let c0_i32_517 : BitVec 32 := 0#32
  let c0_i32_404 : BitVec 32 := 0#32
  let c1_i32_406 : BitVec 32 := 1#32
  let arg14 : BitVec 32 := Scf.iv c0_i32_404 c1_i32_406 k0_t60
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![8, 1, v253.toNat]
def k0_off337 (k0_t60 : Fin k0_t60_loop.trips) : Fin 3 → Nat :=
  let c8_i32_558 : BitVec 32 := 8#32
  let v257 : Index := Scalar.indexCast c8_i32_558
  let c2_i32_559 : BitVec 32 := 2#32
  let v258 : Index := Scalar.indexCast c2_i32_559
  let c0_i32_517 : BitVec 32 := 0#32
  let c0_i32_404 : BitVec 32 := 0#32
  let c1_i32_406 : BitVec 32 := 1#32
  let arg14 : BitVec 32 := Scf.iv c0_i32_404 c1_i32_406 k0_t60
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![8, 2, v259.toNat]
def k0_off338 (k0_t60 : Fin k0_t60_loop.trips) : Fin 3 → Nat :=
  let c8_i32_563 : BitVec 32 := 8#32
  let v263 : Index := Scalar.indexCast c8_i32_563
  let c3_i32_564 : BitVec 32 := 3#32
  let v264 : Index := Scalar.indexCast c3_i32_564
  let c0_i32_517 : BitVec 32 := 0#32
  let c0_i32_404 : BitVec 32 := 0#32
  let c1_i32_406 : BitVec 32 := 1#32
  let arg14 : BitVec 32 := Scf.iv c0_i32_404 c1_i32_406 k0_t60
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![8, 3, v265.toNat]
def k0_off339 (k0_t60 : Fin k0_t60_loop.trips) : Fin 3 → Nat :=
  let c8_i32_568 : BitVec 32 := 8#32
  let v269 : Index := Scalar.indexCast c8_i32_568
  let c4_i32_569 : BitVec 32 := 4#32
  let v270 : Index := Scalar.indexCast c4_i32_569
  let c0_i32_517 : BitVec 32 := 0#32
  let c0_i32_404 : BitVec 32 := 0#32
  let c1_i32_406 : BitVec 32 := 1#32
  let arg14 : BitVec 32 := Scf.iv c0_i32_404 c1_i32_406 k0_t60
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![8, 4, v271.toNat]
def k0_off340 (k0_t60 : Fin k0_t60_loop.trips) : Fin 3 → Nat :=
  let c8_i32_573 : BitVec 32 := 8#32
  let v275 : Index := Scalar.indexCast c8_i32_573
  let c5_i32_574 : BitVec 32 := 5#32
  let v276 : Index := Scalar.indexCast c5_i32_574
  let c0_i32_517 : BitVec 32 := 0#32
  let c0_i32_404 : BitVec 32 := 0#32
  let c1_i32_406 : BitVec 32 := 1#32
  let arg14 : BitVec 32 := Scf.iv c0_i32_404 c1_i32_406 k0_t60
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![8, 5, v277.toNat]
def k0_off341 (k0_t60 : Fin k0_t60_loop.trips) : Fin 3 → Nat :=
  let c8_i32_578 : BitVec 32 := 8#32
  let v281 : Index := Scalar.indexCast c8_i32_578
  let c6_i32_579 : BitVec 32 := 6#32
  let v282 : Index := Scalar.indexCast c6_i32_579
  let c0_i32_517 : BitVec 32 := 0#32
  let c0_i32_404 : BitVec 32 := 0#32
  let c1_i32_406 : BitVec 32 := 1#32
  let arg14 : BitVec 32 := Scf.iv c0_i32_404 c1_i32_406 k0_t60
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![8, 6, v283.toNat]
def k0_off342 (k0_t60 : Fin k0_t60_loop.trips) : Fin 3 → Nat :=
  let c8_i32_583 : BitVec 32 := 8#32
  let v287 : Index := Scalar.indexCast c8_i32_583
  let c7_i32_584 : BitVec 32 := 7#32
  let v288 : Index := Scalar.indexCast c7_i32_584
  let c0_i32_517 : BitVec 32 := 0#32
  let c0_i32_404 : BitVec 32 := 0#32
  let c1_i32_406 : BitVec 32 := 1#32
  let arg14 : BitVec 32 := Scf.iv c0_i32_404 c1_i32_406 k0_t60
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![8, 7, v289.toNat]
@[reducible] def k0_t61_loop : Scf.Loop 32 :=
  let c0_i32_410 : BitVec 32 := 0#32
  let c8_i32_411 : BitVec 32 := 8#32
  let v175 : BitVec 32 := Scalar.addi c0_i32_410 c8_i32_411
  let c1_i32_412 : BitVec 32 := 1#32
  ⟨c0_i32_410, v175, c1_i32_412⟩
def k0_off343 (k0_t61 : Fin k0_t61_loop.trips) : Fin 1 → Nat :=
  let c1152_i32 : BitVec 32 := 1152#32
  let c0_i32_517 : BitVec 32 := 0#32
  let c0_i32_410 : BitVec 32 := 0#32
  let c1_i32_412 : BitVec 32 := 1#32
  let arg14 : BitVec 32 := Scf.iv c0_i32_410 c1_i32_412 k0_t61
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c1152_i32 v205
  let v209 : Index := Scalar.indexCast v208
  ![v209.toNat]

def k0_chk298 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx298_inb : ∀ (k0_t26 : Fin k0_t26_loop.trips) (v207 : IVec S16 32) (v210 : IVec S16 32) (v211 : IVec S16 32) (k0_hw298 : k0_chk298 k0_t26 v207 v210 v211), ∀ (k0_h3 : k0_cond3 k0_t26 = 1#1), ∀ a x, ((![v210, v211, v207] : Fin 3 → IVec S16 32) a x).toNat < S25x8x128.size a := fun k0_t26 v207 v210 v211 k0_hw298 k0_h3 => k0_hw298 k0_h3

def k0_chk299 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx299_inb : ∀ (k0_t26 : Fin k0_t26_loop.trips) (v207 : IVec S16 32) (v210 : IVec S16 32) (v215 : IVec S16 32) (k0_hw299 : k0_chk299 k0_t26 v207 v210 v215), ∀ (k0_h3 : k0_cond3 k0_t26 = 1#1), ∀ a x, ((![v210, v215, v207] : Fin 3 → IVec S16 32) a x).toNat < S25x8x128.size a := fun k0_t26 v207 v210 v215 k0_hw299 k0_h3 => k0_hw299 k0_h3

def k0_chk300 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx300_inb : ∀ (k0_t26 : Fin k0_t26_loop.trips) (v207 : IVec S16 32) (v210 : IVec S16 32) (v219 : IVec S16 32) (k0_hw300 : k0_chk300 k0_t26 v207 v210 v219), ∀ (k0_h3 : k0_cond3 k0_t26 = 1#1), ∀ a x, ((![v210, v219, v207] : Fin 3 → IVec S16 32) a x).toNat < S25x8x128.size a := fun k0_t26 v207 v210 v219 k0_hw300 k0_h3 => k0_hw300 k0_h3

def k0_chk301 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx301_inb : ∀ (k0_t26 : Fin k0_t26_loop.trips) (v207 : IVec S16 32) (v210 : IVec S16 32) (v223 : IVec S16 32) (k0_hw301 : k0_chk301 k0_t26 v207 v210 v223), ∀ (k0_h3 : k0_cond3 k0_t26 = 1#1), ∀ a x, ((![v210, v223, v207] : Fin 3 → IVec S16 32) a x).toNat < S25x8x128.size a := fun k0_t26 v207 v210 v223 k0_hw301 k0_h3 => k0_hw301 k0_h3

def k0_chk302 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx302_inb : ∀ (k0_t26 : Fin k0_t26_loop.trips) (v207 : IVec S16 32) (v210 : IVec S16 32) (v227 : IVec S16 32) (k0_hw302 : k0_chk302 k0_t26 v207 v210 v227), ∀ (k0_h3 : k0_cond3 k0_t26 = 1#1), ∀ a x, ((![v210, v227, v207] : Fin 3 → IVec S16 32) a x).toNat < S25x8x128.size a := fun k0_t26 v207 v210 v227 k0_hw302 k0_h3 => k0_hw302 k0_h3

def k0_chk303 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx303_inb : ∀ (k0_t26 : Fin k0_t26_loop.trips) (v207 : IVec S16 32) (v210 : IVec S16 32) (v231 : IVec S16 32) (k0_hw303 : k0_chk303 k0_t26 v207 v210 v231), ∀ (k0_h3 : k0_cond3 k0_t26 = 1#1), ∀ a x, ((![v210, v231, v207] : Fin 3 → IVec S16 32) a x).toNat < S25x8x128.size a := fun k0_t26 v207 v210 v231 k0_hw303 k0_h3 => k0_hw303 k0_h3

def k0_chk304 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx304_inb : ∀ (k0_t26 : Fin k0_t26_loop.trips) (v207 : IVec S16 32) (v210 : IVec S16 32) (v235 : IVec S16 32) (k0_hw304 : k0_chk304 k0_t26 v207 v210 v235), ∀ (k0_h3 : k0_cond3 k0_t26 = 1#1), ∀ a x, ((![v210, v235, v207] : Fin 3 → IVec S16 32) a x).toNat < S25x8x128.size a := fun k0_t26 v207 v210 v235 k0_hw304 k0_h3 => k0_hw304 k0_h3

def k0_chk305 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx305_inb : ∀ (k0_t26 : Fin k0_t26_loop.trips) (v207 : IVec S16 32) (v210 : IVec S16 32) (v239 : IVec S16 32) (k0_hw305 : k0_chk305 k0_t26 v207 v210 v239), ∀ (k0_h3 : k0_cond3 k0_t26 = 1#1), ∀ a x, ((![v210, v239, v207] : Fin 3 → IVec S16 32) a x).toNat < S25x8x128.size a := fun k0_t26 v207 v210 v239 k0_hw305 k0_h3 => k0_hw305 k0_h3
def k0_off344 (k0_t61 : Fin k0_t61_loop.trips) : Fin 3 → Nat :=
  let c9_i32 : BitVec 32 := 9#32
  let v245 : Index := Scalar.indexCast c9_i32
  let c0_i32_547 : BitVec 32 := 0#32
  let v246 : Index := Scalar.indexCast c0_i32_547
  let c0_i32_517 : BitVec 32 := 0#32
  let c0_i32_410 : BitVec 32 := 0#32
  let c1_i32_412 : BitVec 32 := 1#32
  let arg14 : BitVec 32 := Scf.iv c0_i32_410 c1_i32_412 k0_t61
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![9, 0, v247.toNat]
def k0_off345 (k0_t61 : Fin k0_t61_loop.trips) : Fin 3 → Nat :=
  let c9_i32_551 : BitVec 32 := 9#32
  let v251 : Index := Scalar.indexCast c9_i32_551
  let c1_i32_552 : BitVec 32 := 1#32
  let v252 : Index := Scalar.indexCast c1_i32_552
  let c0_i32_517 : BitVec 32 := 0#32
  let c0_i32_410 : BitVec 32 := 0#32
  let c1_i32_412 : BitVec 32 := 1#32
  let arg14 : BitVec 32 := Scf.iv c0_i32_410 c1_i32_412 k0_t61
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![9, 1, v253.toNat]
def k0_off346 (k0_t61 : Fin k0_t61_loop.trips) : Fin 3 → Nat :=
  let c9_i32_556 : BitVec 32 := 9#32
  let v257 : Index := Scalar.indexCast c9_i32_556
  let c2_i32_557 : BitVec 32 := 2#32
  let v258 : Index := Scalar.indexCast c2_i32_557
  let c0_i32_517 : BitVec 32 := 0#32
  let c0_i32_410 : BitVec 32 := 0#32
  let c1_i32_412 : BitVec 32 := 1#32
  let arg14 : BitVec 32 := Scf.iv c0_i32_410 c1_i32_412 k0_t61
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![9, 2, v259.toNat]
def k0_off347 (k0_t61 : Fin k0_t61_loop.trips) : Fin 3 → Nat :=
  let c9_i32_561 : BitVec 32 := 9#32
  let v263 : Index := Scalar.indexCast c9_i32_561
  let c3_i32_562 : BitVec 32 := 3#32
  let v264 : Index := Scalar.indexCast c3_i32_562
  let c0_i32_517 : BitVec 32 := 0#32
  let c0_i32_410 : BitVec 32 := 0#32
  let c1_i32_412 : BitVec 32 := 1#32
  let arg14 : BitVec 32 := Scf.iv c0_i32_410 c1_i32_412 k0_t61
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![9, 3, v265.toNat]
def k0_off348 (k0_t61 : Fin k0_t61_loop.trips) : Fin 3 → Nat :=
  let c9_i32_566 : BitVec 32 := 9#32
  let v269 : Index := Scalar.indexCast c9_i32_566
  let c4_i32_567 : BitVec 32 := 4#32
  let v270 : Index := Scalar.indexCast c4_i32_567
  let c0_i32_517 : BitVec 32 := 0#32
  let c0_i32_410 : BitVec 32 := 0#32
  let c1_i32_412 : BitVec 32 := 1#32
  let arg14 : BitVec 32 := Scf.iv c0_i32_410 c1_i32_412 k0_t61
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![9, 4, v271.toNat]
def k0_off349 (k0_t61 : Fin k0_t61_loop.trips) : Fin 3 → Nat :=
  let c9_i32_571 : BitVec 32 := 9#32
  let v275 : Index := Scalar.indexCast c9_i32_571
  let c5_i32_572 : BitVec 32 := 5#32
  let v276 : Index := Scalar.indexCast c5_i32_572
  let c0_i32_517 : BitVec 32 := 0#32
  let c0_i32_410 : BitVec 32 := 0#32
  let c1_i32_412 : BitVec 32 := 1#32
  let arg14 : BitVec 32 := Scf.iv c0_i32_410 c1_i32_412 k0_t61
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![9, 5, v277.toNat]
def k0_off350 (k0_t61 : Fin k0_t61_loop.trips) : Fin 3 → Nat :=
  let c9_i32_576 : BitVec 32 := 9#32
  let v281 : Index := Scalar.indexCast c9_i32_576
  let c6_i32_577 : BitVec 32 := 6#32
  let v282 : Index := Scalar.indexCast c6_i32_577
  let c0_i32_517 : BitVec 32 := 0#32
  let c0_i32_410 : BitVec 32 := 0#32
  let c1_i32_412 : BitVec 32 := 1#32
  let arg14 : BitVec 32 := Scf.iv c0_i32_410 c1_i32_412 k0_t61
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![9, 6, v283.toNat]
def k0_off351 (k0_t61 : Fin k0_t61_loop.trips) : Fin 3 → Nat :=
  let c9_i32_581 : BitVec 32 := 9#32
  let v287 : Index := Scalar.indexCast c9_i32_581
  let c7_i32_582 : BitVec 32 := 7#32
  let v288 : Index := Scalar.indexCast c7_i32_582
  let c0_i32_517 : BitVec 32 := 0#32
  let c0_i32_410 : BitVec 32 := 0#32
  let c1_i32_412 : BitVec 32 := 1#32
  let arg14 : BitVec 32 := Scf.iv c0_i32_410 c1_i32_412 k0_t61
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![9, 7, v289.toNat]
@[reducible] def k0_t62_loop : Scf.Loop 32 :=
  let c0_i32_416 : BitVec 32 := 0#32
  let c8_i32_417 : BitVec 32 := 8#32
  let v176 : BitVec 32 := Scalar.addi c0_i32_416 c8_i32_417
  let c1_i32_418 : BitVec 32 := 1#32
  ⟨c0_i32_416, v176, c1_i32_418⟩
def k0_off352 (k0_t62 : Fin k0_t62_loop.trips) : Fin 1 → Nat :=
  let c1280_i32 : BitVec 32 := 1280#32
  let c0_i32_517 : BitVec 32 := 0#32
  let c0_i32_416 : BitVec 32 := 0#32
  let c1_i32_418 : BitVec 32 := 1#32
  let arg14 : BitVec 32 := Scf.iv c0_i32_416 c1_i32_418 k0_t62
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c1280_i32 v205
  let v209 : Index := Scalar.indexCast v208
  ![v209.toNat]

def k0_chk306 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx306_inb : ∀ (k0_t26 : Fin k0_t26_loop.trips) (v207 : IVec S16 32) (v210 : IVec S16 32) (v211 : IVec S16 32) (k0_hw306 : k0_chk306 k0_t26 v207 v210 v211), ∀ (k0_h3 : k0_cond3 k0_t26 = 1#1), ∀ a x, ((![v210, v211, v207] : Fin 3 → IVec S16 32) a x).toNat < S25x8x128.size a := fun k0_t26 v207 v210 v211 k0_hw306 k0_h3 => k0_hw306 k0_h3

def k0_chk307 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx307_inb : ∀ (k0_t26 : Fin k0_t26_loop.trips) (v207 : IVec S16 32) (v210 : IVec S16 32) (v215 : IVec S16 32) (k0_hw307 : k0_chk307 k0_t26 v207 v210 v215), ∀ (k0_h3 : k0_cond3 k0_t26 = 1#1), ∀ a x, ((![v210, v215, v207] : Fin 3 → IVec S16 32) a x).toNat < S25x8x128.size a := fun k0_t26 v207 v210 v215 k0_hw307 k0_h3 => k0_hw307 k0_h3

def k0_chk308 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx308_inb : ∀ (k0_t26 : Fin k0_t26_loop.trips) (v207 : IVec S16 32) (v210 : IVec S16 32) (v219 : IVec S16 32) (k0_hw308 : k0_chk308 k0_t26 v207 v210 v219), ∀ (k0_h3 : k0_cond3 k0_t26 = 1#1), ∀ a x, ((![v210, v219, v207] : Fin 3 → IVec S16 32) a x).toNat < S25x8x128.size a := fun k0_t26 v207 v210 v219 k0_hw308 k0_h3 => k0_hw308 k0_h3

def k0_chk309 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx309_inb : ∀ (k0_t26 : Fin k0_t26_loop.trips) (v207 : IVec S16 32) (v210 : IVec S16 32) (v223 : IVec S16 32) (k0_hw309 : k0_chk309 k0_t26 v207 v210 v223), ∀ (k0_h3 : k0_cond3 k0_t26 = 1#1), ∀ a x, ((![v210, v223, v207] : Fin 3 → IVec S16 32) a x).toNat < S25x8x128.size a := fun k0_t26 v207 v210 v223 k0_hw309 k0_h3 => k0_hw309 k0_h3

def k0_chk310 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx310_inb : ∀ (k0_t26 : Fin k0_t26_loop.trips) (v207 : IVec S16 32) (v210 : IVec S16 32) (v227 : IVec S16 32) (k0_hw310 : k0_chk310 k0_t26 v207 v210 v227), ∀ (k0_h3 : k0_cond3 k0_t26 = 1#1), ∀ a x, ((![v210, v227, v207] : Fin 3 → IVec S16 32) a x).toNat < S25x8x128.size a := fun k0_t26 v207 v210 v227 k0_hw310 k0_h3 => k0_hw310 k0_h3

def k0_chk311 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx311_inb : ∀ (k0_t26 : Fin k0_t26_loop.trips) (v207 : IVec S16 32) (v210 : IVec S16 32) (v231 : IVec S16 32) (k0_hw311 : k0_chk311 k0_t26 v207 v210 v231), ∀ (k0_h3 : k0_cond3 k0_t26 = 1#1), ∀ a x, ((![v210, v231, v207] : Fin 3 → IVec S16 32) a x).toNat < S25x8x128.size a := fun k0_t26 v207 v210 v231 k0_hw311 k0_h3 => k0_hw311 k0_h3

def k0_chk312 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx312_inb : ∀ (k0_t26 : Fin k0_t26_loop.trips) (v207 : IVec S16 32) (v210 : IVec S16 32) (v235 : IVec S16 32) (k0_hw312 : k0_chk312 k0_t26 v207 v210 v235), ∀ (k0_h3 : k0_cond3 k0_t26 = 1#1), ∀ a x, ((![v210, v235, v207] : Fin 3 → IVec S16 32) a x).toNat < S25x8x128.size a := fun k0_t26 v207 v210 v235 k0_hw312 k0_h3 => k0_hw312 k0_h3

def k0_chk313 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx313_inb : ∀ (k0_t26 : Fin k0_t26_loop.trips) (v207 : IVec S16 32) (v210 : IVec S16 32) (v239 : IVec S16 32) (k0_hw313 : k0_chk313 k0_t26 v207 v210 v239), ∀ (k0_h3 : k0_cond3 k0_t26 = 1#1), ∀ a x, ((![v210, v239, v207] : Fin 3 → IVec S16 32) a x).toNat < S25x8x128.size a := fun k0_t26 v207 v210 v239 k0_hw313 k0_h3 => k0_hw313 k0_h3
def k0_off353 (k0_t62 : Fin k0_t62_loop.trips) : Fin 3 → Nat :=
  let c10_i32 : BitVec 32 := 10#32
  let v245 : Index := Scalar.indexCast c10_i32
  let c0_i32_547 : BitVec 32 := 0#32
  let v246 : Index := Scalar.indexCast c0_i32_547
  let c0_i32_517 : BitVec 32 := 0#32
  let c0_i32_416 : BitVec 32 := 0#32
  let c1_i32_418 : BitVec 32 := 1#32
  let arg14 : BitVec 32 := Scf.iv c0_i32_416 c1_i32_418 k0_t62
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![10, 0, v247.toNat]
def k0_off354 (k0_t62 : Fin k0_t62_loop.trips) : Fin 3 → Nat :=
  let c10_i32_551 : BitVec 32 := 10#32
  let v251 : Index := Scalar.indexCast c10_i32_551
  let c1_i32_552 : BitVec 32 := 1#32
  let v252 : Index := Scalar.indexCast c1_i32_552
  let c0_i32_517 : BitVec 32 := 0#32
  let c0_i32_416 : BitVec 32 := 0#32
  let c1_i32_418 : BitVec 32 := 1#32
  let arg14 : BitVec 32 := Scf.iv c0_i32_416 c1_i32_418 k0_t62
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![10, 1, v253.toNat]
def k0_off355 (k0_t62 : Fin k0_t62_loop.trips) : Fin 3 → Nat :=
  let c10_i32_556 : BitVec 32 := 10#32
  let v257 : Index := Scalar.indexCast c10_i32_556
  let c2_i32_557 : BitVec 32 := 2#32
  let v258 : Index := Scalar.indexCast c2_i32_557
  let c0_i32_517 : BitVec 32 := 0#32
  let c0_i32_416 : BitVec 32 := 0#32
  let c1_i32_418 : BitVec 32 := 1#32
  let arg14 : BitVec 32 := Scf.iv c0_i32_416 c1_i32_418 k0_t62
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![10, 2, v259.toNat]
def k0_off356 (k0_t62 : Fin k0_t62_loop.trips) : Fin 3 → Nat :=
  let c10_i32_561 : BitVec 32 := 10#32
  let v263 : Index := Scalar.indexCast c10_i32_561
  let c3_i32_562 : BitVec 32 := 3#32
  let v264 : Index := Scalar.indexCast c3_i32_562
  let c0_i32_517 : BitVec 32 := 0#32
  let c0_i32_416 : BitVec 32 := 0#32
  let c1_i32_418 : BitVec 32 := 1#32
  let arg14 : BitVec 32 := Scf.iv c0_i32_416 c1_i32_418 k0_t62
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![10, 3, v265.toNat]
def k0_off357 (k0_t62 : Fin k0_t62_loop.trips) : Fin 3 → Nat :=
  let c10_i32_566 : BitVec 32 := 10#32
  let v269 : Index := Scalar.indexCast c10_i32_566
  let c4_i32_567 : BitVec 32 := 4#32
  let v270 : Index := Scalar.indexCast c4_i32_567
  let c0_i32_517 : BitVec 32 := 0#32
  let c0_i32_416 : BitVec 32 := 0#32
  let c1_i32_418 : BitVec 32 := 1#32
  let arg14 : BitVec 32 := Scf.iv c0_i32_416 c1_i32_418 k0_t62
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![10, 4, v271.toNat]
def k0_off358 (k0_t62 : Fin k0_t62_loop.trips) : Fin 3 → Nat :=
  let c10_i32_571 : BitVec 32 := 10#32
  let v275 : Index := Scalar.indexCast c10_i32_571
  let c5_i32_572 : BitVec 32 := 5#32
  let v276 : Index := Scalar.indexCast c5_i32_572
  let c0_i32_517 : BitVec 32 := 0#32
  let c0_i32_416 : BitVec 32 := 0#32
  let c1_i32_418 : BitVec 32 := 1#32
  let arg14 : BitVec 32 := Scf.iv c0_i32_416 c1_i32_418 k0_t62
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![10, 5, v277.toNat]
def k0_off359 (k0_t62 : Fin k0_t62_loop.trips) : Fin 3 → Nat :=
  let c10_i32_576 : BitVec 32 := 10#32
  let v281 : Index := Scalar.indexCast c10_i32_576
  let c6_i32_577 : BitVec 32 := 6#32
  let v282 : Index := Scalar.indexCast c6_i32_577
  let c0_i32_517 : BitVec 32 := 0#32
  let c0_i32_416 : BitVec 32 := 0#32
  let c1_i32_418 : BitVec 32 := 1#32
  let arg14 : BitVec 32 := Scf.iv c0_i32_416 c1_i32_418 k0_t62
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![10, 6, v283.toNat]
def k0_off360 (k0_t62 : Fin k0_t62_loop.trips) : Fin 3 → Nat :=
  let c10_i32_581 : BitVec 32 := 10#32
  let v287 : Index := Scalar.indexCast c10_i32_581
  let c7_i32_582 : BitVec 32 := 7#32
  let v288 : Index := Scalar.indexCast c7_i32_582
  let c0_i32_517 : BitVec 32 := 0#32
  let c0_i32_416 : BitVec 32 := 0#32
  let c1_i32_418 : BitVec 32 := 1#32
  let arg14 : BitVec 32 := Scf.iv c0_i32_416 c1_i32_418 k0_t62
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![10, 7, v289.toNat]
@[reducible] def k0_t63_loop : Scf.Loop 32 :=
  let c0_i32_422 : BitVec 32 := 0#32
  let c8_i32_423 : BitVec 32 := 8#32
  let v177 : BitVec 32 := Scalar.addi c0_i32_422 c8_i32_423
  let c1_i32_424 : BitVec 32 := 1#32
  ⟨c0_i32_422, v177, c1_i32_424⟩
def k0_off361 (k0_t63 : Fin k0_t63_loop.trips) : Fin 1 → Nat :=
  let c1408_i32 : BitVec 32 := 1408#32
  let c0_i32_517 : BitVec 32 := 0#32
  let c0_i32_422 : BitVec 32 := 0#32
  let c1_i32_424 : BitVec 32 := 1#32
  let arg14 : BitVec 32 := Scf.iv c0_i32_422 c1_i32_424 k0_t63
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c1408_i32 v205
  let v209 : Index := Scalar.indexCast v208
  ![v209.toNat]

def k0_chk314 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx314_inb : ∀ (k0_t26 : Fin k0_t26_loop.trips) (v207 : IVec S16 32) (v210 : IVec S16 32) (v211 : IVec S16 32) (k0_hw314 : k0_chk314 k0_t26 v207 v210 v211), ∀ (k0_h3 : k0_cond3 k0_t26 = 1#1), ∀ a x, ((![v210, v211, v207] : Fin 3 → IVec S16 32) a x).toNat < S25x8x128.size a := fun k0_t26 v207 v210 v211 k0_hw314 k0_h3 => k0_hw314 k0_h3

def k0_chk315 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx315_inb : ∀ (k0_t26 : Fin k0_t26_loop.trips) (v207 : IVec S16 32) (v210 : IVec S16 32) (v215 : IVec S16 32) (k0_hw315 : k0_chk315 k0_t26 v207 v210 v215), ∀ (k0_h3 : k0_cond3 k0_t26 = 1#1), ∀ a x, ((![v210, v215, v207] : Fin 3 → IVec S16 32) a x).toNat < S25x8x128.size a := fun k0_t26 v207 v210 v215 k0_hw315 k0_h3 => k0_hw315 k0_h3

def k0_chk316 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx316_inb : ∀ (k0_t26 : Fin k0_t26_loop.trips) (v207 : IVec S16 32) (v210 : IVec S16 32) (v219 : IVec S16 32) (k0_hw316 : k0_chk316 k0_t26 v207 v210 v219), ∀ (k0_h3 : k0_cond3 k0_t26 = 1#1), ∀ a x, ((![v210, v219, v207] : Fin 3 → IVec S16 32) a x).toNat < S25x8x128.size a := fun k0_t26 v207 v210 v219 k0_hw316 k0_h3 => k0_hw316 k0_h3

def k0_chk317 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx317_inb : ∀ (k0_t26 : Fin k0_t26_loop.trips) (v207 : IVec S16 32) (v210 : IVec S16 32) (v223 : IVec S16 32) (k0_hw317 : k0_chk317 k0_t26 v207 v210 v223), ∀ (k0_h3 : k0_cond3 k0_t26 = 1#1), ∀ a x, ((![v210, v223, v207] : Fin 3 → IVec S16 32) a x).toNat < S25x8x128.size a := fun k0_t26 v207 v210 v223 k0_hw317 k0_h3 => k0_hw317 k0_h3

def k0_chk318 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx318_inb : ∀ (k0_t26 : Fin k0_t26_loop.trips) (v207 : IVec S16 32) (v210 : IVec S16 32) (v227 : IVec S16 32) (k0_hw318 : k0_chk318 k0_t26 v207 v210 v227), ∀ (k0_h3 : k0_cond3 k0_t26 = 1#1), ∀ a x, ((![v210, v227, v207] : Fin 3 → IVec S16 32) a x).toNat < S25x8x128.size a := fun k0_t26 v207 v210 v227 k0_hw318 k0_h3 => k0_hw318 k0_h3

def k0_chk319 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx319_inb : ∀ (k0_t26 : Fin k0_t26_loop.trips) (v207 : IVec S16 32) (v210 : IVec S16 32) (v231 : IVec S16 32) (k0_hw319 : k0_chk319 k0_t26 v207 v210 v231), ∀ (k0_h3 : k0_cond3 k0_t26 = 1#1), ∀ a x, ((![v210, v231, v207] : Fin 3 → IVec S16 32) a x).toNat < S25x8x128.size a := fun k0_t26 v207 v210 v231 k0_hw319 k0_h3 => k0_hw319 k0_h3

def k0_chk320 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx320_inb : ∀ (k0_t26 : Fin k0_t26_loop.trips) (v207 : IVec S16 32) (v210 : IVec S16 32) (v235 : IVec S16 32) (k0_hw320 : k0_chk320 k0_t26 v207 v210 v235), ∀ (k0_h3 : k0_cond3 k0_t26 = 1#1), ∀ a x, ((![v210, v235, v207] : Fin 3 → IVec S16 32) a x).toNat < S25x8x128.size a := fun k0_t26 v207 v210 v235 k0_hw320 k0_h3 => k0_hw320 k0_h3

def k0_chk321 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx321_inb : ∀ (k0_t26 : Fin k0_t26_loop.trips) (v207 : IVec S16 32) (v210 : IVec S16 32) (v239 : IVec S16 32) (k0_hw321 : k0_chk321 k0_t26 v207 v210 v239), ∀ (k0_h3 : k0_cond3 k0_t26 = 1#1), ∀ a x, ((![v210, v239, v207] : Fin 3 → IVec S16 32) a x).toNat < S25x8x128.size a := fun k0_t26 v207 v210 v239 k0_hw321 k0_h3 => k0_hw321 k0_h3
def k0_off362 (k0_t63 : Fin k0_t63_loop.trips) : Fin 3 → Nat :=
  let c11_i32 : BitVec 32 := 11#32
  let v245 : Index := Scalar.indexCast c11_i32
  let c0_i32_547 : BitVec 32 := 0#32
  let v246 : Index := Scalar.indexCast c0_i32_547
  let c0_i32_517 : BitVec 32 := 0#32
  let c0_i32_422 : BitVec 32 := 0#32
  let c1_i32_424 : BitVec 32 := 1#32
  let arg14 : BitVec 32 := Scf.iv c0_i32_422 c1_i32_424 k0_t63
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![11, 0, v247.toNat]
def k0_off363 (k0_t63 : Fin k0_t63_loop.trips) : Fin 3 → Nat :=
  let c11_i32_551 : BitVec 32 := 11#32
  let v251 : Index := Scalar.indexCast c11_i32_551
  let c1_i32_552 : BitVec 32 := 1#32
  let v252 : Index := Scalar.indexCast c1_i32_552
  let c0_i32_517 : BitVec 32 := 0#32
  let c0_i32_422 : BitVec 32 := 0#32
  let c1_i32_424 : BitVec 32 := 1#32
  let arg14 : BitVec 32 := Scf.iv c0_i32_422 c1_i32_424 k0_t63
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![11, 1, v253.toNat]
def k0_off364 (k0_t63 : Fin k0_t63_loop.trips) : Fin 3 → Nat :=
  let c11_i32_556 : BitVec 32 := 11#32
  let v257 : Index := Scalar.indexCast c11_i32_556
  let c2_i32_557 : BitVec 32 := 2#32
  let v258 : Index := Scalar.indexCast c2_i32_557
  let c0_i32_517 : BitVec 32 := 0#32
  let c0_i32_422 : BitVec 32 := 0#32
  let c1_i32_424 : BitVec 32 := 1#32
  let arg14 : BitVec 32 := Scf.iv c0_i32_422 c1_i32_424 k0_t63
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![11, 2, v259.toNat]
def k0_off365 (k0_t63 : Fin k0_t63_loop.trips) : Fin 3 → Nat :=
  let c11_i32_561 : BitVec 32 := 11#32
  let v263 : Index := Scalar.indexCast c11_i32_561
  let c3_i32_562 : BitVec 32 := 3#32
  let v264 : Index := Scalar.indexCast c3_i32_562
  let c0_i32_517 : BitVec 32 := 0#32
  let c0_i32_422 : BitVec 32 := 0#32
  let c1_i32_424 : BitVec 32 := 1#32
  let arg14 : BitVec 32 := Scf.iv c0_i32_422 c1_i32_424 k0_t63
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![11, 3, v265.toNat]
def k0_off366 (k0_t63 : Fin k0_t63_loop.trips) : Fin 3 → Nat :=
  let c11_i32_566 : BitVec 32 := 11#32
  let v269 : Index := Scalar.indexCast c11_i32_566
  let c4_i32_567 : BitVec 32 := 4#32
  let v270 : Index := Scalar.indexCast c4_i32_567
  let c0_i32_517 : BitVec 32 := 0#32
  let c0_i32_422 : BitVec 32 := 0#32
  let c1_i32_424 : BitVec 32 := 1#32
  let arg14 : BitVec 32 := Scf.iv c0_i32_422 c1_i32_424 k0_t63
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![11, 4, v271.toNat]
def k0_off367 (k0_t63 : Fin k0_t63_loop.trips) : Fin 3 → Nat :=
  let c11_i32_571 : BitVec 32 := 11#32
  let v275 : Index := Scalar.indexCast c11_i32_571
  let c5_i32_572 : BitVec 32 := 5#32
  let v276 : Index := Scalar.indexCast c5_i32_572
  let c0_i32_517 : BitVec 32 := 0#32
  let c0_i32_422 : BitVec 32 := 0#32
  let c1_i32_424 : BitVec 32 := 1#32
  let arg14 : BitVec 32 := Scf.iv c0_i32_422 c1_i32_424 k0_t63
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![11, 5, v277.toNat]
def k0_off368 (k0_t63 : Fin k0_t63_loop.trips) : Fin 3 → Nat :=
  let c11_i32_576 : BitVec 32 := 11#32
  let v281 : Index := Scalar.indexCast c11_i32_576
  let c6_i32_577 : BitVec 32 := 6#32
  let v282 : Index := Scalar.indexCast c6_i32_577
  let c0_i32_517 : BitVec 32 := 0#32
  let c0_i32_422 : BitVec 32 := 0#32
  let c1_i32_424 : BitVec 32 := 1#32
  let arg14 : BitVec 32 := Scf.iv c0_i32_422 c1_i32_424 k0_t63
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![11, 6, v283.toNat]
def k0_off369 (k0_t63 : Fin k0_t63_loop.trips) : Fin 3 → Nat :=
  let c11_i32_581 : BitVec 32 := 11#32
  let v287 : Index := Scalar.indexCast c11_i32_581
  let c7_i32_582 : BitVec 32 := 7#32
  let v288 : Index := Scalar.indexCast c7_i32_582
  let c0_i32_517 : BitVec 32 := 0#32
  let c0_i32_422 : BitVec 32 := 0#32
  let c1_i32_424 : BitVec 32 := 1#32
  let arg14 : BitVec 32 := Scf.iv c0_i32_422 c1_i32_424 k0_t63
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![11, 7, v289.toNat]
@[reducible] def k0_t64_loop : Scf.Loop 32 :=
  let c0_i32_428 : BitVec 32 := 0#32
  let c8_i32_429 : BitVec 32 := 8#32
  let v178 : BitVec 32 := Scalar.addi c0_i32_428 c8_i32_429
  let c1_i32_430 : BitVec 32 := 1#32
  ⟨c0_i32_428, v178, c1_i32_430⟩
def k0_off370 (k0_t64 : Fin k0_t64_loop.trips) : Fin 1 → Nat :=
  let c1536_i32 : BitVec 32 := 1536#32
  let c0_i32_517 : BitVec 32 := 0#32
  let c0_i32_428 : BitVec 32 := 0#32
  let c1_i32_430 : BitVec 32 := 1#32
  let arg14 : BitVec 32 := Scf.iv c0_i32_428 c1_i32_430 k0_t64
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c1536_i32 v205
  let v209 : Index := Scalar.indexCast v208
  ![v209.toNat]

def k0_chk322 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx322_inb : ∀ (k0_t26 : Fin k0_t26_loop.trips) (v207 : IVec S16 32) (v210 : IVec S16 32) (v211 : IVec S16 32) (k0_hw322 : k0_chk322 k0_t26 v207 v210 v211), ∀ (k0_h3 : k0_cond3 k0_t26 = 1#1), ∀ a x, ((![v210, v211, v207] : Fin 3 → IVec S16 32) a x).toNat < S25x8x128.size a := fun k0_t26 v207 v210 v211 k0_hw322 k0_h3 => k0_hw322 k0_h3

def k0_chk323 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx323_inb : ∀ (k0_t26 : Fin k0_t26_loop.trips) (v207 : IVec S16 32) (v210 : IVec S16 32) (v215 : IVec S16 32) (k0_hw323 : k0_chk323 k0_t26 v207 v210 v215), ∀ (k0_h3 : k0_cond3 k0_t26 = 1#1), ∀ a x, ((![v210, v215, v207] : Fin 3 → IVec S16 32) a x).toNat < S25x8x128.size a := fun k0_t26 v207 v210 v215 k0_hw323 k0_h3 => k0_hw323 k0_h3

def k0_chk324 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx324_inb : ∀ (k0_t26 : Fin k0_t26_loop.trips) (v207 : IVec S16 32) (v210 : IVec S16 32) (v219 : IVec S16 32) (k0_hw324 : k0_chk324 k0_t26 v207 v210 v219), ∀ (k0_h3 : k0_cond3 k0_t26 = 1#1), ∀ a x, ((![v210, v219, v207] : Fin 3 → IVec S16 32) a x).toNat < S25x8x128.size a := fun k0_t26 v207 v210 v219 k0_hw324 k0_h3 => k0_hw324 k0_h3

def k0_chk325 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx325_inb : ∀ (k0_t26 : Fin k0_t26_loop.trips) (v207 : IVec S16 32) (v210 : IVec S16 32) (v223 : IVec S16 32) (k0_hw325 : k0_chk325 k0_t26 v207 v210 v223), ∀ (k0_h3 : k0_cond3 k0_t26 = 1#1), ∀ a x, ((![v210, v223, v207] : Fin 3 → IVec S16 32) a x).toNat < S25x8x128.size a := fun k0_t26 v207 v210 v223 k0_hw325 k0_h3 => k0_hw325 k0_h3

def k0_chk326 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx326_inb : ∀ (k0_t26 : Fin k0_t26_loop.trips) (v207 : IVec S16 32) (v210 : IVec S16 32) (v227 : IVec S16 32) (k0_hw326 : k0_chk326 k0_t26 v207 v210 v227), ∀ (k0_h3 : k0_cond3 k0_t26 = 1#1), ∀ a x, ((![v210, v227, v207] : Fin 3 → IVec S16 32) a x).toNat < S25x8x128.size a := fun k0_t26 v207 v210 v227 k0_hw326 k0_h3 => k0_hw326 k0_h3

def k0_chk327 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx327_inb : ∀ (k0_t26 : Fin k0_t26_loop.trips) (v207 : IVec S16 32) (v210 : IVec S16 32) (v231 : IVec S16 32) (k0_hw327 : k0_chk327 k0_t26 v207 v210 v231), ∀ (k0_h3 : k0_cond3 k0_t26 = 1#1), ∀ a x, ((![v210, v231, v207] : Fin 3 → IVec S16 32) a x).toNat < S25x8x128.size a := fun k0_t26 v207 v210 v231 k0_hw327 k0_h3 => k0_hw327 k0_h3

def k0_chk328 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx328_inb : ∀ (k0_t26 : Fin k0_t26_loop.trips) (v207 : IVec S16 32) (v210 : IVec S16 32) (v235 : IVec S16 32) (k0_hw328 : k0_chk328 k0_t26 v207 v210 v235), ∀ (k0_h3 : k0_cond3 k0_t26 = 1#1), ∀ a x, ((![v210, v235, v207] : Fin 3 → IVec S16 32) a x).toNat < S25x8x128.size a := fun k0_t26 v207 v210 v235 k0_hw328 k0_h3 => k0_hw328 k0_h3

def k0_chk329 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx329_inb : ∀ (k0_t26 : Fin k0_t26_loop.trips) (v207 : IVec S16 32) (v210 : IVec S16 32) (v239 : IVec S16 32) (k0_hw329 : k0_chk329 k0_t26 v207 v210 v239), ∀ (k0_h3 : k0_cond3 k0_t26 = 1#1), ∀ a x, ((![v210, v239, v207] : Fin 3 → IVec S16 32) a x).toNat < S25x8x128.size a := fun k0_t26 v207 v210 v239 k0_hw329 k0_h3 => k0_hw329 k0_h3
def k0_off371 (k0_t64 : Fin k0_t64_loop.trips) : Fin 3 → Nat :=
  let c12_i32_547 : BitVec 32 := 12#32
  let v245 : Index := Scalar.indexCast c12_i32_547
  let c0_i32_548 : BitVec 32 := 0#32
  let v246 : Index := Scalar.indexCast c0_i32_548
  let c0_i32_517 : BitVec 32 := 0#32
  let c0_i32_428 : BitVec 32 := 0#32
  let c1_i32_430 : BitVec 32 := 1#32
  let arg14 : BitVec 32 := Scf.iv c0_i32_428 c1_i32_430 k0_t64
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![12, 0, v247.toNat]
def k0_off372 (k0_t64 : Fin k0_t64_loop.trips) : Fin 3 → Nat :=
  let c12_i32_552 : BitVec 32 := 12#32
  let v251 : Index := Scalar.indexCast c12_i32_552
  let c1_i32_553 : BitVec 32 := 1#32
  let v252 : Index := Scalar.indexCast c1_i32_553
  let c0_i32_517 : BitVec 32 := 0#32
  let c0_i32_428 : BitVec 32 := 0#32
  let c1_i32_430 : BitVec 32 := 1#32
  let arg14 : BitVec 32 := Scf.iv c0_i32_428 c1_i32_430 k0_t64
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![12, 1, v253.toNat]
def k0_off373 (k0_t64 : Fin k0_t64_loop.trips) : Fin 3 → Nat :=
  let c12_i32_557 : BitVec 32 := 12#32
  let v257 : Index := Scalar.indexCast c12_i32_557
  let c2_i32_558 : BitVec 32 := 2#32
  let v258 : Index := Scalar.indexCast c2_i32_558
  let c0_i32_517 : BitVec 32 := 0#32
  let c0_i32_428 : BitVec 32 := 0#32
  let c1_i32_430 : BitVec 32 := 1#32
  let arg14 : BitVec 32 := Scf.iv c0_i32_428 c1_i32_430 k0_t64
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![12, 2, v259.toNat]
def k0_off374 (k0_t64 : Fin k0_t64_loop.trips) : Fin 3 → Nat :=
  let c12_i32_562 : BitVec 32 := 12#32
  let v263 : Index := Scalar.indexCast c12_i32_562
  let c3_i32_563 : BitVec 32 := 3#32
  let v264 : Index := Scalar.indexCast c3_i32_563
  let c0_i32_517 : BitVec 32 := 0#32
  let c0_i32_428 : BitVec 32 := 0#32
  let c1_i32_430 : BitVec 32 := 1#32
  let arg14 : BitVec 32 := Scf.iv c0_i32_428 c1_i32_430 k0_t64
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![12, 3, v265.toNat]
def k0_off375 (k0_t64 : Fin k0_t64_loop.trips) : Fin 3 → Nat :=
  let c12_i32_567 : BitVec 32 := 12#32
  let v269 : Index := Scalar.indexCast c12_i32_567
  let c4_i32_568 : BitVec 32 := 4#32
  let v270 : Index := Scalar.indexCast c4_i32_568
  let c0_i32_517 : BitVec 32 := 0#32
  let c0_i32_428 : BitVec 32 := 0#32
  let c1_i32_430 : BitVec 32 := 1#32
  let arg14 : BitVec 32 := Scf.iv c0_i32_428 c1_i32_430 k0_t64
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![12, 4, v271.toNat]
def k0_off376 (k0_t64 : Fin k0_t64_loop.trips) : Fin 3 → Nat :=
  let c12_i32_572 : BitVec 32 := 12#32
  let v275 : Index := Scalar.indexCast c12_i32_572
  let c5_i32_573 : BitVec 32 := 5#32
  let v276 : Index := Scalar.indexCast c5_i32_573
  let c0_i32_517 : BitVec 32 := 0#32
  let c0_i32_428 : BitVec 32 := 0#32
  let c1_i32_430 : BitVec 32 := 1#32
  let arg14 : BitVec 32 := Scf.iv c0_i32_428 c1_i32_430 k0_t64
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![12, 5, v277.toNat]
def k0_off377 (k0_t64 : Fin k0_t64_loop.trips) : Fin 3 → Nat :=
  let c12_i32_577 : BitVec 32 := 12#32
  let v281 : Index := Scalar.indexCast c12_i32_577
  let c6_i32_578 : BitVec 32 := 6#32
  let v282 : Index := Scalar.indexCast c6_i32_578
  let c0_i32_517 : BitVec 32 := 0#32
  let c0_i32_428 : BitVec 32 := 0#32
  let c1_i32_430 : BitVec 32 := 1#32
  let arg14 : BitVec 32 := Scf.iv c0_i32_428 c1_i32_430 k0_t64
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![12, 6, v283.toNat]
def k0_off378 (k0_t64 : Fin k0_t64_loop.trips) : Fin 3 → Nat :=
  let c12_i32_582 : BitVec 32 := 12#32
  let v287 : Index := Scalar.indexCast c12_i32_582
  let c7_i32_583 : BitVec 32 := 7#32
  let v288 : Index := Scalar.indexCast c7_i32_583
  let c0_i32_517 : BitVec 32 := 0#32
  let c0_i32_428 : BitVec 32 := 0#32
  let c1_i32_430 : BitVec 32 := 1#32
  let arg14 : BitVec 32 := Scf.iv c0_i32_428 c1_i32_430 k0_t64
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![12, 7, v289.toNat]
@[reducible] def k0_t65_loop : Scf.Loop 32 :=
  let c0_i32_434 : BitVec 32 := 0#32
  let c8_i32_435 : BitVec 32 := 8#32
  let v179 : BitVec 32 := Scalar.addi c0_i32_434 c8_i32_435
  let c1_i32_436 : BitVec 32 := 1#32
  ⟨c0_i32_434, v179, c1_i32_436⟩
def k0_off379 (k0_t65 : Fin k0_t65_loop.trips) : Fin 1 → Nat :=
  let c1664_i32 : BitVec 32 := 1664#32
  let c0_i32_517 : BitVec 32 := 0#32
  let c0_i32_434 : BitVec 32 := 0#32
  let c1_i32_436 : BitVec 32 := 1#32
  let arg14 : BitVec 32 := Scf.iv c0_i32_434 c1_i32_436 k0_t65
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c1664_i32 v205
  let v209 : Index := Scalar.indexCast v208
  ![v209.toNat]

def k0_chk330 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx330_inb : ∀ (k0_t26 : Fin k0_t26_loop.trips) (v207 : IVec S16 32) (v210 : IVec S16 32) (v211 : IVec S16 32) (k0_hw330 : k0_chk330 k0_t26 v207 v210 v211), ∀ (k0_h3 : k0_cond3 k0_t26 = 1#1), ∀ a x, ((![v210, v211, v207] : Fin 3 → IVec S16 32) a x).toNat < S25x8x128.size a := fun k0_t26 v207 v210 v211 k0_hw330 k0_h3 => k0_hw330 k0_h3

def k0_chk331 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx331_inb : ∀ (k0_t26 : Fin k0_t26_loop.trips) (v207 : IVec S16 32) (v210 : IVec S16 32) (v215 : IVec S16 32) (k0_hw331 : k0_chk331 k0_t26 v207 v210 v215), ∀ (k0_h3 : k0_cond3 k0_t26 = 1#1), ∀ a x, ((![v210, v215, v207] : Fin 3 → IVec S16 32) a x).toNat < S25x8x128.size a := fun k0_t26 v207 v210 v215 k0_hw331 k0_h3 => k0_hw331 k0_h3

def k0_chk332 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx332_inb : ∀ (k0_t26 : Fin k0_t26_loop.trips) (v207 : IVec S16 32) (v210 : IVec S16 32) (v219 : IVec S16 32) (k0_hw332 : k0_chk332 k0_t26 v207 v210 v219), ∀ (k0_h3 : k0_cond3 k0_t26 = 1#1), ∀ a x, ((![v210, v219, v207] : Fin 3 → IVec S16 32) a x).toNat < S25x8x128.size a := fun k0_t26 v207 v210 v219 k0_hw332 k0_h3 => k0_hw332 k0_h3

def k0_chk333 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx333_inb : ∀ (k0_t26 : Fin k0_t26_loop.trips) (v207 : IVec S16 32) (v210 : IVec S16 32) (v223 : IVec S16 32) (k0_hw333 : k0_chk333 k0_t26 v207 v210 v223), ∀ (k0_h3 : k0_cond3 k0_t26 = 1#1), ∀ a x, ((![v210, v223, v207] : Fin 3 → IVec S16 32) a x).toNat < S25x8x128.size a := fun k0_t26 v207 v210 v223 k0_hw333 k0_h3 => k0_hw333 k0_h3

def k0_chk334 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx334_inb : ∀ (k0_t26 : Fin k0_t26_loop.trips) (v207 : IVec S16 32) (v210 : IVec S16 32) (v227 : IVec S16 32) (k0_hw334 : k0_chk334 k0_t26 v207 v210 v227), ∀ (k0_h3 : k0_cond3 k0_t26 = 1#1), ∀ a x, ((![v210, v227, v207] : Fin 3 → IVec S16 32) a x).toNat < S25x8x128.size a := fun k0_t26 v207 v210 v227 k0_hw334 k0_h3 => k0_hw334 k0_h3

def k0_chk335 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx335_inb : ∀ (k0_t26 : Fin k0_t26_loop.trips) (v207 : IVec S16 32) (v210 : IVec S16 32) (v231 : IVec S16 32) (k0_hw335 : k0_chk335 k0_t26 v207 v210 v231), ∀ (k0_h3 : k0_cond3 k0_t26 = 1#1), ∀ a x, ((![v210, v231, v207] : Fin 3 → IVec S16 32) a x).toNat < S25x8x128.size a := fun k0_t26 v207 v210 v231 k0_hw335 k0_h3 => k0_hw335 k0_h3

def k0_chk336 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx336_inb : ∀ (k0_t26 : Fin k0_t26_loop.trips) (v207 : IVec S16 32) (v210 : IVec S16 32) (v235 : IVec S16 32) (k0_hw336 : k0_chk336 k0_t26 v207 v210 v235), ∀ (k0_h3 : k0_cond3 k0_t26 = 1#1), ∀ a x, ((![v210, v235, v207] : Fin 3 → IVec S16 32) a x).toNat < S25x8x128.size a := fun k0_t26 v207 v210 v235 k0_hw336 k0_h3 => k0_hw336 k0_h3

def k0_chk337 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx337_inb : ∀ (k0_t26 : Fin k0_t26_loop.trips) (v207 : IVec S16 32) (v210 : IVec S16 32) (v239 : IVec S16 32) (k0_hw337 : k0_chk337 k0_t26 v207 v210 v239), ∀ (k0_h3 : k0_cond3 k0_t26 = 1#1), ∀ a x, ((![v210, v239, v207] : Fin 3 → IVec S16 32) a x).toNat < S25x8x128.size a := fun k0_t26 v207 v210 v239 k0_hw337 k0_h3 => k0_hw337 k0_h3
def k0_off380 (k0_t65 : Fin k0_t65_loop.trips) : Fin 3 → Nat :=
  let c13_i32 : BitVec 32 := 13#32
  let v245 : Index := Scalar.indexCast c13_i32
  let c0_i32_547 : BitVec 32 := 0#32
  let v246 : Index := Scalar.indexCast c0_i32_547
  let c0_i32_517 : BitVec 32 := 0#32
  let c0_i32_434 : BitVec 32 := 0#32
  let c1_i32_436 : BitVec 32 := 1#32
  let arg14 : BitVec 32 := Scf.iv c0_i32_434 c1_i32_436 k0_t65
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![13, 0, v247.toNat]
def k0_off381 (k0_t65 : Fin k0_t65_loop.trips) : Fin 3 → Nat :=
  let c13_i32_551 : BitVec 32 := 13#32
  let v251 : Index := Scalar.indexCast c13_i32_551
  let c1_i32_552 : BitVec 32 := 1#32
  let v252 : Index := Scalar.indexCast c1_i32_552
  let c0_i32_517 : BitVec 32 := 0#32
  let c0_i32_434 : BitVec 32 := 0#32
  let c1_i32_436 : BitVec 32 := 1#32
  let arg14 : BitVec 32 := Scf.iv c0_i32_434 c1_i32_436 k0_t65
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![13, 1, v253.toNat]
def k0_off382 (k0_t65 : Fin k0_t65_loop.trips) : Fin 3 → Nat :=
  let c13_i32_556 : BitVec 32 := 13#32
  let v257 : Index := Scalar.indexCast c13_i32_556
  let c2_i32_557 : BitVec 32 := 2#32
  let v258 : Index := Scalar.indexCast c2_i32_557
  let c0_i32_517 : BitVec 32 := 0#32
  let c0_i32_434 : BitVec 32 := 0#32
  let c1_i32_436 : BitVec 32 := 1#32
  let arg14 : BitVec 32 := Scf.iv c0_i32_434 c1_i32_436 k0_t65
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![13, 2, v259.toNat]
def k0_off383 (k0_t65 : Fin k0_t65_loop.trips) : Fin 3 → Nat :=
  let c13_i32_561 : BitVec 32 := 13#32
  let v263 : Index := Scalar.indexCast c13_i32_561
  let c3_i32_562 : BitVec 32 := 3#32
  let v264 : Index := Scalar.indexCast c3_i32_562
  let c0_i32_517 : BitVec 32 := 0#32
  let c0_i32_434 : BitVec 32 := 0#32
  let c1_i32_436 : BitVec 32 := 1#32
  let arg14 : BitVec 32 := Scf.iv c0_i32_434 c1_i32_436 k0_t65
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![13, 3, v265.toNat]
def k0_off384 (k0_t65 : Fin k0_t65_loop.trips) : Fin 3 → Nat :=
  let c13_i32_566 : BitVec 32 := 13#32
  let v269 : Index := Scalar.indexCast c13_i32_566
  let c4_i32_567 : BitVec 32 := 4#32
  let v270 : Index := Scalar.indexCast c4_i32_567
  let c0_i32_517 : BitVec 32 := 0#32
  let c0_i32_434 : BitVec 32 := 0#32
  let c1_i32_436 : BitVec 32 := 1#32
  let arg14 : BitVec 32 := Scf.iv c0_i32_434 c1_i32_436 k0_t65
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![13, 4, v271.toNat]
def k0_off385 (k0_t65 : Fin k0_t65_loop.trips) : Fin 3 → Nat :=
  let c13_i32_571 : BitVec 32 := 13#32
  let v275 : Index := Scalar.indexCast c13_i32_571
  let c5_i32_572 : BitVec 32 := 5#32
  let v276 : Index := Scalar.indexCast c5_i32_572
  let c0_i32_517 : BitVec 32 := 0#32
  let c0_i32_434 : BitVec 32 := 0#32
  let c1_i32_436 : BitVec 32 := 1#32
  let arg14 : BitVec 32 := Scf.iv c0_i32_434 c1_i32_436 k0_t65
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![13, 5, v277.toNat]
def k0_off386 (k0_t65 : Fin k0_t65_loop.trips) : Fin 3 → Nat :=
  let c13_i32_576 : BitVec 32 := 13#32
  let v281 : Index := Scalar.indexCast c13_i32_576
  let c6_i32_577 : BitVec 32 := 6#32
  let v282 : Index := Scalar.indexCast c6_i32_577
  let c0_i32_517 : BitVec 32 := 0#32
  let c0_i32_434 : BitVec 32 := 0#32
  let c1_i32_436 : BitVec 32 := 1#32
  let arg14 : BitVec 32 := Scf.iv c0_i32_434 c1_i32_436 k0_t65
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![13, 6, v283.toNat]
def k0_off387 (k0_t65 : Fin k0_t65_loop.trips) : Fin 3 → Nat :=
  let c13_i32_581 : BitVec 32 := 13#32
  let v287 : Index := Scalar.indexCast c13_i32_581
  let c7_i32_582 : BitVec 32 := 7#32
  let v288 : Index := Scalar.indexCast c7_i32_582
  let c0_i32_517 : BitVec 32 := 0#32
  let c0_i32_434 : BitVec 32 := 0#32
  let c1_i32_436 : BitVec 32 := 1#32
  let arg14 : BitVec 32 := Scf.iv c0_i32_434 c1_i32_436 k0_t65
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![13, 7, v289.toNat]
@[reducible] def k0_t66_loop : Scf.Loop 32 :=
  let c0_i32_440 : BitVec 32 := 0#32
  let c8_i32_441 : BitVec 32 := 8#32
  let v180 : BitVec 32 := Scalar.addi c0_i32_440 c8_i32_441
  let c1_i32_442 : BitVec 32 := 1#32
  ⟨c0_i32_440, v180, c1_i32_442⟩
def k0_off388 (k0_t66 : Fin k0_t66_loop.trips) : Fin 1 → Nat :=
  let c1792_i32 : BitVec 32 := 1792#32
  let c0_i32_517 : BitVec 32 := 0#32
  let c0_i32_440 : BitVec 32 := 0#32
  let c1_i32_442 : BitVec 32 := 1#32
  let arg14 : BitVec 32 := Scf.iv c0_i32_440 c1_i32_442 k0_t66
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c1792_i32 v205
  let v209 : Index := Scalar.indexCast v208
  ![v209.toNat]

def k0_chk338 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx338_inb : ∀ (k0_t26 : Fin k0_t26_loop.trips) (v207 : IVec S16 32) (v210 : IVec S16 32) (v211 : IVec S16 32) (k0_hw338 : k0_chk338 k0_t26 v207 v210 v211), ∀ (k0_h3 : k0_cond3 k0_t26 = 1#1), ∀ a x, ((![v210, v211, v207] : Fin 3 → IVec S16 32) a x).toNat < S25x8x128.size a := fun k0_t26 v207 v210 v211 k0_hw338 k0_h3 => k0_hw338 k0_h3

def k0_chk339 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx339_inb : ∀ (k0_t26 : Fin k0_t26_loop.trips) (v207 : IVec S16 32) (v210 : IVec S16 32) (v215 : IVec S16 32) (k0_hw339 : k0_chk339 k0_t26 v207 v210 v215), ∀ (k0_h3 : k0_cond3 k0_t26 = 1#1), ∀ a x, ((![v210, v215, v207] : Fin 3 → IVec S16 32) a x).toNat < S25x8x128.size a := fun k0_t26 v207 v210 v215 k0_hw339 k0_h3 => k0_hw339 k0_h3

def k0_chk340 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx340_inb : ∀ (k0_t26 : Fin k0_t26_loop.trips) (v207 : IVec S16 32) (v210 : IVec S16 32) (v219 : IVec S16 32) (k0_hw340 : k0_chk340 k0_t26 v207 v210 v219), ∀ (k0_h3 : k0_cond3 k0_t26 = 1#1), ∀ a x, ((![v210, v219, v207] : Fin 3 → IVec S16 32) a x).toNat < S25x8x128.size a := fun k0_t26 v207 v210 v219 k0_hw340 k0_h3 => k0_hw340 k0_h3

def k0_chk341 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx341_inb : ∀ (k0_t26 : Fin k0_t26_loop.trips) (v207 : IVec S16 32) (v210 : IVec S16 32) (v223 : IVec S16 32) (k0_hw341 : k0_chk341 k0_t26 v207 v210 v223), ∀ (k0_h3 : k0_cond3 k0_t26 = 1#1), ∀ a x, ((![v210, v223, v207] : Fin 3 → IVec S16 32) a x).toNat < S25x8x128.size a := fun k0_t26 v207 v210 v223 k0_hw341 k0_h3 => k0_hw341 k0_h3

def k0_chk342 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx342_inb : ∀ (k0_t26 : Fin k0_t26_loop.trips) (v207 : IVec S16 32) (v210 : IVec S16 32) (v227 : IVec S16 32) (k0_hw342 : k0_chk342 k0_t26 v207 v210 v227), ∀ (k0_h3 : k0_cond3 k0_t26 = 1#1), ∀ a x, ((![v210, v227, v207] : Fin 3 → IVec S16 32) a x).toNat < S25x8x128.size a := fun k0_t26 v207 v210 v227 k0_hw342 k0_h3 => k0_hw342 k0_h3

def k0_chk343 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx343_inb : ∀ (k0_t26 : Fin k0_t26_loop.trips) (v207 : IVec S16 32) (v210 : IVec S16 32) (v231 : IVec S16 32) (k0_hw343 : k0_chk343 k0_t26 v207 v210 v231), ∀ (k0_h3 : k0_cond3 k0_t26 = 1#1), ∀ a x, ((![v210, v231, v207] : Fin 3 → IVec S16 32) a x).toNat < S25x8x128.size a := fun k0_t26 v207 v210 v231 k0_hw343 k0_h3 => k0_hw343 k0_h3

def k0_chk344 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx344_inb : ∀ (k0_t26 : Fin k0_t26_loop.trips) (v207 : IVec S16 32) (v210 : IVec S16 32) (v235 : IVec S16 32) (k0_hw344 : k0_chk344 k0_t26 v207 v210 v235), ∀ (k0_h3 : k0_cond3 k0_t26 = 1#1), ∀ a x, ((![v210, v235, v207] : Fin 3 → IVec S16 32) a x).toNat < S25x8x128.size a := fun k0_t26 v207 v210 v235 k0_hw344 k0_h3 => k0_hw344 k0_h3

def k0_chk345 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx345_inb : ∀ (k0_t26 : Fin k0_t26_loop.trips) (v207 : IVec S16 32) (v210 : IVec S16 32) (v239 : IVec S16 32) (k0_hw345 : k0_chk345 k0_t26 v207 v210 v239), ∀ (k0_h3 : k0_cond3 k0_t26 = 1#1), ∀ a x, ((![v210, v239, v207] : Fin 3 → IVec S16 32) a x).toNat < S25x8x128.size a := fun k0_t26 v207 v210 v239 k0_hw345 k0_h3 => k0_hw345 k0_h3
def k0_off389 (k0_t66 : Fin k0_t66_loop.trips) : Fin 3 → Nat :=
  let c14_i32 : BitVec 32 := 14#32
  let v245 : Index := Scalar.indexCast c14_i32
  let c0_i32_547 : BitVec 32 := 0#32
  let v246 : Index := Scalar.indexCast c0_i32_547
  let c0_i32_517 : BitVec 32 := 0#32
  let c0_i32_440 : BitVec 32 := 0#32
  let c1_i32_442 : BitVec 32 := 1#32
  let arg14 : BitVec 32 := Scf.iv c0_i32_440 c1_i32_442 k0_t66
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![14, 0, v247.toNat]
def k0_off390 (k0_t66 : Fin k0_t66_loop.trips) : Fin 3 → Nat :=
  let c14_i32_551 : BitVec 32 := 14#32
  let v251 : Index := Scalar.indexCast c14_i32_551
  let c1_i32_552 : BitVec 32 := 1#32
  let v252 : Index := Scalar.indexCast c1_i32_552
  let c0_i32_517 : BitVec 32 := 0#32
  let c0_i32_440 : BitVec 32 := 0#32
  let c1_i32_442 : BitVec 32 := 1#32
  let arg14 : BitVec 32 := Scf.iv c0_i32_440 c1_i32_442 k0_t66
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![14, 1, v253.toNat]
def k0_off391 (k0_t66 : Fin k0_t66_loop.trips) : Fin 3 → Nat :=
  let c14_i32_556 : BitVec 32 := 14#32
  let v257 : Index := Scalar.indexCast c14_i32_556
  let c2_i32_557 : BitVec 32 := 2#32
  let v258 : Index := Scalar.indexCast c2_i32_557
  let c0_i32_517 : BitVec 32 := 0#32
  let c0_i32_440 : BitVec 32 := 0#32
  let c1_i32_442 : BitVec 32 := 1#32
  let arg14 : BitVec 32 := Scf.iv c0_i32_440 c1_i32_442 k0_t66
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![14, 2, v259.toNat]
def k0_off392 (k0_t66 : Fin k0_t66_loop.trips) : Fin 3 → Nat :=
  let c14_i32_561 : BitVec 32 := 14#32
  let v263 : Index := Scalar.indexCast c14_i32_561
  let c3_i32_562 : BitVec 32 := 3#32
  let v264 : Index := Scalar.indexCast c3_i32_562
  let c0_i32_517 : BitVec 32 := 0#32
  let c0_i32_440 : BitVec 32 := 0#32
  let c1_i32_442 : BitVec 32 := 1#32
  let arg14 : BitVec 32 := Scf.iv c0_i32_440 c1_i32_442 k0_t66
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![14, 3, v265.toNat]
def k0_off393 (k0_t66 : Fin k0_t66_loop.trips) : Fin 3 → Nat :=
  let c14_i32_566 : BitVec 32 := 14#32
  let v269 : Index := Scalar.indexCast c14_i32_566
  let c4_i32_567 : BitVec 32 := 4#32
  let v270 : Index := Scalar.indexCast c4_i32_567
  let c0_i32_517 : BitVec 32 := 0#32
  let c0_i32_440 : BitVec 32 := 0#32
  let c1_i32_442 : BitVec 32 := 1#32
  let arg14 : BitVec 32 := Scf.iv c0_i32_440 c1_i32_442 k0_t66
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![14, 4, v271.toNat]
def k0_off394 (k0_t66 : Fin k0_t66_loop.trips) : Fin 3 → Nat :=
  let c14_i32_571 : BitVec 32 := 14#32
  let v275 : Index := Scalar.indexCast c14_i32_571
  let c5_i32_572 : BitVec 32 := 5#32
  let v276 : Index := Scalar.indexCast c5_i32_572
  let c0_i32_517 : BitVec 32 := 0#32
  let c0_i32_440 : BitVec 32 := 0#32
  let c1_i32_442 : BitVec 32 := 1#32
  let arg14 : BitVec 32 := Scf.iv c0_i32_440 c1_i32_442 k0_t66
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![14, 5, v277.toNat]
def k0_off395 (k0_t66 : Fin k0_t66_loop.trips) : Fin 3 → Nat :=
  let c14_i32_576 : BitVec 32 := 14#32
  let v281 : Index := Scalar.indexCast c14_i32_576
  let c6_i32_577 : BitVec 32 := 6#32
  let v282 : Index := Scalar.indexCast c6_i32_577
  let c0_i32_517 : BitVec 32 := 0#32
  let c0_i32_440 : BitVec 32 := 0#32
  let c1_i32_442 : BitVec 32 := 1#32
  let arg14 : BitVec 32 := Scf.iv c0_i32_440 c1_i32_442 k0_t66
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![14, 6, v283.toNat]
def k0_off396 (k0_t66 : Fin k0_t66_loop.trips) : Fin 3 → Nat :=
  let c14_i32_581 : BitVec 32 := 14#32
  let v287 : Index := Scalar.indexCast c14_i32_581
  let c7_i32_582 : BitVec 32 := 7#32
  let v288 : Index := Scalar.indexCast c7_i32_582
  let c0_i32_517 : BitVec 32 := 0#32
  let c0_i32_440 : BitVec 32 := 0#32
  let c1_i32_442 : BitVec 32 := 1#32
  let arg14 : BitVec 32 := Scf.iv c0_i32_440 c1_i32_442 k0_t66
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![14, 7, v289.toNat]
@[reducible] def k0_t67_loop : Scf.Loop 32 :=
  let c0_i32_446 : BitVec 32 := 0#32
  let c8_i32_447 : BitVec 32 := 8#32
  let v181 : BitVec 32 := Scalar.addi c0_i32_446 c8_i32_447
  let c1_i32_448 : BitVec 32 := 1#32
  ⟨c0_i32_446, v181, c1_i32_448⟩
def k0_off397 (k0_t67 : Fin k0_t67_loop.trips) : Fin 1 → Nat :=
  let c1920_i32 : BitVec 32 := 1920#32
  let c0_i32_517 : BitVec 32 := 0#32
  let c0_i32_446 : BitVec 32 := 0#32
  let c1_i32_448 : BitVec 32 := 1#32
  let arg14 : BitVec 32 := Scf.iv c0_i32_446 c1_i32_448 k0_t67
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c1920_i32 v205
  let v209 : Index := Scalar.indexCast v208
  ![v209.toNat]

def k0_chk346 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx346_inb : ∀ (k0_t26 : Fin k0_t26_loop.trips) (v207 : IVec S16 32) (v210 : IVec S16 32) (v211 : IVec S16 32) (k0_hw346 : k0_chk346 k0_t26 v207 v210 v211), ∀ (k0_h3 : k0_cond3 k0_t26 = 1#1), ∀ a x, ((![v210, v211, v207] : Fin 3 → IVec S16 32) a x).toNat < S25x8x128.size a := fun k0_t26 v207 v210 v211 k0_hw346 k0_h3 => k0_hw346 k0_h3

def k0_chk347 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx347_inb : ∀ (k0_t26 : Fin k0_t26_loop.trips) (v207 : IVec S16 32) (v210 : IVec S16 32) (v215 : IVec S16 32) (k0_hw347 : k0_chk347 k0_t26 v207 v210 v215), ∀ (k0_h3 : k0_cond3 k0_t26 = 1#1), ∀ a x, ((![v210, v215, v207] : Fin 3 → IVec S16 32) a x).toNat < S25x8x128.size a := fun k0_t26 v207 v210 v215 k0_hw347 k0_h3 => k0_hw347 k0_h3

def k0_chk348 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx348_inb : ∀ (k0_t26 : Fin k0_t26_loop.trips) (v207 : IVec S16 32) (v210 : IVec S16 32) (v219 : IVec S16 32) (k0_hw348 : k0_chk348 k0_t26 v207 v210 v219), ∀ (k0_h3 : k0_cond3 k0_t26 = 1#1), ∀ a x, ((![v210, v219, v207] : Fin 3 → IVec S16 32) a x).toNat < S25x8x128.size a := fun k0_t26 v207 v210 v219 k0_hw348 k0_h3 => k0_hw348 k0_h3

def k0_chk349 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx349_inb : ∀ (k0_t26 : Fin k0_t26_loop.trips) (v207 : IVec S16 32) (v210 : IVec S16 32) (v223 : IVec S16 32) (k0_hw349 : k0_chk349 k0_t26 v207 v210 v223), ∀ (k0_h3 : k0_cond3 k0_t26 = 1#1), ∀ a x, ((![v210, v223, v207] : Fin 3 → IVec S16 32) a x).toNat < S25x8x128.size a := fun k0_t26 v207 v210 v223 k0_hw349 k0_h3 => k0_hw349 k0_h3

def k0_chk350 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx350_inb : ∀ (k0_t26 : Fin k0_t26_loop.trips) (v207 : IVec S16 32) (v210 : IVec S16 32) (v227 : IVec S16 32) (k0_hw350 : k0_chk350 k0_t26 v207 v210 v227), ∀ (k0_h3 : k0_cond3 k0_t26 = 1#1), ∀ a x, ((![v210, v227, v207] : Fin 3 → IVec S16 32) a x).toNat < S25x8x128.size a := fun k0_t26 v207 v210 v227 k0_hw350 k0_h3 => k0_hw350 k0_h3

def k0_chk351 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx351_inb : ∀ (k0_t26 : Fin k0_t26_loop.trips) (v207 : IVec S16 32) (v210 : IVec S16 32) (v231 : IVec S16 32) (k0_hw351 : k0_chk351 k0_t26 v207 v210 v231), ∀ (k0_h3 : k0_cond3 k0_t26 = 1#1), ∀ a x, ((![v210, v231, v207] : Fin 3 → IVec S16 32) a x).toNat < S25x8x128.size a := fun k0_t26 v207 v210 v231 k0_hw351 k0_h3 => k0_hw351 k0_h3

def k0_chk352 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx352_inb : ∀ (k0_t26 : Fin k0_t26_loop.trips) (v207 : IVec S16 32) (v210 : IVec S16 32) (v235 : IVec S16 32) (k0_hw352 : k0_chk352 k0_t26 v207 v210 v235), ∀ (k0_h3 : k0_cond3 k0_t26 = 1#1), ∀ a x, ((![v210, v235, v207] : Fin 3 → IVec S16 32) a x).toNat < S25x8x128.size a := fun k0_t26 v207 v210 v235 k0_hw352 k0_h3 => k0_hw352 k0_h3

def k0_chk353 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx353_inb : ∀ (k0_t26 : Fin k0_t26_loop.trips) (v207 : IVec S16 32) (v210 : IVec S16 32) (v239 : IVec S16 32) (k0_hw353 : k0_chk353 k0_t26 v207 v210 v239), ∀ (k0_h3 : k0_cond3 k0_t26 = 1#1), ∀ a x, ((![v210, v239, v207] : Fin 3 → IVec S16 32) a x).toNat < S25x8x128.size a := fun k0_t26 v207 v210 v239 k0_hw353 k0_h3 => k0_hw353 k0_h3
def k0_off398 (k0_t67 : Fin k0_t67_loop.trips) : Fin 3 → Nat :=
  let c15_i32 : BitVec 32 := 15#32
  let v245 : Index := Scalar.indexCast c15_i32
  let c0_i32_547 : BitVec 32 := 0#32
  let v246 : Index := Scalar.indexCast c0_i32_547
  let c0_i32_517 : BitVec 32 := 0#32
  let c0_i32_446 : BitVec 32 := 0#32
  let c1_i32_448 : BitVec 32 := 1#32
  let arg14 : BitVec 32 := Scf.iv c0_i32_446 c1_i32_448 k0_t67
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![15, 0, v247.toNat]
def k0_off399 (k0_t67 : Fin k0_t67_loop.trips) : Fin 3 → Nat :=
  let c15_i32_551 : BitVec 32 := 15#32
  let v251 : Index := Scalar.indexCast c15_i32_551
  let c1_i32_552 : BitVec 32 := 1#32
  let v252 : Index := Scalar.indexCast c1_i32_552
  let c0_i32_517 : BitVec 32 := 0#32
  let c0_i32_446 : BitVec 32 := 0#32
  let c1_i32_448 : BitVec 32 := 1#32
  let arg14 : BitVec 32 := Scf.iv c0_i32_446 c1_i32_448 k0_t67
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![15, 1, v253.toNat]
def k0_off400 (k0_t67 : Fin k0_t67_loop.trips) : Fin 3 → Nat :=
  let c15_i32_556 : BitVec 32 := 15#32
  let v257 : Index := Scalar.indexCast c15_i32_556
  let c2_i32_557 : BitVec 32 := 2#32
  let v258 : Index := Scalar.indexCast c2_i32_557
  let c0_i32_517 : BitVec 32 := 0#32
  let c0_i32_446 : BitVec 32 := 0#32
  let c1_i32_448 : BitVec 32 := 1#32
  let arg14 : BitVec 32 := Scf.iv c0_i32_446 c1_i32_448 k0_t67
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![15, 2, v259.toNat]
def k0_off401 (k0_t67 : Fin k0_t67_loop.trips) : Fin 3 → Nat :=
  let c15_i32_561 : BitVec 32 := 15#32
  let v263 : Index := Scalar.indexCast c15_i32_561
  let c3_i32_562 : BitVec 32 := 3#32
  let v264 : Index := Scalar.indexCast c3_i32_562
  let c0_i32_517 : BitVec 32 := 0#32
  let c0_i32_446 : BitVec 32 := 0#32
  let c1_i32_448 : BitVec 32 := 1#32
  let arg14 : BitVec 32 := Scf.iv c0_i32_446 c1_i32_448 k0_t67
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![15, 3, v265.toNat]
def k0_off402 (k0_t67 : Fin k0_t67_loop.trips) : Fin 3 → Nat :=
  let c15_i32_566 : BitVec 32 := 15#32
  let v269 : Index := Scalar.indexCast c15_i32_566
  let c4_i32_567 : BitVec 32 := 4#32
  let v270 : Index := Scalar.indexCast c4_i32_567
  let c0_i32_517 : BitVec 32 := 0#32
  let c0_i32_446 : BitVec 32 := 0#32
  let c1_i32_448 : BitVec 32 := 1#32
  let arg14 : BitVec 32 := Scf.iv c0_i32_446 c1_i32_448 k0_t67
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![15, 4, v271.toNat]
def k0_off403 (k0_t67 : Fin k0_t67_loop.trips) : Fin 3 → Nat :=
  let c15_i32_571 : BitVec 32 := 15#32
  let v275 : Index := Scalar.indexCast c15_i32_571
  let c5_i32_572 : BitVec 32 := 5#32
  let v276 : Index := Scalar.indexCast c5_i32_572
  let c0_i32_517 : BitVec 32 := 0#32
  let c0_i32_446 : BitVec 32 := 0#32
  let c1_i32_448 : BitVec 32 := 1#32
  let arg14 : BitVec 32 := Scf.iv c0_i32_446 c1_i32_448 k0_t67
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![15, 5, v277.toNat]
def k0_off404 (k0_t67 : Fin k0_t67_loop.trips) : Fin 3 → Nat :=
  let c15_i32_576 : BitVec 32 := 15#32
  let v281 : Index := Scalar.indexCast c15_i32_576
  let c6_i32_577 : BitVec 32 := 6#32
  let v282 : Index := Scalar.indexCast c6_i32_577
  let c0_i32_517 : BitVec 32 := 0#32
  let c0_i32_446 : BitVec 32 := 0#32
  let c1_i32_448 : BitVec 32 := 1#32
  let arg14 : BitVec 32 := Scf.iv c0_i32_446 c1_i32_448 k0_t67
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![15, 6, v283.toNat]
def k0_off405 (k0_t67 : Fin k0_t67_loop.trips) : Fin 3 → Nat :=
  let c15_i32_581 : BitVec 32 := 15#32
  let v287 : Index := Scalar.indexCast c15_i32_581
  let c7_i32_582 : BitVec 32 := 7#32
  let v288 : Index := Scalar.indexCast c7_i32_582
  let c0_i32_517 : BitVec 32 := 0#32
  let c0_i32_446 : BitVec 32 := 0#32
  let c1_i32_448 : BitVec 32 := 1#32
  let arg14 : BitVec 32 := Scf.iv c0_i32_446 c1_i32_448 k0_t67
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![15, 7, v289.toNat]
@[reducible] def k0_t68_loop : Scf.Loop 32 :=
  let c0_i32_452 : BitVec 32 := 0#32
  let c8_i32_453 : BitVec 32 := 8#32
  let v182 : BitVec 32 := Scalar.addi c0_i32_452 c8_i32_453
  let c1_i32_454 : BitVec 32 := 1#32
  ⟨c0_i32_452, v182, c1_i32_454⟩
def k0_off406 (k0_t68 : Fin k0_t68_loop.trips) : Fin 1 → Nat :=
  let c2048_i32 : BitVec 32 := 2048#32
  let c0_i32_517 : BitVec 32 := 0#32
  let c0_i32_452 : BitVec 32 := 0#32
  let c1_i32_454 : BitVec 32 := 1#32
  let arg14 : BitVec 32 := Scf.iv c0_i32_452 c1_i32_454 k0_t68
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c2048_i32 v205
  let v209 : Index := Scalar.indexCast v208
  ![v209.toNat]

def k0_chk354 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx354_inb : ∀ (k0_t26 : Fin k0_t26_loop.trips) (v207 : IVec S16 32) (v210 : IVec S16 32) (v211 : IVec S16 32) (k0_hw354 : k0_chk354 k0_t26 v207 v210 v211), ∀ (k0_h3 : k0_cond3 k0_t26 = 1#1), ∀ a x, ((![v210, v211, v207] : Fin 3 → IVec S16 32) a x).toNat < S25x8x128.size a := fun k0_t26 v207 v210 v211 k0_hw354 k0_h3 => k0_hw354 k0_h3

def k0_chk355 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx355_inb : ∀ (k0_t26 : Fin k0_t26_loop.trips) (v207 : IVec S16 32) (v210 : IVec S16 32) (v215 : IVec S16 32) (k0_hw355 : k0_chk355 k0_t26 v207 v210 v215), ∀ (k0_h3 : k0_cond3 k0_t26 = 1#1), ∀ a x, ((![v210, v215, v207] : Fin 3 → IVec S16 32) a x).toNat < S25x8x128.size a := fun k0_t26 v207 v210 v215 k0_hw355 k0_h3 => k0_hw355 k0_h3

def k0_chk356 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx356_inb : ∀ (k0_t26 : Fin k0_t26_loop.trips) (v207 : IVec S16 32) (v210 : IVec S16 32) (v219 : IVec S16 32) (k0_hw356 : k0_chk356 k0_t26 v207 v210 v219), ∀ (k0_h3 : k0_cond3 k0_t26 = 1#1), ∀ a x, ((![v210, v219, v207] : Fin 3 → IVec S16 32) a x).toNat < S25x8x128.size a := fun k0_t26 v207 v210 v219 k0_hw356 k0_h3 => k0_hw356 k0_h3

def k0_chk357 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx357_inb : ∀ (k0_t26 : Fin k0_t26_loop.trips) (v207 : IVec S16 32) (v210 : IVec S16 32) (v223 : IVec S16 32) (k0_hw357 : k0_chk357 k0_t26 v207 v210 v223), ∀ (k0_h3 : k0_cond3 k0_t26 = 1#1), ∀ a x, ((![v210, v223, v207] : Fin 3 → IVec S16 32) a x).toNat < S25x8x128.size a := fun k0_t26 v207 v210 v223 k0_hw357 k0_h3 => k0_hw357 k0_h3

def k0_chk358 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx358_inb : ∀ (k0_t26 : Fin k0_t26_loop.trips) (v207 : IVec S16 32) (v210 : IVec S16 32) (v227 : IVec S16 32) (k0_hw358 : k0_chk358 k0_t26 v207 v210 v227), ∀ (k0_h3 : k0_cond3 k0_t26 = 1#1), ∀ a x, ((![v210, v227, v207] : Fin 3 → IVec S16 32) a x).toNat < S25x8x128.size a := fun k0_t26 v207 v210 v227 k0_hw358 k0_h3 => k0_hw358 k0_h3

def k0_chk359 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx359_inb : ∀ (k0_t26 : Fin k0_t26_loop.trips) (v207 : IVec S16 32) (v210 : IVec S16 32) (v231 : IVec S16 32) (k0_hw359 : k0_chk359 k0_t26 v207 v210 v231), ∀ (k0_h3 : k0_cond3 k0_t26 = 1#1), ∀ a x, ((![v210, v231, v207] : Fin 3 → IVec S16 32) a x).toNat < S25x8x128.size a := fun k0_t26 v207 v210 v231 k0_hw359 k0_h3 => k0_hw359 k0_h3

def k0_chk360 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx360_inb : ∀ (k0_t26 : Fin k0_t26_loop.trips) (v207 : IVec S16 32) (v210 : IVec S16 32) (v235 : IVec S16 32) (k0_hw360 : k0_chk360 k0_t26 v207 v210 v235), ∀ (k0_h3 : k0_cond3 k0_t26 = 1#1), ∀ a x, ((![v210, v235, v207] : Fin 3 → IVec S16 32) a x).toNat < S25x8x128.size a := fun k0_t26 v207 v210 v235 k0_hw360 k0_h3 => k0_hw360 k0_h3

def k0_chk361 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx361_inb : ∀ (k0_t26 : Fin k0_t26_loop.trips) (v207 : IVec S16 32) (v210 : IVec S16 32) (v239 : IVec S16 32) (k0_hw361 : k0_chk361 k0_t26 v207 v210 v239), ∀ (k0_h3 : k0_cond3 k0_t26 = 1#1), ∀ a x, ((![v210, v239, v207] : Fin 3 → IVec S16 32) a x).toNat < S25x8x128.size a := fun k0_t26 v207 v210 v239 k0_hw361 k0_h3 => k0_hw361 k0_h3
def k0_off407 (k0_t68 : Fin k0_t68_loop.trips) : Fin 3 → Nat :=
  let c16_i32_547 : BitVec 32 := 16#32
  let v245 : Index := Scalar.indexCast c16_i32_547
  let c0_i32_548 : BitVec 32 := 0#32
  let v246 : Index := Scalar.indexCast c0_i32_548
  let c0_i32_517 : BitVec 32 := 0#32
  let c0_i32_452 : BitVec 32 := 0#32
  let c1_i32_454 : BitVec 32 := 1#32
  let arg14 : BitVec 32 := Scf.iv c0_i32_452 c1_i32_454 k0_t68
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![16, 0, v247.toNat]
def k0_off408 (k0_t68 : Fin k0_t68_loop.trips) : Fin 3 → Nat :=
  let c16_i32_552 : BitVec 32 := 16#32
  let v251 : Index := Scalar.indexCast c16_i32_552
  let c1_i32_553 : BitVec 32 := 1#32
  let v252 : Index := Scalar.indexCast c1_i32_553
  let c0_i32_517 : BitVec 32 := 0#32
  let c0_i32_452 : BitVec 32 := 0#32
  let c1_i32_454 : BitVec 32 := 1#32
  let arg14 : BitVec 32 := Scf.iv c0_i32_452 c1_i32_454 k0_t68
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![16, 1, v253.toNat]
def k0_off409 (k0_t68 : Fin k0_t68_loop.trips) : Fin 3 → Nat :=
  let c16_i32_557 : BitVec 32 := 16#32
  let v257 : Index := Scalar.indexCast c16_i32_557
  let c2_i32_558 : BitVec 32 := 2#32
  let v258 : Index := Scalar.indexCast c2_i32_558
  let c0_i32_517 : BitVec 32 := 0#32
  let c0_i32_452 : BitVec 32 := 0#32
  let c1_i32_454 : BitVec 32 := 1#32
  let arg14 : BitVec 32 := Scf.iv c0_i32_452 c1_i32_454 k0_t68
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![16, 2, v259.toNat]
def k0_off410 (k0_t68 : Fin k0_t68_loop.trips) : Fin 3 → Nat :=
  let c16_i32_562 : BitVec 32 := 16#32
  let v263 : Index := Scalar.indexCast c16_i32_562
  let c3_i32_563 : BitVec 32 := 3#32
  let v264 : Index := Scalar.indexCast c3_i32_563
  let c0_i32_517 : BitVec 32 := 0#32
  let c0_i32_452 : BitVec 32 := 0#32
  let c1_i32_454 : BitVec 32 := 1#32
  let arg14 : BitVec 32 := Scf.iv c0_i32_452 c1_i32_454 k0_t68
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![16, 3, v265.toNat]
def k0_off411 (k0_t68 : Fin k0_t68_loop.trips) : Fin 3 → Nat :=
  let c16_i32_567 : BitVec 32 := 16#32
  let v269 : Index := Scalar.indexCast c16_i32_567
  let c4_i32_568 : BitVec 32 := 4#32
  let v270 : Index := Scalar.indexCast c4_i32_568
  let c0_i32_517 : BitVec 32 := 0#32
  let c0_i32_452 : BitVec 32 := 0#32
  let c1_i32_454 : BitVec 32 := 1#32
  let arg14 : BitVec 32 := Scf.iv c0_i32_452 c1_i32_454 k0_t68
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![16, 4, v271.toNat]
def k0_off412 (k0_t68 : Fin k0_t68_loop.trips) : Fin 3 → Nat :=
  let c16_i32_572 : BitVec 32 := 16#32
  let v275 : Index := Scalar.indexCast c16_i32_572
  let c5_i32_573 : BitVec 32 := 5#32
  let v276 : Index := Scalar.indexCast c5_i32_573
  let c0_i32_517 : BitVec 32 := 0#32
  let c0_i32_452 : BitVec 32 := 0#32
  let c1_i32_454 : BitVec 32 := 1#32
  let arg14 : BitVec 32 := Scf.iv c0_i32_452 c1_i32_454 k0_t68
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![16, 5, v277.toNat]
def k0_off413 (k0_t68 : Fin k0_t68_loop.trips) : Fin 3 → Nat :=
  let c16_i32_577 : BitVec 32 := 16#32
  let v281 : Index := Scalar.indexCast c16_i32_577
  let c6_i32_578 : BitVec 32 := 6#32
  let v282 : Index := Scalar.indexCast c6_i32_578
  let c0_i32_517 : BitVec 32 := 0#32
  let c0_i32_452 : BitVec 32 := 0#32
  let c1_i32_454 : BitVec 32 := 1#32
  let arg14 : BitVec 32 := Scf.iv c0_i32_452 c1_i32_454 k0_t68
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![16, 6, v283.toNat]
def k0_off414 (k0_t68 : Fin k0_t68_loop.trips) : Fin 3 → Nat :=
  let c16_i32_582 : BitVec 32 := 16#32
  let v287 : Index := Scalar.indexCast c16_i32_582
  let c7_i32_583 : BitVec 32 := 7#32
  let v288 : Index := Scalar.indexCast c7_i32_583
  let c0_i32_517 : BitVec 32 := 0#32
  let c0_i32_452 : BitVec 32 := 0#32
  let c1_i32_454 : BitVec 32 := 1#32
  let arg14 : BitVec 32 := Scf.iv c0_i32_452 c1_i32_454 k0_t68
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![16, 7, v289.toNat]
@[reducible] def k0_t69_loop : Scf.Loop 32 :=
  let c0_i32_458 : BitVec 32 := 0#32
  let c8_i32_459 : BitVec 32 := 8#32
  let v183 : BitVec 32 := Scalar.addi c0_i32_458 c8_i32_459
  let c1_i32_460 : BitVec 32 := 1#32
  ⟨c0_i32_458, v183, c1_i32_460⟩
def k0_off415 (k0_t69 : Fin k0_t69_loop.trips) : Fin 1 → Nat :=
  let c2176_i32 : BitVec 32 := 2176#32
  let c0_i32_517 : BitVec 32 := 0#32
  let c0_i32_458 : BitVec 32 := 0#32
  let c1_i32_460 : BitVec 32 := 1#32
  let arg14 : BitVec 32 := Scf.iv c0_i32_458 c1_i32_460 k0_t69
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c2176_i32 v205
  let v209 : Index := Scalar.indexCast v208
  ![v209.toNat]

def k0_chk362 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx362_inb : ∀ (k0_t26 : Fin k0_t26_loop.trips) (v207 : IVec S16 32) (v210 : IVec S16 32) (v211 : IVec S16 32) (k0_hw362 : k0_chk362 k0_t26 v207 v210 v211), ∀ (k0_h3 : k0_cond3 k0_t26 = 1#1), ∀ a x, ((![v210, v211, v207] : Fin 3 → IVec S16 32) a x).toNat < S25x8x128.size a := fun k0_t26 v207 v210 v211 k0_hw362 k0_h3 => k0_hw362 k0_h3

def k0_chk363 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx363_inb : ∀ (k0_t26 : Fin k0_t26_loop.trips) (v207 : IVec S16 32) (v210 : IVec S16 32) (v215 : IVec S16 32) (k0_hw363 : k0_chk363 k0_t26 v207 v210 v215), ∀ (k0_h3 : k0_cond3 k0_t26 = 1#1), ∀ a x, ((![v210, v215, v207] : Fin 3 → IVec S16 32) a x).toNat < S25x8x128.size a := fun k0_t26 v207 v210 v215 k0_hw363 k0_h3 => k0_hw363 k0_h3

def k0_chk364 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx364_inb : ∀ (k0_t26 : Fin k0_t26_loop.trips) (v207 : IVec S16 32) (v210 : IVec S16 32) (v219 : IVec S16 32) (k0_hw364 : k0_chk364 k0_t26 v207 v210 v219), ∀ (k0_h3 : k0_cond3 k0_t26 = 1#1), ∀ a x, ((![v210, v219, v207] : Fin 3 → IVec S16 32) a x).toNat < S25x8x128.size a := fun k0_t26 v207 v210 v219 k0_hw364 k0_h3 => k0_hw364 k0_h3

def k0_chk365 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx365_inb : ∀ (k0_t26 : Fin k0_t26_loop.trips) (v207 : IVec S16 32) (v210 : IVec S16 32) (v223 : IVec S16 32) (k0_hw365 : k0_chk365 k0_t26 v207 v210 v223), ∀ (k0_h3 : k0_cond3 k0_t26 = 1#1), ∀ a x, ((![v210, v223, v207] : Fin 3 → IVec S16 32) a x).toNat < S25x8x128.size a := fun k0_t26 v207 v210 v223 k0_hw365 k0_h3 => k0_hw365 k0_h3

def k0_chk366 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx366_inb : ∀ (k0_t26 : Fin k0_t26_loop.trips) (v207 : IVec S16 32) (v210 : IVec S16 32) (v227 : IVec S16 32) (k0_hw366 : k0_chk366 k0_t26 v207 v210 v227), ∀ (k0_h3 : k0_cond3 k0_t26 = 1#1), ∀ a x, ((![v210, v227, v207] : Fin 3 → IVec S16 32) a x).toNat < S25x8x128.size a := fun k0_t26 v207 v210 v227 k0_hw366 k0_h3 => k0_hw366 k0_h3

def k0_chk367 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx367_inb : ∀ (k0_t26 : Fin k0_t26_loop.trips) (v207 : IVec S16 32) (v210 : IVec S16 32) (v231 : IVec S16 32) (k0_hw367 : k0_chk367 k0_t26 v207 v210 v231), ∀ (k0_h3 : k0_cond3 k0_t26 = 1#1), ∀ a x, ((![v210, v231, v207] : Fin 3 → IVec S16 32) a x).toNat < S25x8x128.size a := fun k0_t26 v207 v210 v231 k0_hw367 k0_h3 => k0_hw367 k0_h3

def k0_chk368 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx368_inb : ∀ (k0_t26 : Fin k0_t26_loop.trips) (v207 : IVec S16 32) (v210 : IVec S16 32) (v235 : IVec S16 32) (k0_hw368 : k0_chk368 k0_t26 v207 v210 v235), ∀ (k0_h3 : k0_cond3 k0_t26 = 1#1), ∀ a x, ((![v210, v235, v207] : Fin 3 → IVec S16 32) a x).toNat < S25x8x128.size a := fun k0_t26 v207 v210 v235 k0_hw368 k0_h3 => k0_hw368 k0_h3

def k0_chk369 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx369_inb : ∀ (k0_t26 : Fin k0_t26_loop.trips) (v207 : IVec S16 32) (v210 : IVec S16 32) (v239 : IVec S16 32) (k0_hw369 : k0_chk369 k0_t26 v207 v210 v239), ∀ (k0_h3 : k0_cond3 k0_t26 = 1#1), ∀ a x, ((![v210, v239, v207] : Fin 3 → IVec S16 32) a x).toNat < S25x8x128.size a := fun k0_t26 v207 v210 v239 k0_hw369 k0_h3 => k0_hw369 k0_h3
def k0_off416 (k0_t69 : Fin k0_t69_loop.trips) : Fin 3 → Nat :=
  let c17_i32 : BitVec 32 := 17#32
  let v245 : Index := Scalar.indexCast c17_i32
  let c0_i32_547 : BitVec 32 := 0#32
  let v246 : Index := Scalar.indexCast c0_i32_547
  let c0_i32_517 : BitVec 32 := 0#32
  let c0_i32_458 : BitVec 32 := 0#32
  let c1_i32_460 : BitVec 32 := 1#32
  let arg14 : BitVec 32 := Scf.iv c0_i32_458 c1_i32_460 k0_t69
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![17, 0, v247.toNat]
def k0_off417 (k0_t69 : Fin k0_t69_loop.trips) : Fin 3 → Nat :=
  let c17_i32_551 : BitVec 32 := 17#32
  let v251 : Index := Scalar.indexCast c17_i32_551
  let c1_i32_552 : BitVec 32 := 1#32
  let v252 : Index := Scalar.indexCast c1_i32_552
  let c0_i32_517 : BitVec 32 := 0#32
  let c0_i32_458 : BitVec 32 := 0#32
  let c1_i32_460 : BitVec 32 := 1#32
  let arg14 : BitVec 32 := Scf.iv c0_i32_458 c1_i32_460 k0_t69
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![17, 1, v253.toNat]
def k0_off418 (k0_t69 : Fin k0_t69_loop.trips) : Fin 3 → Nat :=
  let c17_i32_556 : BitVec 32 := 17#32
  let v257 : Index := Scalar.indexCast c17_i32_556
  let c2_i32_557 : BitVec 32 := 2#32
  let v258 : Index := Scalar.indexCast c2_i32_557
  let c0_i32_517 : BitVec 32 := 0#32
  let c0_i32_458 : BitVec 32 := 0#32
  let c1_i32_460 : BitVec 32 := 1#32
  let arg14 : BitVec 32 := Scf.iv c0_i32_458 c1_i32_460 k0_t69
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![17, 2, v259.toNat]
def k0_off419 (k0_t69 : Fin k0_t69_loop.trips) : Fin 3 → Nat :=
  let c17_i32_561 : BitVec 32 := 17#32
  let v263 : Index := Scalar.indexCast c17_i32_561
  let c3_i32_562 : BitVec 32 := 3#32
  let v264 : Index := Scalar.indexCast c3_i32_562
  let c0_i32_517 : BitVec 32 := 0#32
  let c0_i32_458 : BitVec 32 := 0#32
  let c1_i32_460 : BitVec 32 := 1#32
  let arg14 : BitVec 32 := Scf.iv c0_i32_458 c1_i32_460 k0_t69
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![17, 3, v265.toNat]
def k0_off420 (k0_t69 : Fin k0_t69_loop.trips) : Fin 3 → Nat :=
  let c17_i32_566 : BitVec 32 := 17#32
  let v269 : Index := Scalar.indexCast c17_i32_566
  let c4_i32_567 : BitVec 32 := 4#32
  let v270 : Index := Scalar.indexCast c4_i32_567
  let c0_i32_517 : BitVec 32 := 0#32
  let c0_i32_458 : BitVec 32 := 0#32
  let c1_i32_460 : BitVec 32 := 1#32
  let arg14 : BitVec 32 := Scf.iv c0_i32_458 c1_i32_460 k0_t69
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![17, 4, v271.toNat]
def k0_off421 (k0_t69 : Fin k0_t69_loop.trips) : Fin 3 → Nat :=
  let c17_i32_571 : BitVec 32 := 17#32
  let v275 : Index := Scalar.indexCast c17_i32_571
  let c5_i32_572 : BitVec 32 := 5#32
  let v276 : Index := Scalar.indexCast c5_i32_572
  let c0_i32_517 : BitVec 32 := 0#32
  let c0_i32_458 : BitVec 32 := 0#32
  let c1_i32_460 : BitVec 32 := 1#32
  let arg14 : BitVec 32 := Scf.iv c0_i32_458 c1_i32_460 k0_t69
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![17, 5, v277.toNat]
def k0_off422 (k0_t69 : Fin k0_t69_loop.trips) : Fin 3 → Nat :=
  let c17_i32_576 : BitVec 32 := 17#32
  let v281 : Index := Scalar.indexCast c17_i32_576
  let c6_i32_577 : BitVec 32 := 6#32
  let v282 : Index := Scalar.indexCast c6_i32_577
  let c0_i32_517 : BitVec 32 := 0#32
  let c0_i32_458 : BitVec 32 := 0#32
  let c1_i32_460 : BitVec 32 := 1#32
  let arg14 : BitVec 32 := Scf.iv c0_i32_458 c1_i32_460 k0_t69
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![17, 6, v283.toNat]
def k0_off423 (k0_t69 : Fin k0_t69_loop.trips) : Fin 3 → Nat :=
  let c17_i32_581 : BitVec 32 := 17#32
  let v287 : Index := Scalar.indexCast c17_i32_581
  let c7_i32_582 : BitVec 32 := 7#32
  let v288 : Index := Scalar.indexCast c7_i32_582
  let c0_i32_517 : BitVec 32 := 0#32
  let c0_i32_458 : BitVec 32 := 0#32
  let c1_i32_460 : BitVec 32 := 1#32
  let arg14 : BitVec 32 := Scf.iv c0_i32_458 c1_i32_460 k0_t69
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![17, 7, v289.toNat]
@[reducible] def k0_t70_loop : Scf.Loop 32 :=
  let c0_i32_464 : BitVec 32 := 0#32
  let c8_i32_465 : BitVec 32 := 8#32
  let v184 : BitVec 32 := Scalar.addi c0_i32_464 c8_i32_465
  let c1_i32_466 : BitVec 32 := 1#32
  ⟨c0_i32_464, v184, c1_i32_466⟩
def k0_off424 (k0_t70 : Fin k0_t70_loop.trips) : Fin 1 → Nat :=
  let c2304_i32 : BitVec 32 := 2304#32
  let c0_i32_517 : BitVec 32 := 0#32
  let c0_i32_464 : BitVec 32 := 0#32
  let c1_i32_466 : BitVec 32 := 1#32
  let arg14 : BitVec 32 := Scf.iv c0_i32_464 c1_i32_466 k0_t70
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c2304_i32 v205
  let v209 : Index := Scalar.indexCast v208
  ![v209.toNat]

def k0_chk370 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx370_inb : ∀ (k0_t26 : Fin k0_t26_loop.trips) (v207 : IVec S16 32) (v210 : IVec S16 32) (v211 : IVec S16 32) (k0_hw370 : k0_chk370 k0_t26 v207 v210 v211), ∀ (k0_h3 : k0_cond3 k0_t26 = 1#1), ∀ a x, ((![v210, v211, v207] : Fin 3 → IVec S16 32) a x).toNat < S25x8x128.size a := fun k0_t26 v207 v210 v211 k0_hw370 k0_h3 => k0_hw370 k0_h3

def k0_chk371 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx371_inb : ∀ (k0_t26 : Fin k0_t26_loop.trips) (v207 : IVec S16 32) (v210 : IVec S16 32) (v215 : IVec S16 32) (k0_hw371 : k0_chk371 k0_t26 v207 v210 v215), ∀ (k0_h3 : k0_cond3 k0_t26 = 1#1), ∀ a x, ((![v210, v215, v207] : Fin 3 → IVec S16 32) a x).toNat < S25x8x128.size a := fun k0_t26 v207 v210 v215 k0_hw371 k0_h3 => k0_hw371 k0_h3

def k0_chk372 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx372_inb : ∀ (k0_t26 : Fin k0_t26_loop.trips) (v207 : IVec S16 32) (v210 : IVec S16 32) (v219 : IVec S16 32) (k0_hw372 : k0_chk372 k0_t26 v207 v210 v219), ∀ (k0_h3 : k0_cond3 k0_t26 = 1#1), ∀ a x, ((![v210, v219, v207] : Fin 3 → IVec S16 32) a x).toNat < S25x8x128.size a := fun k0_t26 v207 v210 v219 k0_hw372 k0_h3 => k0_hw372 k0_h3

def k0_chk373 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx373_inb : ∀ (k0_t26 : Fin k0_t26_loop.trips) (v207 : IVec S16 32) (v210 : IVec S16 32) (v223 : IVec S16 32) (k0_hw373 : k0_chk373 k0_t26 v207 v210 v223), ∀ (k0_h3 : k0_cond3 k0_t26 = 1#1), ∀ a x, ((![v210, v223, v207] : Fin 3 → IVec S16 32) a x).toNat < S25x8x128.size a := fun k0_t26 v207 v210 v223 k0_hw373 k0_h3 => k0_hw373 k0_h3

def k0_chk374 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx374_inb : ∀ (k0_t26 : Fin k0_t26_loop.trips) (v207 : IVec S16 32) (v210 : IVec S16 32) (v227 : IVec S16 32) (k0_hw374 : k0_chk374 k0_t26 v207 v210 v227), ∀ (k0_h3 : k0_cond3 k0_t26 = 1#1), ∀ a x, ((![v210, v227, v207] : Fin 3 → IVec S16 32) a x).toNat < S25x8x128.size a := fun k0_t26 v207 v210 v227 k0_hw374 k0_h3 => k0_hw374 k0_h3

def k0_chk375 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx375_inb : ∀ (k0_t26 : Fin k0_t26_loop.trips) (v207 : IVec S16 32) (v210 : IVec S16 32) (v231 : IVec S16 32) (k0_hw375 : k0_chk375 k0_t26 v207 v210 v231), ∀ (k0_h3 : k0_cond3 k0_t26 = 1#1), ∀ a x, ((![v210, v231, v207] : Fin 3 → IVec S16 32) a x).toNat < S25x8x128.size a := fun k0_t26 v207 v210 v231 k0_hw375 k0_h3 => k0_hw375 k0_h3

def k0_chk376 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx376_inb : ∀ (k0_t26 : Fin k0_t26_loop.trips) (v207 : IVec S16 32) (v210 : IVec S16 32) (v235 : IVec S16 32) (k0_hw376 : k0_chk376 k0_t26 v207 v210 v235), ∀ (k0_h3 : k0_cond3 k0_t26 = 1#1), ∀ a x, ((![v210, v235, v207] : Fin 3 → IVec S16 32) a x).toNat < S25x8x128.size a := fun k0_t26 v207 v210 v235 k0_hw376 k0_h3 => k0_hw376 k0_h3

def k0_chk377 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx377_inb : ∀ (k0_t26 : Fin k0_t26_loop.trips) (v207 : IVec S16 32) (v210 : IVec S16 32) (v239 : IVec S16 32) (k0_hw377 : k0_chk377 k0_t26 v207 v210 v239), ∀ (k0_h3 : k0_cond3 k0_t26 = 1#1), ∀ a x, ((![v210, v239, v207] : Fin 3 → IVec S16 32) a x).toNat < S25x8x128.size a := fun k0_t26 v207 v210 v239 k0_hw377 k0_h3 => k0_hw377 k0_h3
def k0_off425 (k0_t70 : Fin k0_t70_loop.trips) : Fin 3 → Nat :=
  let c18_i32 : BitVec 32 := 18#32
  let v245 : Index := Scalar.indexCast c18_i32
  let c0_i32_547 : BitVec 32 := 0#32
  let v246 : Index := Scalar.indexCast c0_i32_547
  let c0_i32_517 : BitVec 32 := 0#32
  let c0_i32_464 : BitVec 32 := 0#32
  let c1_i32_466 : BitVec 32 := 1#32
  let arg14 : BitVec 32 := Scf.iv c0_i32_464 c1_i32_466 k0_t70
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![18, 0, v247.toNat]
def k0_off426 (k0_t70 : Fin k0_t70_loop.trips) : Fin 3 → Nat :=
  let c18_i32_551 : BitVec 32 := 18#32
  let v251 : Index := Scalar.indexCast c18_i32_551
  let c1_i32_552 : BitVec 32 := 1#32
  let v252 : Index := Scalar.indexCast c1_i32_552
  let c0_i32_517 : BitVec 32 := 0#32
  let c0_i32_464 : BitVec 32 := 0#32
  let c1_i32_466 : BitVec 32 := 1#32
  let arg14 : BitVec 32 := Scf.iv c0_i32_464 c1_i32_466 k0_t70
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![18, 1, v253.toNat]
def k0_off427 (k0_t70 : Fin k0_t70_loop.trips) : Fin 3 → Nat :=
  let c18_i32_556 : BitVec 32 := 18#32
  let v257 : Index := Scalar.indexCast c18_i32_556
  let c2_i32_557 : BitVec 32 := 2#32
  let v258 : Index := Scalar.indexCast c2_i32_557
  let c0_i32_517 : BitVec 32 := 0#32
  let c0_i32_464 : BitVec 32 := 0#32
  let c1_i32_466 : BitVec 32 := 1#32
  let arg14 : BitVec 32 := Scf.iv c0_i32_464 c1_i32_466 k0_t70
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![18, 2, v259.toNat]
def k0_off428 (k0_t70 : Fin k0_t70_loop.trips) : Fin 3 → Nat :=
  let c18_i32_561 : BitVec 32 := 18#32
  let v263 : Index := Scalar.indexCast c18_i32_561
  let c3_i32_562 : BitVec 32 := 3#32
  let v264 : Index := Scalar.indexCast c3_i32_562
  let c0_i32_517 : BitVec 32 := 0#32
  let c0_i32_464 : BitVec 32 := 0#32
  let c1_i32_466 : BitVec 32 := 1#32
  let arg14 : BitVec 32 := Scf.iv c0_i32_464 c1_i32_466 k0_t70
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![18, 3, v265.toNat]
def k0_off429 (k0_t70 : Fin k0_t70_loop.trips) : Fin 3 → Nat :=
  let c18_i32_566 : BitVec 32 := 18#32
  let v269 : Index := Scalar.indexCast c18_i32_566
  let c4_i32_567 : BitVec 32 := 4#32
  let v270 : Index := Scalar.indexCast c4_i32_567
  let c0_i32_517 : BitVec 32 := 0#32
  let c0_i32_464 : BitVec 32 := 0#32
  let c1_i32_466 : BitVec 32 := 1#32
  let arg14 : BitVec 32 := Scf.iv c0_i32_464 c1_i32_466 k0_t70
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![18, 4, v271.toNat]
def k0_off430 (k0_t70 : Fin k0_t70_loop.trips) : Fin 3 → Nat :=
  let c18_i32_571 : BitVec 32 := 18#32
  let v275 : Index := Scalar.indexCast c18_i32_571
  let c5_i32_572 : BitVec 32 := 5#32
  let v276 : Index := Scalar.indexCast c5_i32_572
  let c0_i32_517 : BitVec 32 := 0#32
  let c0_i32_464 : BitVec 32 := 0#32
  let c1_i32_466 : BitVec 32 := 1#32
  let arg14 : BitVec 32 := Scf.iv c0_i32_464 c1_i32_466 k0_t70
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![18, 5, v277.toNat]
def k0_off431 (k0_t70 : Fin k0_t70_loop.trips) : Fin 3 → Nat :=
  let c18_i32_576 : BitVec 32 := 18#32
  let v281 : Index := Scalar.indexCast c18_i32_576
  let c6_i32_577 : BitVec 32 := 6#32
  let v282 : Index := Scalar.indexCast c6_i32_577
  let c0_i32_517 : BitVec 32 := 0#32
  let c0_i32_464 : BitVec 32 := 0#32
  let c1_i32_466 : BitVec 32 := 1#32
  let arg14 : BitVec 32 := Scf.iv c0_i32_464 c1_i32_466 k0_t70
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![18, 6, v283.toNat]
def k0_off432 (k0_t70 : Fin k0_t70_loop.trips) : Fin 3 → Nat :=
  let c18_i32_581 : BitVec 32 := 18#32
  let v287 : Index := Scalar.indexCast c18_i32_581
  let c7_i32_582 : BitVec 32 := 7#32
  let v288 : Index := Scalar.indexCast c7_i32_582
  let c0_i32_517 : BitVec 32 := 0#32
  let c0_i32_464 : BitVec 32 := 0#32
  let c1_i32_466 : BitVec 32 := 1#32
  let arg14 : BitVec 32 := Scf.iv c0_i32_464 c1_i32_466 k0_t70
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![18, 7, v289.toNat]
@[reducible] def k0_t71_loop : Scf.Loop 32 :=
  let c0_i32_470 : BitVec 32 := 0#32
  let c8_i32_471 : BitVec 32 := 8#32
  let v185 : BitVec 32 := Scalar.addi c0_i32_470 c8_i32_471
  let c1_i32_472 : BitVec 32 := 1#32
  ⟨c0_i32_470, v185, c1_i32_472⟩
def k0_off433 (k0_t71 : Fin k0_t71_loop.trips) : Fin 1 → Nat :=
  let c2432_i32 : BitVec 32 := 2432#32
  let c0_i32_517 : BitVec 32 := 0#32
  let c0_i32_470 : BitVec 32 := 0#32
  let c1_i32_472 : BitVec 32 := 1#32
  let arg14 : BitVec 32 := Scf.iv c0_i32_470 c1_i32_472 k0_t71
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c2432_i32 v205
  let v209 : Index := Scalar.indexCast v208
  ![v209.toNat]

def k0_chk378 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx378_inb : ∀ (k0_t26 : Fin k0_t26_loop.trips) (v207 : IVec S16 32) (v210 : IVec S16 32) (v211 : IVec S16 32) (k0_hw378 : k0_chk378 k0_t26 v207 v210 v211), ∀ (k0_h3 : k0_cond3 k0_t26 = 1#1), ∀ a x, ((![v210, v211, v207] : Fin 3 → IVec S16 32) a x).toNat < S25x8x128.size a := fun k0_t26 v207 v210 v211 k0_hw378 k0_h3 => k0_hw378 k0_h3

def k0_chk379 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx379_inb : ∀ (k0_t26 : Fin k0_t26_loop.trips) (v207 : IVec S16 32) (v210 : IVec S16 32) (v215 : IVec S16 32) (k0_hw379 : k0_chk379 k0_t26 v207 v210 v215), ∀ (k0_h3 : k0_cond3 k0_t26 = 1#1), ∀ a x, ((![v210, v215, v207] : Fin 3 → IVec S16 32) a x).toNat < S25x8x128.size a := fun k0_t26 v207 v210 v215 k0_hw379 k0_h3 => k0_hw379 k0_h3

def k0_chk380 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx380_inb : ∀ (k0_t26 : Fin k0_t26_loop.trips) (v207 : IVec S16 32) (v210 : IVec S16 32) (v219 : IVec S16 32) (k0_hw380 : k0_chk380 k0_t26 v207 v210 v219), ∀ (k0_h3 : k0_cond3 k0_t26 = 1#1), ∀ a x, ((![v210, v219, v207] : Fin 3 → IVec S16 32) a x).toNat < S25x8x128.size a := fun k0_t26 v207 v210 v219 k0_hw380 k0_h3 => k0_hw380 k0_h3

def k0_chk381 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx381_inb : ∀ (k0_t26 : Fin k0_t26_loop.trips) (v207 : IVec S16 32) (v210 : IVec S16 32) (v223 : IVec S16 32) (k0_hw381 : k0_chk381 k0_t26 v207 v210 v223), ∀ (k0_h3 : k0_cond3 k0_t26 = 1#1), ∀ a x, ((![v210, v223, v207] : Fin 3 → IVec S16 32) a x).toNat < S25x8x128.size a := fun k0_t26 v207 v210 v223 k0_hw381 k0_h3 => k0_hw381 k0_h3

def k0_chk382 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx382_inb : ∀ (k0_t26 : Fin k0_t26_loop.trips) (v207 : IVec S16 32) (v210 : IVec S16 32) (v227 : IVec S16 32) (k0_hw382 : k0_chk382 k0_t26 v207 v210 v227), ∀ (k0_h3 : k0_cond3 k0_t26 = 1#1), ∀ a x, ((![v210, v227, v207] : Fin 3 → IVec S16 32) a x).toNat < S25x8x128.size a := fun k0_t26 v207 v210 v227 k0_hw382 k0_h3 => k0_hw382 k0_h3

def k0_chk383 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx383_inb : ∀ (k0_t26 : Fin k0_t26_loop.trips) (v207 : IVec S16 32) (v210 : IVec S16 32) (v231 : IVec S16 32) (k0_hw383 : k0_chk383 k0_t26 v207 v210 v231), ∀ (k0_h3 : k0_cond3 k0_t26 = 1#1), ∀ a x, ((![v210, v231, v207] : Fin 3 → IVec S16 32) a x).toNat < S25x8x128.size a := fun k0_t26 v207 v210 v231 k0_hw383 k0_h3 => k0_hw383 k0_h3

def k0_chk384 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx384_inb : ∀ (k0_t26 : Fin k0_t26_loop.trips) (v207 : IVec S16 32) (v210 : IVec S16 32) (v235 : IVec S16 32) (k0_hw384 : k0_chk384 k0_t26 v207 v210 v235), ∀ (k0_h3 : k0_cond3 k0_t26 = 1#1), ∀ a x, ((![v210, v235, v207] : Fin 3 → IVec S16 32) a x).toNat < S25x8x128.size a := fun k0_t26 v207 v210 v235 k0_hw384 k0_h3 => k0_hw384 k0_h3

def k0_chk385 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx385_inb : ∀ (k0_t26 : Fin k0_t26_loop.trips) (v207 : IVec S16 32) (v210 : IVec S16 32) (v239 : IVec S16 32) (k0_hw385 : k0_chk385 k0_t26 v207 v210 v239), ∀ (k0_h3 : k0_cond3 k0_t26 = 1#1), ∀ a x, ((![v210, v239, v207] : Fin 3 → IVec S16 32) a x).toNat < S25x8x128.size a := fun k0_t26 v207 v210 v239 k0_hw385 k0_h3 => k0_hw385 k0_h3
def k0_off434 (k0_t71 : Fin k0_t71_loop.trips) : Fin 3 → Nat :=
  let c19_i32 : BitVec 32 := 19#32
  let v245 : Index := Scalar.indexCast c19_i32
  let c0_i32_547 : BitVec 32 := 0#32
  let v246 : Index := Scalar.indexCast c0_i32_547
  let c0_i32_517 : BitVec 32 := 0#32
  let c0_i32_470 : BitVec 32 := 0#32
  let c1_i32_472 : BitVec 32 := 1#32
  let arg14 : BitVec 32 := Scf.iv c0_i32_470 c1_i32_472 k0_t71
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![19, 0, v247.toNat]
def k0_off435 (k0_t71 : Fin k0_t71_loop.trips) : Fin 3 → Nat :=
  let c19_i32_551 : BitVec 32 := 19#32
  let v251 : Index := Scalar.indexCast c19_i32_551
  let c1_i32_552 : BitVec 32 := 1#32
  let v252 : Index := Scalar.indexCast c1_i32_552
  let c0_i32_517 : BitVec 32 := 0#32
  let c0_i32_470 : BitVec 32 := 0#32
  let c1_i32_472 : BitVec 32 := 1#32
  let arg14 : BitVec 32 := Scf.iv c0_i32_470 c1_i32_472 k0_t71
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![19, 1, v253.toNat]
def k0_off436 (k0_t71 : Fin k0_t71_loop.trips) : Fin 3 → Nat :=
  let c19_i32_556 : BitVec 32 := 19#32
  let v257 : Index := Scalar.indexCast c19_i32_556
  let c2_i32_557 : BitVec 32 := 2#32
  let v258 : Index := Scalar.indexCast c2_i32_557
  let c0_i32_517 : BitVec 32 := 0#32
  let c0_i32_470 : BitVec 32 := 0#32
  let c1_i32_472 : BitVec 32 := 1#32
  let arg14 : BitVec 32 := Scf.iv c0_i32_470 c1_i32_472 k0_t71
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![19, 2, v259.toNat]
def k0_off437 (k0_t71 : Fin k0_t71_loop.trips) : Fin 3 → Nat :=
  let c19_i32_561 : BitVec 32 := 19#32
  let v263 : Index := Scalar.indexCast c19_i32_561
  let c3_i32_562 : BitVec 32 := 3#32
  let v264 : Index := Scalar.indexCast c3_i32_562
  let c0_i32_517 : BitVec 32 := 0#32
  let c0_i32_470 : BitVec 32 := 0#32
  let c1_i32_472 : BitVec 32 := 1#32
  let arg14 : BitVec 32 := Scf.iv c0_i32_470 c1_i32_472 k0_t71
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![19, 3, v265.toNat]
def k0_off438 (k0_t71 : Fin k0_t71_loop.trips) : Fin 3 → Nat :=
  let c19_i32_566 : BitVec 32 := 19#32
  let v269 : Index := Scalar.indexCast c19_i32_566
  let c4_i32_567 : BitVec 32 := 4#32
  let v270 : Index := Scalar.indexCast c4_i32_567
  let c0_i32_517 : BitVec 32 := 0#32
  let c0_i32_470 : BitVec 32 := 0#32
  let c1_i32_472 : BitVec 32 := 1#32
  let arg14 : BitVec 32 := Scf.iv c0_i32_470 c1_i32_472 k0_t71
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![19, 4, v271.toNat]
def k0_off439 (k0_t71 : Fin k0_t71_loop.trips) : Fin 3 → Nat :=
  let c19_i32_571 : BitVec 32 := 19#32
  let v275 : Index := Scalar.indexCast c19_i32_571
  let c5_i32_572 : BitVec 32 := 5#32
  let v276 : Index := Scalar.indexCast c5_i32_572
  let c0_i32_517 : BitVec 32 := 0#32
  let c0_i32_470 : BitVec 32 := 0#32
  let c1_i32_472 : BitVec 32 := 1#32
  let arg14 : BitVec 32 := Scf.iv c0_i32_470 c1_i32_472 k0_t71
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![19, 5, v277.toNat]
def k0_off440 (k0_t71 : Fin k0_t71_loop.trips) : Fin 3 → Nat :=
  let c19_i32_576 : BitVec 32 := 19#32
  let v281 : Index := Scalar.indexCast c19_i32_576
  let c6_i32_577 : BitVec 32 := 6#32
  let v282 : Index := Scalar.indexCast c6_i32_577
  let c0_i32_517 : BitVec 32 := 0#32
  let c0_i32_470 : BitVec 32 := 0#32
  let c1_i32_472 : BitVec 32 := 1#32
  let arg14 : BitVec 32 := Scf.iv c0_i32_470 c1_i32_472 k0_t71
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![19, 6, v283.toNat]
def k0_off441 (k0_t71 : Fin k0_t71_loop.trips) : Fin 3 → Nat :=
  let c19_i32_581 : BitVec 32 := 19#32
  let v287 : Index := Scalar.indexCast c19_i32_581
  let c7_i32_582 : BitVec 32 := 7#32
  let v288 : Index := Scalar.indexCast c7_i32_582
  let c0_i32_517 : BitVec 32 := 0#32
  let c0_i32_470 : BitVec 32 := 0#32
  let c1_i32_472 : BitVec 32 := 1#32
  let arg14 : BitVec 32 := Scf.iv c0_i32_470 c1_i32_472 k0_t71
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![19, 7, v289.toNat]
@[reducible] def k0_t72_loop : Scf.Loop 32 :=
  let c0_i32_476 : BitVec 32 := 0#32
  let c8_i32_477 : BitVec 32 := 8#32
  let v186 : BitVec 32 := Scalar.addi c0_i32_476 c8_i32_477
  let c1_i32_478 : BitVec 32 := 1#32
  ⟨c0_i32_476, v186, c1_i32_478⟩
def k0_off442 (k0_t72 : Fin k0_t72_loop.trips) : Fin 1 → Nat :=
  let c2560_i32 : BitVec 32 := 2560#32
  let c0_i32_517 : BitVec 32 := 0#32
  let c0_i32_476 : BitVec 32 := 0#32
  let c1_i32_478 : BitVec 32 := 1#32
  let arg14 : BitVec 32 := Scf.iv c0_i32_476 c1_i32_478 k0_t72
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c2560_i32 v205
  let v209 : Index := Scalar.indexCast v208
  ![v209.toNat]

def k0_chk386 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx386_inb : ∀ (k0_t26 : Fin k0_t26_loop.trips) (v207 : IVec S16 32) (v210 : IVec S16 32) (v211 : IVec S16 32) (k0_hw386 : k0_chk386 k0_t26 v207 v210 v211), ∀ (k0_h3 : k0_cond3 k0_t26 = 1#1), ∀ a x, ((![v210, v211, v207] : Fin 3 → IVec S16 32) a x).toNat < S25x8x128.size a := fun k0_t26 v207 v210 v211 k0_hw386 k0_h3 => k0_hw386 k0_h3

def k0_chk387 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx387_inb : ∀ (k0_t26 : Fin k0_t26_loop.trips) (v207 : IVec S16 32) (v210 : IVec S16 32) (v215 : IVec S16 32) (k0_hw387 : k0_chk387 k0_t26 v207 v210 v215), ∀ (k0_h3 : k0_cond3 k0_t26 = 1#1), ∀ a x, ((![v210, v215, v207] : Fin 3 → IVec S16 32) a x).toNat < S25x8x128.size a := fun k0_t26 v207 v210 v215 k0_hw387 k0_h3 => k0_hw387 k0_h3

def k0_chk388 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx388_inb : ∀ (k0_t26 : Fin k0_t26_loop.trips) (v207 : IVec S16 32) (v210 : IVec S16 32) (v219 : IVec S16 32) (k0_hw388 : k0_chk388 k0_t26 v207 v210 v219), ∀ (k0_h3 : k0_cond3 k0_t26 = 1#1), ∀ a x, ((![v210, v219, v207] : Fin 3 → IVec S16 32) a x).toNat < S25x8x128.size a := fun k0_t26 v207 v210 v219 k0_hw388 k0_h3 => k0_hw388 k0_h3

def k0_chk389 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx389_inb : ∀ (k0_t26 : Fin k0_t26_loop.trips) (v207 : IVec S16 32) (v210 : IVec S16 32) (v223 : IVec S16 32) (k0_hw389 : k0_chk389 k0_t26 v207 v210 v223), ∀ (k0_h3 : k0_cond3 k0_t26 = 1#1), ∀ a x, ((![v210, v223, v207] : Fin 3 → IVec S16 32) a x).toNat < S25x8x128.size a := fun k0_t26 v207 v210 v223 k0_hw389 k0_h3 => k0_hw389 k0_h3

def k0_chk390 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx390_inb : ∀ (k0_t26 : Fin k0_t26_loop.trips) (v207 : IVec S16 32) (v210 : IVec S16 32) (v227 : IVec S16 32) (k0_hw390 : k0_chk390 k0_t26 v207 v210 v227), ∀ (k0_h3 : k0_cond3 k0_t26 = 1#1), ∀ a x, ((![v210, v227, v207] : Fin 3 → IVec S16 32) a x).toNat < S25x8x128.size a := fun k0_t26 v207 v210 v227 k0_hw390 k0_h3 => k0_hw390 k0_h3

def k0_chk391 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx391_inb : ∀ (k0_t26 : Fin k0_t26_loop.trips) (v207 : IVec S16 32) (v210 : IVec S16 32) (v231 : IVec S16 32) (k0_hw391 : k0_chk391 k0_t26 v207 v210 v231), ∀ (k0_h3 : k0_cond3 k0_t26 = 1#1), ∀ a x, ((![v210, v231, v207] : Fin 3 → IVec S16 32) a x).toNat < S25x8x128.size a := fun k0_t26 v207 v210 v231 k0_hw391 k0_h3 => k0_hw391 k0_h3

def k0_chk392 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx392_inb : ∀ (k0_t26 : Fin k0_t26_loop.trips) (v207 : IVec S16 32) (v210 : IVec S16 32) (v235 : IVec S16 32) (k0_hw392 : k0_chk392 k0_t26 v207 v210 v235), ∀ (k0_h3 : k0_cond3 k0_t26 = 1#1), ∀ a x, ((![v210, v235, v207] : Fin 3 → IVec S16 32) a x).toNat < S25x8x128.size a := fun k0_t26 v207 v210 v235 k0_hw392 k0_h3 => k0_hw392 k0_h3

def k0_chk393 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx393_inb : ∀ (k0_t26 : Fin k0_t26_loop.trips) (v207 : IVec S16 32) (v210 : IVec S16 32) (v239 : IVec S16 32) (k0_hw393 : k0_chk393 k0_t26 v207 v210 v239), ∀ (k0_h3 : k0_cond3 k0_t26 = 1#1), ∀ a x, ((![v210, v239, v207] : Fin 3 → IVec S16 32) a x).toNat < S25x8x128.size a := fun k0_t26 v207 v210 v239 k0_hw393 k0_h3 => k0_hw393 k0_h3
def k0_off443 (k0_t72 : Fin k0_t72_loop.trips) : Fin 3 → Nat :=
  let c20_i32 : BitVec 32 := 20#32
  let v245 : Index := Scalar.indexCast c20_i32
  let c0_i32_547 : BitVec 32 := 0#32
  let v246 : Index := Scalar.indexCast c0_i32_547
  let c0_i32_517 : BitVec 32 := 0#32
  let c0_i32_476 : BitVec 32 := 0#32
  let c1_i32_478 : BitVec 32 := 1#32
  let arg14 : BitVec 32 := Scf.iv c0_i32_476 c1_i32_478 k0_t72
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![20, 0, v247.toNat]
def k0_off444 (k0_t72 : Fin k0_t72_loop.trips) : Fin 3 → Nat :=
  let c20_i32_551 : BitVec 32 := 20#32
  let v251 : Index := Scalar.indexCast c20_i32_551
  let c1_i32_552 : BitVec 32 := 1#32
  let v252 : Index := Scalar.indexCast c1_i32_552
  let c0_i32_517 : BitVec 32 := 0#32
  let c0_i32_476 : BitVec 32 := 0#32
  let c1_i32_478 : BitVec 32 := 1#32
  let arg14 : BitVec 32 := Scf.iv c0_i32_476 c1_i32_478 k0_t72
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![20, 1, v253.toNat]
def k0_off445 (k0_t72 : Fin k0_t72_loop.trips) : Fin 3 → Nat :=
  let c20_i32_556 : BitVec 32 := 20#32
  let v257 : Index := Scalar.indexCast c20_i32_556
  let c2_i32_557 : BitVec 32 := 2#32
  let v258 : Index := Scalar.indexCast c2_i32_557
  let c0_i32_517 : BitVec 32 := 0#32
  let c0_i32_476 : BitVec 32 := 0#32
  let c1_i32_478 : BitVec 32 := 1#32
  let arg14 : BitVec 32 := Scf.iv c0_i32_476 c1_i32_478 k0_t72
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![20, 2, v259.toNat]
def k0_off446 (k0_t72 : Fin k0_t72_loop.trips) : Fin 3 → Nat :=
  let c20_i32_561 : BitVec 32 := 20#32
  let v263 : Index := Scalar.indexCast c20_i32_561
  let c3_i32_562 : BitVec 32 := 3#32
  let v264 : Index := Scalar.indexCast c3_i32_562
  let c0_i32_517 : BitVec 32 := 0#32
  let c0_i32_476 : BitVec 32 := 0#32
  let c1_i32_478 : BitVec 32 := 1#32
  let arg14 : BitVec 32 := Scf.iv c0_i32_476 c1_i32_478 k0_t72
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![20, 3, v265.toNat]
def k0_off447 (k0_t72 : Fin k0_t72_loop.trips) : Fin 3 → Nat :=
  let c20_i32_566 : BitVec 32 := 20#32
  let v269 : Index := Scalar.indexCast c20_i32_566
  let c4_i32_567 : BitVec 32 := 4#32
  let v270 : Index := Scalar.indexCast c4_i32_567
  let c0_i32_517 : BitVec 32 := 0#32
  let c0_i32_476 : BitVec 32 := 0#32
  let c1_i32_478 : BitVec 32 := 1#32
  let arg14 : BitVec 32 := Scf.iv c0_i32_476 c1_i32_478 k0_t72
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![20, 4, v271.toNat]
def k0_off448 (k0_t72 : Fin k0_t72_loop.trips) : Fin 3 → Nat :=
  let c20_i32_571 : BitVec 32 := 20#32
  let v275 : Index := Scalar.indexCast c20_i32_571
  let c5_i32_572 : BitVec 32 := 5#32
  let v276 : Index := Scalar.indexCast c5_i32_572
  let c0_i32_517 : BitVec 32 := 0#32
  let c0_i32_476 : BitVec 32 := 0#32
  let c1_i32_478 : BitVec 32 := 1#32
  let arg14 : BitVec 32 := Scf.iv c0_i32_476 c1_i32_478 k0_t72
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![20, 5, v277.toNat]
def k0_off449 (k0_t72 : Fin k0_t72_loop.trips) : Fin 3 → Nat :=
  let c20_i32_576 : BitVec 32 := 20#32
  let v281 : Index := Scalar.indexCast c20_i32_576
  let c6_i32_577 : BitVec 32 := 6#32
  let v282 : Index := Scalar.indexCast c6_i32_577
  let c0_i32_517 : BitVec 32 := 0#32
  let c0_i32_476 : BitVec 32 := 0#32
  let c1_i32_478 : BitVec 32 := 1#32
  let arg14 : BitVec 32 := Scf.iv c0_i32_476 c1_i32_478 k0_t72
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![20, 6, v283.toNat]
def k0_off450 (k0_t72 : Fin k0_t72_loop.trips) : Fin 3 → Nat :=
  let c20_i32_581 : BitVec 32 := 20#32
  let v287 : Index := Scalar.indexCast c20_i32_581
  let c7_i32_582 : BitVec 32 := 7#32
  let v288 : Index := Scalar.indexCast c7_i32_582
  let c0_i32_517 : BitVec 32 := 0#32
  let c0_i32_476 : BitVec 32 := 0#32
  let c1_i32_478 : BitVec 32 := 1#32
  let arg14 : BitVec 32 := Scf.iv c0_i32_476 c1_i32_478 k0_t72
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![20, 7, v289.toNat]
@[reducible] def k0_t73_loop : Scf.Loop 32 :=
  let c0_i32_482 : BitVec 32 := 0#32
  let c8_i32_483 : BitVec 32 := 8#32
  let v187 : BitVec 32 := Scalar.addi c0_i32_482 c8_i32_483
  let c1_i32_484 : BitVec 32 := 1#32
  ⟨c0_i32_482, v187, c1_i32_484⟩
def k0_off451 (k0_t73 : Fin k0_t73_loop.trips) : Fin 1 → Nat :=
  let c2688_i32 : BitVec 32 := 2688#32
  let c0_i32_517 : BitVec 32 := 0#32
  let c0_i32_482 : BitVec 32 := 0#32
  let c1_i32_484 : BitVec 32 := 1#32
  let arg14 : BitVec 32 := Scf.iv c0_i32_482 c1_i32_484 k0_t73
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c2688_i32 v205
  let v209 : Index := Scalar.indexCast v208
  ![v209.toNat]

def k0_chk394 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx394_inb : ∀ (k0_t26 : Fin k0_t26_loop.trips) (v207 : IVec S16 32) (v210 : IVec S16 32) (v211 : IVec S16 32) (k0_hw394 : k0_chk394 k0_t26 v207 v210 v211), ∀ (k0_h3 : k0_cond3 k0_t26 = 1#1), ∀ a x, ((![v210, v211, v207] : Fin 3 → IVec S16 32) a x).toNat < S25x8x128.size a := fun k0_t26 v207 v210 v211 k0_hw394 k0_h3 => k0_hw394 k0_h3

def k0_chk395 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx395_inb : ∀ (k0_t26 : Fin k0_t26_loop.trips) (v207 : IVec S16 32) (v210 : IVec S16 32) (v215 : IVec S16 32) (k0_hw395 : k0_chk395 k0_t26 v207 v210 v215), ∀ (k0_h3 : k0_cond3 k0_t26 = 1#1), ∀ a x, ((![v210, v215, v207] : Fin 3 → IVec S16 32) a x).toNat < S25x8x128.size a := fun k0_t26 v207 v210 v215 k0_hw395 k0_h3 => k0_hw395 k0_h3

def k0_chk396 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx396_inb : ∀ (k0_t26 : Fin k0_t26_loop.trips) (v207 : IVec S16 32) (v210 : IVec S16 32) (v219 : IVec S16 32) (k0_hw396 : k0_chk396 k0_t26 v207 v210 v219), ∀ (k0_h3 : k0_cond3 k0_t26 = 1#1), ∀ a x, ((![v210, v219, v207] : Fin 3 → IVec S16 32) a x).toNat < S25x8x128.size a := fun k0_t26 v207 v210 v219 k0_hw396 k0_h3 => k0_hw396 k0_h3

def k0_chk397 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx397_inb : ∀ (k0_t26 : Fin k0_t26_loop.trips) (v207 : IVec S16 32) (v210 : IVec S16 32) (v223 : IVec S16 32) (k0_hw397 : k0_chk397 k0_t26 v207 v210 v223), ∀ (k0_h3 : k0_cond3 k0_t26 = 1#1), ∀ a x, ((![v210, v223, v207] : Fin 3 → IVec S16 32) a x).toNat < S25x8x128.size a := fun k0_t26 v207 v210 v223 k0_hw397 k0_h3 => k0_hw397 k0_h3

def k0_chk398 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx398_inb : ∀ (k0_t26 : Fin k0_t26_loop.trips) (v207 : IVec S16 32) (v210 : IVec S16 32) (v227 : IVec S16 32) (k0_hw398 : k0_chk398 k0_t26 v207 v210 v227), ∀ (k0_h3 : k0_cond3 k0_t26 = 1#1), ∀ a x, ((![v210, v227, v207] : Fin 3 → IVec S16 32) a x).toNat < S25x8x128.size a := fun k0_t26 v207 v210 v227 k0_hw398 k0_h3 => k0_hw398 k0_h3

def k0_chk399 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx399_inb : ∀ (k0_t26 : Fin k0_t26_loop.trips) (v207 : IVec S16 32) (v210 : IVec S16 32) (v231 : IVec S16 32) (k0_hw399 : k0_chk399 k0_t26 v207 v210 v231), ∀ (k0_h3 : k0_cond3 k0_t26 = 1#1), ∀ a x, ((![v210, v231, v207] : Fin 3 → IVec S16 32) a x).toNat < S25x8x128.size a := fun k0_t26 v207 v210 v231 k0_hw399 k0_h3 => k0_hw399 k0_h3

def k0_chk400 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx400_inb : ∀ (k0_t26 : Fin k0_t26_loop.trips) (v207 : IVec S16 32) (v210 : IVec S16 32) (v235 : IVec S16 32) (k0_hw400 : k0_chk400 k0_t26 v207 v210 v235), ∀ (k0_h3 : k0_cond3 k0_t26 = 1#1), ∀ a x, ((![v210, v235, v207] : Fin 3 → IVec S16 32) a x).toNat < S25x8x128.size a := fun k0_t26 v207 v210 v235 k0_hw400 k0_h3 => k0_hw400 k0_h3

def k0_chk401 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx401_inb : ∀ (k0_t26 : Fin k0_t26_loop.trips) (v207 : IVec S16 32) (v210 : IVec S16 32) (v239 : IVec S16 32) (k0_hw401 : k0_chk401 k0_t26 v207 v210 v239), ∀ (k0_h3 : k0_cond3 k0_t26 = 1#1), ∀ a x, ((![v210, v239, v207] : Fin 3 → IVec S16 32) a x).toNat < S25x8x128.size a := fun k0_t26 v207 v210 v239 k0_hw401 k0_h3 => k0_hw401 k0_h3
def k0_off452 (k0_t73 : Fin k0_t73_loop.trips) : Fin 3 → Nat :=
  let c21_i32 : BitVec 32 := 21#32
  let v245 : Index := Scalar.indexCast c21_i32
  let c0_i32_547 : BitVec 32 := 0#32
  let v246 : Index := Scalar.indexCast c0_i32_547
  let c0_i32_517 : BitVec 32 := 0#32
  let c0_i32_482 : BitVec 32 := 0#32
  let c1_i32_484 : BitVec 32 := 1#32
  let arg14 : BitVec 32 := Scf.iv c0_i32_482 c1_i32_484 k0_t73
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![21, 0, v247.toNat]
def k0_off453 (k0_t73 : Fin k0_t73_loop.trips) : Fin 3 → Nat :=
  let c21_i32_551 : BitVec 32 := 21#32
  let v251 : Index := Scalar.indexCast c21_i32_551
  let c1_i32_552 : BitVec 32 := 1#32
  let v252 : Index := Scalar.indexCast c1_i32_552
  let c0_i32_517 : BitVec 32 := 0#32
  let c0_i32_482 : BitVec 32 := 0#32
  let c1_i32_484 : BitVec 32 := 1#32
  let arg14 : BitVec 32 := Scf.iv c0_i32_482 c1_i32_484 k0_t73
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![21, 1, v253.toNat]
def k0_off454 (k0_t73 : Fin k0_t73_loop.trips) : Fin 3 → Nat :=
  let c21_i32_556 : BitVec 32 := 21#32
  let v257 : Index := Scalar.indexCast c21_i32_556
  let c2_i32_557 : BitVec 32 := 2#32
  let v258 : Index := Scalar.indexCast c2_i32_557
  let c0_i32_517 : BitVec 32 := 0#32
  let c0_i32_482 : BitVec 32 := 0#32
  let c1_i32_484 : BitVec 32 := 1#32
  let arg14 : BitVec 32 := Scf.iv c0_i32_482 c1_i32_484 k0_t73
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![21, 2, v259.toNat]
def k0_off455 (k0_t73 : Fin k0_t73_loop.trips) : Fin 3 → Nat :=
  let c21_i32_561 : BitVec 32 := 21#32
  let v263 : Index := Scalar.indexCast c21_i32_561
  let c3_i32_562 : BitVec 32 := 3#32
  let v264 : Index := Scalar.indexCast c3_i32_562
  let c0_i32_517 : BitVec 32 := 0#32
  let c0_i32_482 : BitVec 32 := 0#32
  let c1_i32_484 : BitVec 32 := 1#32
  let arg14 : BitVec 32 := Scf.iv c0_i32_482 c1_i32_484 k0_t73
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![21, 3, v265.toNat]
def k0_off456 (k0_t73 : Fin k0_t73_loop.trips) : Fin 3 → Nat :=
  let c21_i32_566 : BitVec 32 := 21#32
  let v269 : Index := Scalar.indexCast c21_i32_566
  let c4_i32_567 : BitVec 32 := 4#32
  let v270 : Index := Scalar.indexCast c4_i32_567
  let c0_i32_517 : BitVec 32 := 0#32
  let c0_i32_482 : BitVec 32 := 0#32
  let c1_i32_484 : BitVec 32 := 1#32
  let arg14 : BitVec 32 := Scf.iv c0_i32_482 c1_i32_484 k0_t73
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![21, 4, v271.toNat]
def k0_off457 (k0_t73 : Fin k0_t73_loop.trips) : Fin 3 → Nat :=
  let c21_i32_571 : BitVec 32 := 21#32
  let v275 : Index := Scalar.indexCast c21_i32_571
  let c5_i32_572 : BitVec 32 := 5#32
  let v276 : Index := Scalar.indexCast c5_i32_572
  let c0_i32_517 : BitVec 32 := 0#32
  let c0_i32_482 : BitVec 32 := 0#32
  let c1_i32_484 : BitVec 32 := 1#32
  let arg14 : BitVec 32 := Scf.iv c0_i32_482 c1_i32_484 k0_t73
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![21, 5, v277.toNat]
def k0_off458 (k0_t73 : Fin k0_t73_loop.trips) : Fin 3 → Nat :=
  let c21_i32_576 : BitVec 32 := 21#32
  let v281 : Index := Scalar.indexCast c21_i32_576
  let c6_i32_577 : BitVec 32 := 6#32
  let v282 : Index := Scalar.indexCast c6_i32_577
  let c0_i32_517 : BitVec 32 := 0#32
  let c0_i32_482 : BitVec 32 := 0#32
  let c1_i32_484 : BitVec 32 := 1#32
  let arg14 : BitVec 32 := Scf.iv c0_i32_482 c1_i32_484 k0_t73
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![21, 6, v283.toNat]
def k0_off459 (k0_t73 : Fin k0_t73_loop.trips) : Fin 3 → Nat :=
  let c21_i32_581 : BitVec 32 := 21#32
  let v287 : Index := Scalar.indexCast c21_i32_581
  let c7_i32_582 : BitVec 32 := 7#32
  let v288 : Index := Scalar.indexCast c7_i32_582
  let c0_i32_517 : BitVec 32 := 0#32
  let c0_i32_482 : BitVec 32 := 0#32
  let c1_i32_484 : BitVec 32 := 1#32
  let arg14 : BitVec 32 := Scf.iv c0_i32_482 c1_i32_484 k0_t73
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![21, 7, v289.toNat]
@[reducible] def k0_t74_loop : Scf.Loop 32 :=
  let c0_i32_488 : BitVec 32 := 0#32
  let c8_i32_489 : BitVec 32 := 8#32
  let v188 : BitVec 32 := Scalar.addi c0_i32_488 c8_i32_489
  let c1_i32_490 : BitVec 32 := 1#32
  ⟨c0_i32_488, v188, c1_i32_490⟩
def k0_off460 (k0_t74 : Fin k0_t74_loop.trips) : Fin 1 → Nat :=
  let c2816_i32 : BitVec 32 := 2816#32
  let c0_i32_517 : BitVec 32 := 0#32
  let c0_i32_488 : BitVec 32 := 0#32
  let c1_i32_490 : BitVec 32 := 1#32
  let arg14 : BitVec 32 := Scf.iv c0_i32_488 c1_i32_490 k0_t74
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c2816_i32 v205
  let v209 : Index := Scalar.indexCast v208
  ![v209.toNat]

def k0_chk402 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx402_inb : ∀ (k0_t26 : Fin k0_t26_loop.trips) (v207 : IVec S16 32) (v210 : IVec S16 32) (v211 : IVec S16 32) (k0_hw402 : k0_chk402 k0_t26 v207 v210 v211), ∀ (k0_h3 : k0_cond3 k0_t26 = 1#1), ∀ a x, ((![v210, v211, v207] : Fin 3 → IVec S16 32) a x).toNat < S25x8x128.size a := fun k0_t26 v207 v210 v211 k0_hw402 k0_h3 => k0_hw402 k0_h3

def k0_chk403 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx403_inb : ∀ (k0_t26 : Fin k0_t26_loop.trips) (v207 : IVec S16 32) (v210 : IVec S16 32) (v215 : IVec S16 32) (k0_hw403 : k0_chk403 k0_t26 v207 v210 v215), ∀ (k0_h3 : k0_cond3 k0_t26 = 1#1), ∀ a x, ((![v210, v215, v207] : Fin 3 → IVec S16 32) a x).toNat < S25x8x128.size a := fun k0_t26 v207 v210 v215 k0_hw403 k0_h3 => k0_hw403 k0_h3

def k0_chk404 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx404_inb : ∀ (k0_t26 : Fin k0_t26_loop.trips) (v207 : IVec S16 32) (v210 : IVec S16 32) (v219 : IVec S16 32) (k0_hw404 : k0_chk404 k0_t26 v207 v210 v219), ∀ (k0_h3 : k0_cond3 k0_t26 = 1#1), ∀ a x, ((![v210, v219, v207] : Fin 3 → IVec S16 32) a x).toNat < S25x8x128.size a := fun k0_t26 v207 v210 v219 k0_hw404 k0_h3 => k0_hw404 k0_h3

def k0_chk405 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx405_inb : ∀ (k0_t26 : Fin k0_t26_loop.trips) (v207 : IVec S16 32) (v210 : IVec S16 32) (v223 : IVec S16 32) (k0_hw405 : k0_chk405 k0_t26 v207 v210 v223), ∀ (k0_h3 : k0_cond3 k0_t26 = 1#1), ∀ a x, ((![v210, v223, v207] : Fin 3 → IVec S16 32) a x).toNat < S25x8x128.size a := fun k0_t26 v207 v210 v223 k0_hw405 k0_h3 => k0_hw405 k0_h3

def k0_chk406 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx406_inb : ∀ (k0_t26 : Fin k0_t26_loop.trips) (v207 : IVec S16 32) (v210 : IVec S16 32) (v227 : IVec S16 32) (k0_hw406 : k0_chk406 k0_t26 v207 v210 v227), ∀ (k0_h3 : k0_cond3 k0_t26 = 1#1), ∀ a x, ((![v210, v227, v207] : Fin 3 → IVec S16 32) a x).toNat < S25x8x128.size a := fun k0_t26 v207 v210 v227 k0_hw406 k0_h3 => k0_hw406 k0_h3

def k0_chk407 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx407_inb : ∀ (k0_t26 : Fin k0_t26_loop.trips) (v207 : IVec S16 32) (v210 : IVec S16 32) (v231 : IVec S16 32) (k0_hw407 : k0_chk407 k0_t26 v207 v210 v231), ∀ (k0_h3 : k0_cond3 k0_t26 = 1#1), ∀ a x, ((![v210, v231, v207] : Fin 3 → IVec S16 32) a x).toNat < S25x8x128.size a := fun k0_t26 v207 v210 v231 k0_hw407 k0_h3 => k0_hw407 k0_h3

def k0_chk408 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx408_inb : ∀ (k0_t26 : Fin k0_t26_loop.trips) (v207 : IVec S16 32) (v210 : IVec S16 32) (v235 : IVec S16 32) (k0_hw408 : k0_chk408 k0_t26 v207 v210 v235), ∀ (k0_h3 : k0_cond3 k0_t26 = 1#1), ∀ a x, ((![v210, v235, v207] : Fin 3 → IVec S16 32) a x).toNat < S25x8x128.size a := fun k0_t26 v207 v210 v235 k0_hw408 k0_h3 => k0_hw408 k0_h3

def k0_chk409 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx409_inb : ∀ (k0_t26 : Fin k0_t26_loop.trips) (v207 : IVec S16 32) (v210 : IVec S16 32) (v239 : IVec S16 32) (k0_hw409 : k0_chk409 k0_t26 v207 v210 v239), ∀ (k0_h3 : k0_cond3 k0_t26 = 1#1), ∀ a x, ((![v210, v239, v207] : Fin 3 → IVec S16 32) a x).toNat < S25x8x128.size a := fun k0_t26 v207 v210 v239 k0_hw409 k0_h3 => k0_hw409 k0_h3
def k0_off461 (k0_t74 : Fin k0_t74_loop.trips) : Fin 3 → Nat :=
  let c22_i32 : BitVec 32 := 22#32
  let v245 : Index := Scalar.indexCast c22_i32
  let c0_i32_547 : BitVec 32 := 0#32
  let v246 : Index := Scalar.indexCast c0_i32_547
  let c0_i32_517 : BitVec 32 := 0#32
  let c0_i32_488 : BitVec 32 := 0#32
  let c1_i32_490 : BitVec 32 := 1#32
  let arg14 : BitVec 32 := Scf.iv c0_i32_488 c1_i32_490 k0_t74
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![22, 0, v247.toNat]
def k0_off462 (k0_t74 : Fin k0_t74_loop.trips) : Fin 3 → Nat :=
  let c22_i32_551 : BitVec 32 := 22#32
  let v251 : Index := Scalar.indexCast c22_i32_551
  let c1_i32_552 : BitVec 32 := 1#32
  let v252 : Index := Scalar.indexCast c1_i32_552
  let c0_i32_517 : BitVec 32 := 0#32
  let c0_i32_488 : BitVec 32 := 0#32
  let c1_i32_490 : BitVec 32 := 1#32
  let arg14 : BitVec 32 := Scf.iv c0_i32_488 c1_i32_490 k0_t74
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![22, 1, v253.toNat]
def k0_off463 (k0_t74 : Fin k0_t74_loop.trips) : Fin 3 → Nat :=
  let c22_i32_556 : BitVec 32 := 22#32
  let v257 : Index := Scalar.indexCast c22_i32_556
  let c2_i32_557 : BitVec 32 := 2#32
  let v258 : Index := Scalar.indexCast c2_i32_557
  let c0_i32_517 : BitVec 32 := 0#32
  let c0_i32_488 : BitVec 32 := 0#32
  let c1_i32_490 : BitVec 32 := 1#32
  let arg14 : BitVec 32 := Scf.iv c0_i32_488 c1_i32_490 k0_t74
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![22, 2, v259.toNat]
def k0_off464 (k0_t74 : Fin k0_t74_loop.trips) : Fin 3 → Nat :=
  let c22_i32_561 : BitVec 32 := 22#32
  let v263 : Index := Scalar.indexCast c22_i32_561
  let c3_i32_562 : BitVec 32 := 3#32
  let v264 : Index := Scalar.indexCast c3_i32_562
  let c0_i32_517 : BitVec 32 := 0#32
  let c0_i32_488 : BitVec 32 := 0#32
  let c1_i32_490 : BitVec 32 := 1#32
  let arg14 : BitVec 32 := Scf.iv c0_i32_488 c1_i32_490 k0_t74
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![22, 3, v265.toNat]
def k0_off465 (k0_t74 : Fin k0_t74_loop.trips) : Fin 3 → Nat :=
  let c22_i32_566 : BitVec 32 := 22#32
  let v269 : Index := Scalar.indexCast c22_i32_566
  let c4_i32_567 : BitVec 32 := 4#32
  let v270 : Index := Scalar.indexCast c4_i32_567
  let c0_i32_517 : BitVec 32 := 0#32
  let c0_i32_488 : BitVec 32 := 0#32
  let c1_i32_490 : BitVec 32 := 1#32
  let arg14 : BitVec 32 := Scf.iv c0_i32_488 c1_i32_490 k0_t74
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![22, 4, v271.toNat]
def k0_off466 (k0_t74 : Fin k0_t74_loop.trips) : Fin 3 → Nat :=
  let c22_i32_571 : BitVec 32 := 22#32
  let v275 : Index := Scalar.indexCast c22_i32_571
  let c5_i32_572 : BitVec 32 := 5#32
  let v276 : Index := Scalar.indexCast c5_i32_572
  let c0_i32_517 : BitVec 32 := 0#32
  let c0_i32_488 : BitVec 32 := 0#32
  let c1_i32_490 : BitVec 32 := 1#32
  let arg14 : BitVec 32 := Scf.iv c0_i32_488 c1_i32_490 k0_t74
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![22, 5, v277.toNat]
def k0_off467 (k0_t74 : Fin k0_t74_loop.trips) : Fin 3 → Nat :=
  let c22_i32_576 : BitVec 32 := 22#32
  let v281 : Index := Scalar.indexCast c22_i32_576
  let c6_i32_577 : BitVec 32 := 6#32
  let v282 : Index := Scalar.indexCast c6_i32_577
  let c0_i32_517 : BitVec 32 := 0#32
  let c0_i32_488 : BitVec 32 := 0#32
  let c1_i32_490 : BitVec 32 := 1#32
  let arg14 : BitVec 32 := Scf.iv c0_i32_488 c1_i32_490 k0_t74
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![22, 6, v283.toNat]
def k0_off468 (k0_t74 : Fin k0_t74_loop.trips) : Fin 3 → Nat :=
  let c22_i32_581 : BitVec 32 := 22#32
  let v287 : Index := Scalar.indexCast c22_i32_581
  let c7_i32_582 : BitVec 32 := 7#32
  let v288 : Index := Scalar.indexCast c7_i32_582
  let c0_i32_517 : BitVec 32 := 0#32
  let c0_i32_488 : BitVec 32 := 0#32
  let c1_i32_490 : BitVec 32 := 1#32
  let arg14 : BitVec 32 := Scf.iv c0_i32_488 c1_i32_490 k0_t74
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![22, 7, v289.toNat]
@[reducible] def k0_t75_loop : Scf.Loop 32 :=
  let c0_i32_494 : BitVec 32 := 0#32
  let c8_i32_495 : BitVec 32 := 8#32
  let v189 : BitVec 32 := Scalar.addi c0_i32_494 c8_i32_495
  let c1_i32_496 : BitVec 32 := 1#32
  ⟨c0_i32_494, v189, c1_i32_496⟩
def k0_off469 (k0_t75 : Fin k0_t75_loop.trips) : Fin 1 → Nat :=
  let c2944_i32 : BitVec 32 := 2944#32
  let c0_i32_517 : BitVec 32 := 0#32
  let c0_i32_494 : BitVec 32 := 0#32
  let c1_i32_496 : BitVec 32 := 1#32
  let arg14 : BitVec 32 := Scf.iv c0_i32_494 c1_i32_496 k0_t75
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c2944_i32 v205
  let v209 : Index := Scalar.indexCast v208
  ![v209.toNat]

def k0_chk410 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx410_inb : ∀ (k0_t26 : Fin k0_t26_loop.trips) (v207 : IVec S16 32) (v210 : IVec S16 32) (v211 : IVec S16 32) (k0_hw410 : k0_chk410 k0_t26 v207 v210 v211), ∀ (k0_h3 : k0_cond3 k0_t26 = 1#1), ∀ a x, ((![v210, v211, v207] : Fin 3 → IVec S16 32) a x).toNat < S25x8x128.size a := fun k0_t26 v207 v210 v211 k0_hw410 k0_h3 => k0_hw410 k0_h3

def k0_chk411 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx411_inb : ∀ (k0_t26 : Fin k0_t26_loop.trips) (v207 : IVec S16 32) (v210 : IVec S16 32) (v215 : IVec S16 32) (k0_hw411 : k0_chk411 k0_t26 v207 v210 v215), ∀ (k0_h3 : k0_cond3 k0_t26 = 1#1), ∀ a x, ((![v210, v215, v207] : Fin 3 → IVec S16 32) a x).toNat < S25x8x128.size a := fun k0_t26 v207 v210 v215 k0_hw411 k0_h3 => k0_hw411 k0_h3

def k0_chk412 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx412_inb : ∀ (k0_t26 : Fin k0_t26_loop.trips) (v207 : IVec S16 32) (v210 : IVec S16 32) (v219 : IVec S16 32) (k0_hw412 : k0_chk412 k0_t26 v207 v210 v219), ∀ (k0_h3 : k0_cond3 k0_t26 = 1#1), ∀ a x, ((![v210, v219, v207] : Fin 3 → IVec S16 32) a x).toNat < S25x8x128.size a := fun k0_t26 v207 v210 v219 k0_hw412 k0_h3 => k0_hw412 k0_h3

def k0_chk413 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx413_inb : ∀ (k0_t26 : Fin k0_t26_loop.trips) (v207 : IVec S16 32) (v210 : IVec S16 32) (v223 : IVec S16 32) (k0_hw413 : k0_chk413 k0_t26 v207 v210 v223), ∀ (k0_h3 : k0_cond3 k0_t26 = 1#1), ∀ a x, ((![v210, v223, v207] : Fin 3 → IVec S16 32) a x).toNat < S25x8x128.size a := fun k0_t26 v207 v210 v223 k0_hw413 k0_h3 => k0_hw413 k0_h3

def k0_chk414 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx414_inb : ∀ (k0_t26 : Fin k0_t26_loop.trips) (v207 : IVec S16 32) (v210 : IVec S16 32) (v227 : IVec S16 32) (k0_hw414 : k0_chk414 k0_t26 v207 v210 v227), ∀ (k0_h3 : k0_cond3 k0_t26 = 1#1), ∀ a x, ((![v210, v227, v207] : Fin 3 → IVec S16 32) a x).toNat < S25x8x128.size a := fun k0_t26 v207 v210 v227 k0_hw414 k0_h3 => k0_hw414 k0_h3

def k0_chk415 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx415_inb : ∀ (k0_t26 : Fin k0_t26_loop.trips) (v207 : IVec S16 32) (v210 : IVec S16 32) (v231 : IVec S16 32) (k0_hw415 : k0_chk415 k0_t26 v207 v210 v231), ∀ (k0_h3 : k0_cond3 k0_t26 = 1#1), ∀ a x, ((![v210, v231, v207] : Fin 3 → IVec S16 32) a x).toNat < S25x8x128.size a := fun k0_t26 v207 v210 v231 k0_hw415 k0_h3 => k0_hw415 k0_h3

def k0_chk416 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx416_inb : ∀ (k0_t26 : Fin k0_t26_loop.trips) (v207 : IVec S16 32) (v210 : IVec S16 32) (v235 : IVec S16 32) (k0_hw416 : k0_chk416 k0_t26 v207 v210 v235), ∀ (k0_h3 : k0_cond3 k0_t26 = 1#1), ∀ a x, ((![v210, v235, v207] : Fin 3 → IVec S16 32) a x).toNat < S25x8x128.size a := fun k0_t26 v207 v210 v235 k0_hw416 k0_h3 => k0_hw416 k0_h3

def k0_chk417 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx417_inb : ∀ (k0_t26 : Fin k0_t26_loop.trips) (v207 : IVec S16 32) (v210 : IVec S16 32) (v239 : IVec S16 32) (k0_hw417 : k0_chk417 k0_t26 v207 v210 v239), ∀ (k0_h3 : k0_cond3 k0_t26 = 1#1), ∀ a x, ((![v210, v239, v207] : Fin 3 → IVec S16 32) a x).toNat < S25x8x128.size a := fun k0_t26 v207 v210 v239 k0_hw417 k0_h3 => k0_hw417 k0_h3
def k0_off470 (k0_t75 : Fin k0_t75_loop.trips) : Fin 3 → Nat :=
  let c23_i32 : BitVec 32 := 23#32
  let v245 : Index := Scalar.indexCast c23_i32
  let c0_i32_547 : BitVec 32 := 0#32
  let v246 : Index := Scalar.indexCast c0_i32_547
  let c0_i32_517 : BitVec 32 := 0#32
  let c0_i32_494 : BitVec 32 := 0#32
  let c1_i32_496 : BitVec 32 := 1#32
  let arg14 : BitVec 32 := Scf.iv c0_i32_494 c1_i32_496 k0_t75
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![23, 0, v247.toNat]
def k0_off471 (k0_t75 : Fin k0_t75_loop.trips) : Fin 3 → Nat :=
  let c23_i32_551 : BitVec 32 := 23#32
  let v251 : Index := Scalar.indexCast c23_i32_551
  let c1_i32_552 : BitVec 32 := 1#32
  let v252 : Index := Scalar.indexCast c1_i32_552
  let c0_i32_517 : BitVec 32 := 0#32
  let c0_i32_494 : BitVec 32 := 0#32
  let c1_i32_496 : BitVec 32 := 1#32
  let arg14 : BitVec 32 := Scf.iv c0_i32_494 c1_i32_496 k0_t75
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![23, 1, v253.toNat]
def k0_off472 (k0_t75 : Fin k0_t75_loop.trips) : Fin 3 → Nat :=
  let c23_i32_556 : BitVec 32 := 23#32
  let v257 : Index := Scalar.indexCast c23_i32_556
  let c2_i32_557 : BitVec 32 := 2#32
  let v258 : Index := Scalar.indexCast c2_i32_557
  let c0_i32_517 : BitVec 32 := 0#32
  let c0_i32_494 : BitVec 32 := 0#32
  let c1_i32_496 : BitVec 32 := 1#32
  let arg14 : BitVec 32 := Scf.iv c0_i32_494 c1_i32_496 k0_t75
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![23, 2, v259.toNat]
def k0_off473 (k0_t75 : Fin k0_t75_loop.trips) : Fin 3 → Nat :=
  let c23_i32_561 : BitVec 32 := 23#32
  let v263 : Index := Scalar.indexCast c23_i32_561
  let c3_i32_562 : BitVec 32 := 3#32
  let v264 : Index := Scalar.indexCast c3_i32_562
  let c0_i32_517 : BitVec 32 := 0#32
  let c0_i32_494 : BitVec 32 := 0#32
  let c1_i32_496 : BitVec 32 := 1#32
  let arg14 : BitVec 32 := Scf.iv c0_i32_494 c1_i32_496 k0_t75
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![23, 3, v265.toNat]
def k0_off474 (k0_t75 : Fin k0_t75_loop.trips) : Fin 3 → Nat :=
  let c23_i32_566 : BitVec 32 := 23#32
  let v269 : Index := Scalar.indexCast c23_i32_566
  let c4_i32_567 : BitVec 32 := 4#32
  let v270 : Index := Scalar.indexCast c4_i32_567
  let c0_i32_517 : BitVec 32 := 0#32
  let c0_i32_494 : BitVec 32 := 0#32
  let c1_i32_496 : BitVec 32 := 1#32
  let arg14 : BitVec 32 := Scf.iv c0_i32_494 c1_i32_496 k0_t75
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![23, 4, v271.toNat]
def k0_off475 (k0_t75 : Fin k0_t75_loop.trips) : Fin 3 → Nat :=
  let c23_i32_571 : BitVec 32 := 23#32
  let v275 : Index := Scalar.indexCast c23_i32_571
  let c5_i32_572 : BitVec 32 := 5#32
  let v276 : Index := Scalar.indexCast c5_i32_572
  let c0_i32_517 : BitVec 32 := 0#32
  let c0_i32_494 : BitVec 32 := 0#32
  let c1_i32_496 : BitVec 32 := 1#32
  let arg14 : BitVec 32 := Scf.iv c0_i32_494 c1_i32_496 k0_t75
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![23, 5, v277.toNat]
def k0_off476 (k0_t75 : Fin k0_t75_loop.trips) : Fin 3 → Nat :=
  let c23_i32_576 : BitVec 32 := 23#32
  let v281 : Index := Scalar.indexCast c23_i32_576
  let c6_i32_577 : BitVec 32 := 6#32
  let v282 : Index := Scalar.indexCast c6_i32_577
  let c0_i32_517 : BitVec 32 := 0#32
  let c0_i32_494 : BitVec 32 := 0#32
  let c1_i32_496 : BitVec 32 := 1#32
  let arg14 : BitVec 32 := Scf.iv c0_i32_494 c1_i32_496 k0_t75
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![23, 6, v283.toNat]
def k0_off477 (k0_t75 : Fin k0_t75_loop.trips) : Fin 3 → Nat :=
  let c23_i32_581 : BitVec 32 := 23#32
  let v287 : Index := Scalar.indexCast c23_i32_581
  let c7_i32_582 : BitVec 32 := 7#32
  let v288 : Index := Scalar.indexCast c7_i32_582
  let c0_i32_517 : BitVec 32 := 0#32
  let c0_i32_494 : BitVec 32 := 0#32
  let c1_i32_496 : BitVec 32 := 1#32
  let arg14 : BitVec 32 := Scf.iv c0_i32_494 c1_i32_496 k0_t75
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![23, 7, v289.toNat]
@[reducible] def k0_t76_loop : Scf.Loop 32 :=
  let c0_i32_500 : BitVec 32 := 0#32
  let c8_i32_501 : BitVec 32 := 8#32
  let v190 : BitVec 32 := Scalar.addi c0_i32_500 c8_i32_501
  let c1_i32_502 : BitVec 32 := 1#32
  ⟨c0_i32_500, v190, c1_i32_502⟩
def k0_off478 (k0_t76 : Fin k0_t76_loop.trips) : Fin 1 → Nat :=
  let c3072_i32 : BitVec 32 := 3072#32
  let c0_i32_517 : BitVec 32 := 0#32
  let c0_i32_500 : BitVec 32 := 0#32
  let c1_i32_502 : BitVec 32 := 1#32
  let arg14 : BitVec 32 := Scf.iv c0_i32_500 c1_i32_502 k0_t76
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v208 : BitVec 32 := Scalar.addi c3072_i32 v205
  let v209 : Index := Scalar.indexCast v208
  ![v209.toNat]

def k0_chk418 (k0_t26 : Fin k0_t26_loop.trips) (v207 : IVec S16 32) (v210 : IVec S16 32) (v211 : IVec S16 32) : Prop :=
  (∀ (k0_h3 : k0_cond3 k0_t26 = 1#1), ∀ a x, ((![v210, v211, v207] : Fin 3 → IVec S16 32) a x).toNat < S25x8x128.size a)
theorem k0_idx418_inb : ∀ (k0_t26 : Fin k0_t26_loop.trips) (v207 : IVec S16 32) (v210 : IVec S16 32) (v211 : IVec S16 32) (k0_hw418 : k0_chk418 k0_t26 v207 v210 v211), ∀ (k0_h3 : k0_cond3 k0_t26 = 1#1), ∀ a x, ((![v210, v211, v207] : Fin 3 → IVec S16 32) a x).toNat < S25x8x128.size a := fun k0_t26 v207 v210 v211 k0_hw418 k0_h3 => k0_hw418 k0_h3

def k0_chk419 (k0_t26 : Fin k0_t26_loop.trips) (v207 : IVec S16 32) (v210 : IVec S16 32) (v215 : IVec S16 32) : Prop :=
  (∀ (k0_h3 : k0_cond3 k0_t26 = 1#1), ∀ a x, ((![v210, v215, v207] : Fin 3 → IVec S16 32) a x).toNat < S25x8x128.size a)
theorem k0_idx419_inb : ∀ (k0_t26 : Fin k0_t26_loop.trips) (v207 : IVec S16 32) (v210 : IVec S16 32) (v215 : IVec S16 32) (k0_hw419 : k0_chk419 k0_t26 v207 v210 v215), ∀ (k0_h3 : k0_cond3 k0_t26 = 1#1), ∀ a x, ((![v210, v215, v207] : Fin 3 → IVec S16 32) a x).toNat < S25x8x128.size a := fun k0_t26 v207 v210 v215 k0_hw419 k0_h3 => k0_hw419 k0_h3

def k0_chk420 (k0_t26 : Fin k0_t26_loop.trips) (v207 : IVec S16 32) (v210 : IVec S16 32) (v219 : IVec S16 32) : Prop :=
  (∀ (k0_h3 : k0_cond3 k0_t26 = 1#1), ∀ a x, ((![v210, v219, v207] : Fin 3 → IVec S16 32) a x).toNat < S25x8x128.size a)
theorem k0_idx420_inb : ∀ (k0_t26 : Fin k0_t26_loop.trips) (v207 : IVec S16 32) (v210 : IVec S16 32) (v219 : IVec S16 32) (k0_hw420 : k0_chk420 k0_t26 v207 v210 v219), ∀ (k0_h3 : k0_cond3 k0_t26 = 1#1), ∀ a x, ((![v210, v219, v207] : Fin 3 → IVec S16 32) a x).toNat < S25x8x128.size a := fun k0_t26 v207 v210 v219 k0_hw420 k0_h3 => k0_hw420 k0_h3

def k0_chk421 (k0_t26 : Fin k0_t26_loop.trips) (v207 : IVec S16 32) (v210 : IVec S16 32) (v223 : IVec S16 32) : Prop :=
  (∀ (k0_h3 : k0_cond3 k0_t26 = 1#1), ∀ a x, ((![v210, v223, v207] : Fin 3 → IVec S16 32) a x).toNat < S25x8x128.size a)
theorem k0_idx421_inb : ∀ (k0_t26 : Fin k0_t26_loop.trips) (v207 : IVec S16 32) (v210 : IVec S16 32) (v223 : IVec S16 32) (k0_hw421 : k0_chk421 k0_t26 v207 v210 v223), ∀ (k0_h3 : k0_cond3 k0_t26 = 1#1), ∀ a x, ((![v210, v223, v207] : Fin 3 → IVec S16 32) a x).toNat < S25x8x128.size a := fun k0_t26 v207 v210 v223 k0_hw421 k0_h3 => k0_hw421 k0_h3

def k0_chk422 (k0_t26 : Fin k0_t26_loop.trips) (v207 : IVec S16 32) (v210 : IVec S16 32) (v227 : IVec S16 32) : Prop :=
  (∀ (k0_h3 : k0_cond3 k0_t26 = 1#1), ∀ a x, ((![v210, v227, v207] : Fin 3 → IVec S16 32) a x).toNat < S25x8x128.size a)
theorem k0_idx422_inb : ∀ (k0_t26 : Fin k0_t26_loop.trips) (v207 : IVec S16 32) (v210 : IVec S16 32) (v227 : IVec S16 32) (k0_hw422 : k0_chk422 k0_t26 v207 v210 v227), ∀ (k0_h3 : k0_cond3 k0_t26 = 1#1), ∀ a x, ((![v210, v227, v207] : Fin 3 → IVec S16 32) a x).toNat < S25x8x128.size a := fun k0_t26 v207 v210 v227 k0_hw422 k0_h3 => k0_hw422 k0_h3

def k0_chk423 (k0_t26 : Fin k0_t26_loop.trips) (v207 : IVec S16 32) (v210 : IVec S16 32) (v231 : IVec S16 32) : Prop :=
  (∀ (k0_h3 : k0_cond3 k0_t26 = 1#1), ∀ a x, ((![v210, v231, v207] : Fin 3 → IVec S16 32) a x).toNat < S25x8x128.size a)
theorem k0_idx423_inb : ∀ (k0_t26 : Fin k0_t26_loop.trips) (v207 : IVec S16 32) (v210 : IVec S16 32) (v231 : IVec S16 32) (k0_hw423 : k0_chk423 k0_t26 v207 v210 v231), ∀ (k0_h3 : k0_cond3 k0_t26 = 1#1), ∀ a x, ((![v210, v231, v207] : Fin 3 → IVec S16 32) a x).toNat < S25x8x128.size a := fun k0_t26 v207 v210 v231 k0_hw423 k0_h3 => k0_hw423 k0_h3

def k0_chk424 (k0_t26 : Fin k0_t26_loop.trips) (v207 : IVec S16 32) (v210 : IVec S16 32) (v235 : IVec S16 32) : Prop :=
  (∀ (k0_h3 : k0_cond3 k0_t26 = 1#1), ∀ a x, ((![v210, v235, v207] : Fin 3 → IVec S16 32) a x).toNat < S25x8x128.size a)
theorem k0_idx424_inb : ∀ (k0_t26 : Fin k0_t26_loop.trips) (v207 : IVec S16 32) (v210 : IVec S16 32) (v235 : IVec S16 32) (k0_hw424 : k0_chk424 k0_t26 v207 v210 v235), ∀ (k0_h3 : k0_cond3 k0_t26 = 1#1), ∀ a x, ((![v210, v235, v207] : Fin 3 → IVec S16 32) a x).toNat < S25x8x128.size a := fun k0_t26 v207 v210 v235 k0_hw424 k0_h3 => k0_hw424 k0_h3

def k0_chk425 (k0_t26 : Fin k0_t26_loop.trips) (v207 : IVec S16 32) (v210 : IVec S16 32) (v239 : IVec S16 32) : Prop :=
  (∀ (k0_h3 : k0_cond3 k0_t26 = 1#1), ∀ a x, ((![v210, v239, v207] : Fin 3 → IVec S16 32) a x).toNat < S25x8x128.size a)
theorem k0_idx425_inb : ∀ (k0_t26 : Fin k0_t26_loop.trips) (v207 : IVec S16 32) (v210 : IVec S16 32) (v239 : IVec S16 32) (k0_hw425 : k0_chk425 k0_t26 v207 v210 v239), ∀ (k0_h3 : k0_cond3 k0_t26 = 1#1), ∀ a x, ((![v210, v239, v207] : Fin 3 → IVec S16 32) a x).toNat < S25x8x128.size a := fun k0_t26 v207 v210 v239 k0_hw425 k0_h3 => k0_hw425 k0_h3
def k0_off479 (k0_t76 : Fin k0_t76_loop.trips) : Fin 3 → Nat :=
  let c24_i32 : BitVec 32 := 24#32
  let v245 : Index := Scalar.indexCast c24_i32
  let c0_i32_547 : BitVec 32 := 0#32
  let v246 : Index := Scalar.indexCast c0_i32_547
  let c0_i32_517 : BitVec 32 := 0#32
  let c0_i32_500 : BitVec 32 := 0#32
  let c1_i32_502 : BitVec 32 := 1#32
  let arg14 : BitVec 32 := Scf.iv c0_i32_500 c1_i32_502 k0_t76
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v247 : Index := Scalar.indexCast v205
  ![24, 0, v247.toNat]
def k0_off480 (k0_t76 : Fin k0_t76_loop.trips) : Fin 3 → Nat :=
  let c24_i32_551 : BitVec 32 := 24#32
  let v251 : Index := Scalar.indexCast c24_i32_551
  let c1_i32_552 : BitVec 32 := 1#32
  let v252 : Index := Scalar.indexCast c1_i32_552
  let c0_i32_517 : BitVec 32 := 0#32
  let c0_i32_500 : BitVec 32 := 0#32
  let c1_i32_502 : BitVec 32 := 1#32
  let arg14 : BitVec 32 := Scf.iv c0_i32_500 c1_i32_502 k0_t76
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v253 : Index := Scalar.indexCast v205
  ![24, 1, v253.toNat]
def k0_off481 (k0_t76 : Fin k0_t76_loop.trips) : Fin 3 → Nat :=
  let c24_i32_556 : BitVec 32 := 24#32
  let v257 : Index := Scalar.indexCast c24_i32_556
  let c2_i32_557 : BitVec 32 := 2#32
  let v258 : Index := Scalar.indexCast c2_i32_557
  let c0_i32_517 : BitVec 32 := 0#32
  let c0_i32_500 : BitVec 32 := 0#32
  let c1_i32_502 : BitVec 32 := 1#32
  let arg14 : BitVec 32 := Scf.iv c0_i32_500 c1_i32_502 k0_t76
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v259 : Index := Scalar.indexCast v205
  ![24, 2, v259.toNat]
def k0_off482 (k0_t76 : Fin k0_t76_loop.trips) : Fin 3 → Nat :=
  let c24_i32_561 : BitVec 32 := 24#32
  let v263 : Index := Scalar.indexCast c24_i32_561
  let c3_i32_562 : BitVec 32 := 3#32
  let v264 : Index := Scalar.indexCast c3_i32_562
  let c0_i32_517 : BitVec 32 := 0#32
  let c0_i32_500 : BitVec 32 := 0#32
  let c1_i32_502 : BitVec 32 := 1#32
  let arg14 : BitVec 32 := Scf.iv c0_i32_500 c1_i32_502 k0_t76
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v265 : Index := Scalar.indexCast v205
  ![24, 3, v265.toNat]
def k0_off483 (k0_t76 : Fin k0_t76_loop.trips) : Fin 3 → Nat :=
  let c24_i32_566 : BitVec 32 := 24#32
  let v269 : Index := Scalar.indexCast c24_i32_566
  let c4_i32_567 : BitVec 32 := 4#32
  let v270 : Index := Scalar.indexCast c4_i32_567
  let c0_i32_517 : BitVec 32 := 0#32
  let c0_i32_500 : BitVec 32 := 0#32
  let c1_i32_502 : BitVec 32 := 1#32
  let arg14 : BitVec 32 := Scf.iv c0_i32_500 c1_i32_502 k0_t76
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v271 : Index := Scalar.indexCast v205
  ![24, 4, v271.toNat]
def k0_off484 (k0_t76 : Fin k0_t76_loop.trips) : Fin 3 → Nat :=
  let c24_i32_571 : BitVec 32 := 24#32
  let v275 : Index := Scalar.indexCast c24_i32_571
  let c5_i32_572 : BitVec 32 := 5#32
  let v276 : Index := Scalar.indexCast c5_i32_572
  let c0_i32_517 : BitVec 32 := 0#32
  let c0_i32_500 : BitVec 32 := 0#32
  let c1_i32_502 : BitVec 32 := 1#32
  let arg14 : BitVec 32 := Scf.iv c0_i32_500 c1_i32_502 k0_t76
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v277 : Index := Scalar.indexCast v205
  ![24, 5, v277.toNat]
def k0_off485 (k0_t76 : Fin k0_t76_loop.trips) : Fin 3 → Nat :=
  let c24_i32_576 : BitVec 32 := 24#32
  let v281 : Index := Scalar.indexCast c24_i32_576
  let c6_i32_577 : BitVec 32 := 6#32
  let v282 : Index := Scalar.indexCast c6_i32_577
  let c0_i32_517 : BitVec 32 := 0#32
  let c0_i32_500 : BitVec 32 := 0#32
  let c1_i32_502 : BitVec 32 := 1#32
  let arg14 : BitVec 32 := Scf.iv c0_i32_500 c1_i32_502 k0_t76
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v283 : Index := Scalar.indexCast v205
  ![24, 6, v283.toNat]
def k0_off486 (k0_t76 : Fin k0_t76_loop.trips) : Fin 3 → Nat :=
  let c24_i32_581 : BitVec 32 := 24#32
  let v287 : Index := Scalar.indexCast c24_i32_581
  let c7_i32_582 : BitVec 32 := 7#32
  let v288 : Index := Scalar.indexCast c7_i32_582
  let c0_i32_517 : BitVec 32 := 0#32
  let c0_i32_500 : BitVec 32 := 0#32
  let c1_i32_502 : BitVec 32 := 1#32
  let arg14 : BitVec 32 := Scf.iv c0_i32_500 c1_i32_502 k0_t76
  let c1_i32_516 : BitVec 32 := 1#32
  let v203 : BitVec 32 := Scalar.muli arg14 c1_i32_516
  let v204 : BitVec 32 := Scalar.addi c0_i32_517 v203
  let c16_i32 : BitVec 32 := 16#32
  let v205 : BitVec 32 := Scalar.muli v204 c16_i32
  let v289 : Index := Scalar.indexCast v205
  ![24, 7, v289.toNat]
def k0_off487 (i : grid0.Coords) (c292_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_1 : BitVec 32 := 3#32
  let v5 : BitVec 32 := Scalar.shrsi v1 c3_i32_1
  let v67 : BitVec 32 := Scalar.addi v5 c292_i32
  let c25_i32_137 : BitVec 32 := 25#32
  let v68 : BitVec 32 := Scalar.muli v67 c25_i32_137
  let c1_i32_0 : BitVec 32 := 1#32
  let v3 : BitVec 32 := Scalar.shrsi v1 c1_i32_0
  let c3_i32 : BitVec 32 := 3#32
  let v4 : BitVec 32 := Scalar.andi v3 c3_i32
  let c8_i32_138 : BitVec 32 := 8#32
  let v69 : BitVec 32 := Scalar.muli v4 c8_i32_138
  let c1_i32 : BitVec 32 := 1#32
  let v2 : BitVec 32 := Scalar.andi v1 c1_i32
  let c128_i32_139 : BitVec 32 := 128#32
  let v70 : BitVec 32 := Scalar.muli v2 c128_i32_139
  ![v68.toNat, v69.toNat, v70.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x256x300x25 : Shape := ⟨4, ![32, 256, 300, 25]⟩
abbrev S256x25 : Shape := ⟨2, ![256, 25]⟩
abbrev S1x256x1x25 : Shape := ⟨4, ![1, 256, 1, 25]⟩
abbrev S_ : Shape := ⟨0, ![]⟩
abbrev S32x256x300x25x1 : Shape := ⟨5, ![32, 256, 300, 25, 1]⟩
abbrev S1 : Shape := ⟨1, ![1]⟩
abbrev S1x1x1x1x1 : Shape := ⟨5, ![1, 1, 1, 1, 1]⟩

abbrev nBuf : Space → Nat
  | .hbm => 26
  | .vmem => 0
  | .smem => 0
  | _ => 0

abbrev bufTy : (tb : Table) → Fin (tcTables nBuf tb) → BufTy
  | .hbm, ⟨0, _⟩ => ⟨S32x256x300x25, .f32⟩
  | .hbm, ⟨1, _⟩ => ⟨S256x25, .i32⟩
  | .hbm, ⟨2, _⟩ => ⟨S1x256x1x25, .i32⟩
  | .hbm, ⟨3, _⟩ => ⟨S32x256x300x25, .i32⟩
  | .hbm, ⟨4, _⟩ => ⟨S_, .i32⟩
  | .hbm, ⟨5, _⟩ => ⟨S32x256x300x25, .i32⟩
  | .hbm, ⟨6, _⟩ => ⟨S32x256x300x25, .i1⟩
  | .hbm, ⟨7, _⟩ => ⟨S_, .i32⟩
  | .hbm, ⟨8, _⟩ => ⟨S32x256x300x25, .i32⟩
  | .hbm, ⟨9, _⟩ => ⟨S32x256x300x25, .i32⟩
  | .hbm, ⟨10, _⟩ => ⟨S32x256x300x25, .i32⟩
  | .hbm, ⟨11, _⟩ => ⟨S32x256x300x25x1, .i32⟩
  | .hbm, ⟨12, _⟩ => ⟨S1, .i32⟩
  | .hbm, ⟨13, _⟩ => ⟨S_, .i32⟩
  | .hbm, ⟨14, _⟩ => ⟨S32x256x300x25x1, .i32⟩
  | .hbm, ⟨15, _⟩ => ⟨S32x256x300x25x1, .i1⟩
  | .hbm, ⟨16, _⟩ => ⟨S1x1x1x1x1, .i32⟩
  | .hbm, ⟨17, _⟩ => ⟨S32x256x300x25x1, .i32⟩
  | .hbm, ⟨18, _⟩ => ⟨S32x256x300x25x1, .i1⟩
  | .hbm, ⟨19, _⟩ => ⟨S32x256x300x25x1, .i1⟩
  | .hbm, ⟨20, _⟩ => ⟨S_, .i1⟩
  | .hbm, ⟨21, _⟩ => ⟨S32x256x300x25, .i1⟩
  | .hbm, ⟨22, _⟩ => ⟨S32x256x300x25, .f32⟩
  | .hbm, ⟨23, _⟩ => ⟨S_, .f32⟩
  | .hbm, ⟨24, _⟩ => ⟨S32x256x300x25, .f32⟩
  | .hbm, ⟨25, _⟩ => ⟨S32x256x300x25, .f32⟩
  | _, _ => ⟨S32x256x300x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v2 : Ref sig .tc := ⟨.hbm, 25, rfl⟩

abbrev nD : Nat := 1
abbrev τ : Topo := Topo.v7x

variable {F : FTy → Type} [FloatOps F]
-- ==== Proof.Ref.lean ====
/-
The reference: its operations in order, the array they leave, and its run.  Every operation is one of the host's, so
the run leaves every buffer at the operations folded over what the launch held.
-/

module

public import Idealize.ShloMosaic.Lib.StableHlo.Run
public import Idealize.ShloMosaic.Lib.Quiescent
public import proofs.«01_k».proof.Proof.Gen.ReferenceIdeal

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The reference's operations, in order: the table spread over the array's shape, then the lookup. -/
abbrev ops : List (HloOp τ sig (Elt F)) :=
  [ unary main_arg1 main_v0 (broadcastInDim S1x256x1x25 ![1, 3] bcast_S256x25_S1x256x1x25_1_3),
    unary main_v0 main_v1 (broadcastInDim S32x256x300x25 ![0, 1, 2, 3] bcast_S1x256x1x25_S32x256x300x25_0_1_2_3),
    nullary main_call0_c (constantI S_ 32 0#32),
    unary main_call0_c main_call0_v0 (broadcastInDim S32x256x300x25 ![] bcast_S_S32x256x300x25),
    binary main_v1 main_call0_v0 main_call0_v1 (cmpi .slt),
    nullary main_call0_c_0 (constantI S_ 32 25#32),
    unary main_call0_c_0 main_call0_v2 (broadcastInDim S32x256x300x25 ![] bcast_S_S32x256x300x25),
    binary main_v1 main_call0_v2 main_call0_v3 addi,
    ternary main_call0_v1 main_call0_v3 main_v1 main_call0_v4 select,
    reshape main_call0_v4 main_call0_v5 rfl shapeCasts_S32x256x300x25_S32x256x300x25x1,
    nullary main_call0_c_1 (constantI S1 32 24#32),
    nullary main_call0_c_2 (constantI S_ 32 0#32),
    unary main_call0_c_2 main_call0_v6 (broadcastInDim S32x256x300x25x1 ![] bcast_S_S32x256x300x25x1),
    binary main_call0_v5 main_call0_v6 main_call0_v7 (cmpi .sge),
    unary main_call0_c_1 main_call0_v8 (broadcastInDim S1x1x1x1x1 ![4] bcast_S1_S1x1x1x1x1_4),
    unary main_call0_v8 main_call0_v9
      (broadcastInDim S32x256x300x25x1 ![0, 1, 2, 3, 4] bcast_S1x1x1x1x1_S32x256x300x25x1_0_1_2_3_4),
    binary main_call0_v5 main_call0_v9 main_call0_v10 (cmpi .sle),
    binary main_call0_v7 main_call0_v10 main_call0_v11 andi,
    nullary main_call0_c_3 (constantI S_ 1 1#1),
    binary main_call0_v11 main_call0_c_3 main_call0_v12
      (fun x v => Host.reduce IntOp.andi x v reducesTo_S32x256x300x25x1_S32x256x300x25_d4 h_S_),
    binary main_arg0 main_call0_v5 main_call0_v13
      (fun x i => Host.gather gather_S32x256x300x25_S32x256x300x25x1_S32x256x300x25_n_3_012_012_3_4_1111 x i),
    nullary main_call0_cst (constant S_ .f32 0x7FC00000#32),
    unary main_call0_cst main_call0_v14 (broadcastInDim S32x256x300x25 ![] bcast_S_S32x256x300x25),
    ternary main_call0_v12 main_call0_v13 main_call0_v14 main_v2 select ]

/-- The table, one entry per element of the array. -/
def tab (s : IVec S256x25 32) : IVec S32x256x300x25 32 :=
  broadcastInDim S32x256x300x25 ![0, 1, 2, 3] bcast_S1x256x1x25_S32x256x300x25_0_1_2_3
    (broadcastInDim S1x256x1x25 ![1, 3] bcast_S256x25_S1x256x1x25_1_3 s)

/-- The lookup's index: the table's entry, or the entry plus 25 where it is negative. -/
def idx (s : IVec S256x25 32) : IVec S32x256x300x25x1 32 :=
  shapeCast S32x256x300x25x1
    (select (cmpi .slt (tab s) (broadcastInDim S32x256x300x25 ![] bcast_S_S32x256x300x25 (constantI S_ 32 0#32)))
      (addi (tab s) (broadcastInDim S32x256x300x25 ![] bcast_S_S32x256x300x25 (constantI S_ 32 25#32))) (tab s))
    shapeCasts_S32x256x300x25_S32x256x300x25x1

/-- Whether the lookup's index lies in 0..24. -/
def mask (s : IVec S256x25 32) : IVec S32x256x300x25x1 1 :=
  andi
    (cmpi .sge (idx s) (broadcastInDim S32x256x300x25x1 ![] bcast_S_S32x256x300x25x1 (constantI S_ 32 0#32)))
    (cmpi .sle (idx s) (broadcastInDim S32x256x300x25x1 ![0, 1, 2, 3, 4] bcast_S1x1x1x1x1_S32x256x300x25x1_0_1_2_3_4
      (broadcastInDim S1x1x1x1x1 ![4] bcast_S1_S1x1x1x1x1_4 (constantI S1 32 24#32))))

/-- The array the reference leaves. -/
def out (x : FVec F S32x256x300x25 .f32) (s : IVec S256x25 32) : FVec F S32x256x300x25 .f32 :=
  select
    (Host.reduce IntOp.andi (mask s) (constantI S_ 1 1#1) reducesTo_S32x256x300x25x1_S32x256x300x25_d4 h_S_)
    (Host.gather gather_S32x256x300x25_S32x256x300x25x1_S32x256x300x25_n_3_012_012_3_4_1111 x (idx s))
    (broadcastInDim S32x256x300x25 ![] bcast_S_S32x256x300x25 (constant S_ .f32 0x7FC00000#32))

attribute [local irreducible] Host.reduce in
/-- The program is that straight line. -/
theorem main_eq (c : Dev nD) : main (F := F) c = seq ops := by
  simp only [main, fn_take_along_axis.body, seq, bind_assoc, pure_bind]
  rfl

/-- The fold at the result's buffer. -/
theorem out_eq (V : Valuation τ sig (Elt F)) :
    after ops V (main_v2 : DevRef τ sig) = out (V (main_arg0 : DevRef τ sig)) (V (main_arg1 : DevRef τ sig)) := by
  after_results_simp
  rfl

/-- No operation writes the array argument, -/
theorem arg0_eq (V : Valuation τ sig (Elt F)) :
    after ops V (main_arg0 : DevRef τ sig) = V (main_arg0 : DevRef τ sig) := by
  simp only [ops, after_cons, after_nil]
  rfl

/-- nor the table argument. -/
theorem arg1_eq (V : Valuation τ sig (Elt F)) :
    after ops V (main_arg1 : DevRef τ sig) = V (main_arg1 : DevRef τ sig) := by
  simp only [ops, after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches the TensorCore's buffers only. -/
theorem ops_sub : (ops : List (HloOp τ sig (Elt F))).Forall fun op => op.bufs ⊆ tcRefs τ sig := by
  simp only [ops, List.Forall, nullary_bufs_sub, unary_bufs_sub, binary_bufs_sub, ternary_bufs_sub, reshape_bufs_sub,
    and_self]

/-- The reference's run: the result's buffer ends at `out` of the arguments, the arguments unchanged, every
    counter zero. -/
theorem run_main (m : (ℓ : Loc nD τ sig) → Buf (Elt F) ℓ) (ρ : Dev nD → PrngReg) :
    θ_run (Cert.ReferenceIdeal.defs (F := F)) (onTc (τ := τ) (main (F := F))) ⟨m, fun _ => 0, ρ⟩ fun r =>
      (∀ c : Dev nD,
        r.2.mem ((c.tc : Thread nD τ).loc main_v2)
            = out (F := F) (m ((c.tc : Thread nD τ).loc main_arg0)) (m ((c.tc : Thread nD τ).loc main_arg1))
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 :=
  (θ_run Cert.ReferenceIdeal.defs _ _).mono
    (fun r h => ⟨fun c => ⟨(h c main_v2).trans (out_eq _), (h c main_arg0).trans (arg0_eq _),
        (h c main_arg1).trans (arg1_eq _)⟩,
      sem_eq_zero_of_no_sems (by decide) r.2⟩)
    (run_seq scopedRefs_eq scopedSems_eq Cert.ReferenceIdeal.defs main (fun _ => ops) main_eq (fun _ => ops_sub) m ρ)

end Cert.Proof.Ref
-- ==== Proof.Common.lean ====
/-
  The setting of the proof: the program as the launch theorem sees it, the resource algebra, the names of the program's buffers, and
  multi-indices by their coordinates.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.MixedBatch
public import Idealize.ShloMosaic.Lib.StableHlo.Run
public import Idealize.ShloMosaic.Lib.Pipeline.Kit
public import Idealize.ShloMosaic.Lib.Tactic
public import Idealize.ShloMosaic.Lib.ViewIndex
public import Idealize.ShloMosaic.Lib.WritesUnit
public import Idealize.ShloMosaic.Lib.ValueLayout

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

/-- The model of every assertion of the proof. -/
abbrev MM (F : FTy → Type) : Type := MT nD τ sig (HIx 1) (Elt F) ℕ UU ℕ

abbrev EH : Emb UH (MM F) := embL

/-! ## The buffers -/

abbrev xV : Memref sig .scVector .hbm S7500x32x256 .f32 := Memref.whole main_v1_scv
abbrev sV : Memref sig .scVector .hbm S6400 .i32 := Memref.whole main_v2_scv
abbrev oV : Memref sig .scVector .hbm S7500x32x256 .f32 := Memref.whole main_v3_scv
abbrev sbV : Memref sig .scVector .vmem S3200 .i32 := Memref.whole cc0_scratch0
abbrev itV : Memref sig .scVector .vmem S3200 .i32 := Memref.whole cc0_scratch1
abbrev xbV : Memref sig .scVector .vmem S2x25x8x128 .f32 := Memref.whole cc0_scratch2
abbrev obV : Memref sig .scVector .vmem S2x25x8x128 .f32 := Memref.whole cc0_scratch3

/-- The first and the second slab of a double buffer. -/
abbrev slot0 (b : Memref sig .scVector .vmem S2x25x8x128 .f32) : Memref sig .scVector .vmem S25x8x128 .f32 :=
  (b.slice (Rect.unit (s := S2x25x8x128) ![0, 0, 0, 0] S1x25x8x128.size inb_S2x25x8x128_S1x25x8x128_0_0_0_0) (fun _ => rfl)).squeeze S25x8x128 squeezes_S1x25x8x128_S25x8x128
abbrev slot1 (b : Memref sig .scVector .vmem S2x25x8x128 .f32) : Memref sig .scVector .vmem S25x8x128 .f32 :=
  (b.slice (Rect.unit (s := S2x25x8x128) ![1, 0, 0, 0] S1x25x8x128.size inb_S2x25x8x128_S1x25x8x128_1_0_0_0) (fun _ => rfl)).squeeze S25x8x128 squeezes_S1x25x8x128_S25x8x128

end Cert.Proof
-- ==== Proof.Loops.lean ====
/-
  The loop of the kernel that fills row `v` of an output slab by gathers out of an input slab, said and proved once: one trip is
  `gBody` (`IsG`: the program's trip is such a trip), the loop is `wp_gLoop`.
-/
module

public import proofs.«01_k».proof.Proof.Common

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.ValueIdx

variable {F : FTy → Type} [FloatOps F]

local notation "𝕄" => MM F

/-- The channels of the sixteen lanes in trip `t` of a loop over the channels. -/
def lanes (v6 : IVec S16 32) (t : Fin 8) : IVec S16 32 :=
  addi (broadcast S16 (Scalar.muli (Scalar.addi 0#32 (Scalar.muli (Scf.iv 0#32 1#32 t) 1#32)) 16#32)) v6

/-- The indices of the gather at row `r` of the batch tile are inside the slab. -/
abbrev Inb (iv row lane : IVec S16 32) : Prop :=
  ∀ a x, ((![iv, row, lane] : Fin 3 → IVec S16 32) a x).toNat < S25x8x128.size a

/-- A check the program makes before a gather: a proposition that says the same as `Inb`. -/
structure Chk (row lane : IVec S16 32) where
  C : IVec S16 32 → Prop
  dec : ∀ iv, Decidable (C iv)
  inb : ∀ iv, C iv → Inb iv row lane
  intro : ∀ iv, Inb iv row lane → C iv

abbrev Chk.plain {row lane : IVec S16 32} (d : ∀ iv, Decidable (Inb iv row lane)) : Chk row lane :=
  ⟨fun iv => Inb iv row lane, d, fun _ h => h, fun _ h => h⟩

abbrev Chk.guarded {row lane : IVec S16 32} {G : Prop} (hG : G) (d : ∀ iv, Decidable (G → Inb iv row lane)) : Chk row lane :=
  ⟨fun iv => G → Inb iv row lane, d, fun _ h => h hG, fun _ h _ => h⟩

variable {sc : Fin τ.nSC} {su : Fin τ.nSub}

abbrev TileProg (F : FTy → Type) [FloatOps F] (sc : Fin τ.nSC) (su : Fin τ.nSub) (α : Type) := Prog (TpuEff nD τ sig (Elt F) Λ₀ (.scVector sc su)) α

/-- One gather of sixteen values out of the slab, after its check. -/
def fetch (slab : Memref sig .scVector .vmem S25x8x128 .f32) (row lane iv : IVec S16 32) (K : Chk row lane) : TileProg F sc su (Vec F S16 .f32) := do
  let h ← Prog.lift (TpuEff.assume (K.C iv) (K.dec iv))
  SparseCore.vectorLoadIdx slab ![iv, row, lane] (K.inb iv h.down) (View.loads_vmem h_S25x8x128)

theorem inbO {o : Fin 3 → ℕ} {v r : ℕ} (hv : v < 25) (hr : r < 8) {t : Fin 8} (ho : o = ![v, r, 16 * t.val]) :
    ∀ a, o a + S1x1x16.size a ≤ S25x8x128.size a := by
  subst ho
  intro a
  have := t.isLt
  match a with
  | 0 => show v + 1 ≤ 25; omega
  | 1 => show r + 1 ≤ 8; omega
  | 2 => show 16 * t.val + 16 ≤ 128; omega

theorem inbI {o : Fin 1 → ℕ} {v : ℕ} (hv : v < 25) {t : Fin 8} (ho : o = ![16 * t.val + 128 * v]) :
    ∀ a, o a + S16.size a ≤ S3200.size a := by
  subst ho
  intro a
  have := t.isLt
  match a with
  | 0 => show 16 * t.val + 128 * v + 16 ≤ 3200; omega

/-- One store of sixteen values into the output slab, and the load before it whose value is not used. -/
def put (ob : Memref sig .scVector .vmem S25x8x128 .f32) (o : Fin 3 → ℕ) (ho : ∀ a, o a + S1x1x16.size a ≤ S25x8x128.size a) (x : Vec F S16 .f32) : TileProg F sc su PUnit := do
  let _ ← Prog.lift (.load ob (Rect.unit (s := S25x8x128) o S1x1x16.size ho).toLoadRect (View.loadsAt_vmem h_S1x1x16))
  Prog.lift (.store ob (Rect.unit (s := S25x8x128) o S1x1x16.size ho) (shapeCast S1x1x16 x shapeCasts_S16_S1x1x16) Finset.univ (View.stores_vmem_bits_univ h_S1x1x16 rfl) (.inl rfl))

/-- One trip of the loop that fills row `v` of the output slab: the sixteen row numbers of the trip's channels, the eight
    gathers, and the eight stores. -/
def gBody (tab : Memref sig .scVector .vmem S3200 .i32) (slab ob : Memref sig .scVector .vmem S25x8x128 .f32) (v6 : IVec S16 32) {v : ℕ} (hv : v < 25)
    (t : Fin 8) {oI : Fin 1 → ℕ} {o0 o1 o2 o3 o4 o5 o6 o7 : Fin 3 → ℕ} (hI : oI = ![16 * t.val + 128 * v])
    (h0 : o0 = ![v, 0, 16 * t.val]) (h1 : o1 = ![v, 1, 16 * t.val]) (h2 : o2 = ![v, 2, 16 * t.val]) (h3 : o3 = ![v, 3, 16 * t.val])
    (h4 : o4 = ![v, 4, 16 * t.val]) (h5 : o5 = ![v, 5, 16 * t.val]) (h6 : o6 = ![v, 6, 16 * t.val]) (h7 : o7 = ![v, 7, 16 * t.val])
    (K0 : Chk (broadcast S16 0#32) (lanes v6 t)) (K1 : Chk (broadcast S16 1#32) (lanes v6 t)) (K2 : Chk (broadcast S16 2#32) (lanes v6 t))
    (K3 : Chk (broadcast S16 3#32) (lanes v6 t)) (K4 : Chk (broadcast S16 4#32) (lanes v6 t)) (K5 : Chk (broadcast S16 5#32) (lanes v6 t))
    (K6 : Chk (broadcast S16 6#32) (lanes v6 t)) (K7 : Chk (broadcast S16 7#32) (lanes v6 t)) : TileProg F sc su PUnit := do
  let iv : Vec F S16 .i32 ← Prog.lift (.load tab (Rect.unit (s := S3200) oI S16.size (inbI hv hI)).toLoadRect (View.loadsAt_vmem h_S16))
  let x0 ← fetch slab _ _ iv K0
  let x1 ← fetch slab _ _ iv K1
  let x2 ← fetch slab _ _ iv K2
  let x3 ← fetch slab _ _ iv K3
  let x4 ← fetch slab _ _ iv K4
  let x5 ← fetch slab _ _ iv K5
  let x6 ← fetch slab _ _ iv K6
  let x7 ← fetch slab _ _ iv K7
  put ob o0 (inbO hv (by omega) h0) x0
  put ob o1 (inbO hv (by omega) h1) x1
  put ob o2 (inbO hv (by omega) h2) x2
  put ob o3 (inbO hv (by omega) h3) x3
  put ob o4 (inbO hv (by omega) h4) x4
  put ob o5 (inbO hv (by omega) h5) x5
  put ob o6 (inbO hv (by omega) h6) x6
  put ob o7 (inbO hv (by omega) h7) x7
  pure ⟨⟩

/-- The program `p` is trip `t` of a loop that fills row `v` of the output slab. -/
def IsG (tab : Memref sig .scVector .vmem S3200 .i32) (slab ob : Memref sig .scVector .vmem S25x8x128 .f32) (v6 : IVec S16 32) (v : ℕ) (t : Fin 8) (p : TileProg F sc su PUnit) : Prop :=
  ∃ (hv : v < 25) (oI : Fin 1 → ℕ) (o0 o1 o2 o3 o4 o5 o6 o7 : Fin 3 → ℕ) (hI : oI = ![16 * t.val + 128 * v])
    (h0 : o0 = ![v, 0, 16 * t.val]) (h1 : o1 = ![v, 1, 16 * t.val]) (h2 : o2 = ![v, 2, 16 * t.val]) (h3 : o3 = ![v, 3, 16 * t.val])
    (h4 : o4 = ![v, 4, 16 * t.val]) (h5 : o5 = ![v, 5, 16 * t.val]) (h6 : o6 = ![v, 6, 16 * t.val]) (h7 : o7 = ![v, 7, 16 * t.val])
    (K0 : Chk (broadcast S16 0#32) (lanes v6 t)) (K1 : Chk (broadcast S16 1#32) (lanes v6 t)) (K2 : Chk (broadcast S16 2#32) (lanes v6 t))
    (K3 : Chk (broadcast S16 3#32) (lanes v6 t)) (K4 : Chk (broadcast S16 4#32) (lanes v6 t)) (K5 : Chk (broadcast S16 5#32) (lanes v6 t))
    (K6 : Chk (broadcast S16 6#32) (lanes v6 t)) (K7 : Chk (broadcast S16 7#32) (lanes v6 t)),
    p = gBody tab slab ob v6 hv t hI h0 h1 h2 h3 h4 h5 h6 h7 K0 K1 K2 K3 K4 K5 K6 K7

theorem isG_plain {tab : Memref sig .scVector .vmem S3200 .i32} {slab ob : Memref sig .scVector .vmem S25x8x128 .f32} {v6 : IVec S16 32} {v : ℕ} (hv : v < 25) {t : Fin 8}
    {p : TileProg F sc su PUnit} {oI : Fin 1 → ℕ} {o0 o1 o2 o3 o4 o5 o6 o7 : Fin 3 → ℕ} (hI : oI = ![16 * t.val + 128 * v])
    (h0 : o0 = ![v, 0, 16 * t.val]) (h1 : o1 = ![v, 1, 16 * t.val]) (h2 : o2 = ![v, 2, 16 * t.val]) (h3 : o3 = ![v, 3, 16 * t.val])
    (h4 : o4 = ![v, 4, 16 * t.val]) (h5 : o5 = ![v, 5, 16 * t.val]) (h6 : o6 = ![v, 6, 16 * t.val]) (h7 : o7 = ![v, 7, 16 * t.val])
    {d0 d1 d2 d3 d4 d5 d6 d7}
    (h : p = gBody tab slab ob v6 hv t hI h0 h1 h2 h3 h4 h5 h6 h7 (.plain d0) (.plain d1) (.plain d2) (.plain d3) (.plain d4) (.plain d5) (.plain d6) (.plain d7)) :
    IsG tab slab ob v6 v t p :=
  ⟨hv, _, _, _, _, _, _, _, _, _, hI, h0, h1, h2, h3, h4, h5, h6, h7, _, _, _, _, _, _, _, _, h⟩

theorem isG_guarded {tab : Memref sig .scVector .vmem S3200 .i32} {slab ob : Memref sig .scVector .vmem S25x8x128 .f32} {v6 : IVec S16 32} {v : ℕ} (hv : v < 25) {t : Fin 8} {G : Prop} (hG : G)
    {p : TileProg F sc su PUnit} {oI : Fin 1 → ℕ} {o0 o1 o2 o3 o4 o5 o6 o7 : Fin 3 → ℕ} (hI : oI = ![16 * t.val + 128 * v])
    (h0 : o0 = ![v, 0, 16 * t.val]) (h1 : o1 = ![v, 1, 16 * t.val]) (h2 : o2 = ![v, 2, 16 * t.val]) (h3 : o3 = ![v, 3, 16 * t.val])
    (h4 : o4 = ![v, 4, 16 * t.val]) (h5 : o5 = ![v, 5, 16 * t.val]) (h6 : o6 = ![v, 6, 16 * t.val]) (h7 : o7 = ![v, 7, 16 * t.val])
    {d0 d1 d2 d3 d4 d5 d6 d7}
    (h : p = gBody tab slab ob v6 hv t hI h0 h1 h2 h3 h4 h5 h6 h7 (.guarded hG d0) (.guarded hG d1) (.guarded hG d2) (.guarded hG d3) (.guarded hG d4) (.guarded hG d5) (.guarded hG d6) (.guarded hG d7)) :
    IsG tab slab ob v6 v t p :=
  ⟨hv, _, _, _, _, _, _, _, _, _, hI, h0, h1, h2, h3, h4, h5, h6, h7, _, _, _, _, _, _, _, _, h⟩

/-! ## What a slab holds after a number of trips and stores -/

/-- Rows below `v` hold `G`, and in row `v` the channels of the trips before `t`, and in trip `t` the batch rows before `r`. -/
def Good (G : S25x8x128.Idx → Elt F .f32) (v t r : ℕ) (X : S25x8x128.Idx → Elt F .f32) : Prop :=
  ∀ y : S25x8x128.Idx, ((y 0).val < v ∨ ((y 0).val = v ∧ ((y 2).val < 16 * t ∨ ((y 2).val < 16 * t + 16 ∧ (y 1).val < r)))) → X y = G y

theorem good_zero (G X : S25x8x128.Idx → Elt F .f32) : Good G 0 0 0 X := fun y h => by omega

theorem good_trip {G X : S25x8x128.Idx → Elt F .f32} {v t : ℕ} (h : Good G v t 8 X) : Good G v (t + 1) 0 X := fun y hy => h y (by
  have := (y 1).isLt
  change (y 1).val < 8 at this
  omega)

theorem good_row {G X : S25x8x128.Idx → Elt F .f32} {v : ℕ} (h : Good G v 8 0 X) : Good G (v + 1) 0 0 X := fun y hy => h y (by
  have := (y 2).isLt
  change (y 2).val < 128 at this
  omega)

theorem good_all {G X : S25x8x128.Idx → Elt F .f32} (h : Good G 25 0 0 X) : X = G := funext fun y => h y (.inl (y 0).isLt)

omit [FloatOps F] in
theorem cast_lane (j : S1x1x16.Idx) : ((Shape.reshapeEquiv (s := S16) shapeCasts_S16_S1x1x16 j) 0).val = (j 2).val := by
  have h0 : (j 0).val < 1 := (j 0).isLt
  have h1 : (j 1).val < 1 := (j 1).isLt
  rw [Shape.reshapeEquiv_eq_of_rowMajor (s := S16) (y := ix1 (j 2)) shapeCasts_S16_S1x1x16 (by
    rw [Shape.rowMajor_val_one, Shape.rowMajor_val_three]
    show (j 2).val = ((j 0).val * 1 + (j 1).val) * 16 + (j 2).val
    omega)]

theorem good_put {G : S25x8x128.Idx → Elt F .f32} {v t r : ℕ} (hv : v < 25) (hr : r < 8) {tt : Fin 8} (ht : tt.val = t)
    {ob : Memref sig .scVector .vmem S25x8x128 .f32} {f : ob.view.ty.Contents (Elt F)} {o : Fin 3 → ℕ} (ho : o = ![v, r, 16 * tt.val])
    {x : Vec F S16 .f32} (hx : ∀ l : Fin 16, x (ix1 l) = G (ix3 ⟨v, hv⟩ ⟨r, hr⟩ ⟨16 * t + l.val, by omega⟩))
    (hG : Good G v t r (ob.view.read (Elt F) f)) :
    Good G v t (r + 1) (ob.view.read (Elt F) ((ob.access (Rect.unit (s := S25x8x128) o S1x1x16.size (inbO hv hr ho))).write (Elt F) f
      (shapeCast S1x1x16 x shapeCasts_S16_S1x1x16) Finset.univ)) := by
  subst ht
  intro y hy
  refine (View.read_writes_cons_unit ob.view f (inbO hv hr ho) (shapeCast S1x1x16 x shapeCasts_S16_S1x1x16) [] y ho).trans ?_
  split
  · next h =>
    have h0 := h 0; have h1 := h 1; have h2 := h 2
    change v ≤ (y 0).val ∧ (y 0).val < v + 1 at h0
    change r ≤ (y 1).val ∧ (y 1).val < r + 1 at h1
    change 16 * tt.val ≤ (y 2).val ∧ (y 2).val < 16 * tt.val + 16 at h2
    unfold shapeCast
    generalize hj : Shape.reshapeEquiv (s := S16) shapeCasts_S16_S1x1x16 _ = j
    have hj0 := congrArg (fun i : S16.Idx => (i 0).val) hj
    simp only [cast_lane] at hj0
    change (y 2).val - 16 * tt.val = (j 0).val at hj0
    refine (congrArg x (eq_ix1 (n := 16) j)).trans ((hx (j 0)).trans (congrArg G (Shape.idx3_ext ?_ ?_ ?_)))
    · show v = (y 0).val; omega
    · show r = (y 1).val; omega
    · show 16 * tt.val + (j 0).val = (y 2).val; omega
  · next h =>
    refine hG y ?_
    by_contra hc
    refine h fun a => ?_
    match a with
    | 0 => show v ≤ (y 0).val ∧ (y 0).val < v + 1; omega
    | 1 => show r ≤ (y 1).val ∧ (y 1).val < r + 1; omega
    | 2 => show 16 * tt.val ≤ (y 2).val ∧ (y 2).val < 16 * tt.val + 16; omega

/-! ## The rules of the pieces -/

section rules

variable (d : Dev nD)

abbrev thr (d : Dev nD) (sc : Fin τ.nSC) (su : Fin τ.nSub) : Thread nD τ := V d sc su

variable {α : Type} {Q : α → sProp (MM F)}

theorem wp_fetch {slab : Memref sig .scVector .vmem S25x8x128 .f32} {row lane iv : IVec S16 32} {C : Chk row lane} (h : Inb iv row lane)
    {k : Vec F S16 .f32 → TileProg F sc su α} {f : Buf (Elt F) (slab.view.loc (thr d sc su))} :
    (slab.view.loc (thr d sc su) ↦[slab.view.set]{fullShare} f : sProp 𝕄)
      ⊢ iprop(((slab.view.loc (thr d sc su) ↦[slab.view.set]{fullShare} f)
          -∗ wp frame (wpE (defs₀ (F := F)) 𝒱₀ (thr d sc su) none) Set.univ (k fun l => slab.view.read (Elt F) f (idxAt ![iv, row, lane] h l)) Q)
        -∗ wp frame (wpE (defs₀ (F := F)) 𝒱₀ (thr d sc su) none) Set.univ (fetch slab row lane iv C >>= k) Q) := by
  unfold fetch
  rw [bind_assoc, Prog.bind_lift]
  iintro H Hk
  iapply (wp_assume 𝒱₀ (thr d sc su) none Set.univ (C.intro iv h))
  iapply (SparseCore.wp_vectorLoadIdx (defs := defs₀ (F := F)) 𝒱₀ (thr d sc su) none Set.univ (base := slab) (S := slab.view.set) (q := fullShare) (f := f) ?_) $$ H
  · show (slab.view.slice (Rect.whole S25x8x128)).set ⊆ slab.view.set
    exact View.set_slice_subset _ _
  iintro H
  ispecialize Hk $$ H
  iapply (Entails.of_eq ?_) $$ Hk
  congr 2
  refine congrArg k (funext fun l => ?_)
  show slab.view.read (Elt F) f _ = slab.view.read (Elt F) f ((Rect.whole S25x8x128).emb (idxAt ![iv, row, lane] h l))
  congr 1
  exact funext fun a => Fin.ext (by simp [Rect.whole])

theorem wp_put {ob : Memref sig .scVector .vmem S25x8x128 .f32} {G : S25x8x128.Idx → Elt F .f32} {v t r : ℕ} (hv : v < 25) (hr : r < 8) {tt : Fin 8} (ht : tt.val = t)
    {o : Fin 3 → ℕ} (ho : o = ![v, r, 16 * tt.val])
    {x : Vec F S16 .f32} (hx : ∀ l : Fin 16, x (ix1 l) = G (ix3 ⟨v, hv⟩ ⟨r, hr⟩ ⟨16 * t + l.val, by omega⟩))
    {k : PUnit → TileProg F sc su α} :
    iprop(∃ f, ⌜Good G v t r (ob.view.read (Elt F) f)⌝ ∗ (ob.view.loc (thr d sc su) ↦[ob.view.set]{fullShare} f : sProp 𝕄))
      ⊢ iprop(((∃ f, ⌜Good G v t (r + 1) (ob.view.read (Elt F) f)⌝ ∗ (ob.view.loc (thr d sc su) ↦[ob.view.set]{fullShare} f))
          -∗ wp frame (wpE (defs₀ (F := F)) 𝒱₀ (thr d sc su) none) Set.univ (k ⟨⟩) Q)
        -∗ wp frame (wpE (defs₀ (F := F)) 𝒱₀ (thr d sc su) none) Set.univ (put ob o (inbO hv hr ho) x >>= k) Q) := by
  unfold put
  rw [bind_assoc, Prog.bind_lift, Prog.bind_lift]
  iintro ⟨%f, %hf, H⟩ Hk
  iapply (wp_load_rect (defs := defs₀ (F := F)) 𝒱₀ (thr d sc su) none Set.univ (m := ob) (r := Rect.unit (s := S25x8x128) o S1x1x16.size (inbO hv hr ho))
    (S := ob.view.set) (q := fullShare) (f := f) (View.set_slice_subset _ _)) $$ H
  iintro H
  iapply (wp_store (defs := defs₀ (F := F)) 𝒱₀ (thr d sc su) none Set.univ (m := ob) (r := Rect.unit (s := S25x8x128) o S1x1x16.size (inbO hv hr ho))
    (S := ob.view.set) (f := f) ((View.setOn_subset_set _ _).trans (View.set_slice_subset _ _))) $$ H
  iintro H
  iapply Hk
  iexists _
  isplitr
  · ipureintro; exact good_put hv hr ht ho hx hf
  iexact H

/-- The lanes of trip `t` are the channels `16 t, …, 16 t + 15`. -/
theorem lanes_toNat (t : Fin 8) (l : Fin 16) : (lanes (iota .scVector S16 32 [0] iota_S16_d0_w32_scVector) t (ix1 l)).toNat = 16 * t.val + l.val := by
  revert t l
  decide +kernel

/-- The value the gathers put at row `v`, batch row `r`, channel `c` of an output slab: the slab `X` at the row the table names. -/
def gat (T : S3200.Idx → BitVec 32) (hT : ∀ i, (T i).toNat < 25) (X : S25x8x128.Idx → Elt F .f32) : S25x8x128.Idx → Elt F .f32 :=
  fun y => X (ix3 ⟨(T (ix1 ⟨128 * (y 0).val + (y 2).val, by
    have h0 : (y 0).val < 25 := (y 0).isLt
    have h2 : (y 2).val < 128 := (y 2).isLt
    omega⟩)).toNat, hT _⟩ (y 1) (y 2))

abbrev v6c : IVec S16 32 := iota .scVector S16 32 [0] iota_S16_d0_w32_scVector

/-- The table, the input slab, and an output slab whose rows below `v` are filled. -/
abbrev GI (sc : Fin τ.nSC) (su : Fin τ.nSub) (tab : Memref sig .scVector .vmem S3200 .i32) (slab ob : Memref sig .scVector .vmem S25x8x128 .f32)
    (T : Buf (Elt F) (tab.view.loc (thr d sc su))) (fs : Buf (Elt F) (slab.view.loc (thr d sc su))) (G : S25x8x128.Idx → Elt F .f32) (v t : ℕ) : sProp (MM F) :=
  iprop((tab.view.loc (thr d sc su) ↦[tab.view.set]{fullShare} T) ∗ (slab.view.loc (thr d sc su) ↦[slab.view.set]{fullShare} fs)
    ∗ ∃ f, ⌜Good G v t 0 (ob.view.read (Elt F) f)⌝ ∗ (ob.view.loc (thr d sc su) ↦[ob.view.set]{fullShare} f))

theorem inb_gather {T : S3200.Idx → BitVec 32} (hT : ∀ i, (T i).toNat < 25) {v r : ℕ} (hv : v < 25) (hr : r < 8) (t : Fin 8) {iv : IVec S16 32}
    (hiv : ∀ l : Fin 16, iv (ix1 l) = T (ix1 ⟨16 * t.val + 128 * v + l.val, by have := t.isLt; omega⟩)) :
    Inb iv (broadcast S16 (BitVec.ofNat 32 r)) (lanes v6c t) := by
  intro a x
  obtain ⟨l, rfl⟩ : ∃ l : Fin 16, x = ix1 l := ⟨x 0, eq_ix1 x⟩
  match a with
  | 0 =>
    show (iv (ix1 l)).toNat < 25
    rw [hiv]; exact hT _
  | 1 =>
    show (BitVec.ofNat 32 r).toNat < 8
    rw [BitVec.toNat_ofNat]; omega
  | 2 =>
    show (lanes v6c t (ix1 l)).toNat < 128
    rw [lanes_toNat]
    have := t.isLt
    omega

theorem gathered {T : S3200.Idx → BitVec 32} (hT : ∀ i, (T i).toNat < 25) {v r : ℕ} (hv : v < 25) (hr : r < 8) (t : Fin 8) {iv : IVec S16 32}
    (hiv : ∀ l : Fin 16, iv (ix1 l) = T (ix1 ⟨16 * t.val + 128 * v + l.val, by have := t.isLt; omega⟩)) (X : S25x8x128.Idx → Elt F .f32) (l : Fin 16) :
    X (idxAt ![iv, broadcast S16 (BitVec.ofNat 32 r), lanes v6c t] (inb_gather hT hv hr t hiv) (ix1 l))
      = gat T hT X (ix3 ⟨v, hv⟩ ⟨r, hr⟩ ⟨16 * t.val + l.val, by have := t.isLt; omega⟩) := by
  refine congrArg X (Shape.idx3_ext ?_ ?_ ?_)
  · show (iv (ix1 l)).toNat = (T (ix1 ⟨128 * v + (16 * t.val + l.val), _⟩)).toNat
    rw [hiv]
    exact congrArg (fun n => (T (ix1 n)).toNat) (Fin.ext (by show 16 * t.val + 128 * v + l.val = 128 * v + (16 * t.val + l.val); omega))
  · show (BitVec.ofNat 32 r).toNat = r
    rw [BitVec.toNat_ofNat]; omega
  · exact lanes_toNat t l

/-- One trip: from the channels of the trips before `t` to those before `t + 1`. -/
theorem wp_gBody {tab : Memref sig .scVector .vmem S3200 .i32} {slab ob : Memref sig .scVector .vmem S25x8x128 .f32}
    {T : Buf (Elt F) (tab.view.loc (thr d sc su))} (hT : ∀ i, (tab.view.read (Elt F) T i).toNat < 25) {fs : Buf (Elt F) (slab.view.loc (thr d sc su))}
    {v : ℕ} {t : Fin 8} {p : TileProg F sc su PUnit} (hp : IsG tab slab ob v6c v t p) :
    (GI d sc su tab slab ob T fs (gat (tab.view.read (Elt F) T) hT (slab.view.read (Elt F) fs)) v t.val : sProp 𝕄)
      ⊢ wp frame (wpE (defs₀ (F := F)) 𝒱₀ (thr d sc su) none) Set.univ p
          (fun _ => GI d sc su tab slab ob T fs (gat (tab.view.read (Elt F) T) hT (slab.view.read (Elt F) fs)) v (t.val + 1)) := by
  obtain ⟨hv, oI, o0, o1, o2, o3, o4, o5, o6, o7, hI, h0, h1, h2, h3, h4, h5, h6, h7, K0, K1, K2, K3, K4, K5, K6, K7, rfl⟩ := hp
  unfold gBody GI
  rw [Prog.bind_lift]
  iintro ⟨HT, HX, HO⟩
  iapply (wp_load_rect (defs := defs₀ (F := F)) 𝒱₀ (thr d sc su) none Set.univ (m := tab) (r := Rect.unit (s := S3200) oI S16.size (inbI hv hI))
    (S := tab.view.set) (q := fullShare) (f := T) (View.set_slice_subset _ _)) $$ HT
  iintro HT
  generalize hiv' : View.read (Elt F) (tab.access (Rect.unit (s := S3200) oI S16.size (inbI hv hI))) T = iv
  have hiv : ∀ l : Fin 16, iv (ix1 l) = tab.view.read (Elt F) T (ix1 ⟨16 * t.val + 128 * v + l.val, by have := t.isLt; omega⟩) := by
    subst hiv' hI
    intro l
    show tab.view.read (Elt F) T ((Rect.unit (s := S3200) ![16 * t.val + 128 * v] S16.size (inbI hv rfl)).emb (ix1 l)) = _
    refine congrArg _ (Shape.idx1_ext ?_)
    show 16 * t.val + 128 * v + 1 * l.val = _
    simp
  iapply (wp_fetch d (inb_gather hT hv (r := 0) (by omega) t hiv)) $$ HX; iintro HX
  iapply (wp_fetch d (inb_gather hT hv (r := 1) (by omega) t hiv)) $$ HX; iintro HX
  iapply (wp_fetch d (inb_gather hT hv (r := 2) (by omega) t hiv)) $$ HX; iintro HX
  iapply (wp_fetch d (inb_gather hT hv (r := 3) (by omega) t hiv)) $$ HX; iintro HX
  iapply (wp_fetch d (inb_gather hT hv (r := 4) (by omega) t hiv)) $$ HX; iintro HX
  iapply (wp_fetch d (inb_gather hT hv (r := 5) (by omega) t hiv)) $$ HX; iintro HX
  iapply (wp_fetch d (inb_gather hT hv (r := 6) (by omega) t hiv)) $$ HX; iintro HX
  iapply (wp_fetch d (inb_gather hT hv (r := 7) (by omega) t hiv)) $$ HX; iintro HX
  iapply (wp_put d hv (r := 0) (by omega) rfl h0 (gathered hT hv (by omega) t hiv (slab.view.read (Elt F) fs))) $$ HO; iintro HO
  iapply (wp_put d hv (r := 1) (by omega) rfl h1 (gathered hT hv (by omega) t hiv (slab.view.read (Elt F) fs))) $$ HO; iintro HO
  iapply (wp_put d hv (r := 2) (by omega) rfl h2 (gathered hT hv (by omega) t hiv (slab.view.read (Elt F) fs))) $$ HO; iintro HO
  iapply (wp_put d hv (r := 3) (by omega) rfl h3 (gathered hT hv (by omega) t hiv (slab.view.read (Elt F) fs))) $$ HO; iintro HO
  iapply (wp_put d hv (r := 4) (by omega) rfl h4 (gathered hT hv (by omega) t hiv (slab.view.read (Elt F) fs))) $$ HO; iintro HO
  iapply (wp_put d hv (r := 5) (by omega) rfl h5 (gathered hT hv (by omega) t hiv (slab.view.read (Elt F) fs))) $$ HO; iintro HO
  iapply (wp_put d hv (r := 6) (by omega) rfl h6 (gathered hT hv (by omega) t hiv (slab.view.read (Elt F) fs))) $$ HO; iintro HO
  iapply (wp_put d hv (r := 7) (by omega) rfl h7 (gathered hT hv (by omega) t hiv (slab.view.read (Elt F) fs))) $$ HO; iintro HO
  rw [wp_pure]
  imodintro
  isplitl [HT]; · iexact HT
  isplitl [HX]; · iexact HX
  icases HO with ⟨%f, %hf, HO⟩
  iexists f
  isplitr; · ipureintro; exact good_trip hf
  iexact HO

/-- A whole loop whose trips are such trips fills row `v`. -/
theorem wp_gLoop {tab : Memref sig .scVector .vmem S3200 .i32} {slab ob : Memref sig .scVector .vmem S25x8x128 .f32}
    {T : Buf (Elt F) (tab.view.loc (thr d sc su))} (hT : ∀ i, (tab.view.read (Elt F) T i).toNat < 25) {fs : Buf (Elt F) (slab.view.loc (thr d sc su))}
    {v : ℕ} {l : Scf.Loop 32} {hok : l.OK} {body : Fin l.trips → PUnit → TileProg F sc su PUnit} (hl : l.trips = 8)
    (hb : ∀ t u, IsG tab slab ob v6c v (Fin.cast hl t) (body t u)) {k : PUnit → TileProg F sc su α} :
    (GI d sc su tab slab ob T fs (gat (tab.view.read (Elt F) T) hT (slab.view.read (Elt F) fs)) v 0 : sProp 𝕄)
      ⊢ iprop((GI d sc su tab slab ob T fs (gat (tab.view.read (Elt F) T) hT (slab.view.read (Elt F) fs)) (v + 1) 0
            -∗ wp frame (wpE (defs₀ (F := F)) 𝒱₀ (thr d sc su) none) Set.univ (k ⟨⟩) Q)
          -∗ wp frame (wpE (defs₀ (F := F)) 𝒱₀ (thr d sc su) none) Set.univ (Scf.Loop.for l hok ⟨⟩ body >>= k) Q) := by
  iintro H Hk
  iapply (Scf.wp_for_bind frame (wpE (defs₀ (F := F)) 𝒱₀ (thr d sc su) none) Set.univ l.lb l.ub l.st hok ⟨⟩ body
    (fun n _ => GI d sc su tab slab ob T fs (gat (tab.view.read (Elt F) T) hT (slab.view.read (Elt F) fs)) v n) (fun t u => wp_gBody d hT (hb t u))) $$ H
  iintro %u H
  iapply Hk
  rw [show Scf.trips l.lb l.ub l.st = 8 from hl]
  icases H with ⟨HT, HX, %f, %hf, HO⟩
  isplitl [HT]; · iexact HT
  isplitl [HX]; · iexact HX
  iexists f
  isplitr; · ipureintro; exact good_row hf
  iexact HO

end rules

end Cert.Proof
-- ==== Proof.Table.lean ====
/-
  The loop of the kernel that fills row `v` of the table of row numbers, said and proved once: one trip is `trBody` (`IsTr`: the
  program's trip is such a trip), the loop is `wp_trLoop`.
-/
module

public import proofs.«01_k».proof.Proof.Loops

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.ValueIdx

variable {F : FTy → Type} [FloatOps F]

local notation "𝕄" => MM F

variable {sc : Fin τ.nSC} {su : Fin τ.nSub}

/-- Where trip `t` of row `v` reads the index block: at channel `16 t + l`, position `v`, of 25 positions a channel. -/
def trIdx (v6 : IVec S16 32) (v : ℕ) (t : Fin 8) : IVec S16 32 :=
  addi (muli (addi (broadcast S16 (Scalar.muli (Scalar.addi 0#32 (Scalar.muli (Scf.iv 0#32 1#32 t) 1#32)) 16#32)) v6) (broadcast S16 25#32)) (broadcast S16 (BitVec.ofNat 32 v))

theorem trIdx_toNat {v : ℕ} (hv : v < 25) (t : Fin 8) (l : Fin 16) : (trIdx v6c v t (ix1 l)).toNat = (16 * t.val + l.val) * 25 + v := by
  show (lanes v6c t (ix1 l) * 25#32 + BitVec.ofNat 32 v).toNat = _
  rw [BitVec.toNat_add, BitVec.toNat_mul, lanes_toNat, BitVec.toNat_ofNat, BitVec.toNat_ofNat]
  have := t.isLt
  omega

abbrev InbT (iv : IVec S16 32) : Prop := ∀ a x, ((![iv] : Fin 1 → IVec S16 32) a x).toNat < S3200.size a

theorem inbT {v : ℕ} (hv : v < 25) (t : Fin 8) : InbT (trIdx v6c v t) := by
  intro a x
  obtain ⟨l, rfl⟩ : ∃ l : Fin 16, x = ix1 l := ⟨x 0, eq_ix1 x⟩
  match a with
  | 0 =>
    show (trIdx v6c v t (ix1 l)).toNat < 3200
    rw [trIdx_toNat hv]
    have := t.isLt
    omega

/-- One trip: sixteen entries of the index block, gathered, are stored in row `v` of the table. -/
def trBody (sb tab : Memref sig .scVector .vmem S3200 .i32) (iv : IVec S16 32) (dec : Decidable (InbT iv)) {v : ℕ} (hv : v < 25) {t : Fin 8}
    {o : Fin 1 → ℕ} (ho : o = ![16 * t.val + 128 * v]) : TileProg F sc su PUnit := do
  let h ← Prog.lift (TpuEff.assume (InbT iv) dec)
  let x : Vec F S16 .i32 ← SparseCore.vectorLoadIdx sb ![iv] h.down (View.loads_vmem h_S3200)
  let _ ← Prog.lift (.load tab (Rect.unit (s := S3200) o S16.size (inbI hv ho)).toLoadRect (View.loadsAt_vmem h_S16))
  Prog.lift (.store tab (Rect.unit (s := S3200) o S16.size (inbI hv ho)) x Finset.univ (View.stores_vmem_bits_univ h_S16 rfl) (.inl rfl))
  pure ⟨⟩

/-- The program `p` is trip `t` of the loop that fills row `v` of the table. -/
def IsTr (sb tab : Memref sig .scVector .vmem S3200 .i32) (v6 : IVec S16 32) (v : ℕ) (t : Fin 8) (p : TileProg F sc su PUnit) : Prop :=
  ∃ (hv : v < 25) (o : Fin 1 → ℕ) (ho : o = ![16 * t.val + 128 * v]) (dec : Decidable (InbT (trIdx v6 v t))), p = trBody sb tab (trIdx v6 v t) dec hv ho

theorem isTr {sb tab : Memref sig .scVector .vmem S3200 .i32} {v6 : IVec S16 32} {v : ℕ} (hv : v < 25) {t : Fin 8} {p : TileProg F sc su PUnit}
    {o : Fin 1 → ℕ} (ho : o = ![16 * t.val + 128 * v]) {dec : Decidable (InbT (trIdx v6 v t))} (h : p = trBody sb tab (trIdx v6 v t) dec hv ho) :
    IsTr sb tab v6 v t p := ⟨hv, _, ho, _, h⟩

/-- The table of row numbers out of an index block: row `v`, channel `c`, is position `v` of channel `c`. -/
def tabOf (X : S3200.Idx → BitVec 32) : S3200.Idx → BitVec 32 :=
  fun y => X (ix1 ⟨((y 0).val % 128) * 25 + (y 0).val / 128, by
    have h : (y 0).val < 3200 := (y 0).isLt
    omega⟩)

/-- The entries of the rows before `v`, and in row `v` those of the trips before `t`, are the table's. -/
def GoodT (G : S3200.Idx → BitVec 32) (v t : ℕ) (X : S3200.Idx → BitVec 32) : Prop := ∀ y : S3200.Idx, (y 0).val < 16 * t + 128 * v → X y = G y

theorem goodT_all {G X : S3200.Idx → BitVec 32} (h : GoodT G 25 0 X) : X = G := funext fun y => h y (y 0).isLt

section rules

variable (d : Dev nD) {α : Type} {Q : α → sProp (MM F)}

/-- The index block, and a table whose rows below `v` are filled. -/
abbrev TI (sc : Fin τ.nSC) (su : Fin τ.nSub) (sb tab : Memref sig .scVector .vmem S3200 .i32) (X : Buf (Elt F) (sb.view.loc (thr d sc su))) (v t : ℕ) : sProp (MM F) :=
  iprop((sb.view.loc (thr d sc su) ↦[sb.view.set]{fullShare} X)
    ∗ ∃ f, ⌜GoodT (tabOf (sb.view.read (Elt F) X)) v t (tab.view.read (Elt F) f)⌝ ∗ (tab.view.loc (thr d sc su) ↦[tab.view.set]{fullShare} f))

theorem wp_trBody {sb tab : Memref sig .scVector .vmem S3200 .i32} {X : Buf (Elt F) (sb.view.loc (thr d sc su))}
    {v : ℕ} {t : Fin 8} {p : TileProg F sc su PUnit} (hp : IsTr sb tab v6c v t p) :
    (TI d sc su sb tab X v t.val : sProp 𝕄)
      ⊢ wp frame (wpE (defs₀ (F := F)) 𝒱₀ (thr d sc su) none) Set.univ p (fun _ => TI d sc su sb tab X v (t.val + 1)) := by
  obtain ⟨hv, o, ho, dec, rfl⟩ := hp
  unfold trBody TI
  rw [Prog.bind_lift]
  iintro ⟨HS, %f, %hf, H⟩
  iapply (wp_assume 𝒱₀ (thr d sc su) none Set.univ (inbT hv t))
  iapply (SparseCore.wp_vectorLoadIdx (defs := defs₀ (F := F)) 𝒱₀ (thr d sc su) none Set.univ (base := sb) (S := sb.view.set) (q := fullShare) (f := X) ?_) $$ HS
  · show (sb.view.slice (Rect.whole S3200)).set ⊆ sb.view.set
    exact View.set_slice_subset _ _
  iintro HS
  rw [Prog.bind_lift, Prog.bind_lift]
  iapply (wp_load_rect (defs := defs₀ (F := F)) 𝒱₀ (thr d sc su) none Set.univ (m := tab) (r := Rect.unit (s := S3200) o S16.size (inbI hv ho))
    (S := tab.view.set) (q := fullShare) (f := f) (View.set_slice_subset _ _)) $$ H
  iintro H
  iapply (wp_store (defs := defs₀ (F := F)) 𝒱₀ (thr d sc su) none Set.univ (m := tab) (r := Rect.unit (s := S3200) o S16.size (inbI hv ho))
    (S := tab.view.set) (f := f) ((View.setOn_subset_set _ _).trans (View.set_slice_subset _ _))) $$ H
  iintro H
  rw [wp_pure]
  imodintro
  isplitl [HS]; · iexact HS
  iexists _
  isplitr
  rotate_left
  · iexact H
  ipureintro
  intro y hy
  refine (View.read_writes_cons_unit tab.view f (inbI hv ho) _ [] y ho).trans ?_
  have ht := t.isLt
  split
  · next h =>
    have h0 := h 0
    change 16 * t.val + 128 * v ≤ (y 0).val ∧ (y 0).val < 16 * t.val + 128 * v + 16 at h0
    show sb.view.read (Elt F) X ((Rect.whole S3200).emb (idxAt ![trIdx v6c v t] (inbT hv t) _)) = sb.view.read (Elt F) X _
    refine congrArg _ (Shape.idx1_ext ?_)
    generalize hj : Rect.unitLocal y h = j
    have hj0 : (y 0).val - (16 * t.val + 128 * v) = (j 0).val := congrArg (fun i : S16.Idx => (i 0).val) hj
    have e := trIdx_toNat hv t (j 0)
    show 0 + 1 * (trIdx v6c v t j).toNat = ((y 0).val % 128) * 25 + (y 0).val / 128
    rw [show trIdx v6c v t j = trIdx v6c v t (ix1 (j 0)) from congrArg _ (eq_ix1 (n := 16) j), e]
    have : (j 0).val < 16 := (j 0).isLt
    omega
  · next h =>
    refine hf y ?_
    by_contra hc
    refine h fun a => ?_
    match a with
    | 0 => show 16 * t.val + 128 * v ≤ (y 0).val ∧ (y 0).val < 16 * t.val + 128 * v + 16; omega

/-- A whole loop whose trips are such trips fills row `v`. -/
theorem wp_trLoop {sb tab : Memref sig .scVector .vmem S3200 .i32} {X : Buf (Elt F) (sb.view.loc (thr d sc su))}
    {v : ℕ} {l : Scf.Loop 32} {hok : l.OK} {body : Fin l.trips → PUnit → TileProg F sc su PUnit} (hl : l.trips = 8)
    (hb : ∀ t u, IsTr sb tab v6c v (Fin.cast hl t) (body t u)) {k : PUnit → TileProg F sc su α} :
    (TI d sc su sb tab X v 0 : sProp 𝕄)
      ⊢ iprop((TI d sc su sb tab X (v + 1) 0 -∗ wp frame (wpE (defs₀ (F := F)) 𝒱₀ (thr d sc su) none) Set.univ (k ⟨⟩) Q)
          -∗ wp frame (wpE (defs₀ (F := F)) 𝒱₀ (thr d sc su) none) Set.univ (Scf.Loop.for l hok ⟨⟩ body >>= k) Q) := by
  iintro H Hk
  iapply (Scf.wp_for_bind frame (wpE (defs₀ (F := F)) 𝒱₀ (thr d sc su) none) Set.univ l.lb l.ub l.st hok ⟨⟩ body
    (fun n _ => TI d sc su sb tab X v n) (fun t u => wp_trBody d (hb t u))) $$ H
  iintro %u H
  iapply Hk
  rw [show Scf.trips l.lb l.ub l.st = 8 from hl]
  icases H with ⟨HS, %f, %hf, H⟩
  isplitl [HS]; · iexact HS
  iexists f
  isplitr
  · ipureintro; exact fun y hy => hf y (by omega)
  iexact H

end rules

end Cert.Proof
-- ==== Proof.Rows.lean ====
/-
  The kernel's runs of inner loops: the runs of table loops are runs of `wp_trLoop`; the runs of gather loops are runs of `wp_gLoop`: each part of the program that is such a run takes an output slab from the rows
  that are filled before it to those that are filled after it.
-/
module

public import proofs.«01_k».proof.Proof.Table

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.ValueIdx

variable {F : FTy → Type} [FloatOps F]

local notation "𝕄" => MM F

variable (i : grid0.Coords) (arg2 : Memref sig .scVector .hbm S7500x32x256 .f32) (harg2 : arg2.IsWhole) (arg3 : Memref sig .scVector .hbm S6400 .i32) (harg3 : arg3.IsWhole)
  (arg4 : Memref sig .scVector .hbm S7500x32x256 .f32) (harg4 : arg4.IsWhole) (arg5 : Memref sig .scVector .vmem S3200 .i32) (harg5 : arg5.IsWhole)
  (arg6 : Memref sig .scVector .vmem S3200 .i32) (harg6 : arg6.IsWhole) (arg7 : Memref sig .scVector .vmem S2x25x8x128 .f32) (harg7 : arg7.IsWhole)
  (arg8 : Memref sig .scVector .vmem S2x25x8x128 .f32) (harg8 : arg8.IsWhole) (arg9 arg10 arg11 arg12 v87_r0 : DmaSems sig S_)

variable (d : Dev nD) {α : Type} {Q : α → sProp (MM F)}

abbrev core (i : grid0.Coords) : Fin τ.nSC := (i 0).castLE hcore0
abbrev sub (i : grid0.Coords) : Fin τ.nSub := (i 1).castLE hsub0

variable {T : Buf (Elt F) (arg6.view.loc (thr d (core i) (sub i)))} (hT : ∀ j, (arg6.view.read (Elt F) T j).toNat < 25)

/-- The index block and a table whose rows below `v` are filled. -/
abbrev TI0 (X : Buf (Elt F) (arg5.view.loc (thr d (core i) (sub i)))) (v : ℕ) : sProp (MM F) := TI d (core i) (sub i) arg5 arg6 X v 0

/-- The first output slab with the rows below `v` filled out of the first input slab. -/
abbrev GI0 (fs : Buf (Elt F) ((slot0 arg7).view.loc (thr d (core i) (sub i)))) (v : ℕ) : sProp (MM F) :=
  GI d (core i) (sub i) arg6 (slot0 arg7) (slot0 arg8) T fs (gat (arg6.view.read (Elt F) T) hT ((slot0 arg7).view.read (Elt F) fs)) v 0

/-- The second output slab with the rows below `v` filled out of the second input slab. -/
abbrev GI1 (fs : Buf (Elt F) ((slot1 arg7).view.loc (thr d (core i) (sub i)))) (v : ℕ) : sProp (MM F) :=
  GI d (core i) (sub i) arg6 (slot1 arg7) (slot1 arg8) T fs (gat (arg6.view.read (Elt F) T) hT ((slot1 arg7).view.read (Elt F) fs)) v 0

theorem wp_part160 {X : Buf (Elt F) (arg5.view.loc (thr d (core i) (sub i)))} {k : (Σ' (_ : BitVec 32), BitVec 32) → TileProg F (core i) (sub i) α} :
    (TI0 i arg5 arg6 d X 5 : sProp 𝕄)
      ⊢ iprop((TI0 i arg5 arg6 d X 15 -∗ wp frame (wpE (defs₀ (F := F)) 𝒱₀ (thr d (core i) (sub i)) none) Set.univ (k ⟨0#32, 8#32⟩) Q)
        -∗ wp frame (wpE (defs₀ (F := F)) 𝒱₀ (thr d (core i) (sub i)) none) Set.univ (k0_part160 i arg2 harg2 arg3 harg3 arg4 harg4 arg5 harg5 arg6 harg6 arg7 harg7 arg8 harg8 arg9 arg10 arg11 arg12 v87_r0 v6c k0_pay101 0#32 8#32 >>= k) Q) := by
  rw [k0_part160_eq_skeleton]
  simp only [k0_part160_skel, bind_assoc, pure_bind]
  iintro H Hk
  iterate 10
    iapply (wp_trLoop d rfl ?_) $$ H
    · intro t u; exact isTr (by omega) (by exact ClosedOff.eq) rfl
    iintro H
  iapply Hk; iexact H

theorem wp_part161 {X : Buf (Elt F) (arg5.view.loc (thr d (core i) (sub i)))} {k : PUnit → TileProg F (core i) (sub i) α} :
    (TI0 i arg5 arg6 d X 15 : sProp 𝕄)
      ⊢ iprop((TI0 i arg5 arg6 d X 25 -∗ wp frame (wpE (defs₀ (F := F)) 𝒱₀ (thr d (core i) (sub i)) none) Set.univ (k ⟨⟩) Q)
        -∗ wp frame (wpE (defs₀ (F := F)) 𝒱₀ (thr d (core i) (sub i)) none) Set.univ (k0_part161 i arg2 harg2 arg3 harg3 arg4 harg4 arg5 harg5 arg6 harg6 arg7 harg7 arg8 harg8 arg9 arg10 arg11 arg12 v87_r0 v6c k0_pay101 0#32 8#32 >>= k) Q) := by
  rw [k0_part161_eq_skeleton]
  simp only [k0_part161_skel, bind_assoc, pure_bind]
  iintro H Hk
  iterate 10
    iapply (wp_trLoop d rfl ?_) $$ H
    · intro t u; exact isTr (by omega) (by exact ClosedOff.eq) rfl
    iintro H
  iapply Hk; iexact H

set_option maxHeartbeats 2000000 in
theorem wp_part156 {fs : Buf (Elt F) ((slot0 arg7).view.loc (thr d (core i) (sub i)))} {k : (Σ' (_ : BitVec 32), BitVec 32) → TileProg F (core i) (sub i) α} :
    (GI0 i arg6 arg7 arg8 d hT fs 2 : sProp 𝕄)
      ⊢ iprop((GI0 i arg6 arg7 arg8 d hT fs 9 -∗ wp frame (wpE (defs₀ (F := F)) 𝒱₀ (thr d (core i) (sub i)) none) Set.univ (k ⟨0#32, 1#32⟩) Q)
        -∗ wp frame (wpE (defs₀ (F := F)) 𝒱₀ (thr d (core i) (sub i)) none) Set.univ (k0_part156 i arg2 harg2 arg3 harg3 arg4 harg4 arg5 harg5 arg6 harg6 arg7 harg7 arg8 harg8 arg9 arg10 arg11 arg12 v87_r0 v6c >>= k) Q) := by
  rw [k0_part156_eq_skeleton]
  simp only [k0_part156_skel, bind_assoc, pure_bind]
  iintro H Hk
  iterate 7
    iapply (wp_gLoop d hT rfl ?_) $$ H
    · intro t u; exact isG_plain (by omega) (by exact ClosedOff.eq) (by exact ClosedOff.eq) (by exact ClosedOff.eq) (by exact ClosedOff.eq) (by exact ClosedOff.eq) (by exact ClosedOff.eq) (by exact ClosedOff.eq) (by exact ClosedOff.eq) (by exact ClosedOff.eq) rfl
    iintro H
  iapply Hk; iexact H

set_option maxHeartbeats 2000000 in
theorem wp_part157 {fs : Buf (Elt F) ((slot0 arg7).view.loc (thr d (core i) (sub i)))} {k : PUnit → TileProg F (core i) (sub i) α} :
    (GI0 i arg6 arg7 arg8 d hT fs 9 : sProp 𝕄)
      ⊢ iprop((GI0 i arg6 arg7 arg8 d hT fs 17 -∗ wp frame (wpE (defs₀ (F := F)) 𝒱₀ (thr d (core i) (sub i)) none) Set.univ (k ⟨⟩) Q)
        -∗ wp frame (wpE (defs₀ (F := F)) 𝒱₀ (thr d (core i) (sub i)) none) Set.univ (k0_part157 i arg2 harg2 arg3 harg3 arg4 harg4 arg5 harg5 arg6 harg6 arg7 harg7 arg8 harg8 arg9 arg10 arg11 arg12 v87_r0 v6c 0#32 1#32 >>= k) Q) := by
  rw [k0_part157_eq_skeleton]
  simp only [k0_part157_skel, bind_assoc, pure_bind]
  iintro H Hk
  iterate 8
    iapply (wp_gLoop d hT rfl ?_) $$ H
    · intro t u; exact isG_plain (by omega) (by exact ClosedOff.eq) (by exact ClosedOff.eq) (by exact ClosedOff.eq) (by exact ClosedOff.eq) (by exact ClosedOff.eq) (by exact ClosedOff.eq) (by exact ClosedOff.eq) (by exact ClosedOff.eq) (by exact ClosedOff.eq) rfl
    iintro H
  iapply Hk; iexact H

set_option maxHeartbeats 2000000 in
theorem wp_part158 {fs : Buf (Elt F) ((slot0 arg7).view.loc (thr d (core i) (sub i)))} {k : (Σ' (_ : BitVec 32), BitVec 32) → TileProg F (core i) (sub i) α} :
    (GI0 i arg6 arg7 arg8 d hT fs 17 : sProp 𝕄)
      ⊢ iprop((GI0 i arg6 arg7 arg8 d hT fs 24 -∗ wp frame (wpE (defs₀ (F := F)) 𝒱₀ (thr d (core i) (sub i)) none) Set.univ (k ⟨0#32, 1#32⟩) Q)
        -∗ wp frame (wpE (defs₀ (F := F)) 𝒱₀ (thr d (core i) (sub i)) none) Set.univ (k0_part158 i arg2 harg2 arg3 harg3 arg4 harg4 arg5 harg5 arg6 harg6 arg7 harg7 arg8 harg8 arg9 arg10 arg11 arg12 v87_r0 v6c >>= k) Q) := by
  rw [k0_part158_eq_skeleton]
  simp only [k0_part158_skel, bind_assoc, pure_bind]
  iintro H Hk
  iterate 7
    iapply (wp_gLoop d hT rfl ?_) $$ H
    · intro t u; exact isG_plain (by omega) (by exact ClosedOff.eq) (by exact ClosedOff.eq) (by exact ClosedOff.eq) (by exact ClosedOff.eq) (by exact ClosedOff.eq) (by exact ClosedOff.eq) (by exact ClosedOff.eq) (by exact ClosedOff.eq) (by exact ClosedOff.eq) rfl
    iintro H
  iapply Hk; iexact H

set_option maxHeartbeats 2000000 in
theorem wp_part152 (t26 : Fin k0_t26_loop.trips) (h3 : k0_cond3 t26 = 1#1) {fs : Buf (Elt F) ((slot1 arg7).view.loc (thr d (core i) (sub i)))} {k : PUnit → TileProg F (core i) (sub i) α} :
    (GI1 i arg6 arg7 arg8 d hT fs 2 : sProp 𝕄)
      ⊢ iprop((GI1 i arg6 arg7 arg8 d hT fs 10 -∗ wp frame (wpE (defs₀ (F := F)) 𝒱₀ (thr d (core i) (sub i)) none) Set.univ (k ⟨⟩) Q)
        -∗ wp frame (wpE (defs₀ (F := F)) 𝒱₀ (thr d (core i) (sub i)) none) Set.univ (k0_part152 i arg2 harg2 arg3 harg3 arg4 harg4 arg5 harg5 arg6 harg6 arg7 harg7 arg8 harg8 arg9 arg10 arg11 arg12 v87_r0 v6c t26 h3 0#32 >>= k) Q) := by
  rw [k0_part152_eq_skeleton]
  simp only [k0_part152_skel, bind_assoc, pure_bind]
  iintro H Hk
  iterate 8
    iapply (wp_gLoop d hT rfl ?_) $$ H
    · intro t u; exact isG_guarded (by omega) h3 (by exact ClosedOff.eq) (by exact ClosedOff.eq) (by exact ClosedOff.eq) (by exact ClosedOff.eq) (by exact ClosedOff.eq) (by exact ClosedOff.eq) (by exact ClosedOff.eq) (by exact ClosedOff.eq) (by exact ClosedOff.eq) rfl
    iintro H
  iapply Hk; iexact H

set_option maxHeartbeats 2000000 in
theorem wp_part153 (t26 : Fin k0_t26_loop.trips) (h3 : k0_cond3 t26 = 1#1) {fs : Buf (Elt F) ((slot1 arg7).view.loc (thr d (core i) (sub i)))} {k : BitVec 32 → TileProg F (core i) (sub i) α} :
    (GI1 i arg6 arg7 arg8 d hT fs 10 : sProp 𝕄)
      ⊢ iprop((GI1 i arg6 arg7 arg8 d hT fs 17 -∗ wp frame (wpE (defs₀ (F := F)) 𝒱₀ (thr d (core i) (sub i)) none) Set.univ (k 0#32) Q)
        -∗ wp frame (wpE (defs₀ (F := F)) 𝒱₀ (thr d (core i) (sub i)) none) Set.univ (k0_part153 i arg2 harg2 arg3 harg3 arg4 harg4 arg5 harg5 arg6 harg6 arg7 harg7 arg8 harg8 arg9 arg10 arg11 arg12 v87_r0 v6c t26 h3 >>= k) Q) := by
  rw [k0_part153_eq_skeleton]
  simp only [k0_part153_skel, bind_assoc, pure_bind]
  iintro H Hk
  iterate 7
    iapply (wp_gLoop d hT rfl ?_) $$ H
    · intro t u; exact isG_guarded (by omega) h3 (by exact ClosedOff.eq) (by exact ClosedOff.eq) (by exact ClosedOff.eq) (by exact ClosedOff.eq) (by exact ClosedOff.eq) (by exact ClosedOff.eq) (by exact ClosedOff.eq) (by exact ClosedOff.eq) (by exact ClosedOff.eq) rfl
    iintro H
  iapply Hk; iexact H

set_option maxHeartbeats 2000000 in
theorem wp_part154 (t26 : Fin k0_t26_loop.trips) (h3 : k0_cond3 t26 = 1#1) {fs : Buf (Elt F) ((slot1 arg7).view.loc (thr d (core i) (sub i)))} {k : BitVec 32 → TileProg F (core i) (sub i) α} :
    (GI1 i arg6 arg7 arg8 d hT fs 17 : sProp 𝕄)
      ⊢ iprop((GI1 i arg6 arg7 arg8 d hT fs 25 -∗ wp frame (wpE (defs₀ (F := F)) 𝒱₀ (thr d (core i) (sub i)) none) Set.univ (k 1#32) Q)
        -∗ wp frame (wpE (defs₀ (F := F)) 𝒱₀ (thr d (core i) (sub i)) none) Set.univ (k0_part154 i arg2 harg2 arg3 harg3 arg4 harg4 arg5 harg5 arg6 harg6 arg7 harg7 arg8 harg8 arg9 arg10 arg11 arg12 v87_r0 v6c t26 h3 0#32 >>= k) Q) := by
  rw [k0_part154_eq_skeleton]
  simp only [k0_part154_skel, bind_assoc, pure_bind]
  iintro H Hk
  iterate 8
    iapply (wp_gLoop d hT rfl ?_) $$ H
    · intro t u; exact isG_guarded (by omega) h3 (by exact ClosedOff.eq) (by exact ClosedOff.eq) (by exact ClosedOff.eq) (by exact ClosedOff.eq) (by exact ClosedOff.eq) (by exact ClosedOff.eq) (by exact ClosedOff.eq) (by exact ClosedOff.eq) (by exact ClosedOff.eq) rfl
    iintro H
  iapply Hk; iexact H

end Cert.Proof
-- ==== Proof.Dma.lean ====
/-
  The transfers of one unit of work. A unit is a block of 25 rows of `x`, 8 batch rows and 128 channels. It comes into a slab by two
  transfers, of its first 12 and of its last 13 rows, on one semaphore, and one wait takes both (`wp_startIn`, `wp_waitIn`); its result leaves an output slab
  by one transfer (`wp_startOut`, `wp_waitOut`).
-/
module

public import proofs.«01_k».proof.Proof.Rows

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.ValueIdx

variable {F : FTy → Type} [FloatOps F]

local notation "𝕄" => MM F

/-! ## The block of a unit -/

/-- Where unit `k` of the tile at `i` lies in the array. -/
def uOff (i : grid0.Coords) (k : ℕ) : Fin 3 → ℕ := ![25 * ((i 1).val / 4 + 4 * min k 74), 8 * ((i 1).val % 4), 128 * (i 0).val]

/-- Where the last 13 rows of the unit lie. -/
def uOffB (i : grid0.Coords) (k : ℕ) : Fin 3 → ℕ := ![25 * ((i 1).val / 4 + 4 * min k 74) + 12, 8 * ((i 1).val % 4), 128 * (i 0).val]

theorem i0_lt (i : grid0.Coords) : (i 0).val < 2 := (i 0).isLt
theorem i1_lt (i : grid0.Coords) : (i 1).val < 16 := (i 1).isLt

theorem u_inb (i : grid0.Coords) (k : ℕ) : ∀ a, uOff i k a + S25x8x128.size a ≤ S7500x32x256.size a := by
  intro a
  have h0 := i0_lt i
  have h1 := i1_lt i
  match a with
  | 0 => show 25 * ((i 1).val / 4 + 4 * min k 74) + 25 ≤ 7500; omega
  | 1 => show 8 * ((i 1).val % 4) + 8 ≤ 32; omega
  | 2 => show 128 * (i 0).val + 128 ≤ 256; omega

theorem uA_inb (i : grid0.Coords) (k : ℕ) : ∀ a, uOff i k a + S12x8x128.size a ≤ S7500x32x256.size a := by
  intro a
  have h0 := i0_lt i
  have h1 := i1_lt i
  match a with
  | 0 => show 25 * ((i 1).val / 4 + 4 * min k 74) + 12 ≤ 7500; omega
  | 1 => show 8 * ((i 1).val % 4) + 8 ≤ 32; omega
  | 2 => show 128 * (i 0).val + 128 ≤ 256; omega

theorem uB_inb (i : grid0.Coords) (k : ℕ) : ∀ a, uOffB i k a + S13x8x128.size a ≤ S7500x32x256.size a := by
  intro a
  have h0 := i0_lt i
  have h1 := i1_lt i
  match a with
  | 0 => show 25 * ((i 1).val / 4 + 4 * min k 74) + 12 + 13 ≤ 7500; omega
  | 1 => show 8 * ((i 1).val % 4) + 8 ≤ 32; omega
  | 2 => show 128 * (i 0).val + 128 ≤ 256; omega

abbrev uRect (i : grid0.Coords) (k : ℕ) : Rect S7500x32x256 := Rect.unit (s := S7500x32x256) (uOff i k) S25x8x128.size (u_inb i k)
abbrev uRectA (i : grid0.Coords) (k : ℕ) : Rect S7500x32x256 := Rect.unit (s := S7500x32x256) (uOff i k) S12x8x128.size (uA_inb i k)
abbrev uRectB (i : grid0.Coords) (k : ℕ) : Rect S7500x32x256 := Rect.unit (s := S7500x32x256) (uOffB i k) S13x8x128.size (uB_inb i k)

/-- The unit's block of `x` and of the output, and the two parts it comes in. -/
abbrev xA (i : grid0.Coords) (k : ℕ) : Memref sig .scVector .hbm S12x8x128 .f32 := xV.slice (uRectA i k) (fun _ => rfl)
abbrev xB (i : grid0.Coords) (k : ℕ) : Memref sig .scVector .hbm S13x8x128 .f32 := xV.slice (uRectB i k) (fun _ => rfl)
abbrev oU (i : grid0.Coords) (k : ℕ) : Memref sig .scVector .hbm S25x8x128 .f32 := oV.slice (uRect i k) (fun _ => rfl)

/-- The two parts of a slab. -/
abbrev rA : Rect S25x8x128 := Rect.unit (s := S25x8x128) ![0, 0, 0] S12x8x128.size inb_S25x8x128_S12x8x128_0_0_0
abbrev rB : Rect S25x8x128 := Rect.unit (s := S25x8x128) ![12, 0, 0] S13x8x128.size inb_S25x8x128_S13x8x128_12_0_0
abbrev slabA (xs : Memref sig .scVector .vmem S25x8x128 .f32) : Memref sig .scVector .vmem S12x8x128 .f32 := xs.slice rA (fun _ => rfl)
abbrev slabB (xs : Memref sig .scVector .vmem S25x8x128 .f32) : Memref sig .scVector .vmem S13x8x128 .f32 := xs.slice rB (fun _ => rfl)

/-- What unit `k`'s block of `X` holds. -/
def uVal (X : S7500x32x256.Idx → Elt F .f32) (i : grid0.Coords) (k : ℕ) : S25x8x128.Idx → Elt F .f32 := fun y => X ((uRect i k).emb y)

theorem rows_disjoint (xs : Memref sig .scVector .vmem S25x8x128 .f32) : Disjoint (slabA xs).view.set (slabB xs).view.set :=
  View.disjoint_slice_of_sep xs.view rA rB 0 rfl rfl (.inl (by decide))

theorem rows_union (xs : Memref sig .scVector .vmem S25x8x128 .f32) : xs.view.set = (slabA xs).view.set ∪ (slabB xs).view.set := by
  ext j
  rw [Finset.mem_union, View.set, View.set, View.set, Finset.mem_map, Finset.mem_map, Finset.mem_map]
  constructor
  · rintro ⟨y, -, rfl⟩
    have h0 : (y 0).val < 25 := (y 0).isLt
    by_cases h : (y 0).val < 12
    · refine .inl ⟨(ix3 ⟨(y 0).val, h⟩ (y 1) (y 2) : S12x8x128.Idx), Finset.mem_univ _, ?_⟩
      show xs.view.emb (rA.emb _) = xs.view.emb y
      exact congrArg _ (Shape.idx3_ext (by simp) (by simp) (by simp))
    · refine .inr ⟨(ix3 ⟨(y 0).val - 12, by omega⟩ (y 1) (y 2) : S13x8x128.Idx), Finset.mem_univ _, ?_⟩
      show xs.view.emb (rB.emb _) = xs.view.emb y
      exact congrArg _ (Shape.idx3_ext (by simp; omega) (by simp) (by simp))
  · rintro (⟨y, -, rfl⟩ | ⟨y, -, rfl⟩)
    · exact ⟨rA.emb y, Finset.mem_univ _, rfl⟩
    · exact ⟨rB.emb y, Finset.mem_univ _, rfl⟩

theorem uA_emb (i : grid0.Coords) (k : ℕ) (y : S12x8x128.Idx) : (uRectA i k).emb y = (uRect i k).emb (rA.emb y) :=
  Shape.idx3_ext (by simp [uOff]) (by simp [uOff]) (by simp [uOff])

theorem uB_emb (i : grid0.Coords) (k : ℕ) (y : S13x8x128.Idx) : (uRectB i k).emb y = (uRect i k).emb (rB.emb y) :=
  Shape.idx3_ext (by simp [uOff, uOffB]; omega) (by simp [uOff, uOffB]) (by simp [uOff, uOffB])

section

variable (d : Dev nD) (i : grid0.Coords)

/-- The thread of the tile at `i`. -/
abbrev tl : Thread nD τ := V d (core i) (sub i)

/-- What the two transfers of unit `k` deliver: their parts of the slab, which is at `C`, and the shares of `x` they read. -/
def Dl (xs : Memref sig .scVector .vmem S25x8x128 .f32) (C : Buf (Elt F) (xs.view.loc (tl d i))) (X : Buf (Elt F) (xV.view.loc (tl d i))) (qA qB : PosShare TreeShare) (k : ℕ) : Fin 2 → sProp (MM F)
  | 0 => iprop(((slabA xs).view.loc (tl d i) ↦[(slabA xs).view.set]{fullShare} C) ∗ ((xA i k).view.loc (tl d i) ↦[(xA i k).view.set]{qA} X))
  | 1 => iprop(((slabB xs).view.loc (tl d i) ↦[(slabB xs).view.set]{fullShare} C) ∗ ((xB i k).view.loc (tl d i) ↦[(xB i k).view.set]{qB} X))

instance Dl_storable (xs : Memref sig .scVector .vmem S25x8x128 .f32) (C : Buf (Elt F) (xs.view.loc (tl d i))) (X : Buf (Elt F) (xV.view.loc (tl d i))) (qA qB : PosShare TreeShare) (k : ℕ) :
    ∀ t, BI.Storable (upEmb : UEmb _ (MM F)) (Dl d i xs C X qA qB k t)
  | 0 => by unfold Dl; infer_instance
  | 1 => by unfold Dl; infer_instance

/-- The amounts of the two transfers. -/
def amts (xs : Memref sig .scVector .vmem S25x8x128 .f32) : Fin 2 → ℕ := ![(slabA xs).view.dmaCredit, (slabB xs).view.dmaCredit]

/-- A slab into which nothing is on the way, and the two shares of `x`. -/
def Idle (xs : Memref sig .scVector .vmem S25x8x128 .f32) (sem : DmaSem sig) (X : Buf (Elt F) (xV.view.loc (tl d i))) (qA qB : PosShare TreeShare) : sProp (MM F) :=
  iprop(semVal (tl d i, .dma sem) 0 ∗ (∃ f, xs.view.loc (tl d i) ↦[xs.view.set]{fullShare} f) ∗ (xV.view.loc (tl d i) ↦{qA} X) ∗ (xV.view.loc (tl d i) ↦{qB} X))

/-- A slab into which unit `k` is on the way. -/
def InFl (xs : Memref sig .scVector .vmem S25x8x128 .f32) (sem : DmaSem sig) (X : Buf (Elt F) (xV.view.loc (tl d i))) (qA qB : PosShare TreeShare) (k : ℕ) : sProp (MM F) :=
  iprop(∃ C, ⌜xs.view.read (Elt F) C = uVal X i k⌝ ∗ Transfers.MixedBatch countersEmb (tl d i) (.dma sem) (default : HIx 1) (amts xs) (Dl d i xs C X qA qB k) 2 0
    ∗ (xV.view.loc (tl d i) ↦[Finset.univ \ (xA i k).view.set]{qA} X) ∗ (xV.view.loc (tl d i) ↦[Finset.univ \ (xB i k).view.set]{qB} X))

omit [FloatOps F] in
/-- A part of a slab, written with the part of `v` that belongs there, is that part of the slab written with `v`. -/
theorem part_congr (xs : Memref sig .scVector .vmem S25x8x128 .f32) (r : Rect S25x8x128) (h : ∀ a, r.stride a = 1) (f g : Buf (Elt F) (xs.view.loc (tl d i)))
    (v : S25x8x128.Idx → Elt F .f32) (w : r.shape.Idx → Elt F .f32) (hw : ∀ y, w y = v (r.emb y)) :
    ((xs.slice r h).view.loc (tl d i) ↦[(xs.slice r h).view.set]{fullShare} (xs.slice r h).view.write (Elt F) f w Finset.univ : sProp (MM F))
      = ((xs.slice r h).view.loc (tl d i) ↦[(xs.slice r h).view.set]{fullShare} xs.view.write (Elt F) g v Finset.univ) :=
  pointsTo_congr fun j hj => by
    obtain ⟨y, -, rfl⟩ := Finset.mem_map.mp hj
    rw [View.write_emb_of_mem _ _ (Finset.mem_univ _), hw]
    show _ = xs.view.write (Elt F) g v Finset.univ (xs.view.emb (r.emb y))
    rw [View.write_emb_of_mem _ _ (Finset.mem_univ _)]

omit [FloatOps F] in
theorem deliverA {xs : Memref sig .scVector .vmem S25x8x128 .f32} {f C : Buf (Elt F) (xs.view.loc (tl d i))} {X : Buf (Elt F) (xV.view.loc (tl d i))} {qA qB : PosShare TreeShare} {k : ℕ}
    (hC : xs.view.write (Elt F) f (uVal X i k) Finset.univ = C) :
    iprop(((slabA xs).view.loc (tl d i) ↦[(slabA xs).view.set]{fullShare} (slabA xs).view.write (Elt F) f ((ReadAs.same (Val := Elt F)).apply ((xA i k).view.read (Elt F) X)) Finset.univ)
      ∗ ((xA i k).view.loc (tl d i) ↦[(xA i k).view.set]{qA} X) : sProp (MM F)) ⊢ Dl d i xs C X qA qB k 0 := by
  subst hC
  exact sep_mono_left (Entails.of_eq (part_congr d i xs rA (fun _ => rfl) f f (uVal X i k) _ fun y => congrArg X (uA_emb i k y)))

omit [FloatOps F] in
theorem deliverB {xs : Memref sig .scVector .vmem S25x8x128 .f32} {f C : Buf (Elt F) (xs.view.loc (tl d i))} {X : Buf (Elt F) (xV.view.loc (tl d i))} {qA qB : PosShare TreeShare} {k : ℕ}
    (hC : xs.view.write (Elt F) f (uVal X i k) Finset.univ = C) :
    iprop(((slabB xs).view.loc (tl d i) ↦[(slabB xs).view.set]{fullShare} (slabB xs).view.write (Elt F) f ((ReadAs.same (Val := Elt F)).apply ((xB i k).view.read (Elt F) X)) Finset.univ)
      ∗ ((xB i k).view.loc (tl d i) ↦[(xB i k).view.set]{qB} X) : sProp (MM F)) ⊢ Dl d i xs C X qA qB k 1 := by
  subst hC
  exact sep_mono_left (Entails.of_eq (part_congr d i xs rB (fun _ => rfl) f f (uVal X i k) _ fun y => congrArg X (uB_emb i k y)))

variable {α : Type} {Q : α → sProp (MM F)}

/-- Both transfers of unit `k` are issued. -/
theorem wp_startIn {xs : Memref sig .scVector .vmem S25x8x128 .f32} {sem : DmaSem sig} {X : Buf (Elt F) (xV.view.loc (tl d i))} {qA qB : PosShare TreeShare} {k : ℕ}
    {oA oB : Fin 3 → ℕ} (hA : oA = uOff i k) (hB : oB = uOffB i k) {iA : ∀ a, oA a + S12x8x128.size a ≤ S7500x32x256.size a} {iB : ∀ a, oB a + S13x8x128.size a ≤ S7500x32x256.size a}
    {w1 w2 w3 w1' w2' w3'} {kk : PUnit → TileProg F (core i) (sub i) α} :
    (Idle d i xs sem X qA qB : sProp 𝕄)
      ⊢ iprop((InFl d i xs sem X qA qB k -∗ wp frame (wpE (defs₀ (F := F)) 𝒱₀ (tl d i) none) Set.univ (kk ⟨⟩) Q)
        -∗ wp frame (wpE (defs₀ (F := F)) 𝒱₀ (tl d i) none) Set.univ
          (Prog.lift (.enqueueDma (xV.slice (Rect.unit (s := S7500x32x256) oA S12x8x128.size iA) (fun _ => rfl)) (.here (slabA xs)) (.dma sem) w1 w2 w3) >>= fun _ =>
            Prog.lift (.enqueueDma (xV.slice (Rect.unit (s := S7500x32x256) oB S13x8x128.size iB) (fun _ => rfl)) (.here (slabB xs)) (.dma sem) w1' w2' w3') >>= kk) Q) := by
  subst hA hB
  rw [Prog.bind_lift]
  simp only [Prog.bind_lift]
  unfold Idle InFl
  iintro ⟨Hs, ⟨%f, Hf⟩, HxA, HxB⟩ Hk
  have hC : xs.view.read (Elt F) (xs.view.write (Elt F) f (uVal X i k) Finset.univ) = uVal X i k := View.read_write_univ _ _
  generalize hCdef : xs.view.write (Elt F) f (uVal X i k) Finset.univ = C at hC
  imod (Transfers.mixedBatch_alloc' countersEmb (default : HIx 1) (amts xs) (Dl d i xs C X qA qB k) (c := tl d i) (sm := .dma sem) (E := Set.univ)) $$ Hs with Hb
  rw [rows_union xs]
  ihave Hf' := (pointsTo_union (rows_disjoint xs)).1 $$ Hf
  icases Hf' with ⟨HfA, HfB⟩
  ihave HxA' := (pointsTo_split_subset (Finset.subset_univ (xA i k).view.set)).1 $$ HxA
  icases HxA' with ⟨HxA, HrA⟩
  ihave HxB' := (pointsTo_split_subset (Finset.subset_univ (xB i k).view.set)).1 $$ HxB
  icases HxB' with ⟨HxB, HrB⟩
  iapply (Transfers.wp_dmaMixedBatch countersEmb 𝒱₀ (tl d i) none (default : HIx 1) (src := xA i k) (dst := slabA xs) (q := qA) (fs := X) (fd := f) (D := Dl d i xs C X qA qB k) (amts xs) (Finset.Subset.refl _) (by omega : 0 < 2) rfl (Nat.zero_le _) ?_) $$ [HxA HfA Hb]
  · exact deliverA d i hCdef
  · isplitl [HxA]; · iexact HxA
    isplitl [HfA]; · iexact HfA
    iexact Hb
  iintro Hb
  iapply (Transfers.wp_dmaMixedBatch countersEmb 𝒱₀ (tl d i) none (default : HIx 1) (src := xB i k) (dst := slabB xs) (q := qB) (fs := X) (fd := f) (D := Dl d i xs C X qA qB k) (amts xs) (Finset.Subset.refl _) (by omega : 1 < 2) rfl (Nat.zero_le _) ?_) $$ [HxB HfB Hb]
  · exact deliverB d i hCdef
  · isplitl [HxB]; · iexact HxB
    isplitl [HfB]; · iexact HfB
    iexact Hb
  iintro Hb
  iapply Hk
  iexists C
  isplitr; · ipureintro; exact hC
  isplitl [Hb]; · iexact Hb
  isplitl [HrA]; · iexact HrA
  iexact HrB

/-- What the thread owes, and the waits it has recorded. -/
def Ow (O : CellTallies nD τ sig (HIx 1)) (W : Waits sig (HIx 1)) : sProp (MM F) :=
  iprop(∃ W', ⌜∀ p ∈ W', p ∈ W ∨ p.2 = none⌝ ∗ owes (tl d i) O W')

omit [FloatOps F] in
theorem ow_open {O : CellTallies nD τ sig (HIx 1)} {W : Waits sig (HIx 1)} :
    (Ow d i O W : sProp (MM F)) ⊢ iprop(∃ W', ⌜∀ p ∈ W', p ∈ W ∨ p.2 = none⌝ ∗ owes (tl d i) O W') := Entails.of_eq rfl

omit [FloatOps F] in
theorem ow_insert {O : CellTallies nD τ sig (HIx 1)} {W W' : Waits sig (HIx 1)} (h : ∀ p ∈ W', p ∈ W ∨ p.2 = none) (sm : SemLoc sig) :
    (owes (tl d i) O (insert (sm, (default : HIx 1)) W') : sProp (MM F)) ⊢ Ow d i O W := by
  unfold Ow
  iintro H
  iexists _
  isplitr
  rotate_left
  · iexact H
  ipureintro
  intro p hp
  rcases Finset.mem_insert.mp hp with rfl | hp
  · exact .inr rfl
  · exact h p hp

/-- A slab that holds unit `k`, and the two shares of `x`. -/
def Full (xs : Memref sig .scVector .vmem S25x8x128 .f32) (sem : DmaSem sig) (X : Buf (Elt F) (xV.view.loc (tl d i))) (qA qB : PosShare TreeShare) (k : ℕ) : sProp (MM F) :=
  iprop(semVal (tl d i, .dma sem) 0 ∗ (∃ C, ⌜xs.view.read (Elt F) C = uVal X i k⌝ ∗ xs.view.loc (tl d i) ↦[xs.view.set]{fullShare} C)
    ∗ (xV.view.loc (tl d i) ↦{qA} X) ∗ (xV.view.loc (tl d i) ↦{qB} X))

/-- One wait takes both transfers of unit `k`. -/
theorem wp_waitIn {xs : Memref sig .scVector .vmem S25x8x128 .f32} {sem : DmaSem sig} {X : Buf (Elt F) (xV.view.loc (tl d i))} {qA qB : PosShare TreeShare} {k : ℕ}
    (hamt : xs.view.dmaCredit = (slabA xs).view.dmaCredit + (slabB xs).view.dmaCredit) {srcw : Memref sig .scVector .hbm S25x8x128 .f32} {w1 w2}
    {O : CellTallies nD τ sig (HIx 1)} {W : Waits sig (HIx 1)} {kk : PUnit → TileProg F (core i) (sub i) α} :
    iprop(InFl d i xs sem X qA qB k ∗ Ow d i O W ∗ Transfers.MayWaits (tl d i) (default : HIx 1) O : sProp 𝕄)
      ⊢ iprop((Full d i xs sem X qA qB k ∗ Ow d i O W -∗ wp frame (wpE (defs₀ (F := F)) 𝒱₀ (tl d i) none) Set.univ (kk ⟨⟩) Q)
        -∗ wp frame (wpE (defs₀ (F := F)) 𝒱₀ (tl d i) none) Set.univ (Prog.lift (.waitDma2 sem srcw xs w1 w2) >>= kk) Q) := by
  rw [Prog.bind_lift]
  unfold InFl
  iintro ⟨⟨%C, %hC, Hb, HrA, HrB⟩, Hw, Hmw⟩ Hk
  ihave Hw' := (ow_open d i) $$ Hw
  icases Hw' with ⟨%W', %hW, HO⟩
  iapply (Transfers.wp_waitMixedBatchAllO countersEmb 𝒱₀ (tl d i) none (default : HIx 1) (A := amts xs) (J := xs.view.dmaCredit) rfl ?_ ?_) $$ [Hb HO Hmw]
  · intro t
    match t with
    | 0 => exact View.dmaCredit_pos _ (by decide)
    | 1 => exact View.dmaCredit_pos _ (by decide)
  · rw [hamt, Nat.zero_add, Transfers.sumTo_total, Fin.sum_univ_two]; rfl
  · isplitl [Hb]; · iexact Hb
    isplitl [HO]; · iexact HO
    iapply (Transfers.MayWaits.elim (SemLoc.dma sem)) $$ Hmw
  rw [Transfers.bigSep_pending_zero, Transfers.bigSep_pending_step _ 0 (by omega), Transfers.bigSep_pending_last _ 1 (by omega) rfl]
  unfold Dl
  iintro ⟨⟨⟨HfA, HxA⟩, HfB, HxB⟩, Hs, HO⟩
  iapply Hk
  unfold Full
  isplitr [HO]
  · isplitl [Hs]; · iexact Hs
    isplitl [HfA HfB]
    · iexists C
      isplitr; · ipureintro; exact hC
      rw [rows_union xs]
      iapply (pointsTo_union (rows_disjoint xs)).2
      isplitl [HfA] <;> iassumption
    isplitl [HxA HrA]
    · iapply (pointsTo_split_subset (Finset.subset_univ (xA i k).view.set)).2
      isplitl [HxA] <;> iassumption
    · iapply (pointsTo_split_subset (Finset.subset_univ (xB i k).view.set)).2
      isplitl [HxB] <;> iassumption
  · iapply (ow_insert d i hW _) $$ HO

/-- The elements of the output that unit `k` fills. -/
abbrev uSet (i : grid0.Coords) (k : ℕ) : Finset (Idx (oV.view.loc (tl d i))) := (oU i k).view.set

/-- The amount of a transfer out of an output slab. -/
abbrev outN (i : grid0.Coords) : ℕ := (oU i 0).view.dmaCredit

/-- An output slab from which nothing is on the way. -/
def OIdle (os : Memref sig .scVector .vmem S25x8x128 .f32) (sem : DmaSem sig) : sProp (MM F) :=
  iprop(semVal (tl d i, .dma sem) 0 ∗ ∃ f, os.view.loc (tl d i) ↦[os.view.set]{fullShare} f)

/-- An output slab from which unit `k` is on the way; when it has landed, its block of the output holds `Y`. -/
def OFl (os : Memref sig .scVector .vmem S25x8x128 .f32) (sem : DmaSem sig) (Y : Buf (Elt F) (oV.view.loc (tl d i))) (k : ℕ) : sProp (MM F) :=
  Transfers.Flight countersEmb (tl d i) (.dma sem) (default : HIx 1) (outN i)
    iprop((oV.view.loc (tl d i) ↦[uSet d i k]{fullShare} Y) ∗ ∃ f, os.view.loc (tl d i) ↦[os.view.set]{fullShare} f)

/-- The transfer of unit `k`'s result is issued. -/
theorem wp_startOut {os : Memref sig .scVector .vmem S25x8x128 .f32} {sem : DmaSem sig} {Y g : Buf (Elt F) (oV.view.loc (tl d i))} {k : ℕ}
    {f : Buf (Elt F) (os.view.loc (tl d i))} (hf : ∀ y, os.view.read (Elt F) f y = Y ((uRect i k).emb y))
    {o : Fin 3 → ℕ} (ho : o = uOff i k) {io : ∀ a, o a + S25x8x128.size a ≤ S7500x32x256.size a} {w1 w2 w3} {kk : PUnit → TileProg F (core i) (sub i) α} :
    iprop(semVal (tl d i, .dma sem) 0 ∗ (os.view.loc (tl d i) ↦[os.view.set]{fullShare} f) ∗ (oV.view.loc (tl d i) ↦[uSet d i k]{fullShare} g) : sProp 𝕄)
      ⊢ iprop((OFl d i os sem Y k -∗ wp frame (wpE (defs₀ (F := F)) 𝒱₀ (tl d i) none) Set.univ (kk ⟨⟩) Q)
        -∗ wp frame (wpE (defs₀ (F := F)) 𝒱₀ (tl d i) none) Set.univ
          (Prog.lift (.enqueueDma os (.here (oV.slice (Rect.unit (s := S7500x32x256) o S25x8x128.size io) (fun _ => rfl))) (.dma sem) w1 w2 w3) >>= kk) Q) := by
  subst ho
  rw [Prog.bind_lift]
  iintro ⟨Hs, Hf, Ho⟩ Hk
  iapply (Transfers.wp_dmaLocal countersEmb 𝒱₀ (tl d i) none (default : HIx 1) (outN i) ?_ (View.dmaCredit_pos _ (by decide)) (Finset.Subset.refl _)) $$ [Hs Hf Ho]
  · rfl
  · isplitl [Hf]; · iexact Hf
    isplitl [Ho]; · iexact Ho
    iexact Hs
  iintro H
  iapply Hk
  unfold OFl
  iapply (Transfers.Flight_mono countersEmb (tl d i) ?_) $$ H
  iintro ⟨Ho, Hf⟩
  isplitl [Ho]
  · iapply (Entails.of_eq (pointsTo_congr fun j hj => ?_)) $$ Ho
    obtain ⟨y, -, rfl⟩ := Finset.mem_map.mp hj
    rw [View.write_emb_of_mem _ _ (Finset.mem_univ _)]
    exact hf y
  · iexists f; iexact Hf

/-- The wait for unit `k`'s result. -/
theorem wp_waitOut {os : Memref sig .scVector .vmem S25x8x128 .f32} {sem : DmaSem sig} {Y : Buf (Elt F) (oV.view.loc (tl d i))} {k : ℕ}
    {o : Fin 3 → ℕ} {io : ∀ a, o a + S25x8x128.size a ≤ S7500x32x256.size a} {w1 w2}
    {O : CellTallies nD τ sig (HIx 1)} {W : Waits sig (HIx 1)} {kk : PUnit → TileProg F (core i) (sub i) α} :
    iprop(OFl d i os sem Y k ∗ Ow d i O W ∗ Transfers.MayWaits (tl d i) (default : HIx 1) O : sProp 𝕄)
      ⊢ iprop((OIdle d i os sem ∗ (oV.view.loc (tl d i) ↦[uSet d i k]{fullShare} Y) ∗ Ow d i O W -∗ wp frame (wpE (defs₀ (F := F)) 𝒱₀ (tl d i) none) Set.univ (kk ⟨⟩) Q)
        -∗ wp frame (wpE (defs₀ (F := F)) 𝒱₀ (tl d i) none) Set.univ
          (Prog.lift (.waitDma2 sem os (oV.slice (Rect.unit (s := S7500x32x256) o S25x8x128.size io) (fun _ => rfl)) w1 w2) >>= kk) Q) := by
  rw [Prog.bind_lift]
  unfold OFl
  iintro ⟨Hfl, Hw, Hmw⟩ Hk
  ihave Hw' := (ow_open d i) $$ Hw
  icases Hw' with ⟨%W', %hW, HO⟩
  iapply (Transfers.wp_waitLocalO countersEmb 𝒱₀ (tl d i) none (default : HIx 1) (N := outN i) ?_) $$ [Hfl HO Hmw]
  · rfl
  · isplitl [Hfl]; · iexact Hfl
    isplitl [HO]; · iexact HO
    iapply (Transfers.MayWaits.elim (SemLoc.dma sem)) $$ Hmw
  iintro ⟨⟨Ho, Hf⟩, Hs, HO⟩
  iapply Hk
  unfold OIdle
  isplitl [Hs Hf]
  · isplitl [Hs] <;> iassumption
  isplitl [Ho]; · iexact Ho
  iapply (ow_insert d i hW _) $$ HO

end

end Cert.Proof
-- ==== Proof.Trip.lean ====
/-
  One trip of the kernel's outer loop, and the loop: what is on the way and what has landed before each trip.
-/
module

public import proofs.«01_k».proof.Proof.Dma

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.ValueIdx

variable {F : FTy → Type} [FloatOps F]

local notation "𝕄" => MM F

/-! ## The branches and the offsets of a trip -/

theorem trips26 : k0_t26_loop.trips = 38 := by decide +kernel

theorem n_lt (n : Fin k0_t26_loop.trips) : n.val < 38 := Nat.lt_of_lt_of_eq n.isLt trips26

theorem cond1_iff : ∀ n : Fin k0_t26_loop.trips, k0_cond1 n = 1#1 ↔ n.val < 37 := by decide +kernel
theorem cond2_iff : ∀ n : Fin k0_t26_loop.trips, k0_cond2 n = 1#1 ↔ 0 < n.val := by decide +kernel
theorem cond3_iff : ∀ n : Fin k0_t26_loop.trips, k0_cond3 n = 1#1 ↔ n.val < 37 := by decide +kernel
theorem cond4_iff : ∀ n : Fin k0_t26_loop.trips, k0_cond4 n = 1#1 ↔ n.val < 37 := by decide +kernel
theorem cond5_iff : ∀ n : Fin k0_t26_loop.trips, k0_cond5 n = 1#1 ↔ 0 < n.val := by decide +kernel

theorem off27_eq : ∀ i, k0_off27 i = uOff i 0 := by decide +kernel
theorem off28_eq : ∀ i, k0_off28 i = uOffB i 0 := by decide +kernel
theorem off29_eq : ∀ i n, n.val < 37 → k0_off29 i n = uOff i (2 * n.val + 1) := by decide +kernel
theorem off30_eq : ∀ i n, n.val < 37 → k0_off30 i n = uOffB i (2 * n.val + 1) := by decide +kernel
theorem off31_eq : ∀ i n, k0_off31 i n = uOff i (2 * n.val) := by decide +kernel
theorem off258_eq : ∀ i n, n.val < 37 → k0_off258 i n = uOff i (2 * (n.val + 1)) := by decide +kernel
theorem off259_eq : ∀ i n, n.val < 37 → k0_off259 i n = uOffB i (2 * (n.val + 1)) := by decide +kernel
theorem off260_eq : ∀ i n, n.val < 37 → k0_off260 i n = uOff i (2 * n.val + 1) := by decide +kernel

section

variable (d : Dev nD) {α : Type} {Q : α → sProp (MM F)}

theorem dite_bindR {E : Type → Type} {c : Prop} [Decidable c] {β γ : Type} {p : c → Prog E β} {q : ¬ c → Prog E β} {k : β → Prog E γ} :
    (dite c p q >>= k) = dite c (fun h => p h >>= k) (fun h => q h >>= k) := by split <;> rfl

/-- A branch that goes on as without it when its condition fails. -/
theorem wp_opt {sc : Fin τ.nSC} {su : Fin τ.nSub} {c : Prop} [Decidable c] {p : c → TileProg F sc su α} {q : TileProg F sc su α} {P R : sProp (MM F)}
    (hpos : ∀ h : c, P ⊢ iprop((R -∗ wp frame (wpE (defs₀ (F := F)) 𝒱₀ (thr d sc su) none) Set.univ q Q) -∗ wp frame (wpE (defs₀ (F := F)) 𝒱₀ (thr d sc su) none) Set.univ (p h) Q))
    (hneg : ¬ c → P ⊢ R) :
    P ⊢ iprop((R -∗ wp frame (wpE (defs₀ (F := F)) 𝒱₀ (thr d sc su) none) Set.univ q Q)
      -∗ wp frame (wpE (defs₀ (F := F)) 𝒱₀ (thr d sc su) none) Set.univ (if h : c then p h else q) Q) := by
  by_cases h : c
  · rw [dif_pos h]; exact hpos h
  · rw [dif_neg h]
    iintro HP Hk
    iapply Hk
    iapply (hneg h) $$ HP

end

variable (i : grid0.Coords) (harg2 : xV.IsWhole) (arg3 : Memref sig .scVector .hbm S6400 .i32) (harg3 : arg3.IsWhole)
  (harg4 : oV.IsWhole) (arg5 : Memref sig .scVector .vmem S3200 .i32) (harg5 : arg5.IsWhole)
  (arg6 : Memref sig .scVector .vmem S3200 .i32) (harg6 : arg6.IsWhole) (arg7 : Memref sig .scVector .vmem S2x25x8x128 .f32) (harg7 : arg7.IsWhole)
  (arg8 : Memref sig .scVector .vmem S2x25x8x128 .f32) (harg8 : arg8.IsWhole) (arg9 arg10 arg11 arg12 v87_r0 : DmaSems sig S_)

variable (d : Dev nD) {α : Type} {Q : α → sProp (MM F)}

variable (X : Buf (Elt F) (xV.view.loc (tl d i))) (T : Buf (Elt F) (arg6.view.loc (tl d i))) (hT : ∀ j, (arg6.view.read (Elt F) T j).toNat < 25)
  (Y g : Buf (Elt F) (oV.view.loc (tl d i))) (q0 q1 q2 q3 : PosShare TreeShare) (O : CellTallies nD τ sig (HIx 1)) (W : Waits sig (HIx 1))

/-- The first `n` units of the result hold `Y`. -/
def Landed (n : ℕ) : sProp (MM F) := bigSep (Finset.range n) fun k => iprop(oV.view.loc (tl d i) ↦[uSet d i k]{fullShare} Y)

/-- The units of the result from `n` on are as they were. -/
def Rest (n : ℕ) : sProp (MM F) := bigSep (Finset.Ico n 75) fun k => iprop(oV.view.loc (tl d i) ↦[uSet d i k]{fullShare} g)

omit [FloatOps F] in
theorem landed_succ {n m : ℕ} (h : m = n + 1) : iprop(Landed i d Y n ∗ (oV.view.loc (tl d i) ↦[uSet d i n]{fullShare} Y) : sProp 𝕄) ⊢ Landed i d Y m := by
  subst h
  unfold Landed
  rw [Finset.range_add_one, bigSep_insert Finset.notMem_range_self]
  exact sep_comm.1

omit [FloatOps F] in
theorem rest_take {n m : ℕ} (h : m = n + 1) (hn : n < 75) : (Rest i d g n : sProp 𝕄) ⊢ iprop((oV.view.loc (tl d i) ↦[uSet d i n]{fullShare} g) ∗ Rest i d g m) := by
  subst h
  unfold Rest
  rw [← Finset.insert_Ico_add_one_left_eq_Ico hn, bigSep_insert (by simp)]
  exact Entails.rfl

/-- The table. -/
abbrev Tab : sProp (MM F) := iprop(arg6.view.loc (tl d i) ↦[arg6.view.set]{fullShare} T)

/-- What is left of a slab's reads and writes while it is worked on. -/
def Busy (semI semO : DmaSem sig) (qA qB : PosShare TreeShare) : sProp (MM F) :=
  iprop(semVal (tl d i, .dma semI) 0 ∗ (xV.view.loc (tl d i) ↦{qA} X) ∗ (xV.view.loc (tl d i) ↦{qB} X) ∗ semVal (tl d i, .dma semO) 0)

/-- The first pair of slabs at work on unit `k`: the rows below `v` are done. -/
def Mid0 (k v : ℕ) : sProp (MM F) :=
  iprop(Busy i d X arg9.sem arg11.sem q0 q1 ∗ ∃ C, ⌜(slot0 arg7).view.read (Elt F) C = uVal X i k⌝ ∗ GI0 i arg6 arg7 arg8 d hT C v)

/-- The second pair of slabs at work on unit `k`: the rows below `v` are done. -/
def Mid1 (k v : ℕ) : sProp (MM F) :=
  iprop(Busy i d X arg10.sem arg12.sem q2 q3 ∗ ∃ C, ⌜(slot1 arg7).view.read (Elt F) C = uVal X i k⌝ ∗ GI1 i arg6 arg7 arg8 d hT C v)

/-- The first input slab before trip `n`. -/
def In0 (n : ℕ) : sProp (MM F) := if n < 38 then InFl d i (slot0 arg7) arg9.sem X q0 q1 (2 * n) else Idle d i (slot0 arg7) arg9.sem X q0 q1
/-- The second input slab in the middle of trip `n`. -/
def In1 (n : ℕ) : sProp (MM F) := if n < 37 then InFl d i (slot1 arg7) arg10.sem X q2 q3 (2 * n + 1) else Idle d i (slot1 arg7) arg10.sem X q2 q3
/-- The first output slab before trip `n`. -/
def Out0 (n : ℕ) : sProp (MM F) := if n = 0 then OIdle d i (slot0 arg8) arg11.sem else OFl d i (slot0 arg8) arg11.sem Y (2 * n - 2)
/-- The second output slab before trip `n`. -/
def Out1 (n : ℕ) : sProp (MM F) := if n = 0 then OIdle d i (slot1 arg8) arg12.sem else OFl d i (slot1 arg8) arg12.sem Y (2 * min n 37 - 1)

theorem credit0 : (slot0 xbV).view.dmaCredit = (slabA (slot0 xbV)).view.dmaCredit + (slabB (slot0 xbV)).view.dmaCredit := by decide +kernel
theorem credit1 : (slot1 xbV).view.dmaCredit = (slabA (slot1 xbV)).view.dmaCredit + (slabB (slot1 xbV)).view.dmaCredit := by decide +kernel

variable (hc0 : (slot0 arg7).view.dmaCredit = (slabA (slot0 arg7)).view.dmaCredit + (slabB (slot0 arg7)).view.dmaCredit)
  (hc1 : (slot1 arg7).view.dmaCredit = (slabA (slot1 arg7)).view.dmaCredit + (slabB (slot1 arg7)).view.dmaCredit)

include hc0 in
set_option maxHeartbeats 4000000 in
/-- Before an even unit's rows are gathered: the next odd unit is asked for, the unit has arrived, and the slab it goes to is free. -/
theorem wp_part155 (n : Fin k0_t26_loop.trips) {v2 v4 v5 : BitVec 32} {kk : BitVec 32 → TileProg F (core i) (sub i) α} :
    iprop(Tab i arg6 d T ∗ InFl d i (slot0 arg7) arg9.sem X q0 q1 (2 * n.val) ∗ Idle d i (slot1 arg7) arg10.sem X q2 q3 ∗ Out0 i arg8 arg11 d Y n
        ∗ Landed i d Y (2 * n.val - 2) ∗ Ow d i O W ∗ Transfers.MayWaits (tl d i) (default : HIx 1) O : sProp 𝕄)
      ⊢ iprop((∀ v, Mid0 i arg6 arg7 arg8 arg9 arg11 d X T hT q0 q1 (2 * n.val) 2 ∗ In1 i arg7 arg10 d X q2 q3 n ∗ Landed i d Y (2 * n.val - 1) ∗ Ow d i O W
            -∗ wp frame (wpE (defs₀ (F := F)) 𝒱₀ (tl d i) none) Set.univ (kk v) Q)
        -∗ wp frame (wpE (defs₀ (F := F)) 𝒱₀ (tl d i) none) Set.univ (k0_part155 i xV harg2 arg3 harg3 oV harg4 arg5 harg5 arg6 harg6 arg7 harg7 arg8 harg8 arg9 arg10 arg11 arg12 v87_r0
          v2 v4 v5 v6c 0#32 1#32 n >>= kk) Q) := by
  rw [k0_part155_eq_skeleton]
  simp only [k0_part155_skel, bind_assoc, pure_bind, dite_bindR]
  iintro ⟨HT, HI0, HI1, HO0, HL, Hw, #Hmw⟩ Hk
  iapply (wp_opt d (R := In1 i arg7 arg10 d X q2 q3 n) ?_ ?_) $$ HI1
  · intro h
    have hn := (cond1_iff n).1 h
    unfold In1
    rw [if_pos hn]
    iintro H Hk
    iapply (wp_startIn d i (off29_eq i n hn) (off30_eq i n hn)) $$ H
    iexact Hk
  · intro h
    unfold In1
    rw [if_neg (fun hn => h ((cond1_iff n).2 hn))]
  iintro HI1
  iapply (wp_waitIn d i hc0) $$ [HI0 Hw]
  · isplitl [HI0]; · iexact HI0
    isplitl [Hw]; · iexact Hw
    iexact Hmw
  iintro ⟨HF, Hw⟩
  iapply (wp_opt d (P := iprop(Out0 i arg8 arg11 d Y n ∗ Landed i d Y (2 * n.val - 2) ∗ Ow d i O W ∗ Transfers.MayWaits (tl d i) (default : HIx 1) O))
    (R := iprop(OIdle d i (slot0 arg8) arg11.sem ∗ Landed i d Y (2 * n.val - 1) ∗ Ow d i O W)) ?_ ?_) $$ [HO0 HL Hw]
  · intro h
    have hn := (cond2_iff n).1 h
    unfold Out0
    rw [if_neg (by omega)]
    iintro ⟨HO0, HL, Hw, Hm⟩ Hk
    iapply (wp_waitOut d i) $$ [HO0 Hw Hm]
    · isplitl [HO0]; · iexact HO0
      isplitl [Hw]; · iexact Hw
      iexact Hm
    iintro ⟨HO, Ho, Hw⟩
    iapply Hk
    isplitl [HO]; · iexact HO
    isplitr [Hw]; rotate_left; · iexact Hw
    iapply (landed_succ i d Y (by omega : 2 * n.val - 1 = 2 * n.val - 2 + 1))
    isplitl [HL] <;> iassumption
  · intro h
    have hn : n.val = 0 := Nat.eq_zero_of_not_pos fun hn => h ((cond2_iff n).2 hn)
    unfold Out0
    rw [if_pos hn, hn]
    iintro ⟨HO0, HL, Hw, Hm⟩
    isplitl [HO0]; · iexact HO0
    isplitl [HL]; · iexact HL
    iexact Hw
  · isplitl [HO0]; · iexact HO0
    isplitl [HL]; · iexact HL
    isplitl [Hw]; · iexact Hw
    iexact Hmw
  unfold Full OIdle
  icases HF with ⟨HsI, ⟨%C, %hC, HX⟩, Hq0, Hq1⟩
  iintro ⟨⟨HsO, %f, Hf⟩, HL, Hw⟩
  ihave H : GI0 i arg6 arg7 arg8 d hT C 0 $$ [HT HX Hf]
  · isplitl [HT]; · iexact HT
    isplitl [HX]; · iexact HX
    iexists f
    isplitr; · ipureintro; exact good_zero _ _
    iexact Hf
  iterate 2
    iapply (wp_gLoop d hT rfl ?_) $$ H
    · intro t u; exact isG_plain (by omega) (by exact ClosedOff.eq) (by exact ClosedOff.eq) (by exact ClosedOff.eq) (by exact ClosedOff.eq) (by exact ClosedOff.eq) (by exact ClosedOff.eq) (by exact ClosedOff.eq) (by exact ClosedOff.eq) (by exact ClosedOff.eq) rfl
    iintro H
  iapply Hk
  isplitr [HI1 HL Hw]
  · unfold Mid0 Busy
    isplitr [H]
    · isplitl [HsI]; · iexact HsI
      isplitl [Hq0]; · iexact Hq0
      isplitl [Hq1]; · iexact Hq1
      iexact HsO
    iexists C
    isplitr; · ipureintro; exact hC
    iexact H
  isplitl [HI1]; · iexact HI1
  isplitl [HL]; · iexact HL
  iexact Hw

include hc1 in
set_option maxHeartbeats 4000000 in
/-- Before an odd unit's rows are gathered: the next even unit is asked for, the unit has arrived, and the slab it goes to is free. -/
theorem wp_part151 (n : Fin k0_t26_loop.trips) (h3 : k0_cond3 n = 1#1) {v2 v4 v5 v88 : BitVec 32} {kk : BitVec 32 → TileProg F (core i) (sub i) α} :
    iprop(Tab i arg6 d T ∗ Idle d i (slot0 arg7) arg9.sem X q0 q1 ∗ InFl d i (slot1 arg7) arg10.sem X q2 q3 (2 * n.val + 1) ∗ Out1 i arg8 arg12 d Y n
        ∗ Landed i d Y (2 * n.val - 1) ∗ Ow d i O W ∗ Transfers.MayWaits (tl d i) (default : HIx 1) O : sProp 𝕄)
      ⊢ iprop((Mid1 i arg6 arg7 arg8 arg10 arg12 d X T hT q2 q3 (2 * n.val + 1) 2 ∗ In0 i arg7 arg9 d X q0 q1 (n.val + 1) ∗ Landed i d Y (2 * n.val) ∗ Ow d i O W
            -∗ wp frame (wpE (defs₀ (F := F)) 𝒱₀ (tl d i) none) Set.univ (kk 0#32) Q)
        -∗ wp frame (wpE (defs₀ (F := F)) 𝒱₀ (tl d i) none) Set.univ (k0_part151 i xV harg2 arg3 harg3 oV harg4 arg5 harg5 arg6 harg6 arg7 harg7 arg8 harg8 arg9 arg10 arg11 arg12 v87_r0
          v2 v4 v5 v6c n v88 h3 >>= kk) Q) := by
  have hn := (cond3_iff n).1 h3
  rw [k0_part151_eq_skeleton]
  simp only [k0_part151_skel, bind_assoc, pure_bind, dite_bindR]
  rw [dif_pos ((cond4_iff n).2 hn)]
  iintro ⟨HT, HI0, HI1, HO1, HL, Hw, #Hmw⟩ Hk
  iapply (wp_startIn d i (off258_eq i n hn) (off259_eq i n hn)) $$ HI0
  iintro HI0
  iapply (wp_waitIn d i hc1) $$ [HI1 Hw]
  · isplitl [HI1]; · iexact HI1
    isplitl [Hw]; · iexact Hw
    iexact Hmw
  iintro ⟨HF, Hw⟩
  iapply (wp_opt d (P := iprop(Out1 i arg8 arg12 d Y n ∗ Landed i d Y (2 * n.val - 1) ∗ Ow d i O W ∗ Transfers.MayWaits (tl d i) (default : HIx 1) O))
    (R := iprop(OIdle d i (slot1 arg8) arg12.sem ∗ Landed i d Y (2 * n.val) ∗ Ow d i O W)) ?_ ?_) $$ [HO1 HL Hw]
  · intro h
    have hn0 := (cond5_iff n).1 h
    unfold Out1
    rw [if_neg (by omega), Nat.min_eq_left (by omega : n.val ≤ 37)]
    iintro ⟨HO1, HL, Hw, Hm⟩ Hk
    iapply (wp_waitOut d i) $$ [HO1 Hw Hm]
    · isplitl [HO1]; · iexact HO1
      isplitl [Hw]; · iexact Hw
      iexact Hm
    iintro ⟨HO, Ho, Hw⟩
    iapply Hk
    isplitl [HO]; · iexact HO
    isplitr [Hw]; rotate_left; · iexact Hw
    iapply (landed_succ i d Y (by omega : 2 * n.val = 2 * n.val - 1 + 1))
    isplitl [HL] <;> iassumption
  · intro h
    have hn : n.val = 0 := Nat.eq_zero_of_not_pos fun hn => h ((cond5_iff n).2 hn)
    unfold Out1
    rw [if_pos hn, hn]
    iintro ⟨HO1, HL, Hw, Hm⟩
    isplitl [HO1]; · iexact HO1
    isplitl [HL]; · iexact HL
    iexact Hw
  · isplitl [HO1]; · iexact HO1
    isplitl [HL]; · iexact HL
    isplitl [Hw]; · iexact Hw
    iexact Hmw
  unfold Full OIdle
  icases HF with ⟨HsI, ⟨%C, %hC, HX⟩, Hq0, Hq1⟩
  iintro ⟨⟨HsO, %f, Hf⟩, HL, Hw⟩
  ihave H : GI1 i arg6 arg7 arg8 d hT C 0 $$ [HT HX Hf]
  · isplitl [HT]; · iexact HT
    isplitl [HX]; · iexact HX
    iexists f
    isplitr; · ipureintro; exact good_zero _ _
    iexact Hf
  iterate 2
    iapply (wp_gLoop d hT rfl ?_) $$ H
    · intro t u; exact isG_guarded (by omega) h3 (by exact ClosedOff.eq) (by exact ClosedOff.eq) (by exact ClosedOff.eq) (by exact ClosedOff.eq) (by exact ClosedOff.eq) (by exact ClosedOff.eq) (by exact ClosedOff.eq) (by exact ClosedOff.eq) (by exact ClosedOff.eq) rfl
    iintro H
  iapply Hk
  isplitr [HI0 HL Hw]
  · unfold Mid1 Busy
    isplitr [H]
    · isplitl [HsI]; · iexact HsI
      isplitl [Hq0]; · iexact Hq0
      isplitl [Hq1]; · iexact Hq1
      iexact HsO
    iexists C
    isplitr; · ipureintro; exact hC
    iexact H
  isplitl [HI0]
  · unfold In0
    rw [if_pos (by omega)]
    iexact HI0
  isplitl [HL]; · iexact HL
  iexact Hw

/-! ## A unit's rows are all gathered -/

/-- A filled output slab, ready to be sent. -/
def Ready (os : Memref sig .scVector .vmem S25x8x128 .f32) (sem : DmaSem sig) (k : ℕ) : sProp (MM F) :=
  iprop(∃ f, ⌜∀ y, os.view.read (Elt F) f y = Y ((uRect i k).emb y)⌝ ∗ semVal (tl d i, .dma sem) 0 ∗ (os.view.loc (tl d i) ↦[os.view.set]{fullShare} f))

theorem mid0_done {k : ℕ} (hk : ∀ y, gat (arg6.view.read (Elt F) T) hT (uVal X i k) y = Y ((uRect i k).emb y)) :
    (Mid0 i arg6 arg7 arg8 arg9 arg11 d X T hT q0 q1 k 25 : sProp 𝕄)
      ⊢ iprop(Tab i arg6 d T ∗ Idle d i (slot0 arg7) arg9.sem X q0 q1 ∗ Ready i d Y (slot0 arg8) arg11.sem k) := by
  unfold Mid0 Busy Idle Ready
  iintro ⟨⟨HsI, Hq0, Hq1, HsO⟩, %C, %hC, HT, HX, %f, %hf, Hf⟩
  isplitl [HT]; · iexact HT
  isplitr [HsO Hf]
  · isplitl [HsI]; · iexact HsI
    isplitl [HX]; · iexists C; iexact HX
    isplitl [Hq0] <;> iassumption
  iexists f
  isplitr
  · ipureintro
    intro y
    rw [good_all hf, hC]
    exact hk y
  isplitl [HsO] <;> iassumption

theorem mid1_done {k : ℕ} (hk : ∀ y, gat (arg6.view.read (Elt F) T) hT (uVal X i k) y = Y ((uRect i k).emb y)) :
    (Mid1 i arg6 arg7 arg8 arg10 arg12 d X T hT q2 q3 k 25 : sProp 𝕄)
      ⊢ iprop(Tab i arg6 d T ∗ Idle d i (slot1 arg7) arg10.sem X q2 q3 ∗ Ready i d Y (slot1 arg8) arg12.sem k) := by
  unfold Mid1 Busy Idle Ready
  iintro ⟨⟨HsI, Hq0, Hq1, HsO⟩, %C, %hC, HT, HX, %f, %hf, Hf⟩
  isplitl [HT]; · iexact HT
  isplitr [HsO Hf]
  · isplitl [HsI]; · iexact HsI
    isplitl [HX]; · iexists C; iexact HX
    isplitl [Hq0] <;> iassumption
  iexists f
  isplitr
  · ipureintro
    intro y
    rw [good_all hf, hC]
    exact hk y
  isplitl [HsO] <;> iassumption

/-- A ready slab is sent to its unit of the result. -/
theorem wp_send {os : Memref sig .scVector .vmem S25x8x128 .f32} {sem : DmaSem sig} {k k' : ℕ} (hk' : k' = k + 1) (hk : k < 75)
    {o : Fin 3 → ℕ} (ho : o = uOff i k) {io : ∀ a, o a + S25x8x128.size a ≤ S7500x32x256.size a} {w1 w2 w3} {kk : PUnit → TileProg F (core i) (sub i) α} :
    iprop(Ready i d Y os sem k ∗ Rest i d g k : sProp 𝕄)
      ⊢ iprop((OFl d i os sem Y k ∗ Rest i d g k' -∗ wp frame (wpE (defs₀ (F := F)) 𝒱₀ (tl d i) none) Set.univ (kk ⟨⟩) Q)
        -∗ wp frame (wpE (defs₀ (F := F)) 𝒱₀ (tl d i) none) Set.univ
          (Prog.lift (.enqueueDma os (.here (oV.slice (Rect.unit (s := S7500x32x256) o S25x8x128.size io) (fun _ => rfl))) (.dma sem) w1 w2 w3) >>= kk) Q) := by
  unfold Ready
  iintro ⟨⟨%f, %hf, Hs, Hf⟩, HR⟩ Hk
  ihave HR' := (rest_take i d g hk' hk) $$ HR
  icases HR' with ⟨Ho, HR⟩
  iapply (wp_startOut d i hf ho) $$ [Hs Hf Ho]
  · isplitl [Hs]; · iexact Hs
    isplitl [Hf]; · iexact Hf
    iexact Ho
  iintro H
  iapply Hk
  isplitl [H] <;> iassumption

/-! ## The loop -/

/-- What holds before trip `n`. -/
def Inv (n : ℕ) : sProp (MM F) :=
  iprop(Tab i arg6 d T ∗ In0 i arg7 arg9 d X q0 q1 n ∗ Idle d i (slot1 arg7) arg10.sem X q2 q3 ∗ Out0 i arg8 arg11 d Y n ∗ Out1 i arg8 arg12 d Y n
    ∗ Landed i d Y (min (2 * n - 2) 73) ∗ Rest i d g (2 * n) ∗ Ow d i O W ∗ Transfers.MayWaits (tl d i) (default : HIx 1) O)

include hc0 hc1 in
set_option maxHeartbeats 4000000 in
theorem wp_trip (hY : ∀ k < 75, ∀ y, gat (arg6.view.read (Elt F) T) hT (uVal X i k) y = Y ((uRect i k).emb y)) (n : Fin k0_t26_loop.trips) (u : PUnit) {v2 v4 v5 : BitVec 32} :
    (Inv i arg6 arg7 arg8 arg9 arg10 arg11 arg12 d X T Y g q0 q1 q2 q3 O W n : sProp 𝕄)
      ⊢ wp frame (wpE (defs₀ (F := F)) 𝒱₀ (tl d i) none) Set.univ (k0_t26_body i xV harg2 arg3 harg3 oV harg4 arg5 harg5 arg6 harg6 arg7 harg7 arg8 harg8 arg9 arg10 arg11 arg12 v87_r0
          v2 v4 v5 v6c n u) fun _ => Inv i arg6 arg7 arg8 arg9 arg10 arg11 arg12 d X T Y g q0 q1 q2 q3 O W (n.val + 1) := by
  have hn := n_lt n
  unfold Inv
  simp only [k0_t26_body, bind_assoc, pure_bind, dite_bindR]
  iintro ⟨HT, HI0, HI1, HO0, HO1, HL, HR, Hw, #Hmw⟩
  iapply (wp_part155 i harg2 arg3 harg3 harg4 arg5 harg5 arg6 harg6 arg7 harg7 arg8 harg8 arg9 arg10 arg11 arg12 v87_r0 d X T hT Y q0 q1 q2 q3 O W hc0 n) $$ [HT HI0 HI1 HO0 HL Hw]
  · isplitl [HT]; · iexact HT
    isplitl [HI0]
    · iapply (Entails.of_eq (show In0 i arg7 arg9 d X q0 q1 n.val = _ from if_pos hn)) $$ HI0
    isplitl [HI1]; · iexact HI1
    isplitl [HO0]; · iexact HO0
    isplitl [HL]
    · rw [Nat.min_eq_left (by omega : 2 * n.val - 2 ≤ 73)]
      iexact HL
    isplitl [Hw]; · iexact Hw
    iexact Hmw
  iintro %v88 ⟨HM, HI1, HL, Hw⟩
  unfold Mid0
  icases HM with ⟨HB, %C, %hC, H⟩
  iapply (wp_part156 i xV harg2 arg3 harg3 oV harg4 arg5 harg5 arg6 harg6 arg7 harg7 arg8 harg8 arg9 arg10 arg11 arg12 v87_r0 d hT) $$ H
  iintro H
  iapply (wp_part157 i xV harg2 arg3 harg3 oV harg4 arg5 harg5 arg6 harg6 arg7 harg7 arg8 harg8 arg9 arg10 arg11 arg12 v87_r0 d hT) $$ H
  iintro H
  iapply (wp_part158 i xV harg2 arg3 harg3 oV harg4 arg5 harg5 arg6 harg6 arg7 harg7 arg8 harg8 arg9 arg10 arg11 arg12 v87_r0 d hT) $$ H
  iintro H
  iapply (wp_gLoop d hT rfl ?_) $$ H
  · intro t u; exact isG_plain (by omega) (by exact ClosedOff.eq) (by exact ClosedOff.eq) (by exact ClosedOff.eq) (by exact ClosedOff.eq) (by exact ClosedOff.eq) (by exact ClosedOff.eq) (by exact ClosedOff.eq) (by exact ClosedOff.eq) (by exact ClosedOff.eq) rfl
  iintro H
  ihave HD := (mid0_done i arg6 arg7 arg8 arg9 arg11 d X T hT Y q0 q1 (hY (2 * n.val) (by omega))) $$ [HB H]
  · unfold Mid0
    isplitl [HB]; · iexact HB
    iexists C
    isplitr; · ipureintro; exact hC
    iexact H
  icases HD with ⟨HT, HI0, HD⟩
  iapply (wp_send i d Y g rfl (by omega) (off31_eq i n)) $$ [HD HR]
  · isplitl [HD] <;> iassumption
  iintro ⟨HO0, HR⟩
  by_cases hn' : n.val < 37
  · have h3 := (cond3_iff n).2 hn'
    rw [dif_pos h3]
    iapply (wp_part151 i harg2 arg3 harg3 harg4 arg5 harg5 arg6 harg6 arg7 harg7 arg8 harg8 arg9 arg10 arg11 arg12 v87_r0 d X T hT Y q0 q1 q2 q3 O W hc1 n h3) $$ [HT HI0 HI1 HO1 HL Hw]
    · isplitl [HT]; · iexact HT
      isplitl [HI0]; · iexact HI0
      isplitl [HI1]
      · iapply (Entails.of_eq (show In1 i arg7 arg10 d X q2 q3 n.val = _ from if_pos hn')) $$ HI1
      isplitl [HO1]; · iexact HO1
      isplitl [HL]; · iexact HL
      isplitl [Hw]; · iexact Hw
      iexact Hmw
    iintro ⟨HM, HI0, HL, Hw⟩
    unfold Mid1
    icases HM with ⟨HB, %C', %hC', H⟩
    iapply (wp_part152 i xV harg2 arg3 harg3 oV harg4 arg5 harg5 arg6 harg6 arg7 harg7 arg8 harg8 arg9 arg10 arg11 arg12 v87_r0 d hT n h3) $$ H
    iintro H
    iapply (wp_part153 i xV harg2 arg3 harg3 oV harg4 arg5 harg5 arg6 harg6 arg7 harg7 arg8 harg8 arg9 arg10 arg11 arg12 v87_r0 d hT n h3) $$ H
    iintro H
    iapply (wp_part154 i xV harg2 arg3 harg3 oV harg4 arg5 harg5 arg6 harg6 arg7 harg7 arg8 harg8 arg9 arg10 arg11 arg12 v87_r0 d hT n h3) $$ H
    iintro H
    ihave HD := (mid1_done i arg6 arg7 arg8 arg10 arg12 d X T hT Y q2 q3 (hY (2 * n.val + 1) (by omega))) $$ [HB H]
    · unfold Mid1
      isplitl [HB]; · iexact HB
      iexists C'
      isplitr; · ipureintro; exact hC'
      iexact H
    icases HD with ⟨HT, HI1, HD⟩
    iapply (wp_send i d Y g rfl (by omega) (off260_eq i n hn')) $$ [HD HR]
    · isplitl [HD] <;> iassumption
    iintro ⟨HO1, HR⟩
    rw [wp_pure]
    imodintro
    isplitl [HT]; · iexact HT
    isplitl [HI0]; · iexact HI0
    isplitl [HI1]; · iexact HI1
    isplitl [HO0]
    · unfold Out0
      rw [if_neg (by omega), show 2 * (n.val + 1) - 2 = 2 * n.val by omega]
      iexact HO0
    isplitl [HO1]
    · unfold Out1
      rw [if_neg (by omega), show 2 * min (n.val + 1) 37 - 1 = 2 * n.val + 1 by omega]
      iexact HO1
    isplitl [HL]
    · rw [show min (2 * (n.val + 1) - 2) 73 = 2 * n.val by omega]
      iexact HL
    isplitl [HR]
    · rw [show 2 * (n.val + 1) = 2 * n.val + 1 + 1 by omega]
      iexact HR
    isplitl [Hw]; · iexact Hw
    iexact Hmw
  · have hn37 : n.val = 37 := by omega
    rw [dif_neg (fun h => hn' ((cond3_iff n).1 h)), wp_pure]
    imodintro
    isplitl [HT]; · iexact HT
    isplitl [HI0]
    · unfold In0
      rw [if_neg (by omega)]
      iexact HI0
    isplitl [HI1]
    · iapply (Entails.of_eq (show In1 i arg7 arg10 d X q2 q3 n.val = _ from if_neg hn')) $$ HI1
    isplitl [HO0]
    · unfold Out0
      rw [if_neg (by omega), show 2 * (n.val + 1) - 2 = 2 * n.val by omega]
      iexact HO0
    isplitl [HO1]
    · iapply (Entails.of_eq (show Out1 i arg8 arg12 d Y n.val = Out1 i arg8 arg12 d Y (n.val + 1) by
        unfold Out1
        rw [if_neg (by omega), if_neg (by omega), show 2 * min (n.val + 1) 37 - 1 = 2 * min n.val 37 - 1 by omega])) $$ HO1
    isplitl [HL]
    · rw [show min (2 * (n.val + 1) - 2) 73 = 2 * n.val - 1 by omega]
      iexact HL
    isplitl [HR]
    · unfold Rest
      rw [Finset.Ico_eq_empty (by omega), Finset.Ico_eq_empty (by omega)]
      iexact HR
    isplitl [Hw]; · iexact Hw
    iexact Hmw

end Cert.Proof
-- ==== Proof.Body.lean ====
/-
  The whole program of a tile: the index block is copied in and turned into a table, the first unit is asked for, the outer loop runs, and the last two units land.
-/
module

public import proofs.«01_k».proof.Proof.Trip

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.ValueIdx

variable {F : FTy → Type} [FloatOps F]

local notation "𝕄" => MM F

theorem off1_eq : ∀ i, k0_off1 i = ![3200 * (i 0).val] := by decide +kernel

variable (d : Dev nD) (i : grid0.Coords) {α : Type} {Q : α → sProp (MM F)}

/-- The tile's part of the index array. -/
abbrev sRect (i : grid0.Coords) : Rect S6400 := Rect.unit (s := S6400) (k0_off1 i) S3200.size (k0_off1_inb i)

/-- The words it covers. -/
abbrev sSet : Finset (Idx (sV.view.loc (tl d i))) := (sV.slice (sRect i) (fun _ => rfl)).view.set

/-- The words of that part. -/
def sVal (S : S6400.Idx → BitVec 32) (i : grid0.Coords) : S3200.Idx → BitVec 32 := fun j => S ((sRect i).emb j)

variable (X : Buf (Elt F) (xV.view.loc (tl d i))) (S : Buf (Elt F) (sV.view.loc (tl d i)))
  (Y g : Buf (Elt F) (oV.view.loc (tl d i))) (q0 q1 q2 q3 qs : PosShare TreeShare) (O : CellTallies nD τ sig (HIx 1)) (W : Waits sig (HIx 1))

/-- A local buffer with some contents. -/
abbrev Some1 (b : Memref sig .scVector .vmem S3200 .i32) : sProp (MM F) := iprop(∃ f, b.view.loc (tl d i) ↦[b.view.set]{fullShare} f)

abbrev sAmt : ℕ := sbV.view.dmaCredit

/-- The index block arrives, and the first five rows of the table are filled. -/
theorem wp_part159 {kk : (Σ' (_ : BitVec 32) (_ : BitVec 32) (_ : BitVec 32) (_ : IVec S16 32) (_ : IVec S16 32) (_ : BitVec 32), BitVec 32) → TileProg F (core i) (sub i) α} :
    iprop(semVal (tl d i, .dma cc0_scoped0.sem) 0 ∗ (sV.view.loc (tl d i) ↦{qs} S) ∗ Some1 d i sbV ∗ Some1 d i itV ∗ Ow d i O W ∗ Transfers.MayWaits (tl d i) (default : HIx 1) O : sProp 𝕄)
      ⊢ iprop((∀ v2 v4 v5, (∃ B, ⌜sbV.view.read (Elt F) B = sVal S i⌝ ∗ TI0 i sbV itV d B 5) ∗ semVal (tl d i, .dma cc0_scoped0.sem) 0 ∗ (sV.view.loc (tl d i) ↦{qs} S) ∗ Ow d i O W
            -∗ wp frame (wpE (defs₀ (F := F)) 𝒱₀ (tl d i) none) Set.univ (kk ⟨v2, v4, v5, v6c, k0_pay101, 0#32, 8#32⟩) Q)
        -∗ wp frame (wpE (defs₀ (F := F)) 𝒱₀ (tl d i) none) Set.univ (k0_part159 i xV (Memref.isWhole_whole _) sV (Memref.isWhole_whole _) oV (Memref.isWhole_whole _) sbV (Memref.isWhole_whole _) itV (Memref.isWhole_whole _) xbV (Memref.isWhole_whole _) obV (Memref.isWhole_whole _) cc0_scratch4 cc0_scratch5 cc0_scratch6 cc0_scratch7 cc0_scoped0 >>= kk) Q) := by
  rw [k0_part159_eq_skeleton]
  simp only [k0_part159_skel, bind_assoc, pure_bind]
  simp only [Prog.bind_lift]
  iintro ⟨Hs, HS, ⟨%fb, Hb⟩, ⟨%ft, Ht⟩, Hw, #Hmw⟩ Hk
  ihave HS' := (pointsTo_split_subset (q := qs) (f := S) (Finset.subset_univ (sSet d i))).1 $$ HS
  icases HS' with ⟨HS, HSr⟩
  iapply (Transfers.wp_dmaLocal countersEmb 𝒱₀ (tl d i) none (default : HIx 1) (sAmt) ?_ (View.dmaCredit_pos _ (by decide)) (Finset.Subset.refl _)) $$ [Hs HS Hb]
  · rfl
  · isplitl [HS]; · iexact HS
    isplitl [Hb]; · iexact Hb
    iexact Hs
  iintro Hfl
  ihave Hw' := (ow_open d i) $$ Hw
  icases Hw' with ⟨%W', %hW, HO⟩
  iapply (Transfers.wp_waitLocalO countersEmb 𝒱₀ (tl d i) none (default : HIx 1) (N := sAmt) ?_) $$ [Hfl HO]
  · rfl
  · isplitl [Hfl]; · iexact Hfl
    isplitl [HO]; · iexact HO
    iapply (Transfers.MayWaits.elim (SemLoc.dma cc0_scoped0.sem)) $$ Hmw
  iintro ⟨⟨Hb, HS⟩, Hs, HO⟩
  ihave Hw := (ow_insert d i hW _) $$ HO
  ihave HS := (pointsTo_split_subset (q := qs) (f := S) (Finset.subset_univ (sSet d i))).2 $$ [HS HSr]
  · isplitl [HS] <;> iassumption
  generalize hB : View.write (Elt F) sbV.view fb _ Finset.univ = B
  have hB' : sbV.view.read (Elt F) B = sVal S i := by
    rw [← hB, View.read_write_univ]
    rfl
  ihave H : TI0 i sbV itV d B 0 $$ [Hb Ht]
  · isplitl [Hb]; · iexact Hb
    iexists ft
    isplitr; · ipureintro; exact fun y h => by omega
    iexact Ht
  iterate 5
    iapply (wp_trLoop d rfl ?_) $$ H
    · intro t u; exact isTr (by omega) (by exact ClosedOff.eq) rfl
    iintro H
  iapply Hk
  isplitl [H]
  · iexists B
    isplitr; · ipureintro; exact hB'
    iexact H
  isplitl [Hs]; · iexact Hs
  isplitl [HS]; · iexact HS
  iexact Hw

/-- The table's words are row numbers. -/
theorem table_lt (hS : ∀ j, (S j : BitVec 32).toNat < 25) (j : S3200.Idx) : (tabOf (sVal S i) j).toNat < 25 := hS _

/-- What a tile holds of its own between its start and its end. -/
def TileRes : sProp (MM F) :=
  iprop(semVal (tl d i, .dma cc0_scoped0.sem) 0 ∗ (sV.view.loc (tl d i) ↦{qs} S) ∗ Some1 d i sbV ∗ Some1 d i itV
    ∗ Idle d i (slot0 xbV) cc0_scratch4.sem X q0 q1 ∗ Idle d i (slot1 xbV) cc0_scratch5.sem X q2 q3 ∗ OIdle d i (slot0 obV) cc0_scratch6.sem ∗ OIdle d i (slot1 obV) cc0_scratch7.sem)

set_option maxHeartbeats 4000000 in
theorem wp_body (hS : ∀ j, (S j : BitVec 32).toNat < 25)
    (hY : ∀ k < 75, ∀ y, gat (tabOf (sVal S i)) (table_lt d i S hS) (uVal X i k) y = Y ((uRect i k).emb y)) :
    iprop(TileRes d i X S q0 q1 q2 q3 qs ∗ Rest i d g 0 ∗ Ow d i O W ∗ Transfers.MayWaits (tl d i) (default : HIx 1) O : sProp 𝕄)
      ⊢ wp frame (wpE (defs₀ (F := F)) 𝒱₀ (tl d i) none) Set.univ (cc0__sgpshift_body i xV (Memref.isWhole_whole _) sV (Memref.isWhole_whole _) oV (Memref.isWhole_whole _) sbV (Memref.isWhole_whole _) itV (Memref.isWhole_whole _) xbV (Memref.isWhole_whole _) obV (Memref.isWhole_whole _) cc0_scratch4 cc0_scratch5 cc0_scratch6 cc0_scratch7 cc0_scoped0)
          fun _ => iprop(TileRes d i X S q0 q1 q2 q3 qs ∗ Landed i d Y 75 ∗ Ow d i O W) := by
  rw [cc0__sgpshift_body_eq_skeleton]
  unfold cc0__sgpshift_body_skel TileRes
  iintro ⟨⟨Hs, HS, Hb, Ht, HI0, HI1, HO0, HO1⟩, HR, Hw, #Hmw⟩
  iapply (wp_part159 d i S qs O W) $$ [Hs HS Hb Ht Hw]
  · isplitl [Hs]; · iexact Hs
    isplitl [HS]; · iexact HS
    isplitl [Hb]; · iexact Hb
    isplitl [Ht]; · iexact Ht
    isplitl [Hw]; · iexact Hw
    iexact Hmw
  iintro %v2 %v4 %v5 ⟨⟨%B, %hB, H⟩, Hs, HS, Hw⟩
  iapply (wp_part160 i xV (Memref.isWhole_whole _) sV (Memref.isWhole_whole _) oV (Memref.isWhole_whole _) sbV (Memref.isWhole_whole _) itV (Memref.isWhole_whole _) xbV (Memref.isWhole_whole _) obV (Memref.isWhole_whole _) cc0_scratch4 cc0_scratch5 cc0_scratch6 cc0_scratch7 cc0_scoped0 d) $$ H
  iintro H
  iapply (wp_part161 i xV (Memref.isWhole_whole _) sV (Memref.isWhole_whole _) oV (Memref.isWhole_whole _) sbV (Memref.isWhole_whole _) itV (Memref.isWhole_whole _) xbV (Memref.isWhole_whole _) obV (Memref.isWhole_whole _) cc0_scratch4 cc0_scratch5 cc0_scratch6 cc0_scratch7 cc0_scoped0 d) $$ H
  iintro ⟨Hb, %T, %hT, Ht⟩
  have hT' : itV.view.read (Elt F) T = tabOf (sVal S i) := by rw [goodT_all hT, hB]
  have hTlt : ∀ j, (itV.view.read (Elt F) T j).toNat < 25 := fun j => by rw [hT']; exact table_lt d i S hS j
  have hY' : ∀ k < 75, ∀ y, gat (itV.view.read (Elt F) T) hTlt (uVal X i k) y = Y ((uRect i k).emb y) := fun k hk y => by
    rw [← hY k hk y]
    congr 1
  rw [k0_part162_eq_skeleton, k0_part163_eq_skeleton]
  simp only [k0_part162_skel, k0_part163_skel, bind_assoc, pure_bind]
  iapply (wp_startIn d i (off27_eq i) (off28_eq i)) $$ HI0
  iintro HI0
  iapply (Scf.wp_for_bind frame (wpE (defs₀ (F := F)) 𝒱₀ (tl d i) none) Set.univ k0_t26_loop.lb k0_t26_loop.ub k0_t26_loop.st k0_t26_ok ⟨⟩ _
    (fun n _ => Inv i itV xbV obV cc0_scratch4 cc0_scratch5 cc0_scratch6 cc0_scratch7 d X T Y g q0 q1 q2 q3 O W n)
    (fun n u => wp_trip i (Memref.isWhole_whole _) sV (Memref.isWhole_whole _) (Memref.isWhole_whole _) sbV (Memref.isWhole_whole _) itV (Memref.isWhole_whole _) xbV (Memref.isWhole_whole _) obV (Memref.isWhole_whole _) cc0_scratch4 cc0_scratch5 cc0_scratch6 cc0_scratch7 cc0_scoped0 d X T hTlt Y g q0 q1 q2 q3 O W credit0 credit1 hY' n u)) $$ [Ht HI0 HI1 HO0 HO1 HR Hw]
  · unfold Inv
    isplitl [Ht]; · iexact Ht
    isplitl [HI0]
    · unfold In0
      rw [if_pos (by omega)]
      iexact HI0
    isplitl [HI1]; · iexact HI1
    isplitl [HO0]
    · unfold Out0
      rw [if_pos rfl]
      iexact HO0
    isplitl [HO1]
    · unfold Out1
      rw [if_pos rfl]
      iexact HO1
    isplitr
    · unfold Landed
      rw [show min (2 * 0 - 2) 73 = 0 from rfl, Finset.range_zero, bigSep_empty]
      iempintro
    isplitl [HR]; · iexact HR
    isplitl [Hw]; · iexact Hw
    iexact Hmw
  iintro %u H
  rw [show Scf.trips k0_t26_loop.lb k0_t26_loop.ub k0_t26_loop.st = 38 from trips26]
  unfold Inv
  icases H with ⟨Ht, HI0, HI1, HO0, HO1, HL, HR, Hw, -⟩
  ihave HI0 := (Entails.of_eq (show In0 i xbV cc0_scratch4 d X q0 q1 38 = _ from if_neg (by omega))) $$ HI0
  ihave HO0 := (Entails.of_eq (show Out0 i obV cc0_scratch6 d Y 38 = _ from if_neg (by omega))) $$ HO0
  ihave HO1 := (Entails.of_eq (show Out1 i obV cc0_scratch7 d Y 38 = _ from if_neg (by omega))) $$ HO1
  iapply (wp_waitOut d i) $$ [HO1 Hw]
  · isplitl [HO1]; · iexact HO1
    isplitl [Hw]; · iexact Hw
    iexact Hmw
  iintro ⟨HO1, Ho, Hw⟩
  ihave HL := (landed_succ i d Y (show 74 = min (2 * 38 - 2) 73 + 1 from rfl)) $$ [HL Ho]
  · isplitl [HL]; · iexact HL
    iexact Ho
  iapply (wp_waitOut d i) $$ [HO0 Hw]
  · isplitl [HO0]; · iexact HO0
    isplitl [Hw]; · iexact Hw
    iexact Hmw
  iintro ⟨HO0, Ho, Hw⟩
  ihave HL := (landed_succ i d Y (show 75 = 74 + 1 from rfl)) $$ [HL Ho]
  · isplitl [HL]; · iexact HL
    iexact Ho
  rw [wp_pure]
  imodintro
  isplitr [HL Hw]
  · isplitl [Hs]; · iexact Hs
    isplitl [HS]; · iexact HS
    isplitl [Hb]; · iexists B; iexact Hb
    isplitl [Ht]; · iexists T; iexact Ht
    isplitl [HI0]; · iexact HI0
    isplitl [HI1]; · iexact HI1
    isplitl [HO0] <;> iassumption
  isplitl [HL]; · iexact HL
  iexact Hw

end Cert.Proof
-- ==== Proof.Out.lean ====
/-
  What the kernel's result holds, the blocks of the tiles' units in it, and the two slabs of a double buffer.
-/
module

public import proofs.«01_k».proof.Proof.Body

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.ValueIdx

variable {F : FTy → Type} [FloatOps F]

local notation "𝕄" => MM F

/-! ## The result -/

/-- The entry of the result at `z`: row `z 0` is joint `z 0 % 25` of a frame, and channel `z 2` reads the joint its index names, in the same frame. -/
def outOf (X : S7500x32x256.Idx → Elt F .f32) (S : S6400.Idx → BitVec 32) : S7500x32x256.Idx → Elt F .f32 := fun z =>
  X (ix3 ⟨25 * ((z 0).val / 25) + (S (ix1 ⟨25 * (z 2).val + (z 0).val % 25, by
    have h2 : (z 2).val < 256 := (z 2).isLt
    omega⟩)).toNat % 25, by
    have h0 : (z 0).val < 7500 := (z 0).isLt
    omega⟩ (z 1) (z 2))

omit [FloatOps F] in
theorem emb0 (i : grid0.Coords) (k : ℕ) (y : S25x8x128.Idx) : ((uRect i k).emb y 0).val = 25 * ((i 1).val / 4 + 4 * min k 74) + (y 0).val := by
  simp [uOff]
omit [FloatOps F] in
theorem emb1 (i : grid0.Coords) (k : ℕ) (y : S25x8x128.Idx) : ((uRect i k).emb y 1).val = 8 * ((i 1).val % 4) + (y 1).val := by
  simp [uOff]
omit [FloatOps F] in
theorem emb2 (i : grid0.Coords) (k : ℕ) (y : S25x8x128.Idx) : ((uRect i k).emb y 2).val = 128 * (i 0).val + (y 2).val := by
  simp [uOff]

omit [FloatOps F] in
theorem sRect_emb (i : grid0.Coords) (j : S3200.Idx) : ((sRect i).emb j 0).val = 3200 * (i 0).val + (j 0).val := by
  simp [off1_eq]

/-- What a tile gathers into a slab is its block of the result. -/
theorem gather_out (d : Dev nD) (i : grid0.Coords) (X : S7500x32x256.Idx → Elt F .f32) (S : Buf (Elt F) (sV.view.loc (tl d i))) (hS : ∀ j, (S j : BitVec 32).toNat < 25) (k : ℕ) (y : S25x8x128.Idx) :
    gat (tabOf (sVal S i)) (table_lt d i S hS) (uVal X i k) y = outOf X S ((uRect i k).emb y) := by
  have h0 : (y 0).val < 25 := (y 0).isLt
  have h2 : (y 2).val < 128 := (y 2).isLt
  unfold gat uVal outOf
  have key : tabOf (sVal S i) (ix1 ⟨128 * (y 0).val + (y 2).val, by omega⟩)
      = S (ix1 ⟨25 * ((uRect i k).emb y 2).val + ((uRect i k).emb y 0).val % 25, by
          have : ((uRect i k).emb y 2).val < 256 := ((uRect i k).emb y 2).isLt
          omega⟩ : S6400.Idx) := by
    unfold tabOf sVal
    refine congrArg S (Shape.idx1_ext ?_)
    rw [sRect_emb]
    show 3200 * (i 0).val + ((128 * (y 0).val + (y 2).val) % 128 * 25 + (128 * (y 0).val + (y 2).val) / 128) = 25 * ((uRect i k).emb y 2).val + ((uRect i k).emb y 0).val % 25
    rw [emb0, emb2]
    omega
  refine congrArg X (Shape.idx3_ext ?_ ?_ ?_)
  · rw [emb0]
    show 25 * ((i 1).val / 4 + 4 * min k 74) + (tabOf (sVal S i) (ix1 ⟨128 * (y 0).val + (y 2).val, _⟩)).toNat = 25 * (((uRect i k).emb y 0).val / 25) + _ % 25
    rw [key, Nat.mod_eq_of_lt (hS _)]
    have e := emb0 i k y
    exact congrArg (fun n => n + _) (by omega)
  · rw [emb1]; exact (emb1 i k y).symm
  · rw [emb2]; exact (emb2 i k y).symm

/-! ## The blocks of the units cover the result once -/

def co (c : Fin 2) (s : Fin 16) : grid0.Coords :=
  fun | 0 => c | 1 => s | ⟨_ + 2, h⟩ => absurd h (Nat.not_lt.2 (Nat.le_add_left _ _))

/-- The entries of unit `k` of a tile. -/
def blk (t : (Fin 2 × Fin 16) × ℕ) : Finset S7500x32x256.Idx := (oU (co t.1.1 t.1.2) t.2).view.set

omit [FloatOps F] in
theorem mem_blk {t : (Fin 2 × Fin 16) × ℕ} (ht : t.2 < 75) (z : S7500x32x256.Idx) :
    z ∈ blk t ↔ (z 0).val / 25 = t.1.2.val / 4 + 4 * t.2 ∧ (z 1).val / 8 = t.1.2.val % 4 ∧ (z 2).val / 128 = t.1.1.val := by
  unfold blk
  rw [View.set, Finset.mem_map]
  have hm : min t.2 74 = t.2 := by omega
  constructor
  · rintro ⟨y, -, rfl⟩
    have h0 : (y 0).val < 25 := (y 0).isLt
    have h1 : (y 1).val < 8 := (y 1).isLt
    have h2 : (y 2).val < 128 := (y 2).isLt
    have e0 := emb0 (co t.1.1 t.1.2) t.2 y
    have e1 := emb1 (co t.1.1 t.1.2) t.2 y
    have e2 := emb2 (co t.1.1 t.1.2) t.2 y
    rw [hm] at e0
    change _ = 25 * (t.1.2.val / 4 + 4 * t.2) + _ at e0
    change _ = 8 * (t.1.2.val % 4) + _ at e1
    change _ = 128 * t.1.1.val + _ at e2
    refine ⟨?_, ?_, ?_⟩
    · show ((uRect (co t.1.1 t.1.2) t.2).emb y 0).val / 25 = _
      omega
    · show ((uRect (co t.1.1 t.1.2) t.2).emb y 1).val / 8 = _
      omega
    · show ((uRect (co t.1.1 t.1.2) t.2).emb y 2).val / 128 = _
      omega
  · rintro ⟨h0, h1, h2⟩
    have e0 := emb0 (co t.1.1 t.1.2) t.2 (ix3 ⟨(z 0).val % 25, by omega⟩ ⟨(z 1).val % 8, by omega⟩ ⟨(z 2).val % 128, by omega⟩)
    have e1 := emb1 (co t.1.1 t.1.2) t.2 (ix3 ⟨(z 0).val % 25, by omega⟩ ⟨(z 1).val % 8, by omega⟩ ⟨(z 2).val % 128, by omega⟩)
    have e2 := emb2 (co t.1.1 t.1.2) t.2 (ix3 ⟨(z 0).val % 25, by omega⟩ ⟨(z 1).val % 8, by omega⟩ ⟨(z 2).val % 128, by omega⟩)
    rw [hm] at e0
    change _ = 25 * (t.1.2.val / 4 + 4 * t.2) + (z 0).val % 25 at e0
    change _ = 8 * (t.1.2.val % 4) + (z 1).val % 8 at e1
    change _ = 128 * t.1.1.val + (z 2).val % 128 at e2
    refine ⟨ix3 ⟨(z 0).val % 25, by omega⟩ ⟨(z 1).val % 8, by omega⟩ ⟨(z 2).val % 128, by omega⟩, Finset.mem_univ _, ?_⟩
    exact Shape.idx3_ext (e0.trans (by omega)) (e1.trans (by omega)) (e2.trans (by omega))

/-- All units of all tiles. -/
abbrev allU : Finset ((Fin 2 × Fin 16) × ℕ) := Finset.univ ×ˢ Finset.range 75

omit [FloatOps F] in
theorem blk_disjoint : ∀ t ∈ allU, ∀ t' ∈ allU, t ≠ t' → Disjoint (blk t) (blk t') := by
  rintro ⟨⟨c, s⟩, k⟩ ht ⟨⟨c', s'⟩, k'⟩ ht' hne
  have hk : k < 75 := Finset.mem_range.mp (Finset.mem_product.mp ht).2
  have hk' : k' < 75 := Finset.mem_range.mp (Finset.mem_product.mp ht').2
  refine Finset.disjoint_left.mpr fun z hz hz' => hne ?_
  obtain ⟨h0, h1, h2⟩ := (mem_blk (t := ((c, s), k)) hk z).mp hz
  obtain ⟨h0', h1', h2'⟩ := (mem_blk (t := ((c', s'), k')) hk' z).mp hz'
  simp only at h0 h1 h2 h0' h1' h2'
  have hs := s.isLt
  have hs' := s'.isLt
  obtain rfl : c = c' := Fin.ext (by omega)
  obtain rfl : s = s' := Fin.ext (by omega)
  obtain rfl : k = k' := by omega
  rfl

omit [FloatOps F] in
theorem blk_cover : allU.biUnion blk = Finset.univ := by
  apply Finset.eq_univ_of_forall
  intro z
  rw [Finset.mem_biUnion]
  have h0 : (z 0).val < 7500 := (z 0).isLt
  have h1 : (z 1).val < 32 := (z 1).isLt
  have h2 : (z 2).val < 256 := (z 2).isLt
  have hk : (z 0).val / 25 / 4 < 75 := by omega
  refine ⟨((⟨(z 2).val / 128, by omega⟩, ⟨(z 1).val / 8 + 4 * ((z 0).val / 25 % 4), by omega⟩), (z 0).val / 25 / 4), ?_, ?_⟩
  · exact Finset.mem_product.mpr ⟨Finset.mem_univ _, Finset.mem_range.mpr hk⟩
  · refine (mem_blk (t := ((⟨(z 2).val / 128, by omega⟩, ⟨(z 1).val / 8 + 4 * ((z 0).val / 25 % 4), by omega⟩), (z 0).val / 25 / 4)) hk z).mpr ⟨?_, ?_, rfl⟩
    · show (z 0).val / 25 = ((z 1).val / 8 + 4 * ((z 0).val / 25 % 4)) / 4 + 4 * ((z 0).val / 25 / 4)
      omega
    · show (z 1).val / 8 = ((z 1).val / 8 + 4 * ((z 0).val / 25 % 4)) % 4
      omega

/-! ## The two slabs of a double buffer -/

omit [FloatOps F] in
theorem idx4_ext {x y : S2x25x8x128.Idx} (h0 : (x 0).val = (y 0).val) (h1 : (x 1).val = (y 1).val) (h2 : (x 2).val = (y 2).val) (h3 : (x 3).val = (y 3).val) : x = y :=
  funext fun | 0 => Fin.ext h0 | 1 => Fin.ext h1 | 2 => Fin.ext h2 | 3 => Fin.ext h3

abbrev bR0 : Rect S2x25x8x128 := Rect.unit (s := S2x25x8x128) ![0, 0, 0, 0] S1x25x8x128.size inb_S2x25x8x128_S1x25x8x128_0_0_0_0
abbrev bR1 : Rect S2x25x8x128 := Rect.unit (s := S2x25x8x128) ![1, 0, 0, 0] S1x25x8x128.size inb_S2x25x8x128_S1x25x8x128_1_0_0_0

omit [FloatOps F] in
theorem slot0_set (b : Memref sig .scVector .vmem S2x25x8x128 .f32) : (slot0 b).view.set = (b.view.slice bR0).set := View.set_reshape _ _
omit [FloatOps F] in
theorem slot1_set (b : Memref sig .scVector .vmem S2x25x8x128 .f32) : (slot1 b).view.set = (b.view.slice bR1).set := View.set_reshape _ _

omit [FloatOps F] in
theorem slots_disjoint (b : Memref sig .scVector .vmem S2x25x8x128 .f32) : Disjoint (slot0 b).view.set (slot1 b).view.set := by
  rw [slot0_set, slot1_set]
  exact View.disjoint_slice_of_sep b.view bR0 bR1 0 rfl rfl (.inl (by decide))

omit [FloatOps F] in
theorem slots_union (b : Memref sig .scVector .vmem S2x25x8x128 .f32) : b.view.set = (slot0 b).view.set ∪ (slot1 b).view.set := by
  rw [slot0_set, slot1_set]
  ext j
  rw [Finset.mem_union, View.set, View.set, View.set, Finset.mem_map, Finset.mem_map, Finset.mem_map]
  constructor
  · rintro ⟨y, -, rfl⟩
    have h0 : (y 0).val < 2 := (y 0).isLt
    by_cases h : (y 0).val < 1
    · refine .inl ⟨(ix4 ⟨(y 0).val, h⟩ (y 1) (y 2) (y 3) : S1x25x8x128.Idx), Finset.mem_univ _, ?_⟩
      show b.view.emb (bR0.emb _) = b.view.emb y
      exact congrArg _ (idx4_ext (by simp) (by simp) (by simp) (by simp))
    · refine .inr ⟨(ix4 ⟨(y 0).val - 1, by omega⟩ (y 1) (y 2) (y 3) : S1x25x8x128.Idx), Finset.mem_univ _, ?_⟩
      show b.view.emb (bR1.emb _) = b.view.emb y
      exact congrArg _ (idx4_ext (by simp; omega) (by simp) (by simp) (by simp))
  · rintro (⟨y, -, rfl⟩ | ⟨y, -, rfl⟩)
    · exact ⟨bR0.emb y, Finset.mem_univ _, rfl⟩
    · exact ⟨bR1.emb y, Finset.mem_univ _, rfl⟩

omit [FloatOps F] in
/-- A double buffer is its two slabs. -/
theorem slots_split (d : Dev nD) (i : grid0.Coords) (b : Memref sig .scVector .vmem S2x25x8x128 .f32) (f : Buf (Elt F) (b.view.loc (tl d i))) :
    (b.view.loc (tl d i) ↦[b.view.set]{fullShare} f : sProp 𝕄)
      ⊢ iprop((∃ g, (slot0 b).view.loc (tl d i) ↦[(slot0 b).view.set]{fullShare} g) ∗ ∃ g, (slot1 b).view.loc (tl d i) ↦[(slot1 b).view.set]{fullShare} g) := by
  rw [slots_union b]
  iintro H
  ihave H' := (pointsTo_union (slots_disjoint b)).1 $$ H
  icases H' with ⟨H0, H1⟩
  isplitl [H0]
  · iexists f; iexact H0
  · iexists f; iexact H1

omit [FloatOps F] in
theorem slots_join (d : Dev nD) (i : grid0.Coords) (b : Memref sig .scVector .vmem S2x25x8x128 .f32) :
    iprop((∃ g, (slot0 b).view.loc (tl d i) ↦[(slot0 b).view.set]{fullShare} g) ∗ ∃ g, (slot1 b).view.loc (tl d i) ↦[(slot1 b).view.set]{fullShare} g)
      ⊢ (iprop(∃ f, b.view.loc (tl d i) ↦[b.view.set]{fullShare} f) : sProp 𝕄) := by
  rw [slots_union b]
  iintro ⟨⟨%g0, H0⟩, %g1, H1⟩
  ihave H := (pointsTo_join (f := g0) (g := g1) (slots_disjoint b)) $$ [H0 H1]
  · isplitl [H0]; · iexact H0
    iexact H1
  iexists _
  iexact H

end Cert.Proof
-- ==== Proof.Launch.lean ====
/-
What the call hands to each SparseCore and to each of its tiles, what they hand back, and a tile's run from what it is
handed. Every tile reads a share of `x` and of the flat index list; of the result it holds the blocks of its own units.
-/

module

public import proofs.«01_k».proof.Proof.Out

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx ownBufs ownSems0 ownCells ownRefs mem_ownCells)
open Idealize.ShloMosaic.ValueIdx

variable {F : FTy → Type} [FloatOps F]

local notation "𝕄" => MM F

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev xLoc (d : Dev nD) : Loc nD τ sig := (SparseCore.T d).loc main_v1
abbrev sLoc (d : Dev nD) : Loc nD τ sig := (SparseCore.T d).loc main_v2
abbrev oLoc (d : Dev nD) : Loc nD τ sig := (SparseCore.T d).loc main_v3

/-- The three arrays of the call: `x` with the rows first, the flat index list, and the result. -/
def Xv (d : Dev nD) : S7500x32x256.Idx → Elt F .f32 :=
  shapeCast S7500x32x256 (transpose S300x25x32x256 [2, 3, 0, 1] (m (a0Loc d)) transposes_S32x256x300x25_S300x25x32x256_2_3_0_1) shapeCasts_S300x25x32x256_S7500x32x256
def Sv (d : Dev nD) : S6400.Idx → BitVec 32 := shapeCast S6400 (m (a1Loc d)) shapeCasts_S256x25_S6400
def Yv (d : Dev nD) : S7500x32x256.Idx → Elt F .f32 := outOf (Xv m d) (Sv m d)

/-- What the proof asks of the launch memory: every index is below 25. -/
def PreOK : Prop := ∀ (d : Dev nD) (j : S256x25.Idx), (m (a1Loc d) j : BitVec 32).toNat < 25

theorem sv_lt (h : PreOK m) (d : Dev nD) (j : S6400.Idx) : (Sv m d j).toNat < 25 := h d _

/-- The share of `x` and of the index list that a SparseCore holds, and a tile's share of it. -/
abbrev shC (c : Fin 2) : PosShare TreeShare := Transfers.dealOf fullShare Finset.univ c
abbrev shT (c : Fin 2) (s : Fin 16) : PosShare TreeShare := Transfers.dealOf (shC c) Finset.univ s

variable [FloatOps F]

abbrev goR (d : Dev nD) (c : Fin 2) (s : Fin 16) : sProp 𝕄 :=
  iprop((xLoc d ↦{shT c s} Xv m d) ∗ (sLoc d ↦{shT c s} Sv m d) ∗ Rest (co c s) d (m (oLoc d)) 0)
abbrev tdR (d : Dev nD) (c : Fin 2) (s : Fin 16) : sProp 𝕄 :=
  iprop((xLoc d ↦{shT c s} Xv m d) ∗ (sLoc d ↦{shT c s} Sv m d) ∗ Landed (co c s) d (Yv m d) 75)
abbrev stR (d : Dev nD) (c : Fin 2) : sProp 𝕄 :=
  iprop((xLoc d ↦{shC c} Xv m d) ∗ (sLoc d ↦{shC c} Sv m d) ∗ bigSep Finset.univ fun s : Fin 16 => Rest (co c s) d (m (oLoc d)) 0)
abbrev dnR (d : Dev nD) (c : Fin 2) : sProp 𝕄 :=
  iprop((xLoc d ↦{shC c} Xv m d) ∗ (sLoc d ↦{shC c} Sv m d) ∗ bigSep Finset.univ fun s : Fin 16 => Landed (co c s) d (Yv m d) 75)

/-- What the call's handshakes carry. -/
def P : (K (F := F)).Pay (nD := nD) (Val := Elt F) (Name := ℕ) (U := UU) where
  st := fun q d c => match q with | 0 => stR m d (Fin.cast nCore_zero c)
  dn := fun q d c => match q with | 0 => dnR m d (Fin.cast nCore_zero c)
  go := fun q d c i => match q with | 0 => goR m d (Fin.cast nCore_zero c) (Fin.cast nSub_zero i)
  td := fun q d c i => match q with | 0 => tdR m d (Fin.cast nCore_zero c) (Fin.cast nSub_zero i)
  x := fun _ _ => iprop(emp)

instance rest_storable (i : grid0.Coords) (d : Dev nD) (g : Buf (Elt F) (oV.view.loc (tl d i))) (n : ℕ) :
    BI.Storable (upEmb : UEmb _ 𝕄) (Rest i d g n : sProp 𝕄) := by unfold Rest; infer_instance
instance landed_storable (i : grid0.Coords) (d : Dev nD) (Y : Buf (Elt F) (oV.view.loc (tl d i))) (n : ℕ) :
    BI.Storable (upEmb : UEmb _ 𝕄) (Landed i d Y n : sProp 𝕄) := by unfold Landed; infer_instance

instance P_storable : (P (F := F) m).IsStorable where
  st q d c := match q with | 0 => (inferInstance : BI.Storable (upEmb : UEmb _ 𝕄) (stR m d (Fin.cast nCore_zero c)))
  dn q d c := match q with | 0 => (inferInstance : BI.Storable (upEmb : UEmb _ 𝕄) (dnR m d (Fin.cast nCore_zero c)))
  go q d c i := match q with | 0 => (inferInstance : BI.Storable (upEmb : UEmb _ 𝕄) (goR m d (Fin.cast nCore_zero c) (Fin.cast nSub_zero i)))
  td q d c i := match q with | 0 => (inferInstance : BI.Storable (upEmb : UEmb _ 𝕄) (tdR m d (Fin.cast nCore_zero c) (Fin.cast nSub_zero i)))

/-! ## A tile -/

section Tile

variable (d : Dev nD) (i : grid0.Coords)

abbrev cel (s : DmaSem sig) : GSem nD τ sig := (tl d i, .dma s)
abbrev refD (b : Ref sig .scVector) : DevRef τ sig := (Proc.scVector (core i) (sub i)).devRef b

omit [FloatOps F] in
theorem mem_cel (s : DmaSem sig) (h : (SemLoc.dma s : SemLoc sig).isScoped .scVector = true) : cel d i s ∈ ownCells (tl d i) :=
  mem_ownCells.mpr ⟨rfl, h⟩

omit [FloatOps F] in
theorem cel_ne (s t : DmaSem sig) (h : (SemLoc.dma s : SemLoc sig) ≠ .dma t) : cel d i s ≠ cel d i t := fun e => h (congrArg Prod.snd e)

omit [FloatOps F] in
/-- The five cells of a tile are among its own. -/
theorem ownSems0_V : (ownSems0 (tl d i) : sProp 𝕄)
    = iprop(semVal (cel d i cc0_scoped0.sem) 0 ∗ semVal (cel d i cc0_scratch4.sem) 0 ∗ semVal (cel d i cc0_scratch5.sem) 0
        ∗ semVal (cel d i cc0_scratch6.sem) 0 ∗ semVal (cel d i cc0_scratch7.sem) 0
        ∗ bigSep ((((((ownCells (tl d i)).erase (cel d i cc0_scoped0.sem)).erase (cel d i cc0_scratch4.sem)).erase (cel d i cc0_scratch5.sem)).erase
            (cel d i cc0_scratch6.sem)).erase (cel d i cc0_scratch7.sem)) fun g => semVal g 0) := by
  unfold SparseCore.Cfg.ownSems0
  rw [SparseCore.bigSep_erase' (mem_cel d i cc0_scoped0.sem (by decide)),
    SparseCore.bigSep_erase' (Finset.mem_erase.mpr ⟨cel_ne d i cc0_scratch4.sem cc0_scoped0.sem (by decide), mem_cel d i cc0_scratch4.sem (by decide)⟩),
    SparseCore.bigSep_erase' (Finset.mem_erase.mpr ⟨cel_ne d i cc0_scratch5.sem cc0_scratch4.sem (by decide), Finset.mem_erase.mpr ⟨cel_ne d i cc0_scratch5.sem cc0_scoped0.sem (by decide), mem_cel d i cc0_scratch5.sem (by decide)⟩⟩),
    SparseCore.bigSep_erase' (Finset.mem_erase.mpr ⟨cel_ne d i cc0_scratch6.sem cc0_scratch5.sem (by decide), Finset.mem_erase.mpr ⟨cel_ne d i cc0_scratch6.sem cc0_scratch4.sem (by decide), Finset.mem_erase.mpr ⟨cel_ne d i cc0_scratch6.sem cc0_scoped0.sem (by decide), mem_cel d i cc0_scratch6.sem (by decide)⟩⟩⟩),
    SparseCore.bigSep_erase' (Finset.mem_erase.mpr ⟨cel_ne d i cc0_scratch7.sem cc0_scratch6.sem (by decide), Finset.mem_erase.mpr ⟨cel_ne d i cc0_scratch7.sem cc0_scratch5.sem (by decide), Finset.mem_erase.mpr ⟨cel_ne d i cc0_scratch7.sem cc0_scratch4.sem (by decide), Finset.mem_erase.mpr ⟨cel_ne d i cc0_scratch7.sem cc0_scoped0.sem (by decide), mem_cel d i cc0_scratch7.sem (by decide)⟩⟩⟩⟩)]

omit [FloatOps F] in
theorem refD_ne {b c : Ref sig .scVector} (h : b ≠ c) : refD i b ≠ refD i c := fun e => h (Proc.devRef_injective _ e)

omit [FloatOps F] in
/-- The four buffers of a tile are among its own. -/
theorem ownBufs_V : (ownBufs (tl d i) : sProp 𝕄)
    = iprop((∃ f, (tl d i).loc cc0_scratch0 ↦{fullShare} f) ∗ (∃ f, (tl d i).loc cc0_scratch1 ↦{fullShare} f)
        ∗ (∃ f, (tl d i).loc cc0_scratch2 ↦{fullShare} f) ∗ (∃ f, (tl d i).loc cc0_scratch3 ↦{fullShare} f)
        ∗ bigSep (((((ownRefs (τ := τ) (.scVector (core i) (sub i))).erase (refD i cc0_scratch0)).erase (refD i cc0_scratch1)).erase (refD i cc0_scratch2)).erase (refD i cc0_scratch3))
            fun b => iprop(∃ f, ((d, b) : Loc nD τ sig) ↦{fullShare} f)) := by
  unfold SparseCore.Cfg.ownBufs
  refine (SparseCore.bigSep_erase' (SparseCore.Cfg.mem_ownRefs_of_owner (p := Proc.scVector (core i) (sub i)) (b := refD i cc0_scratch0) rfl)).trans ?_
  rw [SparseCore.bigSep_erase' (Finset.mem_erase.mpr ⟨refD_ne i (by decide), SparseCore.Cfg.mem_ownRefs_of_owner (p := Proc.scVector (core i) (sub i)) (b := refD i cc0_scratch1) rfl⟩),
    SparseCore.bigSep_erase' (Finset.mem_erase.mpr ⟨refD_ne i (by decide), Finset.mem_erase.mpr ⟨refD_ne i (by decide),
      SparseCore.Cfg.mem_ownRefs_of_owner (p := Proc.scVector (core i) (sub i)) (b := refD i cc0_scratch2) rfl⟩⟩),
    SparseCore.bigSep_erase' (Finset.mem_erase.mpr ⟨refD_ne i (by decide), Finset.mem_erase.mpr ⟨refD_ne i (by decide), Finset.mem_erase.mpr ⟨refD_ne i (by decide),
      SparseCore.Cfg.mem_ownRefs_of_owner (p := Proc.scVector (core i) (sub i)) (b := refD i cc0_scratch3) rfl⟩⟩⟩)]

/-- A share in four. -/
abbrev sh4 (q : PosShare TreeShare) (j : Fin 4) : PosShare TreeShare := Transfers.dealOf q Finset.univ j

omit [FloatOps F] in
theorem four (q : PosShare TreeShare) (X : Buf (Elt F) (xV.view.loc (tl d i))) :
    (xV.view.loc (tl d i) ↦{q} X : sProp 𝕄)
      = iprop((xV.view.loc (tl d i) ↦{sh4 q 0} X) ∗ (xV.view.loc (tl d i) ↦{sh4 q 1} X) ∗ (xV.view.loc (tl d i) ↦{sh4 q 2} X) ∗ (xV.view.loc (tl d i) ↦{sh4 q 3} X)) := by
  have h (Φ : Fin 4 → sProp 𝕄) : bigSep Finset.univ Φ = iprop(Φ 0 ∗ Φ 1 ∗ Φ 2 ∗ Φ 3) := by
    rw [show (Finset.univ : Finset (Fin 4)) = {0, 1, 2, 3} by decide, SparseCore.bigSep_insert' (by decide), SparseCore.bigSep_insert' (by decide), SparseCore.bigSep_insert' (by decide), bigSep_singleton]
  exact (Transfers.pointsTo_deal Finset.univ ⟨(0 : Fin 4), Finset.mem_univ _⟩ q).trans (h _)

omit [FloatOps F] in
/-- A scratch buffer whole, as its own view's. -/
theorem some_whole (b : Ref sig .scVector) : (iprop(∃ f, (tl d i).loc b ↦{fullShare} f) : sProp 𝕄)
    = iprop(∃ f, (View.whole b).loc (tl d i) ↦[(View.whole b).set]{fullShare} f) := by
  rw [View.set_whole]

omit [FloatOps F] in
/-- A double buffer, whole, is its two slabs. -/
theorem some_slots (b : Memref sig .scVector .vmem S2x25x8x128 .f32) :
    (iprop(∃ f, b.view.loc (tl d i) ↦[b.view.set]{fullShare} f) : sProp 𝕄)
      ⊢ iprop((∃ g, (slot0 b).view.loc (tl d i) ↦[(slot0 b).view.set]{fullShare} g) ∗ ∃ g, (slot1 b).view.loc (tl d i) ↦[(slot1 b).view.set]{fullShare} g) := by
  iintro ⟨%f, H⟩
  iapply (slots_split d i b f) $$ H

set_option maxHeartbeats 4000000 in
/-- A tile's run: from its shares and its blocks of the result to the same shares and the blocks written. -/
theorem tile_body (hF : (K (F := F)).Facts) (hpre : PreOK m) (q : PosShare TreeShare) (O : CellTallies nD τ sig (HIx 1)) (W : Waits sig (HIx 1)) (hO : ∀ g, O g none = 0) :
    iprop(levAts (K (F := F)).L (K (F := F)).lev ∗ emp
        ∗ ((xLoc d ↦{q} Xv m d) ∗ (sLoc d ↦{q} Sv m d) ∗ Rest i d (m (oLoc d)) 0)
        ∗ scopedBufs (tl d i) ∗ scopedSems0 (tl d i) ∗ owes (tl d i) O W)
      ⊢ wp frame (wpE (defs₀ (F := F)) 𝒱₀ (tl d i) none) Set.univ
          (cc0__sgpshift_body i xV (Memref.isWhole_whole _) sV (Memref.isWhole_whole _) oV (Memref.isWhole_whole _) sbV (Memref.isWhole_whole _) itV (Memref.isWhole_whole _)
            xbV (Memref.isWhole_whole _) obV (Memref.isWhole_whole _) cc0_scratch4 cc0_scratch5 cc0_scratch6 cc0_scratch7 cc0_scoped0)
          fun _ => iprop(((xLoc d ↦{q} Xv m d) ∗ (sLoc d ↦{q} Sv m d) ∗ Landed i d (Yv m d) 75)
            ∗ scopedBufs (tl d i) ∗ scopedSems0 (tl d i)
            ∗ ∃ W', ⌜∀ p ∈ W', p ∈ W ∨ p.2 = none⌝ ∗ owes (tl d i) O W') := by
  rw [(K (F := F)).scopedBufs_V hF d (core i) (sub i), SparseCore.Cfg.scopedSems0_V (Val := Elt F) d (core i) (sub i), ownSems0_V, ownBufs_V,
    show (xLoc d ↦{q} Xv m d : sProp 𝕄) = _ from four d i q (Xv m d), some_whole d i cc0_scratch0, some_whole d i cc0_scratch1, some_whole d i cc0_scratch2, some_whole d i cc0_scratch3]
  iintro ⟨#Hlv, -, ⟨⟨Hx0, Hx1, Hx2, Hx3⟩, HS, HR⟩, ⟨Hb, Ht, Hxb, Hob, Hbufs⟩, ⟨Hc, Hc4, Hc5, Hc6, Hc7, Hsems⟩, HO⟩
  ihave Hmw := (show levAts (K (F := F)).L (K (F := F)).lev ⊢ Transfers.MayWaits (tl d i) (default : HIx 1) O from
    (K (F := F)).mayWaits_none (thr := tl d i) hO) $$ Hlv
  ihave Hxs := (some_slots d i xbV) $$ Hxb
  icases Hxs with ⟨Hxb0, Hxb1⟩
  ihave Hos := (some_slots d i obV) $$ Hob
  icases Hos with ⟨Hob0, Hob1⟩
  iapply (wp_wand_r frame _ Set.univ)
  isplitr [Hbufs Hsems]
  · iapply (wp_body (d := d) (i := i) (X := Xv m d) (S := Sv m d) (Y := Yv m d) (g := m (oLoc d)) (q0 := sh4 q 0) (q1 := sh4 q 1) (q2 := sh4 q 2) (q3 := sh4 q 3) (qs := q) (O := O) (W := W)
      (sv_lt m hpre d) (fun k _ y => gather_out d i (Xv m d) (Sv m d) (sv_lt m hpre d) k y))
    unfold TileRes Some1 Idle OIdle Ow
    isplitr [HR HO]
    · isplitl [Hc]; · iexact Hc
      isplitl [HS]; · iexact HS
      isplitl [Hb]; · iexact Hb
      isplitl [Ht]; · iexact Ht
      isplitl [Hc4 Hxb0 Hx0 Hx1]
      · isplitl [Hc4]; · iexact Hc4
        isplitl [Hxb0]; · iexact Hxb0
        isplitl [Hx0]; · iexact Hx0
        iexact Hx1
      isplitl [Hc5 Hxb1 Hx2 Hx3]
      · isplitl [Hc5]; · iexact Hc5
        isplitl [Hxb1]; · iexact Hxb1
        isplitl [Hx2]; · iexact Hx2
        iexact Hx3
      isplitl [Hc6 Hob0]
      · isplitl [Hc6]; · iexact Hc6
        iexact Hob0
      isplitl [Hc7]; · iexact Hc7
      iexact Hob1
    isplitl [HR]; · iexact HR
    isplitl [HO]
    · iexists W
      isplitr; · ipureintro; exact fun p hp => .inl hp
      iexact HO
    iexact Hmw
  unfold TileRes Some1 Idle OIdle Ow
  iintro %a ⟨⟨Hc, HS, Hb, Ht, ⟨Hc4, Hxb0, Hx0, Hx1⟩, ⟨Hc5, Hxb1, Hx2, Hx3⟩, ⟨Hc6, Hob0⟩, Hc7, Hob1⟩, HL, Hw⟩
  ihave Hxb := (slots_join d i xbV) $$ [Hxb0 Hxb1]
  · isplitl [Hxb0]; · iexact Hxb0
    iexact Hxb1
  ihave Hob := (slots_join d i obV) $$ [Hob0 Hob1]
  · isplitl [Hob0]; · iexact Hob0
    iexact Hob1
  isplitl [Hx0 Hx1 Hx2 Hx3 HS HL]
  · isplitl [Hx0 Hx1 Hx2 Hx3]
    · isplitl [Hx0]; · iexact Hx0
      isplitl [Hx1]; · iexact Hx1
      isplitl [Hx2]; · iexact Hx2
      iexact Hx3
    isplitl [HS]; · iexact HS
    iexact HL
  isplitl [Hb Ht Hxb Hob Hbufs]
  · isplitl [Hb]; · iexact Hb
    isplitl [Ht]; · iexact Ht
    isplitl [Hxb]; · iexact Hxb
    isplitl [Hob]; · iexact Hob
    iexact Hbufs
  isplitl [Hc Hc4 Hc5 Hc6 Hc7 Hsems]
  · isplitl [Hc]; · iexact Hc
    isplitl [Hc4]; · iexact Hc4
    isplitl [Hc5]; · iexact Hc5
    isplitl [Hc6]; · iexact Hc6
    isplitl [Hc7]; · iexact Hc7
    iexact Hsems
  iexact Hw

end Tile

/-! ## The obligation of the call's tiles -/

theorem defs₀_vector (c : Fin τ.nSC) (s : Fin τ.nSub) :
    defs₀ (F := F) (.scVector c s) 0 ()
      = SparseCore.onTile hcore0 hsub0 (fun c s => cc0__sgpshift_body (co c s) xV (Memref.isWhole_whole _) sV (Memref.isWhole_whole _) oV (Memref.isWhole_whole _)
          sbV (Memref.isWhole_whole _) itV (Memref.isWhole_whole _) xbV (Memref.isWhole_whole _) obV (Memref.isWhole_whole _) cc0_scratch4 cc0_scratch5 cc0_scratch6 cc0_scratch7 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (co ⟨_, hci.1⟩ ⟨_, hci.2⟩) hF hpre (shT (Fin.cast nCore_zero c) (Fin.cast nSub_zero i)) O W hO).trans (wp_mono frame _ _ fun _ => obl_post)

end Cert.Proof
-- ==== Proof.Run.lean ====
/-
The whole program: the call's arrays dealt to the SparseCores and their tiles and taken back, the operations around the
call, and the run of the program from any launch memory whose indices are below 25.
-/

module

public import proofs.«01_k».proof.Proof.Launch

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.ValueIdx
open Idealize.ShloMosaic.Rounds
open Idealize.ShloMosaic.StableHlo (held wp_hlo_within)

variable {F : FTy → Type} [FloatOps F]

local notation "𝕄" => MM F

variable (m : (ℓ : Loc nD τ sig) → Buf (Elt F) ℓ) (ρ : Dev nD → PrngReg)

/-! ## Dealing the arrays -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- A share of an array is dealt to the tiles of a SparseCore, the whole of it to the SparseCores. -/
theorem deal_tiles {ℓ : Loc nD τ sig} (f : Buf (Elt F) ℓ) (c : Fin 2) : (ℓ ↦{shC c} f : sProp 𝕄) = bigSep Finset.univ fun s : Fin 16 => ℓ ↦{shT c s} f :=
  Transfers.pointsTo_deal Finset.univ ⟨(0 : Fin 16), Finset.mem_univ _⟩ (shC c)
omit [FloatOps F] in
theorem deal_cores {ℓ : Loc nD τ sig} (f : Buf (Elt F) ℓ) : (ℓ ↦{fullShare} f : sProp 𝕄) = bigSep Finset.univ fun c : Fin 2 => ℓ ↦{shC c} f :=
  Transfers.pointsTo_deal Finset.univ ⟨(0 : Fin 2), Finset.mem_univ _⟩ fullShare

omit [FloatOps F] in
/-- The result whole is every unit's block of it. -/
theorem o_blocks (d : Dev nD) (f : Buf (Elt F) (oLoc d)) :
    (oLoc d ↦{fullShare} f : sProp 𝕄) = bigSep Finset.univ fun c : Fin 2 => bigSep Finset.univ fun s : Fin 16 => bigSep (Finset.range 75) fun k => oLoc d ↦[blk ((c, s), k)]{fullShare} f := by
  have h1 := pointsTo_biUnion (ℓ := oLoc d) (q := fullShare) (f := f) allU blk blk_disjoint (Val := Elt F) (Ix := HIx 1) (Name := ℕ) (U := UU) (Lvl := ℕ)
  rw [blk_cover] at h1
  refine h1.trans ?_
  rw [SparseCore.bigSep_product, bigSep_univ_prod]

omit [FloatOps F] in
theorem o_rest (d : Dev nD) (f : Buf (Elt F) (oLoc d)) :
    (oLoc d ↦{fullShare} f : sProp 𝕄) = bigSep Finset.univ fun c : Fin 2 => bigSep Finset.univ fun s : Fin 16 => Rest (co c s) d f 0 := by
  rw [o_blocks]
  refine bigSep_congr fun c _ => bigSep_congr fun s _ => ?_
  unfold Rest
  rw [Finset.range_eq_Ico]
  rfl
omit [FloatOps F] in
theorem o_landed (d : Dev nD) (f : Buf (Elt F) (oLoc d)) :
    (oLoc d ↦{fullShare} f : sProp 𝕄) = bigSep Finset.univ fun c : Fin 2 => bigSep Finset.univ fun s : Fin 16 => Landed (co c s) d f 75 := by
  rw [o_blocks]
  refine bigSep_congr fun c _ => bigSep_congr fun s _ => ?_
  unfold Landed
  rfl

theorem vecSplit : (K (F := F)).VecSplit' (P m) 0 := by
  intro d c
  show stR m d (Fin.cast nCore_zero c) ⊢ |={Set.univ}=> iprop(
      (bigSep Finset.univ fun i : Fin ((K (F := F)).nSub 0) => goR m d (Fin.cast nCore_zero c) (Fin.cast nSub_zero i))
      ∗ ((bigSep Finset.univ fun i : Fin ((K (F := F)).nSub 0) => tdR m d (Fin.cast nCore_zero c) (Fin.cast nSub_zero i))
          -∗ dnR m d (Fin.cast nCore_zero c)))
  rw [bigSep_tasks (F := F) (fun i => goR m d (Fin.cast nCore_zero c) i), bigSep_tasks (F := F) (fun i => tdR m d (Fin.cast nCore_zero c) i)]
  unfold goR tdR stR dnR
  rw [bigSep_sep', bigSep_sep', bigSep_sep', bigSep_sep', deal_tiles, deal_tiles]
  iintro H; imodintro
  isplitl [H]; · iexact H
  iintro H
  iexact H

/-! ## The launch element of the certificate's ghost state -/

omit [FloatOps F] in
theorem bigSep_emp' {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The operations around the call -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev opT : HloOp τ sig (Elt F) := StableHlo.unary main_arg0 main_v0 ((transpose S300x25x32x256 [2, 3, 0, 1] · transposes_S32x256x300x25_S300x25x32x256_2_3_0_1) : (⟨S32x256x300x25, .f32⟩ : BufTy).Contents (Elt F) → (⟨S300x25x32x256, .f32⟩ : BufTy).Contents (Elt F))
abbrev opX : HloOp τ sig (Elt F) := StableHlo.reshape main_v0 main_v1 (rfl : (.f32 : EltTy) = .f32) shapeCasts_S300x25x32x256_S7500x32x256
abbrev opS : HloOp τ sig (Elt F) := StableHlo.reshape main_arg1 main_v2 (rfl : (.i32 : EltTy) = .i32) shapeCasts_S256x25_S6400
abbrev opB : HloOp τ sig (Elt F) := StableHlo.reshape main_v3 main_v4 (rfl : (.f32 : EltTy) = .f32) shapeCasts_S7500x32x256_S300x25x32x256
abbrev opR : HloOp τ sig (Elt F) := StableHlo.unary main_v4 main_v5 ((transpose S32x256x300x25 [2, 3, 0, 1] · transposes_S300x25x32x256_S32x256x300x25_2_3_0_1) : (⟨S300x25x32x256, .f32⟩ : BufTy).Contents (Elt F) → (⟨S32x256x300x25, .f32⟩ : BufTy).Contents (Elt F))

/-- What the program returns. -/
def Rv (d : Dev nD) : S32x256x300x25.Idx → Elt F .f32 :=
  transpose S32x256x300x25 [2, 3, 0, 1] (shapeCast S300x25x32x256 (Yv m d) shapeCasts_S7500x32x256_S300x25x32x256) transposes_S300x25x32x256_S32x256x300x25_2_3_0_1

/-- The TensorCore's arrays. -/
abbrev S8 : Finset (DevRef τ sig) := {a0', a1', v0', v1', v2', v3', v4', v5'}

abbrev tcL (d : Dev nD) (b : Ref sig .tc) : Loc nD τ sig := (SparseCore.T d).loc b

omit [FloatOps F] in
theorem held_S8 (d : Dev nD) (W : Valuation τ sig (Elt F)) :
    (held (T d) S8 W : sProp 𝕄)
      = iprop((a0Loc d ↦{fullShare} W a0') ∗ (a1Loc d ↦{fullShare} W a1') ∗ (tcL d main_v0 ↦{fullShare} W v0') ∗ (xLoc d ↦{fullShare} W v1')
          ∗ (sLoc d ↦{fullShare} W v2') ∗ (oLoc d ↦{fullShare} W v3') ∗ (tcL d main_v4 ↦{fullShare} W v4') ∗ tcL d main_v5 ↦{fullShare} W v5') := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (tcL d main_v0 ↦{fullShare} W main_v0) ∗ (xLoc d ↦{fullShare} W main_v1)
          ∗ (sLoc d ↦{fullShare} W main_v2) ∗ (oLoc d ↦{fullShare} W main_v3) ∗ (tcL d main_v4 ↦{fullShare} W main_v4) ∗ tcL d main_v5 ↦{fullShare} W main_v5) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays at the launch, before the call, after it and at the end. -/
def V0 (d : Dev nD) : Valuation τ sig (Elt F) := fun b => m (d, b)
def V3 (d : Dev nD) : Valuation τ sig (Elt F) := (opS (F := F)).result ((opX (F := F)).result ((opT (F := F)).result (V0 m d)))
def V4 (d : Dev nD) : Valuation τ sig (Elt F) := Function.update (V3 m d) v3' (Yv m d)
def V6 (d : Dev nD) : Valuation τ sig (Elt F) := (opR (F := F)).result ((opB (F := F)).result (V4 m d))

theorem unscoped_held (d : Dev nD) : (unscopedBufs d (fun b => m ((SparseCore.T d).loc b)) : sProp 𝕄) = held (T d) S8 (V0 m d) := by
  rw [unscopedBufs_eq, held_S8]; rfl

/-- The operations before the call leave every other array. -/
theorem V3_of_ne (d : Dev nD) {b : DevRef τ sig} (h0 : b ∉ ({v0'} : Finset (DevRef τ sig))) (h1 : b ∉ ({v1'} : Finset (DevRef τ sig))) (h2 : b ∉ ({v2'} : Finset (DevRef τ sig))) :
    V3 m d b = V0 m d b := by
  unfold V3
  rw [(opS (F := F)).result_of_not_mem _ h2, (opX (F := F)).result_of_not_mem _ h1, (opT (F := F)).result_of_not_mem _ h0]
theorem V3_x (d : Dev nD) : V3 m d v1' = Xv m d := by
  unfold V3
  rw [(opS (F := F)).result_of_not_mem _ (show v1' ∉ ({v2'} : Finset (DevRef τ sig)) by decide)]
  refine (StableHlo.reshape_result main_v0 main_v1 _ _ _ _ _).trans ?_
  rw [show (opT (F := F)).result (V0 m d) v0' = _ from StableHlo.unary_result main_arg0 main_v0 _ _ _ _]
  rfl
theorem V3_s (d : Dev nD) : V3 m d v2' = Sv m d := by
  unfold V3
  refine (StableHlo.reshape_result main_arg1 main_v2 _ _ _ _ _).trans ?_
  rw [show ((opX (F := F)).result ((opT (F := F)).result (V0 m d))) a1' = V0 m d a1' by
    rw [(opX (F := F)).result_of_not_mem _ (show a1' ∉ ({v1'} : Finset (DevRef τ sig)) by decide), (opT (F := F)).result_of_not_mem _ (show a1' ∉ ({v0'} : Finset (DevRef τ sig)) by decide)]]
  rfl

theorem V4_of_ne (d : Dev nD) {b : DevRef τ sig} (h : b ≠ v3') : V4 m d b = V3 m d b := Function.update_of_ne h _ _
theorem V4_o (d : Dev nD) : V4 m d v3' = Yv m d := Function.update_self _ _ _

theorem V6_of_ne (d : Dev nD) {b : DevRef τ sig} (h4 : b ∉ ({v4'} : Finset (DevRef τ sig))) (h5 : b ∉ ({v5'} : Finset (DevRef τ sig))) : V6 m d b = V4 m d b := by
  unfold V6
  rw [(opR (F := F)).result_of_not_mem _ h5, (opB (F := F)).result_of_not_mem _ h4]
theorem V6_r (d : Dev nD) : V6 m d v5' = Rv m d := by
  unfold V6
  refine (StableHlo.unary_result main_v4 main_v5 _ _ _ _).trans ?_
  rw [show (opB (F := F)).result (V4 m d) v4' = _ from StableHlo.reshape_result main_v3 main_v4 _ _ _ _ _, V4_o]
  rfl
theorem V6_a0 (d : Dev nD) : V6 m d a0' = m (a0Loc d) := by
  rw [V6_of_ne m d (by decide) (by decide), V4_of_ne m d (by decide), V3_of_ne m d (by decide) (by decide) (by decide)]; rfl
theorem V6_a1 (d : Dev nD) : V6 m d a1' = m (a1Loc d) := by
  rw [V6_of_ne m d (by decide) (by decide), V4_of_ne m d (by decide), V3_of_ne m d (by decide) (by decide) (by decide)]; rfl

/-- The arrays just before the call. -/
theorem held_V3 (d : Dev nD) :
    (held (T d) S8 ((opS (F := F)).result ((opX (F := F)).result ((opT (F := F)).result (V0 m d)))) : sProp 𝕄)
      = iprop((a0Loc d ↦{fullShare} V3 m d a0') ∗ (a1Loc d ↦{fullShare} V3 m d a1') ∗ (tcL d main_v0 ↦{fullShare} V3 m d v0') ∗ (xLoc d ↦{fullShare} Xv m d)
          ∗ (sLoc d ↦{fullShare} Sv m d) ∗ (oLoc d ↦{fullShare} m (oLoc d)) ∗ (tcL d main_v4 ↦{fullShare} V3 m d v4') ∗ tcL d main_v5 ↦{fullShare} V3 m d v5') := by
  show held (SparseCore.T d) S8 (V3 m d) = _
  rw [held_S8, V3_x, V3_s, show V3 m d v3' = m (oLoc d) from V3_of_ne m d (by decide) (by decide) (by decide)]

/-- The arrays at the end. -/
theorem held_V6 (d : Dev nD) :
    (held (T d) S8 ((opR (F := F)).result ((opB (F := F)).result (V4 m d))) : sProp 𝕄)
      = iprop((a0Loc d ↦{fullShare} m (a0Loc d)) ∗ (a1Loc d ↦{fullShare} m (a1Loc d)) ∗ (tcL d main_v0 ↦{fullShare} V6 m d v0') ∗ (xLoc d ↦{fullShare} V6 m d v1')
          ∗ (sLoc d ↦{fullShare} V6 m d v2') ∗ (oLoc d ↦{fullShare} V6 m d v3') ∗ (tcL d main_v4 ↦{fullShare} V6 m d v4') ∗ tcL d main_v5 ↦{fullShare} Rv m d) := by
  show held (SparseCore.T d) S8 (V6 m d) = _
  rw [held_S8, V6_a0, V6_a1, V6_r]

/-- What the call takes and brings back, over the SparseCores. -/
theorem st0_eq (d : Dev nD) : (bigSep Finset.univ fun c : Fin ((K (F := F)).nCore 0) => (P m).st 0 d c)
    = iprop((xLoc d ↦{fullShare} Xv m d) ∗ (sLoc d ↦{fullShare} Sv m d) ∗ oLoc d ↦{fullShare} m (oLoc d)) := by
  refine (bigSep_cores (F := F) (stR m d)).trans ?_
  unfold stR
  rw [bigSep_sep', bigSep_sep', deal_cores, deal_cores, o_rest]
theorem dn0_eq (d : Dev nD) : (bigSep Finset.univ fun c : Fin ((K (F := F)).nCore 0) => (P m).dn 0 d c)
    = iprop((xLoc d ↦{fullShare} Xv m d) ∗ (sLoc d ↦{fullShare} Sv m d) ∗ oLoc d ↦{fullShare} Yv m d) := by
  refine (bigSep_cores (F := F) (dnR m d)).trans ?_
  unfold dnR
  rw [bigSep_sep', bigSep_sep', deal_cores, deal_cores, o_landed]

theorem hT : (opT (F := F)).bufs ⊆ S8 := show ({a0', v0'} : Finset (DevRef τ sig)) ⊆ S8 by decide
theorem hX : (opX (F := F)).bufs ⊆ S8 := show ({v0', v1'} : Finset (DevRef τ sig)) ⊆ S8 by decide
theorem hSI : (opS (F := F)).bufs ⊆ S8 := show ({a1', v2'} : Finset (DevRef τ sig)) ⊆ S8 by decide
theorem hB : (opB (F := F)).bufs ⊆ S8 := show ({v3', v4'} : Finset (DevRef τ sig)) ⊆ S8 by decide
theorem hR : (opR (F := F)).bufs ⊆ S8 := show ({v4', v5'} : Finset (DevRef τ sig)) ⊆ S8 by decide

/-- What the program leaves for the claims: its two arguments as they were, and its result. -/
abbrev FIN (d : Dev nD) : sProp 𝕄 := iprop((a0Loc d ↦{fullShare} m (a0Loc d)) ∗ (a1Loc d ↦{fullShare} m (a1Loc d)) ∗ tcL d main_v5 ↦{fullShare} Rv m d)

/-- The program on a device's TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opT) (S := S8) hT (V := V0 m d)) $$ [Hb Hheld]
  · isplitl [Hb] <;> iassumption
  iintro ⟨Hb, Hheld⟩
  rw [wp_ret]; imodintro
  iapply (wp_hlo_within 𝒱 (SparseCore.T d) none Set.univ (op := opX) (S := S8) hX (V := (opT (F := F)).result (V0 m d))) $$ [Hb Hheld]
  · isplitl [Hb] <;> iassumption
  iintro ⟨Hb, Hheld⟩
  rw [wp_ret]; imodintro
  iapply (wp_hlo_within 𝒱 (SparseCore.T d) none Set.univ (op := opS) (S := S8) hSI (V := (opX (F := F)).result ((opT (F := F)).result (V0 m d)))) $$ [Hb Hheld]
  · isplitl [Hb] <;> iassumption
  iintro ⟨Hb, Hheld⟩
  rw [wp_ret]; imodintro
  ihave Hh := (Entails.of_eq (held_V3 (F := F) m d)) $$ Hheld
  icases Hh with ⟨Ha0, Ha1, Hv0, Hx, Hs, Ho, Hv4, Hv5⟩
  iapply ((K (F := F)).wp_run (D (F := F)) 𝒱 (EH := EH) (P := P m) κ d 0) $$ [Hst Hx Hs Ho Hb Ha0 Ha1 Hv0 Hv4 Hv5 Hts]
  isplitr; · iexact Hctx
  isplitl [Hst]; · iexact Hst
  isplitl [Hx Hs Ho]
  · rw [st0_eq]
    isplitl [Hx]; · iexact Hx
    isplitl [Hs]; · iexact Hs
    iexact Ho
  iintro ⟨Hst, Hdn⟩
  ihave Hdn' := (Entails.of_eq (dn0_eq m d)) $$ Hdn
  icases Hdn' with ⟨Hx, Hs, Ho⟩
  iapply (wp_hlo_within 𝒱 (SparseCore.T d) none Set.univ (op := opB) (S := S8) hB (V := V4 m d)) $$ [Hb Ha0 Ha1 Hv0 Hx Hs Ho Hv4 Hv5]
  · isplitl [Hb]; · iexact Hb
    rw [held_S8, V4_o, V4_of_ne m d (b := a0') (by decide), V4_of_ne m d (b := a1') (by decide), V4_of_ne m d (b := v0') (by decide), V4_of_ne m d (b := v1') (by decide),
      V4_of_ne m d (b := v2') (by decide), V4_of_ne m d (b := v4') (by decide), V4_of_ne m d (b := v5') (by decide), V3_x, V3_s]
    isplitl [Ha0]; · iexact Ha0
    isplitl [Ha1]; · iexact Ha1
    isplitl [Hv0]; · iexact Hv0
    isplitl [Hx]; · iexact Hx
    isplitl [Hs]; · iexact Hs
    isplitl [Ho]; · iexact Ho
    isplitl [Hv4]; · iexact Hv4
    iexact Hv5
  iintro ⟨Hb, Hheld⟩
  rw [wp_ret]; imodintro
  iapply (wp_hlo_within 𝒱 (SparseCore.T d) none Set.univ (op := opR) (S := S8) hR (V := (opB (F := F)).result (V4 m d))) $$ [Hb Hheld]
  · isplitl [Hb] <;> iassumption
  iintro ⟨Hb, Hheld⟩
  ihave Hh := (Entails.of_eq (held_V6 (F := F) m d)) $$ Hheld
  icases Hh with ⟨Ha0, Ha1, -, -, -, -, -, Hr⟩
  rw [wp_ret]; imodintro; imodintro
  isplitl [Hst]; · iexact Hst
  isplitr [Hb Hts]
  · isplitl [Ha0]; · iexact Ha0
    isplitl [Ha1]; · iexact Ha1
    iexact Hr
  isplitl [Hb] <;> iassumption

def fq (d : Dev nD) (s' : Phys nD τ sig (Elt F)) : Prop :=
  s'.mem.mem (tcL d main_v5) = Rv m d ∧ s'.mem.mem (a0Loc d) = m (a0Loc d) ∧ s'.mem.mem (a1Loc d) = m (a1Loc d)

set_option maxRecDepth 16384 in
theorem hfin (d : Dev nD) (s' : Phys nD τ sig (Elt F)) : iprop(FIN m d ∗ SI s') ⊢ (⌜fq m d s'⌝ : sProp 𝕄) := by
  iintro ⟨⟨H0, H1, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := tcL d main_v5) (I := Finset.univ) (q := fullShare) (f := Rv m d)) $$ [HSI Hr]
  · isplitl [HSI] <;> iassumption
  icases H with %hr
  ipureintro
  exact ⟨funext fun i => hr i (Finset.mem_univ i), funext fun i => h0 i (Finset.mem_univ i), funext fun i => h1 i (Finset.mem_univ i)⟩

/-! ## The program's run -/

def QC : PUnit × MemSt nD τ sig (Elt F) → Prop := fun r =>
  (∀ c : Dev nD, r.2.mem (tcL c main_v5) = Rv m c ∧ r.2.mem (a0Loc c) = m (a0Loc c) ∧ r.2.mem (a1Loc c) = m (a1Loc c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof
-- ==== Proof.Value.lean ====
/-
The precondition read element by element, the reference's array read element by element under it, and the equality of
the kernel's array with the reference's.
-/

module

public import Idealize.ShloMosaic.Lib.ReduceAll
public import Idealize.ShloMosaic.Lib.Pipeline.Value
public import proofs.«01_k».proof.Proof.Gen.Pre_idx_in_range
public import proofs.«01_k».proof.Proof.Ref
public import proofs.«01_k».proof.Proof.Run

@[expose] public section

noncomputable section

namespace Cert.Proof

open Idealize.ShloMosaic Idealize.ShloMosaic.ValueIdx

variable {F : FTy → Type} [FloatOps F]

/-! ## Comparisons of a word with the range's ends -/

/-- A word at least 0 and under 25, both read signed, is below 25 read unsigned. -/
theorem lt_of_range (v : BitVec 32) (e : IntOp.andi (IntOp.cmpi .sge v 0#32) (IntOp.cmpi .slt v 25#32) = 1#1) :
    v.toNat < 25 := by
  obtain ⟨h0, h1⟩ := IntOp.andi_eq_one.1 e
  have lo : (0 : Int) ≤ v.toInt := IntOp.cmpi_sge.1 h0
  have hi : v.toInt < 25 := IntOp.cmpi_slt.1 h1
  have := v.isLt
  rw [BitVec.toInt_eq_toNat_cond] at lo hi
  omega

/-- A word below 25 read unsigned is the same number read signed. -/
theorem toInt_of_lt (v : BitVec 32) (h : v.toNat < 25) : v.toInt = v.toNat := by
  rw [BitVec.toInt_eq_toNat_cond]
  omega

/-- So it is between 0 and 24 read signed, -/
theorem range_of_lt (v : BitVec 32) (h : v.toNat < 25) :
    IntOp.andi (IntOp.cmpi .sge v 0#32) (IntOp.cmpi .sle v 24#32) = 1#1 := by
  refine IntOp.andi_eq_one.2 ⟨IntOp.cmpi_sge.2 ?_, IntOp.cmpi_sle.2 ?_⟩ <;> rw [toInt_of_lt v h]
  · exact Int.natCast_nonneg _
  · show (v.toNat : Int) ≤ 24
    omega

/-- not negative, -/
theorem not_neg_of_lt (v : BitVec 32) (h : v.toNat < 25) : IntOp.cmpi .slt v 0#32 ≠ 1#1 := by
  intro e
  have hn : v.toInt < 0 := IntOp.cmpi_slt.1 e
  rw [toInt_of_lt v h] at hn
  omega

/-- and unchanged by the lookup's hold in 0..24. -/
theorem toInt_toNat_of_lt (v : BitVec 32) (h : v.toNat < 25) : min v.toInt.toNat 24 = v.toNat := by
  rw [toInt_of_lt v h]
  omega

/-! ## The precondition -/

/-- The precondition says that every entry of the table is below 25. -/
theorem lt_of_pre (x : FVec F Cert.Pre_idx_in_range.S32x256x300x25 .f32) (s : IVec Cert.Pre_idx_in_range.S256x25 32)
    (h : Cert.Pre_idx_in_range.fn (F := F) x s = fun _ => 1#1) (j : Cert.Pre_idx_in_range.S256x25.Idx) :
    (s j).toNat < 25 :=
  lt_of_range _ (Host.reduce_andi_all (t := Cert.Pre_idx_in_range.S_) _ _ _ _ (fun a => a.elim0) (congrFun h _) j)

/-! ## The reference's array -/

namespace Ref

open Cert.ReferenceIdeal Cert.ReferenceIdeal.Gen

/-- The table spread over the array's shape, read at an element: the entry for its channel and joint. -/
theorem tab_apply (s : IVec S256x25 32) (b : Fin 32) (c : Fin 256) (t : Fin 300) (v : Fin 25) :
    tab s (ix4 b c t v) = s (ix2 c v) := by
  refine (broadcastInDim_apply _ bcast_S1x256x1x25_S32x256x300x25_0_1_2_3 _ (ix4 b c t v)
    (ix4 (0 : Fin 1) c (0 : Fin 1) v) fun a => ?_).trans
      (broadcastInDim_apply _ bcast_S256x25_S1x256x1x25_1_3 s _ (ix2 c v) fun a => ?_)
  · match a with
    | 0 => rfl
    | 1 => rfl
    | 2 => rfl
    | 3 => rfl
  · match a with
    | 0 => rfl
    | 1 => rfl

/-- The index read at an element's place: the same entry. -/
theorem idx_apply (s : IVec S256x25 32) (hs : ∀ j, (s j).toNat < 25) (i : S32x256x300x25x1.Idx) :
    idx s i = s (ix2 (i 1) (i 3)) := by
  have hi4 : (i 4).val = 0 := by
    have h : (i 4).val < 1 := (i 4).isLt
    omega
  have ht : tab s (ix4 (i 0) (i 1) (i 2) (i 3)) = s (ix2 (i 1) (i 3)) := tab_apply s (i 0) (i 1) (i 2) (i 3)
  refine (shapeCast_apply _ shapeCasts_S32x256x300x25_S32x256x300x25x1 i (ix4 (i 0) (i 1) (i 2) (i 3)) (by
    rw [Shape.rowMajor_val_four, Shape.rowMajor_val_five, hi4]
    exact (Nat.mul_one _).symm)).trans ?_
  refine Eq.trans (if_neg ?_) ht
  show ¬ IntOp.cmpi .slt (tab s (ix4 (i 0) (i 1) (i 2) (i 3))) 0#32 = 1#1
  rw [ht]
  exact not_neg_of_lt _ (hs _)

/-- Every index lies in 0..24. -/
theorem mask_apply (s : IVec S256x25 32) (hs : ∀ j, (s j).toNat < 25) (i : S32x256x300x25x1.Idx) : mask s i = 1#1 := by
  show IntOp.andi (IntOp.cmpi .sge (idx s i) 0#32) (IntOp.cmpi .sle (idx s i) 24#32) = 1#1
  rw [idx_apply s hs]
  exact range_of_lt _ (hs _)

/-- The gather read at an element: the array's element at the same batch, channel and frame, and at the index read
    signed and held in 0..24. -/
theorem gather_apply (x : FVec F S32x256x300x25 .f32) (n : IVec S32x256x300x25x1 32) (k : S32x256x300x25.Idx) :
    Host.gather gather_S32x256x300x25_S32x256x300x25x1_S32x256x300x25_n_3_012_012_3_4_1111 x n k
      = x (ix4 (k 0) (k 1) (k 2) ⟨min (n (ix5 (k 0) (k 1) (k 2) (k 3) (0 : Fin 1))).toInt.toNat 24, by omega⟩) := by
  unfold Host.gather
  congr 1
  funext a
  refine Fin.ext ?_
  generalize hg : gather_S32x256x300x25_S32x256x300x25x1_S32x256x300x25_n_3_012_012_3_4_1111 = g
  show g.start k n a + g.batchCoord k a + g.offCoord k a = _
  subst hg
  match a with
  | 0 | 1 | 2 =>
    rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  | 3 =>
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (by decide)]
    refine congrArg (fun i => min (n i).toInt.toNat 24) (funext fun b => Fin.ext ?_)
    match b with
    | 0 => rfl
    | 1 => rfl
    | 2 => rfl
    | 3 => rfl
    | 4 => rfl

/-- The reference's array at (batch, channel, frame, joint): the argument at the joint the table names. -/
theorem out_apply (x : FVec F S32x256x300x25 .f32) (s : IVec S256x25 32) (hs : ∀ j, (s j).toNat < 25)
    (k : S32x256x300x25.Idx) : out x s k = x (ix4 (k 0) (k 1) (k 2) ⟨(s (ix2 (k 1) (k 3))).toNat, hs _⟩) := by
  unfold out select
  rw [Host.reduce_andi_one _ _ _ _ _ rfl (mask_apply s hs)]
  refine (if_pos rfl).trans ?_
  refine (gather_apply x (idx s) k).trans ?_
  refine congrArg x (congrArg (ix4 (n3 := 25) (k 0) (k 1) (k 2)) (Fin.ext ?_))
  show min (idx s (ix5 (k 0) (k 1) (k 2) (k 3) (0 : Fin 1))).toInt.toNat 24 = (s (ix2 (k 1) (k 3))).toNat
  rw [idx_apply s hs]
  exact toInt_toNat_of_lt _ (hs _)

end Ref

/-! ## The kernel's array -/

open Cert.KernelIdeal Cert.KernelIdeal.Gen

variable (m : (ℓ : Loc nD τ sig) → Buf (Elt F) ℓ) (d : Dev nD)

/-- The array the tiles read: the argument with frame and joint in front, the two in one row number. -/
theorem xv_apply (b : Fin 32) (c : Fin 256) (t : Fin 300) (v : Fin 25) (r : Fin 7500) (hr : r.val = 25 * t.val + v.val) :
    Xv m d (ix3 r b c) = (m (a0Loc d) : S32x256x300x25.Idx → Elt F .f32) (ix4 b c t v) := by
  refine (shapeCast_apply _ shapeCasts_S300x25x32x256_S7500x32x256 _ (ix4 t v b c) ?_).trans
    (transpose_apply _ _ _ (ix4 t v b c) (ix4 b c t v) fun a => ?_)
  · rw [Shape.rowMajor_val_three, Shape.rowMajor_val_four]
    show ((t.val * 25 + v.val) * 32 + b.val) * 256 + c.val = (r.val * 32 + b.val) * 256 + c.val
    omega
  · match a with
    | 0 => rfl
    | 1 => rfl
    | 2 => rfl
    | 3 => rfl

/-- The table the tiles read: the argument's rows one after the other. -/
theorem sv_apply (c : Fin 256) (v : Fin 25) (r : Fin 6400) (hr : r.val = 25 * c.val + v.val) :
    Sv m d (ix1 r) = (m (a1Loc d) : S256x25.Idx → BitVec 32) (ix2 c v) := by
  refine shapeCast_apply _ shapeCasts_S256x25_S6400 _ (ix2 c v) ?_
  rw [Shape.rowMajor_val_two, Shape.rowMajor_val_one]
  show c.val * 25 + v.val = r.val
  omega

/-- The array the tiles leave, at a frame and joint's row. -/
theorem yv_apply (hpre : PreOK m) (b : Fin 32) (c : Fin 256) (t : Fin 300) (v : Fin 25) (r : Fin 7500)
    (hr : r.val = 25 * t.val + v.val) :
    Yv m d (ix3 r b c) = (m (a0Loc d) : S32x256x300x25.Idx → Elt F .f32)
      (ix4 b c t ⟨((m (a1Loc d) : S256x25.Idx → BitVec 32) (ix2 c v)).toNat, hpre d _⟩) := by
  have hs := hpre d (ix2 c v)
  refine xv_apply m d b c t _ _ ?_
  show 25 * (r.val / 25) + (Sv m d (ix1 ⟨25 * c.val + r.val % 25, _⟩)).toNat % 25
    = 25 * t.val + ((m (a1Loc d) : S256x25.Idx → BitVec 32) (ix2 c v)).toNat
  rw [sv_apply m d c v _ (by show 25 * c.val + r.val % 25 = _; omega)]
  omega

/-- The kernel's array at (batch, channel, frame, joint): the argument at the joint the table names. -/
theorem rv_apply (hpre : PreOK m) (k : S32x256x300x25.Idx) :
    Rv m d k = (m (a0Loc d) : S32x256x300x25.Idx → Elt F .f32)
      (ix4 (k 0) (k 1) (k 2) ⟨((m (a1Loc d) : S256x25.Idx → BitVec 32) (ix2 (k 1) (k 3))).toNat, hpre d _⟩) := by
  have h2 : (k 2).val < 300 := (k 2).isLt
  have h3 : (k 3).val < 25 := (k 3).isLt
  refine (transpose_apply _ _ transposes_S300x25x32x256_S32x256x300x25_2_3_0_1 k (ix4 (k 2) (k 3) (k 0) (k 1))
      fun a => ?_).trans ((shapeCast_apply _ shapeCasts_S7500x32x256_S300x25x32x256 _
        (ix3 ⟨25 * (k 2).val + (k 3).val, by omega⟩ (k 0) (k 1)) ?_).trans
          (yv_apply m d hpre (k 0) (k 1) (k 2) (k 3) _ rfl))
  · match a with
    | 0 => rfl
    | 1 => rfl
    | 2 => rfl
    | 3 => rfl
  · rw [Shape.rowMajor_val_three, Shape.rowMajor_val_four]
    show ((25 * (k 2).val + (k 3).val) * 32 + (k 0).val) * 256 + (k 1).val
      = (((k 2).val * 25 + (k 3).val) * 32 + (k 0).val) * 256 + (k 1).val
    omega

/-- The reference's array of the same arguments is the kernel's. -/
theorem ref_out_eq (hpre : PreOK m) :
    Ref.out (F := F) (m (a0Loc d)) (m (a1Loc d)) = Rv m d :=
  funext fun k => (Ref.out_apply _ _ (hpre d) k).trans (rv_apply m d hpre k).symm

end Cert.Proof
-- ==== Proof.lean ====
/-
The claims of Defs.lean, from three results: the program's run (Proof/Run.lean), which holds of any float values and so of
both the bit-exact program and its ideal reading; the reference's run (Proof/Ref.lean); and the equality of the two
arrays they leave (Proof/Value.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_idx_in_range
public import Idealize.ShloMosaic.Adequacy
public import Idealize.ShloMosaic.Init
public import proofs.«01_k».proof.Proof.Value

@[expose] public section

noncomputable section

namespace Cert.Proof

open Idealize.ShloMosaic Idealize.SL.Sem

/-- The program at the bit-exact values: its run read at the arguments and at the counters. -/
theorem frame_kernel : Cert.quiescent_Kernel := fun m ρ h =>
  (θ_run Cert.KernelIdeal.defs _ _).mono (fun _ h => ⟨fun c => (h.1 c).2, h.2⟩)
    (run_main (F := Bits) m ρ fun d j => lt_of_pre _ _ (h d) j)

/-- The program at the ideal values: the same. -/
theorem frame_kernelIdeal : Cert.quiescent_KernelIdeal := fun m ρ h =>
  (θ_run Cert.KernelIdeal.defs _ _).mono (fun _ h => ⟨fun c => (h.1 c).2, h.2⟩)
    (run_main (F := Ideal) m ρ fun d j => lt_of_pre _ _ (h d) j)

/-- The reference from any memory. -/
theorem frame_reference : Cert.quiescent_ReferenceIdeal := fun m ρ _ =>
  (θ_run Cert.ReferenceIdeal.defs _ _).mono (fun _ h => ⟨fun c => (h.1 c).2, h.2⟩) (Ref.run_main (F := Ideal) m ρ)

/-- The program and the reference leave one array. -/
theorem algebraic : Cert.algebraic_KernelIdeal_ReferenceIdeal := by
  intro m ρ m' ρ' hpre hagree
  have hok : PreOK m := fun d j => lt_of_pre _ _ (hpre d) j
  refine ⟨fun c => Rv m c, (θ_run Cert.KernelIdeal.defs _ _).mono (fun _ h c => h.1 c) (run_main (F := Ideal) m ρ hok), ?_⟩
  refine (θ_run Cert.ReferenceIdeal.defs _ _).mono (fun _ h c => ⟨(h.1 c).1.trans ?_, (h.1 c).2⟩)
    (Ref.run_main (F := Ideal) m' ρ')
  rw [(hagree c).1, (hagree c).2]
  exact ref_out_eq m c hok

theorem claim : Cert.Claim :=
  ⟨Cert.Kernel.Gen.facts, Cert.KernelIdeal.Gen.facts, Cert.ReferenceIdeal.Gen.facts, Cert.Pre_idx_in_range.Gen.facts,
    frame_kernel, frame_kernelIdeal, frame_reference, fun m ρ _ => frame_reference m ρ trivial, trivial, algebraic⟩

end Cert.Proof
